-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x200 : Shape := ⟨2, ![16384, 200]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384x200 32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 200#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x200 : Shape := ⟨2, ![16384, 200]⟩
abbrev S16384 : Shape := ⟨1, ![16384]⟩
abbrev S_ : Shape := ⟨0, ![]⟩
abbrev S1 : Shape := ⟨1, ![1]⟩
abbrev S2 : Shape := ⟨1, ![2]⟩
abbrev S16384x1 : Shape := ⟨2, ![16384, 1]⟩
abbrev S16384x2 : Shape := ⟨2, ![16384, 2]⟩
abbrev S4 : Shape := ⟨1, ![4]⟩
abbrev S1x4 : Shape := ⟨2, ![1, 4]⟩
abbrev S16384x4 : Shape := ⟨2, ![16384, 4]⟩
abbrev S16384x4x1 : Shape := ⟨3, ![16384, 4, 1]⟩
abbrev S16384x4x2 : Shape := ⟨3, ![16384, 4, 2]⟩
abbrev S16384x1x2 : Shape := ⟨3, ![16384, 1, 2]⟩
abbrev S5 : Shape := ⟨1, ![5]⟩
abbrev S1x5 : Shape := ⟨2, ![1, 5]⟩
abbrev S16384x5 : Shape := ⟨2, ![16384, 5]⟩
abbrev S1x1 : Shape := ⟨2, ![1, 1]⟩
abbrev S16384x9 : Shape := ⟨2, ![16384, 9]⟩
abbrev S16384x16 : Shape := ⟨2, ![16384, 16]⟩
abbrev S16384x14 : Shape := ⟨2, ![16384, 14]⟩
abbrev S128x200 : Shape := ⟨2, ![128, 200]⟩
abbrev S128x16 : Shape := ⟨2, ![128, 16]⟩
abbrev S256 : Shape := ⟨1, ![256]⟩
abbrev S16 : Shape := ⟨1, ![16]⟩
abbrev S1x16 : Shape := ⟨2, ![1, 16]⟩

abbrev nBuf : Table → Nat
  | .hbm => 1516
  | .local .scVector .vmem => 8
  | _ => 0

abbrev hbmTy0_0 (i : Nat) : BufTy := match i % 128 with
  | 0 => ⟨S16384x200, .i32⟩
  | 1 => ⟨S16384, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S16384, .i32⟩
  | 13 => ⟨S16384, .i32⟩
  | 14 => ⟨S_, .i32⟩
  | 15 => ⟨S16384, .i32⟩
  | 16 => ⟨S16384, .i32⟩
  | 17 => ⟨S16384x1, .i32⟩
  | 18 => ⟨S_, .i32⟩
  | 19 => ⟨S16384, .i32⟩
  | 20 => ⟨S16384, .i32⟩
  | 21 => ⟨S16384x1, .i32⟩
  | 22 => ⟨S16384x2, .i32⟩
  | 23 => ⟨S1, .i32⟩
  | 24 => ⟨S_, .i32⟩
  | 25 => ⟨S1, .i32⟩
  | 26 => ⟨S_, .i32⟩
  | 27 => ⟨S16384x1, .i32⟩
  | 28 => ⟨S16384x1, .i32⟩
  | 29 => ⟨S_, .i32⟩
  | 30 => ⟨S_, .i32⟩
  | 31 => ⟨S_, .i32⟩
  | 32 => ⟨S16384x1, .i32⟩
  | 33 => ⟨S16384x1, .i32⟩
  | 34 => ⟨S16384x1, .i32⟩
  | 35 => ⟨S16384x1, .i32⟩
  | 36 => ⟨S16384x1, .i32⟩
  | 37 => ⟨S_, .i32⟩
  | 38 => ⟨S16384x1, .i32⟩
  | 39 => ⟨S16384x1, .i32⟩
  | 40 => ⟨S_, .i32⟩
  | 41 => ⟨S16384x1, .i32⟩
  | 42 => ⟨S16384x1, .i32⟩
  | 43 => ⟨S16384x1, .i32⟩
  | 44 => ⟨S16384x1, .i32⟩
  | 45 => ⟨S16384x1, .i32⟩
  | 46 => ⟨S_, .i32⟩
  | 47 => ⟨S16384x1, .i32⟩
  | 48 => ⟨S16384x1, .i32⟩
  | 49 => ⟨S_, .i32⟩
  | 50 => ⟨S16384x1, .i32⟩
  | 51 => ⟨S16384x1, .i32⟩
  | 52 => ⟨S16384x1, .i32⟩
  | 53 => ⟨S16384x1, .i32⟩
  | 54 => ⟨S16384x1, .i32⟩
  | 55 => ⟨S_, .i32⟩
  | 56 => ⟨S16384x1, .i32⟩
  | 57 => ⟨S16384x1, .i32⟩
  | 58 => ⟨S_, .i32⟩
  | 59 => ⟨S16384x1, .i32⟩
  | 60 => ⟨S16384x1, .i32⟩
  | 61 => ⟨S16384x1, .i32⟩
  | 62 => ⟨S16384x1, .i32⟩
  | 63 => ⟨S16384x1, .i32⟩
  | 64 => ⟨S_, .i32⟩
  | 65 => ⟨S16384x1, .i32⟩
  | 66 => ⟨S16384x1, .i32⟩
  | 67 => ⟨S_, .i32⟩
  | 68 => ⟨S16384x1, .i32⟩
  | 69 => ⟨S16384x1, .i32⟩
  | 70 => ⟨S16384x1, .i32⟩
  | 71 => ⟨S16384x1, .i32⟩
  | 72 => ⟨S16384x1, .i32⟩
  | 73 => ⟨S16384x1, .i32⟩
  | 74 => ⟨S16384x1, .i32⟩
  | 75 => ⟨S16384x1, .i32⟩
  | 76 => ⟨S_, .i32⟩
  | 77 => ⟨S16384x1, .i32⟩
  | 78 => ⟨S16384x1, .i32⟩
  | 79 => ⟨S16384x1, .i32⟩
  | 80 => ⟨S_, .i32⟩
  | 81 => ⟨S16384x1, .i32⟩
  | 82 => ⟨S16384x1, .i32⟩
  | 83 => ⟨S_, .i32⟩
  | 84 => ⟨S16384x1, .i32⟩
  | 85 => ⟨S16384x1, .i32⟩
  | 86 => ⟨S16384x1, .i32⟩
  | 87 => ⟨S16384x1, .i32⟩
  | 88 => ⟨S16384x1, .i32⟩
  | 89 => ⟨S_, .i32⟩
  | 90 => ⟨S16384x1, .i32⟩
  | 91 => ⟨S16384x1, .i32⟩
  | 92 => ⟨S_, .i32⟩
  | 93 => ⟨S16384x1, .i32⟩
  | 94 => ⟨S16384x1, .i32⟩
  | 95 => ⟨S16384x1, .i32⟩
  | 96 => ⟨S16384x1, .i32⟩
  | 97 => ⟨S16384x1, .i32⟩
  | 98 => ⟨S_, .i32⟩
  | 99 => ⟨S16384x1, .i32⟩
  | 100 => ⟨S16384x1, .i32⟩
  | 101 => ⟨S_, .i32⟩
  | 102 => ⟨S16384x1, .i32⟩
  | 103 => ⟨S16384x1, .i32⟩
  | 104 => ⟨S16384x1, .i32⟩
  | 105 => ⟨S16384x1, .i32⟩
  | 106 => ⟨S16384x1, .i32⟩
  | 107 => ⟨S_, .i32⟩
  | 108 => ⟨S16384x1, .i32⟩
  | 109 => ⟨S16384x1, .i32⟩
  | 110 => ⟨S_, .i32⟩
  | 111 => ⟨S16384x1, .i32⟩
  | 112 => ⟨S16384x1, .i32⟩
  | 113 => ⟨S16384x1, .i32⟩
  | 114 => ⟨S16384x1, .i32⟩
  | 115 => ⟨S16384x1, .i32⟩
  | 116 => ⟨S16384x1, .i32⟩
  | 117 => ⟨S16384x1, .i32⟩
  | 118 => ⟨S16384x1, .i32⟩
  | 119 => ⟨S_, .i32⟩
  | 120 => ⟨S16384x1, .i32⟩
  | 121 => ⟨S16384x1, .i32⟩
  | 122 => ⟨S16384x1, .i32⟩
  | 123 => ⟨S_, .i32⟩
  | 124 => ⟨S16384x1, .i32⟩
  | 125 => ⟨S16384x1, .i32⟩
  | 126 => ⟨S_, .i32⟩
  | 127 => ⟨S16384x1, .i32⟩
  | _ => ⟨S16384x200, .i32⟩

abbrev hbmTy0_1 (i : Nat) : BufTy := match i % 128 with
  | 0 => ⟨S16384x1, .i32⟩
  | 1 => ⟨S16384x1, .i32⟩
  | 2 => ⟨S16384x1, .i32⟩
  | 3 => ⟨S16384x1, .i32⟩
  | 4 => ⟨S_, .i32⟩
  | 5 => ⟨S16384x1, .i32⟩
  | 6 => ⟨S16384x1, .i32⟩
  | 7 => ⟨S_, .i32⟩
  | 8 => ⟨S16384x1, .i32⟩
  | 9 => ⟨S16384x1, .i32⟩
  | 10 => ⟨S16384x1, .i32⟩
  | 11 => ⟨S16384x1, .i32⟩
  | 12 => ⟨S16384x1, .i32⟩
  | 13 => ⟨S_, .i32⟩
  | 14 => ⟨S16384x1, .i32⟩
  | 15 => ⟨S16384x1, .i32⟩
  | 16 => ⟨S_, .i32⟩
  | 17 => ⟨S16384x1, .i32⟩
  | 18 => ⟨S16384x1, .i32⟩
  | 19 => ⟨S16384x1, .i32⟩
  | 20 => ⟨S16384x1, .i32⟩
  | 21 => ⟨S16384x1, .i32⟩
  | 22 => ⟨S_, .i32⟩
  | 23 => ⟨S16384x1, .i32⟩
  | 24 => ⟨S16384x1, .i32⟩
  | 25 => ⟨S_, .i32⟩
  | 26 => ⟨S16384x1, .i32⟩
  | 27 => ⟨S16384x1, .i32⟩
  | 28 => ⟨S16384x1, .i32⟩
  | 29 => ⟨S16384x1, .i32⟩
  | 30 => ⟨S16384x1, .i32⟩
  | 31 => ⟨S16384x1, .i32⟩
  | 32 => ⟨S16384x1, .i32⟩
  | 33 => ⟨S16384x1, .i32⟩
  | 34 => ⟨S_, .i32⟩
  | 35 => ⟨S16384x1, .i32⟩
  | 36 => ⟨S16384x1, .i32⟩
  | 37 => ⟨S16384x1, .i32⟩
  | 38 => ⟨S_, .i32⟩
  | 39 => ⟨S16384x1, .i32⟩
  | 40 => ⟨S16384x1, .i32⟩
  | 41 => ⟨S_, .i32⟩
  | 42 => ⟨S16384x1, .i32⟩
  | 43 => ⟨S16384x1, .i32⟩
  | 44 => ⟨S16384x1, .i32⟩
  | 45 => ⟨S16384x1, .i32⟩
  | 46 => ⟨S16384x1, .i32⟩
  | 47 => ⟨S_, .i32⟩
  | 48 => ⟨S16384x1, .i32⟩
  | 49 => ⟨S16384x1, .i32⟩
  | 50 => ⟨S_, .i32⟩
  | 51 => ⟨S16384x1, .i32⟩
  | 52 => ⟨S16384x1, .i32⟩
  | 53 => ⟨S16384x1, .i32⟩
  | 54 => ⟨S16384x1, .i32⟩
  | 55 => ⟨S16384x1, .i32⟩
  | 56 => ⟨S_, .i32⟩
  | 57 => ⟨S16384x1, .i32⟩
  | 58 => ⟨S16384x1, .i32⟩
  | 59 => ⟨S_, .i32⟩
  | 60 => ⟨S16384x1, .i32⟩
  | 61 => ⟨S16384x1, .i32⟩
  | 62 => ⟨S16384x1, .i32⟩
  | 63 => ⟨S16384x1, .i32⟩
  | 64 => ⟨S16384x1, .i32⟩
  | 65 => ⟨S_, .i32⟩
  | 66 => ⟨S16384x1, .i32⟩
  | 67 => ⟨S16384x1, .i32⟩
  | 68 => ⟨S_, .i32⟩
  | 69 => ⟨S16384x1, .i32⟩
  | 70 => ⟨S16384x1, .i32⟩
  | 71 => ⟨S16384x1, .i32⟩
  | 72 => ⟨S16384x1, .i32⟩
  | 73 => ⟨S16384x1, .i32⟩
  | 74 => ⟨S16384x1, .i32⟩
  | 75 => ⟨S16384x1, .i32⟩
  | 76 => ⟨S16384x1, .i32⟩
  | 77 => ⟨S_, .i32⟩
  | 78 => ⟨S16384x1, .i32⟩
  | 79 => ⟨S16384x1, .i32⟩
  | 80 => ⟨S16384x1, .i32⟩
  | 81 => ⟨S_, .i32⟩
  | 82 => ⟨S16384x1, .i32⟩
  | 83 => ⟨S16384x1, .i32⟩
  | 84 => ⟨S_, .i32⟩
  | 85 => ⟨S16384x1, .i32⟩
  | 86 => ⟨S16384x1, .i32⟩
  | 87 => ⟨S16384x1, .i32⟩
  | 88 => ⟨S16384x1, .i32⟩
  | 89 => ⟨S16384x1, .i32⟩
  | 90 => ⟨S_, .i32⟩
  | 91 => ⟨S16384x1, .i32⟩
  | 92 => ⟨S16384x1, .i32⟩
  | 93 => ⟨S_, .i32⟩
  | 94 => ⟨S16384x1, .i32⟩
  | 95 => ⟨S16384x1, .i32⟩
  | 96 => ⟨S16384x1, .i32⟩
  | 97 => ⟨S16384x1, .i32⟩
  | 98 => ⟨S16384x1, .i32⟩
  | 99 => ⟨S_, .i32⟩
  | 100 => ⟨S16384x1, .i32⟩
  | 101 => ⟨S16384x1, .i32⟩
  | 102 => ⟨S_, .i32⟩
  | 103 => ⟨S16384x1, .i32⟩
  | 104 => ⟨S16384x1, .i32⟩
  | 105 => ⟨S16384x1, .i32⟩
  | 106 => ⟨S16384x1, .i32⟩
  | 107 => ⟨S16384x1, .i32⟩
  | 108 => ⟨S_, .i32⟩
  | 109 => ⟨S16384x1, .i32⟩
  | 110 => ⟨S16384x1, .i32⟩
  | 111 => ⟨S_, .i32⟩
  | 112 => ⟨S16384x1, .i32⟩
  | 113 => ⟨S16384x1, .i32⟩
  | 114 => ⟨S16384x1, .i32⟩
  | 115 => ⟨S16384x1, .i32⟩
  | 116 => ⟨S16384x1, .i32⟩
  | 117 => ⟨S16384x1, .i32⟩
  | 118 => ⟨S16384x1, .i32⟩
  | 119 => ⟨S16384x1, .i32⟩
  | 120 => ⟨S_, .i32⟩
  | 121 => ⟨S16384x1, .i32⟩
  | 122 => ⟨S16384x1, .i32⟩
  | 123 => ⟨S16384x2, .i32⟩
  | 124 => ⟨S16384x1, .i32⟩
  | 125 => ⟨S16384, .i32⟩
  | 126 => ⟨S16384x1, .i32⟩
  | 127 => ⟨S16384, .i32⟩
  | _ => ⟨S16384x200, .i32⟩

abbrev hbmTy0_2 (i : Nat) : BufTy := match i % 128 with
  | 0 => ⟨S4, .i64⟩
  | 1 => ⟨S_, .i64⟩
  | 2 => ⟨S4, .i64⟩
  | 3 => ⟨S4, .i64⟩
  | 4 => ⟨S_, .i64⟩
  | 5 => ⟨S4, .i64⟩
  | 6 => ⟨S4, .i64⟩
  | 7 => ⟨S4, .i32⟩
  | 8 => ⟨S4, .i32⟩
  | 9 => ⟨S1x4, .i32⟩
  | 10 => ⟨S1x4, .i32⟩
  | 11 => ⟨S16384x1, .i32⟩
  | 12 => ⟨S16384x1, .i32⟩
  | 13 => ⟨S16384x1, .i32⟩
  | 14 => ⟨S_, .i32⟩
  | 15 => ⟨S16384x1, .i32⟩
  | 16 => ⟨S16384x1, .i32⟩
  | 17 => ⟨S16384x4, .i32⟩
  | 18 => ⟨S16384x4, .i32⟩
  | 19 => ⟨S16384x4, .i32⟩
  | 20 => ⟨S16384x4, .i32⟩
  | 21 => ⟨S16384x4, .i32⟩
  | 22 => ⟨S16384x4, .i32⟩
  | 23 => ⟨S16384x4, .i32⟩
  | 24 => ⟨S_, .i32⟩
  | 25 => ⟨S16384x4, .i32⟩
  | 26 => ⟨S16384x4, .i32⟩
  | 27 => ⟨S_, .i32⟩
  | 28 => ⟨S16384x4, .i32⟩
  | 29 => ⟨S16384x4, .i32⟩
  | 30 => ⟨S16384x4, .i32⟩
  | 31 => ⟨S16384x4, .i32⟩
  | 32 => ⟨S16384x4, .i32⟩
  | 33 => ⟨S_, .i32⟩
  | 34 => ⟨S16384x4, .i32⟩
  | 35 => ⟨S16384x4, .i32⟩
  | 36 => ⟨S_, .i32⟩
  | 37 => ⟨S16384x4, .i32⟩
  | 38 => ⟨S16384x4, .i32⟩
  | 39 => ⟨S16384x4, .i32⟩
  | 40 => ⟨S16384x4, .i32⟩
  | 41 => ⟨S16384x4, .i32⟩
  | 42 => ⟨S_, .i32⟩
  | 43 => ⟨S16384x4, .i32⟩
  | 44 => ⟨S16384x4, .i32⟩
  | 45 => ⟨S_, .i32⟩
  | 46 => ⟨S16384x4, .i32⟩
  | 47 => ⟨S16384x4, .i32⟩
  | 48 => ⟨S16384x4, .i32⟩
  | 49 => ⟨S16384x4, .i32⟩
  | 50 => ⟨S16384x4, .i32⟩
  | 51 => ⟨S_, .i32⟩
  | 52 => ⟨S16384x4, .i32⟩
  | 53 => ⟨S16384x4, .i32⟩
  | 54 => ⟨S_, .i32⟩
  | 55 => ⟨S16384x4, .i32⟩
  | 56 => ⟨S16384x4, .i32⟩
  | 57 => ⟨S16384x4, .i32⟩
  | 58 => ⟨S16384x4, .i32⟩
  | 59 => ⟨S16384x4, .i32⟩
  | 60 => ⟨S16384x4, .i32⟩
  | 61 => ⟨S16384x4, .i32⟩
  | 62 => ⟨S16384x4, .i32⟩
  | 63 => ⟨S_, .i32⟩
  | 64 => ⟨S16384x4, .i32⟩
  | 65 => ⟨S16384x4, .i32⟩
  | 66 => ⟨S16384x4, .i32⟩
  | 67 => ⟨S_, .i32⟩
  | 68 => ⟨S16384x4, .i32⟩
  | 69 => ⟨S16384x4, .i32⟩
  | 70 => ⟨S_, .i32⟩
  | 71 => ⟨S16384x4, .i32⟩
  | 72 => ⟨S16384x4, .i32⟩
  | 73 => ⟨S16384x4, .i32⟩
  | 74 => ⟨S16384x4, .i32⟩
  | 75 => ⟨S16384x4, .i32⟩
  | 76 => ⟨S_, .i32⟩
  | 77 => ⟨S16384x4, .i32⟩
  | 78 => ⟨S16384x4, .i32⟩
  | 79 => ⟨S_, .i32⟩
  | 80 => ⟨S16384x4, .i32⟩
  | 81 => ⟨S16384x4, .i32⟩
  | 82 => ⟨S16384x4, .i32⟩
  | 83 => ⟨S16384x4, .i32⟩
  | 84 => ⟨S16384x4, .i32⟩
  | 85 => ⟨S_, .i32⟩
  | 86 => ⟨S16384x4, .i32⟩
  | 87 => ⟨S16384x4, .i32⟩
  | 88 => ⟨S_, .i32⟩
  | 89 => ⟨S16384x4, .i32⟩
  | 90 => ⟨S16384x4, .i32⟩
  | 91 => ⟨S16384x4, .i32⟩
  | 92 => ⟨S16384x4, .i32⟩
  | 93 => ⟨S16384x4, .i32⟩
  | 94 => ⟨S_, .i32⟩
  | 95 => ⟨S16384x4, .i32⟩
  | 96 => ⟨S16384x4, .i32⟩
  | 97 => ⟨S_, .i32⟩
  | 98 => ⟨S16384x4, .i32⟩
  | 99 => ⟨S16384x4, .i32⟩
  | 100 => ⟨S16384x4, .i32⟩
  | 101 => ⟨S16384x4, .i32⟩
  | 102 => ⟨S16384x4, .i32⟩
  | 103 => ⟨S16384x4, .i32⟩
  | 104 => ⟨S16384x4, .i32⟩
  | 105 => ⟨S16384x4, .i32⟩
  | 106 => ⟨S_, .i32⟩
  | 107 => ⟨S16384x4, .i32⟩
  | 108 => ⟨S16384x4, .i32⟩
  | 109 => ⟨S16384x4, .i32⟩
  | 110 => ⟨S_, .i32⟩
  | 111 => ⟨S16384x4, .i32⟩
  | 112 => ⟨S16384x4, .i32⟩
  | 113 => ⟨S_, .i32⟩
  | 114 => ⟨S16384x4, .i32⟩
  | 115 => ⟨S16384x4, .i32⟩
  | 116 => ⟨S16384x4, .i32⟩
  | 117 => ⟨S16384x4, .i32⟩
  | 118 => ⟨S16384x4, .i32⟩
  | 119 => ⟨S_, .i32⟩
  | 120 => ⟨S16384x4, .i32⟩
  | 121 => ⟨S16384x4, .i32⟩
  | 122 => ⟨S_, .i32⟩
  | 123 => ⟨S16384x4, .i32⟩
  | 124 => ⟨S16384x4, .i32⟩
  | 125 => ⟨S16384x4, .i32⟩
  | 126 => ⟨S16384x4, .i32⟩
  | 127 => ⟨S16384x4, .i32⟩
  | _ => ⟨S16384x200, .i32⟩

abbrev hbmTy0_3 (i : Nat) : BufTy := match i % 128 with
  | 0 => ⟨S_, .i32⟩
  | 1 => ⟨S16384x4, .i32⟩
  | 2 => ⟨S16384x4, .i32⟩
  | 3 => ⟨S_, .i32⟩
  | 4 => ⟨S16384x4, .i32⟩
  | 5 => ⟨S16384x4, .i32⟩
  | 6 => ⟨S16384x4, .i32⟩
  | 7 => ⟨S16384x4, .i32⟩
  | 8 => ⟨S16384x4, .i32⟩
  | 9 => ⟨S_, .i32⟩
  | 10 => ⟨S16384x4, .i32⟩
  | 11 => ⟨S16384x4, .i32⟩
  | 12 => ⟨S_, .i32⟩
  | 13 => ⟨S16384x4, .i32⟩
  | 14 => ⟨S16384x4, .i32⟩
  | 15 => ⟨S16384x4, .i32⟩
  | 16 => ⟨S16384x4, .i32⟩
  | 17 => ⟨S16384x4, .i32⟩
  | 18 => ⟨S16384x4, .i32⟩
  | 19 => ⟨S16384x4, .i32⟩
  | 20 => ⟨S16384x4, .i32⟩
  | 21 => ⟨S_, .i32⟩
  | 22 => ⟨S16384x4, .i32⟩
  | 23 => ⟨S16384x4, .i32⟩
  | 24 => ⟨S16384x4, .i32⟩
  | 25 => ⟨S_, .i32⟩
  | 26 => ⟨S16384x4, .i32⟩
  | 27 => ⟨S16384x4, .i32⟩
  | 28 => ⟨S_, .i32⟩
  | 29 => ⟨S16384x4, .i32⟩
  | 30 => ⟨S16384x4, .i32⟩
  | 31 => ⟨S16384x4, .i32⟩
  | 32 => ⟨S16384x4, .i32⟩
  | 33 => ⟨S16384x4, .i32⟩
  | 34 => ⟨S_, .i32⟩
  | 35 => ⟨S16384x4, .i32⟩
  | 36 => ⟨S16384x4, .i32⟩
  | 37 => ⟨S_, .i32⟩
  | 38 => ⟨S16384x4, .i32⟩
  | 39 => ⟨S16384x4, .i32⟩
  | 40 => ⟨S16384x4, .i32⟩
  | 41 => ⟨S16384x4, .i32⟩
  | 42 => ⟨S16384x4, .i32⟩
  | 43 => ⟨S_, .i32⟩
  | 44 => ⟨S16384x4, .i32⟩
  | 45 => ⟨S16384x4, .i32⟩
  | 46 => ⟨S_, .i32⟩
  | 47 => ⟨S16384x4, .i32⟩
  | 48 => ⟨S16384x4, .i32⟩
  | 49 => ⟨S16384x4, .i32⟩
  | 50 => ⟨S16384x4, .i32⟩
  | 51 => ⟨S16384x4, .i32⟩
  | 52 => ⟨S_, .i32⟩
  | 53 => ⟨S16384x4, .i32⟩
  | 54 => ⟨S16384x4, .i32⟩
  | 55 => ⟨S_, .i32⟩
  | 56 => ⟨S16384x4, .i32⟩
  | 57 => ⟨S16384x4, .i32⟩
  | 58 => ⟨S16384x4, .i32⟩
  | 59 => ⟨S16384x4, .i32⟩
  | 60 => ⟨S16384x4, .i32⟩
  | 61 => ⟨S16384x4, .i32⟩
  | 62 => ⟨S16384x4, .i32⟩
  | 63 => ⟨S16384x4, .i32⟩
  | 64 => ⟨S_, .i32⟩
  | 65 => ⟨S16384x4, .i32⟩
  | 66 => ⟨S16384x4, .i32⟩
  | 67 => ⟨S16384x4, .i32⟩
  | 68 => ⟨S_, .i32⟩
  | 69 => ⟨S16384x4, .i32⟩
  | 70 => ⟨S16384x4, .i32⟩
  | 71 => ⟨S_, .i32⟩
  | 72 => ⟨S16384x4, .i32⟩
  | 73 => ⟨S16384x4, .i32⟩
  | 74 => ⟨S16384x4, .i32⟩
  | 75 => ⟨S16384x4, .i32⟩
  | 76 => ⟨S16384x4, .i32⟩
  | 77 => ⟨S_, .i32⟩
  | 78 => ⟨S16384x4, .i32⟩
  | 79 => ⟨S16384x4, .i32⟩
  | 80 => ⟨S_, .i32⟩
  | 81 => ⟨S16384x4, .i32⟩
  | 82 => ⟨S16384x4, .i32⟩
  | 83 => ⟨S16384x4, .i32⟩
  | 84 => ⟨S16384x4, .i32⟩
  | 85 => ⟨S16384x4, .i32⟩
  | 86 => ⟨S_, .i32⟩
  | 87 => ⟨S16384x4, .i32⟩
  | 88 => ⟨S16384x4, .i32⟩
  | 89 => ⟨S_, .i32⟩
  | 90 => ⟨S16384x4, .i32⟩
  | 91 => ⟨S16384x4, .i32⟩
  | 92 => ⟨S16384x4, .i32⟩
  | 93 => ⟨S16384x4, .i32⟩
  | 94 => ⟨S16384x4, .i32⟩
  | 95 => ⟨S_, .i32⟩
  | 96 => ⟨S16384x4, .i32⟩
  | 97 => ⟨S16384x4, .i32⟩
  | 98 => ⟨S_, .i32⟩
  | 99 => ⟨S16384x4, .i32⟩
  | 100 => ⟨S16384x4, .i32⟩
  | 101 => ⟨S16384x4, .i32⟩
  | 102 => ⟨S16384x4, .i32⟩
  | 103 => ⟨S16384x4, .i32⟩
  | 104 => ⟨S16384x4, .i32⟩
  | 105 => ⟨S16384x4, .i32⟩
  | 106 => ⟨S16384x4, .i32⟩
  | 107 => ⟨S_, .i32⟩
  | 108 => ⟨S16384x4, .i32⟩
  | 109 => ⟨S16384x4, .i32⟩
  | 110 => ⟨S16384x4x1, .i32⟩
  | 111 => ⟨S16384x4x1, .i32⟩
  | 112 => ⟨S16384x4x2, .i32⟩
  | 113 => ⟨S16384x1x2, .i32⟩
  | 114 => ⟨S16384x2, .i32⟩
  | 115 => ⟨S16384x1x2, .i32⟩
  | 116 => ⟨S16384x2, .i32⟩
  | 117 => ⟨S16384x1x2, .i32⟩
  | 118 => ⟨S16384x2, .i32⟩
  | 119 => ⟨S16384x1x2, .i32⟩
  | 120 => ⟨S16384x2, .i32⟩
  | 121 => ⟨S_, .f32⟩
  | 122 => ⟨S_, .f32⟩
  | 123 => ⟨S_, .f32⟩
  | 124 => ⟨S_, .f32⟩
  | 125 => ⟨S16384x1, .i32⟩
  | 126 => ⟨S16384, .i32⟩
  | 127 => ⟨S16384x1, .i32⟩
  | _ => ⟨S16384x200, .i32⟩

abbrev hbmTy0_4 (i : Nat) : BufTy := match i % 128 with
  | 0 => ⟨S16384, .i32⟩
  | 1 => ⟨S_, .i32⟩
  | 2 => ⟨S_, .i32⟩
  | 3 => ⟨S16384, .i32⟩
  | 4 => ⟨S_, .i32⟩
  | 5 => ⟨S16384, .i32⟩
  | 6 => ⟨S16384, .i32⟩
  | 7 => ⟨S16384, .i32⟩
  | 8 => ⟨S16384, .i32⟩
  | 9 => ⟨S16384, .i32⟩
  | 10 => ⟨S16384, .i32⟩
  | 11 => ⟨S16384, .i32⟩
  | 12 => ⟨S_, .i32⟩
  | 13 => ⟨S16384, .i32⟩
  | 14 => ⟨S16384, .i32⟩
  | 15 => ⟨S_, .i32⟩
  | 16 => ⟨S16384, .i32⟩
  | 17 => ⟨S16384, .i32⟩
  | 18 => ⟨S16384, .i32⟩
  | 19 => ⟨S16384, .i32⟩
  | 20 => ⟨S16384, .i32⟩
  | 21 => ⟨S_, .i32⟩
  | 22 => ⟨S16384, .i32⟩
  | 23 => ⟨S16384, .i32⟩
  | 24 => ⟨S_, .i32⟩
  | 25 => ⟨S16384, .i32⟩
  | 26 => ⟨S16384, .i32⟩
  | 27 => ⟨S16384, .i32⟩
  | 28 => ⟨S16384, .i32⟩
  | 29 => ⟨S16384, .i32⟩
  | 30 => ⟨S_, .i32⟩
  | 31 => ⟨S16384, .i32⟩
  | 32 => ⟨S16384, .i32⟩
  | 33 => ⟨S_, .i32⟩
  | 34 => ⟨S16384, .i32⟩
  | 35 => ⟨S16384, .i32⟩
  | 36 => ⟨S16384, .i32⟩
  | 37 => ⟨S16384, .i32⟩
  | 38 => ⟨S16384, .i32⟩
  | 39 => ⟨S_, .i32⟩
  | 40 => ⟨S16384, .i32⟩
  | 41 => ⟨S16384, .i32⟩
  | 42 => ⟨S_, .i32⟩
  | 43 => ⟨S16384, .i32⟩
  | 44 => ⟨S16384, .i32⟩
  | 45 => ⟨S16384, .i32⟩
  | 46 => ⟨S16384, .i32⟩
  | 47 => ⟨S16384, .i32⟩
  | 48 => ⟨S16384, .i32⟩
  | 49 => ⟨S_, .i32⟩
  | 50 => ⟨S16384, .i32⟩
  | 51 => ⟨S16384, .i32⟩
  | 52 => ⟨S16384, .i32⟩
  | 53 => ⟨S_, .i32⟩
  | 54 => ⟨S16384, .i32⟩
  | 55 => ⟨S16384, .i32⟩
  | 56 => ⟨S_, .i32⟩
  | 57 => ⟨S16384, .i32⟩
  | 58 => ⟨S16384, .i32⟩
  | 59 => ⟨S16384, .i32⟩
  | 60 => ⟨S16384, .i32⟩
  | 61 => ⟨S16384, .i32⟩
  | 62 => ⟨S_, .i32⟩
  | 63 => ⟨S16384, .i32⟩
  | 64 => ⟨S16384, .i32⟩
  | 65 => ⟨S_, .i32⟩
  | 66 => ⟨S16384, .i32⟩
  | 67 => ⟨S16384, .i32⟩
  | 68 => ⟨S16384, .i32⟩
  | 69 => ⟨S16384, .i32⟩
  | 70 => ⟨S16384, .i32⟩
  | 71 => ⟨S_, .i32⟩
  | 72 => ⟨S16384, .i32⟩
  | 73 => ⟨S16384, .i32⟩
  | 74 => ⟨S_, .i32⟩
  | 75 => ⟨S16384, .i32⟩
  | 76 => ⟨S16384, .i32⟩
  | 77 => ⟨S16384, .i32⟩
  | 78 => ⟨S16384, .i32⟩
  | 79 => ⟨S16384, .i32⟩
  | 80 => ⟨S_, .i32⟩
  | 81 => ⟨S16384, .i32⟩
  | 82 => ⟨S16384, .i32⟩
  | 83 => ⟨S_, .i32⟩
  | 84 => ⟨S16384, .i32⟩
  | 85 => ⟨S16384, .i32⟩
  | 86 => ⟨S16384, .i32⟩
  | 87 => ⟨S16384, .i32⟩
  | 88 => ⟨S16384, .i32⟩
  | 89 => ⟨S16384, .i32⟩
  | 90 => ⟨S_, .i32⟩
  | 91 => ⟨S16384, .i32⟩
  | 92 => ⟨S16384, .i32⟩
  | 93 => ⟨S16384, .i32⟩
  | 94 => ⟨S_, .i32⟩
  | 95 => ⟨S16384, .i32⟩
  | 96 => ⟨S16384, .i32⟩
  | 97 => ⟨S_, .i32⟩
  | 98 => ⟨S16384, .i32⟩
  | 99 => ⟨S16384, .i32⟩
  | 100 => ⟨S16384, .i32⟩
  | 101 => ⟨S16384, .i32⟩
  | 102 => ⟨S16384, .i32⟩
  | 103 => ⟨S_, .i32⟩
  | 104 => ⟨S16384, .i32⟩
  | 105 => ⟨S16384, .i32⟩
  | 106 => ⟨S_, .i32⟩
  | 107 => ⟨S16384, .i32⟩
  | 108 => ⟨S16384, .i32⟩
  | 109 => ⟨S16384, .i32⟩
  | 110 => ⟨S16384, .i32⟩
  | 111 => ⟨S16384, .i32⟩
  | 112 => ⟨S_, .i32⟩
  | 113 => ⟨S16384, .i32⟩
  | 114 => ⟨S16384, .i32⟩
  | 115 => ⟨S_, .i32⟩
  | 116 => ⟨S16384, .i32⟩
  | 117 => ⟨S16384, .i32⟩
  | 118 => ⟨S16384, .i32⟩
  | 119 => ⟨S16384, .i32⟩
  | 120 => ⟨S16384, .i32⟩
  | 121 => ⟨S_, .i32⟩
  | 122 => ⟨S16384, .i32⟩
  | 123 => ⟨S16384, .i32⟩
  | 124 => ⟨S_, .i32⟩
  | 125 => ⟨S16384, .i32⟩
  | 126 => ⟨S16384, .i32⟩
  | 127 => ⟨S16384, .i32⟩
  | _ => ⟨S16384x200, .i32⟩

abbrev hbmTy0_5 (i : Nat) : BufTy := match i % 128 with
  | 0 => ⟨S16384, .i32⟩
  | 1 => ⟨S16384, .i32⟩
  | 2 => ⟨S16384, .i32⟩
  | 3 => ⟨S_, .i32⟩
  | 4 => ⟨S16384, .i32⟩
  | 5 => ⟨S16384, .i32⟩
  | 6 => ⟨S16384, .i32⟩
  | 7 => ⟨S_, .i32⟩
  | 8 => ⟨S16384, .i32⟩
  | 9 => ⟨S16384, .i32⟩
  | 10 => ⟨S_, .i32⟩
  | 11 => ⟨S16384, .i32⟩
  | 12 => ⟨S16384, .i32⟩
  | 13 => ⟨S16384, .i32⟩
  | 14 => ⟨S16384, .i32⟩
  | 15 => ⟨S16384, .i32⟩
  | 16 => ⟨S_, .i32⟩
  | 17 => ⟨S16384, .i32⟩
  | 18 => ⟨S16384, .i32⟩
  | 19 => ⟨S_, .i32⟩
  | 20 => ⟨S16384, .i32⟩
  | 21 => ⟨S16384, .i32⟩
  | 22 => ⟨S16384, .i32⟩
  | 23 => ⟨S16384, .i32⟩
  | 24 => ⟨S16384, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i32⟩
  | 31 => ⟨S16384, .i32⟩
  | 32 => ⟨S16384, .i32⟩
  | 33 => ⟨S16384, .i32⟩
  | 34 => ⟨S_, .i32⟩
  | 35 => ⟨S16384, .i32⟩
  | 36 => ⟨S16384, .i32⟩
  | 37 => ⟨S_, .i32⟩
  | 38 => ⟨S16384, .i32⟩
  | 39 => ⟨S16384, .i32⟩
  | 40 => ⟨S16384, .i32⟩
  | 41 => ⟨S16384, .i32⟩
  | 42 => ⟨S16384, .i32⟩
  | 43 => ⟨S16384, .i32⟩
  | 44 => ⟨S_, .i32⟩
  | 45 => ⟨S16384, .i32⟩
  | 46 => ⟨S16384, .i32⟩
  | 47 => ⟨S16384, .i32⟩
  | 48 => ⟨S_, .i32⟩
  | 49 => ⟨S16384, .i32⟩
  | 50 => ⟨S16384, .i32⟩
  | 51 => ⟨S_, .i32⟩
  | 52 => ⟨S16384, .i32⟩
  | 53 => ⟨S16384, .i32⟩
  | 54 => ⟨S16384, .i32⟩
  | 55 => ⟨S16384, .i32⟩
  | 56 => ⟨S16384, .i32⟩
  | 57 => ⟨S_, .i32⟩
  | 58 => ⟨S16384, .i32⟩
  | 59 => ⟨S16384, .i32⟩
  | 60 => ⟨S_, .i32⟩
  | 61 => ⟨S16384, .i32⟩
  | 62 => ⟨S16384, .i32⟩
  | 63 => ⟨S16384, .i32⟩
  | 64 => ⟨S16384, .i32⟩
  | 65 => ⟨S16384, .i32⟩
  | 66 => ⟨S_, .i32⟩
  | 67 => ⟨S16384, .i32⟩
  | 68 => ⟨S16384, .i32⟩
  | 69 => ⟨S_, .i32⟩
  | 70 => ⟨S16384, .i32⟩
  | 71 => ⟨S16384, .i32⟩
  | 72 => ⟨S16384, .i32⟩
  | 73 => ⟨S16384, .i32⟩
  | 74 => ⟨S16384, .i32⟩
  | 75 => ⟨S_, .i32⟩
  | 76 => ⟨S16384, .i32⟩
  | 77 => ⟨S16384, .i32⟩
  | 78 => ⟨S_, .i32⟩
  | 79 => ⟨S16384, .i32⟩
  | 80 => ⟨S16384, .i32⟩
  | 81 => ⟨S16384, .i32⟩
  | 82 => ⟨S16384, .i32⟩
  | 83 => ⟨S16384, .i32⟩
  | 84 => ⟨S16384, .i32⟩
  | 85 => ⟨S_, .i32⟩
  | 86 => ⟨S16384, .i32⟩
  | 87 => ⟨S16384, .i32⟩
  | 88 => ⟨S16384, .i32⟩
  | 89 => ⟨S_, .i32⟩
  | 90 => ⟨S16384, .i32⟩
  | 91 => ⟨S16384, .i32⟩
  | 92 => ⟨S_, .i32⟩
  | 93 => ⟨S16384, .i32⟩
  | 94 => ⟨S16384, .i32⟩
  | 95 => ⟨S16384, .f32⟩
  | 96 => ⟨S_, .f32⟩
  | 97 => ⟨S16384, .f32⟩
  | 98 => ⟨S16384, .f32⟩
  | 99 => ⟨S_, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S_, .f32⟩
  | 107 => ⟨S_, .f32⟩
  | 108 => ⟨S_, .f32⟩
  | 109 => ⟨S_, .f32⟩
  | 110 => ⟨S16384x1, .i32⟩
  | 111 => ⟨S16384, .i32⟩
  | 112 => ⟨S16384x1, .i32⟩
  | 113 => ⟨S16384, .i32⟩
  | 114 => ⟨S_, .i32⟩
  | 115 => ⟨S_, .i32⟩
  | 116 => ⟨S16384, .i32⟩
  | 117 => ⟨S_, .i32⟩
  | 118 => ⟨S16384, .i32⟩
  | 119 => ⟨S16384, .i32⟩
  | 120 => ⟨S16384, .i32⟩
  | 121 => ⟨S16384, .i32⟩
  | 122 => ⟨S16384, .i32⟩
  | 123 => ⟨S16384, .i32⟩
  | 124 => ⟨S16384, .i32⟩
  | 125 => ⟨S_, .i32⟩
  | 126 => ⟨S16384, .i32⟩
  | 127 => ⟨S16384, .i32⟩
  | _ => ⟨S16384x200, .i32⟩

abbrev hbmTy0_6 (i : Nat) : BufTy := match i % 128 with
  | 0 => ⟨S_, .i32⟩
  | 1 => ⟨S16384, .i32⟩
  | 2 => ⟨S16384, .i32⟩
  | 3 => ⟨S16384, .i32⟩
  | 4 => ⟨S16384, .i32⟩
  | 5 => ⟨S16384, .i32⟩
  | 6 => ⟨S_, .i32⟩
  | 7 => ⟨S16384, .i32⟩
  | 8 => ⟨S16384, .i32⟩
  | 9 => ⟨S_, .i32⟩
  | 10 => ⟨S16384, .i32⟩
  | 11 => ⟨S16384, .i32⟩
  | 12 => ⟨S16384, .i32⟩
  | 13 => ⟨S16384, .i32⟩
  | 14 => ⟨S16384, .i32⟩
  | 15 => ⟨S_, .i32⟩
  | 16 => ⟨S16384, .i32⟩
  | 17 => ⟨S16384, .i32⟩
  | 18 => ⟨S_, .i32⟩
  | 19 => ⟨S16384, .i32⟩
  | 20 => ⟨S16384, .i32⟩
  | 21 => ⟨S16384, .i32⟩
  | 22 => ⟨S16384, .i32⟩
  | 23 => ⟨S16384, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S16384, .i32⟩
  | 31 => ⟨S16384, .i32⟩
  | 32 => ⟨S16384, .i32⟩
  | 33 => ⟨S16384, .i32⟩
  | 34 => ⟨S_, .i32⟩
  | 35 => ⟨S16384, .i32⟩
  | 36 => ⟨S16384, .i32⟩
  | 37 => ⟨S16384, .i32⟩
  | 38 => ⟨S_, .i32⟩
  | 39 => ⟨S16384, .i32⟩
  | 40 => ⟨S16384, .i32⟩
  | 41 => ⟨S_, .i32⟩
  | 42 => ⟨S16384, .i32⟩
  | 43 => ⟨S16384, .i32⟩
  | 44 => ⟨S16384, .i32⟩
  | 45 => ⟨S16384, .i32⟩
  | 46 => ⟨S16384, .i32⟩
  | 47 => ⟨S_, .i32⟩
  | 48 => ⟨S16384, .i32⟩
  | 49 => ⟨S16384, .i32⟩
  | 50 => ⟨S_, .i32⟩
  | 51 => ⟨S16384, .i32⟩
  | 52 => ⟨S16384, .i32⟩
  | 53 => ⟨S16384, .i32⟩
  | 54 => ⟨S16384, .i32⟩
  | 55 => ⟨S16384, .i32⟩
  | 56 => ⟨S_, .i32⟩
  | 57 => ⟨S16384, .i32⟩
  | 58 => ⟨S16384, .i32⟩
  | 59 => ⟨S_, .i32⟩
  | 60 => ⟨S16384, .i32⟩
  | 61 => ⟨S16384, .i32⟩
  | 62 => ⟨S16384, .i32⟩
  | 63 => ⟨S16384, .i32⟩
  | 64 => ⟨S16384, .i32⟩
  | 65 => ⟨S_, .i32⟩
  | 66 => ⟨S16384, .i32⟩
  | 67 => ⟨S16384, .i32⟩
  | 68 => ⟨S_, .i32⟩
  | 69 => ⟨S16384, .i32⟩
  | 70 => ⟨S16384, .i32⟩
  | 71 => ⟨S16384, .i32⟩
  | 72 => ⟨S16384, .i32⟩
  | 73 => ⟨S16384, .i32⟩
  | 74 => ⟨S16384, .i32⟩
  | 75 => ⟨S_, .i32⟩
  | 76 => ⟨S16384, .i32⟩
  | 77 => ⟨S16384, .i32⟩
  | 78 => ⟨S16384, .i32⟩
  | 79 => ⟨S_, .i32⟩
  | 80 => ⟨S16384, .i32⟩
  | 81 => ⟨S16384, .i32⟩
  | 82 => ⟨S_, .i32⟩
  | 83 => ⟨S16384, .i32⟩
  | 84 => ⟨S16384, .i32⟩
  | 85 => ⟨S16384, .i32⟩
  | 86 => ⟨S16384, .i32⟩
  | 87 => ⟨S16384, .i32⟩
  | 88 => ⟨S_, .i32⟩
  | 89 => ⟨S16384, .i32⟩
  | 90 => ⟨S16384, .i32⟩
  | 91 => ⟨S_, .i32⟩
  | 92 => ⟨S16384, .i32⟩
  | 93 => ⟨S16384, .i32⟩
  | 94 => ⟨S16384, .i32⟩
  | 95 => ⟨S16384, .i32⟩
  | 96 => ⟨S16384, .i32⟩
  | 97 => ⟨S_, .i32⟩
  | 98 => ⟨S16384, .i32⟩
  | 99 => ⟨S16384, .i32⟩
  | 100 => ⟨S_, .i32⟩
  | 101 => ⟨S16384, .i32⟩
  | 102 => ⟨S16384, .i32⟩
  | 103 => ⟨S16384, .i32⟩
  | 104 => ⟨S16384, .i32⟩
  | 105 => ⟨S16384, .i32⟩
  | 106 => ⟨S_, .i32⟩
  | 107 => ⟨S16384, .i32⟩
  | 108 => ⟨S16384, .i32⟩
  | 109 => ⟨S_, .i32⟩
  | 110 => ⟨S16384, .i32⟩
  | 111 => ⟨S16384, .i32⟩
  | 112 => ⟨S16384, .i32⟩
  | 113 => ⟨S16384, .i32⟩
  | 114 => ⟨S16384, .i32⟩
  | 115 => ⟨S16384, .i32⟩
  | 116 => ⟨S_, .i32⟩
  | 117 => ⟨S16384, .i32⟩
  | 118 => ⟨S16384, .i32⟩
  | 119 => ⟨S16384, .i32⟩
  | 120 => ⟨S_, .i32⟩
  | 121 => ⟨S16384, .i32⟩
  | 122 => ⟨S16384, .i32⟩
  | 123 => ⟨S_, .i32⟩
  | 124 => ⟨S16384, .i32⟩
  | 125 => ⟨S16384, .i32⟩
  | 126 => ⟨S16384, .i32⟩
  | 127 => ⟨S16384, .i32⟩
  | _ => ⟨S16384x200, .i32⟩

abbrev hbmTy0_7 (i : Nat) : BufTy := match i % 128 with
  | 0 => ⟨S16384, .i32⟩
  | 1 => ⟨S_, .i32⟩
  | 2 => ⟨S16384, .i32⟩
  | 3 => ⟨S16384, .i32⟩
  | 4 => ⟨S_, .i32⟩
  | 5 => ⟨S16384, .i32⟩
  | 6 => ⟨S16384, .i32⟩
  | 7 => ⟨S16384, .i32⟩
  | 8 => ⟨S16384, .i32⟩
  | 9 => ⟨S16384, .i32⟩
  | 10 => ⟨S_, .i32⟩
  | 11 => ⟨S16384, .i32⟩
  | 12 => ⟨S16384, .i32⟩
  | 13 => ⟨S_, .i32⟩
  | 14 => ⟨S16384, .i32⟩
  | 15 => ⟨S16384, .i32⟩
  | 16 => ⟨S16384, .i32⟩
  | 17 => ⟨S16384, .i32⟩
  | 18 => ⟨S16384, .i32⟩
  | 19 => ⟨S_, .i32⟩
  | 20 => ⟨S16384, .i32⟩
  | 21 => ⟨S16384, .i32⟩
  | 22 => ⟨S_, .i32⟩
  | 23 => ⟨S16384, .i32⟩
  | 24 => ⟨S16384, .i32⟩
  | 25 => ⟨S16384, .i32⟩
  | 26 => ⟨S16384, .i32⟩
  | 27 => ⟨S16384, .i32⟩
  | 28 => ⟨S16384, .i32⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i32⟩
  | 36 => ⟨S_, .i32⟩
  | 37 => ⟨S16384, .i32⟩
  | 38 => ⟨S16384, .i32⟩
  | 39 => ⟨S16384, .i32⟩
  | 40 => ⟨S16384, .i32⟩
  | 41 => ⟨S16384, .i32⟩
  | 42 => ⟨S_, .i32⟩
  | 43 => ⟨S16384, .i32⟩
  | 44 => ⟨S16384, .i32⟩
  | 45 => ⟨S_, .i32⟩
  | 46 => ⟨S16384, .i32⟩
  | 47 => ⟨S16384, .i32⟩
  | 48 => ⟨S16384, .i32⟩
  | 49 => ⟨S16384, .i32⟩
  | 50 => ⟨S16384, .i32⟩
  | 51 => ⟨S_, .i32⟩
  | 52 => ⟨S16384, .i32⟩
  | 53 => ⟨S16384, .i32⟩
  | 54 => ⟨S_, .i32⟩
  | 55 => ⟨S16384, .i32⟩
  | 56 => ⟨S16384, .i32⟩
  | 57 => ⟨S16384, .i32⟩
  | 58 => ⟨S16384, .i32⟩
  | 59 => ⟨S16384, .i32⟩
  | 60 => ⟨S_, .i32⟩
  | 61 => ⟨S16384, .i32⟩
  | 62 => ⟨S16384, .i32⟩
  | 63 => ⟨S_, .i32⟩
  | 64 => ⟨S16384, .i32⟩
  | 65 => ⟨S16384, .i32⟩
  | 66 => ⟨S16384, .i32⟩
  | 67 => ⟨S16384, .i32⟩
  | 68 => ⟨S16384, .i32⟩
  | 69 => ⟨S16384, .i32⟩
  | 70 => ⟨S_, .i32⟩
  | 71 => ⟨S16384, .i32⟩
  | 72 => ⟨S16384, .i32⟩
  | 73 => ⟨S16384, .i32⟩
  | 74 => ⟨S_, .i32⟩
  | 75 => ⟨S16384, .i32⟩
  | 76 => ⟨S16384, .i32⟩
  | 77 => ⟨S_, .i32⟩
  | 78 => ⟨S16384, .i32⟩
  | 79 => ⟨S16384, .i32⟩
  | 80 => ⟨S16384, .f32⟩
  | 81 => ⟨S_, .f32⟩
  | 82 => ⟨S16384, .f32⟩
  | 83 => ⟨S16384, .f32⟩
  | 84 => ⟨S_, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S_, .f32⟩
  | 92 => ⟨S_, .f32⟩
  | 93 => ⟨S_, .f32⟩
  | 94 => ⟨S_, .f32⟩
  | 95 => ⟨S16384x1, .i32⟩
  | 96 => ⟨S16384, .i32⟩
  | 97 => ⟨S16384x1, .i32⟩
  | 98 => ⟨S16384, .i32⟩
  | 99 => ⟨S_, .i32⟩
  | 100 => ⟨S_, .i32⟩
  | 101 => ⟨S16384, .i32⟩
  | 102 => ⟨S_, .i32⟩
  | 103 => ⟨S16384, .i32⟩
  | 104 => ⟨S16384, .i32⟩
  | 105 => ⟨S16384, .i32⟩
  | 106 => ⟨S16384, .i32⟩
  | 107 => ⟨S16384, .i32⟩
  | 108 => ⟨S16384, .i32⟩
  | 109 => ⟨S16384, .i32⟩
  | 110 => ⟨S_, .i32⟩
  | 111 => ⟨S16384, .i32⟩
  | 112 => ⟨S16384, .i32⟩
  | 113 => ⟨S_, .i32⟩
  | 114 => ⟨S16384, .i32⟩
  | 115 => ⟨S16384, .i32⟩
  | 116 => ⟨S16384, .i32⟩
  | 117 => ⟨S16384, .i32⟩
  | 118 => ⟨S16384, .i32⟩
  | 119 => ⟨S_, .i32⟩
  | 120 => ⟨S16384, .i32⟩
  | 121 => ⟨S16384, .i32⟩
  | 122 => ⟨S_, .i32⟩
  | 123 => ⟨S16384, .i32⟩
  | 124 => ⟨S16384, .i32⟩
  | 125 => ⟨S16384, .i32⟩
  | 126 => ⟨S16384, .i32⟩
  | 127 => ⟨S16384, .i32⟩
  | _ => ⟨S16384x200, .i32⟩

abbrev hbmTy0_8 (i : Nat) : BufTy := match i % 128 with
  | 0 => ⟨S_, .i32⟩
  | 1 => ⟨S16384, .i32⟩
  | 2 => ⟨S16384, .i32⟩
  | 3 => ⟨S_, .i32⟩
  | 4 => ⟨S16384, .i32⟩
  | 5 => ⟨S16384, .i32⟩
  | 6 => ⟨S16384, .i32⟩
  | 7 => ⟨S16384, .i32⟩
  | 8 => ⟨S16384, .i32⟩
  | 9 => ⟨S_, .i32⟩
  | 10 => ⟨S16384, .i32⟩
  | 11 => ⟨S16384, .i32⟩
  | 12 => ⟨S_, .i32⟩
  | 13 => ⟨S16384, .i32⟩
  | 14 => ⟨S16384, .i32⟩
  | 15 => ⟨S16384, .i32⟩
  | 16 => ⟨S16384, .i32⟩
  | 17 => ⟨S16384, .i32⟩
  | 18 => ⟨S16384, .i32⟩
  | 19 => ⟨S_, .i32⟩
  | 20 => ⟨S16384, .i32⟩
  | 21 => ⟨S16384, .i32⟩
  | 22 => ⟨S16384, .i32⟩
  | 23 => ⟨S_, .i32⟩
  | 24 => ⟨S16384, .i32⟩
  | 25 => ⟨S16384, .i32⟩
  | 26 => ⟨S_, .i32⟩
  | 27 => ⟨S16384, .i32⟩
  | 28 => ⟨S16384, .i32⟩
  | 29 => ⟨S16384, .i32⟩
  | 30 => ⟨S16384, .i32⟩
  | 31 => ⟨S16384, .i32⟩
  | 32 => ⟨S_, .i32⟩
  | 33 => ⟨S16384, .i32⟩
  | 34 => ⟨S16384, .i32⟩
  | 35 => ⟨S_, .i32⟩
  | 36 => ⟨S16384, .i32⟩
  | 37 => ⟨S16384, .i32⟩
  | 38 => ⟨S16384, .i32⟩
  | 39 => ⟨S16384, .i32⟩
  | 40 => ⟨S16384, .i32⟩
  | 41 => ⟨S_, .i32⟩
  | 42 => ⟨S16384, .i32⟩
  | 43 => ⟨S16384, .i32⟩
  | 44 => ⟨S_, .i32⟩
  | 45 => ⟨S16384, .i32⟩
  | 46 => ⟨S16384, .i32⟩
  | 47 => ⟨S16384, .i32⟩
  | 48 => ⟨S16384, .i32⟩
  | 49 => ⟨S16384, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i32⟩
  | 56 => ⟨S16384, .i32⟩
  | 57 => ⟨S16384, .i32⟩
  | 58 => ⟨S16384, .i32⟩
  | 59 => ⟨S16384, .i32⟩
  | 60 => ⟨S_, .i32⟩
  | 61 => ⟨S16384, .i32⟩
  | 62 => ⟨S16384, .i32⟩
  | 63 => ⟨S16384, .i32⟩
  | 64 => ⟨S_, .i32⟩
  | 65 => ⟨S16384, .i32⟩
  | 66 => ⟨S16384, .i32⟩
  | 67 => ⟨S_, .i32⟩
  | 68 => ⟨S16384, .i32⟩
  | 69 => ⟨S16384, .i32⟩
  | 70 => ⟨S16384, .i32⟩
  | 71 => ⟨S16384, .i32⟩
  | 72 => ⟨S16384, .i32⟩
  | 73 => ⟨S_, .i32⟩
  | 74 => ⟨S16384, .i32⟩
  | 75 => ⟨S16384, .i32⟩
  | 76 => ⟨S_, .i32⟩
  | 77 => ⟨S16384, .i32⟩
  | 78 => ⟨S16384, .i32⟩
  | 79 => ⟨S16384, .i32⟩
  | 80 => ⟨S16384, .i32⟩
  | 81 => ⟨S16384, .i32⟩
  | 82 => ⟨S_, .i32⟩
  | 83 => ⟨S16384, .i32⟩
  | 84 => ⟨S16384, .i32⟩
  | 85 => ⟨S_, .i32⟩
  | 86 => ⟨S16384, .i32⟩
  | 87 => ⟨S16384, .i32⟩
  | 88 => ⟨S16384, .i32⟩
  | 89 => ⟨S16384, .i32⟩
  | 90 => ⟨S16384, .i32⟩
  | 91 => ⟨S_, .i32⟩
  | 92 => ⟨S16384, .i32⟩
  | 93 => ⟨S16384, .i32⟩
  | 94 => ⟨S_, .i32⟩
  | 95 => ⟨S16384, .i32⟩
  | 96 => ⟨S16384, .i32⟩
  | 97 => ⟨S16384, .i32⟩
  | 98 => ⟨S16384, .i32⟩
  | 99 => ⟨S16384, .i32⟩
  | 100 => ⟨S16384, .i32⟩
  | 101 => ⟨S_, .i32⟩
  | 102 => ⟨S16384, .i32⟩
  | 103 => ⟨S16384, .i32⟩
  | 104 => ⟨S16384, .i32⟩
  | 105 => ⟨S_, .i32⟩
  | 106 => ⟨S16384, .i32⟩
  | 107 => ⟨S16384, .i32⟩
  | 108 => ⟨S_, .i32⟩
  | 109 => ⟨S16384, .i32⟩
  | 110 => ⟨S16384, .i32⟩
  | 111 => ⟨S16384, .i32⟩
  | 112 => ⟨S16384, .i32⟩
  | 113 => ⟨S16384, .i32⟩
  | 114 => ⟨S_, .i32⟩
  | 115 => ⟨S16384, .i32⟩
  | 116 => ⟨S16384, .i32⟩
  | 117 => ⟨S_, .i32⟩
  | 118 => ⟨S16384, .i32⟩
  | 119 => ⟨S16384, .i32⟩
  | 120 => ⟨S16384, .i32⟩
  | 121 => ⟨S16384, .i32⟩
  | 122 => ⟨S16384, .i32⟩
  | 123 => ⟨S_, .i32⟩
  | 124 => ⟨S16384, .i32⟩
  | 125 => ⟨S16384, .i32⟩
  | 126 => ⟨S_, .i32⟩
  | 127 => ⟨S16384, .i32⟩
  | _ => ⟨S16384x200, .i32⟩

abbrev hbmTy0_9 (i : Nat) : BufTy := match i % 128 with
  | 0 => ⟨S16384, .i32⟩
  | 1 => ⟨S16384, .i32⟩
  | 2 => ⟨S16384, .i32⟩
  | 3 => ⟨S16384, .i32⟩
  | 4 => ⟨S_, .i32⟩
  | 5 => ⟨S16384, .i32⟩
  | 6 => ⟨S16384, .i32⟩
  | 7 => ⟨S_, .i32⟩
  | 8 => ⟨S16384, .i32⟩
  | 9 => ⟨S16384, .i32⟩
  | 10 => ⟨S16384, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i32⟩
  | 17 => ⟨S16384, .i32⟩
  | 18 => ⟨S_, .i32⟩
  | 19 => ⟨S16384, .i32⟩
  | 20 => ⟨S16384, .i32⟩
  | 21 => ⟨S_, .i32⟩
  | 22 => ⟨S16384, .i32⟩
  | 23 => ⟨S16384, .i32⟩
  | 24 => ⟨S16384, .i32⟩
  | 25 => ⟨S16384, .i32⟩
  | 26 => ⟨S16384, .i32⟩
  | 27 => ⟨S_, .i32⟩
  | 28 => ⟨S16384, .i32⟩
  | 29 => ⟨S16384, .i32⟩
  | 30 => ⟨S_, .i32⟩
  | 31 => ⟨S16384, .i32⟩
  | 32 => ⟨S16384, .i32⟩
  | 33 => ⟨S16384, .i32⟩
  | 34 => ⟨S16384, .i32⟩
  | 35 => ⟨S16384, .i32⟩
  | 36 => ⟨S_, .i32⟩
  | 37 => ⟨S16384, .i32⟩
  | 38 => ⟨S16384, .i32⟩
  | 39 => ⟨S_, .i32⟩
  | 40 => ⟨S16384, .i32⟩
  | 41 => ⟨S16384, .i32⟩
  | 42 => ⟨S16384, .i32⟩
  | 43 => ⟨S16384, .i32⟩
  | 44 => ⟨S16384, .i32⟩
  | 45 => ⟨S_, .i32⟩
  | 46 => ⟨S16384, .i32⟩
  | 47 => ⟨S16384, .i32⟩
  | 48 => ⟨S_, .i32⟩
  | 49 => ⟨S16384, .i32⟩
  | 50 => ⟨S16384, .i32⟩
  | 51 => ⟨S16384, .i32⟩
  | 52 => ⟨S16384, .i32⟩
  | 53 => ⟨S16384, .i32⟩
  | 54 => ⟨S16384, .i32⟩
  | 55 => ⟨S_, .i32⟩
  | 56 => ⟨S16384, .i32⟩
  | 57 => ⟨S16384, .i32⟩
  | 58 => ⟨S16384, .i32⟩
  | 59 => ⟨S_, .i32⟩
  | 60 => ⟨S16384, .i32⟩
  | 61 => ⟨S16384, .i32⟩
  | 62 => ⟨S_, .i32⟩
  | 63 => ⟨S16384, .i32⟩
  | 64 => ⟨S16384, .i32⟩
  | 65 => ⟨S16384, .f32⟩
  | 66 => ⟨S_, .f32⟩
  | 67 => ⟨S16384, .f32⟩
  | 68 => ⟨S16384, .f32⟩
  | 69 => ⟨S_, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .f32⟩
  | 77 => ⟨S_, .f32⟩
  | 78 => ⟨S_, .f32⟩
  | 79 => ⟨S_, .f32⟩
  | 80 => ⟨S1, .f32⟩
  | 81 => ⟨S1, .f32⟩
  | 82 => ⟨S16384x1, .i32⟩
  | 83 => ⟨S16384, .i32⟩
  | 84 => ⟨S16384x1, .i32⟩
  | 85 => ⟨S16384, .i32⟩
  | 86 => ⟨S5, .i64⟩
  | 87 => ⟨S_, .i64⟩
  | 88 => ⟨S5, .i64⟩
  | 89 => ⟨S5, .i64⟩
  | 90 => ⟨S_, .i64⟩
  | 91 => ⟨S5, .i64⟩
  | 92 => ⟨S5, .i64⟩
  | 93 => ⟨S5, .i32⟩
  | 94 => ⟨S5, .i32⟩
  | 95 => ⟨S1x5, .i32⟩
  | 96 => ⟨S1x5, .i32⟩
  | 97 => ⟨S16384x1, .i32⟩
  | 98 => ⟨S16384x1, .i32⟩
  | 99 => ⟨S16384x1, .i32⟩
  | 100 => ⟨S_, .i32⟩
  | 101 => ⟨S16384x1, .i32⟩
  | 102 => ⟨S16384x1, .i32⟩
  | 103 => ⟨S16384x5, .i32⟩
  | 104 => ⟨S16384x5, .i32⟩
  | 105 => ⟨S16384x5, .i32⟩
  | 106 => ⟨S16384x5, .i32⟩
  | 107 => ⟨S16384x5, .i32⟩
  | 108 => ⟨S16384x5, .i32⟩
  | 109 => ⟨S16384x5, .i32⟩
  | 110 => ⟨S_, .i32⟩
  | 111 => ⟨S16384x5, .i32⟩
  | 112 => ⟨S16384x5, .i32⟩
  | 113 => ⟨S_, .i32⟩
  | 114 => ⟨S16384x5, .i32⟩
  | 115 => ⟨S16384x5, .i32⟩
  | 116 => ⟨S16384x5, .i32⟩
  | 117 => ⟨S16384x5, .i32⟩
  | 118 => ⟨S16384x5, .i32⟩
  | 119 => ⟨S_, .i32⟩
  | 120 => ⟨S16384x5, .i32⟩
  | 121 => ⟨S16384x5, .i32⟩
  | 122 => ⟨S_, .i32⟩
  | 123 => ⟨S16384x5, .i32⟩
  | 124 => ⟨S16384x5, .i32⟩
  | 125 => ⟨S16384x5, .i32⟩
  | 126 => ⟨S16384x5, .i32⟩
  | 127 => ⟨S16384x5, .i32⟩
  | _ => ⟨S16384x200, .i32⟩

abbrev hbmTy0_10 (i : Nat) : BufTy := match i % 128 with
  | 0 => ⟨S_, .i32⟩
  | 1 => ⟨S16384x5, .i32⟩
  | 2 => ⟨S16384x5, .i32⟩
  | 3 => ⟨S_, .i32⟩
  | 4 => ⟨S16384x5, .i32⟩
  | 5 => ⟨S16384x5, .i32⟩
  | 6 => ⟨S16384x5, .i32⟩
  | 7 => ⟨S16384x5, .i32⟩
  | 8 => ⟨S16384x5, .i32⟩
  | 9 => ⟨S_, .i32⟩
  | 10 => ⟨S16384x5, .i32⟩
  | 11 => ⟨S16384x5, .i32⟩
  | 12 => ⟨S_, .i32⟩
  | 13 => ⟨S16384x5, .i32⟩
  | 14 => ⟨S16384x5, .i32⟩
  | 15 => ⟨S16384x5, .i32⟩
  | 16 => ⟨S16384x5, .i32⟩
  | 17 => ⟨S16384x5, .i32⟩
  | 18 => ⟨S16384x5, .i32⟩
  | 19 => ⟨S16384x5, .i32⟩
  | 20 => ⟨S16384x5, .i32⟩
  | 21 => ⟨S_, .i32⟩
  | 22 => ⟨S16384x5, .i32⟩
  | 23 => ⟨S16384x5, .i32⟩
  | 24 => ⟨S16384x5, .i32⟩
  | 25 => ⟨S_, .i32⟩
  | 26 => ⟨S16384x5, .i32⟩
  | 27 => ⟨S16384x5, .i32⟩
  | 28 => ⟨S_, .i32⟩
  | 29 => ⟨S16384x5, .i32⟩
  | 30 => ⟨S16384x5, .i32⟩
  | 31 => ⟨S16384x5, .i32⟩
  | 32 => ⟨S16384x5, .i32⟩
  | 33 => ⟨S16384x5, .i32⟩
  | 34 => ⟨S_, .i32⟩
  | 35 => ⟨S16384x5, .i32⟩
  | 36 => ⟨S16384x5, .i32⟩
  | 37 => ⟨S_, .i32⟩
  | 38 => ⟨S16384x5, .i32⟩
  | 39 => ⟨S16384x5, .i32⟩
  | 40 => ⟨S16384x5, .i32⟩
  | 41 => ⟨S16384x5, .i32⟩
  | 42 => ⟨S16384x5, .i32⟩
  | 43 => ⟨S_, .i32⟩
  | 44 => ⟨S16384x5, .i32⟩
  | 45 => ⟨S16384x5, .i32⟩
  | 46 => ⟨S_, .i32⟩
  | 47 => ⟨S16384x5, .i32⟩
  | 48 => ⟨S16384x5, .i32⟩
  | 49 => ⟨S16384x5, .i32⟩
  | 50 => ⟨S16384x5, .i32⟩
  | 51 => ⟨S16384x5, .i32⟩
  | 52 => ⟨S_, .i32⟩
  | 53 => ⟨S16384x5, .i32⟩
  | 54 => ⟨S16384x5, .i32⟩
  | 55 => ⟨S_, .i32⟩
  | 56 => ⟨S16384x5, .i32⟩
  | 57 => ⟨S16384x5, .i32⟩
  | 58 => ⟨S16384x5, .i32⟩
  | 59 => ⟨S16384x5, .i32⟩
  | 60 => ⟨S16384x5, .i32⟩
  | 61 => ⟨S16384x5, .i32⟩
  | 62 => ⟨S16384x5, .i32⟩
  | 63 => ⟨S16384x5, .i32⟩
  | 64 => ⟨S_, .i32⟩
  | 65 => ⟨S16384x5, .i32⟩
  | 66 => ⟨S16384x5, .i32⟩
  | 67 => ⟨S16384x5, .i32⟩
  | 68 => ⟨S_, .i32⟩
  | 69 => ⟨S16384x5, .i32⟩
  | 70 => ⟨S16384x5, .i32⟩
  | 71 => ⟨S_, .i32⟩
  | 72 => ⟨S16384x5, .i32⟩
  | 73 => ⟨S16384x5, .i32⟩
  | 74 => ⟨S16384x5, .i32⟩
  | 75 => ⟨S16384x5, .i32⟩
  | 76 => ⟨S16384x5, .i32⟩
  | 77 => ⟨S_, .i32⟩
  | 78 => ⟨S16384x5, .i32⟩
  | 79 => ⟨S16384x5, .i32⟩
  | 80 => ⟨S_, .i32⟩
  | 81 => ⟨S16384x5, .i32⟩
  | 82 => ⟨S16384x5, .i32⟩
  | 83 => ⟨S16384x5, .i32⟩
  | 84 => ⟨S16384x5, .i32⟩
  | 85 => ⟨S16384x5, .i32⟩
  | 86 => ⟨S_, .i32⟩
  | 87 => ⟨S16384x5, .i32⟩
  | 88 => ⟨S16384x5, .i32⟩
  | 89 => ⟨S_, .i32⟩
  | 90 => ⟨S16384x5, .i32⟩
  | 91 => ⟨S16384x5, .i32⟩
  | 92 => ⟨S16384x5, .i32⟩
  | 93 => ⟨S16384x5, .i32⟩
  | 94 => ⟨S16384x5, .i32⟩
  | 95 => ⟨S_, .i32⟩
  | 96 => ⟨S16384x5, .i32⟩
  | 97 => ⟨S16384x5, .i32⟩
  | 98 => ⟨S_, .i32⟩
  | 99 => ⟨S16384x5, .i32⟩
  | 100 => ⟨S16384x5, .i32⟩
  | 101 => ⟨S16384x5, .i32⟩
  | 102 => ⟨S16384x5, .i32⟩
  | 103 => ⟨S16384x5, .i32⟩
  | 104 => ⟨S16384x5, .i32⟩
  | 105 => ⟨S16384x5, .i32⟩
  | 106 => ⟨S16384x5, .i32⟩
  | 107 => ⟨S_, .i32⟩
  | 108 => ⟨S16384x5, .i32⟩
  | 109 => ⟨S16384x5, .i32⟩
  | 110 => ⟨S16384x5, .i32⟩
  | 111 => ⟨S_, .i32⟩
  | 112 => ⟨S16384x5, .i32⟩
  | 113 => ⟨S16384x5, .i32⟩
  | 114 => ⟨S_, .i32⟩
  | 115 => ⟨S16384x5, .i32⟩
  | 116 => ⟨S16384x5, .i32⟩
  | 117 => ⟨S16384x5, .i32⟩
  | 118 => ⟨S16384x5, .i32⟩
  | 119 => ⟨S16384x5, .i32⟩
  | 120 => ⟨S_, .i32⟩
  | 121 => ⟨S16384x5, .i32⟩
  | 122 => ⟨S16384x5, .i32⟩
  | 123 => ⟨S_, .i32⟩
  | 124 => ⟨S16384x5, .i32⟩
  | 125 => ⟨S16384x5, .i32⟩
  | 126 => ⟨S16384x5, .i32⟩
  | 127 => ⟨S16384x5, .i32⟩
  | _ => ⟨S16384x200, .i32⟩

abbrev hbmTy0_11 (i : Nat) : BufTy := match i % 128 with
  | 0 => ⟨S16384x5, .i32⟩
  | 1 => ⟨S_, .i32⟩
  | 2 => ⟨S16384x5, .i32⟩
  | 3 => ⟨S16384x5, .i32⟩
  | 4 => ⟨S_, .i32⟩
  | 5 => ⟨S16384x5, .i32⟩
  | 6 => ⟨S16384x5, .i32⟩
  | 7 => ⟨S16384x5, .i32⟩
  | 8 => ⟨S16384x5, .i32⟩
  | 9 => ⟨S16384x5, .i32⟩
  | 10 => ⟨S_, .i32⟩
  | 11 => ⟨S16384x5, .i32⟩
  | 12 => ⟨S16384x5, .i32⟩
  | 13 => ⟨S_, .i32⟩
  | 14 => ⟨S16384x5, .i32⟩
  | 15 => ⟨S16384x5, .i32⟩
  | 16 => ⟨S16384x5, .i32⟩
  | 17 => ⟨S16384x5, .i32⟩
  | 18 => ⟨S16384x5, .i32⟩
  | 19 => ⟨S16384x5, .i32⟩
  | 20 => ⟨S16384x5, .i32⟩
  | 21 => ⟨S16384x5, .i32⟩
  | 22 => ⟨S_, .i32⟩
  | 23 => ⟨S16384x5, .i32⟩
  | 24 => ⟨S16384x5, .i32⟩
  | 25 => ⟨S16384x5, .i32⟩
  | 26 => ⟨S_, .i32⟩
  | 27 => ⟨S16384x5, .i32⟩
  | 28 => ⟨S16384x5, .i32⟩
  | 29 => ⟨S_, .i32⟩
  | 30 => ⟨S16384x5, .i32⟩
  | 31 => ⟨S16384x5, .i32⟩
  | 32 => ⟨S16384x5, .i32⟩
  | 33 => ⟨S16384x5, .i32⟩
  | 34 => ⟨S16384x5, .i32⟩
  | 35 => ⟨S_, .i32⟩
  | 36 => ⟨S16384x5, .i32⟩
  | 37 => ⟨S16384x5, .i32⟩
  | 38 => ⟨S_, .i32⟩
  | 39 => ⟨S16384x5, .i32⟩
  | 40 => ⟨S16384x5, .i32⟩
  | 41 => ⟨S16384x5, .i32⟩
  | 42 => ⟨S16384x5, .i32⟩
  | 43 => ⟨S16384x5, .i32⟩
  | 44 => ⟨S_, .i32⟩
  | 45 => ⟨S16384x5, .i32⟩
  | 46 => ⟨S16384x5, .i32⟩
  | 47 => ⟨S_, .i32⟩
  | 48 => ⟨S16384x5, .i32⟩
  | 49 => ⟨S16384x5, .i32⟩
  | 50 => ⟨S16384x5, .i32⟩
  | 51 => ⟨S16384x5, .i32⟩
  | 52 => ⟨S16384x5, .i32⟩
  | 53 => ⟨S_, .i32⟩
  | 54 => ⟨S16384x5, .i32⟩
  | 55 => ⟨S16384x5, .i32⟩
  | 56 => ⟨S_, .i32⟩
  | 57 => ⟨S16384x5, .i32⟩
  | 58 => ⟨S16384x5, .i32⟩
  | 59 => ⟨S16384x5, .i32⟩
  | 60 => ⟨S16384x5, .i32⟩
  | 61 => ⟨S16384x5, .i32⟩
  | 62 => ⟨S16384x5, .i32⟩
  | 63 => ⟨S16384x5, .i32⟩
  | 64 => ⟨S16384x5, .i32⟩
  | 65 => ⟨S_, .i32⟩
  | 66 => ⟨S16384x5, .i32⟩
  | 67 => ⟨S16384x5, .i32⟩
  | 68 => ⟨S16384x5, .i32⟩
  | 69 => ⟨S_, .i32⟩
  | 70 => ⟨S16384x5, .i32⟩
  | 71 => ⟨S16384x5, .i32⟩
  | 72 => ⟨S_, .i32⟩
  | 73 => ⟨S16384x5, .i32⟩
  | 74 => ⟨S16384x5, .i32⟩
  | 75 => ⟨S16384x5, .f32⟩
  | 76 => ⟨S_, .f32⟩
  | 77 => ⟨S16384x5, .f32⟩
  | 78 => ⟨S16384x5, .f32⟩
  | 79 => ⟨S1, .f32⟩
  | 80 => ⟨S1x1, .f32⟩
  | 81 => ⟨S16384x5, .f32⟩
  | 82 => ⟨S16384x5, .f32⟩
  | 83 => ⟨S1x1, .f32⟩
  | 84 => ⟨S16384x5, .f32⟩
  | 85 => ⟨S16384x5, .f32⟩
  | 86 => ⟨S1x1, .f32⟩
  | 87 => ⟨S16384x5, .f32⟩
  | 88 => ⟨S16384x5, .f32⟩
  | 89 => ⟨S_, .i32⟩
  | 90 => ⟨S16384, .i32⟩
  | 91 => ⟨S16384, .i1⟩
  | 92 => ⟨S_, .f32⟩
  | 93 => ⟨S16384, .f32⟩
  | 94 => ⟨S16384, .i1⟩
  | 95 => ⟨S16384, .i1⟩
  | 96 => ⟨S16384, .i32⟩
  | 97 => ⟨S_, .f32⟩
  | 98 => ⟨S16384x9, .f32⟩
  | 99 => ⟨S16384x1, .f32⟩
  | 100 => ⟨S16384x1, .f32⟩
  | 101 => ⟨S16384x16, .f32⟩
  | 102 => ⟨S_, .i32⟩
  | 103 => ⟨S16384x14, .i32⟩
  | 104 => ⟨S16384x1, .i32⟩
  | 105 => ⟨S16384x1, .i32⟩
  | 106 => ⟨S16384x16, .i32⟩
  | 107 => ⟨S16384x200, .i32⟩
  | _ => ⟨S16384x200, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S16384x200, .i32⟩

abbrev bufTy : (tb : Table) → Fin (nBuf tb) → BufTy
  | .hbm, ⟨i, _⟩ => hbmTy i
  | .local .scVector .vmem, ⟨0, _⟩ => ⟨S128x200, .i32⟩
  | .local .scVector .vmem, ⟨1, _⟩ => ⟨S128x16, .f32⟩
  | .local .scVector .vmem, ⟨2, _⟩ => ⟨S128x16, .i32⟩
  | .local .scVector .vmem, ⟨3, _⟩ => ⟨S256, .i32⟩
  | .local .scVector .vmem, ⟨4, _⟩ => ⟨S128x200, .i32⟩
  | .local .scVector .vmem, ⟨5, _⟩ => ⟨S128x16, .f32⟩
  | .local .scVector .vmem, ⟨6, _⟩ => ⟨S128x16, .i32⟩
  | .local .scVector .vmem, ⟨7, _⟩ => ⟨S16, .i32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_c_0 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_call0_v0 : Ref sig .tc := ⟨.hbm, 29, rfl⟩
abbrev main_call0_call0_c : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_c_0 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_c_1 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_v13 : Ref sig .tc := ⟨.hbm, 45, rfl⟩
abbrev main_call0_call0_c_2 : Ref sig .tc := ⟨.hbm, 46, rfl⟩
abbrev main_call0_call0_v14 : Ref sig .tc := ⟨.hbm, 47, rfl⟩
abbrev main_call0_call0_v15 : Ref sig .tc := ⟨.hbm, 48, rfl⟩
abbrev main_call0_call0_c_3 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_c_4 : Ref sig .tc := ⟨.hbm, 55, rfl⟩
abbrev main_call0_call0_v21 : Ref sig .tc := ⟨.hbm, 56, rfl⟩
abbrev main_call0_call0_v22 : Ref sig .tc := ⟨.hbm, 57, rfl⟩
abbrev main_call0_call0_c_5 : Ref sig .tc := ⟨.hbm, 58, rfl⟩
abbrev main_call0_call0_v23 : Ref sig .tc := ⟨.hbm, 59, rfl⟩
abbrev main_call0_call0_v24 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_v27 : Ref sig .tc := ⟨.hbm, 63, rfl⟩
abbrev main_call0_call0_c_6 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_c_7 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_v32 : Ref sig .tc := ⟨.hbm, 70, rfl⟩
abbrev main_call0_call0_v33 : Ref sig .tc := ⟨.hbm, 71, rfl⟩
abbrev main_call0_call0_v34 : Ref sig .tc := ⟨.hbm, 72, rfl⟩
abbrev main_call0_call0_v35 : Ref sig .tc := ⟨.hbm, 73, rfl⟩
abbrev main_call0_call0_v36 : Ref sig .tc := ⟨.hbm, 74, rfl⟩
abbrev main_call0_call0_v37 : Ref sig .tc := ⟨.hbm, 75, rfl⟩
abbrev main_call0_call0_c_8 : Ref sig .tc := ⟨.hbm, 76, rfl⟩
abbrev main_call0_call0_v38 : Ref sig .tc := ⟨.hbm, 77, rfl⟩
abbrev main_call0_call0_v39 : Ref sig .tc := ⟨.hbm, 78, rfl⟩
abbrev main_call0_call0_v40 : Ref sig .tc := ⟨.hbm, 79, rfl⟩
abbrev main_call0_call0_c_9 : Ref sig .tc := ⟨.hbm, 80, rfl⟩
abbrev main_call0_call0_v41 : Ref sig .tc := ⟨.hbm, 81, rfl⟩
abbrev main_call0_call0_v42 : Ref sig .tc := ⟨.hbm, 82, rfl⟩
abbrev main_call0_call0_c_10 : Ref sig .tc := ⟨.hbm, 83, rfl⟩
abbrev main_call0_call0_v43 : Ref sig .tc := ⟨.hbm, 84, rfl⟩
abbrev main_call0_call0_v44 : Ref sig .tc := ⟨.hbm, 85, rfl⟩
abbrev main_call0_call0_v45 : Ref sig .tc := ⟨.hbm, 86, rfl⟩
abbrev main_call0_call0_v46 : Ref sig .tc := ⟨.hbm, 87, rfl⟩
abbrev main_call0_call0_v47 : Ref sig .tc := ⟨.hbm, 88, rfl⟩
abbrev main_call0_call0_c_11 : Ref sig .tc := ⟨.hbm, 89, rfl⟩
abbrev main_call0_call0_v48 : Ref sig .tc := ⟨.hbm, 90, rfl⟩
abbrev main_call0_call0_v49 : Ref sig .tc := ⟨.hbm, 91, rfl⟩
abbrev main_call0_call0_c_12 : Ref sig .tc := ⟨.hbm, 92, rfl⟩
abbrev main_call0_call0_v50 : Ref sig .tc := ⟨.hbm, 93, rfl⟩
abbrev main_call0_call0_v51 : Ref sig .tc := ⟨.hbm, 94, rfl⟩
abbrev main_call0_call0_v52 : Ref sig .tc := ⟨.hbm, 95, rfl⟩
abbrev main_call0_call0_v53 : Ref sig .tc := ⟨.hbm, 96, rfl⟩
abbrev main_call0_call0_v54 : Ref sig .tc := ⟨.hbm, 97, rfl⟩
abbrev main_call0_call0_c_13 : Ref sig .tc := ⟨.hbm, 98, rfl⟩
abbrev main_call0_call0_v55 : Ref sig .tc := ⟨.hbm, 99, rfl⟩
abbrev main_call0_call0_v56 : Ref sig .tc := ⟨.hbm, 100, rfl⟩
abbrev main_call0_call0_c_14 : Ref sig .tc := ⟨.hbm, 101, rfl⟩
abbrev main_call0_call0_v57 : Ref sig .tc := ⟨.hbm, 102, rfl⟩
abbrev main_call0_call0_v58 : Ref sig .tc := ⟨.hbm, 103, rfl⟩
abbrev main_call0_call0_v59 : Ref sig .tc := ⟨.hbm, 104, rfl⟩
abbrev main_call0_call0_v60 : Ref sig .tc := ⟨.hbm, 105, rfl⟩
abbrev main_call0_call0_v61 : Ref sig .tc := ⟨.hbm, 106, rfl⟩
abbrev main_call0_call0_c_15 : Ref sig .tc := ⟨.hbm, 107, rfl⟩
abbrev main_call0_call0_v62 : Ref sig .tc := ⟨.hbm, 108, rfl⟩
abbrev main_call0_call0_v63 : Ref sig .tc := ⟨.hbm, 109, rfl⟩
abbrev main_call0_call0_c_16 : Ref sig .tc := ⟨.hbm, 110, rfl⟩
abbrev main_call0_call0_v64 : Ref sig .tc := ⟨.hbm, 111, rfl⟩
abbrev main_call0_call0_v65 : Ref sig .tc := ⟨.hbm, 112, rfl⟩
abbrev main_call0_call0_v66 : Ref sig .tc := ⟨.hbm, 113, rfl⟩
abbrev main_call0_call0_v67 : Ref sig .tc := ⟨.hbm, 114, rfl⟩
abbrev main_call0_call0_v68 : Ref sig .tc := ⟨.hbm, 115, rfl⟩
abbrev main_call0_call0_v69 : Ref sig .tc := ⟨.hbm, 116, rfl⟩
abbrev main_call0_call0_v70 : Ref sig .tc := ⟨.hbm, 117, rfl⟩
abbrev main_call0_call0_v71 : Ref sig .tc := ⟨.hbm, 118, rfl⟩
abbrev main_call0_call0_c_17 : Ref sig .tc := ⟨.hbm, 119, rfl⟩
abbrev main_call0_call0_v72 : Ref sig .tc := ⟨.hbm, 120, rfl⟩
abbrev main_call0_call0_v73 : Ref sig .tc := ⟨.hbm, 121, rfl⟩
abbrev main_call0_call0_v74 : Ref sig .tc := ⟨.hbm, 122, rfl⟩
abbrev main_call0_call0_c_18 : Ref sig .tc := ⟨.hbm, 123, rfl⟩
abbrev main_call0_call0_v75 : Ref sig .tc := ⟨.hbm, 124, rfl⟩
abbrev main_call0_call0_v76 : Ref sig .tc := ⟨.hbm, 125, rfl⟩
abbrev main_call0_call0_c_19 : Ref sig .tc := ⟨.hbm, 126, rfl⟩
abbrev main_call0_call0_v77 : Ref sig .tc := ⟨.hbm, 127, rfl⟩
abbrev main_call0_call0_v78 : Ref sig .tc := ⟨.hbm, 128, rfl⟩
abbrev main_call0_call0_v79 : Ref sig .tc := ⟨.hbm, 129, rfl⟩
abbrev main_call0_call0_v80 : Ref sig .tc := ⟨.hbm, 130, rfl⟩
abbrev main_call0_call0_v81 : Ref sig .tc := ⟨.hbm, 131, rfl⟩
abbrev main_call0_call0_c_20 : Ref sig .tc := ⟨.hbm, 132, rfl⟩
abbrev main_call0_call0_v82 : Ref sig .tc := ⟨.hbm, 133, rfl⟩
abbrev main_call0_call0_v83 : Ref sig .tc := ⟨.hbm, 134, rfl⟩
abbrev main_call0_call0_c_21 : Ref sig .tc := ⟨.hbm, 135, rfl⟩
abbrev main_call0_call0_v84 : Ref sig .tc := ⟨.hbm, 136, rfl⟩
abbrev main_call0_call0_v85 : Ref sig .tc := ⟨.hbm, 137, rfl⟩
abbrev main_call0_call0_v86 : Ref sig .tc := ⟨.hbm, 138, rfl⟩
abbrev main_call0_call0_v87 : Ref sig .tc := ⟨.hbm, 139, rfl⟩
abbrev main_call0_call0_v88 : Ref sig .tc := ⟨.hbm, 140, rfl⟩
abbrev main_call0_call0_c_22 : Ref sig .tc := ⟨.hbm, 141, rfl⟩
abbrev main_call0_call0_v89 : Ref sig .tc := ⟨.hbm, 142, rfl⟩
abbrev main_call0_call0_v90 : Ref sig .tc := ⟨.hbm, 143, rfl⟩
abbrev main_call0_call0_c_23 : Ref sig .tc := ⟨.hbm, 144, rfl⟩
abbrev main_call0_call0_v91 : Ref sig .tc := ⟨.hbm, 145, rfl⟩
abbrev main_call0_call0_v92 : Ref sig .tc := ⟨.hbm, 146, rfl⟩
abbrev main_call0_call0_v93 : Ref sig .tc := ⟨.hbm, 147, rfl⟩
abbrev main_call0_call0_v94 : Ref sig .tc := ⟨.hbm, 148, rfl⟩
abbrev main_call0_call0_v95 : Ref sig .tc := ⟨.hbm, 149, rfl⟩
abbrev main_call0_call0_c_24 : Ref sig .tc := ⟨.hbm, 150, rfl⟩
abbrev main_call0_call0_v96 : Ref sig .tc := ⟨.hbm, 151, rfl⟩
abbrev main_call0_call0_v97 : Ref sig .tc := ⟨.hbm, 152, rfl⟩
abbrev main_call0_call0_c_25 : Ref sig .tc := ⟨.hbm, 153, rfl⟩
abbrev main_call0_call0_v98 : Ref sig .tc := ⟨.hbm, 154, rfl⟩
abbrev main_call0_call0_v99 : Ref sig .tc := ⟨.hbm, 155, rfl⟩
abbrev main_call0_call0_v100 : Ref sig .tc := ⟨.hbm, 156, rfl⟩
abbrev main_call0_call0_v101 : Ref sig .tc := ⟨.hbm, 157, rfl⟩
abbrev main_call0_call0_v102 : Ref sig .tc := ⟨.hbm, 158, rfl⟩
abbrev main_call0_call0_v103 : Ref sig .tc := ⟨.hbm, 159, rfl⟩
abbrev main_call0_call0_v104 : Ref sig .tc := ⟨.hbm, 160, rfl⟩
abbrev main_call0_call0_v105 : Ref sig .tc := ⟨.hbm, 161, rfl⟩
abbrev main_call0_call0_c_26 : Ref sig .tc := ⟨.hbm, 162, rfl⟩
abbrev main_call0_call0_v106 : Ref sig .tc := ⟨.hbm, 163, rfl⟩
abbrev main_call0_call0_v107 : Ref sig .tc := ⟨.hbm, 164, rfl⟩
abbrev main_call0_call0_v108 : Ref sig .tc := ⟨.hbm, 165, rfl⟩
abbrev main_call0_call0_c_27 : Ref sig .tc := ⟨.hbm, 166, rfl⟩
abbrev main_call0_call0_v109 : Ref sig .tc := ⟨.hbm, 167, rfl⟩
abbrev main_call0_call0_v110 : Ref sig .tc := ⟨.hbm, 168, rfl⟩
abbrev main_call0_call0_c_28 : Ref sig .tc := ⟨.hbm, 169, rfl⟩
abbrev main_call0_call0_v111 : Ref sig .tc := ⟨.hbm, 170, rfl⟩
abbrev main_call0_call0_v112 : Ref sig .tc := ⟨.hbm, 171, rfl⟩
abbrev main_call0_call0_v113 : Ref sig .tc := ⟨.hbm, 172, rfl⟩
abbrev main_call0_call0_v114 : Ref sig .tc := ⟨.hbm, 173, rfl⟩
abbrev main_call0_call0_v115 : Ref sig .tc := ⟨.hbm, 174, rfl⟩
abbrev main_call0_call0_c_29 : Ref sig .tc := ⟨.hbm, 175, rfl⟩
abbrev main_call0_call0_v116 : Ref sig .tc := ⟨.hbm, 176, rfl⟩
abbrev main_call0_call0_v117 : Ref sig .tc := ⟨.hbm, 177, rfl⟩
abbrev main_call0_call0_c_30 : Ref sig .tc := ⟨.hbm, 178, rfl⟩
abbrev main_call0_call0_v118 : Ref sig .tc := ⟨.hbm, 179, rfl⟩
abbrev main_call0_call0_v119 : Ref sig .tc := ⟨.hbm, 180, rfl⟩
abbrev main_call0_call0_v120 : Ref sig .tc := ⟨.hbm, 181, rfl⟩
abbrev main_call0_call0_v121 : Ref sig .tc := ⟨.hbm, 182, rfl⟩
abbrev main_call0_call0_v122 : Ref sig .tc := ⟨.hbm, 183, rfl⟩
abbrev main_call0_call0_c_31 : Ref sig .tc := ⟨.hbm, 184, rfl⟩
abbrev main_call0_call0_v123 : Ref sig .tc := ⟨.hbm, 185, rfl⟩
abbrev main_call0_call0_v124 : Ref sig .tc := ⟨.hbm, 186, rfl⟩
abbrev main_call0_call0_c_32 : Ref sig .tc := ⟨.hbm, 187, rfl⟩
abbrev main_call0_call0_v125 : Ref sig .tc := ⟨.hbm, 188, rfl⟩
abbrev main_call0_call0_v126 : Ref sig .tc := ⟨.hbm, 189, rfl⟩
abbrev main_call0_call0_v127 : Ref sig .tc := ⟨.hbm, 190, rfl⟩
abbrev main_call0_call0_v128 : Ref sig .tc := ⟨.hbm, 191, rfl⟩
abbrev main_call0_call0_v129 : Ref sig .tc := ⟨.hbm, 192, rfl⟩
abbrev main_call0_call0_c_33 : Ref sig .tc := ⟨.hbm, 193, rfl⟩
abbrev main_call0_call0_v130 : Ref sig .tc := ⟨.hbm, 194, rfl⟩
abbrev main_call0_call0_v131 : Ref sig .tc := ⟨.hbm, 195, rfl⟩
abbrev main_call0_call0_c_34 : Ref sig .tc := ⟨.hbm, 196, rfl⟩
abbrev main_call0_call0_v132 : Ref sig .tc := ⟨.hbm, 197, rfl⟩
abbrev main_call0_call0_v133 : Ref sig .tc := ⟨.hbm, 198, rfl⟩
abbrev main_call0_call0_v134 : Ref sig .tc := ⟨.hbm, 199, rfl⟩
abbrev main_call0_call0_v135 : Ref sig .tc := ⟨.hbm, 200, rfl⟩
abbrev main_call0_call0_v136 : Ref sig .tc := ⟨.hbm, 201, rfl⟩
abbrev main_call0_call0_v137 : Ref sig .tc := ⟨.hbm, 202, rfl⟩
abbrev main_call0_call0_v138 : Ref sig .tc := ⟨.hbm, 203, rfl⟩
abbrev main_call0_call0_v139 : Ref sig .tc := ⟨.hbm, 204, rfl⟩
abbrev main_call0_call0_c_35 : Ref sig .tc := ⟨.hbm, 205, rfl⟩
abbrev main_call0_call0_v140 : Ref sig .tc := ⟨.hbm, 206, rfl⟩
abbrev main_call0_call0_v141 : Ref sig .tc := ⟨.hbm, 207, rfl⟩
abbrev main_call0_call0_v142 : Ref sig .tc := ⟨.hbm, 208, rfl⟩
abbrev main_call0_call0_c_36 : Ref sig .tc := ⟨.hbm, 209, rfl⟩
abbrev main_call0_call0_v143 : Ref sig .tc := ⟨.hbm, 210, rfl⟩
abbrev main_call0_call0_v144 : Ref sig .tc := ⟨.hbm, 211, rfl⟩
abbrev main_call0_call0_c_37 : Ref sig .tc := ⟨.hbm, 212, rfl⟩
abbrev main_call0_call0_v145 : Ref sig .tc := ⟨.hbm, 213, rfl⟩
abbrev main_call0_call0_v146 : Ref sig .tc := ⟨.hbm, 214, rfl⟩
abbrev main_call0_call0_v147 : Ref sig .tc := ⟨.hbm, 215, rfl⟩
abbrev main_call0_call0_v148 : Ref sig .tc := ⟨.hbm, 216, rfl⟩
abbrev main_call0_call0_v149 : Ref sig .tc := ⟨.hbm, 217, rfl⟩
abbrev main_call0_call0_c_38 : Ref sig .tc := ⟨.hbm, 218, rfl⟩
abbrev main_call0_call0_v150 : Ref sig .tc := ⟨.hbm, 219, rfl⟩
abbrev main_call0_call0_v151 : Ref sig .tc := ⟨.hbm, 220, rfl⟩
abbrev main_call0_call0_c_39 : Ref sig .tc := ⟨.hbm, 221, rfl⟩
abbrev main_call0_call0_v152 : Ref sig .tc := ⟨.hbm, 222, rfl⟩
abbrev main_call0_call0_v153 : Ref sig .tc := ⟨.hbm, 223, rfl⟩
abbrev main_call0_call0_v154 : Ref sig .tc := ⟨.hbm, 224, rfl⟩
abbrev main_call0_call0_v155 : Ref sig .tc := ⟨.hbm, 225, rfl⟩
abbrev main_call0_call0_v156 : Ref sig .tc := ⟨.hbm, 226, rfl⟩
abbrev main_call0_call0_c_40 : Ref sig .tc := ⟨.hbm, 227, rfl⟩
abbrev main_call0_call0_v157 : Ref sig .tc := ⟨.hbm, 228, rfl⟩
abbrev main_call0_call0_v158 : Ref sig .tc := ⟨.hbm, 229, rfl⟩
abbrev main_call0_call0_c_41 : Ref sig .tc := ⟨.hbm, 230, rfl⟩
abbrev main_call0_call0_v159 : Ref sig .tc := ⟨.hbm, 231, rfl⟩
abbrev main_call0_call0_v160 : Ref sig .tc := ⟨.hbm, 232, rfl⟩
abbrev main_call0_call0_v161 : Ref sig .tc := ⟨.hbm, 233, rfl⟩
abbrev main_call0_call0_v162 : Ref sig .tc := ⟨.hbm, 234, rfl⟩
abbrev main_call0_call0_v163 : Ref sig .tc := ⟨.hbm, 235, rfl⟩
abbrev main_call0_call0_c_42 : Ref sig .tc := ⟨.hbm, 236, rfl⟩
abbrev main_call0_call0_v164 : Ref sig .tc := ⟨.hbm, 237, rfl⟩
abbrev main_call0_call0_v165 : Ref sig .tc := ⟨.hbm, 238, rfl⟩
abbrev main_call0_call0_c_43 : Ref sig .tc := ⟨.hbm, 239, rfl⟩
abbrev main_call0_call0_v166 : Ref sig .tc := ⟨.hbm, 240, rfl⟩
abbrev main_call0_call0_v167 : Ref sig .tc := ⟨.hbm, 241, rfl⟩
abbrev main_call0_call0_v168 : Ref sig .tc := ⟨.hbm, 242, rfl⟩
abbrev main_call0_call0_v169 : Ref sig .tc := ⟨.hbm, 243, rfl⟩
abbrev main_call0_call0_v170 : Ref sig .tc := ⟨.hbm, 244, rfl⟩
abbrev main_call0_v13_0 : Ref sig .tc := ⟨.hbm, 245, rfl⟩
abbrev main_call0_call0_v172 : Ref sig .tc := ⟨.hbm, 246, rfl⟩
abbrev main_call0_call0_v173 : Ref sig .tc := ⟨.hbm, 247, rfl⟩
abbrev main_call0_call0_c_44 : Ref sig .tc := ⟨.hbm, 248, rfl⟩
abbrev main_call0_call0_v174 : Ref sig .tc := ⟨.hbm, 249, rfl⟩
abbrev main_call0_v13_1 : Ref sig .tc := ⟨.hbm, 250, rfl⟩
abbrev main_v9 : Ref sig .tc := ⟨.hbm, 251, rfl⟩
abbrev main_call1_v0 : Ref sig .tc := ⟨.hbm, 252, rfl⟩
abbrev main_call1_v1 : Ref sig .tc := ⟨.hbm, 253, rfl⟩
abbrev main_call1_v2 : Ref sig .tc := ⟨.hbm, 254, rfl⟩
abbrev main_call1_v3 : Ref sig .tc := ⟨.hbm, 255, rfl⟩
abbrev main_call1_v4 : Ref sig .tc := ⟨.hbm, 256, rfl⟩
abbrev main_call1_c : Ref sig .tc := ⟨.hbm, 257, rfl⟩
abbrev main_call1_v5 : Ref sig .tc := ⟨.hbm, 258, rfl⟩
abbrev main_call1_v6 : Ref sig .tc := ⟨.hbm, 259, rfl⟩
abbrev main_call1_c_0 : Ref sig .tc := ⟨.hbm, 260, rfl⟩
abbrev main_call1_v7 : Ref sig .tc := ⟨.hbm, 261, rfl⟩
abbrev main_call1_v8 : Ref sig .tc := ⟨.hbm, 262, rfl⟩
abbrev main_call1_v9 : Ref sig .tc := ⟨.hbm, 263, rfl⟩
abbrev main_call1_v10 : Ref sig .tc := ⟨.hbm, 264, rfl⟩
abbrev main_call1_v11 : Ref sig .tc := ⟨.hbm, 265, rfl⟩
abbrev main_call1_v12 : Ref sig .tc := ⟨.hbm, 266, rfl⟩
abbrev main_call1_v13 : Ref sig .tc := ⟨.hbm, 267, rfl⟩
abbrev main_call1_v14 : Ref sig .tc := ⟨.hbm, 268, rfl⟩
abbrev main_call1_call0_v0 : Ref sig .tc := ⟨.hbm, 269, rfl⟩
abbrev main_call1_call0_c : Ref sig .tc := ⟨.hbm, 270, rfl⟩
abbrev main_call1_call0_v1 : Ref sig .tc := ⟨.hbm, 271, rfl⟩
abbrev main_call1_call0_v2 : Ref sig .tc := ⟨.hbm, 272, rfl⟩
abbrev main_call1_call0_v3 : Ref sig .tc := ⟨.hbm, 273, rfl⟩
abbrev main_call1_call0_v4 : Ref sig .tc := ⟨.hbm, 274, rfl⟩
abbrev main_call1_call0_v5 : Ref sig .tc := ⟨.hbm, 275, rfl⟩
abbrev main_call1_call0_v6 : Ref sig .tc := ⟨.hbm, 276, rfl⟩
abbrev main_call1_call0_v7 : Ref sig .tc := ⟨.hbm, 277, rfl⟩
abbrev main_call1_call0_v8 : Ref sig .tc := ⟨.hbm, 278, rfl⟩
abbrev main_call1_call0_v9 : Ref sig .tc := ⟨.hbm, 279, rfl⟩
abbrev main_call1_call0_c_0 : Ref sig .tc := ⟨.hbm, 280, rfl⟩
abbrev main_call1_call0_v10 : Ref sig .tc := ⟨.hbm, 281, rfl⟩
abbrev main_call1_call0_v11 : Ref sig .tc := ⟨.hbm, 282, rfl⟩
abbrev main_call1_call0_c_1 : Ref sig .tc := ⟨.hbm, 283, rfl⟩
abbrev main_call1_call0_v12 : Ref sig .tc := ⟨.hbm, 284, rfl⟩
abbrev main_call1_call0_v13 : Ref sig .tc := ⟨.hbm, 285, rfl⟩
abbrev main_call1_call0_v14 : Ref sig .tc := ⟨.hbm, 286, rfl⟩
abbrev main_call1_call0_v15 : Ref sig .tc := ⟨.hbm, 287, rfl⟩
abbrev main_call1_call0_v16 : Ref sig .tc := ⟨.hbm, 288, rfl⟩
abbrev main_call1_call0_c_2 : Ref sig .tc := ⟨.hbm, 289, rfl⟩
abbrev main_call1_call0_v17 : Ref sig .tc := ⟨.hbm, 290, rfl⟩
abbrev main_call1_call0_v18 : Ref sig .tc := ⟨.hbm, 291, rfl⟩
abbrev main_call1_call0_c_3 : Ref sig .tc := ⟨.hbm, 292, rfl⟩
abbrev main_call1_call0_v19 : Ref sig .tc := ⟨.hbm, 293, rfl⟩
abbrev main_call1_call0_v20 : Ref sig .tc := ⟨.hbm, 294, rfl⟩
abbrev main_call1_call0_v21 : Ref sig .tc := ⟨.hbm, 295, rfl⟩
abbrev main_call1_call0_v22 : Ref sig .tc := ⟨.hbm, 296, rfl⟩
abbrev main_call1_call0_v23 : Ref sig .tc := ⟨.hbm, 297, rfl⟩
abbrev main_call1_call0_c_4 : Ref sig .tc := ⟨.hbm, 298, rfl⟩
abbrev main_call1_call0_v24 : Ref sig .tc := ⟨.hbm, 299, rfl⟩
abbrev main_call1_call0_v25 : Ref sig .tc := ⟨.hbm, 300, rfl⟩
abbrev main_call1_call0_c_5 : Ref sig .tc := ⟨.hbm, 301, rfl⟩
abbrev main_call1_call0_v26 : Ref sig .tc := ⟨.hbm, 302, rfl⟩
abbrev main_call1_call0_v27 : Ref sig .tc := ⟨.hbm, 303, rfl⟩
abbrev main_call1_call0_v28 : Ref sig .tc := ⟨.hbm, 304, rfl⟩
abbrev main_call1_call0_v29 : Ref sig .tc := ⟨.hbm, 305, rfl⟩
abbrev main_call1_call0_v30 : Ref sig .tc := ⟨.hbm, 306, rfl⟩
abbrev main_call1_call0_c_6 : Ref sig .tc := ⟨.hbm, 307, rfl⟩
abbrev main_call1_call0_v31 : Ref sig .tc := ⟨.hbm, 308, rfl⟩
abbrev main_call1_call0_v32 : Ref sig .tc := ⟨.hbm, 309, rfl⟩
abbrev main_call1_call0_c_7 : Ref sig .tc := ⟨.hbm, 310, rfl⟩
abbrev main_call1_call0_v33 : Ref sig .tc := ⟨.hbm, 311, rfl⟩
abbrev main_call1_call0_v34 : Ref sig .tc := ⟨.hbm, 312, rfl⟩
abbrev main_call1_call0_v35 : Ref sig .tc := ⟨.hbm, 313, rfl⟩
abbrev main_call1_call0_v36 : Ref sig .tc := ⟨.hbm, 314, rfl⟩
abbrev main_call1_call0_v37 : Ref sig .tc := ⟨.hbm, 315, rfl⟩
abbrev main_call1_call0_v38 : Ref sig .tc := ⟨.hbm, 316, rfl⟩
abbrev main_call1_call0_v39 : Ref sig .tc := ⟨.hbm, 317, rfl⟩
abbrev main_call1_call0_v40 : Ref sig .tc := ⟨.hbm, 318, rfl⟩
abbrev main_call1_call0_c_8 : Ref sig .tc := ⟨.hbm, 319, rfl⟩
abbrev main_call1_call0_v41 : Ref sig .tc := ⟨.hbm, 320, rfl⟩
abbrev main_call1_call0_v42 : Ref sig .tc := ⟨.hbm, 321, rfl⟩
abbrev main_call1_call0_v43 : Ref sig .tc := ⟨.hbm, 322, rfl⟩
abbrev main_call1_call0_c_9 : Ref sig .tc := ⟨.hbm, 323, rfl⟩
abbrev main_call1_call0_v44 : Ref sig .tc := ⟨.hbm, 324, rfl⟩
abbrev main_call1_call0_v45 : Ref sig .tc := ⟨.hbm, 325, rfl⟩
abbrev main_call1_call0_c_10 : Ref sig .tc := ⟨.hbm, 326, rfl⟩
abbrev main_call1_call0_v46 : Ref sig .tc := ⟨.hbm, 327, rfl⟩
abbrev main_call1_call0_v47 : Ref sig .tc := ⟨.hbm, 328, rfl⟩
abbrev main_call1_call0_v48 : Ref sig .tc := ⟨.hbm, 329, rfl⟩
abbrev main_call1_call0_v49 : Ref sig .tc := ⟨.hbm, 330, rfl⟩
abbrev main_call1_call0_v50 : Ref sig .tc := ⟨.hbm, 331, rfl⟩
abbrev main_call1_call0_c_11 : Ref sig .tc := ⟨.hbm, 332, rfl⟩
abbrev main_call1_call0_v51 : Ref sig .tc := ⟨.hbm, 333, rfl⟩
abbrev main_call1_call0_v52 : Ref sig .tc := ⟨.hbm, 334, rfl⟩
abbrev main_call1_call0_c_12 : Ref sig .tc := ⟨.hbm, 335, rfl⟩
abbrev main_call1_call0_v53 : Ref sig .tc := ⟨.hbm, 336, rfl⟩
abbrev main_call1_call0_v54 : Ref sig .tc := ⟨.hbm, 337, rfl⟩
abbrev main_call1_call0_v55 : Ref sig .tc := ⟨.hbm, 338, rfl⟩
abbrev main_call1_call0_v56 : Ref sig .tc := ⟨.hbm, 339, rfl⟩
abbrev main_call1_call0_v57 : Ref sig .tc := ⟨.hbm, 340, rfl⟩
abbrev main_call1_call0_c_13 : Ref sig .tc := ⟨.hbm, 341, rfl⟩
abbrev main_call1_call0_v58 : Ref sig .tc := ⟨.hbm, 342, rfl⟩
abbrev main_call1_call0_v59 : Ref sig .tc := ⟨.hbm, 343, rfl⟩
abbrev main_call1_call0_c_14 : Ref sig .tc := ⟨.hbm, 344, rfl⟩
abbrev main_call1_call0_v60 : Ref sig .tc := ⟨.hbm, 345, rfl⟩
abbrev main_call1_call0_v61 : Ref sig .tc := ⟨.hbm, 346, rfl⟩
abbrev main_call1_call0_v62 : Ref sig .tc := ⟨.hbm, 347, rfl⟩
abbrev main_call1_call0_v63 : Ref sig .tc := ⟨.hbm, 348, rfl⟩
abbrev main_call1_call0_v64 : Ref sig .tc := ⟨.hbm, 349, rfl⟩
abbrev main_call1_call0_c_15 : Ref sig .tc := ⟨.hbm, 350, rfl⟩
abbrev main_call1_call0_v65 : Ref sig .tc := ⟨.hbm, 351, rfl⟩
abbrev main_call1_call0_v66 : Ref sig .tc := ⟨.hbm, 352, rfl⟩
abbrev main_call1_call0_c_16 : Ref sig .tc := ⟨.hbm, 353, rfl⟩
abbrev main_call1_call0_v67 : Ref sig .tc := ⟨.hbm, 354, rfl⟩
abbrev main_call1_call0_v68 : Ref sig .tc := ⟨.hbm, 355, rfl⟩
abbrev main_call1_call0_v69 : Ref sig .tc := ⟨.hbm, 356, rfl⟩
abbrev main_call1_call0_v70 : Ref sig .tc := ⟨.hbm, 357, rfl⟩
abbrev main_call1_call0_v71 : Ref sig .tc := ⟨.hbm, 358, rfl⟩
abbrev main_call1_call0_v72 : Ref sig .tc := ⟨.hbm, 359, rfl⟩
abbrev main_call1_call0_v73 : Ref sig .tc := ⟨.hbm, 360, rfl⟩
abbrev main_call1_call0_v74 : Ref sig .tc := ⟨.hbm, 361, rfl⟩
abbrev main_call1_call0_c_17 : Ref sig .tc := ⟨.hbm, 362, rfl⟩
abbrev main_call1_call0_v75 : Ref sig .tc := ⟨.hbm, 363, rfl⟩
abbrev main_call1_call0_v76 : Ref sig .tc := ⟨.hbm, 364, rfl⟩
abbrev main_call1_call0_v77 : Ref sig .tc := ⟨.hbm, 365, rfl⟩
abbrev main_call1_call0_c_18 : Ref sig .tc := ⟨.hbm, 366, rfl⟩
abbrev main_call1_call0_v78 : Ref sig .tc := ⟨.hbm, 367, rfl⟩
abbrev main_call1_call0_v79 : Ref sig .tc := ⟨.hbm, 368, rfl⟩
abbrev main_call1_call0_c_19 : Ref sig .tc := ⟨.hbm, 369, rfl⟩
abbrev main_call1_call0_v80 : Ref sig .tc := ⟨.hbm, 370, rfl⟩
abbrev main_call1_call0_v81 : Ref sig .tc := ⟨.hbm, 371, rfl⟩
abbrev main_call1_call0_v82 : Ref sig .tc := ⟨.hbm, 372, rfl⟩
abbrev main_call1_call0_v83 : Ref sig .tc := ⟨.hbm, 373, rfl⟩
abbrev main_call1_call0_v84 : Ref sig .tc := ⟨.hbm, 374, rfl⟩
abbrev main_call1_call0_c_20 : Ref sig .tc := ⟨.hbm, 375, rfl⟩
abbrev main_call1_call0_v85 : Ref sig .tc := ⟨.hbm, 376, rfl⟩
abbrev main_call1_call0_v86 : Ref sig .tc := ⟨.hbm, 377, rfl⟩
abbrev main_call1_call0_c_21 : Ref sig .tc := ⟨.hbm, 378, rfl⟩
abbrev main_call1_call0_v87 : Ref sig .tc := ⟨.hbm, 379, rfl⟩
abbrev main_call1_call0_v88 : Ref sig .tc := ⟨.hbm, 380, rfl⟩
abbrev main_call1_call0_v89 : Ref sig .tc := ⟨.hbm, 381, rfl⟩
abbrev main_call1_call0_v90 : Ref sig .tc := ⟨.hbm, 382, rfl⟩
abbrev main_call1_call0_v91 : Ref sig .tc := ⟨.hbm, 383, rfl⟩
abbrev main_call1_call0_c_22 : Ref sig .tc := ⟨.hbm, 384, rfl⟩
abbrev main_call1_call0_v92 : Ref sig .tc := ⟨.hbm, 385, rfl⟩
abbrev main_call1_call0_v93 : Ref sig .tc := ⟨.hbm, 386, rfl⟩
abbrev main_call1_call0_c_23 : Ref sig .tc := ⟨.hbm, 387, rfl⟩
abbrev main_call1_call0_v94 : Ref sig .tc := ⟨.hbm, 388, rfl⟩
abbrev main_call1_call0_v95 : Ref sig .tc := ⟨.hbm, 389, rfl⟩
abbrev main_call1_call0_v96 : Ref sig .tc := ⟨.hbm, 390, rfl⟩
abbrev main_call1_call0_v97 : Ref sig .tc := ⟨.hbm, 391, rfl⟩
abbrev main_call1_call0_v98 : Ref sig .tc := ⟨.hbm, 392, rfl⟩
abbrev main_call1_call0_c_24 : Ref sig .tc := ⟨.hbm, 393, rfl⟩
abbrev main_call1_call0_v99 : Ref sig .tc := ⟨.hbm, 394, rfl⟩
abbrev main_call1_call0_v100 : Ref sig .tc := ⟨.hbm, 395, rfl⟩
abbrev main_call1_call0_c_25 : Ref sig .tc := ⟨.hbm, 396, rfl⟩
abbrev main_call1_call0_v101 : Ref sig .tc := ⟨.hbm, 397, rfl⟩
abbrev main_call1_call0_v102 : Ref sig .tc := ⟨.hbm, 398, rfl⟩
abbrev main_call1_call0_v103 : Ref sig .tc := ⟨.hbm, 399, rfl⟩
abbrev main_call1_call0_v104 : Ref sig .tc := ⟨.hbm, 400, rfl⟩
abbrev main_call1_call0_v105 : Ref sig .tc := ⟨.hbm, 401, rfl⟩
abbrev main_call1_call0_v106 : Ref sig .tc := ⟨.hbm, 402, rfl⟩
abbrev main_call1_call0_v107 : Ref sig .tc := ⟨.hbm, 403, rfl⟩
abbrev main_call1_call0_v108 : Ref sig .tc := ⟨.hbm, 404, rfl⟩
abbrev main_call1_call0_c_26 : Ref sig .tc := ⟨.hbm, 405, rfl⟩
abbrev main_call1_call0_v109 : Ref sig .tc := ⟨.hbm, 406, rfl⟩
abbrev main_call1_call0_v110 : Ref sig .tc := ⟨.hbm, 407, rfl⟩
abbrev main_call1_call0_v111 : Ref sig .tc := ⟨.hbm, 408, rfl⟩
abbrev main_call1_call0_c_27 : Ref sig .tc := ⟨.hbm, 409, rfl⟩
abbrev main_call1_call0_v112 : Ref sig .tc := ⟨.hbm, 410, rfl⟩
abbrev main_call1_call0_v113 : Ref sig .tc := ⟨.hbm, 411, rfl⟩
abbrev main_call1_call0_c_28 : Ref sig .tc := ⟨.hbm, 412, rfl⟩
abbrev main_call1_call0_v114 : Ref sig .tc := ⟨.hbm, 413, rfl⟩
abbrev main_call1_call0_v115 : Ref sig .tc := ⟨.hbm, 414, rfl⟩
abbrev main_call1_call0_v116 : Ref sig .tc := ⟨.hbm, 415, rfl⟩
abbrev main_call1_call0_v117 : Ref sig .tc := ⟨.hbm, 416, rfl⟩
abbrev main_call1_call0_v118 : Ref sig .tc := ⟨.hbm, 417, rfl⟩
abbrev main_call1_call0_c_29 : Ref sig .tc := ⟨.hbm, 418, rfl⟩
abbrev main_call1_call0_v119 : Ref sig .tc := ⟨.hbm, 419, rfl⟩
abbrev main_call1_call0_v120 : Ref sig .tc := ⟨.hbm, 420, rfl⟩
abbrev main_call1_call0_c_30 : Ref sig .tc := ⟨.hbm, 421, rfl⟩
abbrev main_call1_call0_v121 : Ref sig .tc := ⟨.hbm, 422, rfl⟩
abbrev main_call1_call0_v122 : Ref sig .tc := ⟨.hbm, 423, rfl⟩
abbrev main_call1_call0_v123 : Ref sig .tc := ⟨.hbm, 424, rfl⟩
abbrev main_call1_call0_v124 : Ref sig .tc := ⟨.hbm, 425, rfl⟩
abbrev main_call1_call0_v125 : Ref sig .tc := ⟨.hbm, 426, rfl⟩
abbrev main_call1_call0_c_31 : Ref sig .tc := ⟨.hbm, 427, rfl⟩
abbrev main_call1_call0_v126 : Ref sig .tc := ⟨.hbm, 428, rfl⟩
abbrev main_call1_call0_v127 : Ref sig .tc := ⟨.hbm, 429, rfl⟩
abbrev main_call1_call0_c_32 : Ref sig .tc := ⟨.hbm, 430, rfl⟩
abbrev main_call1_call0_v128 : Ref sig .tc := ⟨.hbm, 431, rfl⟩
abbrev main_call1_call0_v129 : Ref sig .tc := ⟨.hbm, 432, rfl⟩
abbrev main_call1_call0_v130 : Ref sig .tc := ⟨.hbm, 433, rfl⟩
abbrev main_call1_call0_v131 : Ref sig .tc := ⟨.hbm, 434, rfl⟩
abbrev main_call1_call0_v132 : Ref sig .tc := ⟨.hbm, 435, rfl⟩
abbrev main_call1_call0_c_33 : Ref sig .tc := ⟨.hbm, 436, rfl⟩
abbrev main_call1_call0_v133 : Ref sig .tc := ⟨.hbm, 437, rfl⟩
abbrev main_call1_call0_v134 : Ref sig .tc := ⟨.hbm, 438, rfl⟩
abbrev main_call1_call0_c_34 : Ref sig .tc := ⟨.hbm, 439, rfl⟩
abbrev main_call1_call0_v135 : Ref sig .tc := ⟨.hbm, 440, rfl⟩
abbrev main_call1_call0_v136 : Ref sig .tc := ⟨.hbm, 441, rfl⟩
abbrev main_call1_call0_v137 : Ref sig .tc := ⟨.hbm, 442, rfl⟩
abbrev main_call1_call0_v138 : Ref sig .tc := ⟨.hbm, 443, rfl⟩
abbrev main_call1_call0_v139 : Ref sig .tc := ⟨.hbm, 444, rfl⟩
abbrev main_call1_call0_v140 : Ref sig .tc := ⟨.hbm, 445, rfl⟩
abbrev main_call1_call0_v141 : Ref sig .tc := ⟨.hbm, 446, rfl⟩
abbrev main_call1_call0_v142 : Ref sig .tc := ⟨.hbm, 447, rfl⟩
abbrev main_call1_call0_c_35 : Ref sig .tc := ⟨.hbm, 448, rfl⟩
abbrev main_call1_call0_v143 : Ref sig .tc := ⟨.hbm, 449, rfl⟩
abbrev main_call1_call0_v144 : Ref sig .tc := ⟨.hbm, 450, rfl⟩
abbrev main_call1_call0_v145 : Ref sig .tc := ⟨.hbm, 451, rfl⟩
abbrev main_call1_call0_c_36 : Ref sig .tc := ⟨.hbm, 452, rfl⟩
abbrev main_call1_call0_v146 : Ref sig .tc := ⟨.hbm, 453, rfl⟩
abbrev main_call1_call0_v147 : Ref sig .tc := ⟨.hbm, 454, rfl⟩
abbrev main_call1_call0_c_37 : Ref sig .tc := ⟨.hbm, 455, rfl⟩
abbrev main_call1_call0_v148 : Ref sig .tc := ⟨.hbm, 456, rfl⟩
abbrev main_call1_call0_v149 : Ref sig .tc := ⟨.hbm, 457, rfl⟩
abbrev main_call1_call0_v150 : Ref sig .tc := ⟨.hbm, 458, rfl⟩
abbrev main_call1_call0_v151 : Ref sig .tc := ⟨.hbm, 459, rfl⟩
abbrev main_call1_call0_v152 : Ref sig .tc := ⟨.hbm, 460, rfl⟩
abbrev main_call1_call0_c_38 : Ref sig .tc := ⟨.hbm, 461, rfl⟩
abbrev main_call1_call0_v153 : Ref sig .tc := ⟨.hbm, 462, rfl⟩
abbrev main_call1_call0_v154 : Ref sig .tc := ⟨.hbm, 463, rfl⟩
abbrev main_call1_call0_c_39 : Ref sig .tc := ⟨.hbm, 464, rfl⟩
abbrev main_call1_call0_v155 : Ref sig .tc := ⟨.hbm, 465, rfl⟩
abbrev main_call1_call0_v156 : Ref sig .tc := ⟨.hbm, 466, rfl⟩
abbrev main_call1_call0_v157 : Ref sig .tc := ⟨.hbm, 467, rfl⟩
abbrev main_call1_call0_v158 : Ref sig .tc := ⟨.hbm, 468, rfl⟩
abbrev main_call1_call0_v159 : Ref sig .tc := ⟨.hbm, 469, rfl⟩
abbrev main_call1_call0_c_40 : Ref sig .tc := ⟨.hbm, 470, rfl⟩
abbrev main_call1_call0_v160 : Ref sig .tc := ⟨.hbm, 471, rfl⟩
abbrev main_call1_call0_v161 : Ref sig .tc := ⟨.hbm, 472, rfl⟩
abbrev main_call1_call0_c_41 : Ref sig .tc := ⟨.hbm, 473, rfl⟩
abbrev main_call1_call0_v162 : Ref sig .tc := ⟨.hbm, 474, rfl⟩
abbrev main_call1_call0_v163 : Ref sig .tc := ⟨.hbm, 475, rfl⟩
abbrev main_call1_call0_v164 : Ref sig .tc := ⟨.hbm, 476, rfl⟩
abbrev main_call1_call0_v165 : Ref sig .tc := ⟨.hbm, 477, rfl⟩
abbrev main_call1_call0_v166 : Ref sig .tc := ⟨.hbm, 478, rfl⟩
abbrev main_call1_call0_c_42 : Ref sig .tc := ⟨.hbm, 479, rfl⟩
abbrev main_call1_call0_v167 : Ref sig .tc := ⟨.hbm, 480, rfl⟩
abbrev main_call1_call0_v168 : Ref sig .tc := ⟨.hbm, 481, rfl⟩
abbrev main_call1_call0_c_43 : Ref sig .tc := ⟨.hbm, 482, rfl⟩
abbrev main_call1_call0_v169 : Ref sig .tc := ⟨.hbm, 483, rfl⟩
abbrev main_call1_call0_v170 : Ref sig .tc := ⟨.hbm, 484, rfl⟩
abbrev main_call1_call0_v171 : Ref sig .tc := ⟨.hbm, 485, rfl⟩
abbrev main_call1_call0_v172 : Ref sig .tc := ⟨.hbm, 486, rfl⟩
abbrev main_call1_call0_v173 : Ref sig .tc := ⟨.hbm, 487, rfl⟩
abbrev main_call1_v15_0 : Ref sig .tc := ⟨.hbm, 488, rfl⟩
abbrev main_call1_call0_v175 : Ref sig .tc := ⟨.hbm, 489, rfl⟩
abbrev main_call1_call0_v176 : Ref sig .tc := ⟨.hbm, 490, rfl⟩
abbrev main_call1_call0_c_44 : Ref sig .tc := ⟨.hbm, 491, rfl⟩
abbrev main_call1_call0_v177 : Ref sig .tc := ⟨.hbm, 492, rfl⟩
abbrev main_call1_v15_1 : Ref sig .tc := ⟨.hbm, 493, rfl⟩
abbrev main_call1_v16 : Ref sig .tc := ⟨.hbm, 494, rfl⟩
abbrev main_call1_v17 : Ref sig .tc := ⟨.hbm, 495, rfl⟩
abbrev main_v10 : Ref sig .tc := ⟨.hbm, 496, rfl⟩
abbrev main_v11 : Ref sig .tc := ⟨.hbm, 497, rfl⟩
abbrev main_v12 : Ref sig .tc := ⟨.hbm, 498, rfl⟩
abbrev main_v13 : Ref sig .tc := ⟨.hbm, 499, rfl⟩
abbrev main_v14 : Ref sig .tc := ⟨.hbm, 500, rfl⟩
abbrev main_v15 : Ref sig .tc := ⟨.hbm, 501, rfl⟩
abbrev main_v16 : Ref sig .tc := ⟨.hbm, 502, rfl⟩
abbrev main_v17 : Ref sig .tc := ⟨.hbm, 503, rfl⟩
abbrev main_v18 : Ref sig .tc := ⟨.hbm, 504, rfl⟩
abbrev main_cst : Ref sig .tc := ⟨.hbm, 505, rfl⟩
abbrev main_cst_2 : Ref sig .tc := ⟨.hbm, 506, rfl⟩
abbrev main_call2_v0 : Ref sig .tc := ⟨.hbm, 507, rfl⟩
abbrev main_call2_v1 : Ref sig .tc := ⟨.hbm, 508, rfl⟩
abbrev main_call2_v2 : Ref sig .tc := ⟨.hbm, 509, rfl⟩
abbrev main_call2_v3 : Ref sig .tc := ⟨.hbm, 510, rfl⟩
abbrev main_call2_v4 : Ref sig .tc := ⟨.hbm, 511, rfl⟩
abbrev main_call2_v5 : Ref sig .tc := ⟨.hbm, 512, rfl⟩
abbrev main_call2_c : Ref sig .tc := ⟨.hbm, 513, rfl⟩
abbrev main_call2_c_0 : Ref sig .tc := ⟨.hbm, 514, rfl⟩
abbrev main_call2_call0_v0 : Ref sig .tc := ⟨.hbm, 515, rfl⟩
abbrev main_call2_call0_c : Ref sig .tc := ⟨.hbm, 516, rfl⟩
abbrev main_call2_call0_v1 : Ref sig .tc := ⟨.hbm, 517, rfl⟩
abbrev main_call2_call0_v2 : Ref sig .tc := ⟨.hbm, 518, rfl⟩
abbrev main_call2_call0_v3 : Ref sig .tc := ⟨.hbm, 519, rfl⟩
abbrev main_call2_call0_v4 : Ref sig .tc := ⟨.hbm, 520, rfl⟩
abbrev main_call2_call0_v5 : Ref sig .tc := ⟨.hbm, 521, rfl⟩
abbrev main_call2_call0_v6 : Ref sig .tc := ⟨.hbm, 522, rfl⟩
abbrev main_call2_call0_v7 : Ref sig .tc := ⟨.hbm, 523, rfl⟩
abbrev main_call2_call0_c_0 : Ref sig .tc := ⟨.hbm, 524, rfl⟩
abbrev main_call2_call0_v8 : Ref sig .tc := ⟨.hbm, 525, rfl⟩
abbrev main_call2_call0_v9 : Ref sig .tc := ⟨.hbm, 526, rfl⟩
abbrev main_call2_call0_c_1 : Ref sig .tc := ⟨.hbm, 527, rfl⟩
abbrev main_call2_call0_v10 : Ref sig .tc := ⟨.hbm, 528, rfl⟩
abbrev main_call2_call0_v11 : Ref sig .tc := ⟨.hbm, 529, rfl⟩
abbrev main_call2_call0_v12 : Ref sig .tc := ⟨.hbm, 530, rfl⟩
abbrev main_call2_call0_v13 : Ref sig .tc := ⟨.hbm, 531, rfl⟩
abbrev main_call2_call0_v14 : Ref sig .tc := ⟨.hbm, 532, rfl⟩
abbrev main_call2_call0_c_2 : Ref sig .tc := ⟨.hbm, 533, rfl⟩
abbrev main_call2_call0_v15 : Ref sig .tc := ⟨.hbm, 534, rfl⟩
abbrev main_call2_call0_v16 : Ref sig .tc := ⟨.hbm, 535, rfl⟩
abbrev main_call2_call0_c_3 : Ref sig .tc := ⟨.hbm, 536, rfl⟩
abbrev main_call2_call0_v17 : Ref sig .tc := ⟨.hbm, 537, rfl⟩
abbrev main_call2_call0_v18 : Ref sig .tc := ⟨.hbm, 538, rfl⟩
abbrev main_call2_call0_v19 : Ref sig .tc := ⟨.hbm, 539, rfl⟩
abbrev main_call2_call0_v20 : Ref sig .tc := ⟨.hbm, 540, rfl⟩
abbrev main_call2_call0_v21 : Ref sig .tc := ⟨.hbm, 541, rfl⟩
abbrev main_call2_call0_c_4 : Ref sig .tc := ⟨.hbm, 542, rfl⟩
abbrev main_call2_call0_v22 : Ref sig .tc := ⟨.hbm, 543, rfl⟩
abbrev main_call2_call0_v23 : Ref sig .tc := ⟨.hbm, 544, rfl⟩
abbrev main_call2_call0_c_5 : Ref sig .tc := ⟨.hbm, 545, rfl⟩
abbrev main_call2_call0_v24 : Ref sig .tc := ⟨.hbm, 546, rfl⟩
abbrev main_call2_call0_v25 : Ref sig .tc := ⟨.hbm, 547, rfl⟩
abbrev main_call2_call0_v26 : Ref sig .tc := ⟨.hbm, 548, rfl⟩
abbrev main_call2_call0_v27 : Ref sig .tc := ⟨.hbm, 549, rfl⟩
abbrev main_call2_call0_v28 : Ref sig .tc := ⟨.hbm, 550, rfl⟩
abbrev main_call2_call0_c_6 : Ref sig .tc := ⟨.hbm, 551, rfl⟩
abbrev main_call2_call0_v29 : Ref sig .tc := ⟨.hbm, 552, rfl⟩
abbrev main_call2_call0_v30 : Ref sig .tc := ⟨.hbm, 553, rfl⟩
abbrev main_call2_call0_c_7 : Ref sig .tc := ⟨.hbm, 554, rfl⟩
abbrev main_call2_call0_v31 : Ref sig .tc := ⟨.hbm, 555, rfl⟩
abbrev main_call2_call0_v32 : Ref sig .tc := ⟨.hbm, 556, rfl⟩
abbrev main_call2_call0_v33 : Ref sig .tc := ⟨.hbm, 557, rfl⟩
abbrev main_call2_call0_v34 : Ref sig .tc := ⟨.hbm, 558, rfl⟩
abbrev main_call2_call0_v35 : Ref sig .tc := ⟨.hbm, 559, rfl⟩
abbrev main_call2_call0_v36 : Ref sig .tc := ⟨.hbm, 560, rfl⟩
abbrev main_call2_call0_c_8 : Ref sig .tc := ⟨.hbm, 561, rfl⟩
abbrev main_call2_call0_v37 : Ref sig .tc := ⟨.hbm, 562, rfl⟩
abbrev main_call2_call0_v38 : Ref sig .tc := ⟨.hbm, 563, rfl⟩
abbrev main_call2_call0_v39 : Ref sig .tc := ⟨.hbm, 564, rfl⟩
abbrev main_call2_call0_c_9 : Ref sig .tc := ⟨.hbm, 565, rfl⟩
abbrev main_call2_call0_v40 : Ref sig .tc := ⟨.hbm, 566, rfl⟩
abbrev main_call2_call0_v41 : Ref sig .tc := ⟨.hbm, 567, rfl⟩
abbrev main_call2_call0_c_10 : Ref sig .tc := ⟨.hbm, 568, rfl⟩
abbrev main_call2_call0_v42 : Ref sig .tc := ⟨.hbm, 569, rfl⟩
abbrev main_call2_call0_v43 : Ref sig .tc := ⟨.hbm, 570, rfl⟩
abbrev main_call2_call0_v44 : Ref sig .tc := ⟨.hbm, 571, rfl⟩
abbrev main_call2_call0_v45 : Ref sig .tc := ⟨.hbm, 572, rfl⟩
abbrev main_call2_call0_v46 : Ref sig .tc := ⟨.hbm, 573, rfl⟩
abbrev main_call2_call0_c_11 : Ref sig .tc := ⟨.hbm, 574, rfl⟩
abbrev main_call2_call0_v47 : Ref sig .tc := ⟨.hbm, 575, rfl⟩
abbrev main_call2_call0_v48 : Ref sig .tc := ⟨.hbm, 576, rfl⟩
abbrev main_call2_call0_c_12 : Ref sig .tc := ⟨.hbm, 577, rfl⟩
abbrev main_call2_call0_v49 : Ref sig .tc := ⟨.hbm, 578, rfl⟩
abbrev main_call2_call0_v50 : Ref sig .tc := ⟨.hbm, 579, rfl⟩
abbrev main_call2_call0_v51 : Ref sig .tc := ⟨.hbm, 580, rfl⟩
abbrev main_call2_call0_v52 : Ref sig .tc := ⟨.hbm, 581, rfl⟩
abbrev main_call2_call0_v53 : Ref sig .tc := ⟨.hbm, 582, rfl⟩
abbrev main_call2_call0_c_13 : Ref sig .tc := ⟨.hbm, 583, rfl⟩
abbrev main_call2_call0_v54 : Ref sig .tc := ⟨.hbm, 584, rfl⟩
abbrev main_call2_call0_v55 : Ref sig .tc := ⟨.hbm, 585, rfl⟩
abbrev main_call2_call0_c_14 : Ref sig .tc := ⟨.hbm, 586, rfl⟩
abbrev main_call2_call0_v56 : Ref sig .tc := ⟨.hbm, 587, rfl⟩
abbrev main_call2_call0_v57 : Ref sig .tc := ⟨.hbm, 588, rfl⟩
abbrev main_call2_call0_v58 : Ref sig .tc := ⟨.hbm, 589, rfl⟩
abbrev main_call2_call0_v59 : Ref sig .tc := ⟨.hbm, 590, rfl⟩
abbrev main_call2_call0_v60 : Ref sig .tc := ⟨.hbm, 591, rfl⟩
abbrev main_call2_call0_c_15 : Ref sig .tc := ⟨.hbm, 592, rfl⟩
abbrev main_call2_call0_v61 : Ref sig .tc := ⟨.hbm, 593, rfl⟩
abbrev main_call2_call0_v62 : Ref sig .tc := ⟨.hbm, 594, rfl⟩
abbrev main_call2_call0_c_16 : Ref sig .tc := ⟨.hbm, 595, rfl⟩
abbrev main_call2_call0_v63 : Ref sig .tc := ⟨.hbm, 596, rfl⟩
abbrev main_call2_call0_v64 : Ref sig .tc := ⟨.hbm, 597, rfl⟩
abbrev main_call2_call0_v65 : Ref sig .tc := ⟨.hbm, 598, rfl⟩
abbrev main_call2_call0_v66 : Ref sig .tc := ⟨.hbm, 599, rfl⟩
abbrev main_call2_call0_v67 : Ref sig .tc := ⟨.hbm, 600, rfl⟩
abbrev main_call2_call0_v68 : Ref sig .tc := ⟨.hbm, 601, rfl⟩
abbrev main_call2_call0_c_17 : Ref sig .tc := ⟨.hbm, 602, rfl⟩
abbrev main_call2_call0_v69 : Ref sig .tc := ⟨.hbm, 603, rfl⟩
abbrev main_call2_call0_v70 : Ref sig .tc := ⟨.hbm, 604, rfl⟩
abbrev main_call2_call0_v71 : Ref sig .tc := ⟨.hbm, 605, rfl⟩
abbrev main_call2_call0_c_18 : Ref sig .tc := ⟨.hbm, 606, rfl⟩
abbrev main_call2_call0_v72 : Ref sig .tc := ⟨.hbm, 607, rfl⟩
abbrev main_call2_call0_v73 : Ref sig .tc := ⟨.hbm, 608, rfl⟩
abbrev main_call2_call0_c_19 : Ref sig .tc := ⟨.hbm, 609, rfl⟩
abbrev main_call2_call0_v74 : Ref sig .tc := ⟨.hbm, 610, rfl⟩
abbrev main_call2_call0_v75 : Ref sig .tc := ⟨.hbm, 611, rfl⟩
abbrev main_call2_call0_v76 : Ref sig .tc := ⟨.hbm, 612, rfl⟩
abbrev main_call2_call0_v77 : Ref sig .tc := ⟨.hbm, 613, rfl⟩
abbrev main_call2_call0_v78 : Ref sig .tc := ⟨.hbm, 614, rfl⟩
abbrev main_call2_call0_c_20 : Ref sig .tc := ⟨.hbm, 615, rfl⟩
abbrev main_call2_call0_v79 : Ref sig .tc := ⟨.hbm, 616, rfl⟩
abbrev main_call2_call0_v80 : Ref sig .tc := ⟨.hbm, 617, rfl⟩
abbrev main_call2_call0_c_21 : Ref sig .tc := ⟨.hbm, 618, rfl⟩
abbrev main_call2_call0_v81 : Ref sig .tc := ⟨.hbm, 619, rfl⟩
abbrev main_call2_call0_v82 : Ref sig .tc := ⟨.hbm, 620, rfl⟩
abbrev main_call2_call0_v83 : Ref sig .tc := ⟨.hbm, 621, rfl⟩
abbrev main_call2_call0_v84 : Ref sig .tc := ⟨.hbm, 622, rfl⟩
abbrev main_call2_call0_v85 : Ref sig .tc := ⟨.hbm, 623, rfl⟩
abbrev main_call2_call0_c_22 : Ref sig .tc := ⟨.hbm, 624, rfl⟩
abbrev main_call2_call0_v86 : Ref sig .tc := ⟨.hbm, 625, rfl⟩
abbrev main_call2_call0_v87 : Ref sig .tc := ⟨.hbm, 626, rfl⟩
abbrev main_call2_call0_c_23 : Ref sig .tc := ⟨.hbm, 627, rfl⟩
abbrev main_call2_call0_v88 : Ref sig .tc := ⟨.hbm, 628, rfl⟩
abbrev main_call2_call0_v89 : Ref sig .tc := ⟨.hbm, 629, rfl⟩
abbrev main_call2_call0_v90 : Ref sig .tc := ⟨.hbm, 630, rfl⟩
abbrev main_call2_call0_v91 : Ref sig .tc := ⟨.hbm, 631, rfl⟩
abbrev main_call2_call0_v92 : Ref sig .tc := ⟨.hbm, 632, rfl⟩
abbrev main_call2_call0_c_24 : Ref sig .tc := ⟨.hbm, 633, rfl⟩
abbrev main_call2_call0_v93 : Ref sig .tc := ⟨.hbm, 634, rfl⟩
abbrev main_call2_call0_v94 : Ref sig .tc := ⟨.hbm, 635, rfl⟩
abbrev main_call2_call0_c_25 : Ref sig .tc := ⟨.hbm, 636, rfl⟩
abbrev main_call2_call0_v95 : Ref sig .tc := ⟨.hbm, 637, rfl⟩
abbrev main_call2_call0_v96 : Ref sig .tc := ⟨.hbm, 638, rfl⟩
abbrev main_call2_call0_v97 : Ref sig .tc := ⟨.hbm, 639, rfl⟩
abbrev main_call2_call0_v98 : Ref sig .tc := ⟨.hbm, 640, rfl⟩
abbrev main_call2_call0_v99 : Ref sig .tc := ⟨.hbm, 641, rfl⟩
abbrev main_call2_call0_v100 : Ref sig .tc := ⟨.hbm, 642, rfl⟩
abbrev main_call2_call0_c_26 : Ref sig .tc := ⟨.hbm, 643, rfl⟩
abbrev main_call2_call0_v101 : Ref sig .tc := ⟨.hbm, 644, rfl⟩
abbrev main_call2_call0_v102 : Ref sig .tc := ⟨.hbm, 645, rfl⟩
abbrev main_call2_call0_v103 : Ref sig .tc := ⟨.hbm, 646, rfl⟩
abbrev main_call2_call0_c_27 : Ref sig .tc := ⟨.hbm, 647, rfl⟩
abbrev main_call2_call0_v104 : Ref sig .tc := ⟨.hbm, 648, rfl⟩
abbrev main_call2_call0_v105 : Ref sig .tc := ⟨.hbm, 649, rfl⟩
abbrev main_call2_call0_c_28 : Ref sig .tc := ⟨.hbm, 650, rfl⟩
abbrev main_call2_call0_v106 : Ref sig .tc := ⟨.hbm, 651, rfl⟩
abbrev main_call2_call0_v107 : Ref sig .tc := ⟨.hbm, 652, rfl⟩
abbrev main_call2_call0_v108 : Ref sig .tc := ⟨.hbm, 653, rfl⟩
abbrev main_call2_call0_v109 : Ref sig .tc := ⟨.hbm, 654, rfl⟩
abbrev main_call2_call0_v110 : Ref sig .tc := ⟨.hbm, 655, rfl⟩
abbrev main_call2_call0_c_29 : Ref sig .tc := ⟨.hbm, 656, rfl⟩
abbrev main_call2_call0_v111 : Ref sig .tc := ⟨.hbm, 657, rfl⟩
abbrev main_call2_call0_v112 : Ref sig .tc := ⟨.hbm, 658, rfl⟩
abbrev main_call2_call0_c_30 : Ref sig .tc := ⟨.hbm, 659, rfl⟩
abbrev main_call2_call0_v113 : Ref sig .tc := ⟨.hbm, 660, rfl⟩
abbrev main_call2_call0_v114 : Ref sig .tc := ⟨.hbm, 661, rfl⟩
abbrev main_call2_call0_v115 : Ref sig .tc := ⟨.hbm, 662, rfl⟩
abbrev main_call2_call0_v116 : Ref sig .tc := ⟨.hbm, 663, rfl⟩
abbrev main_call2_call0_v117 : Ref sig .tc := ⟨.hbm, 664, rfl⟩
abbrev main_call2_call0_c_31 : Ref sig .tc := ⟨.hbm, 665, rfl⟩
abbrev main_call2_call0_v118 : Ref sig .tc := ⟨.hbm, 666, rfl⟩
abbrev main_call2_call0_v119 : Ref sig .tc := ⟨.hbm, 667, rfl⟩
abbrev main_call2_call0_c_32 : Ref sig .tc := ⟨.hbm, 668, rfl⟩
abbrev main_call2_call0_v120 : Ref sig .tc := ⟨.hbm, 669, rfl⟩
abbrev main_call2_call0_v121 : Ref sig .tc := ⟨.hbm, 670, rfl⟩
abbrev main_call2_call0_v122 : Ref sig .tc := ⟨.hbm, 671, rfl⟩
abbrev main_call2_call0_v123 : Ref sig .tc := ⟨.hbm, 672, rfl⟩
abbrev main_call2_call0_v124 : Ref sig .tc := ⟨.hbm, 673, rfl⟩
abbrev main_call2_call0_c_33 : Ref sig .tc := ⟨.hbm, 674, rfl⟩
abbrev main_call2_call0_v125 : Ref sig .tc := ⟨.hbm, 675, rfl⟩
abbrev main_call2_call0_v126 : Ref sig .tc := ⟨.hbm, 676, rfl⟩
abbrev main_call2_call0_c_34 : Ref sig .tc := ⟨.hbm, 677, rfl⟩
abbrev main_call2_call0_v127 : Ref sig .tc := ⟨.hbm, 678, rfl⟩
abbrev main_call2_call0_v128 : Ref sig .tc := ⟨.hbm, 679, rfl⟩
abbrev main_call2_call0_v129 : Ref sig .tc := ⟨.hbm, 680, rfl⟩
abbrev main_call2_call0_v130 : Ref sig .tc := ⟨.hbm, 681, rfl⟩
abbrev main_call2_call0_v131 : Ref sig .tc := ⟨.hbm, 682, rfl⟩
abbrev main_call2_call0_v132 : Ref sig .tc := ⟨.hbm, 683, rfl⟩
abbrev main_call2_call0_c_35 : Ref sig .tc := ⟨.hbm, 684, rfl⟩
abbrev main_call2_call0_v133 : Ref sig .tc := ⟨.hbm, 685, rfl⟩
abbrev main_call2_call0_v134 : Ref sig .tc := ⟨.hbm, 686, rfl⟩
abbrev main_call2_call0_v135 : Ref sig .tc := ⟨.hbm, 687, rfl⟩
abbrev main_call2_call0_c_36 : Ref sig .tc := ⟨.hbm, 688, rfl⟩
abbrev main_call2_call0_v136 : Ref sig .tc := ⟨.hbm, 689, rfl⟩
abbrev main_call2_call0_v137 : Ref sig .tc := ⟨.hbm, 690, rfl⟩
abbrev main_call2_call0_c_37 : Ref sig .tc := ⟨.hbm, 691, rfl⟩
abbrev main_call2_call0_v138 : Ref sig .tc := ⟨.hbm, 692, rfl⟩
abbrev main_call2_call0_v139 : Ref sig .tc := ⟨.hbm, 693, rfl⟩
abbrev main_call2_call0_v140 : Ref sig .tc := ⟨.hbm, 694, rfl⟩
abbrev main_call2_call0_v141 : Ref sig .tc := ⟨.hbm, 695, rfl⟩
abbrev main_call2_call0_v142 : Ref sig .tc := ⟨.hbm, 696, rfl⟩
abbrev main_call2_call0_c_38 : Ref sig .tc := ⟨.hbm, 697, rfl⟩
abbrev main_call2_call0_v143 : Ref sig .tc := ⟨.hbm, 698, rfl⟩
abbrev main_call2_call0_v144 : Ref sig .tc := ⟨.hbm, 699, rfl⟩
abbrev main_call2_call0_c_39 : Ref sig .tc := ⟨.hbm, 700, rfl⟩
abbrev main_call2_call0_v145 : Ref sig .tc := ⟨.hbm, 701, rfl⟩
abbrev main_call2_call0_v146 : Ref sig .tc := ⟨.hbm, 702, rfl⟩
abbrev main_call2_call0_v147 : Ref sig .tc := ⟨.hbm, 703, rfl⟩
abbrev main_call2_call0_v148 : Ref sig .tc := ⟨.hbm, 704, rfl⟩
abbrev main_call2_call0_v149 : Ref sig .tc := ⟨.hbm, 705, rfl⟩
abbrev main_call2_call0_c_40 : Ref sig .tc := ⟨.hbm, 706, rfl⟩
abbrev main_call2_call0_v150 : Ref sig .tc := ⟨.hbm, 707, rfl⟩
abbrev main_call2_call0_v151 : Ref sig .tc := ⟨.hbm, 708, rfl⟩
abbrev main_call2_call0_c_41 : Ref sig .tc := ⟨.hbm, 709, rfl⟩
abbrev main_call2_call0_v152 : Ref sig .tc := ⟨.hbm, 710, rfl⟩
abbrev main_call2_call0_v153 : Ref sig .tc := ⟨.hbm, 711, rfl⟩
abbrev main_call2_call0_v154 : Ref sig .tc := ⟨.hbm, 712, rfl⟩
abbrev main_call2_call0_v155 : Ref sig .tc := ⟨.hbm, 713, rfl⟩
abbrev main_call2_call0_v156 : Ref sig .tc := ⟨.hbm, 714, rfl⟩
abbrev main_call2_call0_c_42 : Ref sig .tc := ⟨.hbm, 715, rfl⟩
abbrev main_call2_call0_v157 : Ref sig .tc := ⟨.hbm, 716, rfl⟩
abbrev main_call2_call0_v158 : Ref sig .tc := ⟨.hbm, 717, rfl⟩
abbrev main_call2_call0_c_43 : Ref sig .tc := ⟨.hbm, 718, rfl⟩
abbrev main_call2_call0_v159 : Ref sig .tc := ⟨.hbm, 719, rfl⟩
abbrev main_call2_call0_v160 : Ref sig .tc := ⟨.hbm, 720, rfl⟩
abbrev main_call2_call0_v161 : Ref sig .tc := ⟨.hbm, 721, rfl⟩
abbrev main_call2_call0_v162 : Ref sig .tc := ⟨.hbm, 722, rfl⟩
abbrev main_call2_v6_0 : Ref sig .tc := ⟨.hbm, 723, rfl⟩
abbrev main_call2_call0_v164 : Ref sig .tc := ⟨.hbm, 724, rfl⟩
abbrev main_call2_call0_c_44 : Ref sig .tc := ⟨.hbm, 725, rfl⟩
abbrev main_call2_call0_v165 : Ref sig .tc := ⟨.hbm, 726, rfl⟩
abbrev main_call2_v6_1 : Ref sig .tc := ⟨.hbm, 727, rfl⟩
abbrev main_call2_v7 : Ref sig .tc := ⟨.hbm, 728, rfl⟩
abbrev main_call2_c_1 : Ref sig .tc := ⟨.hbm, 729, rfl⟩
abbrev main_call2_v8 : Ref sig .tc := ⟨.hbm, 730, rfl⟩
abbrev main_call2_v9 : Ref sig .tc := ⟨.hbm, 731, rfl⟩
abbrev main_call2_c_2 : Ref sig .tc := ⟨.hbm, 732, rfl⟩
abbrev main_call2_v10 : Ref sig .tc := ⟨.hbm, 733, rfl⟩
abbrev main_call2_v11 : Ref sig .tc := ⟨.hbm, 734, rfl⟩
abbrev main_call2_v12 : Ref sig .tc := ⟨.hbm, 735, rfl⟩
abbrev main_call2_cst : Ref sig .tc := ⟨.hbm, 736, rfl⟩
abbrev main_call2_v13 : Ref sig .tc := ⟨.hbm, 737, rfl⟩
abbrev main_call2_v14 : Ref sig .tc := ⟨.hbm, 738, rfl⟩
abbrev main_call2_v15 : Ref sig .tc := ⟨.hbm, 739, rfl⟩
abbrev main_call2_v16 : Ref sig .tc := ⟨.hbm, 740, rfl⟩
abbrev main_call2_v17 : Ref sig .tc := ⟨.hbm, 741, rfl⟩
abbrev main_call2_v18 : Ref sig .tc := ⟨.hbm, 742, rfl⟩
abbrev main_call2_v19 : Ref sig .tc := ⟨.hbm, 743, rfl⟩
abbrev main_call2_v20 : Ref sig .tc := ⟨.hbm, 744, rfl⟩
abbrev main_v19 : Ref sig .tc := ⟨.hbm, 745, rfl⟩
abbrev main_cst_3 : Ref sig .tc := ⟨.hbm, 746, rfl⟩
abbrev main_cst_4 : Ref sig .tc := ⟨.hbm, 747, rfl⟩
abbrev main_call3_v0 : Ref sig .tc := ⟨.hbm, 748, rfl⟩
abbrev main_call3_v1 : Ref sig .tc := ⟨.hbm, 749, rfl⟩
abbrev main_call3_v2 : Ref sig .tc := ⟨.hbm, 750, rfl⟩
abbrev main_call3_v3 : Ref sig .tc := ⟨.hbm, 751, rfl⟩
abbrev main_call3_v4 : Ref sig .tc := ⟨.hbm, 752, rfl⟩
abbrev main_call3_v5 : Ref sig .tc := ⟨.hbm, 753, rfl⟩
abbrev main_call3_c : Ref sig .tc := ⟨.hbm, 754, rfl⟩
abbrev main_call3_c_0 : Ref sig .tc := ⟨.hbm, 755, rfl⟩
abbrev main_call3_call0_v0 : Ref sig .tc := ⟨.hbm, 756, rfl⟩
abbrev main_call3_call0_c : Ref sig .tc := ⟨.hbm, 757, rfl⟩
abbrev main_call3_call0_v1 : Ref sig .tc := ⟨.hbm, 758, rfl⟩
abbrev main_call3_call0_v2 : Ref sig .tc := ⟨.hbm, 759, rfl⟩
abbrev main_call3_call0_v3 : Ref sig .tc := ⟨.hbm, 760, rfl⟩
abbrev main_call3_call0_v4 : Ref sig .tc := ⟨.hbm, 761, rfl⟩
abbrev main_call3_call0_v5 : Ref sig .tc := ⟨.hbm, 762, rfl⟩
abbrev main_call3_call0_v6 : Ref sig .tc := ⟨.hbm, 763, rfl⟩
abbrev main_call3_call0_v7 : Ref sig .tc := ⟨.hbm, 764, rfl⟩
abbrev main_call3_call0_c_0 : Ref sig .tc := ⟨.hbm, 765, rfl⟩
abbrev main_call3_call0_v8 : Ref sig .tc := ⟨.hbm, 766, rfl⟩
abbrev main_call3_call0_v9 : Ref sig .tc := ⟨.hbm, 767, rfl⟩
abbrev main_call3_call0_c_1 : Ref sig .tc := ⟨.hbm, 768, rfl⟩
abbrev main_call3_call0_v10 : Ref sig .tc := ⟨.hbm, 769, rfl⟩
abbrev main_call3_call0_v11 : Ref sig .tc := ⟨.hbm, 770, rfl⟩
abbrev main_call3_call0_v12 : Ref sig .tc := ⟨.hbm, 771, rfl⟩
abbrev main_call3_call0_v13 : Ref sig .tc := ⟨.hbm, 772, rfl⟩
abbrev main_call3_call0_v14 : Ref sig .tc := ⟨.hbm, 773, rfl⟩
abbrev main_call3_call0_c_2 : Ref sig .tc := ⟨.hbm, 774, rfl⟩
abbrev main_call3_call0_v15 : Ref sig .tc := ⟨.hbm, 775, rfl⟩
abbrev main_call3_call0_v16 : Ref sig .tc := ⟨.hbm, 776, rfl⟩
abbrev main_call3_call0_c_3 : Ref sig .tc := ⟨.hbm, 777, rfl⟩
abbrev main_call3_call0_v17 : Ref sig .tc := ⟨.hbm, 778, rfl⟩
abbrev main_call3_call0_v18 : Ref sig .tc := ⟨.hbm, 779, rfl⟩
abbrev main_call3_call0_v19 : Ref sig .tc := ⟨.hbm, 780, rfl⟩
abbrev main_call3_call0_v20 : Ref sig .tc := ⟨.hbm, 781, rfl⟩
abbrev main_call3_call0_v21 : Ref sig .tc := ⟨.hbm, 782, rfl⟩
abbrev main_call3_call0_c_4 : Ref sig .tc := ⟨.hbm, 783, rfl⟩
abbrev main_call3_call0_v22 : Ref sig .tc := ⟨.hbm, 784, rfl⟩
abbrev main_call3_call0_v23 : Ref sig .tc := ⟨.hbm, 785, rfl⟩
abbrev main_call3_call0_c_5 : Ref sig .tc := ⟨.hbm, 786, rfl⟩
abbrev main_call3_call0_v24 : Ref sig .tc := ⟨.hbm, 787, rfl⟩
abbrev main_call3_call0_v25 : Ref sig .tc := ⟨.hbm, 788, rfl⟩
abbrev main_call3_call0_v26 : Ref sig .tc := ⟨.hbm, 789, rfl⟩
abbrev main_call3_call0_v27 : Ref sig .tc := ⟨.hbm, 790, rfl⟩
abbrev main_call3_call0_v28 : Ref sig .tc := ⟨.hbm, 791, rfl⟩
abbrev main_call3_call0_c_6 : Ref sig .tc := ⟨.hbm, 792, rfl⟩
abbrev main_call3_call0_v29 : Ref sig .tc := ⟨.hbm, 793, rfl⟩
abbrev main_call3_call0_v30 : Ref sig .tc := ⟨.hbm, 794, rfl⟩
abbrev main_call3_call0_c_7 : Ref sig .tc := ⟨.hbm, 795, rfl⟩
abbrev main_call3_call0_v31 : Ref sig .tc := ⟨.hbm, 796, rfl⟩
abbrev main_call3_call0_v32 : Ref sig .tc := ⟨.hbm, 797, rfl⟩
abbrev main_call3_call0_v33 : Ref sig .tc := ⟨.hbm, 798, rfl⟩
abbrev main_call3_call0_v34 : Ref sig .tc := ⟨.hbm, 799, rfl⟩
abbrev main_call3_call0_v35 : Ref sig .tc := ⟨.hbm, 800, rfl⟩
abbrev main_call3_call0_v36 : Ref sig .tc := ⟨.hbm, 801, rfl⟩
abbrev main_call3_call0_c_8 : Ref sig .tc := ⟨.hbm, 802, rfl⟩
abbrev main_call3_call0_v37 : Ref sig .tc := ⟨.hbm, 803, rfl⟩
abbrev main_call3_call0_v38 : Ref sig .tc := ⟨.hbm, 804, rfl⟩
abbrev main_call3_call0_v39 : Ref sig .tc := ⟨.hbm, 805, rfl⟩
abbrev main_call3_call0_c_9 : Ref sig .tc := ⟨.hbm, 806, rfl⟩
abbrev main_call3_call0_v40 : Ref sig .tc := ⟨.hbm, 807, rfl⟩
abbrev main_call3_call0_v41 : Ref sig .tc := ⟨.hbm, 808, rfl⟩
abbrev main_call3_call0_c_10 : Ref sig .tc := ⟨.hbm, 809, rfl⟩
abbrev main_call3_call0_v42 : Ref sig .tc := ⟨.hbm, 810, rfl⟩
abbrev main_call3_call0_v43 : Ref sig .tc := ⟨.hbm, 811, rfl⟩
abbrev main_call3_call0_v44 : Ref sig .tc := ⟨.hbm, 812, rfl⟩
abbrev main_call3_call0_v45 : Ref sig .tc := ⟨.hbm, 813, rfl⟩
abbrev main_call3_call0_v46 : Ref sig .tc := ⟨.hbm, 814, rfl⟩
abbrev main_call3_call0_c_11 : Ref sig .tc := ⟨.hbm, 815, rfl⟩
abbrev main_call3_call0_v47 : Ref sig .tc := ⟨.hbm, 816, rfl⟩
abbrev main_call3_call0_v48 : Ref sig .tc := ⟨.hbm, 817, rfl⟩
abbrev main_call3_call0_c_12 : Ref sig .tc := ⟨.hbm, 818, rfl⟩
abbrev main_call3_call0_v49 : Ref sig .tc := ⟨.hbm, 819, rfl⟩
abbrev main_call3_call0_v50 : Ref sig .tc := ⟨.hbm, 820, rfl⟩
abbrev main_call3_call0_v51 : Ref sig .tc := ⟨.hbm, 821, rfl⟩
abbrev main_call3_call0_v52 : Ref sig .tc := ⟨.hbm, 822, rfl⟩
abbrev main_call3_call0_v53 : Ref sig .tc := ⟨.hbm, 823, rfl⟩
abbrev main_call3_call0_c_13 : Ref sig .tc := ⟨.hbm, 824, rfl⟩
abbrev main_call3_call0_v54 : Ref sig .tc := ⟨.hbm, 825, rfl⟩
abbrev main_call3_call0_v55 : Ref sig .tc := ⟨.hbm, 826, rfl⟩
abbrev main_call3_call0_c_14 : Ref sig .tc := ⟨.hbm, 827, rfl⟩
abbrev main_call3_call0_v56 : Ref sig .tc := ⟨.hbm, 828, rfl⟩
abbrev main_call3_call0_v57 : Ref sig .tc := ⟨.hbm, 829, rfl⟩
abbrev main_call3_call0_v58 : Ref sig .tc := ⟨.hbm, 830, rfl⟩
abbrev main_call3_call0_v59 : Ref sig .tc := ⟨.hbm, 831, rfl⟩
abbrev main_call3_call0_v60 : Ref sig .tc := ⟨.hbm, 832, rfl⟩
abbrev main_call3_call0_c_15 : Ref sig .tc := ⟨.hbm, 833, rfl⟩
abbrev main_call3_call0_v61 : Ref sig .tc := ⟨.hbm, 834, rfl⟩
abbrev main_call3_call0_v62 : Ref sig .tc := ⟨.hbm, 835, rfl⟩
abbrev main_call3_call0_c_16 : Ref sig .tc := ⟨.hbm, 836, rfl⟩
abbrev main_call3_call0_v63 : Ref sig .tc := ⟨.hbm, 837, rfl⟩
abbrev main_call3_call0_v64 : Ref sig .tc := ⟨.hbm, 838, rfl⟩
abbrev main_call3_call0_v65 : Ref sig .tc := ⟨.hbm, 839, rfl⟩
abbrev main_call3_call0_v66 : Ref sig .tc := ⟨.hbm, 840, rfl⟩
abbrev main_call3_call0_v67 : Ref sig .tc := ⟨.hbm, 841, rfl⟩
abbrev main_call3_call0_v68 : Ref sig .tc := ⟨.hbm, 842, rfl⟩
abbrev main_call3_call0_c_17 : Ref sig .tc := ⟨.hbm, 843, rfl⟩
abbrev main_call3_call0_v69 : Ref sig .tc := ⟨.hbm, 844, rfl⟩
abbrev main_call3_call0_v70 : Ref sig .tc := ⟨.hbm, 845, rfl⟩
abbrev main_call3_call0_v71 : Ref sig .tc := ⟨.hbm, 846, rfl⟩
abbrev main_call3_call0_c_18 : Ref sig .tc := ⟨.hbm, 847, rfl⟩
abbrev main_call3_call0_v72 : Ref sig .tc := ⟨.hbm, 848, rfl⟩
abbrev main_call3_call0_v73 : Ref sig .tc := ⟨.hbm, 849, rfl⟩
abbrev main_call3_call0_c_19 : Ref sig .tc := ⟨.hbm, 850, rfl⟩
abbrev main_call3_call0_v74 : Ref sig .tc := ⟨.hbm, 851, rfl⟩
abbrev main_call3_call0_v75 : Ref sig .tc := ⟨.hbm, 852, rfl⟩
abbrev main_call3_call0_v76 : Ref sig .tc := ⟨.hbm, 853, rfl⟩
abbrev main_call3_call0_v77 : Ref sig .tc := ⟨.hbm, 854, rfl⟩
abbrev main_call3_call0_v78 : Ref sig .tc := ⟨.hbm, 855, rfl⟩
abbrev main_call3_call0_c_20 : Ref sig .tc := ⟨.hbm, 856, rfl⟩
abbrev main_call3_call0_v79 : Ref sig .tc := ⟨.hbm, 857, rfl⟩
abbrev main_call3_call0_v80 : Ref sig .tc := ⟨.hbm, 858, rfl⟩
abbrev main_call3_call0_c_21 : Ref sig .tc := ⟨.hbm, 859, rfl⟩
abbrev main_call3_call0_v81 : Ref sig .tc := ⟨.hbm, 860, rfl⟩
abbrev main_call3_call0_v82 : Ref sig .tc := ⟨.hbm, 861, rfl⟩
abbrev main_call3_call0_v83 : Ref sig .tc := ⟨.hbm, 862, rfl⟩
abbrev main_call3_call0_v84 : Ref sig .tc := ⟨.hbm, 863, rfl⟩
abbrev main_call3_call0_v85 : Ref sig .tc := ⟨.hbm, 864, rfl⟩
abbrev main_call3_call0_c_22 : Ref sig .tc := ⟨.hbm, 865, rfl⟩
abbrev main_call3_call0_v86 : Ref sig .tc := ⟨.hbm, 866, rfl⟩
abbrev main_call3_call0_v87 : Ref sig .tc := ⟨.hbm, 867, rfl⟩
abbrev main_call3_call0_c_23 : Ref sig .tc := ⟨.hbm, 868, rfl⟩
abbrev main_call3_call0_v88 : Ref sig .tc := ⟨.hbm, 869, rfl⟩
abbrev main_call3_call0_v89 : Ref sig .tc := ⟨.hbm, 870, rfl⟩
abbrev main_call3_call0_v90 : Ref sig .tc := ⟨.hbm, 871, rfl⟩
abbrev main_call3_call0_v91 : Ref sig .tc := ⟨.hbm, 872, rfl⟩
abbrev main_call3_call0_v92 : Ref sig .tc := ⟨.hbm, 873, rfl⟩
abbrev main_call3_call0_c_24 : Ref sig .tc := ⟨.hbm, 874, rfl⟩
abbrev main_call3_call0_v93 : Ref sig .tc := ⟨.hbm, 875, rfl⟩
abbrev main_call3_call0_v94 : Ref sig .tc := ⟨.hbm, 876, rfl⟩
abbrev main_call3_call0_c_25 : Ref sig .tc := ⟨.hbm, 877, rfl⟩
abbrev main_call3_call0_v95 : Ref sig .tc := ⟨.hbm, 878, rfl⟩
abbrev main_call3_call0_v96 : Ref sig .tc := ⟨.hbm, 879, rfl⟩
abbrev main_call3_call0_v97 : Ref sig .tc := ⟨.hbm, 880, rfl⟩
abbrev main_call3_call0_v98 : Ref sig .tc := ⟨.hbm, 881, rfl⟩
abbrev main_call3_call0_v99 : Ref sig .tc := ⟨.hbm, 882, rfl⟩
abbrev main_call3_call0_v100 : Ref sig .tc := ⟨.hbm, 883, rfl⟩
abbrev main_call3_call0_c_26 : Ref sig .tc := ⟨.hbm, 884, rfl⟩
abbrev main_call3_call0_v101 : Ref sig .tc := ⟨.hbm, 885, rfl⟩
abbrev main_call3_call0_v102 : Ref sig .tc := ⟨.hbm, 886, rfl⟩
abbrev main_call3_call0_v103 : Ref sig .tc := ⟨.hbm, 887, rfl⟩
abbrev main_call3_call0_c_27 : Ref sig .tc := ⟨.hbm, 888, rfl⟩
abbrev main_call3_call0_v104 : Ref sig .tc := ⟨.hbm, 889, rfl⟩
abbrev main_call3_call0_v105 : Ref sig .tc := ⟨.hbm, 890, rfl⟩
abbrev main_call3_call0_c_28 : Ref sig .tc := ⟨.hbm, 891, rfl⟩
abbrev main_call3_call0_v106 : Ref sig .tc := ⟨.hbm, 892, rfl⟩
abbrev main_call3_call0_v107 : Ref sig .tc := ⟨.hbm, 893, rfl⟩
abbrev main_call3_call0_v108 : Ref sig .tc := ⟨.hbm, 894, rfl⟩
abbrev main_call3_call0_v109 : Ref sig .tc := ⟨.hbm, 895, rfl⟩
abbrev main_call3_call0_v110 : Ref sig .tc := ⟨.hbm, 896, rfl⟩
abbrev main_call3_call0_c_29 : Ref sig .tc := ⟨.hbm, 897, rfl⟩
abbrev main_call3_call0_v111 : Ref sig .tc := ⟨.hbm, 898, rfl⟩
abbrev main_call3_call0_v112 : Ref sig .tc := ⟨.hbm, 899, rfl⟩
abbrev main_call3_call0_c_30 : Ref sig .tc := ⟨.hbm, 900, rfl⟩
abbrev main_call3_call0_v113 : Ref sig .tc := ⟨.hbm, 901, rfl⟩
abbrev main_call3_call0_v114 : Ref sig .tc := ⟨.hbm, 902, rfl⟩
abbrev main_call3_call0_v115 : Ref sig .tc := ⟨.hbm, 903, rfl⟩
abbrev main_call3_call0_v116 : Ref sig .tc := ⟨.hbm, 904, rfl⟩
abbrev main_call3_call0_v117 : Ref sig .tc := ⟨.hbm, 905, rfl⟩
abbrev main_call3_call0_c_31 : Ref sig .tc := ⟨.hbm, 906, rfl⟩
abbrev main_call3_call0_v118 : Ref sig .tc := ⟨.hbm, 907, rfl⟩
abbrev main_call3_call0_v119 : Ref sig .tc := ⟨.hbm, 908, rfl⟩
abbrev main_call3_call0_c_32 : Ref sig .tc := ⟨.hbm, 909, rfl⟩
abbrev main_call3_call0_v120 : Ref sig .tc := ⟨.hbm, 910, rfl⟩
abbrev main_call3_call0_v121 : Ref sig .tc := ⟨.hbm, 911, rfl⟩
abbrev main_call3_call0_v122 : Ref sig .tc := ⟨.hbm, 912, rfl⟩
abbrev main_call3_call0_v123 : Ref sig .tc := ⟨.hbm, 913, rfl⟩
abbrev main_call3_call0_v124 : Ref sig .tc := ⟨.hbm, 914, rfl⟩
abbrev main_call3_call0_c_33 : Ref sig .tc := ⟨.hbm, 915, rfl⟩
abbrev main_call3_call0_v125 : Ref sig .tc := ⟨.hbm, 916, rfl⟩
abbrev main_call3_call0_v126 : Ref sig .tc := ⟨.hbm, 917, rfl⟩
abbrev main_call3_call0_c_34 : Ref sig .tc := ⟨.hbm, 918, rfl⟩
abbrev main_call3_call0_v127 : Ref sig .tc := ⟨.hbm, 919, rfl⟩
abbrev main_call3_call0_v128 : Ref sig .tc := ⟨.hbm, 920, rfl⟩
abbrev main_call3_call0_v129 : Ref sig .tc := ⟨.hbm, 921, rfl⟩
abbrev main_call3_call0_v130 : Ref sig .tc := ⟨.hbm, 922, rfl⟩
abbrev main_call3_call0_v131 : Ref sig .tc := ⟨.hbm, 923, rfl⟩
abbrev main_call3_call0_v132 : Ref sig .tc := ⟨.hbm, 924, rfl⟩
abbrev main_call3_call0_c_35 : Ref sig .tc := ⟨.hbm, 925, rfl⟩
abbrev main_call3_call0_v133 : Ref sig .tc := ⟨.hbm, 926, rfl⟩
abbrev main_call3_call0_v134 : Ref sig .tc := ⟨.hbm, 927, rfl⟩
abbrev main_call3_call0_v135 : Ref sig .tc := ⟨.hbm, 928, rfl⟩
abbrev main_call3_call0_c_36 : Ref sig .tc := ⟨.hbm, 929, rfl⟩
abbrev main_call3_call0_v136 : Ref sig .tc := ⟨.hbm, 930, rfl⟩
abbrev main_call3_call0_v137 : Ref sig .tc := ⟨.hbm, 931, rfl⟩
abbrev main_call3_call0_c_37 : Ref sig .tc := ⟨.hbm, 932, rfl⟩
abbrev main_call3_call0_v138 : Ref sig .tc := ⟨.hbm, 933, rfl⟩
abbrev main_call3_call0_v139 : Ref sig .tc := ⟨.hbm, 934, rfl⟩
abbrev main_call3_call0_v140 : Ref sig .tc := ⟨.hbm, 935, rfl⟩
abbrev main_call3_call0_v141 : Ref sig .tc := ⟨.hbm, 936, rfl⟩
abbrev main_call3_call0_v142 : Ref sig .tc := ⟨.hbm, 937, rfl⟩
abbrev main_call3_call0_c_38 : Ref sig .tc := ⟨.hbm, 938, rfl⟩
abbrev main_call3_call0_v143 : Ref sig .tc := ⟨.hbm, 939, rfl⟩
abbrev main_call3_call0_v144 : Ref sig .tc := ⟨.hbm, 940, rfl⟩
abbrev main_call3_call0_c_39 : Ref sig .tc := ⟨.hbm, 941, rfl⟩
abbrev main_call3_call0_v145 : Ref sig .tc := ⟨.hbm, 942, rfl⟩
abbrev main_call3_call0_v146 : Ref sig .tc := ⟨.hbm, 943, rfl⟩
abbrev main_call3_call0_v147 : Ref sig .tc := ⟨.hbm, 944, rfl⟩
abbrev main_call3_call0_v148 : Ref sig .tc := ⟨.hbm, 945, rfl⟩
abbrev main_call3_call0_v149 : Ref sig .tc := ⟨.hbm, 946, rfl⟩
abbrev main_call3_call0_c_40 : Ref sig .tc := ⟨.hbm, 947, rfl⟩
abbrev main_call3_call0_v150 : Ref sig .tc := ⟨.hbm, 948, rfl⟩
abbrev main_call3_call0_v151 : Ref sig .tc := ⟨.hbm, 949, rfl⟩
abbrev main_call3_call0_c_41 : Ref sig .tc := ⟨.hbm, 950, rfl⟩
abbrev main_call3_call0_v152 : Ref sig .tc := ⟨.hbm, 951, rfl⟩
abbrev main_call3_call0_v153 : Ref sig .tc := ⟨.hbm, 952, rfl⟩
abbrev main_call3_call0_v154 : Ref sig .tc := ⟨.hbm, 953, rfl⟩
abbrev main_call3_call0_v155 : Ref sig .tc := ⟨.hbm, 954, rfl⟩
abbrev main_call3_call0_v156 : Ref sig .tc := ⟨.hbm, 955, rfl⟩
abbrev main_call3_call0_c_42 : Ref sig .tc := ⟨.hbm, 956, rfl⟩
abbrev main_call3_call0_v157 : Ref sig .tc := ⟨.hbm, 957, rfl⟩
abbrev main_call3_call0_v158 : Ref sig .tc := ⟨.hbm, 958, rfl⟩
abbrev main_call3_call0_c_43 : Ref sig .tc := ⟨.hbm, 959, rfl⟩
abbrev main_call3_call0_v159 : Ref sig .tc := ⟨.hbm, 960, rfl⟩
abbrev main_call3_call0_v160 : Ref sig .tc := ⟨.hbm, 961, rfl⟩
abbrev main_call3_call0_v161 : Ref sig .tc := ⟨.hbm, 962, rfl⟩
abbrev main_call3_call0_v162 : Ref sig .tc := ⟨.hbm, 963, rfl⟩
abbrev main_call3_v6_0 : Ref sig .tc := ⟨.hbm, 964, rfl⟩
abbrev main_call3_call0_v164 : Ref sig .tc := ⟨.hbm, 965, rfl⟩
abbrev main_call3_call0_c_44 : Ref sig .tc := ⟨.hbm, 966, rfl⟩
abbrev main_call3_call0_v165 : Ref sig .tc := ⟨.hbm, 967, rfl⟩
abbrev main_call3_v6_1 : Ref sig .tc := ⟨.hbm, 968, rfl⟩
abbrev main_call3_v7 : Ref sig .tc := ⟨.hbm, 969, rfl⟩
abbrev main_call3_c_1 : Ref sig .tc := ⟨.hbm, 970, rfl⟩
abbrev main_call3_v8 : Ref sig .tc := ⟨.hbm, 971, rfl⟩
abbrev main_call3_v9 : Ref sig .tc := ⟨.hbm, 972, rfl⟩
abbrev main_call3_c_2 : Ref sig .tc := ⟨.hbm, 973, rfl⟩
abbrev main_call3_v10 : Ref sig .tc := ⟨.hbm, 974, rfl⟩
abbrev main_call3_v11 : Ref sig .tc := ⟨.hbm, 975, rfl⟩
abbrev main_call3_v12 : Ref sig .tc := ⟨.hbm, 976, rfl⟩
abbrev main_call3_cst : Ref sig .tc := ⟨.hbm, 977, rfl⟩
abbrev main_call3_v13 : Ref sig .tc := ⟨.hbm, 978, rfl⟩
abbrev main_call3_v14 : Ref sig .tc := ⟨.hbm, 979, rfl⟩
abbrev main_call3_v15 : Ref sig .tc := ⟨.hbm, 980, rfl⟩
abbrev main_call3_v16 : Ref sig .tc := ⟨.hbm, 981, rfl⟩
abbrev main_call3_v17 : Ref sig .tc := ⟨.hbm, 982, rfl⟩
abbrev main_call3_v18 : Ref sig .tc := ⟨.hbm, 983, rfl⟩
abbrev main_call3_v19 : Ref sig .tc := ⟨.hbm, 984, rfl⟩
abbrev main_call3_v20 : Ref sig .tc := ⟨.hbm, 985, rfl⟩
abbrev main_v20 : Ref sig .tc := ⟨.hbm, 986, rfl⟩
abbrev main_cst_5 : Ref sig .tc := ⟨.hbm, 987, rfl⟩
abbrev main_cst_6 : Ref sig .tc := ⟨.hbm, 988, rfl⟩
abbrev main_call4_v0 : Ref sig .tc := ⟨.hbm, 989, rfl⟩
abbrev main_call4_v1 : Ref sig .tc := ⟨.hbm, 990, rfl⟩
abbrev main_call4_v2 : Ref sig .tc := ⟨.hbm, 991, rfl⟩
abbrev main_call4_v3 : Ref sig .tc := ⟨.hbm, 992, rfl⟩
abbrev main_call4_v4 : Ref sig .tc := ⟨.hbm, 993, rfl⟩
abbrev main_call4_v5 : Ref sig .tc := ⟨.hbm, 994, rfl⟩
abbrev main_call4_c : Ref sig .tc := ⟨.hbm, 995, rfl⟩
abbrev main_call4_c_0 : Ref sig .tc := ⟨.hbm, 996, rfl⟩
abbrev main_call4_call0_v0 : Ref sig .tc := ⟨.hbm, 997, rfl⟩
abbrev main_call4_call0_c : Ref sig .tc := ⟨.hbm, 998, rfl⟩
abbrev main_call4_call0_v1 : Ref sig .tc := ⟨.hbm, 999, rfl⟩
abbrev main_call4_call0_v2 : Ref sig .tc := ⟨.hbm, 1000, rfl⟩
abbrev main_call4_call0_v3 : Ref sig .tc := ⟨.hbm, 1001, rfl⟩
abbrev main_call4_call0_v4 : Ref sig .tc := ⟨.hbm, 1002, rfl⟩
abbrev main_call4_call0_v5 : Ref sig .tc := ⟨.hbm, 1003, rfl⟩
abbrev main_call4_call0_v6 : Ref sig .tc := ⟨.hbm, 1004, rfl⟩
abbrev main_call4_call0_v7 : Ref sig .tc := ⟨.hbm, 1005, rfl⟩
abbrev main_call4_call0_c_0 : Ref sig .tc := ⟨.hbm, 1006, rfl⟩
abbrev main_call4_call0_v8 : Ref sig .tc := ⟨.hbm, 1007, rfl⟩
abbrev main_call4_call0_v9 : Ref sig .tc := ⟨.hbm, 1008, rfl⟩
abbrev main_call4_call0_c_1 : Ref sig .tc := ⟨.hbm, 1009, rfl⟩
abbrev main_call4_call0_v10 : Ref sig .tc := ⟨.hbm, 1010, rfl⟩
abbrev main_call4_call0_v11 : Ref sig .tc := ⟨.hbm, 1011, rfl⟩
abbrev main_call4_call0_v12 : Ref sig .tc := ⟨.hbm, 1012, rfl⟩
abbrev main_call4_call0_v13 : Ref sig .tc := ⟨.hbm, 1013, rfl⟩
abbrev main_call4_call0_v14 : Ref sig .tc := ⟨.hbm, 1014, rfl⟩
abbrev main_call4_call0_c_2 : Ref sig .tc := ⟨.hbm, 1015, rfl⟩
abbrev main_call4_call0_v15 : Ref sig .tc := ⟨.hbm, 1016, rfl⟩
abbrev main_call4_call0_v16 : Ref sig .tc := ⟨.hbm, 1017, rfl⟩
abbrev main_call4_call0_c_3 : Ref sig .tc := ⟨.hbm, 1018, rfl⟩
abbrev main_call4_call0_v17 : Ref sig .tc := ⟨.hbm, 1019, rfl⟩
abbrev main_call4_call0_v18 : Ref sig .tc := ⟨.hbm, 1020, rfl⟩
abbrev main_call4_call0_v19 : Ref sig .tc := ⟨.hbm, 1021, rfl⟩
abbrev main_call4_call0_v20 : Ref sig .tc := ⟨.hbm, 1022, rfl⟩
abbrev main_call4_call0_v21 : Ref sig .tc := ⟨.hbm, 1023, rfl⟩
abbrev main_call4_call0_c_4 : Ref sig .tc := ⟨.hbm, 1024, rfl⟩
abbrev main_call4_call0_v22 : Ref sig .tc := ⟨.hbm, 1025, rfl⟩
abbrev main_call4_call0_v23 : Ref sig .tc := ⟨.hbm, 1026, rfl⟩
abbrev main_call4_call0_c_5 : Ref sig .tc := ⟨.hbm, 1027, rfl⟩
abbrev main_call4_call0_v24 : Ref sig .tc := ⟨.hbm, 1028, rfl⟩
abbrev main_call4_call0_v25 : Ref sig .tc := ⟨.hbm, 1029, rfl⟩
abbrev main_call4_call0_v26 : Ref sig .tc := ⟨.hbm, 1030, rfl⟩
abbrev main_call4_call0_v27 : Ref sig .tc := ⟨.hbm, 1031, rfl⟩
abbrev main_call4_call0_v28 : Ref sig .tc := ⟨.hbm, 1032, rfl⟩
abbrev main_call4_call0_c_6 : Ref sig .tc := ⟨.hbm, 1033, rfl⟩
abbrev main_call4_call0_v29 : Ref sig .tc := ⟨.hbm, 1034, rfl⟩
abbrev main_call4_call0_v30 : Ref sig .tc := ⟨.hbm, 1035, rfl⟩
abbrev main_call4_call0_c_7 : Ref sig .tc := ⟨.hbm, 1036, rfl⟩
abbrev main_call4_call0_v31 : Ref sig .tc := ⟨.hbm, 1037, rfl⟩
abbrev main_call4_call0_v32 : Ref sig .tc := ⟨.hbm, 1038, rfl⟩
abbrev main_call4_call0_v33 : Ref sig .tc := ⟨.hbm, 1039, rfl⟩
abbrev main_call4_call0_v34 : Ref sig .tc := ⟨.hbm, 1040, rfl⟩
abbrev main_call4_call0_v35 : Ref sig .tc := ⟨.hbm, 1041, rfl⟩
abbrev main_call4_call0_v36 : Ref sig .tc := ⟨.hbm, 1042, rfl⟩
abbrev main_call4_call0_c_8 : Ref sig .tc := ⟨.hbm, 1043, rfl⟩
abbrev main_call4_call0_v37 : Ref sig .tc := ⟨.hbm, 1044, rfl⟩
abbrev main_call4_call0_v38 : Ref sig .tc := ⟨.hbm, 1045, rfl⟩
abbrev main_call4_call0_v39 : Ref sig .tc := ⟨.hbm, 1046, rfl⟩
abbrev main_call4_call0_c_9 : Ref sig .tc := ⟨.hbm, 1047, rfl⟩
abbrev main_call4_call0_v40 : Ref sig .tc := ⟨.hbm, 1048, rfl⟩
abbrev main_call4_call0_v41 : Ref sig .tc := ⟨.hbm, 1049, rfl⟩
abbrev main_call4_call0_c_10 : Ref sig .tc := ⟨.hbm, 1050, rfl⟩
abbrev main_call4_call0_v42 : Ref sig .tc := ⟨.hbm, 1051, rfl⟩
abbrev main_call4_call0_v43 : Ref sig .tc := ⟨.hbm, 1052, rfl⟩
abbrev main_call4_call0_v44 : Ref sig .tc := ⟨.hbm, 1053, rfl⟩
abbrev main_call4_call0_v45 : Ref sig .tc := ⟨.hbm, 1054, rfl⟩
abbrev main_call4_call0_v46 : Ref sig .tc := ⟨.hbm, 1055, rfl⟩
abbrev main_call4_call0_c_11 : Ref sig .tc := ⟨.hbm, 1056, rfl⟩
abbrev main_call4_call0_v47 : Ref sig .tc := ⟨.hbm, 1057, rfl⟩
abbrev main_call4_call0_v48 : Ref sig .tc := ⟨.hbm, 1058, rfl⟩
abbrev main_call4_call0_c_12 : Ref sig .tc := ⟨.hbm, 1059, rfl⟩
abbrev main_call4_call0_v49 : Ref sig .tc := ⟨.hbm, 1060, rfl⟩
abbrev main_call4_call0_v50 : Ref sig .tc := ⟨.hbm, 1061, rfl⟩
abbrev main_call4_call0_v51 : Ref sig .tc := ⟨.hbm, 1062, rfl⟩
abbrev main_call4_call0_v52 : Ref sig .tc := ⟨.hbm, 1063, rfl⟩
abbrev main_call4_call0_v53 : Ref sig .tc := ⟨.hbm, 1064, rfl⟩
abbrev main_call4_call0_c_13 : Ref sig .tc := ⟨.hbm, 1065, rfl⟩
abbrev main_call4_call0_v54 : Ref sig .tc := ⟨.hbm, 1066, rfl⟩
abbrev main_call4_call0_v55 : Ref sig .tc := ⟨.hbm, 1067, rfl⟩
abbrev main_call4_call0_c_14 : Ref sig .tc := ⟨.hbm, 1068, rfl⟩
abbrev main_call4_call0_v56 : Ref sig .tc := ⟨.hbm, 1069, rfl⟩
abbrev main_call4_call0_v57 : Ref sig .tc := ⟨.hbm, 1070, rfl⟩
abbrev main_call4_call0_v58 : Ref sig .tc := ⟨.hbm, 1071, rfl⟩
abbrev main_call4_call0_v59 : Ref sig .tc := ⟨.hbm, 1072, rfl⟩
abbrev main_call4_call0_v60 : Ref sig .tc := ⟨.hbm, 1073, rfl⟩
abbrev main_call4_call0_c_15 : Ref sig .tc := ⟨.hbm, 1074, rfl⟩
abbrev main_call4_call0_v61 : Ref sig .tc := ⟨.hbm, 1075, rfl⟩
abbrev main_call4_call0_v62 : Ref sig .tc := ⟨.hbm, 1076, rfl⟩
abbrev main_call4_call0_c_16 : Ref sig .tc := ⟨.hbm, 1077, rfl⟩
abbrev main_call4_call0_v63 : Ref sig .tc := ⟨.hbm, 1078, rfl⟩
abbrev main_call4_call0_v64 : Ref sig .tc := ⟨.hbm, 1079, rfl⟩
abbrev main_call4_call0_v65 : Ref sig .tc := ⟨.hbm, 1080, rfl⟩
abbrev main_call4_call0_v66 : Ref sig .tc := ⟨.hbm, 1081, rfl⟩
abbrev main_call4_call0_v67 : Ref sig .tc := ⟨.hbm, 1082, rfl⟩
abbrev main_call4_call0_v68 : Ref sig .tc := ⟨.hbm, 1083, rfl⟩
abbrev main_call4_call0_c_17 : Ref sig .tc := ⟨.hbm, 1084, rfl⟩
abbrev main_call4_call0_v69 : Ref sig .tc := ⟨.hbm, 1085, rfl⟩
abbrev main_call4_call0_v70 : Ref sig .tc := ⟨.hbm, 1086, rfl⟩
abbrev main_call4_call0_v71 : Ref sig .tc := ⟨.hbm, 1087, rfl⟩
abbrev main_call4_call0_c_18 : Ref sig .tc := ⟨.hbm, 1088, rfl⟩
abbrev main_call4_call0_v72 : Ref sig .tc := ⟨.hbm, 1089, rfl⟩
abbrev main_call4_call0_v73 : Ref sig .tc := ⟨.hbm, 1090, rfl⟩
abbrev main_call4_call0_c_19 : Ref sig .tc := ⟨.hbm, 1091, rfl⟩
abbrev main_call4_call0_v74 : Ref sig .tc := ⟨.hbm, 1092, rfl⟩
abbrev main_call4_call0_v75 : Ref sig .tc := ⟨.hbm, 1093, rfl⟩
abbrev main_call4_call0_v76 : Ref sig .tc := ⟨.hbm, 1094, rfl⟩
abbrev main_call4_call0_v77 : Ref sig .tc := ⟨.hbm, 1095, rfl⟩
abbrev main_call4_call0_v78 : Ref sig .tc := ⟨.hbm, 1096, rfl⟩
abbrev main_call4_call0_c_20 : Ref sig .tc := ⟨.hbm, 1097, rfl⟩
abbrev main_call4_call0_v79 : Ref sig .tc := ⟨.hbm, 1098, rfl⟩
abbrev main_call4_call0_v80 : Ref sig .tc := ⟨.hbm, 1099, rfl⟩
abbrev main_call4_call0_c_21 : Ref sig .tc := ⟨.hbm, 1100, rfl⟩
abbrev main_call4_call0_v81 : Ref sig .tc := ⟨.hbm, 1101, rfl⟩
abbrev main_call4_call0_v82 : Ref sig .tc := ⟨.hbm, 1102, rfl⟩
abbrev main_call4_call0_v83 : Ref sig .tc := ⟨.hbm, 1103, rfl⟩
abbrev main_call4_call0_v84 : Ref sig .tc := ⟨.hbm, 1104, rfl⟩
abbrev main_call4_call0_v85 : Ref sig .tc := ⟨.hbm, 1105, rfl⟩
abbrev main_call4_call0_c_22 : Ref sig .tc := ⟨.hbm, 1106, rfl⟩
abbrev main_call4_call0_v86 : Ref sig .tc := ⟨.hbm, 1107, rfl⟩
abbrev main_call4_call0_v87 : Ref sig .tc := ⟨.hbm, 1108, rfl⟩
abbrev main_call4_call0_c_23 : Ref sig .tc := ⟨.hbm, 1109, rfl⟩
abbrev main_call4_call0_v88 : Ref sig .tc := ⟨.hbm, 1110, rfl⟩
abbrev main_call4_call0_v89 : Ref sig .tc := ⟨.hbm, 1111, rfl⟩
abbrev main_call4_call0_v90 : Ref sig .tc := ⟨.hbm, 1112, rfl⟩
abbrev main_call4_call0_v91 : Ref sig .tc := ⟨.hbm, 1113, rfl⟩
abbrev main_call4_call0_v92 : Ref sig .tc := ⟨.hbm, 1114, rfl⟩
abbrev main_call4_call0_c_24 : Ref sig .tc := ⟨.hbm, 1115, rfl⟩
abbrev main_call4_call0_v93 : Ref sig .tc := ⟨.hbm, 1116, rfl⟩
abbrev main_call4_call0_v94 : Ref sig .tc := ⟨.hbm, 1117, rfl⟩
abbrev main_call4_call0_c_25 : Ref sig .tc := ⟨.hbm, 1118, rfl⟩
abbrev main_call4_call0_v95 : Ref sig .tc := ⟨.hbm, 1119, rfl⟩
abbrev main_call4_call0_v96 : Ref sig .tc := ⟨.hbm, 1120, rfl⟩
abbrev main_call4_call0_v97 : Ref sig .tc := ⟨.hbm, 1121, rfl⟩
abbrev main_call4_call0_v98 : Ref sig .tc := ⟨.hbm, 1122, rfl⟩
abbrev main_call4_call0_v99 : Ref sig .tc := ⟨.hbm, 1123, rfl⟩
abbrev main_call4_call0_v100 : Ref sig .tc := ⟨.hbm, 1124, rfl⟩
abbrev main_call4_call0_c_26 : Ref sig .tc := ⟨.hbm, 1125, rfl⟩
abbrev main_call4_call0_v101 : Ref sig .tc := ⟨.hbm, 1126, rfl⟩
abbrev main_call4_call0_v102 : Ref sig .tc := ⟨.hbm, 1127, rfl⟩
abbrev main_call4_call0_v103 : Ref sig .tc := ⟨.hbm, 1128, rfl⟩
abbrev main_call4_call0_c_27 : Ref sig .tc := ⟨.hbm, 1129, rfl⟩
abbrev main_call4_call0_v104 : Ref sig .tc := ⟨.hbm, 1130, rfl⟩
abbrev main_call4_call0_v105 : Ref sig .tc := ⟨.hbm, 1131, rfl⟩
abbrev main_call4_call0_c_28 : Ref sig .tc := ⟨.hbm, 1132, rfl⟩
abbrev main_call4_call0_v106 : Ref sig .tc := ⟨.hbm, 1133, rfl⟩
abbrev main_call4_call0_v107 : Ref sig .tc := ⟨.hbm, 1134, rfl⟩
abbrev main_call4_call0_v108 : Ref sig .tc := ⟨.hbm, 1135, rfl⟩
abbrev main_call4_call0_v109 : Ref sig .tc := ⟨.hbm, 1136, rfl⟩
abbrev main_call4_call0_v110 : Ref sig .tc := ⟨.hbm, 1137, rfl⟩
abbrev main_call4_call0_c_29 : Ref sig .tc := ⟨.hbm, 1138, rfl⟩
abbrev main_call4_call0_v111 : Ref sig .tc := ⟨.hbm, 1139, rfl⟩
abbrev main_call4_call0_v112 : Ref sig .tc := ⟨.hbm, 1140, rfl⟩
abbrev main_call4_call0_c_30 : Ref sig .tc := ⟨.hbm, 1141, rfl⟩
abbrev main_call4_call0_v113 : Ref sig .tc := ⟨.hbm, 1142, rfl⟩
abbrev main_call4_call0_v114 : Ref sig .tc := ⟨.hbm, 1143, rfl⟩
abbrev main_call4_call0_v115 : Ref sig .tc := ⟨.hbm, 1144, rfl⟩
abbrev main_call4_call0_v116 : Ref sig .tc := ⟨.hbm, 1145, rfl⟩
abbrev main_call4_call0_v117 : Ref sig .tc := ⟨.hbm, 1146, rfl⟩
abbrev main_call4_call0_c_31 : Ref sig .tc := ⟨.hbm, 1147, rfl⟩
abbrev main_call4_call0_v118 : Ref sig .tc := ⟨.hbm, 1148, rfl⟩
abbrev main_call4_call0_v119 : Ref sig .tc := ⟨.hbm, 1149, rfl⟩
abbrev main_call4_call0_c_32 : Ref sig .tc := ⟨.hbm, 1150, rfl⟩
abbrev main_call4_call0_v120 : Ref sig .tc := ⟨.hbm, 1151, rfl⟩
abbrev main_call4_call0_v121 : Ref sig .tc := ⟨.hbm, 1152, rfl⟩
abbrev main_call4_call0_v122 : Ref sig .tc := ⟨.hbm, 1153, rfl⟩
abbrev main_call4_call0_v123 : Ref sig .tc := ⟨.hbm, 1154, rfl⟩
abbrev main_call4_call0_v124 : Ref sig .tc := ⟨.hbm, 1155, rfl⟩
abbrev main_call4_call0_c_33 : Ref sig .tc := ⟨.hbm, 1156, rfl⟩
abbrev main_call4_call0_v125 : Ref sig .tc := ⟨.hbm, 1157, rfl⟩
abbrev main_call4_call0_v126 : Ref sig .tc := ⟨.hbm, 1158, rfl⟩
abbrev main_call4_call0_c_34 : Ref sig .tc := ⟨.hbm, 1159, rfl⟩
abbrev main_call4_call0_v127 : Ref sig .tc := ⟨.hbm, 1160, rfl⟩
abbrev main_call4_call0_v128 : Ref sig .tc := ⟨.hbm, 1161, rfl⟩
abbrev main_call4_call0_v129 : Ref sig .tc := ⟨.hbm, 1162, rfl⟩
abbrev main_call4_call0_v130 : Ref sig .tc := ⟨.hbm, 1163, rfl⟩
abbrev main_call4_call0_v131 : Ref sig .tc := ⟨.hbm, 1164, rfl⟩
abbrev main_call4_call0_v132 : Ref sig .tc := ⟨.hbm, 1165, rfl⟩
abbrev main_call4_call0_c_35 : Ref sig .tc := ⟨.hbm, 1166, rfl⟩
abbrev main_call4_call0_v133 : Ref sig .tc := ⟨.hbm, 1167, rfl⟩
abbrev main_call4_call0_v134 : Ref sig .tc := ⟨.hbm, 1168, rfl⟩
abbrev main_call4_call0_v135 : Ref sig .tc := ⟨.hbm, 1169, rfl⟩
abbrev main_call4_call0_c_36 : Ref sig .tc := ⟨.hbm, 1170, rfl⟩
abbrev main_call4_call0_v136 : Ref sig .tc := ⟨.hbm, 1171, rfl⟩
abbrev main_call4_call0_v137 : Ref sig .tc := ⟨.hbm, 1172, rfl⟩
abbrev main_call4_call0_c_37 : Ref sig .tc := ⟨.hbm, 1173, rfl⟩
abbrev main_call4_call0_v138 : Ref sig .tc := ⟨.hbm, 1174, rfl⟩
abbrev main_call4_call0_v139 : Ref sig .tc := ⟨.hbm, 1175, rfl⟩
abbrev main_call4_call0_v140 : Ref sig .tc := ⟨.hbm, 1176, rfl⟩
abbrev main_call4_call0_v141 : Ref sig .tc := ⟨.hbm, 1177, rfl⟩
abbrev main_call4_call0_v142 : Ref sig .tc := ⟨.hbm, 1178, rfl⟩
abbrev main_call4_call0_c_38 : Ref sig .tc := ⟨.hbm, 1179, rfl⟩
abbrev main_call4_call0_v143 : Ref sig .tc := ⟨.hbm, 1180, rfl⟩
abbrev main_call4_call0_v144 : Ref sig .tc := ⟨.hbm, 1181, rfl⟩
abbrev main_call4_call0_c_39 : Ref sig .tc := ⟨.hbm, 1182, rfl⟩
abbrev main_call4_call0_v145 : Ref sig .tc := ⟨.hbm, 1183, rfl⟩
abbrev main_call4_call0_v146 : Ref sig .tc := ⟨.hbm, 1184, rfl⟩
abbrev main_call4_call0_v147 : Ref sig .tc := ⟨.hbm, 1185, rfl⟩
abbrev main_call4_call0_v148 : Ref sig .tc := ⟨.hbm, 1186, rfl⟩
abbrev main_call4_call0_v149 : Ref sig .tc := ⟨.hbm, 1187, rfl⟩
abbrev main_call4_call0_c_40 : Ref sig .tc := ⟨.hbm, 1188, rfl⟩
abbrev main_call4_call0_v150 : Ref sig .tc := ⟨.hbm, 1189, rfl⟩
abbrev main_call4_call0_v151 : Ref sig .tc := ⟨.hbm, 1190, rfl⟩
abbrev main_call4_call0_c_41 : Ref sig .tc := ⟨.hbm, 1191, rfl⟩
abbrev main_call4_call0_v152 : Ref sig .tc := ⟨.hbm, 1192, rfl⟩
abbrev main_call4_call0_v153 : Ref sig .tc := ⟨.hbm, 1193, rfl⟩
abbrev main_call4_call0_v154 : Ref sig .tc := ⟨.hbm, 1194, rfl⟩
abbrev main_call4_call0_v155 : Ref sig .tc := ⟨.hbm, 1195, rfl⟩
abbrev main_call4_call0_v156 : Ref sig .tc := ⟨.hbm, 1196, rfl⟩
abbrev main_call4_call0_c_42 : Ref sig .tc := ⟨.hbm, 1197, rfl⟩
abbrev main_call4_call0_v157 : Ref sig .tc := ⟨.hbm, 1198, rfl⟩
abbrev main_call4_call0_v158 : Ref sig .tc := ⟨.hbm, 1199, rfl⟩
abbrev main_call4_call0_c_43 : Ref sig .tc := ⟨.hbm, 1200, rfl⟩
abbrev main_call4_call0_v159 : Ref sig .tc := ⟨.hbm, 1201, rfl⟩
abbrev main_call4_call0_v160 : Ref sig .tc := ⟨.hbm, 1202, rfl⟩
abbrev main_call4_call0_v161 : Ref sig .tc := ⟨.hbm, 1203, rfl⟩
abbrev main_call4_call0_v162 : Ref sig .tc := ⟨.hbm, 1204, rfl⟩
abbrev main_call4_v6_0 : Ref sig .tc := ⟨.hbm, 1205, rfl⟩
abbrev main_call4_call0_v164 : Ref sig .tc := ⟨.hbm, 1206, rfl⟩
abbrev main_call4_call0_c_44 : Ref sig .tc := ⟨.hbm, 1207, rfl⟩
abbrev main_call4_call0_v165 : Ref sig .tc := ⟨.hbm, 1208, rfl⟩
abbrev main_call4_v6_1 : Ref sig .tc := ⟨.hbm, 1209, rfl⟩
abbrev main_call4_v7 : Ref sig .tc := ⟨.hbm, 1210, rfl⟩
abbrev main_call4_c_1 : Ref sig .tc := ⟨.hbm, 1211, rfl⟩
abbrev main_call4_v8 : Ref sig .tc := ⟨.hbm, 1212, rfl⟩
abbrev main_call4_v9 : Ref sig .tc := ⟨.hbm, 1213, rfl⟩
abbrev main_call4_c_2 : Ref sig .tc := ⟨.hbm, 1214, rfl⟩
abbrev main_call4_v10 : Ref sig .tc := ⟨.hbm, 1215, rfl⟩
abbrev main_call4_v11 : Ref sig .tc := ⟨.hbm, 1216, rfl⟩
abbrev main_call4_v12 : Ref sig .tc := ⟨.hbm, 1217, rfl⟩
abbrev main_call4_cst : Ref sig .tc := ⟨.hbm, 1218, rfl⟩
abbrev main_call4_v13 : Ref sig .tc := ⟨.hbm, 1219, rfl⟩
abbrev main_call4_v14 : Ref sig .tc := ⟨.hbm, 1220, rfl⟩
abbrev main_call4_v15 : Ref sig .tc := ⟨.hbm, 1221, rfl⟩
abbrev main_call4_v16 : Ref sig .tc := ⟨.hbm, 1222, rfl⟩
abbrev main_call4_v17 : Ref sig .tc := ⟨.hbm, 1223, rfl⟩
abbrev main_call4_v18 : Ref sig .tc := ⟨.hbm, 1224, rfl⟩
abbrev main_call4_v19 : Ref sig .tc := ⟨.hbm, 1225, rfl⟩
abbrev main_call4_v20 : Ref sig .tc := ⟨.hbm, 1226, rfl⟩
abbrev main_v21 : Ref sig .tc := ⟨.hbm, 1227, rfl⟩
abbrev main_cst_7 : Ref sig .tc := ⟨.hbm, 1228, rfl⟩
abbrev main_cst_8 : Ref sig .tc := ⟨.hbm, 1229, rfl⟩
abbrev main_call5_v0 : Ref sig .tc := ⟨.hbm, 1230, rfl⟩
abbrev main_call5_v1 : Ref sig .tc := ⟨.hbm, 1231, rfl⟩
abbrev main_call5_v2 : Ref sig .tc := ⟨.hbm, 1232, rfl⟩
abbrev main_call5_v3 : Ref sig .tc := ⟨.hbm, 1233, rfl⟩
abbrev main_call5_v4 : Ref sig .tc := ⟨.hbm, 1234, rfl⟩
abbrev main_call5_v5 : Ref sig .tc := ⟨.hbm, 1235, rfl⟩
abbrev main_call5_v6 : Ref sig .tc := ⟨.hbm, 1236, rfl⟩
abbrev main_call5_v7 : Ref sig .tc := ⟨.hbm, 1237, rfl⟩
abbrev main_call5_v8 : Ref sig .tc := ⟨.hbm, 1238, rfl⟩
abbrev main_call5_c : Ref sig .tc := ⟨.hbm, 1239, rfl⟩
abbrev main_call5_v9 : Ref sig .tc := ⟨.hbm, 1240, rfl⟩
abbrev main_call5_v10 : Ref sig .tc := ⟨.hbm, 1241, rfl⟩
abbrev main_call5_c_0 : Ref sig .tc := ⟨.hbm, 1242, rfl⟩
abbrev main_call5_v11 : Ref sig .tc := ⟨.hbm, 1243, rfl⟩
abbrev main_call5_v12 : Ref sig .tc := ⟨.hbm, 1244, rfl⟩
abbrev main_call5_v13 : Ref sig .tc := ⟨.hbm, 1245, rfl⟩
abbrev main_call5_v14 : Ref sig .tc := ⟨.hbm, 1246, rfl⟩
abbrev main_call5_v15 : Ref sig .tc := ⟨.hbm, 1247, rfl⟩
abbrev main_call5_v16 : Ref sig .tc := ⟨.hbm, 1248, rfl⟩
abbrev main_call5_v17 : Ref sig .tc := ⟨.hbm, 1249, rfl⟩
abbrev main_call5_v18 : Ref sig .tc := ⟨.hbm, 1250, rfl⟩
abbrev main_call5_call0_v0 : Ref sig .tc := ⟨.hbm, 1251, rfl⟩
abbrev main_call5_call0_c : Ref sig .tc := ⟨.hbm, 1252, rfl⟩
abbrev main_call5_call0_v1 : Ref sig .tc := ⟨.hbm, 1253, rfl⟩
abbrev main_call5_call0_v2 : Ref sig .tc := ⟨.hbm, 1254, rfl⟩
abbrev main_call5_call0_v3 : Ref sig .tc := ⟨.hbm, 1255, rfl⟩
abbrev main_call5_call0_v4 : Ref sig .tc := ⟨.hbm, 1256, rfl⟩
abbrev main_call5_call0_v5 : Ref sig .tc := ⟨.hbm, 1257, rfl⟩
abbrev main_call5_call0_v6 : Ref sig .tc := ⟨.hbm, 1258, rfl⟩
abbrev main_call5_call0_v7 : Ref sig .tc := ⟨.hbm, 1259, rfl⟩
abbrev main_call5_call0_v8 : Ref sig .tc := ⟨.hbm, 1260, rfl⟩
abbrev main_call5_call0_v9 : Ref sig .tc := ⟨.hbm, 1261, rfl⟩
abbrev main_call5_call0_c_0 : Ref sig .tc := ⟨.hbm, 1262, rfl⟩
abbrev main_call5_call0_v10 : Ref sig .tc := ⟨.hbm, 1263, rfl⟩
abbrev main_call5_call0_v11 : Ref sig .tc := ⟨.hbm, 1264, rfl⟩
abbrev main_call5_call0_c_1 : Ref sig .tc := ⟨.hbm, 1265, rfl⟩
abbrev main_call5_call0_v12 : Ref sig .tc := ⟨.hbm, 1266, rfl⟩
abbrev main_call5_call0_v13 : Ref sig .tc := ⟨.hbm, 1267, rfl⟩
abbrev main_call5_call0_v14 : Ref sig .tc := ⟨.hbm, 1268, rfl⟩
abbrev main_call5_call0_v15 : Ref sig .tc := ⟨.hbm, 1269, rfl⟩
abbrev main_call5_call0_v16 : Ref sig .tc := ⟨.hbm, 1270, rfl⟩
abbrev main_call5_call0_c_2 : Ref sig .tc := ⟨.hbm, 1271, rfl⟩
abbrev main_call5_call0_v17 : Ref sig .tc := ⟨.hbm, 1272, rfl⟩
abbrev main_call5_call0_v18 : Ref sig .tc := ⟨.hbm, 1273, rfl⟩
abbrev main_call5_call0_c_3 : Ref sig .tc := ⟨.hbm, 1274, rfl⟩
abbrev main_call5_call0_v19 : Ref sig .tc := ⟨.hbm, 1275, rfl⟩
abbrev main_call5_call0_v20 : Ref sig .tc := ⟨.hbm, 1276, rfl⟩
abbrev main_call5_call0_v21 : Ref sig .tc := ⟨.hbm, 1277, rfl⟩
abbrev main_call5_call0_v22 : Ref sig .tc := ⟨.hbm, 1278, rfl⟩
abbrev main_call5_call0_v23 : Ref sig .tc := ⟨.hbm, 1279, rfl⟩
abbrev main_call5_call0_c_4 : Ref sig .tc := ⟨.hbm, 1280, rfl⟩
abbrev main_call5_call0_v24 : Ref sig .tc := ⟨.hbm, 1281, rfl⟩
abbrev main_call5_call0_v25 : Ref sig .tc := ⟨.hbm, 1282, rfl⟩
abbrev main_call5_call0_c_5 : Ref sig .tc := ⟨.hbm, 1283, rfl⟩
abbrev main_call5_call0_v26 : Ref sig .tc := ⟨.hbm, 1284, rfl⟩
abbrev main_call5_call0_v27 : Ref sig .tc := ⟨.hbm, 1285, rfl⟩
abbrev main_call5_call0_v28 : Ref sig .tc := ⟨.hbm, 1286, rfl⟩
abbrev main_call5_call0_v29 : Ref sig .tc := ⟨.hbm, 1287, rfl⟩
abbrev main_call5_call0_v30 : Ref sig .tc := ⟨.hbm, 1288, rfl⟩
abbrev main_call5_call0_c_6 : Ref sig .tc := ⟨.hbm, 1289, rfl⟩
abbrev main_call5_call0_v31 : Ref sig .tc := ⟨.hbm, 1290, rfl⟩
abbrev main_call5_call0_v32 : Ref sig .tc := ⟨.hbm, 1291, rfl⟩
abbrev main_call5_call0_c_7 : Ref sig .tc := ⟨.hbm, 1292, rfl⟩
abbrev main_call5_call0_v33 : Ref sig .tc := ⟨.hbm, 1293, rfl⟩
abbrev main_call5_call0_v34 : Ref sig .tc := ⟨.hbm, 1294, rfl⟩
abbrev main_call5_call0_v35 : Ref sig .tc := ⟨.hbm, 1295, rfl⟩
abbrev main_call5_call0_v36 : Ref sig .tc := ⟨.hbm, 1296, rfl⟩
abbrev main_call5_call0_v37 : Ref sig .tc := ⟨.hbm, 1297, rfl⟩
abbrev main_call5_call0_v38 : Ref sig .tc := ⟨.hbm, 1298, rfl⟩
abbrev main_call5_call0_v39 : Ref sig .tc := ⟨.hbm, 1299, rfl⟩
abbrev main_call5_call0_v40 : Ref sig .tc := ⟨.hbm, 1300, rfl⟩
abbrev main_call5_call0_c_8 : Ref sig .tc := ⟨.hbm, 1301, rfl⟩
abbrev main_call5_call0_v41 : Ref sig .tc := ⟨.hbm, 1302, rfl⟩
abbrev main_call5_call0_v42 : Ref sig .tc := ⟨.hbm, 1303, rfl⟩
abbrev main_call5_call0_v43 : Ref sig .tc := ⟨.hbm, 1304, rfl⟩
abbrev main_call5_call0_c_9 : Ref sig .tc := ⟨.hbm, 1305, rfl⟩
abbrev main_call5_call0_v44 : Ref sig .tc := ⟨.hbm, 1306, rfl⟩
abbrev main_call5_call0_v45 : Ref sig .tc := ⟨.hbm, 1307, rfl⟩
abbrev main_call5_call0_c_10 : Ref sig .tc := ⟨.hbm, 1308, rfl⟩
abbrev main_call5_call0_v46 : Ref sig .tc := ⟨.hbm, 1309, rfl⟩
abbrev main_call5_call0_v47 : Ref sig .tc := ⟨.hbm, 1310, rfl⟩
abbrev main_call5_call0_v48 : Ref sig .tc := ⟨.hbm, 1311, rfl⟩
abbrev main_call5_call0_v49 : Ref sig .tc := ⟨.hbm, 1312, rfl⟩
abbrev main_call5_call0_v50 : Ref sig .tc := ⟨.hbm, 1313, rfl⟩
abbrev main_call5_call0_c_11 : Ref sig .tc := ⟨.hbm, 1314, rfl⟩
abbrev main_call5_call0_v51 : Ref sig .tc := ⟨.hbm, 1315, rfl⟩
abbrev main_call5_call0_v52 : Ref sig .tc := ⟨.hbm, 1316, rfl⟩
abbrev main_call5_call0_c_12 : Ref sig .tc := ⟨.hbm, 1317, rfl⟩
abbrev main_call5_call0_v53 : Ref sig .tc := ⟨.hbm, 1318, rfl⟩
abbrev main_call5_call0_v54 : Ref sig .tc := ⟨.hbm, 1319, rfl⟩
abbrev main_call5_call0_v55 : Ref sig .tc := ⟨.hbm, 1320, rfl⟩
abbrev main_call5_call0_v56 : Ref sig .tc := ⟨.hbm, 1321, rfl⟩
abbrev main_call5_call0_v57 : Ref sig .tc := ⟨.hbm, 1322, rfl⟩
abbrev main_call5_call0_c_13 : Ref sig .tc := ⟨.hbm, 1323, rfl⟩
abbrev main_call5_call0_v58 : Ref sig .tc := ⟨.hbm, 1324, rfl⟩
abbrev main_call5_call0_v59 : Ref sig .tc := ⟨.hbm, 1325, rfl⟩
abbrev main_call5_call0_c_14 : Ref sig .tc := ⟨.hbm, 1326, rfl⟩
abbrev main_call5_call0_v60 : Ref sig .tc := ⟨.hbm, 1327, rfl⟩
abbrev main_call5_call0_v61 : Ref sig .tc := ⟨.hbm, 1328, rfl⟩
abbrev main_call5_call0_v62 : Ref sig .tc := ⟨.hbm, 1329, rfl⟩
abbrev main_call5_call0_v63 : Ref sig .tc := ⟨.hbm, 1330, rfl⟩
abbrev main_call5_call0_v64 : Ref sig .tc := ⟨.hbm, 1331, rfl⟩
abbrev main_call5_call0_c_15 : Ref sig .tc := ⟨.hbm, 1332, rfl⟩
abbrev main_call5_call0_v65 : Ref sig .tc := ⟨.hbm, 1333, rfl⟩
abbrev main_call5_call0_v66 : Ref sig .tc := ⟨.hbm, 1334, rfl⟩
abbrev main_call5_call0_c_16 : Ref sig .tc := ⟨.hbm, 1335, rfl⟩
abbrev main_call5_call0_v67 : Ref sig .tc := ⟨.hbm, 1336, rfl⟩
abbrev main_call5_call0_v68 : Ref sig .tc := ⟨.hbm, 1337, rfl⟩
abbrev main_call5_call0_v69 : Ref sig .tc := ⟨.hbm, 1338, rfl⟩
abbrev main_call5_call0_v70 : Ref sig .tc := ⟨.hbm, 1339, rfl⟩
abbrev main_call5_call0_v71 : Ref sig .tc := ⟨.hbm, 1340, rfl⟩
abbrev main_call5_call0_v72 : Ref sig .tc := ⟨.hbm, 1341, rfl⟩
abbrev main_call5_call0_v73 : Ref sig .tc := ⟨.hbm, 1342, rfl⟩
abbrev main_call5_call0_v74 : Ref sig .tc := ⟨.hbm, 1343, rfl⟩
abbrev main_call5_call0_c_17 : Ref sig .tc := ⟨.hbm, 1344, rfl⟩
abbrev main_call5_call0_v75 : Ref sig .tc := ⟨.hbm, 1345, rfl⟩
abbrev main_call5_call0_v76 : Ref sig .tc := ⟨.hbm, 1346, rfl⟩
abbrev main_call5_call0_v77 : Ref sig .tc := ⟨.hbm, 1347, rfl⟩
abbrev main_call5_call0_c_18 : Ref sig .tc := ⟨.hbm, 1348, rfl⟩
abbrev main_call5_call0_v78 : Ref sig .tc := ⟨.hbm, 1349, rfl⟩
abbrev main_call5_call0_v79 : Ref sig .tc := ⟨.hbm, 1350, rfl⟩
abbrev main_call5_call0_c_19 : Ref sig .tc := ⟨.hbm, 1351, rfl⟩
abbrev main_call5_call0_v80 : Ref sig .tc := ⟨.hbm, 1352, rfl⟩
abbrev main_call5_call0_v81 : Ref sig .tc := ⟨.hbm, 1353, rfl⟩
abbrev main_call5_call0_v82 : Ref sig .tc := ⟨.hbm, 1354, rfl⟩
abbrev main_call5_call0_v83 : Ref sig .tc := ⟨.hbm, 1355, rfl⟩
abbrev main_call5_call0_v84 : Ref sig .tc := ⟨.hbm, 1356, rfl⟩
abbrev main_call5_call0_c_20 : Ref sig .tc := ⟨.hbm, 1357, rfl⟩
abbrev main_call5_call0_v85 : Ref sig .tc := ⟨.hbm, 1358, rfl⟩
abbrev main_call5_call0_v86 : Ref sig .tc := ⟨.hbm, 1359, rfl⟩
abbrev main_call5_call0_c_21 : Ref sig .tc := ⟨.hbm, 1360, rfl⟩
abbrev main_call5_call0_v87 : Ref sig .tc := ⟨.hbm, 1361, rfl⟩
abbrev main_call5_call0_v88 : Ref sig .tc := ⟨.hbm, 1362, rfl⟩
abbrev main_call5_call0_v89 : Ref sig .tc := ⟨.hbm, 1363, rfl⟩
abbrev main_call5_call0_v90 : Ref sig .tc := ⟨.hbm, 1364, rfl⟩
abbrev main_call5_call0_v91 : Ref sig .tc := ⟨.hbm, 1365, rfl⟩
abbrev main_call5_call0_c_22 : Ref sig .tc := ⟨.hbm, 1366, rfl⟩
abbrev main_call5_call0_v92 : Ref sig .tc := ⟨.hbm, 1367, rfl⟩
abbrev main_call5_call0_v93 : Ref sig .tc := ⟨.hbm, 1368, rfl⟩
abbrev main_call5_call0_c_23 : Ref sig .tc := ⟨.hbm, 1369, rfl⟩
abbrev main_call5_call0_v94 : Ref sig .tc := ⟨.hbm, 1370, rfl⟩
abbrev main_call5_call0_v95 : Ref sig .tc := ⟨.hbm, 1371, rfl⟩
abbrev main_call5_call0_v96 : Ref sig .tc := ⟨.hbm, 1372, rfl⟩
abbrev main_call5_call0_v97 : Ref sig .tc := ⟨.hbm, 1373, rfl⟩
abbrev main_call5_call0_v98 : Ref sig .tc := ⟨.hbm, 1374, rfl⟩
abbrev main_call5_call0_c_24 : Ref sig .tc := ⟨.hbm, 1375, rfl⟩
abbrev main_call5_call0_v99 : Ref sig .tc := ⟨.hbm, 1376, rfl⟩
abbrev main_call5_call0_v100 : Ref sig .tc := ⟨.hbm, 1377, rfl⟩
abbrev main_call5_call0_c_25 : Ref sig .tc := ⟨.hbm, 1378, rfl⟩
abbrev main_call5_call0_v101 : Ref sig .tc := ⟨.hbm, 1379, rfl⟩
abbrev main_call5_call0_v102 : Ref sig .tc := ⟨.hbm, 1380, rfl⟩
abbrev main_call5_call0_v103 : Ref sig .tc := ⟨.hbm, 1381, rfl⟩
abbrev main_call5_call0_v104 : Ref sig .tc := ⟨.hbm, 1382, rfl⟩
abbrev main_call5_call0_v105 : Ref sig .tc := ⟨.hbm, 1383, rfl⟩
abbrev main_call5_call0_v106 : Ref sig .tc := ⟨.hbm, 1384, rfl⟩
abbrev main_call5_call0_v107 : Ref sig .tc := ⟨.hbm, 1385, rfl⟩
abbrev main_call5_call0_v108 : Ref sig .tc := ⟨.hbm, 1386, rfl⟩
abbrev main_call5_call0_c_26 : Ref sig .tc := ⟨.hbm, 1387, rfl⟩
abbrev main_call5_call0_v109 : Ref sig .tc := ⟨.hbm, 1388, rfl⟩
abbrev main_call5_call0_v110 : Ref sig .tc := ⟨.hbm, 1389, rfl⟩
abbrev main_call5_call0_v111 : Ref sig .tc := ⟨.hbm, 1390, rfl⟩
abbrev main_call5_call0_c_27 : Ref sig .tc := ⟨.hbm, 1391, rfl⟩
abbrev main_call5_call0_v112 : Ref sig .tc := ⟨.hbm, 1392, rfl⟩
abbrev main_call5_call0_v113 : Ref sig .tc := ⟨.hbm, 1393, rfl⟩
abbrev main_call5_call0_c_28 : Ref sig .tc := ⟨.hbm, 1394, rfl⟩
abbrev main_call5_call0_v114 : Ref sig .tc := ⟨.hbm, 1395, rfl⟩
abbrev main_call5_call0_v115 : Ref sig .tc := ⟨.hbm, 1396, rfl⟩
abbrev main_call5_call0_v116 : Ref sig .tc := ⟨.hbm, 1397, rfl⟩
abbrev main_call5_call0_v117 : Ref sig .tc := ⟨.hbm, 1398, rfl⟩
abbrev main_call5_call0_v118 : Ref sig .tc := ⟨.hbm, 1399, rfl⟩
abbrev main_call5_call0_c_29 : Ref sig .tc := ⟨.hbm, 1400, rfl⟩
abbrev main_call5_call0_v119 : Ref sig .tc := ⟨.hbm, 1401, rfl⟩
abbrev main_call5_call0_v120 : Ref sig .tc := ⟨.hbm, 1402, rfl⟩
abbrev main_call5_call0_c_30 : Ref sig .tc := ⟨.hbm, 1403, rfl⟩
abbrev main_call5_call0_v121 : Ref sig .tc := ⟨.hbm, 1404, rfl⟩
abbrev main_call5_call0_v122 : Ref sig .tc := ⟨.hbm, 1405, rfl⟩
abbrev main_call5_call0_v123 : Ref sig .tc := ⟨.hbm, 1406, rfl⟩
abbrev main_call5_call0_v124 : Ref sig .tc := ⟨.hbm, 1407, rfl⟩
abbrev main_call5_call0_v125 : Ref sig .tc := ⟨.hbm, 1408, rfl⟩
abbrev main_call5_call0_c_31 : Ref sig .tc := ⟨.hbm, 1409, rfl⟩
abbrev main_call5_call0_v126 : Ref sig .tc := ⟨.hbm, 1410, rfl⟩
abbrev main_call5_call0_v127 : Ref sig .tc := ⟨.hbm, 1411, rfl⟩
abbrev main_call5_call0_c_32 : Ref sig .tc := ⟨.hbm, 1412, rfl⟩
abbrev main_call5_call0_v128 : Ref sig .tc := ⟨.hbm, 1413, rfl⟩
abbrev main_call5_call0_v129 : Ref sig .tc := ⟨.hbm, 1414, rfl⟩
abbrev main_call5_call0_v130 : Ref sig .tc := ⟨.hbm, 1415, rfl⟩
abbrev main_call5_call0_v131 : Ref sig .tc := ⟨.hbm, 1416, rfl⟩
abbrev main_call5_call0_v132 : Ref sig .tc := ⟨.hbm, 1417, rfl⟩
abbrev main_call5_call0_c_33 : Ref sig .tc := ⟨.hbm, 1418, rfl⟩
abbrev main_call5_call0_v133 : Ref sig .tc := ⟨.hbm, 1419, rfl⟩
abbrev main_call5_call0_v134 : Ref sig .tc := ⟨.hbm, 1420, rfl⟩
abbrev main_call5_call0_c_34 : Ref sig .tc := ⟨.hbm, 1421, rfl⟩
abbrev main_call5_call0_v135 : Ref sig .tc := ⟨.hbm, 1422, rfl⟩
abbrev main_call5_call0_v136 : Ref sig .tc := ⟨.hbm, 1423, rfl⟩
abbrev main_call5_call0_v137 : Ref sig .tc := ⟨.hbm, 1424, rfl⟩
abbrev main_call5_call0_v138 : Ref sig .tc := ⟨.hbm, 1425, rfl⟩
abbrev main_call5_call0_v139 : Ref sig .tc := ⟨.hbm, 1426, rfl⟩
abbrev main_call5_call0_v140 : Ref sig .tc := ⟨.hbm, 1427, rfl⟩
abbrev main_call5_call0_v141 : Ref sig .tc := ⟨.hbm, 1428, rfl⟩
abbrev main_call5_call0_v142 : Ref sig .tc := ⟨.hbm, 1429, rfl⟩
abbrev main_call5_call0_c_35 : Ref sig .tc := ⟨.hbm, 1430, rfl⟩
abbrev main_call5_call0_v143 : Ref sig .tc := ⟨.hbm, 1431, rfl⟩
abbrev main_call5_call0_v144 : Ref sig .tc := ⟨.hbm, 1432, rfl⟩
abbrev main_call5_call0_v145 : Ref sig .tc := ⟨.hbm, 1433, rfl⟩
abbrev main_call5_call0_c_36 : Ref sig .tc := ⟨.hbm, 1434, rfl⟩
abbrev main_call5_call0_v146 : Ref sig .tc := ⟨.hbm, 1435, rfl⟩
abbrev main_call5_call0_v147 : Ref sig .tc := ⟨.hbm, 1436, rfl⟩
abbrev main_call5_call0_c_37 : Ref sig .tc := ⟨.hbm, 1437, rfl⟩
abbrev main_call5_call0_v148 : Ref sig .tc := ⟨.hbm, 1438, rfl⟩
abbrev main_call5_call0_v149 : Ref sig .tc := ⟨.hbm, 1439, rfl⟩
abbrev main_call5_call0_v150 : Ref sig .tc := ⟨.hbm, 1440, rfl⟩
abbrev main_call5_call0_v151 : Ref sig .tc := ⟨.hbm, 1441, rfl⟩
abbrev main_call5_call0_v152 : Ref sig .tc := ⟨.hbm, 1442, rfl⟩
abbrev main_call5_call0_c_38 : Ref sig .tc := ⟨.hbm, 1443, rfl⟩
abbrev main_call5_call0_v153 : Ref sig .tc := ⟨.hbm, 1444, rfl⟩
abbrev main_call5_call0_v154 : Ref sig .tc := ⟨.hbm, 1445, rfl⟩
abbrev main_call5_call0_c_39 : Ref sig .tc := ⟨.hbm, 1446, rfl⟩
abbrev main_call5_call0_v155 : Ref sig .tc := ⟨.hbm, 1447, rfl⟩
abbrev main_call5_call0_v156 : Ref sig .tc := ⟨.hbm, 1448, rfl⟩
abbrev main_call5_call0_v157 : Ref sig .tc := ⟨.hbm, 1449, rfl⟩
abbrev main_call5_call0_v158 : Ref sig .tc := ⟨.hbm, 1450, rfl⟩
abbrev main_call5_call0_v159 : Ref sig .tc := ⟨.hbm, 1451, rfl⟩
abbrev main_call5_call0_c_40 : Ref sig .tc := ⟨.hbm, 1452, rfl⟩
abbrev main_call5_call0_v160 : Ref sig .tc := ⟨.hbm, 1453, rfl⟩
abbrev main_call5_call0_v161 : Ref sig .tc := ⟨.hbm, 1454, rfl⟩
abbrev main_call5_call0_c_41 : Ref sig .tc := ⟨.hbm, 1455, rfl⟩
abbrev main_call5_call0_v162 : Ref sig .tc := ⟨.hbm, 1456, rfl⟩
abbrev main_call5_call0_v163 : Ref sig .tc := ⟨.hbm, 1457, rfl⟩
abbrev main_call5_call0_v164 : Ref sig .tc := ⟨.hbm, 1458, rfl⟩
abbrev main_call5_call0_v165 : Ref sig .tc := ⟨.hbm, 1459, rfl⟩
abbrev main_call5_call0_v166 : Ref sig .tc := ⟨.hbm, 1460, rfl⟩
abbrev main_call5_call0_c_42 : Ref sig .tc := ⟨.hbm, 1461, rfl⟩
abbrev main_call5_call0_v167 : Ref sig .tc := ⟨.hbm, 1462, rfl⟩
abbrev main_call5_call0_v168 : Ref sig .tc := ⟨.hbm, 1463, rfl⟩
abbrev main_call5_call0_c_43 : Ref sig .tc := ⟨.hbm, 1464, rfl⟩
abbrev main_call5_call0_v169 : Ref sig .tc := ⟨.hbm, 1465, rfl⟩
abbrev main_call5_call0_v170 : Ref sig .tc := ⟨.hbm, 1466, rfl⟩
abbrev main_call5_call0_v171 : Ref sig .tc := ⟨.hbm, 1467, rfl⟩
abbrev main_call5_call0_v172 : Ref sig .tc := ⟨.hbm, 1468, rfl⟩
abbrev main_call5_call0_v173 : Ref sig .tc := ⟨.hbm, 1469, rfl⟩
abbrev main_call5_v19_0 : Ref sig .tc := ⟨.hbm, 1470, rfl⟩
abbrev main_call5_call0_v175 : Ref sig .tc := ⟨.hbm, 1471, rfl⟩
abbrev main_call5_call0_v176 : Ref sig .tc := ⟨.hbm, 1472, rfl⟩
abbrev main_call5_call0_c_44 : Ref sig .tc := ⟨.hbm, 1473, rfl⟩
abbrev main_call5_call0_v177 : Ref sig .tc := ⟨.hbm, 1474, rfl⟩
abbrev main_call5_v19_1 : Ref sig .tc := ⟨.hbm, 1475, rfl⟩
abbrev main_call5_v20 : Ref sig .tc := ⟨.hbm, 1476, rfl⟩
abbrev main_call5_c_1 : Ref sig .tc := ⟨.hbm, 1477, rfl⟩
abbrev main_call5_v21 : Ref sig .tc := ⟨.hbm, 1478, rfl⟩
abbrev main_call5_v22 : Ref sig .tc := ⟨.hbm, 1479, rfl⟩
abbrev main_call5_c_2 : Ref sig .tc := ⟨.hbm, 1480, rfl⟩
abbrev main_call5_v23 : Ref sig .tc := ⟨.hbm, 1481, rfl⟩
abbrev main_call5_v24 : Ref sig .tc := ⟨.hbm, 1482, rfl⟩
abbrev main_call5_v25 : Ref sig .tc := ⟨.hbm, 1483, rfl⟩
abbrev main_call5_cst : Ref sig .tc := ⟨.hbm, 1484, rfl⟩
abbrev main_call5_v26 : Ref sig .tc := ⟨.hbm, 1485, rfl⟩
abbrev main_call5_v27 : Ref sig .tc := ⟨.hbm, 1486, rfl⟩
abbrev main_call5_v28 : Ref sig .tc := ⟨.hbm, 1487, rfl⟩
abbrev main_call5_v29 : Ref sig .tc := ⟨.hbm, 1488, rfl⟩
abbrev main_call5_v30 : Ref sig .tc := ⟨.hbm, 1489, rfl⟩
abbrev main_call5_v31 : Ref sig .tc := ⟨.hbm, 1490, rfl⟩
abbrev main_call5_v32 : Ref sig .tc := ⟨.hbm, 1491, rfl⟩
abbrev main_call5_v33 : Ref sig .tc := ⟨.hbm, 1492, rfl⟩
abbrev main_call5_v34 : Ref sig .tc := ⟨.hbm, 1493, rfl⟩
abbrev main_call5_v35 : Ref sig .tc := ⟨.hbm, 1494, rfl⟩
abbrev main_call5_v36 : Ref sig .tc := ⟨.hbm, 1495, rfl⟩
abbrev main_v22 : Ref sig .tc := ⟨.hbm, 1496, rfl⟩
abbrev main_c_9 : Ref sig .tc := ⟨.hbm, 1497, rfl⟩
abbrev main_v23 : Ref sig .tc := ⟨.hbm, 1498, rfl⟩
abbrev main_v24 : Ref sig .tc := ⟨.hbm, 1499, rfl⟩
abbrev main_cst_10 : Ref sig .tc := ⟨.hbm, 1500, rfl⟩
abbrev main_v25 : Ref sig .tc := ⟨.hbm, 1501, rfl⟩
abbrev main_v26 : Ref sig .tc := ⟨.hbm, 1502, rfl⟩
abbrev main_v27 : Ref sig .tc := ⟨.hbm, 1503, rfl⟩
abbrev main_v28 : Ref sig .tc := ⟨.hbm, 1504, rfl⟩
abbrev main_cst_11 : Ref sig .tc := ⟨.hbm, 1505, rfl⟩
abbrev main_v29 : Ref sig .tc := ⟨.hbm, 1506, rfl⟩
abbrev main_v30 : Ref sig .tc := ⟨.hbm, 1507, rfl⟩
abbrev main_v31 : Ref sig .tc := ⟨.hbm, 1508, rfl⟩
abbrev main_v32 : Ref sig .tc := ⟨.hbm, 1509, rfl⟩
abbrev main_c_12 : Ref sig .tc := ⟨.hbm, 1510, rfl⟩
abbrev main_v33 : Ref sig .tc := ⟨.hbm, 1511, rfl⟩
abbrev main_v34 : Ref sig .tc := ⟨.hbm, 1512, rfl⟩
abbrev main_v35 : Ref sig .tc := ⟨.hbm, 1513, rfl⟩
abbrev main_v36 : Ref sig .tc := ⟨.hbm, 1514, rfl⟩
abbrev main_v37 : Ref sig .tc := ⟨.hbm, 1515, rfl⟩
abbrev main_arg0_scv : Ref sig .scVector := ⟨.hbm, 0, rfl⟩
abbrev main_v32_scv : Ref sig .scVector := ⟨.hbm, 1509, rfl⟩
abbrev main_v36_scv : Ref sig .scVector := ⟨.hbm, 1514, rfl⟩
abbrev main_v37_scv : Ref sig .scVector := ⟨.hbm, 1515, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch13 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi v2 c0_i32
  let c0_i32_0 : BitVec 32 := 0#32
  ![v5.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi v2 c0_i32
  let c0_i32_2 : BitVec 32 := 0#32
  ![v5.toNat, 0]
@[reducible] def k0_t1_loop : Scf.Loop 32 :=
  let c0_i32_18 : BitVec 32 := 0#32
  let c128_i32_19 : BitVec 32 := 128#32
  let v26 : BitVec 32 := Scalar.addi c0_i32_18 c128_i32_19
  let c1_i32 : BitVec 32 := 1#32
  ⟨c0_i32_18, v26, c1_i32⟩
def k0_off3 (k0_t1 : Fin k0_t1_loop.trips) : Fin 2 → Nat :=
  let c0_i32_18 : BitVec 32 := 0#32
  let c1_i32 : BitVec 32 := 1#32
  let arg20 : BitVec 32 := Scf.iv c0_i32_18 c1_i32 k0_t1
  let v85 : Index := Scalar.indexCast arg20
  let c0 : Index := 0#32
  ![v85.toNat, 0]
def k0_off4 (k0_t1 : Fin k0_t1_loop.trips) : Fin 2 → Nat :=
  let c0_i32_18 : BitVec 32 := 0#32
  let c1_i32 : BitVec 32 := 1#32
  let arg20 : BitVec 32 := Scf.iv c0_i32_18 c1_i32 k0_t1
  let v92 : Index := Scalar.indexCast arg20
  let c0_88 : Index := 0#32
  ![v92.toNat, 0]
@[reducible] def k0_t2_loop (v95 : BitVec 32) : Scf.Loop 32 :=
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let c1_i32_98 : BitVec 32 := 1#32
  ⟨c0_i32_96, v121, c1_i32_98⟩
def k0_cond1 (v88 : BitVec 32) : BitVec 1 :=
  let c0_i32_86 : BitVec 32 := 0#32
  let v89 : BitVec 1 := Scalar.cmpi .ne v88 c0_i32_86
  let v90 : BitVec 32 := Scalar.extui v89
  let c0_i32_87 : BitVec 32 := 0#32
  let v91 : BitVec 1 := Scalar.cmpi .ne v90 c0_i32_87
  v91

def k0_off5 (k0_t1 : Fin k0_t1_loop.trips) (v95 : BitVec 32) (k0_t2 : Fin (k0_t2_loop v95).trips) : Fin 2 → Nat :=
  let c0_i32_18 : BitVec 32 := 0#32
  let c1_i32 : BitVec 32 := 1#32
  let arg20 : BitVec 32 := Scf.iv c0_i32_18 c1_i32 k0_t1
  let v249 : Index := Scalar.indexCast arg20
  let c0_i32_96 : BitVec 32 := 0#32
  let c1_i32_98 : BitVec 32 := 1#32
  let arg21 : BitVec 32 := Scf.iv c0_i32_96 c1_i32_98 k0_t2
  let c16_i32_128 : BitVec 32 := 16#32
  let v246 : BitVec 32 := Scalar.muli arg21 c16_i32_128
  let v250 : Index := Scalar.indexCast v246
  ![v249.toNat, v250.toNat]

def k0_chk2 (v88 : BitVec 32) (v269 : IVec S16 32) : Prop :=
  (∀ (k0_h1 : k0_cond1 v88 = 1#1), ∀ a x, ((![v269] : Fin 1 → IVec S16 32) a x).toNat < S16.size a)
theorem k0_idx1_inb : ∀ (v88 : BitVec 32) (v269 : IVec S16 32) (k0_hw2 : k0_chk2 v88 v269), ∀ (k0_h1 : k0_cond1 v88 = 1#1), ∀ a x, ((![v269] : Fin 1 → IVec S16 32) a x).toNat < S16.size a := fun v88 v269 k0_hw2 k0_h1 => k0_hw2 k0_h1

def k0_chk3 (v88 : BitVec 32) (v271 : IVec S16 32) : Prop :=
  (∀ (k0_h1 : k0_cond1 v88 = 1#1), ∀ a x, ((![v271] : Fin 1 → IVec S16 32) a x).toNat < S256.size a)
theorem k0_idx2_inb : ∀ (v88 : BitVec 32) (v271 : IVec S16 32) (k0_hw3 : k0_chk3 v88 v271), ∀ (k0_h1 : k0_cond1 v88 = 1#1), ∀ a x, ((![v271] : Fin 1 → IVec S16 32) a x).toNat < S256.size a := fun v88 v271 k0_hw3 k0_h1 => k0_hw3 k0_h1
@[reducible] def k0_t3_loop (v95 : BitVec 32) : Scf.Loop 32 :=
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let v118 : BitVec 32 := Scalar.addi c0_i32_96 v117
  let c1_i32_99 : BitVec 32 := 1#32
  ⟨v121, v118, c1_i32_99⟩
def k0_off6 (k0_t1 : Fin k0_t1_loop.trips) (v95 : BitVec 32) (k0_t3 : Fin (k0_t3_loop v95).trips) : Fin 2 → Nat :=
  let c0_i32_18 : BitVec 32 := 0#32
  let c1_i32 : BitVec 32 := 1#32
  let arg20 : BitVec 32 := Scf.iv c0_i32_18 c1_i32 k0_t1
  let v249 : Index := Scalar.indexCast arg20
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let c1_i32_99 : BitVec 32 := 1#32
  let arg21 : BitVec 32 := Scf.iv v121 c1_i32_99 k0_t3
  let c16_i32_128 : BitVec 32 := 16#32
  let v246 : BitVec 32 := Scalar.muli arg21 c16_i32_128
  let v250 : Index := Scalar.indexCast v246
  ![v249.toNat, v250.toNat]

def k0_chk1 (k0_t1 : Fin k0_t1_loop.trips) (v88 : BitVec 32) (v95 : BitVec 32) : Prop :=
  (∀ (k0_h1 : k0_cond1 v88 = 1#1), (k0_t2_loop v95).OK) ∧
  (∀ k0_t2 : Fin (k0_t2_loop v95).trips, ∀ (k0_h1 : k0_cond1 v88 = 1#1), ∀ a, (k0_off5 k0_t1 v95 k0_t2) a + S1x16.size a ≤ S128x200.size a) ∧
  (∀ (k0_h1 : k0_cond1 v88 = 1#1), (k0_t3_loop v95).OK) ∧
  (∀ k0_t3 : Fin (k0_t3_loop v95).trips, ∀ (k0_h1 : k0_cond1 v88 = 1#1), ∀ a, (k0_off6 k0_t1 v95 k0_t3) a + S1x16.size a ≤ S128x200.size a)
theorem k0_t2_ok : ∀ (k0_t1 : Fin k0_t1_loop.trips) (v88 : BitVec 32) (v95 : BitVec 32) (k0_hw1 : k0_chk1 k0_t1 v88 v95), ∀ (k0_h1 : k0_cond1 v88 = 1#1), (k0_t2_loop v95).OK := fun k0_t1 v88 v95 k0_hw1 k0_h1 => k0_hw1.1 k0_h1
theorem k0_off5_inb : ∀ (k0_t1 : Fin k0_t1_loop.trips) (v88 : BitVec 32) (v95 : BitVec 32) (k0_hw1 : k0_chk1 k0_t1 v88 v95) (k0_t2 : Fin (k0_t2_loop v95).trips), ∀ (k0_h1 : k0_cond1 v88 = 1#1), ∀ a, (k0_off5 k0_t1 v95 k0_t2) a + S1x16.size a ≤ S128x200.size a := fun k0_t1 v88 v95 k0_hw1 k0_t2 k0_h1 => k0_hw1.2.1 k0_t2 k0_h1
theorem k0_t3_ok : ∀ (k0_t1 : Fin k0_t1_loop.trips) (v88 : BitVec 32) (v95 : BitVec 32) (k0_hw1 : k0_chk1 k0_t1 v88 v95), ∀ (k0_h1 : k0_cond1 v88 = 1#1), (k0_t3_loop v95).OK := fun k0_t1 v88 v95 k0_hw1 k0_h1 => k0_hw1.2.2.1 k0_h1
theorem k0_off6_inb : ∀ (k0_t1 : Fin k0_t1_loop.trips) (v88 : BitVec 32) (v95 : BitVec 32) (k0_hw1 : k0_chk1 k0_t1 v88 v95) (k0_t3 : Fin (k0_t3_loop v95).trips), ∀ (k0_h1 : k0_cond1 v88 = 1#1), ∀ a, (k0_off6 k0_t1 v95 k0_t3) a + S1x16.size a ≤ S128x200.size a := fun k0_t1 v88 v95 k0_hw1 k0_t3 k0_h1 => k0_hw1.2.2.2 k0_t3 k0_h1

def k0_chk4 (v88 : BitVec 32) (v269 : IVec S16 32) : Prop :=
  (∀ (k0_h1 : k0_cond1 v88 = 1#1), ∀ a x, ((![v269] : Fin 1 → IVec S16 32) a x).toNat < S16.size a)
theorem k0_idx3_inb : ∀ (v88 : BitVec 32) (v269 : IVec S16 32) (k0_hw4 : k0_chk4 v88 v269), ∀ (k0_h1 : k0_cond1 v88 = 1#1), ∀ a x, ((![v269] : Fin 1 → IVec S16 32) a x).toNat < S16.size a := fun v88 v269 k0_hw4 k0_h1 => k0_hw4 k0_h1

def k0_chk5 (v88 : BitVec 32) (v271 : IVec S16 32) : Prop :=
  (∀ (k0_h1 : k0_cond1 v88 = 1#1), ∀ a x, ((![v271] : Fin 1 → IVec S16 32) a x).toNat < S256.size a)
theorem k0_idx4_inb : ∀ (v88 : BitVec 32) (v271 : IVec S16 32) (k0_hw5 : k0_chk5 v88 v271), ∀ (k0_h1 : k0_cond1 v88 = 1#1), ∀ a x, ((![v271] : Fin 1 → IVec S16 32) a x).toNat < S256.size a := fun v88 v271 k0_hw5 k0_h1 => k0_hw5 k0_h1
def k0_off7 (k0_t1 : Fin k0_t1_loop.trips) : Fin 2 → Nat :=
  let c0_i32_18 : BitVec 32 := 0#32
  let c1_i32 : BitVec 32 := 1#32
  let arg20 : BitVec 32 := Scf.iv c0_i32_18 c1_i32 k0_t1
  let v248 : Index := Scalar.indexCast arg20
  let c184 : Index := 184#32
  ![v248.toNat, 184]
def k0_cond2 (v95 : BitVec 32) : BitVec 1 :=
  let c192_i32 : BitVec 32 := 192#32
  let v124 : BitVec 1 := Scalar.cmpi .sgt v95 c192_i32
  let v125 : BitVec 32 := Scalar.extui v124
  let c0_i32_100 : BitVec 32 := 0#32
  let v126 : BitVec 1 := Scalar.cmpi .ne v125 c0_i32_100
  v126

def k0_chk6 (v88 : BitVec 32) (v95 : BitVec 32) (v270 : IVec S16 32) : Prop :=
  (∀ (k0_h1 : k0_cond1 v88 = 1#1), ∀ (k0_h2 : k0_cond2 v95 = 1#1), ∀ a x, ((![v270] : Fin 1 → IVec S16 32) a x).toNat < S16.size a)
theorem k0_idx5_inb : ∀ (v88 : BitVec 32) (v95 : BitVec 32) (v270 : IVec S16 32) (k0_hw6 : k0_chk6 v88 v95 v270), ∀ (k0_h1 : k0_cond1 v88 = 1#1), ∀ (k0_h2 : k0_cond2 v95 = 1#1), ∀ a x, ((![v270] : Fin 1 → IVec S16 32) a x).toNat < S16.size a := fun v88 v95 v270 k0_hw6 k0_h1 k0_h2 => k0_hw6 k0_h1 k0_h2

def k0_chk7 (v88 : BitVec 32) (v95 : BitVec 32) (v272 : IVec S16 32) : Prop :=
  (∀ (k0_h1 : k0_cond1 v88 = 1#1), ∀ (k0_h2 : k0_cond2 v95 = 1#1), ∀ a x, ((![v272] : Fin 1 → IVec S16 32) a x).toNat < S256.size a)
theorem k0_idx6_inb : ∀ (v88 : BitVec 32) (v95 : BitVec 32) (v272 : IVec S16 32) (k0_hw7 : k0_chk7 v88 v95 v272), ∀ (k0_h1 : k0_cond1 v88 = 1#1), ∀ (k0_h2 : k0_cond2 v95 = 1#1), ∀ a x, ((![v272] : Fin 1 → IVec S16 32) a x).toNat < S256.size a := fun v88 v95 v272 k0_hw7 k0_h1 k0_h2 => k0_hw7 k0_h1 k0_h2

def k0_chk8 (v88 : BitVec 32) (v163 : IVec S16 32) : Prop :=
  (∀ (k0_h1 : k0_cond1 v88 = 1#1), ∀ a x, ((![v163] : Fin 1 → IVec S16 32) a x).toNat < S256.size a)
theorem k0_idx7_inb : ∀ (v88 : BitVec 32) (v163 : IVec S16 32) (k0_hw8 : k0_chk8 v88 v163), ∀ (k0_h1 : k0_cond1 v88 = 1#1), ∀ a x, ((![v163] : Fin 1 → IVec S16 32) a x).toNat < S256.size a := fun v88 v163 k0_hw8 k0_h1 => k0_hw8 k0_h1

def k0_chk10 (v88 : BitVec 32) (v241 : IVec S16 32) : Prop :=
  (∀ (k0_h1 : k0_cond1 v88 = 1#1), ∀ a x, ((![v241] : Fin 1 → IVec S16 32) a x).toNat < S16.size a)
theorem k0_idx9_inb : ∀ (v88 : BitVec 32) (v241 : IVec S16 32) (k0_hw10 : k0_chk10 v88 v241), ∀ (k0_h1 : k0_cond1 v88 = 1#1), ∀ a x, ((![v241] : Fin 1 → IVec S16 32) a x).toNat < S16.size a := fun v88 v241 k0_hw10 k0_h1 => k0_hw10 k0_h1

def k0_chk9 (v88 : BitVec 32) (v168 : IVec S16 32) (v169 : IVec S16 32) : Prop :=
  (∀ (k0_h1 : k0_cond1 v88 = 1#1), ∀ a x, ((![v169, v168] : Fin 2 → IVec S16 32) a x).toNat < S128x200.size a) ∧
  (∀ (k0_h1 : k0_cond1 v88 = 1#1), ∀ a x, ((![v169, v168] : Fin 2 → IVec S16 32) a x).toNat < S128x200.size a)
theorem k0_idx8_inb : ∀ (v88 : BitVec 32) (v168 : IVec S16 32) (v169 : IVec S16 32) (k0_hw9 : k0_chk9 v88 v168 v169), ∀ (k0_h1 : k0_cond1 v88 = 1#1), ∀ a x, ((![v169, v168] : Fin 2 → IVec S16 32) a x).toNat < S128x200.size a := fun v88 v168 v169 k0_hw9 k0_h1 => k0_hw9.1 k0_h1
theorem k0_idx10_inb : ∀ (v88 : BitVec 32) (v168 : IVec S16 32) (v169 : IVec S16 32) (k0_hw9 : k0_chk9 v88 v168 v169), ∀ (k0_h1 : k0_cond1 v88 = 1#1), ∀ a x, ((![v169, v168] : Fin 2 → IVec S16 32) a x).toNat < S128x200.size a := fun v88 v168 v169 k0_hw9 k0_h1 => k0_hw9.2 k0_h1
@[reducible] def k0_t4_loop : Scf.Loop 32 :=
  let c0_i32_39 : BitVec 32 := 0#32
  let c128_i32_40 : BitVec 32 := 128#32
  let v46 : BitVec 32 := Scalar.addi c0_i32_39 c128_i32_40
  let c1_i32_41 : BitVec 32 := 1#32
  ⟨c0_i32_39, v46, c1_i32_41⟩
def k0_off8 (k0_t4 : Fin k0_t4_loop.trips) : Fin 2 → Nat :=
  let c0_i32_39 : BitVec 32 := 0#32
  let c1_i32_41 : BitVec 32 := 1#32
  let arg20 : BitVec 32 := Scf.iv c0_i32_39 c1_i32_41 k0_t4
  let v85 : Index := Scalar.indexCast arg20
  let c0 : Index := 0#32
  ![v85.toNat, 0]
def k0_off9 (k0_t4 : Fin k0_t4_loop.trips) : Fin 2 → Nat :=
  let c0_i32_39 : BitVec 32 := 0#32
  let c1_i32_41 : BitVec 32 := 1#32
  let arg20 : BitVec 32 := Scf.iv c0_i32_39 c1_i32_41 k0_t4
  let v92 : Index := Scalar.indexCast arg20
  let c0_88 : Index := 0#32
  ![v92.toNat, 0]
@[reducible] def k0_t5_loop (v95 : BitVec 32) : Scf.Loop 32 :=
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let c1_i32_98 : BitVec 32 := 1#32
  ⟨c0_i32_96, v121, c1_i32_98⟩
def k0_cond3 (v88 : BitVec 32) : BitVec 1 :=
  let c0_i32_86 : BitVec 32 := 0#32
  let v89 : BitVec 1 := Scalar.cmpi .ne v88 c0_i32_86
  let v90 : BitVec 32 := Scalar.extui v89
  let c0_i32_87 : BitVec 32 := 0#32
  let v91 : BitVec 1 := Scalar.cmpi .ne v90 c0_i32_87
  v91

def k0_off10 (k0_t4 : Fin k0_t4_loop.trips) (v95 : BitVec 32) (k0_t5 : Fin (k0_t5_loop v95).trips) : Fin 2 → Nat :=
  let c0_i32_39 : BitVec 32 := 0#32
  let c1_i32_41 : BitVec 32 := 1#32
  let arg20 : BitVec 32 := Scf.iv c0_i32_39 c1_i32_41 k0_t4
  let v249 : Index := Scalar.indexCast arg20
  let c0_i32_96 : BitVec 32 := 0#32
  let c1_i32_98 : BitVec 32 := 1#32
  let arg21 : BitVec 32 := Scf.iv c0_i32_96 c1_i32_98 k0_t5
  let c16_i32_128 : BitVec 32 := 16#32
  let v246 : BitVec 32 := Scalar.muli arg21 c16_i32_128
  let v250 : Index := Scalar.indexCast v246
  ![v249.toNat, v250.toNat]

def k0_chk12 (v88 : BitVec 32) (v269 : IVec S16 32) : Prop :=
  (∀ (k0_h3 : k0_cond3 v88 = 1#1), ∀ a x, ((![v269] : Fin 1 → IVec S16 32) a x).toNat < S16.size a)
theorem k0_idx11_inb : ∀ (v88 : BitVec 32) (v269 : IVec S16 32) (k0_hw12 : k0_chk12 v88 v269), ∀ (k0_h3 : k0_cond3 v88 = 1#1), ∀ a x, ((![v269] : Fin 1 → IVec S16 32) a x).toNat < S16.size a := fun v88 v269 k0_hw12 k0_h3 => k0_hw12 k0_h3

def k0_chk13 (v88 : BitVec 32) (v271 : IVec S16 32) : Prop :=
  (∀ (k0_h3 : k0_cond3 v88 = 1#1), ∀ a x, ((![v271] : Fin 1 → IVec S16 32) a x).toNat < S256.size a)
theorem k0_idx12_inb : ∀ (v88 : BitVec 32) (v271 : IVec S16 32) (k0_hw13 : k0_chk13 v88 v271), ∀ (k0_h3 : k0_cond3 v88 = 1#1), ∀ a x, ((![v271] : Fin 1 → IVec S16 32) a x).toNat < S256.size a := fun v88 v271 k0_hw13 k0_h3 => k0_hw13 k0_h3
@[reducible] def k0_t6_loop (v95 : BitVec 32) : Scf.Loop 32 :=
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let v118 : BitVec 32 := Scalar.addi c0_i32_96 v117
  let c1_i32_99 : BitVec 32 := 1#32
  ⟨v121, v118, c1_i32_99⟩
def k0_off11 (k0_t4 : Fin k0_t4_loop.trips) (v95 : BitVec 32) (k0_t6 : Fin (k0_t6_loop v95).trips) : Fin 2 → Nat :=
  let c0_i32_39 : BitVec 32 := 0#32
  let c1_i32_41 : BitVec 32 := 1#32
  let arg20 : BitVec 32 := Scf.iv c0_i32_39 c1_i32_41 k0_t4
  let v249 : Index := Scalar.indexCast arg20
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let c1_i32_99 : BitVec 32 := 1#32
  let arg21 : BitVec 32 := Scf.iv v121 c1_i32_99 k0_t6
  let c16_i32_128 : BitVec 32 := 16#32
  let v246 : BitVec 32 := Scalar.muli arg21 c16_i32_128
  let v250 : Index := Scalar.indexCast v246
  ![v249.toNat, v250.toNat]

def k0_chk11 (k0_t4 : Fin k0_t4_loop.trips) (v88 : BitVec 32) (v95 : BitVec 32) : Prop :=
  (∀ (k0_h3 : k0_cond3 v88 = 1#1), (k0_t5_loop v95).OK) ∧
  (∀ k0_t5 : Fin (k0_t5_loop v95).trips, ∀ (k0_h3 : k0_cond3 v88 = 1#1), ∀ a, (k0_off10 k0_t4 v95 k0_t5) a + S1x16.size a ≤ S128x200.size a) ∧
  (∀ (k0_h3 : k0_cond3 v88 = 1#1), (k0_t6_loop v95).OK) ∧
  (∀ k0_t6 : Fin (k0_t6_loop v95).trips, ∀ (k0_h3 : k0_cond3 v88 = 1#1), ∀ a, (k0_off11 k0_t4 v95 k0_t6) a + S1x16.size a ≤ S128x200.size a)
theorem k0_t5_ok : ∀ (k0_t4 : Fin k0_t4_loop.trips) (v88 : BitVec 32) (v95 : BitVec 32) (k0_hw11 : k0_chk11 k0_t4 v88 v95), ∀ (k0_h3 : k0_cond3 v88 = 1#1), (k0_t5_loop v95).OK := fun k0_t4 v88 v95 k0_hw11 k0_h3 => k0_hw11.1 k0_h3
theorem k0_off10_inb : ∀ (k0_t4 : Fin k0_t4_loop.trips) (v88 : BitVec 32) (v95 : BitVec 32) (k0_hw11 : k0_chk11 k0_t4 v88 v95) (k0_t5 : Fin (k0_t5_loop v95).trips), ∀ (k0_h3 : k0_cond3 v88 = 1#1), ∀ a, (k0_off10 k0_t4 v95 k0_t5) a + S1x16.size a ≤ S128x200.size a := fun k0_t4 v88 v95 k0_hw11 k0_t5 k0_h3 => k0_hw11.2.1 k0_t5 k0_h3
theorem k0_t6_ok : ∀ (k0_t4 : Fin k0_t4_loop.trips) (v88 : BitVec 32) (v95 : BitVec 32) (k0_hw11 : k0_chk11 k0_t4 v88 v95), ∀ (k0_h3 : k0_cond3 v88 = 1#1), (k0_t6_loop v95).OK := fun k0_t4 v88 v95 k0_hw11 k0_h3 => k0_hw11.2.2.1 k0_h3
theorem k0_off11_inb : ∀ (k0_t4 : Fin k0_t4_loop.trips) (v88 : BitVec 32) (v95 : BitVec 32) (k0_hw11 : k0_chk11 k0_t4 v88 v95) (k0_t6 : Fin (k0_t6_loop v95).trips), ∀ (k0_h3 : k0_cond3 v88 = 1#1), ∀ a, (k0_off11 k0_t4 v95 k0_t6) a + S1x16.size a ≤ S128x200.size a := fun k0_t4 v88 v95 k0_hw11 k0_t6 k0_h3 => k0_hw11.2.2.2 k0_t6 k0_h3

def k0_chk14 (v88 : BitVec 32) (v269 : IVec S16 32) : Prop :=
  (∀ (k0_h3 : k0_cond3 v88 = 1#1), ∀ a x, ((![v269] : Fin 1 → IVec S16 32) a x).toNat < S16.size a)
theorem k0_idx13_inb : ∀ (v88 : BitVec 32) (v269 : IVec S16 32) (k0_hw14 : k0_chk14 v88 v269), ∀ (k0_h3 : k0_cond3 v88 = 1#1), ∀ a x, ((![v269] : Fin 1 → IVec S16 32) a x).toNat < S16.size a := fun v88 v269 k0_hw14 k0_h3 => k0_hw14 k0_h3

def k0_chk15 (v88 : BitVec 32) (v271 : IVec S16 32) : Prop :=
  (∀ (k0_h3 : k0_cond3 v88 = 1#1), ∀ a x, ((![v271] : Fin 1 → IVec S16 32) a x).toNat < S256.size a)
theorem k0_idx14_inb : ∀ (v88 : BitVec 32) (v271 : IVec S16 32) (k0_hw15 : k0_chk15 v88 v271), ∀ (k0_h3 : k0_cond3 v88 = 1#1), ∀ a x, ((![v271] : Fin 1 → IVec S16 32) a x).toNat < S256.size a := fun v88 v271 k0_hw15 k0_h3 => k0_hw15 k0_h3
def k0_off12 (k0_t4 : Fin k0_t4_loop.trips) : Fin 2 → Nat :=
  let c0_i32_39 : BitVec 32 := 0#32
  let c1_i32_41 : BitVec 32 := 1#32
  let arg20 : BitVec 32 := Scf.iv c0_i32_39 c1_i32_41 k0_t4
  let v248 : Index := Scalar.indexCast arg20
  let c184 : Index := 184#32
  ![v248.toNat, 184]
def k0_cond4 (v95 : BitVec 32) : BitVec 1 :=
  let c192_i32 : BitVec 32 := 192#32
  let v124 : BitVec 1 := Scalar.cmpi .sgt v95 c192_i32
  let v125 : BitVec 32 := Scalar.extui v124
  let c0_i32_100 : BitVec 32 := 0#32
  let v126 : BitVec 1 := Scalar.cmpi .ne v125 c0_i32_100
  v126

def k0_chk16 (v88 : BitVec 32) (v95 : BitVec 32) (v270 : IVec S16 32) : Prop :=
  (∀ (k0_h3 : k0_cond3 v88 = 1#1), ∀ (k0_h4 : k0_cond4 v95 = 1#1), ∀ a x, ((![v270] : Fin 1 → IVec S16 32) a x).toNat < S16.size a)
theorem k0_idx15_inb : ∀ (v88 : BitVec 32) (v95 : BitVec 32) (v270 : IVec S16 32) (k0_hw16 : k0_chk16 v88 v95 v270), ∀ (k0_h3 : k0_cond3 v88 = 1#1), ∀ (k0_h4 : k0_cond4 v95 = 1#1), ∀ a x, ((![v270] : Fin 1 → IVec S16 32) a x).toNat < S16.size a := fun v88 v95 v270 k0_hw16 k0_h3 k0_h4 => k0_hw16 k0_h3 k0_h4

def k0_chk17 (v88 : BitVec 32) (v95 : BitVec 32) (v272 : IVec S16 32) : Prop :=
  (∀ (k0_h3 : k0_cond3 v88 = 1#1), ∀ (k0_h4 : k0_cond4 v95 = 1#1), ∀ a x, ((![v272] : Fin 1 → IVec S16 32) a x).toNat < S256.size a)
theorem k0_idx16_inb : ∀ (v88 : BitVec 32) (v95 : BitVec 32) (v272 : IVec S16 32) (k0_hw17 : k0_chk17 v88 v95 v272), ∀ (k0_h3 : k0_cond3 v88 = 1#1), ∀ (k0_h4 : k0_cond4 v95 = 1#1), ∀ a x, ((![v272] : Fin 1 → IVec S16 32) a x).toNat < S256.size a := fun v88 v95 v272 k0_hw17 k0_h3 k0_h4 => k0_hw17 k0_h3 k0_h4

def k0_chk18 (v88 : BitVec 32) (v163 : IVec S16 32) : Prop :=
  (∀ (k0_h3 : k0_cond3 v88 = 1#1), ∀ a x, ((![v163] : Fin 1 → IVec S16 32) a x).toNat < S256.size a)
theorem k0_idx17_inb : ∀ (v88 : BitVec 32) (v163 : IVec S16 32) (k0_hw18 : k0_chk18 v88 v163), ∀ (k0_h3 : k0_cond3 v88 = 1#1), ∀ a x, ((![v163] : Fin 1 → IVec S16 32) a x).toNat < S256.size a := fun v88 v163 k0_hw18 k0_h3 => k0_hw18 k0_h3

def k0_chk20 (v88 : BitVec 32) (v241 : IVec S16 32) : Prop :=
  (∀ (k0_h3 : k0_cond3 v88 = 1#1), ∀ a x, ((![v241] : Fin 1 → IVec S16 32) a x).toNat < S16.size a)
theorem k0_idx19_inb : ∀ (v88 : BitVec 32) (v241 : IVec S16 32) (k0_hw20 : k0_chk20 v88 v241), ∀ (k0_h3 : k0_cond3 v88 = 1#1), ∀ a x, ((![v241] : Fin 1 → IVec S16 32) a x).toNat < S16.size a := fun v88 v241 k0_hw20 k0_h3 => k0_hw20 k0_h3

def k0_chk19 (v88 : BitVec 32) (v168 : IVec S16 32) (v169 : IVec S16 32) : Prop :=
  (∀ (k0_h3 : k0_cond3 v88 = 1#1), ∀ a x, ((![v169, v168] : Fin 2 → IVec S16 32) a x).toNat < S128x200.size a) ∧
  (∀ (k0_h3 : k0_cond3 v88 = 1#1), ∀ a x, ((![v169, v168] : Fin 2 → IVec S16 32) a x).toNat < S128x200.size a)
theorem k0_idx18_inb : ∀ (v88 : BitVec 32) (v168 : IVec S16 32) (v169 : IVec S16 32) (k0_hw19 : k0_chk19 v88 v168 v169), ∀ (k0_h3 : k0_cond3 v88 = 1#1), ∀ a x, ((![v169, v168] : Fin 2 → IVec S16 32) a x).toNat < S128x200.size a := fun v88 v168 v169 k0_hw19 k0_h3 => k0_hw19.1 k0_h3
theorem k0_idx20_inb : ∀ (v88 : BitVec 32) (v168 : IVec S16 32) (v169 : IVec S16 32) (k0_hw19 : k0_chk19 v88 v168 v169), ∀ (k0_h3 : k0_cond3 v88 = 1#1), ∀ a x, ((![v169, v168] : Fin 2 → IVec S16 32) a x).toNat < S128x200.size a := fun v88 v168 v169 k0_hw19 k0_h3 => k0_hw19.2 k0_h3
@[reducible] def k0_t7_loop : Scf.Loop 32 :=
  let c0_i32_61 : BitVec 32 := 0#32
  let c128_i32_62 : BitVec 32 := 128#32
  let v66 : BitVec 32 := Scalar.addi c0_i32_61 c128_i32_62
  let c1_i32_63 : BitVec 32 := 1#32
  ⟨c0_i32_61, v66, c1_i32_63⟩
def k0_off13 (k0_t7 : Fin k0_t7_loop.trips) : Fin 2 → Nat :=
  let c0_i32_61 : BitVec 32 := 0#32
  let c1_i32_63 : BitVec 32 := 1#32
  let arg20 : BitVec 32 := Scf.iv c0_i32_61 c1_i32_63 k0_t7
  let v85 : Index := Scalar.indexCast arg20
  let c0 : Index := 0#32
  ![v85.toNat, 0]
def k0_off14 (k0_t7 : Fin k0_t7_loop.trips) : Fin 2 → Nat :=
  let c0_i32_61 : BitVec 32 := 0#32
  let c1_i32_63 : BitVec 32 := 1#32
  let arg20 : BitVec 32 := Scf.iv c0_i32_61 c1_i32_63 k0_t7
  let v92 : Index := Scalar.indexCast arg20
  let c0_88 : Index := 0#32
  ![v92.toNat, 0]
@[reducible] def k0_t8_loop (v95 : BitVec 32) : Scf.Loop 32 :=
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let c1_i32_98 : BitVec 32 := 1#32
  ⟨c0_i32_96, v121, c1_i32_98⟩
def k0_cond5 (v88 : BitVec 32) : BitVec 1 :=
  let c0_i32_86 : BitVec 32 := 0#32
  let v89 : BitVec 1 := Scalar.cmpi .ne v88 c0_i32_86
  let v90 : BitVec 32 := Scalar.extui v89
  let c0_i32_87 : BitVec 32 := 0#32
  let v91 : BitVec 1 := Scalar.cmpi .ne v90 c0_i32_87
  v91

def k0_off15 (k0_t7 : Fin k0_t7_loop.trips) (v95 : BitVec 32) (k0_t8 : Fin (k0_t8_loop v95).trips) : Fin 2 → Nat :=
  let c0_i32_61 : BitVec 32 := 0#32
  let c1_i32_63 : BitVec 32 := 1#32
  let arg20 : BitVec 32 := Scf.iv c0_i32_61 c1_i32_63 k0_t7
  let v249 : Index := Scalar.indexCast arg20
  let c0_i32_96 : BitVec 32 := 0#32
  let c1_i32_98 : BitVec 32 := 1#32
  let arg21 : BitVec 32 := Scf.iv c0_i32_96 c1_i32_98 k0_t8
  let c16_i32_128 : BitVec 32 := 16#32
  let v246 : BitVec 32 := Scalar.muli arg21 c16_i32_128
  let v250 : Index := Scalar.indexCast v246
  ![v249.toNat, v250.toNat]

def k0_chk22 (v88 : BitVec 32) (v269 : IVec S16 32) : Prop :=
  (∀ (k0_h5 : k0_cond5 v88 = 1#1), ∀ a x, ((![v269] : Fin 1 → IVec S16 32) a x).toNat < S16.size a)
theorem k0_idx21_inb : ∀ (v88 : BitVec 32) (v269 : IVec S16 32) (k0_hw22 : k0_chk22 v88 v269), ∀ (k0_h5 : k0_cond5 v88 = 1#1), ∀ a x, ((![v269] : Fin 1 → IVec S16 32) a x).toNat < S16.size a := fun v88 v269 k0_hw22 k0_h5 => k0_hw22 k0_h5

def k0_chk23 (v88 : BitVec 32) (v271 : IVec S16 32) : Prop :=
  (∀ (k0_h5 : k0_cond5 v88 = 1#1), ∀ a x, ((![v271] : Fin 1 → IVec S16 32) a x).toNat < S256.size a)
theorem k0_idx22_inb : ∀ (v88 : BitVec 32) (v271 : IVec S16 32) (k0_hw23 : k0_chk23 v88 v271), ∀ (k0_h5 : k0_cond5 v88 = 1#1), ∀ a x, ((![v271] : Fin 1 → IVec S16 32) a x).toNat < S256.size a := fun v88 v271 k0_hw23 k0_h5 => k0_hw23 k0_h5
@[reducible] def k0_t9_loop (v95 : BitVec 32) : Scf.Loop 32 :=
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let v118 : BitVec 32 := Scalar.addi c0_i32_96 v117
  let c1_i32_99 : BitVec 32 := 1#32
  ⟨v121, v118, c1_i32_99⟩
def k0_off16 (k0_t7 : Fin k0_t7_loop.trips) (v95 : BitVec 32) (k0_t9 : Fin (k0_t9_loop v95).trips) : Fin 2 → Nat :=
  let c0_i32_61 : BitVec 32 := 0#32
  let c1_i32_63 : BitVec 32 := 1#32
  let arg20 : BitVec 32 := Scf.iv c0_i32_61 c1_i32_63 k0_t7
  let v249 : Index := Scalar.indexCast arg20
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let c1_i32_99 : BitVec 32 := 1#32
  let arg21 : BitVec 32 := Scf.iv v121 c1_i32_99 k0_t9
  let c16_i32_128 : BitVec 32 := 16#32
  let v246 : BitVec 32 := Scalar.muli arg21 c16_i32_128
  let v250 : Index := Scalar.indexCast v246
  ![v249.toNat, v250.toNat]

def k0_chk21 (k0_t7 : Fin k0_t7_loop.trips) (v88 : BitVec 32) (v95 : BitVec 32) : Prop :=
  (∀ (k0_h5 : k0_cond5 v88 = 1#1), (k0_t8_loop v95).OK) ∧
  (∀ k0_t8 : Fin (k0_t8_loop v95).trips, ∀ (k0_h5 : k0_cond5 v88 = 1#1), ∀ a, (k0_off15 k0_t7 v95 k0_t8) a + S1x16.size a ≤ S128x200.size a) ∧
  (∀ (k0_h5 : k0_cond5 v88 = 1#1), (k0_t9_loop v95).OK) ∧
  (∀ k0_t9 : Fin (k0_t9_loop v95).trips, ∀ (k0_h5 : k0_cond5 v88 = 1#1), ∀ a, (k0_off16 k0_t7 v95 k0_t9) a + S1x16.size a ≤ S128x200.size a)
theorem k0_t8_ok : ∀ (k0_t7 : Fin k0_t7_loop.trips) (v88 : BitVec 32) (v95 : BitVec 32) (k0_hw21 : k0_chk21 k0_t7 v88 v95), ∀ (k0_h5 : k0_cond5 v88 = 1#1), (k0_t8_loop v95).OK := fun k0_t7 v88 v95 k0_hw21 k0_h5 => k0_hw21.1 k0_h5
theorem k0_off15_inb : ∀ (k0_t7 : Fin k0_t7_loop.trips) (v88 : BitVec 32) (v95 : BitVec 32) (k0_hw21 : k0_chk21 k0_t7 v88 v95) (k0_t8 : Fin (k0_t8_loop v95).trips), ∀ (k0_h5 : k0_cond5 v88 = 1#1), ∀ a, (k0_off15 k0_t7 v95 k0_t8) a + S1x16.size a ≤ S128x200.size a := fun k0_t7 v88 v95 k0_hw21 k0_t8 k0_h5 => k0_hw21.2.1 k0_t8 k0_h5
theorem k0_t9_ok : ∀ (k0_t7 : Fin k0_t7_loop.trips) (v88 : BitVec 32) (v95 : BitVec 32) (k0_hw21 : k0_chk21 k0_t7 v88 v95), ∀ (k0_h5 : k0_cond5 v88 = 1#1), (k0_t9_loop v95).OK := fun k0_t7 v88 v95 k0_hw21 k0_h5 => k0_hw21.2.2.1 k0_h5
theorem k0_off16_inb : ∀ (k0_t7 : Fin k0_t7_loop.trips) (v88 : BitVec 32) (v95 : BitVec 32) (k0_hw21 : k0_chk21 k0_t7 v88 v95) (k0_t9 : Fin (k0_t9_loop v95).trips), ∀ (k0_h5 : k0_cond5 v88 = 1#1), ∀ a, (k0_off16 k0_t7 v95 k0_t9) a + S1x16.size a ≤ S128x200.size a := fun k0_t7 v88 v95 k0_hw21 k0_t9 k0_h5 => k0_hw21.2.2.2 k0_t9 k0_h5

def k0_chk24 (v88 : BitVec 32) (v269 : IVec S16 32) : Prop :=
  (∀ (k0_h5 : k0_cond5 v88 = 1#1), ∀ a x, ((![v269] : Fin 1 → IVec S16 32) a x).toNat < S16.size a)
theorem k0_idx23_inb : ∀ (v88 : BitVec 32) (v269 : IVec S16 32) (k0_hw24 : k0_chk24 v88 v269), ∀ (k0_h5 : k0_cond5 v88 = 1#1), ∀ a x, ((![v269] : Fin 1 → IVec S16 32) a x).toNat < S16.size a := fun v88 v269 k0_hw24 k0_h5 => k0_hw24 k0_h5

def k0_chk25 (v88 : BitVec 32) (v271 : IVec S16 32) : Prop :=
  (∀ (k0_h5 : k0_cond5 v88 = 1#1), ∀ a x, ((![v271] : Fin 1 → IVec S16 32) a x).toNat < S256.size a)
theorem k0_idx24_inb : ∀ (v88 : BitVec 32) (v271 : IVec S16 32) (k0_hw25 : k0_chk25 v88 v271), ∀ (k0_h5 : k0_cond5 v88 = 1#1), ∀ a x, ((![v271] : Fin 1 → IVec S16 32) a x).toNat < S256.size a := fun v88 v271 k0_hw25 k0_h5 => k0_hw25 k0_h5
def k0_off17 (k0_t7 : Fin k0_t7_loop.trips) : Fin 2 → Nat :=
  let c0_i32_61 : BitVec 32 := 0#32
  let c1_i32_63 : BitVec 32 := 1#32
  let arg20 : BitVec 32 := Scf.iv c0_i32_61 c1_i32_63 k0_t7
  let v248 : Index := Scalar.indexCast arg20
  let c184 : Index := 184#32
  ![v248.toNat, 184]
def k0_cond6 (v95 : BitVec 32) : BitVec 1 :=
  let c192_i32 : BitVec 32 := 192#32
  let v124 : BitVec 1 := Scalar.cmpi .sgt v95 c192_i32
  let v125 : BitVec 32 := Scalar.extui v124
  let c0_i32_100 : BitVec 32 := 0#32
  let v126 : BitVec 1 := Scalar.cmpi .ne v125 c0_i32_100
  v126

def k0_chk26 (v88 : BitVec 32) (v95 : BitVec 32) (v270 : IVec S16 32) : Prop :=
  (∀ (k0_h5 : k0_cond5 v88 = 1#1), ∀ (k0_h6 : k0_cond6 v95 = 1#1), ∀ a x, ((![v270] : Fin 1 → IVec S16 32) a x).toNat < S16.size a)
theorem k0_idx25_inb : ∀ (v88 : BitVec 32) (v95 : BitVec 32) (v270 : IVec S16 32) (k0_hw26 : k0_chk26 v88 v95 v270), ∀ (k0_h5 : k0_cond5 v88 = 1#1), ∀ (k0_h6 : k0_cond6 v95 = 1#1), ∀ a x, ((![v270] : Fin 1 → IVec S16 32) a x).toNat < S16.size a := fun v88 v95 v270 k0_hw26 k0_h5 k0_h6 => k0_hw26 k0_h5 k0_h6

def k0_chk27 (v88 : BitVec 32) (v95 : BitVec 32) (v272 : IVec S16 32) : Prop :=
  (∀ (k0_h5 : k0_cond5 v88 = 1#1), ∀ (k0_h6 : k0_cond6 v95 = 1#1), ∀ a x, ((![v272] : Fin 1 → IVec S16 32) a x).toNat < S256.size a)
theorem k0_idx26_inb : ∀ (v88 : BitVec 32) (v95 : BitVec 32) (v272 : IVec S16 32) (k0_hw27 : k0_chk27 v88 v95 v272), ∀ (k0_h5 : k0_cond5 v88 = 1#1), ∀ (k0_h6 : k0_cond6 v95 = 1#1), ∀ a x, ((![v272] : Fin 1 → IVec S16 32) a x).toNat < S256.size a := fun v88 v95 v272 k0_hw27 k0_h5 k0_h6 => k0_hw27 k0_h5 k0_h6

def k0_chk28 (v88 : BitVec 32) (v163 : IVec S16 32) : Prop :=
  (∀ (k0_h5 : k0_cond5 v88 = 1#1), ∀ a x, ((![v163] : Fin 1 → IVec S16 32) a x).toNat < S256.size a)
theorem k0_idx27_inb : ∀ (v88 : BitVec 32) (v163 : IVec S16 32) (k0_hw28 : k0_chk28 v88 v163), ∀ (k0_h5 : k0_cond5 v88 = 1#1), ∀ a x, ((![v163] : Fin 1 → IVec S16 32) a x).toNat < S256.size a := fun v88 v163 k0_hw28 k0_h5 => k0_hw28 k0_h5

def k0_chk30 (v88 : BitVec 32) (v241 : IVec S16 32) : Prop :=
  (∀ (k0_h5 : k0_cond5 v88 = 1#1), ∀ a x, ((![v241] : Fin 1 → IVec S16 32) a x).toNat < S16.size a)
theorem k0_idx29_inb : ∀ (v88 : BitVec 32) (v241 : IVec S16 32) (k0_hw30 : k0_chk30 v88 v241), ∀ (k0_h5 : k0_cond5 v88 = 1#1), ∀ a x, ((![v241] : Fin 1 → IVec S16 32) a x).toNat < S16.size a := fun v88 v241 k0_hw30 k0_h5 => k0_hw30 k0_h5

def k0_chk29 (v88 : BitVec 32) (v168 : IVec S16 32) (v169 : IVec S16 32) : Prop :=
  (∀ (k0_h5 : k0_cond5 v88 = 1#1), ∀ a x, ((![v169, v168] : Fin 2 → IVec S16 32) a x).toNat < S128x200.size a) ∧
  (∀ (k0_h5 : k0_cond5 v88 = 1#1), ∀ a x, ((![v169, v168] : Fin 2 → IVec S16 32) a x).toNat < S128x200.size a)
theorem k0_idx28_inb : ∀ (v88 : BitVec 32) (v168 : IVec S16 32) (v169 : IVec S16 32) (k0_hw29 : k0_chk29 v88 v168 v169), ∀ (k0_h5 : k0_cond5 v88 = 1#1), ∀ a x, ((![v169, v168] : Fin 2 → IVec S16 32) a x).toNat < S128x200.size a := fun v88 v168 v169 k0_hw29 k0_h5 => k0_hw29.1 k0_h5
theorem k0_idx30_inb : ∀ (v88 : BitVec 32) (v168 : IVec S16 32) (v169 : IVec S16 32) (k0_hw29 : k0_chk29 v88 v168 v169), ∀ (k0_h5 : k0_cond5 v88 = 1#1), ∀ a x, ((![v169, v168] : Fin 2 → IVec S16 32) a x).toNat < S128x200.size a := fun v88 v168 v169 k0_hw29 k0_h5 => k0_hw29.2 k0_h5
@[reducible] def k0_t10_loop : Scf.Loop 32 :=
  let c0_i32_75 : BitVec 32 := 0#32
  let c128_i32_76 : BitVec 32 := 128#32
  let v77 : BitVec 32 := Scalar.addi c0_i32_75 c128_i32_76
  let c1_i32_77 : BitVec 32 := 1#32
  ⟨c0_i32_75, v77, c1_i32_77⟩
def k0_off18 (k0_t10 : Fin k0_t10_loop.trips) : Fin 2 → Nat :=
  let c0_i32_75 : BitVec 32 := 0#32
  let c1_i32_77 : BitVec 32 := 1#32
  let arg20 : BitVec 32 := Scf.iv c0_i32_75 c1_i32_77 k0_t10
  let v85 : Index := Scalar.indexCast arg20
  let c0 : Index := 0#32
  ![v85.toNat, 0]
def k0_off19 (k0_t10 : Fin k0_t10_loop.trips) : Fin 2 → Nat :=
  let c0_i32_75 : BitVec 32 := 0#32
  let c1_i32_77 : BitVec 32 := 1#32
  let arg20 : BitVec 32 := Scf.iv c0_i32_75 c1_i32_77 k0_t10
  let v92 : Index := Scalar.indexCast arg20
  let c0_88 : Index := 0#32
  ![v92.toNat, 0]
@[reducible] def k0_t11_loop (v95 : BitVec 32) : Scf.Loop 32 :=
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let c1_i32_98 : BitVec 32 := 1#32
  ⟨c0_i32_96, v121, c1_i32_98⟩
def k0_cond7 (v88 : BitVec 32) : BitVec 1 :=
  let c0_i32_86 : BitVec 32 := 0#32
  let v89 : BitVec 1 := Scalar.cmpi .ne v88 c0_i32_86
  let v90 : BitVec 32 := Scalar.extui v89
  let c0_i32_87 : BitVec 32 := 0#32
  let v91 : BitVec 1 := Scalar.cmpi .ne v90 c0_i32_87
  v91

def k0_off20 (k0_t10 : Fin k0_t10_loop.trips) (v95 : BitVec 32) (k0_t11 : Fin (k0_t11_loop v95).trips) : Fin 2 → Nat :=
  let c0_i32_75 : BitVec 32 := 0#32
  let c1_i32_77 : BitVec 32 := 1#32
  let arg20 : BitVec 32 := Scf.iv c0_i32_75 c1_i32_77 k0_t10
  let v249 : Index := Scalar.indexCast arg20
  let c0_i32_96 : BitVec 32 := 0#32
  let c1_i32_98 : BitVec 32 := 1#32
  let arg21 : BitVec 32 := Scf.iv c0_i32_96 c1_i32_98 k0_t11
  let c16_i32_128 : BitVec 32 := 16#32
  let v246 : BitVec 32 := Scalar.muli arg21 c16_i32_128
  let v250 : Index := Scalar.indexCast v246
  ![v249.toNat, v250.toNat]

def k0_chk32 (v88 : BitVec 32) (v269 : IVec S16 32) : Prop :=
  (∀ (k0_h7 : k0_cond7 v88 = 1#1), ∀ a x, ((![v269] : Fin 1 → IVec S16 32) a x).toNat < S16.size a)
theorem k0_idx31_inb : ∀ (v88 : BitVec 32) (v269 : IVec S16 32) (k0_hw32 : k0_chk32 v88 v269), ∀ (k0_h7 : k0_cond7 v88 = 1#1), ∀ a x, ((![v269] : Fin 1 → IVec S16 32) a x).toNat < S16.size a := fun v88 v269 k0_hw32 k0_h7 => k0_hw32 k0_h7

def k0_chk33 (v88 : BitVec 32) (v271 : IVec S16 32) : Prop :=
  (∀ (k0_h7 : k0_cond7 v88 = 1#1), ∀ a x, ((![v271] : Fin 1 → IVec S16 32) a x).toNat < S256.size a)
theorem k0_idx32_inb : ∀ (v88 : BitVec 32) (v271 : IVec S16 32) (k0_hw33 : k0_chk33 v88 v271), ∀ (k0_h7 : k0_cond7 v88 = 1#1), ∀ a x, ((![v271] : Fin 1 → IVec S16 32) a x).toNat < S256.size a := fun v88 v271 k0_hw33 k0_h7 => k0_hw33 k0_h7
@[reducible] def k0_t12_loop (v95 : BitVec 32) : Scf.Loop 32 :=
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let v118 : BitVec 32 := Scalar.addi c0_i32_96 v117
  let c1_i32_99 : BitVec 32 := 1#32
  ⟨v121, v118, c1_i32_99⟩
def k0_off21 (k0_t10 : Fin k0_t10_loop.trips) (v95 : BitVec 32) (k0_t12 : Fin (k0_t12_loop v95).trips) : Fin 2 → Nat :=
  let c0_i32_75 : BitVec 32 := 0#32
  let c1_i32_77 : BitVec 32 := 1#32
  let arg20 : BitVec 32 := Scf.iv c0_i32_75 c1_i32_77 k0_t10
  let v249 : Index := Scalar.indexCast arg20
  let c0_i32_96 : BitVec 32 := 0#32
  let c15_i32 : BitVec 32 := 15#32
  let v97 : BitVec 32 := Scalar.addi v95 c15_i32
  let c0_i32_89 : BitVec 32 := 0#32
  let v99 : BitVec 1 := Scalar.cmpi .sgt v97 c0_i32_89
  let v100 : BitVec 32 := Scalar.extui v99
  let c0_i32_90 : BitVec 32 := 0#32
  let v101 : BitVec 1 := Scalar.cmpi .slt v97 c0_i32_90
  let v102 : BitVec 32 := Scalar.extui v101
  let v103 : BitVec 32 := Scalar.subi v100 v102
  let c16_i32 : BitVec 32 := 16#32
  let c0_i32_91 : BitVec 32 := 0#32
  let v104 : BitVec 1 := Scalar.cmpi .sgt c16_i32 c0_i32_91
  let v105 : BitVec 32 := Scalar.extui v104
  let c0_i32_92 : BitVec 32 := 0#32
  let v106 : BitVec 1 := Scalar.cmpi .slt c16_i32 c0_i32_92
  let v107 : BitVec 32 := Scalar.extui v106
  let v108 : BitVec 32 := Scalar.subi v105 v107
  let v109 : BitVec 1 := Scalar.cmpi .ne v103 v108
  let v110 : BitVec 32 := Scalar.remsi v97 c16_i32
  let c0_i32_93 : BitVec 32 := 0#32
  let v111 : BitVec 1 := Scalar.cmpi .ne v110 c0_i32_93
  let v112 : BitVec 1 := Scalar.andi v109 v111
  let v98 : BitVec 32 := Scalar.divsi v97 c16_i32
  let c1_i32_94 : BitVec 32 := 1#32
  let v113 : BitVec 32 := Scalar.subi v98 c1_i32_94
  let v114 : BitVec 32 := Scalar.select v112 v113 v98
  let c12_i32 : BitVec 32 := 12#32
  let v115 : BitVec 32 := Scalar.minsi v114 c12_i32
  let v117 : BitVec 32 := Scalar.subi v115 c0_i32_96
  let c1_i32_97 : BitVec 32 := 1#32
  let v119 : BitVec 32 := Scalar.divsi v117 c1_i32_97
  let v120 : BitVec 32 := Scalar.muli v119 c1_i32_97
  let v121 : BitVec 32 := Scalar.addi c0_i32_96 v120
  let c1_i32_99 : BitVec 32 := 1#32
  let arg21 : BitVec 32 := Scf.iv v121 c1_i32_99 k0_t12
  let c16_i32_128 : BitVec 32 := 16#32
  let v246 : BitVec 32 := Scalar.muli arg21 c16_i32_128
  let v250 : Index := Scalar.indexCast v246
  ![v249.toNat, v250.toNat]

def k0_chk31 (k0_t10 : Fin k0_t10_loop.trips) (v88 : BitVec 32) (v95 : BitVec 32) : Prop :=
  (∀ (k0_h7 : k0_cond7 v88 = 1#1), (k0_t11_loop v95).OK) ∧
  (∀ k0_t11 : Fin (k0_t11_loop v95).trips, ∀ (k0_h7 : k0_cond7 v88 = 1#1), ∀ a, (k0_off20 k0_t10 v95 k0_t11) a + S1x16.size a ≤ S128x200.size a) ∧
  (∀ (k0_h7 : k0_cond7 v88 = 1#1), (k0_t12_loop v95).OK) ∧
  (∀ k0_t12 : Fin (k0_t12_loop v95).trips, ∀ (k0_h7 : k0_cond7 v88 = 1#1), ∀ a, (k0_off21 k0_t10 v95 k0_t12) a + S1x16.size a ≤ S128x200.size a)
theorem k0_t11_ok : ∀ (k0_t10 : Fin k0_t10_loop.trips) (v88 : BitVec 32) (v95 : BitVec 32) (k0_hw31 : k0_chk31 k0_t10 v88 v95), ∀ (k0_h7 : k0_cond7 v88 = 1#1), (k0_t11_loop v95).OK := fun k0_t10 v88 v95 k0_hw31 k0_h7 => k0_hw31.1 k0_h7
theorem k0_off20_inb : ∀ (k0_t10 : Fin k0_t10_loop.trips) (v88 : BitVec 32) (v95 : BitVec 32) (k0_hw31 : k0_chk31 k0_t10 v88 v95) (k0_t11 : Fin (k0_t11_loop v95).trips), ∀ (k0_h7 : k0_cond7 v88 = 1#1), ∀ a, (k0_off20 k0_t10 v95 k0_t11) a + S1x16.size a ≤ S128x200.size a := fun k0_t10 v88 v95 k0_hw31 k0_t11 k0_h7 => k0_hw31.2.1 k0_t11 k0_h7
theorem k0_t12_ok : ∀ (k0_t10 : Fin k0_t10_loop.trips) (v88 : BitVec 32) (v95 : BitVec 32) (k0_hw31 : k0_chk31 k0_t10 v88 v95), ∀ (k0_h7 : k0_cond7 v88 = 1#1), (k0_t12_loop v95).OK := fun k0_t10 v88 v95 k0_hw31 k0_h7 => k0_hw31.2.2.1 k0_h7
theorem k0_off21_inb : ∀ (k0_t10 : Fin k0_t10_loop.trips) (v88 : BitVec 32) (v95 : BitVec 32) (k0_hw31 : k0_chk31 k0_t10 v88 v95) (k0_t12 : Fin (k0_t12_loop v95).trips), ∀ (k0_h7 : k0_cond7 v88 = 1#1), ∀ a, (k0_off21 k0_t10 v95 k0_t12) a + S1x16.size a ≤ S128x200.size a := fun k0_t10 v88 v95 k0_hw31 k0_t12 k0_h7 => k0_hw31.2.2.2 k0_t12 k0_h7

def k0_chk34 (v88 : BitVec 32) (v269 : IVec S16 32) : Prop :=
  (∀ (k0_h7 : k0_cond7 v88 = 1#1), ∀ a x, ((![v269] : Fin 1 → IVec S16 32) a x).toNat < S16.size a)
theorem k0_idx33_inb : ∀ (v88 : BitVec 32) (v269 : IVec S16 32) (k0_hw34 : k0_chk34 v88 v269), ∀ (k0_h7 : k0_cond7 v88 = 1#1), ∀ a x, ((![v269] : Fin 1 → IVec S16 32) a x).toNat < S16.size a := fun v88 v269 k0_hw34 k0_h7 => k0_hw34 k0_h7

def k0_chk35 (v88 : BitVec 32) (v271 : IVec S16 32) : Prop :=
  (∀ (k0_h7 : k0_cond7 v88 = 1#1), ∀ a x, ((![v271] : Fin 1 → IVec S16 32) a x).toNat < S256.size a)
theorem k0_idx34_inb : ∀ (v88 : BitVec 32) (v271 : IVec S16 32) (k0_hw35 : k0_chk35 v88 v271), ∀ (k0_h7 : k0_cond7 v88 = 1#1), ∀ a x, ((![v271] : Fin 1 → IVec S16 32) a x).toNat < S256.size a := fun v88 v271 k0_hw35 k0_h7 => k0_hw35 k0_h7
def k0_off22 (k0_t10 : Fin k0_t10_loop.trips) : Fin 2 → Nat :=
  let c0_i32_75 : BitVec 32 := 0#32
  let c1_i32_77 : BitVec 32 := 1#32
  let arg20 : BitVec 32 := Scf.iv c0_i32_75 c1_i32_77 k0_t10
  let v248 : Index := Scalar.indexCast arg20
  let c184 : Index := 184#32
  ![v248.toNat, 184]
def k0_cond8 (v95 : BitVec 32) : BitVec 1 :=
  let c192_i32 : BitVec 32 := 192#32
  let v124 : BitVec 1 := Scalar.cmpi .sgt v95 c192_i32
  let v125 : BitVec 32 := Scalar.extui v124
  let c0_i32_100 : BitVec 32 := 0#32
  let v126 : BitVec 1 := Scalar.cmpi .ne v125 c0_i32_100
  v126

def k0_chk36 (v88 : BitVec 32) (v95 : BitVec 32) (v270 : IVec S16 32) : Prop :=
  (∀ (k0_h7 : k0_cond7 v88 = 1#1), ∀ (k0_h8 : k0_cond8 v95 = 1#1), ∀ a x, ((![v270] : Fin 1 → IVec S16 32) a x).toNat < S16.size a)
theorem k0_idx35_inb : ∀ (v88 : BitVec 32) (v95 : BitVec 32) (v270 : IVec S16 32) (k0_hw36 : k0_chk36 v88 v95 v270), ∀ (k0_h7 : k0_cond7 v88 = 1#1), ∀ (k0_h8 : k0_cond8 v95 = 1#1), ∀ a x, ((![v270] : Fin 1 → IVec S16 32) a x).toNat < S16.size a := fun v88 v95 v270 k0_hw36 k0_h7 k0_h8 => k0_hw36 k0_h7 k0_h8

def k0_chk37 (v88 : BitVec 32) (v95 : BitVec 32) (v272 : IVec S16 32) : Prop :=
  (∀ (k0_h7 : k0_cond7 v88 = 1#1), ∀ (k0_h8 : k0_cond8 v95 = 1#1), ∀ a x, ((![v272] : Fin 1 → IVec S16 32) a x).toNat < S256.size a)
theorem k0_idx36_inb : ∀ (v88 : BitVec 32) (v95 : BitVec 32) (v272 : IVec S16 32) (k0_hw37 : k0_chk37 v88 v95 v272), ∀ (k0_h7 : k0_cond7 v88 = 1#1), ∀ (k0_h8 : k0_cond8 v95 = 1#1), ∀ a x, ((![v272] : Fin 1 → IVec S16 32) a x).toNat < S256.size a := fun v88 v95 v272 k0_hw37 k0_h7 k0_h8 => k0_hw37 k0_h7 k0_h8

def k0_chk38 (v88 : BitVec 32) (v163 : IVec S16 32) : Prop :=
  (∀ (k0_h7 : k0_cond7 v88 = 1#1), ∀ a x, ((![v163] : Fin 1 → IVec S16 32) a x).toNat < S256.size a)
theorem k0_idx37_inb : ∀ (v88 : BitVec 32) (v163 : IVec S16 32) (k0_hw38 : k0_chk38 v88 v163), ∀ (k0_h7 : k0_cond7 v88 = 1#1), ∀ a x, ((![v163] : Fin 1 → IVec S16 32) a x).toNat < S256.size a := fun v88 v163 k0_hw38 k0_h7 => k0_hw38 k0_h7

def k0_chk40 (v88 : BitVec 32) (v241 : IVec S16 32) : Prop :=
  (∀ (k0_h7 : k0_cond7 v88 = 1#1), ∀ a x, ((![v241] : Fin 1 → IVec S16 32) a x).toNat < S16.size a)
theorem k0_idx39_inb : ∀ (v88 : BitVec 32) (v241 : IVec S16 32) (k0_hw40 : k0_chk40 v88 v241), ∀ (k0_h7 : k0_cond7 v88 = 1#1), ∀ a x, ((![v241] : Fin 1 → IVec S16 32) a x).toNat < S16.size a := fun v88 v241 k0_hw40 k0_h7 => k0_hw40 k0_h7

def k0_chk39 (v88 : BitVec 32) (v168 : IVec S16 32) (v169 : IVec S16 32) : Prop :=
  (∀ (k0_h7 : k0_cond7 v88 = 1#1), ∀ a x, ((![v169, v168] : Fin 2 → IVec S16 32) a x).toNat < S128x200.size a) ∧
  (∀ (k0_h7 : k0_cond7 v88 = 1#1), ∀ a x, ((![v169, v168] : Fin 2 → IVec S16 32) a x).toNat < S128x200.size a)
theorem k0_idx38_inb : ∀ (v88 : BitVec 32) (v168 : IVec S16 32) (v169 : IVec S16 32) (k0_hw39 : k0_chk39 v88 v168 v169), ∀ (k0_h7 : k0_cond7 v88 = 1#1), ∀ a x, ((![v169, v168] : Fin 2 → IVec S16 32) a x).toNat < S128x200.size a := fun v88 v168 v169 k0_hw39 k0_h7 => k0_hw39.1 k0_h7
theorem k0_idx40_inb : ∀ (v88 : BitVec 32) (v168 : IVec S16 32) (v169 : IVec S16 32) (k0_hw39 : k0_chk39 v88 v168 v169), ∀ (k0_h7 : k0_cond7 v88 = 1#1), ∀ a x, ((![v169, v168] : Fin 2 → IVec S16 32) a x).toNat < S128x200.size a := fun v88 v168 v169 k0_hw39 k0_h7 => k0_hw39.2 k0_h7
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S16384 : Shape := ⟨1, ![16384]⟩
abbrev S_ : Shape := ⟨0, ![]⟩
abbrev S1 : Shape := ⟨1, ![1]⟩
abbrev S2 : Shape := ⟨1, ![2]⟩
abbrev S16384x1 : Shape := ⟨2, ![16384, 1]⟩
abbrev S16384x2 : Shape := ⟨2, ![16384, 2]⟩
abbrev S4 : Shape := ⟨1, ![4]⟩
abbrev S1x4 : Shape := ⟨2, ![1, 4]⟩
abbrev S16384x4 : Shape := ⟨2, ![16384, 4]⟩
abbrev S16384x4x1 : Shape := ⟨3, ![16384, 4, 1]⟩
abbrev S16384x4x2 : Shape := ⟨3, ![16384, 4, 2]⟩
abbrev S16384x1x2 : Shape := ⟨3, ![16384, 1, 2]⟩
abbrev S5 : Shape := ⟨1, ![5]⟩
abbrev S1x5 : Shape := ⟨2, ![1, 5]⟩
abbrev S16384x5 : Shape := ⟨2, ![16384, 5]⟩
abbrev S1x1 : Shape := ⟨2, ![1, 1]⟩
abbrev S200 : Shape := ⟨1, ![200]⟩
abbrev S1x200 : Shape := ⟨2, ![1, 200]⟩
abbrev S16384x5x1 : Shape := ⟨3, ![16384, 5, 1]⟩
abbrev S16384x5x2 : Shape := ⟨3, ![16384, 5, 2]⟩

abbrev nBuf : Space → Nat
  | .hbm => 1683
  | .vmem => 0
  | .smem => 0
  | _ => 0

abbrev hbmTy0_0 (i : Nat) : BufTy := match i % 128 with
  | 0 => ⟨S16384x200, .i32⟩
  | 1 => ⟨S16384, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S16384, .i32⟩
  | 13 => ⟨S16384, .i32⟩
  | 14 => ⟨S_, .i32⟩
  | 15 => ⟨S16384, .i32⟩
  | 16 => ⟨S16384, .i32⟩
  | 17 => ⟨S16384x1, .i32⟩
  | 18 => ⟨S_, .i32⟩
  | 19 => ⟨S16384, .i32⟩
  | 20 => ⟨S16384, .i32⟩
  | 21 => ⟨S16384x1, .i32⟩
  | 22 => ⟨S16384x2, .i32⟩
  | 23 => ⟨S1, .i32⟩
  | 24 => ⟨S_, .i32⟩
  | 25 => ⟨S1, .i32⟩
  | 26 => ⟨S_, .i32⟩
  | 27 => ⟨S16384x1, .i32⟩
  | 28 => ⟨S16384x1, .i32⟩
  | 29 => ⟨S_, .i32⟩
  | 30 => ⟨S_, .i32⟩
  | 31 => ⟨S_, .i32⟩
  | 32 => ⟨S16384x1, .i32⟩
  | 33 => ⟨S16384x1, .i32⟩
  | 34 => ⟨S16384x1, .i32⟩
  | 35 => ⟨S16384x1, .i32⟩
  | 36 => ⟨S16384x1, .i32⟩
  | 37 => ⟨S_, .i32⟩
  | 38 => ⟨S16384x1, .i32⟩
  | 39 => ⟨S16384x1, .i32⟩
  | 40 => ⟨S_, .i32⟩
  | 41 => ⟨S16384x1, .i32⟩
  | 42 => ⟨S16384x1, .i32⟩
  | 43 => ⟨S16384x1, .i32⟩
  | 44 => ⟨S16384x1, .i32⟩
  | 45 => ⟨S16384x1, .i32⟩
  | 46 => ⟨S_, .i32⟩
  | 47 => ⟨S16384x1, .i32⟩
  | 48 => ⟨S16384x1, .i32⟩
  | 49 => ⟨S_, .i32⟩
  | 50 => ⟨S16384x1, .i32⟩
  | 51 => ⟨S16384x1, .i32⟩
  | 52 => ⟨S16384x1, .i32⟩
  | 53 => ⟨S16384x1, .i32⟩
  | 54 => ⟨S16384x1, .i32⟩
  | 55 => ⟨S_, .i32⟩
  | 56 => ⟨S16384x1, .i32⟩
  | 57 => ⟨S16384x1, .i32⟩
  | 58 => ⟨S_, .i32⟩
  | 59 => ⟨S16384x1, .i32⟩
  | 60 => ⟨S16384x1, .i32⟩
  | 61 => ⟨S16384x1, .i32⟩
  | 62 => ⟨S16384x1, .i32⟩
  | 63 => ⟨S16384x1, .i32⟩
  | 64 => ⟨S_, .i32⟩
  | 65 => ⟨S16384x1, .i32⟩
  | 66 => ⟨S16384x1, .i32⟩
  | 67 => ⟨S_, .i32⟩
  | 68 => ⟨S16384x1, .i32⟩
  | 69 => ⟨S16384x1, .i32⟩
  | 70 => ⟨S16384x1, .i32⟩
  | 71 => ⟨S16384x1, .i32⟩
  | 72 => ⟨S16384x1, .i32⟩
  | 73 => ⟨S16384x1, .i32⟩
  | 74 => ⟨S16384x1, .i32⟩
  | 75 => ⟨S16384x1, .i32⟩
  | 76 => ⟨S_, .i32⟩
  | 77 => ⟨S16384x1, .i32⟩
  | 78 => ⟨S16384x1, .i32⟩
  | 79 => ⟨S16384x1, .i32⟩
  | 80 => ⟨S_, .i32⟩
  | 81 => ⟨S16384x1, .i32⟩
  | 82 => ⟨S16384x1, .i32⟩
  | 83 => ⟨S_, .i32⟩
  | 84 => ⟨S16384x1, .i32⟩
  | 85 => ⟨S16384x1, .i32⟩
  | 86 => ⟨S16384x1, .i32⟩
  | 87 => ⟨S16384x1, .i32⟩
  | 88 => ⟨S16384x1, .i32⟩
  | 89 => ⟨S_, .i32⟩
  | 90 => ⟨S16384x1, .i32⟩
  | 91 => ⟨S16384x1, .i32⟩
  | 92 => ⟨S_, .i32⟩
  | 93 => ⟨S16384x1, .i32⟩
  | 94 => ⟨S16384x1, .i32⟩
  | 95 => ⟨S16384x1, .i32⟩
  | 96 => ⟨S16384x1, .i32⟩
  | 97 => ⟨S16384x1, .i32⟩
  | 98 => ⟨S_, .i32⟩
  | 99 => ⟨S16384x1, .i32⟩
  | 100 => ⟨S16384x1, .i32⟩
  | 101 => ⟨S_, .i32⟩
  | 102 => ⟨S16384x1, .i32⟩
  | 103 => ⟨S16384x1, .i32⟩
  | 104 => ⟨S16384x1, .i32⟩
  | 105 => ⟨S16384x1, .i32⟩
  | 106 => ⟨S16384x1, .i32⟩
  | 107 => ⟨S_, .i32⟩
  | 108 => ⟨S16384x1, .i32⟩
  | 109 => ⟨S16384x1, .i32⟩
  | 110 => ⟨S_, .i32⟩
  | 111 => ⟨S16384x1, .i32⟩
  | 112 => ⟨S16384x1, .i32⟩
  | 113 => ⟨S16384x1, .i32⟩
  | 114 => ⟨S16384x1, .i32⟩
  | 115 => ⟨S16384x1, .i32⟩
  | 116 => ⟨S16384x1, .i32⟩
  | 117 => ⟨S16384x1, .i32⟩
  | 118 => ⟨S16384x1, .i32⟩
  | 119 => ⟨S_, .i32⟩
  | 120 => ⟨S16384x1, .i32⟩
  | 121 => ⟨S16384x1, .i32⟩
  | 122 => ⟨S16384x1, .i32⟩
  | 123 => ⟨S_, .i32⟩
  | 124 => ⟨S16384x1, .i32⟩
  | 125 => ⟨S16384x1, .i32⟩
  | 126 => ⟨S_, .i32⟩
  | 127 => ⟨S16384x1, .i32⟩
  | _ => ⟨S16384x200, .i32⟩

abbrev hbmTy0_1 (i : Nat) : BufTy := match i % 128 with
  | 0 => ⟨S16384x1, .i32⟩
  | 1 => ⟨S16384x1, .i32⟩
  | 2 => ⟨S16384x1, .i32⟩
  | 3 => ⟨S16384x1, .i32⟩
  | 4 => ⟨S_, .i32⟩
  | 5 => ⟨S16384x1, .i32⟩
  | 6 => ⟨S16384x1, .i32⟩
  | 7 => ⟨S_, .i32⟩
  | 8 => ⟨S16384x1, .i32⟩
  | 9 => ⟨S16384x1, .i32⟩
  | 10 => ⟨S16384x1, .i32⟩
  | 11 => ⟨S16384x1, .i32⟩
  | 12 => ⟨S16384x1, .i32⟩
  | 13 => ⟨S_, .i32⟩
  | 14 => ⟨S16384x1, .i32⟩
  | 15 => ⟨S16384x1, .i32⟩
  | 16 => ⟨S_, .i32⟩
  | 17 => ⟨S16384x1, .i32⟩
  | 18 => ⟨S16384x1, .i32⟩
  | 19 => ⟨S16384x1, .i32⟩
  | 20 => ⟨S16384x1, .i32⟩
  | 21 => ⟨S16384x1, .i32⟩
  | 22 => ⟨S_, .i32⟩
  | 23 => ⟨S16384x1, .i32⟩
  | 24 => ⟨S16384x1, .i32⟩
  | 25 => ⟨S_, .i32⟩
  | 26 => ⟨S16384x1, .i32⟩
  | 27 => ⟨S16384x1, .i32⟩
  | 28 => ⟨S16384x1, .i32⟩
  | 29 => ⟨S16384x1, .i32⟩
  | 30 => ⟨S16384x1, .i32⟩
  | 31 => ⟨S16384x1, .i32⟩
  | 32 => ⟨S16384x1, .i32⟩
  | 33 => ⟨S16384x1, .i32⟩
  | 34 => ⟨S_, .i32⟩
  | 35 => ⟨S16384x1, .i32⟩
  | 36 => ⟨S16384x1, .i32⟩
  | 37 => ⟨S16384x1, .i32⟩
  | 38 => ⟨S_, .i32⟩
  | 39 => ⟨S16384x1, .i32⟩
  | 40 => ⟨S16384x1, .i32⟩
  | 41 => ⟨S_, .i32⟩
  | 42 => ⟨S16384x1, .i32⟩
  | 43 => ⟨S16384x1, .i32⟩
  | 44 => ⟨S16384x1, .i32⟩
  | 45 => ⟨S16384x1, .i32⟩
  | 46 => ⟨S16384x1, .i32⟩
  | 47 => ⟨S_, .i32⟩
  | 48 => ⟨S16384x1, .i32⟩
  | 49 => ⟨S16384x1, .i32⟩
  | 50 => ⟨S_, .i32⟩
  | 51 => ⟨S16384x1, .i32⟩
  | 52 => ⟨S16384x1, .i32⟩
  | 53 => ⟨S16384x1, .i32⟩
  | 54 => ⟨S16384x1, .i32⟩
  | 55 => ⟨S16384x1, .i32⟩
  | 56 => ⟨S_, .i32⟩
  | 57 => ⟨S16384x1, .i32⟩
  | 58 => ⟨S16384x1, .i32⟩
  | 59 => ⟨S_, .i32⟩
  | 60 => ⟨S16384x1, .i32⟩
  | 61 => ⟨S16384x1, .i32⟩
  | 62 => ⟨S16384x1, .i32⟩
  | 63 => ⟨S16384x1, .i32⟩
  | 64 => ⟨S16384x1, .i32⟩
  | 65 => ⟨S_, .i32⟩
  | 66 => ⟨S16384x1, .i32⟩
  | 67 => ⟨S16384x1, .i32⟩
  | 68 => ⟨S_, .i32⟩
  | 69 => ⟨S16384x1, .i32⟩
  | 70 => ⟨S16384x1, .i32⟩
  | 71 => ⟨S16384x1, .i32⟩
  | 72 => ⟨S16384x1, .i32⟩
  | 73 => ⟨S16384x1, .i32⟩
  | 74 => ⟨S16384x1, .i32⟩
  | 75 => ⟨S16384x1, .i32⟩
  | 76 => ⟨S16384x1, .i32⟩
  | 77 => ⟨S_, .i32⟩
  | 78 => ⟨S16384x1, .i32⟩
  | 79 => ⟨S16384x1, .i32⟩
  | 80 => ⟨S16384x1, .i32⟩
  | 81 => ⟨S_, .i32⟩
  | 82 => ⟨S16384x1, .i32⟩
  | 83 => ⟨S16384x1, .i32⟩
  | 84 => ⟨S_, .i32⟩
  | 85 => ⟨S16384x1, .i32⟩
  | 86 => ⟨S16384x1, .i32⟩
  | 87 => ⟨S16384x1, .i32⟩
  | 88 => ⟨S16384x1, .i32⟩
  | 89 => ⟨S16384x1, .i32⟩
  | 90 => ⟨S_, .i32⟩
  | 91 => ⟨S16384x1, .i32⟩
  | 92 => ⟨S16384x1, .i32⟩
  | 93 => ⟨S_, .i32⟩
  | 94 => ⟨S16384x1, .i32⟩
  | 95 => ⟨S16384x1, .i32⟩
  | 96 => ⟨S16384x1, .i32⟩
  | 97 => ⟨S16384x1, .i32⟩
  | 98 => ⟨S16384x1, .i32⟩
  | 99 => ⟨S_, .i32⟩
  | 100 => ⟨S16384x1, .i32⟩
  | 101 => ⟨S16384x1, .i32⟩
  | 102 => ⟨S_, .i32⟩
  | 103 => ⟨S16384x1, .i32⟩
  | 104 => ⟨S16384x1, .i32⟩
  | 105 => ⟨S16384x1, .i32⟩
  | 106 => ⟨S16384x1, .i32⟩
  | 107 => ⟨S16384x1, .i32⟩
  | 108 => ⟨S_, .i32⟩
  | 109 => ⟨S16384x1, .i32⟩
  | 110 => ⟨S16384x1, .i32⟩
  | 111 => ⟨S_, .i32⟩
  | 112 => ⟨S16384x1, .i32⟩
  | 113 => ⟨S16384x1, .i32⟩
  | 114 => ⟨S16384x1, .i32⟩
  | 115 => ⟨S16384x1, .i32⟩
  | 116 => ⟨S16384x1, .i32⟩
  | 117 => ⟨S16384x1, .i32⟩
  | 118 => ⟨S16384x1, .i32⟩
  | 119 => ⟨S16384x1, .i32⟩
  | 120 => ⟨S_, .i32⟩
  | 121 => ⟨S16384x1, .i32⟩
  | 122 => ⟨S16384x1, .i32⟩
  | 123 => ⟨S16384x2, .i32⟩
  | 124 => ⟨S16384x1, .i32⟩
  | 125 => ⟨S16384, .i32⟩
  | 126 => ⟨S16384x1, .i32⟩
  | 127 => ⟨S16384, .i32⟩
  | _ => ⟨S16384x200, .i32⟩

abbrev hbmTy0_2 (i : Nat) : BufTy := match i % 128 with
  | 0 => ⟨S4, .i64⟩
  | 1 => ⟨S_, .i64⟩
  | 2 => ⟨S4, .i64⟩
  | 3 => ⟨S4, .i64⟩
  | 4 => ⟨S_, .i64⟩
  | 5 => ⟨S4, .i64⟩
  | 6 => ⟨S4, .i64⟩
  | 7 => ⟨S4, .i32⟩
  | 8 => ⟨S4, .i32⟩
  | 9 => ⟨S1x4, .i32⟩
  | 10 => ⟨S1x4, .i32⟩
  | 11 => ⟨S16384x1, .i32⟩
  | 12 => ⟨S16384x1, .i32⟩
  | 13 => ⟨S16384x1, .i32⟩
  | 14 => ⟨S_, .i32⟩
  | 15 => ⟨S16384x1, .i32⟩
  | 16 => ⟨S16384x1, .i32⟩
  | 17 => ⟨S16384x4, .i32⟩
  | 18 => ⟨S16384x4, .i32⟩
  | 19 => ⟨S16384x4, .i32⟩
  | 20 => ⟨S16384x4, .i32⟩
  | 21 => ⟨S16384x4, .i32⟩
  | 22 => ⟨S16384x4, .i32⟩
  | 23 => ⟨S16384x4, .i32⟩
  | 24 => ⟨S_, .i32⟩
  | 25 => ⟨S16384x4, .i32⟩
  | 26 => ⟨S16384x4, .i32⟩
  | 27 => ⟨S_, .i32⟩
  | 28 => ⟨S16384x4, .i32⟩
  | 29 => ⟨S16384x4, .i32⟩
  | 30 => ⟨S16384x4, .i32⟩
  | 31 => ⟨S16384x4, .i32⟩
  | 32 => ⟨S16384x4, .i32⟩
  | 33 => ⟨S_, .i32⟩
  | 34 => ⟨S16384x4, .i32⟩
  | 35 => ⟨S16384x4, .i32⟩
  | 36 => ⟨S_, .i32⟩
  | 37 => ⟨S16384x4, .i32⟩
  | 38 => ⟨S16384x4, .i32⟩
  | 39 => ⟨S16384x4, .i32⟩
  | 40 => ⟨S16384x4, .i32⟩
  | 41 => ⟨S16384x4, .i32⟩
  | 42 => ⟨S_, .i32⟩
  | 43 => ⟨S16384x4, .i32⟩
  | 44 => ⟨S16384x4, .i32⟩
  | 45 => ⟨S_, .i32⟩
  | 46 => ⟨S16384x4, .i32⟩
  | 47 => ⟨S16384x4, .i32⟩
  | 48 => ⟨S16384x4, .i32⟩
  | 49 => ⟨S16384x4, .i32⟩
  | 50 => ⟨S16384x4, .i32⟩
  | 51 => ⟨S_, .i32⟩
  | 52 => ⟨S16384x4, .i32⟩
  | 53 => ⟨S16384x4, .i32⟩
  | 54 => ⟨S_, .i32⟩
  | 55 => ⟨S16384x4, .i32⟩
  | 56 => ⟨S16384x4, .i32⟩
  | 57 => ⟨S16384x4, .i32⟩
  | 58 => ⟨S16384x4, .i32⟩
  | 59 => ⟨S16384x4, .i32⟩
  | 60 => ⟨S16384x4, .i32⟩
  | 61 => ⟨S16384x4, .i32⟩
  | 62 => ⟨S16384x4, .i32⟩
  | 63 => ⟨S_, .i32⟩
  | 64 => ⟨S16384x4, .i32⟩
  | 65 => ⟨S16384x4, .i32⟩
  | 66 => ⟨S16384x4, .i32⟩
  | 67 => ⟨S_, .i32⟩
  | 68 => ⟨S16384x4, .i32⟩
  | 69 => ⟨S16384x4, .i32⟩
  | 70 => ⟨S_, .i32⟩
  | 71 => ⟨S16384x4, .i32⟩
  | 72 => ⟨S16384x4, .i32⟩
  | 73 => ⟨S16384x4, .i32⟩
  | 74 => ⟨S16384x4, .i32⟩
  | 75 => ⟨S16384x4, .i32⟩
  | 76 => ⟨S_, .i32⟩
  | 77 => ⟨S16384x4, .i32⟩
  | 78 => ⟨S16384x4, .i32⟩
  | 79 => ⟨S_, .i32⟩
  | 80 => ⟨S16384x4, .i32⟩
  | 81 => ⟨S16384x4, .i32⟩
  | 82 => ⟨S16384x4, .i32⟩
  | 83 => ⟨S16384x4, .i32⟩
  | 84 => ⟨S16384x4, .i32⟩
  | 85 => ⟨S_, .i32⟩
  | 86 => ⟨S16384x4, .i32⟩
  | 87 => ⟨S16384x4, .i32⟩
  | 88 => ⟨S_, .i32⟩
  | 89 => ⟨S16384x4, .i32⟩
  | 90 => ⟨S16384x4, .i32⟩
  | 91 => ⟨S16384x4, .i32⟩
  | 92 => ⟨S16384x4, .i32⟩
  | 93 => ⟨S16384x4, .i32⟩
  | 94 => ⟨S_, .i32⟩
  | 95 => ⟨S16384x4, .i32⟩
  | 96 => ⟨S16384x4, .i32⟩
  | 97 => ⟨S_, .i32⟩
  | 98 => ⟨S16384x4, .i32⟩
  | 99 => ⟨S16384x4, .i32⟩
  | 100 => ⟨S16384x4, .i32⟩
  | 101 => ⟨S16384x4, .i32⟩
  | 102 => ⟨S16384x4, .i32⟩
  | 103 => ⟨S16384x4, .i32⟩
  | 104 => ⟨S16384x4, .i32⟩
  | 105 => ⟨S16384x4, .i32⟩
  | 106 => ⟨S_, .i32⟩
  | 107 => ⟨S16384x4, .i32⟩
  | 108 => ⟨S16384x4, .i32⟩
  | 109 => ⟨S16384x4, .i32⟩
  | 110 => ⟨S_, .i32⟩
  | 111 => ⟨S16384x4, .i32⟩
  | 112 => ⟨S16384x4, .i32⟩
  | 113 => ⟨S_, .i32⟩
  | 114 => ⟨S16384x4, .i32⟩
  | 115 => ⟨S16384x4, .i32⟩
  | 116 => ⟨S16384x4, .i32⟩
  | 117 => ⟨S16384x4, .i32⟩
  | 118 => ⟨S16384x4, .i32⟩
  | 119 => ⟨S_, .i32⟩
  | 120 => ⟨S16384x4, .i32⟩
  | 121 => ⟨S16384x4, .i32⟩
  | 122 => ⟨S_, .i32⟩
  | 123 => ⟨S16384x4, .i32⟩
  | 124 => ⟨S16384x4, .i32⟩
  | 125 => ⟨S16384x4, .i32⟩
  | 126 => ⟨S16384x4, .i32⟩
  | 127 => ⟨S16384x4, .i32⟩
  | _ => ⟨S16384x200, .i32⟩

abbrev hbmTy0_3 (i : Nat) : BufTy := match i % 128 with
  | 0 => ⟨S_, .i32⟩
  | 1 => ⟨S16384x4, .i32⟩
  | 2 => ⟨S16384x4, .i32⟩
  | 3 => ⟨S_, .i32⟩
  | 4 => ⟨S16384x4, .i32⟩
  | 5 => ⟨S16384x4, .i32⟩
  | 6 => ⟨S16384x4, .i32⟩
  | 7 => ⟨S16384x4, .i32⟩
  | 8 => ⟨S16384x4, .i32⟩
  | 9 => ⟨S_, .i32⟩
  | 10 => ⟨S16384x4, .i32⟩
  | 11 => ⟨S16384x4, .i32⟩
  | 12 => ⟨S_, .i32⟩
  | 13 => ⟨S16384x4, .i32⟩
  | 14 => ⟨S16384x4, .i32⟩
  | 15 => ⟨S16384x4, .i32⟩
  | 16 => ⟨S16384x4, .i32⟩
  | 17 => ⟨S16384x4, .i32⟩
  | 18 => ⟨S16384x4, .i32⟩
  | 19 => ⟨S16384x4, .i32⟩
  | 20 => ⟨S16384x4, .i32⟩
  | 21 => ⟨S_, .i32⟩
  | 22 => ⟨S16384x4, .i32⟩
  | 23 => ⟨S16384x4, .i32⟩
  | 24 => ⟨S16384x4, .i32⟩
  | 25 => ⟨S_, .i32⟩
  | 26 => ⟨S16384x4, .i32⟩
  | 27 => ⟨S16384x4, .i32⟩
  | 28 => ⟨S_, .i32⟩
  | 29 => ⟨S16384x4, .i32⟩
  | 30 => ⟨S16384x4, .i32⟩
  | 31 => ⟨S16384x4, .i32⟩
  | 32 => ⟨S16384x4, .i32⟩
  | 33 => ⟨S16384x4, .i32⟩
  | 34 => ⟨S_, .i32⟩
  | 35 => ⟨S16384x4, .i32⟩
  | 36 => ⟨S16384x4, .i32⟩
  | 37 => ⟨S_, .i32⟩
  | 38 => ⟨S16384x4, .i32⟩
  | 39 => ⟨S16384x4, .i32⟩
  | 40 => ⟨S16384x4, .i32⟩
  | 41 => ⟨S16384x4, .i32⟩
  | 42 => ⟨S16384x4, .i32⟩
  | 43 => ⟨S_, .i32⟩
  | 44 => ⟨S16384x4, .i32⟩
  | 45 => ⟨S16384x4, .i32⟩
  | 46 => ⟨S_, .i32⟩
  | 47 => ⟨S16384x4, .i32⟩
  | 48 => ⟨S16384x4, .i32⟩
  | 49 => ⟨S16384x4, .i32⟩
  | 50 => ⟨S16384x4, .i32⟩
  | 51 => ⟨S16384x4, .i32⟩
  | 52 => ⟨S_, .i32⟩
  | 53 => ⟨S16384x4, .i32⟩
  | 54 => ⟨S16384x4, .i32⟩
  | 55 => ⟨S_, .i32⟩
  | 56 => ⟨S16384x4, .i32⟩
  | 57 => ⟨S16384x4, .i32⟩
  | 58 => ⟨S16384x4, .i32⟩
  | 59 => ⟨S16384x4, .i32⟩
  | 60 => ⟨S16384x4, .i32⟩
  | 61 => ⟨S16384x4, .i32⟩
  | 62 => ⟨S16384x4, .i32⟩
  | 63 => ⟨S16384x4, .i32⟩
  | 64 => ⟨S_, .i32⟩
  | 65 => ⟨S16384x4, .i32⟩
  | 66 => ⟨S16384x4, .i32⟩
  | 67 => ⟨S16384x4, .i32⟩
  | 68 => ⟨S_, .i32⟩
  | 69 => ⟨S16384x4, .i32⟩
  | 70 => ⟨S16384x4, .i32⟩
  | 71 => ⟨S_, .i32⟩
  | 72 => ⟨S16384x4, .i32⟩
  | 73 => ⟨S16384x4, .i32⟩
  | 74 => ⟨S16384x4, .i32⟩
  | 75 => ⟨S16384x4, .i32⟩
  | 76 => ⟨S16384x4, .i32⟩
  | 77 => ⟨S_, .i32⟩
  | 78 => ⟨S16384x4, .i32⟩
  | 79 => ⟨S16384x4, .i32⟩
  | 80 => ⟨S_, .i32⟩
  | 81 => ⟨S16384x4, .i32⟩
  | 82 => ⟨S16384x4, .i32⟩
  | 83 => ⟨S16384x4, .i32⟩
  | 84 => ⟨S16384x4, .i32⟩
  | 85 => ⟨S16384x4, .i32⟩
  | 86 => ⟨S_, .i32⟩
  | 87 => ⟨S16384x4, .i32⟩
  | 88 => ⟨S16384x4, .i32⟩
  | 89 => ⟨S_, .i32⟩
  | 90 => ⟨S16384x4, .i32⟩
  | 91 => ⟨S16384x4, .i32⟩
  | 92 => ⟨S16384x4, .i32⟩
  | 93 => ⟨S16384x4, .i32⟩
  | 94 => ⟨S16384x4, .i32⟩
  | 95 => ⟨S_, .i32⟩
  | 96 => ⟨S16384x4, .i32⟩
  | 97 => ⟨S16384x4, .i32⟩
  | 98 => ⟨S_, .i32⟩
  | 99 => ⟨S16384x4, .i32⟩
  | 100 => ⟨S16384x4, .i32⟩
  | 101 => ⟨S16384x4, .i32⟩
  | 102 => ⟨S16384x4, .i32⟩
  | 103 => ⟨S16384x4, .i32⟩
  | 104 => ⟨S16384x4, .i32⟩
  | 105 => ⟨S16384x4, .i32⟩
  | 106 => ⟨S16384x4, .i32⟩
  | 107 => ⟨S_, .i32⟩
  | 108 => ⟨S16384x4, .i32⟩
  | 109 => ⟨S16384x4, .i32⟩
  | 110 => ⟨S16384x4x1, .i32⟩
  | 111 => ⟨S16384x4x1, .i32⟩
  | 112 => ⟨S16384x4x2, .i32⟩
  | 113 => ⟨S16384x1x2, .i32⟩
  | 114 => ⟨S16384x2, .i32⟩
  | 115 => ⟨S16384x1x2, .i32⟩
  | 116 => ⟨S16384x2, .i32⟩
  | 117 => ⟨S16384x1x2, .i32⟩
  | 118 => ⟨S16384x2, .i32⟩
  | 119 => ⟨S16384x1x2, .i32⟩
  | 120 => ⟨S16384x2, .i32⟩
  | 121 => ⟨S_, .f32⟩
  | 122 => ⟨S_, .f32⟩
  | 123 => ⟨S_, .f32⟩
  | 124 => ⟨S_, .f32⟩
  | 125 => ⟨S16384x1, .i32⟩
  | 126 => ⟨S16384, .i32⟩
  | 127 => ⟨S16384x1, .i32⟩
  | _ => ⟨S16384x200, .i32⟩

abbrev hbmTy0_4 (i : Nat) : BufTy := match i % 128 with
  | 0 => ⟨S16384, .i32⟩
  | 1 => ⟨S_, .i32⟩
  | 2 => ⟨S_, .i32⟩
  | 3 => ⟨S16384, .i32⟩
  | 4 => ⟨S_, .i32⟩
  | 5 => ⟨S16384, .i32⟩
  | 6 => ⟨S16384, .i32⟩
  | 7 => ⟨S16384, .i32⟩
  | 8 => ⟨S16384, .i32⟩
  | 9 => ⟨S16384, .i32⟩
  | 10 => ⟨S16384, .i32⟩
  | 11 => ⟨S16384, .i32⟩
  | 12 => ⟨S_, .i32⟩
  | 13 => ⟨S16384, .i32⟩
  | 14 => ⟨S16384, .i32⟩
  | 15 => ⟨S_, .i32⟩
  | 16 => ⟨S16384, .i32⟩
  | 17 => ⟨S16384, .i32⟩
  | 18 => ⟨S16384, .i32⟩
  | 19 => ⟨S16384, .i32⟩
  | 20 => ⟨S16384, .i32⟩
  | 21 => ⟨S_, .i32⟩
  | 22 => ⟨S16384, .i32⟩
  | 23 => ⟨S16384, .i32⟩
  | 24 => ⟨S_, .i32⟩
  | 25 => ⟨S16384, .i32⟩
  | 26 => ⟨S16384, .i32⟩
  | 27 => ⟨S16384, .i32⟩
  | 28 => ⟨S16384, .i32⟩
  | 29 => ⟨S16384, .i32⟩
  | 30 => ⟨S_, .i32⟩
  | 31 => ⟨S16384, .i32⟩
  | 32 => ⟨S16384, .i32⟩
  | 33 => ⟨S_, .i32⟩
  | 34 => ⟨S16384, .i32⟩
  | 35 => ⟨S16384, .i32⟩
  | 36 => ⟨S16384, .i32⟩
  | 37 => ⟨S16384, .i32⟩
  | 38 => ⟨S16384, .i32⟩
  | 39 => ⟨S_, .i32⟩
  | 40 => ⟨S16384, .i32⟩
  | 41 => ⟨S16384, .i32⟩
  | 42 => ⟨S_, .i32⟩
  | 43 => ⟨S16384, .i32⟩
  | 44 => ⟨S16384, .i32⟩
  | 45 => ⟨S16384, .i32⟩
  | 46 => ⟨S16384, .i32⟩
  | 47 => ⟨S16384, .i32⟩
  | 48 => ⟨S16384, .i32⟩
  | 49 => ⟨S_, .i32⟩
  | 50 => ⟨S16384, .i32⟩
  | 51 => ⟨S16384, .i32⟩
  | 52 => ⟨S16384, .i32⟩
  | 53 => ⟨S_, .i32⟩
  | 54 => ⟨S16384, .i32⟩
  | 55 => ⟨S16384, .i32⟩
  | 56 => ⟨S_, .i32⟩
  | 57 => ⟨S16384, .i32⟩
  | 58 => ⟨S16384, .i32⟩
  | 59 => ⟨S16384, .i32⟩
  | 60 => ⟨S16384, .i32⟩
  | 61 => ⟨S16384, .i32⟩
  | 62 => ⟨S_, .i32⟩
  | 63 => ⟨S16384, .i32⟩
  | 64 => ⟨S16384, .i32⟩
  | 65 => ⟨S_, .i32⟩
  | 66 => ⟨S16384, .i32⟩
  | 67 => ⟨S16384, .i32⟩
  | 68 => ⟨S16384, .i32⟩
  | 69 => ⟨S16384, .i32⟩
  | 70 => ⟨S16384, .i32⟩
  | 71 => ⟨S_, .i32⟩
  | 72 => ⟨S16384, .i32⟩
  | 73 => ⟨S16384, .i32⟩
  | 74 => ⟨S_, .i32⟩
  | 75 => ⟨S16384, .i32⟩
  | 76 => ⟨S16384, .i32⟩
  | 77 => ⟨S16384, .i32⟩
  | 78 => ⟨S16384, .i32⟩
  | 79 => ⟨S16384, .i32⟩
  | 80 => ⟨S_, .i32⟩
  | 81 => ⟨S16384, .i32⟩
  | 82 => ⟨S16384, .i32⟩
  | 83 => ⟨S_, .i32⟩
  | 84 => ⟨S16384, .i32⟩
  | 85 => ⟨S16384, .i32⟩
  | 86 => ⟨S16384, .i32⟩
  | 87 => ⟨S16384, .i32⟩
  | 88 => ⟨S16384, .i32⟩
  | 89 => ⟨S16384, .i32⟩
  | 90 => ⟨S_, .i32⟩
  | 91 => ⟨S16384, .i32⟩
  | 92 => ⟨S16384, .i32⟩
  | 93 => ⟨S16384, .i32⟩
  | 94 => ⟨S_, .i32⟩
  | 95 => ⟨S16384, .i32⟩
  | 96 => ⟨S16384, .i32⟩
  | 97 => ⟨S_, .i32⟩
  | 98 => ⟨S16384, .i32⟩
  | 99 => ⟨S16384, .i32⟩
  | 100 => ⟨S16384, .i32⟩
  | 101 => ⟨S16384, .i32⟩
  | 102 => ⟨S16384, .i32⟩
  | 103 => ⟨S_, .i32⟩
  | 104 => ⟨S16384, .i32⟩
  | 105 => ⟨S16384, .i32⟩
  | 106 => ⟨S_, .i32⟩
  | 107 => ⟨S16384, .i32⟩
  | 108 => ⟨S16384, .i32⟩
  | 109 => ⟨S16384, .i32⟩
  | 110 => ⟨S16384, .i32⟩
  | 111 => ⟨S16384, .i32⟩
  | 112 => ⟨S_, .i32⟩
  | 113 => ⟨S16384, .i32⟩
  | 114 => ⟨S16384, .i32⟩
  | 115 => ⟨S_, .i32⟩
  | 116 => ⟨S16384, .i32⟩
  | 117 => ⟨S16384, .i32⟩
  | 118 => ⟨S16384, .i32⟩
  | 119 => ⟨S16384, .i32⟩
  | 120 => ⟨S16384, .i32⟩
  | 121 => ⟨S_, .i32⟩
  | 122 => ⟨S16384, .i32⟩
  | 123 => ⟨S16384, .i32⟩
  | 124 => ⟨S_, .i32⟩
  | 125 => ⟨S16384, .i32⟩
  | 126 => ⟨S16384, .i32⟩
  | 127 => ⟨S16384, .i32⟩
  | _ => ⟨S16384x200, .i32⟩

abbrev hbmTy0_5 (i : Nat) : BufTy := match i % 128 with
  | 0 => ⟨S16384, .i32⟩
  | 1 => ⟨S16384, .i32⟩
  | 2 => ⟨S16384, .i32⟩
  | 3 => ⟨S_, .i32⟩
  | 4 => ⟨S16384, .i32⟩
  | 5 => ⟨S16384, .i32⟩
  | 6 => ⟨S16384, .i32⟩
  | 7 => ⟨S_, .i32⟩
  | 8 => ⟨S16384, .i32⟩
  | 9 => ⟨S16384, .i32⟩
  | 10 => ⟨S_, .i32⟩
  | 11 => ⟨S16384, .i32⟩
  | 12 => ⟨S16384, .i32⟩
  | 13 => ⟨S16384, .i32⟩
  | 14 => ⟨S16384, .i32⟩
  | 15 => ⟨S16384, .i32⟩
  | 16 => ⟨S_, .i32⟩
  | 17 => ⟨S16384, .i32⟩
  | 18 => ⟨S16384, .i32⟩
  | 19 => ⟨S_, .i32⟩
  | 20 => ⟨S16384, .i32⟩
  | 21 => ⟨S16384, .i32⟩
  | 22 => ⟨S16384, .i32⟩
  | 23 => ⟨S16384, .i32⟩
  | 24 => ⟨S16384, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i32⟩
  | 31 => ⟨S16384, .i32⟩
  | 32 => ⟨S16384, .i32⟩
  | 33 => ⟨S16384, .i32⟩
  | 34 => ⟨S_, .i32⟩
  | 35 => ⟨S16384, .i32⟩
  | 36 => ⟨S16384, .i32⟩
  | 37 => ⟨S_, .i32⟩
  | 38 => ⟨S16384, .i32⟩
  | 39 => ⟨S16384, .i32⟩
  | 40 => ⟨S16384, .i32⟩
  | 41 => ⟨S16384, .i32⟩
  | 42 => ⟨S16384, .i32⟩
  | 43 => ⟨S16384, .i32⟩
  | 44 => ⟨S_, .i32⟩
  | 45 => ⟨S16384, .i32⟩
  | 46 => ⟨S16384, .i32⟩
  | 47 => ⟨S16384, .i32⟩
  | 48 => ⟨S_, .i32⟩
  | 49 => ⟨S16384, .i32⟩
  | 50 => ⟨S16384, .i32⟩
  | 51 => ⟨S_, .i32⟩
  | 52 => ⟨S16384, .i32⟩
  | 53 => ⟨S16384, .i32⟩
  | 54 => ⟨S16384, .i32⟩
  | 55 => ⟨S16384, .i32⟩
  | 56 => ⟨S16384, .i32⟩
  | 57 => ⟨S_, .i32⟩
  | 58 => ⟨S16384, .i32⟩
  | 59 => ⟨S16384, .i32⟩
  | 60 => ⟨S_, .i32⟩
  | 61 => ⟨S16384, .i32⟩
  | 62 => ⟨S16384, .i32⟩
  | 63 => ⟨S16384, .i32⟩
  | 64 => ⟨S16384, .i32⟩
  | 65 => ⟨S16384, .i32⟩
  | 66 => ⟨S_, .i32⟩
  | 67 => ⟨S16384, .i32⟩
  | 68 => ⟨S16384, .i32⟩
  | 69 => ⟨S_, .i32⟩
  | 70 => ⟨S16384, .i32⟩
  | 71 => ⟨S16384, .i32⟩
  | 72 => ⟨S16384, .i32⟩
  | 73 => ⟨S16384, .i32⟩
  | 74 => ⟨S16384, .i32⟩
  | 75 => ⟨S_, .i32⟩
  | 76 => ⟨S16384, .i32⟩
  | 77 => ⟨S16384, .i32⟩
  | 78 => ⟨S_, .i32⟩
  | 79 => ⟨S16384, .i32⟩
  | 80 => ⟨S16384, .i32⟩
  | 81 => ⟨S16384, .i32⟩
  | 82 => ⟨S16384, .i32⟩
  | 83 => ⟨S16384, .i32⟩
  | 84 => ⟨S16384, .i32⟩
  | 85 => ⟨S_, .i32⟩
  | 86 => ⟨S16384, .i32⟩
  | 87 => ⟨S16384, .i32⟩
  | 88 => ⟨S16384, .i32⟩
  | 89 => ⟨S_, .i32⟩
  | 90 => ⟨S16384, .i32⟩
  | 91 => ⟨S16384, .i32⟩
  | 92 => ⟨S_, .i32⟩
  | 93 => ⟨S16384, .i32⟩
  | 94 => ⟨S16384, .i32⟩
  | 95 => ⟨S16384, .f32⟩
  | 96 => ⟨S_, .f32⟩
  | 97 => ⟨S16384, .f32⟩
  | 98 => ⟨S16384, .f32⟩
  | 99 => ⟨S_, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S_, .f32⟩
  | 107 => ⟨S_, .f32⟩
  | 108 => ⟨S_, .f32⟩
  | 109 => ⟨S_, .f32⟩
  | 110 => ⟨S16384x1, .i32⟩
  | 111 => ⟨S16384, .i32⟩
  | 112 => ⟨S16384x1, .i32⟩
  | 113 => ⟨S16384, .i32⟩
  | 114 => ⟨S_, .i32⟩
  | 115 => ⟨S_, .i32⟩
  | 116 => ⟨S16384, .i32⟩
  | 117 => ⟨S_, .i32⟩
  | 118 => ⟨S16384, .i32⟩
  | 119 => ⟨S16384, .i32⟩
  | 120 => ⟨S16384, .i32⟩
  | 121 => ⟨S16384, .i32⟩
  | 122 => ⟨S16384, .i32⟩
  | 123 => ⟨S16384, .i32⟩
  | 124 => ⟨S16384, .i32⟩
  | 125 => ⟨S_, .i32⟩
  | 126 => ⟨S16384, .i32⟩
  | 127 => ⟨S16384, .i32⟩
  | _ => ⟨S16384x200, .i32⟩

abbrev hbmTy0_6 (i : Nat) : BufTy := match i % 128 with
  | 0 => ⟨S_, .i32⟩
  | 1 => ⟨S16384, .i32⟩
  | 2 => ⟨S16384, .i32⟩
  | 3 => ⟨S16384, .i32⟩
  | 4 => ⟨S16384, .i32⟩
  | 5 => ⟨S16384, .i32⟩
  | 6 => ⟨S_, .i32⟩
  | 7 => ⟨S16384, .i32⟩
  | 8 => ⟨S16384, .i32⟩
  | 9 => ⟨S_, .i32⟩
  | 10 => ⟨S16384, .i32⟩
  | 11 => ⟨S16384, .i32⟩
  | 12 => ⟨S16384, .i32⟩
  | 13 => ⟨S16384, .i32⟩
  | 14 => ⟨S16384, .i32⟩
  | 15 => ⟨S_, .i32⟩
  | 16 => ⟨S16384, .i32⟩
  | 17 => ⟨S16384, .i32⟩
  | 18 => ⟨S_, .i32⟩
  | 19 => ⟨S16384, .i32⟩
  | 20 => ⟨S16384, .i32⟩
  | 21 => ⟨S16384, .i32⟩
  | 22 => ⟨S16384, .i32⟩
  | 23 => ⟨S16384, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S16384, .i32⟩
  | 31 => ⟨S16384, .i32⟩
  | 32 => ⟨S16384, .i32⟩
  | 33 => ⟨S16384, .i32⟩
  | 34 => ⟨S_, .i32⟩
  | 35 => ⟨S16384, .i32⟩
  | 36 => ⟨S16384, .i32⟩
  | 37 => ⟨S16384, .i32⟩
  | 38 => ⟨S_, .i32⟩
  | 39 => ⟨S16384, .i32⟩
  | 40 => ⟨S16384, .i32⟩
  | 41 => ⟨S_, .i32⟩
  | 42 => ⟨S16384, .i32⟩
  | 43 => ⟨S16384, .i32⟩
  | 44 => ⟨S16384, .i32⟩
  | 45 => ⟨S16384, .i32⟩
  | 46 => ⟨S16384, .i32⟩
  | 47 => ⟨S_, .i32⟩
  | 48 => ⟨S16384, .i32⟩
  | 49 => ⟨S16384, .i32⟩
  | 50 => ⟨S_, .i32⟩
  | 51 => ⟨S16384, .i32⟩
  | 52 => ⟨S16384, .i32⟩
  | 53 => ⟨S16384, .i32⟩
  | 54 => ⟨S16384, .i32⟩
  | 55 => ⟨S16384, .i32⟩
  | 56 => ⟨S_, .i32⟩
  | 57 => ⟨S16384, .i32⟩
  | 58 => ⟨S16384, .i32⟩
  | 59 => ⟨S_, .i32⟩
  | 60 => ⟨S16384, .i32⟩
  | 61 => ⟨S16384, .i32⟩
  | 62 => ⟨S16384, .i32⟩
  | 63 => ⟨S16384, .i32⟩
  | 64 => ⟨S16384, .i32⟩
  | 65 => ⟨S_, .i32⟩
  | 66 => ⟨S16384, .i32⟩
  | 67 => ⟨S16384, .i32⟩
  | 68 => ⟨S_, .i32⟩
  | 69 => ⟨S16384, .i32⟩
  | 70 => ⟨S16384, .i32⟩
  | 71 => ⟨S16384, .i32⟩
  | 72 => ⟨S16384, .i32⟩
  | 73 => ⟨S16384, .i32⟩
  | 74 => ⟨S16384, .i32⟩
  | 75 => ⟨S_, .i32⟩
  | 76 => ⟨S16384, .i32⟩
  | 77 => ⟨S16384, .i32⟩
  | 78 => ⟨S16384, .i32⟩
  | 79 => ⟨S_, .i32⟩
  | 80 => ⟨S16384, .i32⟩
  | 81 => ⟨S16384, .i32⟩
  | 82 => ⟨S_, .i32⟩
  | 83 => ⟨S16384, .i32⟩
  | 84 => ⟨S16384, .i32⟩
  | 85 => ⟨S16384, .i32⟩
  | 86 => ⟨S16384, .i32⟩
  | 87 => ⟨S16384, .i32⟩
  | 88 => ⟨S_, .i32⟩
  | 89 => ⟨S16384, .i32⟩
  | 90 => ⟨S16384, .i32⟩
  | 91 => ⟨S_, .i32⟩
  | 92 => ⟨S16384, .i32⟩
  | 93 => ⟨S16384, .i32⟩
  | 94 => ⟨S16384, .i32⟩
  | 95 => ⟨S16384, .i32⟩
  | 96 => ⟨S16384, .i32⟩
  | 97 => ⟨S_, .i32⟩
  | 98 => ⟨S16384, .i32⟩
  | 99 => ⟨S16384, .i32⟩
  | 100 => ⟨S_, .i32⟩
  | 101 => ⟨S16384, .i32⟩
  | 102 => ⟨S16384, .i32⟩
  | 103 => ⟨S16384, .i32⟩
  | 104 => ⟨S16384, .i32⟩
  | 105 => ⟨S16384, .i32⟩
  | 106 => ⟨S_, .i32⟩
  | 107 => ⟨S16384, .i32⟩
  | 108 => ⟨S16384, .i32⟩
  | 109 => ⟨S_, .i32⟩
  | 110 => ⟨S16384, .i32⟩
  | 111 => ⟨S16384, .i32⟩
  | 112 => ⟨S16384, .i32⟩
  | 113 => ⟨S16384, .i32⟩
  | 114 => ⟨S16384, .i32⟩
  | 115 => ⟨S16384, .i32⟩
  | 116 => ⟨S_, .i32⟩
  | 117 => ⟨S16384, .i32⟩
  | 118 => ⟨S16384, .i32⟩
  | 119 => ⟨S16384, .i32⟩
  | 120 => ⟨S_, .i32⟩
  | 121 => ⟨S16384, .i32⟩
  | 122 => ⟨S16384, .i32⟩
  | 123 => ⟨S_, .i32⟩
  | 124 => ⟨S16384, .i32⟩
  | 125 => ⟨S16384, .i32⟩
  | 126 => ⟨S16384, .i32⟩
  | 127 => ⟨S16384, .i32⟩
  | _ => ⟨S16384x200, .i32⟩

abbrev hbmTy0_7 (i : Nat) : BufTy := match i % 128 with
  | 0 => ⟨S16384, .i32⟩
  | 1 => ⟨S_, .i32⟩
  | 2 => ⟨S16384, .i32⟩
  | 3 => ⟨S16384, .i32⟩
  | 4 => ⟨S_, .i32⟩
  | 5 => ⟨S16384, .i32⟩
  | 6 => ⟨S16384, .i32⟩
  | 7 => ⟨S16384, .i32⟩
  | 8 => ⟨S16384, .i32⟩
  | 9 => ⟨S16384, .i32⟩
  | 10 => ⟨S_, .i32⟩
  | 11 => ⟨S16384, .i32⟩
  | 12 => ⟨S16384, .i32⟩
  | 13 => ⟨S_, .i32⟩
  | 14 => ⟨S16384, .i32⟩
  | 15 => ⟨S16384, .i32⟩
  | 16 => ⟨S16384, .i32⟩
  | 17 => ⟨S16384, .i32⟩
  | 18 => ⟨S16384, .i32⟩
  | 19 => ⟨S_, .i32⟩
  | 20 => ⟨S16384, .i32⟩
  | 21 => ⟨S16384, .i32⟩
  | 22 => ⟨S_, .i32⟩
  | 23 => ⟨S16384, .i32⟩
  | 24 => ⟨S16384, .i32⟩
  | 25 => ⟨S16384, .i32⟩
  | 26 => ⟨S16384, .i32⟩
  | 27 => ⟨S16384, .i32⟩
  | 28 => ⟨S16384, .i32⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i32⟩
  | 36 => ⟨S_, .i32⟩
  | 37 => ⟨S16384, .i32⟩
  | 38 => ⟨S16384, .i32⟩
  | 39 => ⟨S16384, .i32⟩
  | 40 => ⟨S16384, .i32⟩
  | 41 => ⟨S16384, .i32⟩
  | 42 => ⟨S_, .i32⟩
  | 43 => ⟨S16384, .i32⟩
  | 44 => ⟨S16384, .i32⟩
  | 45 => ⟨S_, .i32⟩
  | 46 => ⟨S16384, .i32⟩
  | 47 => ⟨S16384, .i32⟩
  | 48 => ⟨S16384, .i32⟩
  | 49 => ⟨S16384, .i32⟩
  | 50 => ⟨S16384, .i32⟩
  | 51 => ⟨S_, .i32⟩
  | 52 => ⟨S16384, .i32⟩
  | 53 => ⟨S16384, .i32⟩
  | 54 => ⟨S_, .i32⟩
  | 55 => ⟨S16384, .i32⟩
  | 56 => ⟨S16384, .i32⟩
  | 57 => ⟨S16384, .i32⟩
  | 58 => ⟨S16384, .i32⟩
  | 59 => ⟨S16384, .i32⟩
  | 60 => ⟨S_, .i32⟩
  | 61 => ⟨S16384, .i32⟩
  | 62 => ⟨S16384, .i32⟩
  | 63 => ⟨S_, .i32⟩
  | 64 => ⟨S16384, .i32⟩
  | 65 => ⟨S16384, .i32⟩
  | 66 => ⟨S16384, .i32⟩
  | 67 => ⟨S16384, .i32⟩
  | 68 => ⟨S16384, .i32⟩
  | 69 => ⟨S16384, .i32⟩
  | 70 => ⟨S_, .i32⟩
  | 71 => ⟨S16384, .i32⟩
  | 72 => ⟨S16384, .i32⟩
  | 73 => ⟨S16384, .i32⟩
  | 74 => ⟨S_, .i32⟩
  | 75 => ⟨S16384, .i32⟩
  | 76 => ⟨S16384, .i32⟩
  | 77 => ⟨S_, .i32⟩
  | 78 => ⟨S16384, .i32⟩
  | 79 => ⟨S16384, .i32⟩
  | 80 => ⟨S16384, .f32⟩
  | 81 => ⟨S_, .f32⟩
  | 82 => ⟨S16384, .f32⟩
  | 83 => ⟨S16384, .f32⟩
  | 84 => ⟨S_, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S_, .f32⟩
  | 92 => ⟨S_, .f32⟩
  | 93 => ⟨S_, .f32⟩
  | 94 => ⟨S_, .f32⟩
  | 95 => ⟨S16384x1, .i32⟩
  | 96 => ⟨S16384, .i32⟩
  | 97 => ⟨S16384x1, .i32⟩
  | 98 => ⟨S16384, .i32⟩
  | 99 => ⟨S_, .i32⟩
  | 100 => ⟨S_, .i32⟩
  | 101 => ⟨S16384, .i32⟩
  | 102 => ⟨S_, .i32⟩
  | 103 => ⟨S16384, .i32⟩
  | 104 => ⟨S16384, .i32⟩
  | 105 => ⟨S16384, .i32⟩
  | 106 => ⟨S16384, .i32⟩
  | 107 => ⟨S16384, .i32⟩
  | 108 => ⟨S16384, .i32⟩
  | 109 => ⟨S16384, .i32⟩
  | 110 => ⟨S_, .i32⟩
  | 111 => ⟨S16384, .i32⟩
  | 112 => ⟨S16384, .i32⟩
  | 113 => ⟨S_, .i32⟩
  | 114 => ⟨S16384, .i32⟩
  | 115 => ⟨S16384, .i32⟩
  | 116 => ⟨S16384, .i32⟩
  | 117 => ⟨S16384, .i32⟩
  | 118 => ⟨S16384, .i32⟩
  | 119 => ⟨S_, .i32⟩
  | 120 => ⟨S16384, .i32⟩
  | 121 => ⟨S16384, .i32⟩
  | 122 => ⟨S_, .i32⟩
  | 123 => ⟨S16384, .i32⟩
  | 124 => ⟨S16384, .i32⟩
  | 125 => ⟨S16384, .i32⟩
  | 126 => ⟨S16384, .i32⟩
  | 127 => ⟨S16384, .i32⟩
  | _ => ⟨S16384x200, .i32⟩

abbrev hbmTy0_8 (i : Nat) : BufTy := match i % 128 with
  | 0 => ⟨S_, .i32⟩
  | 1 => ⟨S16384, .i32⟩
  | 2 => ⟨S16384, .i32⟩
  | 3 => ⟨S_, .i32⟩
  | 4 => ⟨S16384, .i32⟩
  | 5 => ⟨S16384, .i32⟩
  | 6 => ⟨S16384, .i32⟩
  | 7 => ⟨S16384, .i32⟩
  | 8 => ⟨S16384, .i32⟩
  | 9 => ⟨S_, .i32⟩
  | 10 => ⟨S16384, .i32⟩
  | 11 => ⟨S16384, .i32⟩
  | 12 => ⟨S_, .i32⟩
  | 13 => ⟨S16384, .i32⟩
  | 14 => ⟨S16384, .i32⟩
  | 15 => ⟨S16384, .i32⟩
  | 16 => ⟨S16384, .i32⟩
  | 17 => ⟨S16384, .i32⟩
  | 18 => ⟨S16384, .i32⟩
  | 19 => ⟨S_, .i32⟩
  | 20 => ⟨S16384, .i32⟩
  | 21 => ⟨S16384, .i32⟩
  | 22 => ⟨S16384, .i32⟩
  | 23 => ⟨S_, .i32⟩
  | 24 => ⟨S16384, .i32⟩
  | 25 => ⟨S16384, .i32⟩
  | 26 => ⟨S_, .i32⟩
  | 27 => ⟨S16384, .i32⟩
  | 28 => ⟨S16384, .i32⟩
  | 29 => ⟨S16384, .i32⟩
  | 30 => ⟨S16384, .i32⟩
  | 31 => ⟨S16384, .i32⟩
  | 32 => ⟨S_, .i32⟩
  | 33 => ⟨S16384, .i32⟩
  | 34 => ⟨S16384, .i32⟩
  | 35 => ⟨S_, .i32⟩
  | 36 => ⟨S16384, .i32⟩
  | 37 => ⟨S16384, .i32⟩
  | 38 => ⟨S16384, .i32⟩
  | 39 => ⟨S16384, .i32⟩
  | 40 => ⟨S16384, .i32⟩
  | 41 => ⟨S_, .i32⟩
  | 42 => ⟨S16384, .i32⟩
  | 43 => ⟨S16384, .i32⟩
  | 44 => ⟨S_, .i32⟩
  | 45 => ⟨S16384, .i32⟩
  | 46 => ⟨S16384, .i32⟩
  | 47 => ⟨S16384, .i32⟩
  | 48 => ⟨S16384, .i32⟩
  | 49 => ⟨S16384, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i32⟩
  | 56 => ⟨S16384, .i32⟩
  | 57 => ⟨S16384, .i32⟩
  | 58 => ⟨S16384, .i32⟩
  | 59 => ⟨S16384, .i32⟩
  | 60 => ⟨S_, .i32⟩
  | 61 => ⟨S16384, .i32⟩
  | 62 => ⟨S16384, .i32⟩
  | 63 => ⟨S16384, .i32⟩
  | 64 => ⟨S_, .i32⟩
  | 65 => ⟨S16384, .i32⟩
  | 66 => ⟨S16384, .i32⟩
  | 67 => ⟨S_, .i32⟩
  | 68 => ⟨S16384, .i32⟩
  | 69 => ⟨S16384, .i32⟩
  | 70 => ⟨S16384, .i32⟩
  | 71 => ⟨S16384, .i32⟩
  | 72 => ⟨S16384, .i32⟩
  | 73 => ⟨S_, .i32⟩
  | 74 => ⟨S16384, .i32⟩
  | 75 => ⟨S16384, .i32⟩
  | 76 => ⟨S_, .i32⟩
  | 77 => ⟨S16384, .i32⟩
  | 78 => ⟨S16384, .i32⟩
  | 79 => ⟨S16384, .i32⟩
  | 80 => ⟨S16384, .i32⟩
  | 81 => ⟨S16384, .i32⟩
  | 82 => ⟨S_, .i32⟩
  | 83 => ⟨S16384, .i32⟩
  | 84 => ⟨S16384, .i32⟩
  | 85 => ⟨S_, .i32⟩
  | 86 => ⟨S16384, .i32⟩
  | 87 => ⟨S16384, .i32⟩
  | 88 => ⟨S16384, .i32⟩
  | 89 => ⟨S16384, .i32⟩
  | 90 => ⟨S16384, .i32⟩
  | 91 => ⟨S_, .i32⟩
  | 92 => ⟨S16384, .i32⟩
  | 93 => ⟨S16384, .i32⟩
  | 94 => ⟨S_, .i32⟩
  | 95 => ⟨S16384, .i32⟩
  | 96 => ⟨S16384, .i32⟩
  | 97 => ⟨S16384, .i32⟩
  | 98 => ⟨S16384, .i32⟩
  | 99 => ⟨S16384, .i32⟩
  | 100 => ⟨S16384, .i32⟩
  | 101 => ⟨S_, .i32⟩
  | 102 => ⟨S16384, .i32⟩
  | 103 => ⟨S16384, .i32⟩
  | 104 => ⟨S16384, .i32⟩
  | 105 => ⟨S_, .i32⟩
  | 106 => ⟨S16384, .i32⟩
  | 107 => ⟨S16384, .i32⟩
  | 108 => ⟨S_, .i32⟩
  | 109 => ⟨S16384, .i32⟩
  | 110 => ⟨S16384, .i32⟩
  | 111 => ⟨S16384, .i32⟩
  | 112 => ⟨S16384, .i32⟩
  | 113 => ⟨S16384, .i32⟩
  | 114 => ⟨S_, .i32⟩
  | 115 => ⟨S16384, .i32⟩
  | 116 => ⟨S16384, .i32⟩
  | 117 => ⟨S_, .i32⟩
  | 118 => ⟨S16384, .i32⟩
  | 119 => ⟨S16384, .i32⟩
  | 120 => ⟨S16384, .i32⟩
  | 121 => ⟨S16384, .i32⟩
  | 122 => ⟨S16384, .i32⟩
  | 123 => ⟨S_, .i32⟩
  | 124 => ⟨S16384, .i32⟩
  | 125 => ⟨S16384, .i32⟩
  | 126 => ⟨S_, .i32⟩
  | 127 => ⟨S16384, .i32⟩
  | _ => ⟨S16384x200, .i32⟩

abbrev hbmTy0_9 (i : Nat) : BufTy := match i % 128 with
  | 0 => ⟨S16384, .i32⟩
  | 1 => ⟨S16384, .i32⟩
  | 2 => ⟨S16384, .i32⟩
  | 3 => ⟨S16384, .i32⟩
  | 4 => ⟨S_, .i32⟩
  | 5 => ⟨S16384, .i32⟩
  | 6 => ⟨S16384, .i32⟩
  | 7 => ⟨S_, .i32⟩
  | 8 => ⟨S16384, .i32⟩
  | 9 => ⟨S16384, .i32⟩
  | 10 => ⟨S16384, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i32⟩
  | 17 => ⟨S16384, .i32⟩
  | 18 => ⟨S_, .i32⟩
  | 19 => ⟨S16384, .i32⟩
  | 20 => ⟨S16384, .i32⟩
  | 21 => ⟨S_, .i32⟩
  | 22 => ⟨S16384, .i32⟩
  | 23 => ⟨S16384, .i32⟩
  | 24 => ⟨S16384, .i32⟩
  | 25 => ⟨S16384, .i32⟩
  | 26 => ⟨S16384, .i32⟩
  | 27 => ⟨S_, .i32⟩
  | 28 => ⟨S16384, .i32⟩
  | 29 => ⟨S16384, .i32⟩
  | 30 => ⟨S_, .i32⟩
  | 31 => ⟨S16384, .i32⟩
  | 32 => ⟨S16384, .i32⟩
  | 33 => ⟨S16384, .i32⟩
  | 34 => ⟨S16384, .i32⟩
  | 35 => ⟨S16384, .i32⟩
  | 36 => ⟨S_, .i32⟩
  | 37 => ⟨S16384, .i32⟩
  | 38 => ⟨S16384, .i32⟩
  | 39 => ⟨S_, .i32⟩
  | 40 => ⟨S16384, .i32⟩
  | 41 => ⟨S16384, .i32⟩
  | 42 => ⟨S16384, .i32⟩
  | 43 => ⟨S16384, .i32⟩
  | 44 => ⟨S16384, .i32⟩
  | 45 => ⟨S_, .i32⟩
  | 46 => ⟨S16384, .i32⟩
  | 47 => ⟨S16384, .i32⟩
  | 48 => ⟨S_, .i32⟩
  | 49 => ⟨S16384, .i32⟩
  | 50 => ⟨S16384, .i32⟩
  | 51 => ⟨S16384, .i32⟩
  | 52 => ⟨S16384, .i32⟩
  | 53 => ⟨S16384, .i32⟩
  | 54 => ⟨S16384, .i32⟩
  | 55 => ⟨S_, .i32⟩
  | 56 => ⟨S16384, .i32⟩
  | 57 => ⟨S16384, .i32⟩
  | 58 => ⟨S16384, .i32⟩
  | 59 => ⟨S_, .i32⟩
  | 60 => ⟨S16384, .i32⟩
  | 61 => ⟨S16384, .i32⟩
  | 62 => ⟨S_, .i32⟩
  | 63 => ⟨S16384, .i32⟩
  | 64 => ⟨S16384, .i32⟩
  | 65 => ⟨S16384, .f32⟩
  | 66 => ⟨S_, .f32⟩
  | 67 => ⟨S16384, .f32⟩
  | 68 => ⟨S16384, .f32⟩
  | 69 => ⟨S_, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .f32⟩
  | 77 => ⟨S_, .f32⟩
  | 78 => ⟨S_, .f32⟩
  | 79 => ⟨S_, .f32⟩
  | 80 => ⟨S1, .f32⟩
  | 81 => ⟨S1, .f32⟩
  | 82 => ⟨S16384x1, .i32⟩
  | 83 => ⟨S16384, .i32⟩
  | 84 => ⟨S16384x1, .i32⟩
  | 85 => ⟨S16384, .i32⟩
  | 86 => ⟨S5, .i64⟩
  | 87 => ⟨S_, .i64⟩
  | 88 => ⟨S5, .i64⟩
  | 89 => ⟨S5, .i64⟩
  | 90 => ⟨S_, .i64⟩
  | 91 => ⟨S5, .i64⟩
  | 92 => ⟨S5, .i64⟩
  | 93 => ⟨S5, .i32⟩
  | 94 => ⟨S5, .i32⟩
  | 95 => ⟨S1x5, .i32⟩
  | 96 => ⟨S1x5, .i32⟩
  | 97 => ⟨S16384x1, .i32⟩
  | 98 => ⟨S16384x1, .i32⟩
  | 99 => ⟨S16384x1, .i32⟩
  | 100 => ⟨S_, .i32⟩
  | 101 => ⟨S16384x1, .i32⟩
  | 102 => ⟨S16384x1, .i32⟩
  | 103 => ⟨S16384x5, .i32⟩
  | 104 => ⟨S16384x5, .i32⟩
  | 105 => ⟨S16384x5, .i32⟩
  | 106 => ⟨S16384x5, .i32⟩
  | 107 => ⟨S16384x5, .i32⟩
  | 108 => ⟨S16384x5, .i32⟩
  | 109 => ⟨S16384x5, .i32⟩
  | 110 => ⟨S_, .i32⟩
  | 111 => ⟨S16384x5, .i32⟩
  | 112 => ⟨S16384x5, .i32⟩
  | 113 => ⟨S_, .i32⟩
  | 114 => ⟨S16384x5, .i32⟩
  | 115 => ⟨S16384x5, .i32⟩
  | 116 => ⟨S16384x5, .i32⟩
  | 117 => ⟨S16384x5, .i32⟩
  | 118 => ⟨S16384x5, .i32⟩
  | 119 => ⟨S_, .i32⟩
  | 120 => ⟨S16384x5, .i32⟩
  | 121 => ⟨S16384x5, .i32⟩
  | 122 => ⟨S_, .i32⟩
  | 123 => ⟨S16384x5, .i32⟩
  | 124 => ⟨S16384x5, .i32⟩
  | 125 => ⟨S16384x5, .i32⟩
  | 126 => ⟨S16384x5, .i32⟩
  | 127 => ⟨S16384x5, .i32⟩
  | _ => ⟨S16384x200, .i32⟩

abbrev hbmTy0_10 (i : Nat) : BufTy := match i % 128 with
  | 0 => ⟨S_, .i32⟩
  | 1 => ⟨S16384x5, .i32⟩
  | 2 => ⟨S16384x5, .i32⟩
  | 3 => ⟨S_, .i32⟩
  | 4 => ⟨S16384x5, .i32⟩
  | 5 => ⟨S16384x5, .i32⟩
  | 6 => ⟨S16384x5, .i32⟩
  | 7 => ⟨S16384x5, .i32⟩
  | 8 => ⟨S16384x5, .i32⟩
  | 9 => ⟨S_, .i32⟩
  | 10 => ⟨S16384x5, .i32⟩
  | 11 => ⟨S16384x5, .i32⟩
  | 12 => ⟨S_, .i32⟩
  | 13 => ⟨S16384x5, .i32⟩
  | 14 => ⟨S16384x5, .i32⟩
  | 15 => ⟨S16384x5, .i32⟩
  | 16 => ⟨S16384x5, .i32⟩
  | 17 => ⟨S16384x5, .i32⟩
  | 18 => ⟨S16384x5, .i32⟩
  | 19 => ⟨S16384x5, .i32⟩
  | 20 => ⟨S16384x5, .i32⟩
  | 21 => ⟨S_, .i32⟩
  | 22 => ⟨S16384x5, .i32⟩
  | 23 => ⟨S16384x5, .i32⟩
  | 24 => ⟨S16384x5, .i32⟩
  | 25 => ⟨S_, .i32⟩
  | 26 => ⟨S16384x5, .i32⟩
  | 27 => ⟨S16384x5, .i32⟩
  | 28 => ⟨S_, .i32⟩
  | 29 => ⟨S16384x5, .i32⟩
  | 30 => ⟨S16384x5, .i32⟩
  | 31 => ⟨S16384x5, .i32⟩
  | 32 => ⟨S16384x5, .i32⟩
  | 33 => ⟨S16384x5, .i32⟩
  | 34 => ⟨S_, .i32⟩
  | 35 => ⟨S16384x5, .i32⟩
  | 36 => ⟨S16384x5, .i32⟩
  | 37 => ⟨S_, .i32⟩
  | 38 => ⟨S16384x5, .i32⟩
  | 39 => ⟨S16384x5, .i32⟩
  | 40 => ⟨S16384x5, .i32⟩
  | 41 => ⟨S16384x5, .i32⟩
  | 42 => ⟨S16384x5, .i32⟩
  | 43 => ⟨S_, .i32⟩
  | 44 => ⟨S16384x5, .i32⟩
  | 45 => ⟨S16384x5, .i32⟩
  | 46 => ⟨S_, .i32⟩
  | 47 => ⟨S16384x5, .i32⟩
  | 48 => ⟨S16384x5, .i32⟩
  | 49 => ⟨S16384x5, .i32⟩
  | 50 => ⟨S16384x5, .i32⟩
  | 51 => ⟨S16384x5, .i32⟩
  | 52 => ⟨S_, .i32⟩
  | 53 => ⟨S16384x5, .i32⟩
  | 54 => ⟨S16384x5, .i32⟩
  | 55 => ⟨S_, .i32⟩
  | 56 => ⟨S16384x5, .i32⟩
  | 57 => ⟨S16384x5, .i32⟩
  | 58 => ⟨S16384x5, .i32⟩
  | 59 => ⟨S16384x5, .i32⟩
  | 60 => ⟨S16384x5, .i32⟩
  | 61 => ⟨S16384x5, .i32⟩
  | 62 => ⟨S16384x5, .i32⟩
  | 63 => ⟨S16384x5, .i32⟩
  | 64 => ⟨S_, .i32⟩
  | 65 => ⟨S16384x5, .i32⟩
  | 66 => ⟨S16384x5, .i32⟩
  | 67 => ⟨S16384x5, .i32⟩
  | 68 => ⟨S_, .i32⟩
  | 69 => ⟨S16384x5, .i32⟩
  | 70 => ⟨S16384x5, .i32⟩
  | 71 => ⟨S_, .i32⟩
  | 72 => ⟨S16384x5, .i32⟩
  | 73 => ⟨S16384x5, .i32⟩
  | 74 => ⟨S16384x5, .i32⟩
  | 75 => ⟨S16384x5, .i32⟩
  | 76 => ⟨S16384x5, .i32⟩
  | 77 => ⟨S_, .i32⟩
  | 78 => ⟨S16384x5, .i32⟩
  | 79 => ⟨S16384x5, .i32⟩
  | 80 => ⟨S_, .i32⟩
  | 81 => ⟨S16384x5, .i32⟩
  | 82 => ⟨S16384x5, .i32⟩
  | 83 => ⟨S16384x5, .i32⟩
  | 84 => ⟨S16384x5, .i32⟩
  | 85 => ⟨S16384x5, .i32⟩
  | 86 => ⟨S_, .i32⟩
  | 87 => ⟨S16384x5, .i32⟩
  | 88 => ⟨S16384x5, .i32⟩
  | 89 => ⟨S_, .i32⟩
  | 90 => ⟨S16384x5, .i32⟩
  | 91 => ⟨S16384x5, .i32⟩
  | 92 => ⟨S16384x5, .i32⟩
  | 93 => ⟨S16384x5, .i32⟩
  | 94 => ⟨S16384x5, .i32⟩
  | 95 => ⟨S_, .i32⟩
  | 96 => ⟨S16384x5, .i32⟩
  | 97 => ⟨S16384x5, .i32⟩
  | 98 => ⟨S_, .i32⟩
  | 99 => ⟨S16384x5, .i32⟩
  | 100 => ⟨S16384x5, .i32⟩
  | 101 => ⟨S16384x5, .i32⟩
  | 102 => ⟨S16384x5, .i32⟩
  | 103 => ⟨S16384x5, .i32⟩
  | 104 => ⟨S16384x5, .i32⟩
  | 105 => ⟨S16384x5, .i32⟩
  | 106 => ⟨S16384x5, .i32⟩
  | 107 => ⟨S_, .i32⟩
  | 108 => ⟨S16384x5, .i32⟩
  | 109 => ⟨S16384x5, .i32⟩
  | 110 => ⟨S16384x5, .i32⟩
  | 111 => ⟨S_, .i32⟩
  | 112 => ⟨S16384x5, .i32⟩
  | 113 => ⟨S16384x5, .i32⟩
  | 114 => ⟨S_, .i32⟩
  | 115 => ⟨S16384x5, .i32⟩
  | 116 => ⟨S16384x5, .i32⟩
  | 117 => ⟨S16384x5, .i32⟩
  | 118 => ⟨S16384x5, .i32⟩
  | 119 => ⟨S16384x5, .i32⟩
  | 120 => ⟨S_, .i32⟩
  | 121 => ⟨S16384x5, .i32⟩
  | 122 => ⟨S16384x5, .i32⟩
  | 123 => ⟨S_, .i32⟩
  | 124 => ⟨S16384x5, .i32⟩
  | 125 => ⟨S16384x5, .i32⟩
  | 126 => ⟨S16384x5, .i32⟩
  | 127 => ⟨S16384x5, .i32⟩
  | _ => ⟨S16384x200, .i32⟩

abbrev hbmTy0_11 (i : Nat) : BufTy := match i % 128 with
  | 0 => ⟨S16384x5, .i32⟩
  | 1 => ⟨S_, .i32⟩
  | 2 => ⟨S16384x5, .i32⟩
  | 3 => ⟨S16384x5, .i32⟩
  | 4 => ⟨S_, .i32⟩
  | 5 => ⟨S16384x5, .i32⟩
  | 6 => ⟨S16384x5, .i32⟩
  | 7 => ⟨S16384x5, .i32⟩
  | 8 => ⟨S16384x5, .i32⟩
  | 9 => ⟨S16384x5, .i32⟩
  | 10 => ⟨S_, .i32⟩
  | 11 => ⟨S16384x5, .i32⟩
  | 12 => ⟨S16384x5, .i32⟩
  | 13 => ⟨S_, .i32⟩
  | 14 => ⟨S16384x5, .i32⟩
  | 15 => ⟨S16384x5, .i32⟩
  | 16 => ⟨S16384x5, .i32⟩
  | 17 => ⟨S16384x5, .i32⟩
  | 18 => ⟨S16384x5, .i32⟩
  | 19 => ⟨S16384x5, .i32⟩
  | 20 => ⟨S16384x5, .i32⟩
  | 21 => ⟨S16384x5, .i32⟩
  | 22 => ⟨S_, .i32⟩
  | 23 => ⟨S16384x5, .i32⟩
  | 24 => ⟨S16384x5, .i32⟩
  | 25 => ⟨S16384x5, .i32⟩
  | 26 => ⟨S_, .i32⟩
  | 27 => ⟨S16384x5, .i32⟩
  | 28 => ⟨S16384x5, .i32⟩
  | 29 => ⟨S_, .i32⟩
  | 30 => ⟨S16384x5, .i32⟩
  | 31 => ⟨S16384x5, .i32⟩
  | 32 => ⟨S16384x5, .i32⟩
  | 33 => ⟨S16384x5, .i32⟩
  | 34 => ⟨S16384x5, .i32⟩
  | 35 => ⟨S_, .i32⟩
  | 36 => ⟨S16384x5, .i32⟩
  | 37 => ⟨S16384x5, .i32⟩
  | 38 => ⟨S_, .i32⟩
  | 39 => ⟨S16384x5, .i32⟩
  | 40 => ⟨S16384x5, .i32⟩
  | 41 => ⟨S16384x5, .i32⟩
  | 42 => ⟨S16384x5, .i32⟩
  | 43 => ⟨S16384x5, .i32⟩
  | 44 => ⟨S_, .i32⟩
  | 45 => ⟨S16384x5, .i32⟩
  | 46 => ⟨S16384x5, .i32⟩
  | 47 => ⟨S_, .i32⟩
  | 48 => ⟨S16384x5, .i32⟩
  | 49 => ⟨S16384x5, .i32⟩
  | 50 => ⟨S16384x5, .i32⟩
  | 51 => ⟨S16384x5, .i32⟩
  | 52 => ⟨S16384x5, .i32⟩
  | 53 => ⟨S_, .i32⟩
  | 54 => ⟨S16384x5, .i32⟩
  | 55 => ⟨S16384x5, .i32⟩
  | 56 => ⟨S_, .i32⟩
  | 57 => ⟨S16384x5, .i32⟩
  | 58 => ⟨S16384x5, .i32⟩
  | 59 => ⟨S16384x5, .i32⟩
  | 60 => ⟨S16384x5, .i32⟩
  | 61 => ⟨S16384x5, .i32⟩
  | 62 => ⟨S16384x5, .i32⟩
  | 63 => ⟨S16384x5, .i32⟩
  | 64 => ⟨S16384x5, .i32⟩
  | 65 => ⟨S_, .i32⟩
  | 66 => ⟨S16384x5, .i32⟩
  | 67 => ⟨S16384x5, .i32⟩
  | 68 => ⟨S16384x5, .i32⟩
  | 69 => ⟨S_, .i32⟩
  | 70 => ⟨S16384x5, .i32⟩
  | 71 => ⟨S16384x5, .i32⟩
  | 72 => ⟨S_, .i32⟩
  | 73 => ⟨S16384x5, .i32⟩
  | 74 => ⟨S16384x5, .i32⟩
  | 75 => ⟨S16384x5, .f32⟩
  | 76 => ⟨S_, .f32⟩
  | 77 => ⟨S16384x5, .f32⟩
  | 78 => ⟨S16384x5, .f32⟩
  | 79 => ⟨S1, .f32⟩
  | 80 => ⟨S1x1, .f32⟩
  | 81 => ⟨S16384x5, .f32⟩
  | 82 => ⟨S16384x5, .f32⟩
  | 83 => ⟨S1x1, .f32⟩
  | 84 => ⟨S16384x5, .f32⟩
  | 85 => ⟨S16384x5, .f32⟩
  | 86 => ⟨S1x1, .f32⟩
  | 87 => ⟨S16384x5, .f32⟩
  | 88 => ⟨S16384x5, .f32⟩
  | 89 => ⟨S16384, .i32⟩
  | 90 => ⟨S16384x1, .i32⟩
  | 91 => ⟨S200, .i32⟩
  | 92 => ⟨S1x200, .i32⟩
  | 93 => ⟨S16384x1, .i32⟩
  | 94 => ⟨S16384x200, .i32⟩
  | 95 => ⟨S16384x200, .i32⟩
  | 96 => ⟨S16384x200, .i1⟩
  | 97 => ⟨S_, .i32⟩
  | 98 => ⟨S16384x200, .i32⟩
  | 99 => ⟨S16384x200, .i1⟩
  | 100 => ⟨S16384x200, .i1⟩
  | 101 => ⟨S16384x200, .i32⟩
  | 102 => ⟨S_, .i32⟩
  | 103 => ⟨S16384, .i32⟩
  | 104 => ⟨S_, .i32⟩
  | 105 => ⟨S_, .i32⟩
  | 106 => ⟨S16384x200, .i32⟩
  | 107 => ⟨S16384x200, .i32⟩
  | 108 => ⟨S16384x200, .i32⟩
  | 109 => ⟨S16384x200, .i32⟩
  | 110 => ⟨S_, .i32⟩
  | 111 => ⟨S16384, .i32⟩
  | 112 => ⟨S16384, .i1⟩
  | 113 => ⟨S_, .f32⟩
  | 114 => ⟨S16384, .f32⟩
  | 115 => ⟨S16384, .i1⟩
  | 116 => ⟨S16384, .i1⟩
  | 117 => ⟨S_, .i32⟩
  | 118 => ⟨S16384, .i32⟩
  | 119 => ⟨S16384, .i1⟩
  | 120 => ⟨S16384, .i1⟩
  | 121 => ⟨S_, .i32⟩
  | 122 => ⟨S16384, .i32⟩
  | 123 => ⟨S16384, .i32⟩
  | 124 => ⟨S_, .i32⟩
  | 125 => ⟨S16384, .i32⟩
  | 126 => ⟨S16384, .i32⟩
  | 127 => ⟨S_, .i32⟩
  | _ => ⟨S16384x200, .i32⟩

abbrev hbmTy0_12 (i : Nat) : BufTy := match i % 128 with
  | 0 => ⟨S16384, .i32⟩
  | 1 => ⟨S16384, .i32⟩
  | 2 => ⟨S_, .i32⟩
  | 3 => ⟨S16384, .i32⟩
  | 4 => ⟨S16384, .i32⟩
  | 5 => ⟨S16384, .f32⟩
  | 6 => ⟨S16384, .f32⟩
  | 7 => ⟨S16384, .f32⟩
  | 8 => ⟨S16384, .i32⟩
  | 9 => ⟨S_, .i32⟩
  | 10 => ⟨S16384, .i32⟩
  | 11 => ⟨S16384, .i32⟩
  | 12 => ⟨S_, .i32⟩
  | 13 => ⟨S16384, .i32⟩
  | 14 => ⟨S16384, .i32⟩
  | 15 => ⟨S_, .i32⟩
  | 16 => ⟨S_, .i32⟩
  | 17 => ⟨S16384, .i32⟩
  | 18 => ⟨S16384, .i32⟩
  | 19 => ⟨S16384, .i32⟩
  | 20 => ⟨S16384, .i32⟩
  | 21 => ⟨S_, .i32⟩
  | 22 => ⟨S16384, .i32⟩
  | 23 => ⟨S16384, .i32⟩
  | 24 => ⟨S_, .i32⟩
  | 25 => ⟨S16384, .i32⟩
  | 26 => ⟨S16384, .i32⟩
  | 27 => ⟨S16384, .f32⟩
  | 28 => ⟨S16384, .f32⟩
  | 29 => ⟨S16384, .f32⟩
  | 30 => ⟨S16384, .i32⟩
  | 31 => ⟨S5, .i32⟩
  | 32 => ⟨S1x5, .i32⟩
  | 33 => ⟨S16384x1, .i32⟩
  | 34 => ⟨S16384x5, .i32⟩
  | 35 => ⟨S16384x5, .i32⟩
  | 36 => ⟨S16384x5, .i1⟩
  | 37 => ⟨S16384x1, .i32⟩
  | 38 => ⟨S16384x5, .i32⟩
  | 39 => ⟨S16384x5, .i32⟩
  | 40 => ⟨S16384x5, .i32⟩
  | 41 => ⟨S_, .i32⟩
  | 42 => ⟨S_, .i32⟩
  | 43 => ⟨S_, .i32⟩
  | 44 => ⟨S16384x5, .i32⟩
  | 45 => ⟨S16384x5, .i32⟩
  | 46 => ⟨S_, .i32⟩
  | 47 => ⟨S16384x5, .i32⟩
  | 48 => ⟨S16384x5, .i32⟩
  | 49 => ⟨S_, .i32⟩
  | 50 => ⟨S16384x1, .i32⟩
  | 51 => ⟨S16384x1, .i1⟩
  | 52 => ⟨S_, .i32⟩
  | 53 => ⟨S16384x1, .i32⟩
  | 54 => ⟨S16384x1, .i32⟩
  | 55 => ⟨S16384x1, .i32⟩
  | 56 => ⟨S_, .i32⟩
  | 57 => ⟨S16384x5, .i32⟩
  | 58 => ⟨S16384x5, .i1⟩
  | 59 => ⟨S_, .i32⟩
  | 60 => ⟨S16384x5, .i32⟩
  | 61 => ⟨S16384x5, .i32⟩
  | 62 => ⟨S16384x5, .i32⟩
  | 63 => ⟨S16384x5, .i32⟩
  | 64 => ⟨S16384x5x1, .i32⟩
  | 65 => ⟨S16384x5x1, .i32⟩
  | 66 => ⟨S16384x5x2, .i32⟩
  | 67 => ⟨S16384x5, .i32⟩
  | 68 => ⟨S_, .i32⟩
  | 69 => ⟨S_, .i32⟩
  | 70 => ⟨S_, .i32⟩
  | 71 => ⟨S16384x5, .i32⟩
  | 72 => ⟨S16384x5, .i32⟩
  | 73 => ⟨S_, .i32⟩
  | 74 => ⟨S16384x5, .i32⟩
  | 75 => ⟨S16384x5, .i32⟩
  | 76 => ⟨S_, .i32⟩
  | 77 => ⟨S16384x1, .i32⟩
  | 78 => ⟨S16384x1, .i1⟩
  | 79 => ⟨S_, .i32⟩
  | 80 => ⟨S16384x1, .i32⟩
  | 81 => ⟨S16384x1, .i32⟩
  | 82 => ⟨S16384x1, .i32⟩
  | 83 => ⟨S_, .i32⟩
  | 84 => ⟨S16384x5, .i32⟩
  | 85 => ⟨S16384x5, .i1⟩
  | 86 => ⟨S_, .i32⟩
  | 87 => ⟨S16384x5, .i32⟩
  | 88 => ⟨S16384x5, .i32⟩
  | 89 => ⟨S16384x5, .i32⟩
  | 90 => ⟨S16384x5, .i32⟩
  | 91 => ⟨S16384x5x1, .i32⟩
  | 92 => ⟨S16384x5x1, .i32⟩
  | 93 => ⟨S16384x5x2, .i32⟩
  | 94 => ⟨S16384x5, .i32⟩
  | 95 => ⟨S_, .f32⟩
  | 96 => ⟨S_, .f32⟩
  | 97 => ⟨S16384x5, .f32⟩
  | 98 => ⟨S16384x5, .f32⟩
  | 99 => ⟨S16384x5, .i32⟩
  | 100 => ⟨S16384x5, .f32⟩
  | 101 => ⟨S16384x5, .i32⟩
  | 102 => ⟨S_, .i32⟩
  | 103 => ⟨S16384x1, .i32⟩
  | 104 => ⟨S16384x1, .i1⟩
  | 105 => ⟨S_, .i32⟩
  | 106 => ⟨S16384x1, .i32⟩
  | 107 => ⟨S16384x1, .i32⟩
  | 108 => ⟨S16384x1, .i32⟩
  | 109 => ⟨S_, .i32⟩
  | 110 => ⟨S16384x5, .i32⟩
  | 111 => ⟨S16384x5, .i1⟩
  | 112 => ⟨S_, .i32⟩
  | 113 => ⟨S16384x5, .i32⟩
  | 114 => ⟨S16384x5, .i32⟩
  | 115 => ⟨S16384x5, .i32⟩
  | 116 => ⟨S16384x5, .i32⟩
  | 117 => ⟨S16384x5x1, .i32⟩
  | 118 => ⟨S16384x5x1, .i32⟩
  | 119 => ⟨S16384x5x2, .i32⟩
  | 120 => ⟨S16384x5, .i32⟩
  | 121 => ⟨S16384x1, .i1⟩
  | 122 => ⟨S16384x5, .i1⟩
  | 123 => ⟨S16384x5, .i1⟩
  | 124 => ⟨S_, .i32⟩
  | 125 => ⟨S_, .i32⟩
  | 126 => ⟨S16384x5, .i32⟩
  | 127 => ⟨S16384x5, .i32⟩
  | _ => ⟨S16384x200, .i32⟩

abbrev hbmTy0_13 (i : Nat) : BufTy := match i % 128 with
  | 0 => ⟨S_, .i32⟩
  | 1 => ⟨S16384x1, .i32⟩
  | 2 => ⟨S16384x1, .i1⟩
  | 3 => ⟨S_, .i32⟩
  | 4 => ⟨S16384x1, .i32⟩
  | 5 => ⟨S16384x1, .i32⟩
  | 6 => ⟨S16384x1, .i32⟩
  | 7 => ⟨S_, .i32⟩
  | 8 => ⟨S16384x5, .i32⟩
  | 9 => ⟨S16384x5, .i1⟩
  | 10 => ⟨S_, .i32⟩
  | 11 => ⟨S16384x5, .i32⟩
  | 12 => ⟨S16384x5, .i32⟩
  | 13 => ⟨S16384x5, .i32⟩
  | 14 => ⟨S16384x5, .i32⟩
  | 15 => ⟨S16384x5x1, .i32⟩
  | 16 => ⟨S16384x5x1, .i32⟩
  | 17 => ⟨S16384x5x2, .i32⟩
  | 18 => ⟨S16384x200, .i32⟩
  | _ => ⟨S16384x200, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S16384x200, .i32⟩

abbrev bufTy : (tb : Table) → Fin (tcTables nBuf tb) → BufTy
  | .hbm, ⟨i, _⟩ => hbmTy i
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_c_0 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_call0_v0 : Ref sig .tc := ⟨.hbm, 29, rfl⟩
abbrev main_call0_call0_c : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_c_0 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_c_1 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_v13 : Ref sig .tc := ⟨.hbm, 45, rfl⟩
abbrev main_call0_call0_c_2 : Ref sig .tc := ⟨.hbm, 46, rfl⟩
abbrev main_call0_call0_v14 : Ref sig .tc := ⟨.hbm, 47, rfl⟩
abbrev main_call0_call0_v15 : Ref sig .tc := ⟨.hbm, 48, rfl⟩
abbrev main_call0_call0_c_3 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_c_4 : Ref sig .tc := ⟨.hbm, 55, rfl⟩
abbrev main_call0_call0_v21 : Ref sig .tc := ⟨.hbm, 56, rfl⟩
abbrev main_call0_call0_v22 : Ref sig .tc := ⟨.hbm, 57, rfl⟩
abbrev main_call0_call0_c_5 : Ref sig .tc := ⟨.hbm, 58, rfl⟩
abbrev main_call0_call0_v23 : Ref sig .tc := ⟨.hbm, 59, rfl⟩
abbrev main_call0_call0_v24 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_v27 : Ref sig .tc := ⟨.hbm, 63, rfl⟩
abbrev main_call0_call0_c_6 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_c_7 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_v32 : Ref sig .tc := ⟨.hbm, 70, rfl⟩
abbrev main_call0_call0_v33 : Ref sig .tc := ⟨.hbm, 71, rfl⟩
abbrev main_call0_call0_v34 : Ref sig .tc := ⟨.hbm, 72, rfl⟩
abbrev main_call0_call0_v35 : Ref sig .tc := ⟨.hbm, 73, rfl⟩
abbrev main_call0_call0_v36 : Ref sig .tc := ⟨.hbm, 74, rfl⟩
abbrev main_call0_call0_v37 : Ref sig .tc := ⟨.hbm, 75, rfl⟩
abbrev main_call0_call0_c_8 : Ref sig .tc := ⟨.hbm, 76, rfl⟩
abbrev main_call0_call0_v38 : Ref sig .tc := ⟨.hbm, 77, rfl⟩
abbrev main_call0_call0_v39 : Ref sig .tc := ⟨.hbm, 78, rfl⟩
abbrev main_call0_call0_v40 : Ref sig .tc := ⟨.hbm, 79, rfl⟩
abbrev main_call0_call0_c_9 : Ref sig .tc := ⟨.hbm, 80, rfl⟩
abbrev main_call0_call0_v41 : Ref sig .tc := ⟨.hbm, 81, rfl⟩
abbrev main_call0_call0_v42 : Ref sig .tc := ⟨.hbm, 82, rfl⟩
abbrev main_call0_call0_c_10 : Ref sig .tc := ⟨.hbm, 83, rfl⟩
abbrev main_call0_call0_v43 : Ref sig .tc := ⟨.hbm, 84, rfl⟩
abbrev main_call0_call0_v44 : Ref sig .tc := ⟨.hbm, 85, rfl⟩
abbrev main_call0_call0_v45 : Ref sig .tc := ⟨.hbm, 86, rfl⟩
abbrev main_call0_call0_v46 : Ref sig .tc := ⟨.hbm, 87, rfl⟩
abbrev main_call0_call0_v47 : Ref sig .tc := ⟨.hbm, 88, rfl⟩
abbrev main_call0_call0_c_11 : Ref sig .tc := ⟨.hbm, 89, rfl⟩
abbrev main_call0_call0_v48 : Ref sig .tc := ⟨.hbm, 90, rfl⟩
abbrev main_call0_call0_v49 : Ref sig .tc := ⟨.hbm, 91, rfl⟩
abbrev main_call0_call0_c_12 : Ref sig .tc := ⟨.hbm, 92, rfl⟩
abbrev main_call0_call0_v50 : Ref sig .tc := ⟨.hbm, 93, rfl⟩
abbrev main_call0_call0_v51 : Ref sig .tc := ⟨.hbm, 94, rfl⟩
abbrev main_call0_call0_v52 : Ref sig .tc := ⟨.hbm, 95, rfl⟩
abbrev main_call0_call0_v53 : Ref sig .tc := ⟨.hbm, 96, rfl⟩
abbrev main_call0_call0_v54 : Ref sig .tc := ⟨.hbm, 97, rfl⟩
abbrev main_call0_call0_c_13 : Ref sig .tc := ⟨.hbm, 98, rfl⟩
abbrev main_call0_call0_v55 : Ref sig .tc := ⟨.hbm, 99, rfl⟩
abbrev main_call0_call0_v56 : Ref sig .tc := ⟨.hbm, 100, rfl⟩
abbrev main_call0_call0_c_14 : Ref sig .tc := ⟨.hbm, 101, rfl⟩
abbrev main_call0_call0_v57 : Ref sig .tc := ⟨.hbm, 102, rfl⟩
abbrev main_call0_call0_v58 : Ref sig .tc := ⟨.hbm, 103, rfl⟩
abbrev main_call0_call0_v59 : Ref sig .tc := ⟨.hbm, 104, rfl⟩
abbrev main_call0_call0_v60 : Ref sig .tc := ⟨.hbm, 105, rfl⟩
abbrev main_call0_call0_v61 : Ref sig .tc := ⟨.hbm, 106, rfl⟩
abbrev main_call0_call0_c_15 : Ref sig .tc := ⟨.hbm, 107, rfl⟩
abbrev main_call0_call0_v62 : Ref sig .tc := ⟨.hbm, 108, rfl⟩
abbrev main_call0_call0_v63 : Ref sig .tc := ⟨.hbm, 109, rfl⟩
abbrev main_call0_call0_c_16 : Ref sig .tc := ⟨.hbm, 110, rfl⟩
abbrev main_call0_call0_v64 : Ref sig .tc := ⟨.hbm, 111, rfl⟩
abbrev main_call0_call0_v65 : Ref sig .tc := ⟨.hbm, 112, rfl⟩
abbrev main_call0_call0_v66 : Ref sig .tc := ⟨.hbm, 113, rfl⟩
abbrev main_call0_call0_v67 : Ref sig .tc := ⟨.hbm, 114, rfl⟩
abbrev main_call0_call0_v68 : Ref sig .tc := ⟨.hbm, 115, rfl⟩
abbrev main_call0_call0_v69 : Ref sig .tc := ⟨.hbm, 116, rfl⟩
abbrev main_call0_call0_v70 : Ref sig .tc := ⟨.hbm, 117, rfl⟩
abbrev main_call0_call0_v71 : Ref sig .tc := ⟨.hbm, 118, rfl⟩
abbrev main_call0_call0_c_17 : Ref sig .tc := ⟨.hbm, 119, rfl⟩
abbrev main_call0_call0_v72 : Ref sig .tc := ⟨.hbm, 120, rfl⟩
abbrev main_call0_call0_v73 : Ref sig .tc := ⟨.hbm, 121, rfl⟩
abbrev main_call0_call0_v74 : Ref sig .tc := ⟨.hbm, 122, rfl⟩
abbrev main_call0_call0_c_18 : Ref sig .tc := ⟨.hbm, 123, rfl⟩
abbrev main_call0_call0_v75 : Ref sig .tc := ⟨.hbm, 124, rfl⟩
abbrev main_call0_call0_v76 : Ref sig .tc := ⟨.hbm, 125, rfl⟩
abbrev main_call0_call0_c_19 : Ref sig .tc := ⟨.hbm, 126, rfl⟩
abbrev main_call0_call0_v77 : Ref sig .tc := ⟨.hbm, 127, rfl⟩
abbrev main_call0_call0_v78 : Ref sig .tc := ⟨.hbm, 128, rfl⟩
abbrev main_call0_call0_v79 : Ref sig .tc := ⟨.hbm, 129, rfl⟩
abbrev main_call0_call0_v80 : Ref sig .tc := ⟨.hbm, 130, rfl⟩
abbrev main_call0_call0_v81 : Ref sig .tc := ⟨.hbm, 131, rfl⟩
abbrev main_call0_call0_c_20 : Ref sig .tc := ⟨.hbm, 132, rfl⟩
abbrev main_call0_call0_v82 : Ref sig .tc := ⟨.hbm, 133, rfl⟩
abbrev main_call0_call0_v83 : Ref sig .tc := ⟨.hbm, 134, rfl⟩
abbrev main_call0_call0_c_21 : Ref sig .tc := ⟨.hbm, 135, rfl⟩
abbrev main_call0_call0_v84 : Ref sig .tc := ⟨.hbm, 136, rfl⟩
abbrev main_call0_call0_v85 : Ref sig .tc := ⟨.hbm, 137, rfl⟩
abbrev main_call0_call0_v86 : Ref sig .tc := ⟨.hbm, 138, rfl⟩
abbrev main_call0_call0_v87 : Ref sig .tc := ⟨.hbm, 139, rfl⟩
abbrev main_call0_call0_v88 : Ref sig .tc := ⟨.hbm, 140, rfl⟩
abbrev main_call0_call0_c_22 : Ref sig .tc := ⟨.hbm, 141, rfl⟩
abbrev main_call0_call0_v89 : Ref sig .tc := ⟨.hbm, 142, rfl⟩
abbrev main_call0_call0_v90 : Ref sig .tc := ⟨.hbm, 143, rfl⟩
abbrev main_call0_call0_c_23 : Ref sig .tc := ⟨.hbm, 144, rfl⟩
abbrev main_call0_call0_v91 : Ref sig .tc := ⟨.hbm, 145, rfl⟩
abbrev main_call0_call0_v92 : Ref sig .tc := ⟨.hbm, 146, rfl⟩
abbrev main_call0_call0_v93 : Ref sig .tc := ⟨.hbm, 147, rfl⟩
abbrev main_call0_call0_v94 : Ref sig .tc := ⟨.hbm, 148, rfl⟩
abbrev main_call0_call0_v95 : Ref sig .tc := ⟨.hbm, 149, rfl⟩
abbrev main_call0_call0_c_24 : Ref sig .tc := ⟨.hbm, 150, rfl⟩
abbrev main_call0_call0_v96 : Ref sig .tc := ⟨.hbm, 151, rfl⟩
abbrev main_call0_call0_v97 : Ref sig .tc := ⟨.hbm, 152, rfl⟩
abbrev main_call0_call0_c_25 : Ref sig .tc := ⟨.hbm, 153, rfl⟩
abbrev main_call0_call0_v98 : Ref sig .tc := ⟨.hbm, 154, rfl⟩
abbrev main_call0_call0_v99 : Ref sig .tc := ⟨.hbm, 155, rfl⟩
abbrev main_call0_call0_v100 : Ref sig .tc := ⟨.hbm, 156, rfl⟩
abbrev main_call0_call0_v101 : Ref sig .tc := ⟨.hbm, 157, rfl⟩
abbrev main_call0_call0_v102 : Ref sig .tc := ⟨.hbm, 158, rfl⟩
abbrev main_call0_call0_v103 : Ref sig .tc := ⟨.hbm, 159, rfl⟩
abbrev main_call0_call0_v104 : Ref sig .tc := ⟨.hbm, 160, rfl⟩
abbrev main_call0_call0_v105 : Ref sig .tc := ⟨.hbm, 161, rfl⟩
abbrev main_call0_call0_c_26 : Ref sig .tc := ⟨.hbm, 162, rfl⟩
abbrev main_call0_call0_v106 : Ref sig .tc := ⟨.hbm, 163, rfl⟩
abbrev main_call0_call0_v107 : Ref sig .tc := ⟨.hbm, 164, rfl⟩
abbrev main_call0_call0_v108 : Ref sig .tc := ⟨.hbm, 165, rfl⟩
abbrev main_call0_call0_c_27 : Ref sig .tc := ⟨.hbm, 166, rfl⟩
abbrev main_call0_call0_v109 : Ref sig .tc := ⟨.hbm, 167, rfl⟩
abbrev main_call0_call0_v110 : Ref sig .tc := ⟨.hbm, 168, rfl⟩
abbrev main_call0_call0_c_28 : Ref sig .tc := ⟨.hbm, 169, rfl⟩
abbrev main_call0_call0_v111 : Ref sig .tc := ⟨.hbm, 170, rfl⟩
abbrev main_call0_call0_v112 : Ref sig .tc := ⟨.hbm, 171, rfl⟩
abbrev main_call0_call0_v113 : Ref sig .tc := ⟨.hbm, 172, rfl⟩
abbrev main_call0_call0_v114 : Ref sig .tc := ⟨.hbm, 173, rfl⟩
abbrev main_call0_call0_v115 : Ref sig .tc := ⟨.hbm, 174, rfl⟩
abbrev main_call0_call0_c_29 : Ref sig .tc := ⟨.hbm, 175, rfl⟩
abbrev main_call0_call0_v116 : Ref sig .tc := ⟨.hbm, 176, rfl⟩
abbrev main_call0_call0_v117 : Ref sig .tc := ⟨.hbm, 177, rfl⟩
abbrev main_call0_call0_c_30 : Ref sig .tc := ⟨.hbm, 178, rfl⟩
abbrev main_call0_call0_v118 : Ref sig .tc := ⟨.hbm, 179, rfl⟩
abbrev main_call0_call0_v119 : Ref sig .tc := ⟨.hbm, 180, rfl⟩
abbrev main_call0_call0_v120 : Ref sig .tc := ⟨.hbm, 181, rfl⟩
abbrev main_call0_call0_v121 : Ref sig .tc := ⟨.hbm, 182, rfl⟩
abbrev main_call0_call0_v122 : Ref sig .tc := ⟨.hbm, 183, rfl⟩
abbrev main_call0_call0_c_31 : Ref sig .tc := ⟨.hbm, 184, rfl⟩
abbrev main_call0_call0_v123 : Ref sig .tc := ⟨.hbm, 185, rfl⟩
abbrev main_call0_call0_v124 : Ref sig .tc := ⟨.hbm, 186, rfl⟩
abbrev main_call0_call0_c_32 : Ref sig .tc := ⟨.hbm, 187, rfl⟩
abbrev main_call0_call0_v125 : Ref sig .tc := ⟨.hbm, 188, rfl⟩
abbrev main_call0_call0_v126 : Ref sig .tc := ⟨.hbm, 189, rfl⟩
abbrev main_call0_call0_v127 : Ref sig .tc := ⟨.hbm, 190, rfl⟩
abbrev main_call0_call0_v128 : Ref sig .tc := ⟨.hbm, 191, rfl⟩
abbrev main_call0_call0_v129 : Ref sig .tc := ⟨.hbm, 192, rfl⟩
abbrev main_call0_call0_c_33 : Ref sig .tc := ⟨.hbm, 193, rfl⟩
abbrev main_call0_call0_v130 : Ref sig .tc := ⟨.hbm, 194, rfl⟩
abbrev main_call0_call0_v131 : Ref sig .tc := ⟨.hbm, 195, rfl⟩
abbrev main_call0_call0_c_34 : Ref sig .tc := ⟨.hbm, 196, rfl⟩
abbrev main_call0_call0_v132 : Ref sig .tc := ⟨.hbm, 197, rfl⟩
abbrev main_call0_call0_v133 : Ref sig .tc := ⟨.hbm, 198, rfl⟩
abbrev main_call0_call0_v134 : Ref sig .tc := ⟨.hbm, 199, rfl⟩
abbrev main_call0_call0_v135 : Ref sig .tc := ⟨.hbm, 200, rfl⟩
abbrev main_call0_call0_v136 : Ref sig .tc := ⟨.hbm, 201, rfl⟩
abbrev main_call0_call0_v137 : Ref sig .tc := ⟨.hbm, 202, rfl⟩
abbrev main_call0_call0_v138 : Ref sig .tc := ⟨.hbm, 203, rfl⟩
abbrev main_call0_call0_v139 : Ref sig .tc := ⟨.hbm, 204, rfl⟩
abbrev main_call0_call0_c_35 : Ref sig .tc := ⟨.hbm, 205, rfl⟩
abbrev main_call0_call0_v140 : Ref sig .tc := ⟨.hbm, 206, rfl⟩
abbrev main_call0_call0_v141 : Ref sig .tc := ⟨.hbm, 207, rfl⟩
abbrev main_call0_call0_v142 : Ref sig .tc := ⟨.hbm, 208, rfl⟩
abbrev main_call0_call0_c_36 : Ref sig .tc := ⟨.hbm, 209, rfl⟩
abbrev main_call0_call0_v143 : Ref sig .tc := ⟨.hbm, 210, rfl⟩
abbrev main_call0_call0_v144 : Ref sig .tc := ⟨.hbm, 211, rfl⟩
abbrev main_call0_call0_c_37 : Ref sig .tc := ⟨.hbm, 212, rfl⟩
abbrev main_call0_call0_v145 : Ref sig .tc := ⟨.hbm, 213, rfl⟩
abbrev main_call0_call0_v146 : Ref sig .tc := ⟨.hbm, 214, rfl⟩
abbrev main_call0_call0_v147 : Ref sig .tc := ⟨.hbm, 215, rfl⟩
abbrev main_call0_call0_v148 : Ref sig .tc := ⟨.hbm, 216, rfl⟩
abbrev main_call0_call0_v149 : Ref sig .tc := ⟨.hbm, 217, rfl⟩
abbrev main_call0_call0_c_38 : Ref sig .tc := ⟨.hbm, 218, rfl⟩
abbrev main_call0_call0_v150 : Ref sig .tc := ⟨.hbm, 219, rfl⟩
abbrev main_call0_call0_v151 : Ref sig .tc := ⟨.hbm, 220, rfl⟩
abbrev main_call0_call0_c_39 : Ref sig .tc := ⟨.hbm, 221, rfl⟩
abbrev main_call0_call0_v152 : Ref sig .tc := ⟨.hbm, 222, rfl⟩
abbrev main_call0_call0_v153 : Ref sig .tc := ⟨.hbm, 223, rfl⟩
abbrev main_call0_call0_v154 : Ref sig .tc := ⟨.hbm, 224, rfl⟩
abbrev main_call0_call0_v155 : Ref sig .tc := ⟨.hbm, 225, rfl⟩
abbrev main_call0_call0_v156 : Ref sig .tc := ⟨.hbm, 226, rfl⟩
abbrev main_call0_call0_c_40 : Ref sig .tc := ⟨.hbm, 227, rfl⟩
abbrev main_call0_call0_v157 : Ref sig .tc := ⟨.hbm, 228, rfl⟩
abbrev main_call0_call0_v158 : Ref sig .tc := ⟨.hbm, 229, rfl⟩
abbrev main_call0_call0_c_41 : Ref sig .tc := ⟨.hbm, 230, rfl⟩
abbrev main_call0_call0_v159 : Ref sig .tc := ⟨.hbm, 231, rfl⟩
abbrev main_call0_call0_v160 : Ref sig .tc := ⟨.hbm, 232, rfl⟩
abbrev main_call0_call0_v161 : Ref sig .tc := ⟨.hbm, 233, rfl⟩
abbrev main_call0_call0_v162 : Ref sig .tc := ⟨.hbm, 234, rfl⟩
abbrev main_call0_call0_v163 : Ref sig .tc := ⟨.hbm, 235, rfl⟩
abbrev main_call0_call0_c_42 : Ref sig .tc := ⟨.hbm, 236, rfl⟩
abbrev main_call0_call0_v164 : Ref sig .tc := ⟨.hbm, 237, rfl⟩
abbrev main_call0_call0_v165 : Ref sig .tc := ⟨.hbm, 238, rfl⟩
abbrev main_call0_call0_c_43 : Ref sig .tc := ⟨.hbm, 239, rfl⟩
abbrev main_call0_call0_v166 : Ref sig .tc := ⟨.hbm, 240, rfl⟩
abbrev main_call0_call0_v167 : Ref sig .tc := ⟨.hbm, 241, rfl⟩
abbrev main_call0_call0_v168 : Ref sig .tc := ⟨.hbm, 242, rfl⟩
abbrev main_call0_call0_v169 : Ref sig .tc := ⟨.hbm, 243, rfl⟩
abbrev main_call0_call0_v170 : Ref sig .tc := ⟨.hbm, 244, rfl⟩
abbrev main_call0_v13_0 : Ref sig .tc := ⟨.hbm, 245, rfl⟩
abbrev main_call0_call0_v172 : Ref sig .tc := ⟨.hbm, 246, rfl⟩
abbrev main_call0_call0_v173 : Ref sig .tc := ⟨.hbm, 247, rfl⟩
abbrev main_call0_call0_c_44 : Ref sig .tc := ⟨.hbm, 248, rfl⟩
abbrev main_call0_call0_v174 : Ref sig .tc := ⟨.hbm, 249, rfl⟩
abbrev main_call0_v13_1 : Ref sig .tc := ⟨.hbm, 250, rfl⟩
abbrev main_v9 : Ref sig .tc := ⟨.hbm, 251, rfl⟩
abbrev main_call1_v0 : Ref sig .tc := ⟨.hbm, 252, rfl⟩
abbrev main_call1_v1 : Ref sig .tc := ⟨.hbm, 253, rfl⟩
abbrev main_call1_v2 : Ref sig .tc := ⟨.hbm, 254, rfl⟩
abbrev main_call1_v3 : Ref sig .tc := ⟨.hbm, 255, rfl⟩
abbrev main_call1_v4 : Ref sig .tc := ⟨.hbm, 256, rfl⟩
abbrev main_call1_c : Ref sig .tc := ⟨.hbm, 257, rfl⟩
abbrev main_call1_v5 : Ref sig .tc := ⟨.hbm, 258, rfl⟩
abbrev main_call1_v6 : Ref sig .tc := ⟨.hbm, 259, rfl⟩
abbrev main_call1_c_0 : Ref sig .tc := ⟨.hbm, 260, rfl⟩
abbrev main_call1_v7 : Ref sig .tc := ⟨.hbm, 261, rfl⟩
abbrev main_call1_v8 : Ref sig .tc := ⟨.hbm, 262, rfl⟩
abbrev main_call1_v9 : Ref sig .tc := ⟨.hbm, 263, rfl⟩
abbrev main_call1_v10 : Ref sig .tc := ⟨.hbm, 264, rfl⟩
abbrev main_call1_v11 : Ref sig .tc := ⟨.hbm, 265, rfl⟩
abbrev main_call1_v12 : Ref sig .tc := ⟨.hbm, 266, rfl⟩
abbrev main_call1_v13 : Ref sig .tc := ⟨.hbm, 267, rfl⟩
abbrev main_call1_v14 : Ref sig .tc := ⟨.hbm, 268, rfl⟩
abbrev main_call1_call0_v0 : Ref sig .tc := ⟨.hbm, 269, rfl⟩
abbrev main_call1_call0_c : Ref sig .tc := ⟨.hbm, 270, rfl⟩
abbrev main_call1_call0_v1 : Ref sig .tc := ⟨.hbm, 271, rfl⟩
abbrev main_call1_call0_v2 : Ref sig .tc := ⟨.hbm, 272, rfl⟩
abbrev main_call1_call0_v3 : Ref sig .tc := ⟨.hbm, 273, rfl⟩
abbrev main_call1_call0_v4 : Ref sig .tc := ⟨.hbm, 274, rfl⟩
abbrev main_call1_call0_v5 : Ref sig .tc := ⟨.hbm, 275, rfl⟩
abbrev main_call1_call0_v6 : Ref sig .tc := ⟨.hbm, 276, rfl⟩
abbrev main_call1_call0_v7 : Ref sig .tc := ⟨.hbm, 277, rfl⟩
abbrev main_call1_call0_v8 : Ref sig .tc := ⟨.hbm, 278, rfl⟩
abbrev main_call1_call0_v9 : Ref sig .tc := ⟨.hbm, 279, rfl⟩
abbrev main_call1_call0_c_0 : Ref sig .tc := ⟨.hbm, 280, rfl⟩
abbrev main_call1_call0_v10 : Ref sig .tc := ⟨.hbm, 281, rfl⟩
abbrev main_call1_call0_v11 : Ref sig .tc := ⟨.hbm, 282, rfl⟩
abbrev main_call1_call0_c_1 : Ref sig .tc := ⟨.hbm, 283, rfl⟩
abbrev main_call1_call0_v12 : Ref sig .tc := ⟨.hbm, 284, rfl⟩
abbrev main_call1_call0_v13 : Ref sig .tc := ⟨.hbm, 285, rfl⟩
abbrev main_call1_call0_v14 : Ref sig .tc := ⟨.hbm, 286, rfl⟩
abbrev main_call1_call0_v15 : Ref sig .tc := ⟨.hbm, 287, rfl⟩
abbrev main_call1_call0_v16 : Ref sig .tc := ⟨.hbm, 288, rfl⟩
abbrev main_call1_call0_c_2 : Ref sig .tc := ⟨.hbm, 289, rfl⟩
abbrev main_call1_call0_v17 : Ref sig .tc := ⟨.hbm, 290, rfl⟩
abbrev main_call1_call0_v18 : Ref sig .tc := ⟨.hbm, 291, rfl⟩
abbrev main_call1_call0_c_3 : Ref sig .tc := ⟨.hbm, 292, rfl⟩
abbrev main_call1_call0_v19 : Ref sig .tc := ⟨.hbm, 293, rfl⟩
abbrev main_call1_call0_v20 : Ref sig .tc := ⟨.hbm, 294, rfl⟩
abbrev main_call1_call0_v21 : Ref sig .tc := ⟨.hbm, 295, rfl⟩
abbrev main_call1_call0_v22 : Ref sig .tc := ⟨.hbm, 296, rfl⟩
abbrev main_call1_call0_v23 : Ref sig .tc := ⟨.hbm, 297, rfl⟩
abbrev main_call1_call0_c_4 : Ref sig .tc := ⟨.hbm, 298, rfl⟩
abbrev main_call1_call0_v24 : Ref sig .tc := ⟨.hbm, 299, rfl⟩
abbrev main_call1_call0_v25 : Ref sig .tc := ⟨.hbm, 300, rfl⟩
abbrev main_call1_call0_c_5 : Ref sig .tc := ⟨.hbm, 301, rfl⟩
abbrev main_call1_call0_v26 : Ref sig .tc := ⟨.hbm, 302, rfl⟩
abbrev main_call1_call0_v27 : Ref sig .tc := ⟨.hbm, 303, rfl⟩
abbrev main_call1_call0_v28 : Ref sig .tc := ⟨.hbm, 304, rfl⟩
abbrev main_call1_call0_v29 : Ref sig .tc := ⟨.hbm, 305, rfl⟩
abbrev main_call1_call0_v30 : Ref sig .tc := ⟨.hbm, 306, rfl⟩
abbrev main_call1_call0_c_6 : Ref sig .tc := ⟨.hbm, 307, rfl⟩
abbrev main_call1_call0_v31 : Ref sig .tc := ⟨.hbm, 308, rfl⟩
abbrev main_call1_call0_v32 : Ref sig .tc := ⟨.hbm, 309, rfl⟩
abbrev main_call1_call0_c_7 : Ref sig .tc := ⟨.hbm, 310, rfl⟩
abbrev main_call1_call0_v33 : Ref sig .tc := ⟨.hbm, 311, rfl⟩
abbrev main_call1_call0_v34 : Ref sig .tc := ⟨.hbm, 312, rfl⟩
abbrev main_call1_call0_v35 : Ref sig .tc := ⟨.hbm, 313, rfl⟩
abbrev main_call1_call0_v36 : Ref sig .tc := ⟨.hbm, 314, rfl⟩
abbrev main_call1_call0_v37 : Ref sig .tc := ⟨.hbm, 315, rfl⟩
abbrev main_call1_call0_v38 : Ref sig .tc := ⟨.hbm, 316, rfl⟩
abbrev main_call1_call0_v39 : Ref sig .tc := ⟨.hbm, 317, rfl⟩
abbrev main_call1_call0_v40 : Ref sig .tc := ⟨.hbm, 318, rfl⟩
abbrev main_call1_call0_c_8 : Ref sig .tc := ⟨.hbm, 319, rfl⟩
abbrev main_call1_call0_v41 : Ref sig .tc := ⟨.hbm, 320, rfl⟩
abbrev main_call1_call0_v42 : Ref sig .tc := ⟨.hbm, 321, rfl⟩
abbrev main_call1_call0_v43 : Ref sig .tc := ⟨.hbm, 322, rfl⟩
abbrev main_call1_call0_c_9 : Ref sig .tc := ⟨.hbm, 323, rfl⟩
abbrev main_call1_call0_v44 : Ref sig .tc := ⟨.hbm, 324, rfl⟩
abbrev main_call1_call0_v45 : Ref sig .tc := ⟨.hbm, 325, rfl⟩
abbrev main_call1_call0_c_10 : Ref sig .tc := ⟨.hbm, 326, rfl⟩
abbrev main_call1_call0_v46 : Ref sig .tc := ⟨.hbm, 327, rfl⟩
abbrev main_call1_call0_v47 : Ref sig .tc := ⟨.hbm, 328, rfl⟩
abbrev main_call1_call0_v48 : Ref sig .tc := ⟨.hbm, 329, rfl⟩
abbrev main_call1_call0_v49 : Ref sig .tc := ⟨.hbm, 330, rfl⟩
abbrev main_call1_call0_v50 : Ref sig .tc := ⟨.hbm, 331, rfl⟩
abbrev main_call1_call0_c_11 : Ref sig .tc := ⟨.hbm, 332, rfl⟩
abbrev main_call1_call0_v51 : Ref sig .tc := ⟨.hbm, 333, rfl⟩
abbrev main_call1_call0_v52 : Ref sig .tc := ⟨.hbm, 334, rfl⟩
abbrev main_call1_call0_c_12 : Ref sig .tc := ⟨.hbm, 335, rfl⟩
abbrev main_call1_call0_v53 : Ref sig .tc := ⟨.hbm, 336, rfl⟩
abbrev main_call1_call0_v54 : Ref sig .tc := ⟨.hbm, 337, rfl⟩
abbrev main_call1_call0_v55 : Ref sig .tc := ⟨.hbm, 338, rfl⟩
abbrev main_call1_call0_v56 : Ref sig .tc := ⟨.hbm, 339, rfl⟩
abbrev main_call1_call0_v57 : Ref sig .tc := ⟨.hbm, 340, rfl⟩
abbrev main_call1_call0_c_13 : Ref sig .tc := ⟨.hbm, 341, rfl⟩
abbrev main_call1_call0_v58 : Ref sig .tc := ⟨.hbm, 342, rfl⟩
abbrev main_call1_call0_v59 : Ref sig .tc := ⟨.hbm, 343, rfl⟩
abbrev main_call1_call0_c_14 : Ref sig .tc := ⟨.hbm, 344, rfl⟩
abbrev main_call1_call0_v60 : Ref sig .tc := ⟨.hbm, 345, rfl⟩
abbrev main_call1_call0_v61 : Ref sig .tc := ⟨.hbm, 346, rfl⟩
abbrev main_call1_call0_v62 : Ref sig .tc := ⟨.hbm, 347, rfl⟩
abbrev main_call1_call0_v63 : Ref sig .tc := ⟨.hbm, 348, rfl⟩
abbrev main_call1_call0_v64 : Ref sig .tc := ⟨.hbm, 349, rfl⟩
abbrev main_call1_call0_c_15 : Ref sig .tc := ⟨.hbm, 350, rfl⟩
abbrev main_call1_call0_v65 : Ref sig .tc := ⟨.hbm, 351, rfl⟩
abbrev main_call1_call0_v66 : Ref sig .tc := ⟨.hbm, 352, rfl⟩
abbrev main_call1_call0_c_16 : Ref sig .tc := ⟨.hbm, 353, rfl⟩
abbrev main_call1_call0_v67 : Ref sig .tc := ⟨.hbm, 354, rfl⟩
abbrev main_call1_call0_v68 : Ref sig .tc := ⟨.hbm, 355, rfl⟩
abbrev main_call1_call0_v69 : Ref sig .tc := ⟨.hbm, 356, rfl⟩
abbrev main_call1_call0_v70 : Ref sig .tc := ⟨.hbm, 357, rfl⟩
abbrev main_call1_call0_v71 : Ref sig .tc := ⟨.hbm, 358, rfl⟩
abbrev main_call1_call0_v72 : Ref sig .tc := ⟨.hbm, 359, rfl⟩
abbrev main_call1_call0_v73 : Ref sig .tc := ⟨.hbm, 360, rfl⟩
abbrev main_call1_call0_v74 : Ref sig .tc := ⟨.hbm, 361, rfl⟩
abbrev main_call1_call0_c_17 : Ref sig .tc := ⟨.hbm, 362, rfl⟩
abbrev main_call1_call0_v75 : Ref sig .tc := ⟨.hbm, 363, rfl⟩
abbrev main_call1_call0_v76 : Ref sig .tc := ⟨.hbm, 364, rfl⟩
abbrev main_call1_call0_v77 : Ref sig .tc := ⟨.hbm, 365, rfl⟩
abbrev main_call1_call0_c_18 : Ref sig .tc := ⟨.hbm, 366, rfl⟩
abbrev main_call1_call0_v78 : Ref sig .tc := ⟨.hbm, 367, rfl⟩
abbrev main_call1_call0_v79 : Ref sig .tc := ⟨.hbm, 368, rfl⟩
abbrev main_call1_call0_c_19 : Ref sig .tc := ⟨.hbm, 369, rfl⟩
abbrev main_call1_call0_v80 : Ref sig .tc := ⟨.hbm, 370, rfl⟩
abbrev main_call1_call0_v81 : Ref sig .tc := ⟨.hbm, 371, rfl⟩
abbrev main_call1_call0_v82 : Ref sig .tc := ⟨.hbm, 372, rfl⟩
abbrev main_call1_call0_v83 : Ref sig .tc := ⟨.hbm, 373, rfl⟩
abbrev main_call1_call0_v84 : Ref sig .tc := ⟨.hbm, 374, rfl⟩
abbrev main_call1_call0_c_20 : Ref sig .tc := ⟨.hbm, 375, rfl⟩
abbrev main_call1_call0_v85 : Ref sig .tc := ⟨.hbm, 376, rfl⟩
abbrev main_call1_call0_v86 : Ref sig .tc := ⟨.hbm, 377, rfl⟩
abbrev main_call1_call0_c_21 : Ref sig .tc := ⟨.hbm, 378, rfl⟩
abbrev main_call1_call0_v87 : Ref sig .tc := ⟨.hbm, 379, rfl⟩
abbrev main_call1_call0_v88 : Ref sig .tc := ⟨.hbm, 380, rfl⟩
abbrev main_call1_call0_v89 : Ref sig .tc := ⟨.hbm, 381, rfl⟩
abbrev main_call1_call0_v90 : Ref sig .tc := ⟨.hbm, 382, rfl⟩
abbrev main_call1_call0_v91 : Ref sig .tc := ⟨.hbm, 383, rfl⟩
abbrev main_call1_call0_c_22 : Ref sig .tc := ⟨.hbm, 384, rfl⟩
abbrev main_call1_call0_v92 : Ref sig .tc := ⟨.hbm, 385, rfl⟩
abbrev main_call1_call0_v93 : Ref sig .tc := ⟨.hbm, 386, rfl⟩
abbrev main_call1_call0_c_23 : Ref sig .tc := ⟨.hbm, 387, rfl⟩
abbrev main_call1_call0_v94 : Ref sig .tc := ⟨.hbm, 388, rfl⟩
abbrev main_call1_call0_v95 : Ref sig .tc := ⟨.hbm, 389, rfl⟩
abbrev main_call1_call0_v96 : Ref sig .tc := ⟨.hbm, 390, rfl⟩
abbrev main_call1_call0_v97 : Ref sig .tc := ⟨.hbm, 391, rfl⟩
abbrev main_call1_call0_v98 : Ref sig .tc := ⟨.hbm, 392, rfl⟩
abbrev main_call1_call0_c_24 : Ref sig .tc := ⟨.hbm, 393, rfl⟩
abbrev main_call1_call0_v99 : Ref sig .tc := ⟨.hbm, 394, rfl⟩
abbrev main_call1_call0_v100 : Ref sig .tc := ⟨.hbm, 395, rfl⟩
abbrev main_call1_call0_c_25 : Ref sig .tc := ⟨.hbm, 396, rfl⟩
abbrev main_call1_call0_v101 : Ref sig .tc := ⟨.hbm, 397, rfl⟩
abbrev main_call1_call0_v102 : Ref sig .tc := ⟨.hbm, 398, rfl⟩
abbrev main_call1_call0_v103 : Ref sig .tc := ⟨.hbm, 399, rfl⟩
abbrev main_call1_call0_v104 : Ref sig .tc := ⟨.hbm, 400, rfl⟩
abbrev main_call1_call0_v105 : Ref sig .tc := ⟨.hbm, 401, rfl⟩
abbrev main_call1_call0_v106 : Ref sig .tc := ⟨.hbm, 402, rfl⟩
abbrev main_call1_call0_v107 : Ref sig .tc := ⟨.hbm, 403, rfl⟩
abbrev main_call1_call0_v108 : Ref sig .tc := ⟨.hbm, 404, rfl⟩
abbrev main_call1_call0_c_26 : Ref sig .tc := ⟨.hbm, 405, rfl⟩
abbrev main_call1_call0_v109 : Ref sig .tc := ⟨.hbm, 406, rfl⟩
abbrev main_call1_call0_v110 : Ref sig .tc := ⟨.hbm, 407, rfl⟩
abbrev main_call1_call0_v111 : Ref sig .tc := ⟨.hbm, 408, rfl⟩
abbrev main_call1_call0_c_27 : Ref sig .tc := ⟨.hbm, 409, rfl⟩
abbrev main_call1_call0_v112 : Ref sig .tc := ⟨.hbm, 410, rfl⟩
abbrev main_call1_call0_v113 : Ref sig .tc := ⟨.hbm, 411, rfl⟩
abbrev main_call1_call0_c_28 : Ref sig .tc := ⟨.hbm, 412, rfl⟩
abbrev main_call1_call0_v114 : Ref sig .tc := ⟨.hbm, 413, rfl⟩
abbrev main_call1_call0_v115 : Ref sig .tc := ⟨.hbm, 414, rfl⟩
abbrev main_call1_call0_v116 : Ref sig .tc := ⟨.hbm, 415, rfl⟩
abbrev main_call1_call0_v117 : Ref sig .tc := ⟨.hbm, 416, rfl⟩
abbrev main_call1_call0_v118 : Ref sig .tc := ⟨.hbm, 417, rfl⟩
abbrev main_call1_call0_c_29 : Ref sig .tc := ⟨.hbm, 418, rfl⟩
abbrev main_call1_call0_v119 : Ref sig .tc := ⟨.hbm, 419, rfl⟩
abbrev main_call1_call0_v120 : Ref sig .tc := ⟨.hbm, 420, rfl⟩
abbrev main_call1_call0_c_30 : Ref sig .tc := ⟨.hbm, 421, rfl⟩
abbrev main_call1_call0_v121 : Ref sig .tc := ⟨.hbm, 422, rfl⟩
abbrev main_call1_call0_v122 : Ref sig .tc := ⟨.hbm, 423, rfl⟩
abbrev main_call1_call0_v123 : Ref sig .tc := ⟨.hbm, 424, rfl⟩
abbrev main_call1_call0_v124 : Ref sig .tc := ⟨.hbm, 425, rfl⟩
abbrev main_call1_call0_v125 : Ref sig .tc := ⟨.hbm, 426, rfl⟩
abbrev main_call1_call0_c_31 : Ref sig .tc := ⟨.hbm, 427, rfl⟩
abbrev main_call1_call0_v126 : Ref sig .tc := ⟨.hbm, 428, rfl⟩
abbrev main_call1_call0_v127 : Ref sig .tc := ⟨.hbm, 429, rfl⟩
abbrev main_call1_call0_c_32 : Ref sig .tc := ⟨.hbm, 430, rfl⟩
abbrev main_call1_call0_v128 : Ref sig .tc := ⟨.hbm, 431, rfl⟩
abbrev main_call1_call0_v129 : Ref sig .tc := ⟨.hbm, 432, rfl⟩
abbrev main_call1_call0_v130 : Ref sig .tc := ⟨.hbm, 433, rfl⟩
abbrev main_call1_call0_v131 : Ref sig .tc := ⟨.hbm, 434, rfl⟩
abbrev main_call1_call0_v132 : Ref sig .tc := ⟨.hbm, 435, rfl⟩
abbrev main_call1_call0_c_33 : Ref sig .tc := ⟨.hbm, 436, rfl⟩
abbrev main_call1_call0_v133 : Ref sig .tc := ⟨.hbm, 437, rfl⟩
abbrev main_call1_call0_v134 : Ref sig .tc := ⟨.hbm, 438, rfl⟩
abbrev main_call1_call0_c_34 : Ref sig .tc := ⟨.hbm, 439, rfl⟩
abbrev main_call1_call0_v135 : Ref sig .tc := ⟨.hbm, 440, rfl⟩
abbrev main_call1_call0_v136 : Ref sig .tc := ⟨.hbm, 441, rfl⟩
abbrev main_call1_call0_v137 : Ref sig .tc := ⟨.hbm, 442, rfl⟩
abbrev main_call1_call0_v138 : Ref sig .tc := ⟨.hbm, 443, rfl⟩
abbrev main_call1_call0_v139 : Ref sig .tc := ⟨.hbm, 444, rfl⟩
abbrev main_call1_call0_v140 : Ref sig .tc := ⟨.hbm, 445, rfl⟩
abbrev main_call1_call0_v141 : Ref sig .tc := ⟨.hbm, 446, rfl⟩
abbrev main_call1_call0_v142 : Ref sig .tc := ⟨.hbm, 447, rfl⟩
abbrev main_call1_call0_c_35 : Ref sig .tc := ⟨.hbm, 448, rfl⟩
abbrev main_call1_call0_v143 : Ref sig .tc := ⟨.hbm, 449, rfl⟩
abbrev main_call1_call0_v144 : Ref sig .tc := ⟨.hbm, 450, rfl⟩
abbrev main_call1_call0_v145 : Ref sig .tc := ⟨.hbm, 451, rfl⟩
abbrev main_call1_call0_c_36 : Ref sig .tc := ⟨.hbm, 452, rfl⟩
abbrev main_call1_call0_v146 : Ref sig .tc := ⟨.hbm, 453, rfl⟩
abbrev main_call1_call0_v147 : Ref sig .tc := ⟨.hbm, 454, rfl⟩
abbrev main_call1_call0_c_37 : Ref sig .tc := ⟨.hbm, 455, rfl⟩
abbrev main_call1_call0_v148 : Ref sig .tc := ⟨.hbm, 456, rfl⟩
abbrev main_call1_call0_v149 : Ref sig .tc := ⟨.hbm, 457, rfl⟩
abbrev main_call1_call0_v150 : Ref sig .tc := ⟨.hbm, 458, rfl⟩
abbrev main_call1_call0_v151 : Ref sig .tc := ⟨.hbm, 459, rfl⟩
abbrev main_call1_call0_v152 : Ref sig .tc := ⟨.hbm, 460, rfl⟩
abbrev main_call1_call0_c_38 : Ref sig .tc := ⟨.hbm, 461, rfl⟩
abbrev main_call1_call0_v153 : Ref sig .tc := ⟨.hbm, 462, rfl⟩
abbrev main_call1_call0_v154 : Ref sig .tc := ⟨.hbm, 463, rfl⟩
abbrev main_call1_call0_c_39 : Ref sig .tc := ⟨.hbm, 464, rfl⟩
abbrev main_call1_call0_v155 : Ref sig .tc := ⟨.hbm, 465, rfl⟩
abbrev main_call1_call0_v156 : Ref sig .tc := ⟨.hbm, 466, rfl⟩
abbrev main_call1_call0_v157 : Ref sig .tc := ⟨.hbm, 467, rfl⟩
abbrev main_call1_call0_v158 : Ref sig .tc := ⟨.hbm, 468, rfl⟩
abbrev main_call1_call0_v159 : Ref sig .tc := ⟨.hbm, 469, rfl⟩
abbrev main_call1_call0_c_40 : Ref sig .tc := ⟨.hbm, 470, rfl⟩
abbrev main_call1_call0_v160 : Ref sig .tc := ⟨.hbm, 471, rfl⟩
abbrev main_call1_call0_v161 : Ref sig .tc := ⟨.hbm, 472, rfl⟩
abbrev main_call1_call0_c_41 : Ref sig .tc := ⟨.hbm, 473, rfl⟩
abbrev main_call1_call0_v162 : Ref sig .tc := ⟨.hbm, 474, rfl⟩
abbrev main_call1_call0_v163 : Ref sig .tc := ⟨.hbm, 475, rfl⟩
abbrev main_call1_call0_v164 : Ref sig .tc := ⟨.hbm, 476, rfl⟩
abbrev main_call1_call0_v165 : Ref sig .tc := ⟨.hbm, 477, rfl⟩
abbrev main_call1_call0_v166 : Ref sig .tc := ⟨.hbm, 478, rfl⟩
abbrev main_call1_call0_c_42 : Ref sig .tc := ⟨.hbm, 479, rfl⟩
abbrev main_call1_call0_v167 : Ref sig .tc := ⟨.hbm, 480, rfl⟩
abbrev main_call1_call0_v168 : Ref sig .tc := ⟨.hbm, 481, rfl⟩
abbrev main_call1_call0_c_43 : Ref sig .tc := ⟨.hbm, 482, rfl⟩
abbrev main_call1_call0_v169 : Ref sig .tc := ⟨.hbm, 483, rfl⟩
abbrev main_call1_call0_v170 : Ref sig .tc := ⟨.hbm, 484, rfl⟩
abbrev main_call1_call0_v171 : Ref sig .tc := ⟨.hbm, 485, rfl⟩
abbrev main_call1_call0_v172 : Ref sig .tc := ⟨.hbm, 486, rfl⟩
abbrev main_call1_call0_v173 : Ref sig .tc := ⟨.hbm, 487, rfl⟩
abbrev main_call1_v15_0 : Ref sig .tc := ⟨.hbm, 488, rfl⟩
abbrev main_call1_call0_v175 : Ref sig .tc := ⟨.hbm, 489, rfl⟩
abbrev main_call1_call0_v176 : Ref sig .tc := ⟨.hbm, 490, rfl⟩
abbrev main_call1_call0_c_44 : Ref sig .tc := ⟨.hbm, 491, rfl⟩
abbrev main_call1_call0_v177 : Ref sig .tc := ⟨.hbm, 492, rfl⟩
abbrev main_call1_v15_1 : Ref sig .tc := ⟨.hbm, 493, rfl⟩
abbrev main_call1_v16 : Ref sig .tc := ⟨.hbm, 494, rfl⟩
abbrev main_call1_v17 : Ref sig .tc := ⟨.hbm, 495, rfl⟩
abbrev main_v10 : Ref sig .tc := ⟨.hbm, 496, rfl⟩
abbrev main_v11 : Ref sig .tc := ⟨.hbm, 497, rfl⟩
abbrev main_v12 : Ref sig .tc := ⟨.hbm, 498, rfl⟩
abbrev main_v13 : Ref sig .tc := ⟨.hbm, 499, rfl⟩
abbrev main_v14 : Ref sig .tc := ⟨.hbm, 500, rfl⟩
abbrev main_v15 : Ref sig .tc := ⟨.hbm, 501, rfl⟩
abbrev main_v16 : Ref sig .tc := ⟨.hbm, 502, rfl⟩
abbrev main_v17 : Ref sig .tc := ⟨.hbm, 503, rfl⟩
abbrev main_v18 : Ref sig .tc := ⟨.hbm, 504, rfl⟩
abbrev main_cst : Ref sig .tc := ⟨.hbm, 505, rfl⟩
abbrev main_cst_2 : Ref sig .tc := ⟨.hbm, 506, rfl⟩
abbrev main_call2_v0 : Ref sig .tc := ⟨.hbm, 507, rfl⟩
abbrev main_call2_v1 : Ref sig .tc := ⟨.hbm, 508, rfl⟩
abbrev main_call2_v2 : Ref sig .tc := ⟨.hbm, 509, rfl⟩
abbrev main_call2_v3 : Ref sig .tc := ⟨.hbm, 510, rfl⟩
abbrev main_call2_v4 : Ref sig .tc := ⟨.hbm, 511, rfl⟩
abbrev main_call2_v5 : Ref sig .tc := ⟨.hbm, 512, rfl⟩
abbrev main_call2_c : Ref sig .tc := ⟨.hbm, 513, rfl⟩
abbrev main_call2_c_0 : Ref sig .tc := ⟨.hbm, 514, rfl⟩
abbrev main_call2_call0_v0 : Ref sig .tc := ⟨.hbm, 515, rfl⟩
abbrev main_call2_call0_c : Ref sig .tc := ⟨.hbm, 516, rfl⟩
abbrev main_call2_call0_v1 : Ref sig .tc := ⟨.hbm, 517, rfl⟩
abbrev main_call2_call0_v2 : Ref sig .tc := ⟨.hbm, 518, rfl⟩
abbrev main_call2_call0_v3 : Ref sig .tc := ⟨.hbm, 519, rfl⟩
abbrev main_call2_call0_v4 : Ref sig .tc := ⟨.hbm, 520, rfl⟩
abbrev main_call2_call0_v5 : Ref sig .tc := ⟨.hbm, 521, rfl⟩
abbrev main_call2_call0_v6 : Ref sig .tc := ⟨.hbm, 522, rfl⟩
abbrev main_call2_call0_v7 : Ref sig .tc := ⟨.hbm, 523, rfl⟩
abbrev main_call2_call0_c_0 : Ref sig .tc := ⟨.hbm, 524, rfl⟩
abbrev main_call2_call0_v8 : Ref sig .tc := ⟨.hbm, 525, rfl⟩
abbrev main_call2_call0_v9 : Ref sig .tc := ⟨.hbm, 526, rfl⟩
abbrev main_call2_call0_c_1 : Ref sig .tc := ⟨.hbm, 527, rfl⟩
abbrev main_call2_call0_v10 : Ref sig .tc := ⟨.hbm, 528, rfl⟩
abbrev main_call2_call0_v11 : Ref sig .tc := ⟨.hbm, 529, rfl⟩
abbrev main_call2_call0_v12 : Ref sig .tc := ⟨.hbm, 530, rfl⟩
abbrev main_call2_call0_v13 : Ref sig .tc := ⟨.hbm, 531, rfl⟩
abbrev main_call2_call0_v14 : Ref sig .tc := ⟨.hbm, 532, rfl⟩
abbrev main_call2_call0_c_2 : Ref sig .tc := ⟨.hbm, 533, rfl⟩
abbrev main_call2_call0_v15 : Ref sig .tc := ⟨.hbm, 534, rfl⟩
abbrev main_call2_call0_v16 : Ref sig .tc := ⟨.hbm, 535, rfl⟩
abbrev main_call2_call0_c_3 : Ref sig .tc := ⟨.hbm, 536, rfl⟩
abbrev main_call2_call0_v17 : Ref sig .tc := ⟨.hbm, 537, rfl⟩
abbrev main_call2_call0_v18 : Ref sig .tc := ⟨.hbm, 538, rfl⟩
abbrev main_call2_call0_v19 : Ref sig .tc := ⟨.hbm, 539, rfl⟩
abbrev main_call2_call0_v20 : Ref sig .tc := ⟨.hbm, 540, rfl⟩
abbrev main_call2_call0_v21 : Ref sig .tc := ⟨.hbm, 541, rfl⟩
abbrev main_call2_call0_c_4 : Ref sig .tc := ⟨.hbm, 542, rfl⟩
abbrev main_call2_call0_v22 : Ref sig .tc := ⟨.hbm, 543, rfl⟩
abbrev main_call2_call0_v23 : Ref sig .tc := ⟨.hbm, 544, rfl⟩
abbrev main_call2_call0_c_5 : Ref sig .tc := ⟨.hbm, 545, rfl⟩
abbrev main_call2_call0_v24 : Ref sig .tc := ⟨.hbm, 546, rfl⟩
abbrev main_call2_call0_v25 : Ref sig .tc := ⟨.hbm, 547, rfl⟩
abbrev main_call2_call0_v26 : Ref sig .tc := ⟨.hbm, 548, rfl⟩
abbrev main_call2_call0_v27 : Ref sig .tc := ⟨.hbm, 549, rfl⟩
abbrev main_call2_call0_v28 : Ref sig .tc := ⟨.hbm, 550, rfl⟩
abbrev main_call2_call0_c_6 : Ref sig .tc := ⟨.hbm, 551, rfl⟩
abbrev main_call2_call0_v29 : Ref sig .tc := ⟨.hbm, 552, rfl⟩
abbrev main_call2_call0_v30 : Ref sig .tc := ⟨.hbm, 553, rfl⟩
abbrev main_call2_call0_c_7 : Ref sig .tc := ⟨.hbm, 554, rfl⟩
abbrev main_call2_call0_v31 : Ref sig .tc := ⟨.hbm, 555, rfl⟩
abbrev main_call2_call0_v32 : Ref sig .tc := ⟨.hbm, 556, rfl⟩
abbrev main_call2_call0_v33 : Ref sig .tc := ⟨.hbm, 557, rfl⟩
abbrev main_call2_call0_v34 : Ref sig .tc := ⟨.hbm, 558, rfl⟩
abbrev main_call2_call0_v35 : Ref sig .tc := ⟨.hbm, 559, rfl⟩
abbrev main_call2_call0_v36 : Ref sig .tc := ⟨.hbm, 560, rfl⟩
abbrev main_call2_call0_c_8 : Ref sig .tc := ⟨.hbm, 561, rfl⟩
abbrev main_call2_call0_v37 : Ref sig .tc := ⟨.hbm, 562, rfl⟩
abbrev main_call2_call0_v38 : Ref sig .tc := ⟨.hbm, 563, rfl⟩
abbrev main_call2_call0_v39 : Ref sig .tc := ⟨.hbm, 564, rfl⟩
abbrev main_call2_call0_c_9 : Ref sig .tc := ⟨.hbm, 565, rfl⟩
abbrev main_call2_call0_v40 : Ref sig .tc := ⟨.hbm, 566, rfl⟩
abbrev main_call2_call0_v41 : Ref sig .tc := ⟨.hbm, 567, rfl⟩
abbrev main_call2_call0_c_10 : Ref sig .tc := ⟨.hbm, 568, rfl⟩
abbrev main_call2_call0_v42 : Ref sig .tc := ⟨.hbm, 569, rfl⟩
abbrev main_call2_call0_v43 : Ref sig .tc := ⟨.hbm, 570, rfl⟩
abbrev main_call2_call0_v44 : Ref sig .tc := ⟨.hbm, 571, rfl⟩
abbrev main_call2_call0_v45 : Ref sig .tc := ⟨.hbm, 572, rfl⟩
abbrev main_call2_call0_v46 : Ref sig .tc := ⟨.hbm, 573, rfl⟩
abbrev main_call2_call0_c_11 : Ref sig .tc := ⟨.hbm, 574, rfl⟩
abbrev main_call2_call0_v47 : Ref sig .tc := ⟨.hbm, 575, rfl⟩
abbrev main_call2_call0_v48 : Ref sig .tc := ⟨.hbm, 576, rfl⟩
abbrev main_call2_call0_c_12 : Ref sig .tc := ⟨.hbm, 577, rfl⟩
abbrev main_call2_call0_v49 : Ref sig .tc := ⟨.hbm, 578, rfl⟩
abbrev main_call2_call0_v50 : Ref sig .tc := ⟨.hbm, 579, rfl⟩
abbrev main_call2_call0_v51 : Ref sig .tc := ⟨.hbm, 580, rfl⟩
abbrev main_call2_call0_v52 : Ref sig .tc := ⟨.hbm, 581, rfl⟩
abbrev main_call2_call0_v53 : Ref sig .tc := ⟨.hbm, 582, rfl⟩
abbrev main_call2_call0_c_13 : Ref sig .tc := ⟨.hbm, 583, rfl⟩
abbrev main_call2_call0_v54 : Ref sig .tc := ⟨.hbm, 584, rfl⟩
abbrev main_call2_call0_v55 : Ref sig .tc := ⟨.hbm, 585, rfl⟩
abbrev main_call2_call0_c_14 : Ref sig .tc := ⟨.hbm, 586, rfl⟩
abbrev main_call2_call0_v56 : Ref sig .tc := ⟨.hbm, 587, rfl⟩
abbrev main_call2_call0_v57 : Ref sig .tc := ⟨.hbm, 588, rfl⟩
abbrev main_call2_call0_v58 : Ref sig .tc := ⟨.hbm, 589, rfl⟩
abbrev main_call2_call0_v59 : Ref sig .tc := ⟨.hbm, 590, rfl⟩
abbrev main_call2_call0_v60 : Ref sig .tc := ⟨.hbm, 591, rfl⟩
abbrev main_call2_call0_c_15 : Ref sig .tc := ⟨.hbm, 592, rfl⟩
abbrev main_call2_call0_v61 : Ref sig .tc := ⟨.hbm, 593, rfl⟩
abbrev main_call2_call0_v62 : Ref sig .tc := ⟨.hbm, 594, rfl⟩
abbrev main_call2_call0_c_16 : Ref sig .tc := ⟨.hbm, 595, rfl⟩
abbrev main_call2_call0_v63 : Ref sig .tc := ⟨.hbm, 596, rfl⟩
abbrev main_call2_call0_v64 : Ref sig .tc := ⟨.hbm, 597, rfl⟩
abbrev main_call2_call0_v65 : Ref sig .tc := ⟨.hbm, 598, rfl⟩
abbrev main_call2_call0_v66 : Ref sig .tc := ⟨.hbm, 599, rfl⟩
abbrev main_call2_call0_v67 : Ref sig .tc := ⟨.hbm, 600, rfl⟩
abbrev main_call2_call0_v68 : Ref sig .tc := ⟨.hbm, 601, rfl⟩
abbrev main_call2_call0_c_17 : Ref sig .tc := ⟨.hbm, 602, rfl⟩
abbrev main_call2_call0_v69 : Ref sig .tc := ⟨.hbm, 603, rfl⟩
abbrev main_call2_call0_v70 : Ref sig .tc := ⟨.hbm, 604, rfl⟩
abbrev main_call2_call0_v71 : Ref sig .tc := ⟨.hbm, 605, rfl⟩
abbrev main_call2_call0_c_18 : Ref sig .tc := ⟨.hbm, 606, rfl⟩
abbrev main_call2_call0_v72 : Ref sig .tc := ⟨.hbm, 607, rfl⟩
abbrev main_call2_call0_v73 : Ref sig .tc := ⟨.hbm, 608, rfl⟩
abbrev main_call2_call0_c_19 : Ref sig .tc := ⟨.hbm, 609, rfl⟩
abbrev main_call2_call0_v74 : Ref sig .tc := ⟨.hbm, 610, rfl⟩
abbrev main_call2_call0_v75 : Ref sig .tc := ⟨.hbm, 611, rfl⟩
abbrev main_call2_call0_v76 : Ref sig .tc := ⟨.hbm, 612, rfl⟩
abbrev main_call2_call0_v77 : Ref sig .tc := ⟨.hbm, 613, rfl⟩
abbrev main_call2_call0_v78 : Ref sig .tc := ⟨.hbm, 614, rfl⟩
abbrev main_call2_call0_c_20 : Ref sig .tc := ⟨.hbm, 615, rfl⟩
abbrev main_call2_call0_v79 : Ref sig .tc := ⟨.hbm, 616, rfl⟩
abbrev main_call2_call0_v80 : Ref sig .tc := ⟨.hbm, 617, rfl⟩
abbrev main_call2_call0_c_21 : Ref sig .tc := ⟨.hbm, 618, rfl⟩
abbrev main_call2_call0_v81 : Ref sig .tc := ⟨.hbm, 619, rfl⟩
abbrev main_call2_call0_v82 : Ref sig .tc := ⟨.hbm, 620, rfl⟩
abbrev main_call2_call0_v83 : Ref sig .tc := ⟨.hbm, 621, rfl⟩
abbrev main_call2_call0_v84 : Ref sig .tc := ⟨.hbm, 622, rfl⟩
abbrev main_call2_call0_v85 : Ref sig .tc := ⟨.hbm, 623, rfl⟩
abbrev main_call2_call0_c_22 : Ref sig .tc := ⟨.hbm, 624, rfl⟩
abbrev main_call2_call0_v86 : Ref sig .tc := ⟨.hbm, 625, rfl⟩
abbrev main_call2_call0_v87 : Ref sig .tc := ⟨.hbm, 626, rfl⟩
abbrev main_call2_call0_c_23 : Ref sig .tc := ⟨.hbm, 627, rfl⟩
abbrev main_call2_call0_v88 : Ref sig .tc := ⟨.hbm, 628, rfl⟩
abbrev main_call2_call0_v89 : Ref sig .tc := ⟨.hbm, 629, rfl⟩
abbrev main_call2_call0_v90 : Ref sig .tc := ⟨.hbm, 630, rfl⟩
abbrev main_call2_call0_v91 : Ref sig .tc := ⟨.hbm, 631, rfl⟩
abbrev main_call2_call0_v92 : Ref sig .tc := ⟨.hbm, 632, rfl⟩
abbrev main_call2_call0_c_24 : Ref sig .tc := ⟨.hbm, 633, rfl⟩
abbrev main_call2_call0_v93 : Ref sig .tc := ⟨.hbm, 634, rfl⟩
abbrev main_call2_call0_v94 : Ref sig .tc := ⟨.hbm, 635, rfl⟩
abbrev main_call2_call0_c_25 : Ref sig .tc := ⟨.hbm, 636, rfl⟩
abbrev main_call2_call0_v95 : Ref sig .tc := ⟨.hbm, 637, rfl⟩
abbrev main_call2_call0_v96 : Ref sig .tc := ⟨.hbm, 638, rfl⟩
abbrev main_call2_call0_v97 : Ref sig .tc := ⟨.hbm, 639, rfl⟩
abbrev main_call2_call0_v98 : Ref sig .tc := ⟨.hbm, 640, rfl⟩
abbrev main_call2_call0_v99 : Ref sig .tc := ⟨.hbm, 641, rfl⟩
abbrev main_call2_call0_v100 : Ref sig .tc := ⟨.hbm, 642, rfl⟩
abbrev main_call2_call0_c_26 : Ref sig .tc := ⟨.hbm, 643, rfl⟩
abbrev main_call2_call0_v101 : Ref sig .tc := ⟨.hbm, 644, rfl⟩
abbrev main_call2_call0_v102 : Ref sig .tc := ⟨.hbm, 645, rfl⟩
abbrev main_call2_call0_v103 : Ref sig .tc := ⟨.hbm, 646, rfl⟩
abbrev main_call2_call0_c_27 : Ref sig .tc := ⟨.hbm, 647, rfl⟩
abbrev main_call2_call0_v104 : Ref sig .tc := ⟨.hbm, 648, rfl⟩
abbrev main_call2_call0_v105 : Ref sig .tc := ⟨.hbm, 649, rfl⟩
abbrev main_call2_call0_c_28 : Ref sig .tc := ⟨.hbm, 650, rfl⟩
abbrev main_call2_call0_v106 : Ref sig .tc := ⟨.hbm, 651, rfl⟩
abbrev main_call2_call0_v107 : Ref sig .tc := ⟨.hbm, 652, rfl⟩
abbrev main_call2_call0_v108 : Ref sig .tc := ⟨.hbm, 653, rfl⟩
abbrev main_call2_call0_v109 : Ref sig .tc := ⟨.hbm, 654, rfl⟩
abbrev main_call2_call0_v110 : Ref sig .tc := ⟨.hbm, 655, rfl⟩
abbrev main_call2_call0_c_29 : Ref sig .tc := ⟨.hbm, 656, rfl⟩
abbrev main_call2_call0_v111 : Ref sig .tc := ⟨.hbm, 657, rfl⟩
abbrev main_call2_call0_v112 : Ref sig .tc := ⟨.hbm, 658, rfl⟩
abbrev main_call2_call0_c_30 : Ref sig .tc := ⟨.hbm, 659, rfl⟩
abbrev main_call2_call0_v113 : Ref sig .tc := ⟨.hbm, 660, rfl⟩
abbrev main_call2_call0_v114 : Ref sig .tc := ⟨.hbm, 661, rfl⟩
abbrev main_call2_call0_v115 : Ref sig .tc := ⟨.hbm, 662, rfl⟩
abbrev main_call2_call0_v116 : Ref sig .tc := ⟨.hbm, 663, rfl⟩
abbrev main_call2_call0_v117 : Ref sig .tc := ⟨.hbm, 664, rfl⟩
abbrev main_call2_call0_c_31 : Ref sig .tc := ⟨.hbm, 665, rfl⟩
abbrev main_call2_call0_v118 : Ref sig .tc := ⟨.hbm, 666, rfl⟩
abbrev main_call2_call0_v119 : Ref sig .tc := ⟨.hbm, 667, rfl⟩
abbrev main_call2_call0_c_32 : Ref sig .tc := ⟨.hbm, 668, rfl⟩
abbrev main_call2_call0_v120 : Ref sig .tc := ⟨.hbm, 669, rfl⟩
abbrev main_call2_call0_v121 : Ref sig .tc := ⟨.hbm, 670, rfl⟩
abbrev main_call2_call0_v122 : Ref sig .tc := ⟨.hbm, 671, rfl⟩
abbrev main_call2_call0_v123 : Ref sig .tc := ⟨.hbm, 672, rfl⟩
abbrev main_call2_call0_v124 : Ref sig .tc := ⟨.hbm, 673, rfl⟩
abbrev main_call2_call0_c_33 : Ref sig .tc := ⟨.hbm, 674, rfl⟩
abbrev main_call2_call0_v125 : Ref sig .tc := ⟨.hbm, 675, rfl⟩
abbrev main_call2_call0_v126 : Ref sig .tc := ⟨.hbm, 676, rfl⟩
abbrev main_call2_call0_c_34 : Ref sig .tc := ⟨.hbm, 677, rfl⟩
abbrev main_call2_call0_v127 : Ref sig .tc := ⟨.hbm, 678, rfl⟩
abbrev main_call2_call0_v128 : Ref sig .tc := ⟨.hbm, 679, rfl⟩
abbrev main_call2_call0_v129 : Ref sig .tc := ⟨.hbm, 680, rfl⟩
abbrev main_call2_call0_v130 : Ref sig .tc := ⟨.hbm, 681, rfl⟩
abbrev main_call2_call0_v131 : Ref sig .tc := ⟨.hbm, 682, rfl⟩
abbrev main_call2_call0_v132 : Ref sig .tc := ⟨.hbm, 683, rfl⟩
abbrev main_call2_call0_c_35 : Ref sig .tc := ⟨.hbm, 684, rfl⟩
abbrev main_call2_call0_v133 : Ref sig .tc := ⟨.hbm, 685, rfl⟩
abbrev main_call2_call0_v134 : Ref sig .tc := ⟨.hbm, 686, rfl⟩
abbrev main_call2_call0_v135 : Ref sig .tc := ⟨.hbm, 687, rfl⟩
abbrev main_call2_call0_c_36 : Ref sig .tc := ⟨.hbm, 688, rfl⟩
abbrev main_call2_call0_v136 : Ref sig .tc := ⟨.hbm, 689, rfl⟩
abbrev main_call2_call0_v137 : Ref sig .tc := ⟨.hbm, 690, rfl⟩
abbrev main_call2_call0_c_37 : Ref sig .tc := ⟨.hbm, 691, rfl⟩
abbrev main_call2_call0_v138 : Ref sig .tc := ⟨.hbm, 692, rfl⟩
abbrev main_call2_call0_v139 : Ref sig .tc := ⟨.hbm, 693, rfl⟩
abbrev main_call2_call0_v140 : Ref sig .tc := ⟨.hbm, 694, rfl⟩
abbrev main_call2_call0_v141 : Ref sig .tc := ⟨.hbm, 695, rfl⟩
abbrev main_call2_call0_v142 : Ref sig .tc := ⟨.hbm, 696, rfl⟩
abbrev main_call2_call0_c_38 : Ref sig .tc := ⟨.hbm, 697, rfl⟩
abbrev main_call2_call0_v143 : Ref sig .tc := ⟨.hbm, 698, rfl⟩
abbrev main_call2_call0_v144 : Ref sig .tc := ⟨.hbm, 699, rfl⟩
abbrev main_call2_call0_c_39 : Ref sig .tc := ⟨.hbm, 700, rfl⟩
abbrev main_call2_call0_v145 : Ref sig .tc := ⟨.hbm, 701, rfl⟩
abbrev main_call2_call0_v146 : Ref sig .tc := ⟨.hbm, 702, rfl⟩
abbrev main_call2_call0_v147 : Ref sig .tc := ⟨.hbm, 703, rfl⟩
abbrev main_call2_call0_v148 : Ref sig .tc := ⟨.hbm, 704, rfl⟩
abbrev main_call2_call0_v149 : Ref sig .tc := ⟨.hbm, 705, rfl⟩
abbrev main_call2_call0_c_40 : Ref sig .tc := ⟨.hbm, 706, rfl⟩
abbrev main_call2_call0_v150 : Ref sig .tc := ⟨.hbm, 707, rfl⟩
abbrev main_call2_call0_v151 : Ref sig .tc := ⟨.hbm, 708, rfl⟩
abbrev main_call2_call0_c_41 : Ref sig .tc := ⟨.hbm, 709, rfl⟩
abbrev main_call2_call0_v152 : Ref sig .tc := ⟨.hbm, 710, rfl⟩
abbrev main_call2_call0_v153 : Ref sig .tc := ⟨.hbm, 711, rfl⟩
abbrev main_call2_call0_v154 : Ref sig .tc := ⟨.hbm, 712, rfl⟩
abbrev main_call2_call0_v155 : Ref sig .tc := ⟨.hbm, 713, rfl⟩
abbrev main_call2_call0_v156 : Ref sig .tc := ⟨.hbm, 714, rfl⟩
abbrev main_call2_call0_c_42 : Ref sig .tc := ⟨.hbm, 715, rfl⟩
abbrev main_call2_call0_v157 : Ref sig .tc := ⟨.hbm, 716, rfl⟩
abbrev main_call2_call0_v158 : Ref sig .tc := ⟨.hbm, 717, rfl⟩
abbrev main_call2_call0_c_43 : Ref sig .tc := ⟨.hbm, 718, rfl⟩
abbrev main_call2_call0_v159 : Ref sig .tc := ⟨.hbm, 719, rfl⟩
abbrev main_call2_call0_v160 : Ref sig .tc := ⟨.hbm, 720, rfl⟩
abbrev main_call2_call0_v161 : Ref sig .tc := ⟨.hbm, 721, rfl⟩
abbrev main_call2_call0_v162 : Ref sig .tc := ⟨.hbm, 722, rfl⟩
abbrev main_call2_v6_0 : Ref sig .tc := ⟨.hbm, 723, rfl⟩
abbrev main_call2_call0_v164 : Ref sig .tc := ⟨.hbm, 724, rfl⟩
abbrev main_call2_call0_c_44 : Ref sig .tc := ⟨.hbm, 725, rfl⟩
abbrev main_call2_call0_v165 : Ref sig .tc := ⟨.hbm, 726, rfl⟩
abbrev main_call2_v6_1 : Ref sig .tc := ⟨.hbm, 727, rfl⟩
abbrev main_call2_v7 : Ref sig .tc := ⟨.hbm, 728, rfl⟩
abbrev main_call2_c_1 : Ref sig .tc := ⟨.hbm, 729, rfl⟩
abbrev main_call2_v8 : Ref sig .tc := ⟨.hbm, 730, rfl⟩
abbrev main_call2_v9 : Ref sig .tc := ⟨.hbm, 731, rfl⟩
abbrev main_call2_c_2 : Ref sig .tc := ⟨.hbm, 732, rfl⟩
abbrev main_call2_v10 : Ref sig .tc := ⟨.hbm, 733, rfl⟩
abbrev main_call2_v11 : Ref sig .tc := ⟨.hbm, 734, rfl⟩
abbrev main_call2_v12 : Ref sig .tc := ⟨.hbm, 735, rfl⟩
abbrev main_call2_cst : Ref sig .tc := ⟨.hbm, 736, rfl⟩
abbrev main_call2_v13 : Ref sig .tc := ⟨.hbm, 737, rfl⟩
abbrev main_call2_v14 : Ref sig .tc := ⟨.hbm, 738, rfl⟩
abbrev main_call2_v15 : Ref sig .tc := ⟨.hbm, 739, rfl⟩
abbrev main_call2_v16 : Ref sig .tc := ⟨.hbm, 740, rfl⟩
abbrev main_call2_v17 : Ref sig .tc := ⟨.hbm, 741, rfl⟩
abbrev main_call2_v18 : Ref sig .tc := ⟨.hbm, 742, rfl⟩
abbrev main_call2_v19 : Ref sig .tc := ⟨.hbm, 743, rfl⟩
abbrev main_call2_v20 : Ref sig .tc := ⟨.hbm, 744, rfl⟩
abbrev main_v19 : Ref sig .tc := ⟨.hbm, 745, rfl⟩
abbrev main_cst_3 : Ref sig .tc := ⟨.hbm, 746, rfl⟩
abbrev main_cst_4 : Ref sig .tc := ⟨.hbm, 747, rfl⟩
abbrev main_call3_v0 : Ref sig .tc := ⟨.hbm, 748, rfl⟩
abbrev main_call3_v1 : Ref sig .tc := ⟨.hbm, 749, rfl⟩
abbrev main_call3_v2 : Ref sig .tc := ⟨.hbm, 750, rfl⟩
abbrev main_call3_v3 : Ref sig .tc := ⟨.hbm, 751, rfl⟩
abbrev main_call3_v4 : Ref sig .tc := ⟨.hbm, 752, rfl⟩
abbrev main_call3_v5 : Ref sig .tc := ⟨.hbm, 753, rfl⟩
abbrev main_call3_c : Ref sig .tc := ⟨.hbm, 754, rfl⟩
abbrev main_call3_c_0 : Ref sig .tc := ⟨.hbm, 755, rfl⟩
abbrev main_call3_call0_v0 : Ref sig .tc := ⟨.hbm, 756, rfl⟩
abbrev main_call3_call0_c : Ref sig .tc := ⟨.hbm, 757, rfl⟩
abbrev main_call3_call0_v1 : Ref sig .tc := ⟨.hbm, 758, rfl⟩
abbrev main_call3_call0_v2 : Ref sig .tc := ⟨.hbm, 759, rfl⟩
abbrev main_call3_call0_v3 : Ref sig .tc := ⟨.hbm, 760, rfl⟩
abbrev main_call3_call0_v4 : Ref sig .tc := ⟨.hbm, 761, rfl⟩
abbrev main_call3_call0_v5 : Ref sig .tc := ⟨.hbm, 762, rfl⟩
abbrev main_call3_call0_v6 : Ref sig .tc := ⟨.hbm, 763, rfl⟩
abbrev main_call3_call0_v7 : Ref sig .tc := ⟨.hbm, 764, rfl⟩
abbrev main_call3_call0_c_0 : Ref sig .tc := ⟨.hbm, 765, rfl⟩
abbrev main_call3_call0_v8 : Ref sig .tc := ⟨.hbm, 766, rfl⟩
abbrev main_call3_call0_v9 : Ref sig .tc := ⟨.hbm, 767, rfl⟩
abbrev main_call3_call0_c_1 : Ref sig .tc := ⟨.hbm, 768, rfl⟩
abbrev main_call3_call0_v10 : Ref sig .tc := ⟨.hbm, 769, rfl⟩
abbrev main_call3_call0_v11 : Ref sig .tc := ⟨.hbm, 770, rfl⟩
abbrev main_call3_call0_v12 : Ref sig .tc := ⟨.hbm, 771, rfl⟩
abbrev main_call3_call0_v13 : Ref sig .tc := ⟨.hbm, 772, rfl⟩
abbrev main_call3_call0_v14 : Ref sig .tc := ⟨.hbm, 773, rfl⟩
abbrev main_call3_call0_c_2 : Ref sig .tc := ⟨.hbm, 774, rfl⟩
abbrev main_call3_call0_v15 : Ref sig .tc := ⟨.hbm, 775, rfl⟩
abbrev main_call3_call0_v16 : Ref sig .tc := ⟨.hbm, 776, rfl⟩
abbrev main_call3_call0_c_3 : Ref sig .tc := ⟨.hbm, 777, rfl⟩
abbrev main_call3_call0_v17 : Ref sig .tc := ⟨.hbm, 778, rfl⟩
abbrev main_call3_call0_v18 : Ref sig .tc := ⟨.hbm, 779, rfl⟩
abbrev main_call3_call0_v19 : Ref sig .tc := ⟨.hbm, 780, rfl⟩
abbrev main_call3_call0_v20 : Ref sig .tc := ⟨.hbm, 781, rfl⟩
abbrev main_call3_call0_v21 : Ref sig .tc := ⟨.hbm, 782, rfl⟩
abbrev main_call3_call0_c_4 : Ref sig .tc := ⟨.hbm, 783, rfl⟩
abbrev main_call3_call0_v22 : Ref sig .tc := ⟨.hbm, 784, rfl⟩
abbrev main_call3_call0_v23 : Ref sig .tc := ⟨.hbm, 785, rfl⟩
abbrev main_call3_call0_c_5 : Ref sig .tc := ⟨.hbm, 786, rfl⟩
abbrev main_call3_call0_v24 : Ref sig .tc := ⟨.hbm, 787, rfl⟩
abbrev main_call3_call0_v25 : Ref sig .tc := ⟨.hbm, 788, rfl⟩
abbrev main_call3_call0_v26 : Ref sig .tc := ⟨.hbm, 789, rfl⟩
abbrev main_call3_call0_v27 : Ref sig .tc := ⟨.hbm, 790, rfl⟩
abbrev main_call3_call0_v28 : Ref sig .tc := ⟨.hbm, 791, rfl⟩
abbrev main_call3_call0_c_6 : Ref sig .tc := ⟨.hbm, 792, rfl⟩
abbrev main_call3_call0_v29 : Ref sig .tc := ⟨.hbm, 793, rfl⟩
abbrev main_call3_call0_v30 : Ref sig .tc := ⟨.hbm, 794, rfl⟩
abbrev main_call3_call0_c_7 : Ref sig .tc := ⟨.hbm, 795, rfl⟩
abbrev main_call3_call0_v31 : Ref sig .tc := ⟨.hbm, 796, rfl⟩
abbrev main_call3_call0_v32 : Ref sig .tc := ⟨.hbm, 797, rfl⟩
abbrev main_call3_call0_v33 : Ref sig .tc := ⟨.hbm, 798, rfl⟩
abbrev main_call3_call0_v34 : Ref sig .tc := ⟨.hbm, 799, rfl⟩
abbrev main_call3_call0_v35 : Ref sig .tc := ⟨.hbm, 800, rfl⟩
abbrev main_call3_call0_v36 : Ref sig .tc := ⟨.hbm, 801, rfl⟩
abbrev main_call3_call0_c_8 : Ref sig .tc := ⟨.hbm, 802, rfl⟩
abbrev main_call3_call0_v37 : Ref sig .tc := ⟨.hbm, 803, rfl⟩
abbrev main_call3_call0_v38 : Ref sig .tc := ⟨.hbm, 804, rfl⟩
abbrev main_call3_call0_v39 : Ref sig .tc := ⟨.hbm, 805, rfl⟩
abbrev main_call3_call0_c_9 : Ref sig .tc := ⟨.hbm, 806, rfl⟩
abbrev main_call3_call0_v40 : Ref sig .tc := ⟨.hbm, 807, rfl⟩
abbrev main_call3_call0_v41 : Ref sig .tc := ⟨.hbm, 808, rfl⟩
abbrev main_call3_call0_c_10 : Ref sig .tc := ⟨.hbm, 809, rfl⟩
abbrev main_call3_call0_v42 : Ref sig .tc := ⟨.hbm, 810, rfl⟩
abbrev main_call3_call0_v43 : Ref sig .tc := ⟨.hbm, 811, rfl⟩
abbrev main_call3_call0_v44 : Ref sig .tc := ⟨.hbm, 812, rfl⟩
abbrev main_call3_call0_v45 : Ref sig .tc := ⟨.hbm, 813, rfl⟩
abbrev main_call3_call0_v46 : Ref sig .tc := ⟨.hbm, 814, rfl⟩
abbrev main_call3_call0_c_11 : Ref sig .tc := ⟨.hbm, 815, rfl⟩
abbrev main_call3_call0_v47 : Ref sig .tc := ⟨.hbm, 816, rfl⟩
abbrev main_call3_call0_v48 : Ref sig .tc := ⟨.hbm, 817, rfl⟩
abbrev main_call3_call0_c_12 : Ref sig .tc := ⟨.hbm, 818, rfl⟩
abbrev main_call3_call0_v49 : Ref sig .tc := ⟨.hbm, 819, rfl⟩
abbrev main_call3_call0_v50 : Ref sig .tc := ⟨.hbm, 820, rfl⟩
abbrev main_call3_call0_v51 : Ref sig .tc := ⟨.hbm, 821, rfl⟩
abbrev main_call3_call0_v52 : Ref sig .tc := ⟨.hbm, 822, rfl⟩
abbrev main_call3_call0_v53 : Ref sig .tc := ⟨.hbm, 823, rfl⟩
abbrev main_call3_call0_c_13 : Ref sig .tc := ⟨.hbm, 824, rfl⟩
abbrev main_call3_call0_v54 : Ref sig .tc := ⟨.hbm, 825, rfl⟩
abbrev main_call3_call0_v55 : Ref sig .tc := ⟨.hbm, 826, rfl⟩
abbrev main_call3_call0_c_14 : Ref sig .tc := ⟨.hbm, 827, rfl⟩
abbrev main_call3_call0_v56 : Ref sig .tc := ⟨.hbm, 828, rfl⟩
abbrev main_call3_call0_v57 : Ref sig .tc := ⟨.hbm, 829, rfl⟩
abbrev main_call3_call0_v58 : Ref sig .tc := ⟨.hbm, 830, rfl⟩
abbrev main_call3_call0_v59 : Ref sig .tc := ⟨.hbm, 831, rfl⟩
abbrev main_call3_call0_v60 : Ref sig .tc := ⟨.hbm, 832, rfl⟩
abbrev main_call3_call0_c_15 : Ref sig .tc := ⟨.hbm, 833, rfl⟩
abbrev main_call3_call0_v61 : Ref sig .tc := ⟨.hbm, 834, rfl⟩
abbrev main_call3_call0_v62 : Ref sig .tc := ⟨.hbm, 835, rfl⟩
abbrev main_call3_call0_c_16 : Ref sig .tc := ⟨.hbm, 836, rfl⟩
abbrev main_call3_call0_v63 : Ref sig .tc := ⟨.hbm, 837, rfl⟩
abbrev main_call3_call0_v64 : Ref sig .tc := ⟨.hbm, 838, rfl⟩
abbrev main_call3_call0_v65 : Ref sig .tc := ⟨.hbm, 839, rfl⟩
abbrev main_call3_call0_v66 : Ref sig .tc := ⟨.hbm, 840, rfl⟩
abbrev main_call3_call0_v67 : Ref sig .tc := ⟨.hbm, 841, rfl⟩
abbrev main_call3_call0_v68 : Ref sig .tc := ⟨.hbm, 842, rfl⟩
abbrev main_call3_call0_c_17 : Ref sig .tc := ⟨.hbm, 843, rfl⟩
abbrev main_call3_call0_v69 : Ref sig .tc := ⟨.hbm, 844, rfl⟩
abbrev main_call3_call0_v70 : Ref sig .tc := ⟨.hbm, 845, rfl⟩
abbrev main_call3_call0_v71 : Ref sig .tc := ⟨.hbm, 846, rfl⟩
abbrev main_call3_call0_c_18 : Ref sig .tc := ⟨.hbm, 847, rfl⟩
abbrev main_call3_call0_v72 : Ref sig .tc := ⟨.hbm, 848, rfl⟩
abbrev main_call3_call0_v73 : Ref sig .tc := ⟨.hbm, 849, rfl⟩
abbrev main_call3_call0_c_19 : Ref sig .tc := ⟨.hbm, 850, rfl⟩
abbrev main_call3_call0_v74 : Ref sig .tc := ⟨.hbm, 851, rfl⟩
abbrev main_call3_call0_v75 : Ref sig .tc := ⟨.hbm, 852, rfl⟩
abbrev main_call3_call0_v76 : Ref sig .tc := ⟨.hbm, 853, rfl⟩
abbrev main_call3_call0_v77 : Ref sig .tc := ⟨.hbm, 854, rfl⟩
abbrev main_call3_call0_v78 : Ref sig .tc := ⟨.hbm, 855, rfl⟩
abbrev main_call3_call0_c_20 : Ref sig .tc := ⟨.hbm, 856, rfl⟩
abbrev main_call3_call0_v79 : Ref sig .tc := ⟨.hbm, 857, rfl⟩
abbrev main_call3_call0_v80 : Ref sig .tc := ⟨.hbm, 858, rfl⟩
abbrev main_call3_call0_c_21 : Ref sig .tc := ⟨.hbm, 859, rfl⟩
abbrev main_call3_call0_v81 : Ref sig .tc := ⟨.hbm, 860, rfl⟩
abbrev main_call3_call0_v82 : Ref sig .tc := ⟨.hbm, 861, rfl⟩
abbrev main_call3_call0_v83 : Ref sig .tc := ⟨.hbm, 862, rfl⟩
abbrev main_call3_call0_v84 : Ref sig .tc := ⟨.hbm, 863, rfl⟩
abbrev main_call3_call0_v85 : Ref sig .tc := ⟨.hbm, 864, rfl⟩
abbrev main_call3_call0_c_22 : Ref sig .tc := ⟨.hbm, 865, rfl⟩
abbrev main_call3_call0_v86 : Ref sig .tc := ⟨.hbm, 866, rfl⟩
abbrev main_call3_call0_v87 : Ref sig .tc := ⟨.hbm, 867, rfl⟩
abbrev main_call3_call0_c_23 : Ref sig .tc := ⟨.hbm, 868, rfl⟩
abbrev main_call3_call0_v88 : Ref sig .tc := ⟨.hbm, 869, rfl⟩
abbrev main_call3_call0_v89 : Ref sig .tc := ⟨.hbm, 870, rfl⟩
abbrev main_call3_call0_v90 : Ref sig .tc := ⟨.hbm, 871, rfl⟩
abbrev main_call3_call0_v91 : Ref sig .tc := ⟨.hbm, 872, rfl⟩
abbrev main_call3_call0_v92 : Ref sig .tc := ⟨.hbm, 873, rfl⟩
abbrev main_call3_call0_c_24 : Ref sig .tc := ⟨.hbm, 874, rfl⟩
abbrev main_call3_call0_v93 : Ref sig .tc := ⟨.hbm, 875, rfl⟩
abbrev main_call3_call0_v94 : Ref sig .tc := ⟨.hbm, 876, rfl⟩
abbrev main_call3_call0_c_25 : Ref sig .tc := ⟨.hbm, 877, rfl⟩
abbrev main_call3_call0_v95 : Ref sig .tc := ⟨.hbm, 878, rfl⟩
abbrev main_call3_call0_v96 : Ref sig .tc := ⟨.hbm, 879, rfl⟩
abbrev main_call3_call0_v97 : Ref sig .tc := ⟨.hbm, 880, rfl⟩
abbrev main_call3_call0_v98 : Ref sig .tc := ⟨.hbm, 881, rfl⟩
abbrev main_call3_call0_v99 : Ref sig .tc := ⟨.hbm, 882, rfl⟩
abbrev main_call3_call0_v100 : Ref sig .tc := ⟨.hbm, 883, rfl⟩
abbrev main_call3_call0_c_26 : Ref sig .tc := ⟨.hbm, 884, rfl⟩
abbrev main_call3_call0_v101 : Ref sig .tc := ⟨.hbm, 885, rfl⟩
abbrev main_call3_call0_v102 : Ref sig .tc := ⟨.hbm, 886, rfl⟩
abbrev main_call3_call0_v103 : Ref sig .tc := ⟨.hbm, 887, rfl⟩
abbrev main_call3_call0_c_27 : Ref sig .tc := ⟨.hbm, 888, rfl⟩
abbrev main_call3_call0_v104 : Ref sig .tc := ⟨.hbm, 889, rfl⟩
abbrev main_call3_call0_v105 : Ref sig .tc := ⟨.hbm, 890, rfl⟩
abbrev main_call3_call0_c_28 : Ref sig .tc := ⟨.hbm, 891, rfl⟩
abbrev main_call3_call0_v106 : Ref sig .tc := ⟨.hbm, 892, rfl⟩
abbrev main_call3_call0_v107 : Ref sig .tc := ⟨.hbm, 893, rfl⟩
abbrev main_call3_call0_v108 : Ref sig .tc := ⟨.hbm, 894, rfl⟩
abbrev main_call3_call0_v109 : Ref sig .tc := ⟨.hbm, 895, rfl⟩
abbrev main_call3_call0_v110 : Ref sig .tc := ⟨.hbm, 896, rfl⟩
abbrev main_call3_call0_c_29 : Ref sig .tc := ⟨.hbm, 897, rfl⟩
abbrev main_call3_call0_v111 : Ref sig .tc := ⟨.hbm, 898, rfl⟩
abbrev main_call3_call0_v112 : Ref sig .tc := ⟨.hbm, 899, rfl⟩
abbrev main_call3_call0_c_30 : Ref sig .tc := ⟨.hbm, 900, rfl⟩
abbrev main_call3_call0_v113 : Ref sig .tc := ⟨.hbm, 901, rfl⟩
abbrev main_call3_call0_v114 : Ref sig .tc := ⟨.hbm, 902, rfl⟩
abbrev main_call3_call0_v115 : Ref sig .tc := ⟨.hbm, 903, rfl⟩
abbrev main_call3_call0_v116 : Ref sig .tc := ⟨.hbm, 904, rfl⟩
abbrev main_call3_call0_v117 : Ref sig .tc := ⟨.hbm, 905, rfl⟩
abbrev main_call3_call0_c_31 : Ref sig .tc := ⟨.hbm, 906, rfl⟩
abbrev main_call3_call0_v118 : Ref sig .tc := ⟨.hbm, 907, rfl⟩
abbrev main_call3_call0_v119 : Ref sig .tc := ⟨.hbm, 908, rfl⟩
abbrev main_call3_call0_c_32 : Ref sig .tc := ⟨.hbm, 909, rfl⟩
abbrev main_call3_call0_v120 : Ref sig .tc := ⟨.hbm, 910, rfl⟩
abbrev main_call3_call0_v121 : Ref sig .tc := ⟨.hbm, 911, rfl⟩
abbrev main_call3_call0_v122 : Ref sig .tc := ⟨.hbm, 912, rfl⟩
abbrev main_call3_call0_v123 : Ref sig .tc := ⟨.hbm, 913, rfl⟩
abbrev main_call3_call0_v124 : Ref sig .tc := ⟨.hbm, 914, rfl⟩
abbrev main_call3_call0_c_33 : Ref sig .tc := ⟨.hbm, 915, rfl⟩
abbrev main_call3_call0_v125 : Ref sig .tc := ⟨.hbm, 916, rfl⟩
abbrev main_call3_call0_v126 : Ref sig .tc := ⟨.hbm, 917, rfl⟩
abbrev main_call3_call0_c_34 : Ref sig .tc := ⟨.hbm, 918, rfl⟩
abbrev main_call3_call0_v127 : Ref sig .tc := ⟨.hbm, 919, rfl⟩
abbrev main_call3_call0_v128 : Ref sig .tc := ⟨.hbm, 920, rfl⟩
abbrev main_call3_call0_v129 : Ref sig .tc := ⟨.hbm, 921, rfl⟩
abbrev main_call3_call0_v130 : Ref sig .tc := ⟨.hbm, 922, rfl⟩
abbrev main_call3_call0_v131 : Ref sig .tc := ⟨.hbm, 923, rfl⟩
abbrev main_call3_call0_v132 : Ref sig .tc := ⟨.hbm, 924, rfl⟩
abbrev main_call3_call0_c_35 : Ref sig .tc := ⟨.hbm, 925, rfl⟩
abbrev main_call3_call0_v133 : Ref sig .tc := ⟨.hbm, 926, rfl⟩
abbrev main_call3_call0_v134 : Ref sig .tc := ⟨.hbm, 927, rfl⟩
abbrev main_call3_call0_v135 : Ref sig .tc := ⟨.hbm, 928, rfl⟩
abbrev main_call3_call0_c_36 : Ref sig .tc := ⟨.hbm, 929, rfl⟩
abbrev main_call3_call0_v136 : Ref sig .tc := ⟨.hbm, 930, rfl⟩
abbrev main_call3_call0_v137 : Ref sig .tc := ⟨.hbm, 931, rfl⟩
abbrev main_call3_call0_c_37 : Ref sig .tc := ⟨.hbm, 932, rfl⟩
abbrev main_call3_call0_v138 : Ref sig .tc := ⟨.hbm, 933, rfl⟩
abbrev main_call3_call0_v139 : Ref sig .tc := ⟨.hbm, 934, rfl⟩
abbrev main_call3_call0_v140 : Ref sig .tc := ⟨.hbm, 935, rfl⟩
abbrev main_call3_call0_v141 : Ref sig .tc := ⟨.hbm, 936, rfl⟩
abbrev main_call3_call0_v142 : Ref sig .tc := ⟨.hbm, 937, rfl⟩
abbrev main_call3_call0_c_38 : Ref sig .tc := ⟨.hbm, 938, rfl⟩
abbrev main_call3_call0_v143 : Ref sig .tc := ⟨.hbm, 939, rfl⟩
abbrev main_call3_call0_v144 : Ref sig .tc := ⟨.hbm, 940, rfl⟩
abbrev main_call3_call0_c_39 : Ref sig .tc := ⟨.hbm, 941, rfl⟩
abbrev main_call3_call0_v145 : Ref sig .tc := ⟨.hbm, 942, rfl⟩
abbrev main_call3_call0_v146 : Ref sig .tc := ⟨.hbm, 943, rfl⟩
abbrev main_call3_call0_v147 : Ref sig .tc := ⟨.hbm, 944, rfl⟩
abbrev main_call3_call0_v148 : Ref sig .tc := ⟨.hbm, 945, rfl⟩
abbrev main_call3_call0_v149 : Ref sig .tc := ⟨.hbm, 946, rfl⟩
abbrev main_call3_call0_c_40 : Ref sig .tc := ⟨.hbm, 947, rfl⟩
abbrev main_call3_call0_v150 : Ref sig .tc := ⟨.hbm, 948, rfl⟩
abbrev main_call3_call0_v151 : Ref sig .tc := ⟨.hbm, 949, rfl⟩
abbrev main_call3_call0_c_41 : Ref sig .tc := ⟨.hbm, 950, rfl⟩
abbrev main_call3_call0_v152 : Ref sig .tc := ⟨.hbm, 951, rfl⟩
abbrev main_call3_call0_v153 : Ref sig .tc := ⟨.hbm, 952, rfl⟩
abbrev main_call3_call0_v154 : Ref sig .tc := ⟨.hbm, 953, rfl⟩
abbrev main_call3_call0_v155 : Ref sig .tc := ⟨.hbm, 954, rfl⟩
abbrev main_call3_call0_v156 : Ref sig .tc := ⟨.hbm, 955, rfl⟩
abbrev main_call3_call0_c_42 : Ref sig .tc := ⟨.hbm, 956, rfl⟩
abbrev main_call3_call0_v157 : Ref sig .tc := ⟨.hbm, 957, rfl⟩
abbrev main_call3_call0_v158 : Ref sig .tc := ⟨.hbm, 958, rfl⟩
abbrev main_call3_call0_c_43 : Ref sig .tc := ⟨.hbm, 959, rfl⟩
abbrev main_call3_call0_v159 : Ref sig .tc := ⟨.hbm, 960, rfl⟩
abbrev main_call3_call0_v160 : Ref sig .tc := ⟨.hbm, 961, rfl⟩
abbrev main_call3_call0_v161 : Ref sig .tc := ⟨.hbm, 962, rfl⟩
abbrev main_call3_call0_v162 : Ref sig .tc := ⟨.hbm, 963, rfl⟩
abbrev main_call3_v6_0 : Ref sig .tc := ⟨.hbm, 964, rfl⟩
abbrev main_call3_call0_v164 : Ref sig .tc := ⟨.hbm, 965, rfl⟩
abbrev main_call3_call0_c_44 : Ref sig .tc := ⟨.hbm, 966, rfl⟩
abbrev main_call3_call0_v165 : Ref sig .tc := ⟨.hbm, 967, rfl⟩
abbrev main_call3_v6_1 : Ref sig .tc := ⟨.hbm, 968, rfl⟩
abbrev main_call3_v7 : Ref sig .tc := ⟨.hbm, 969, rfl⟩
abbrev main_call3_c_1 : Ref sig .tc := ⟨.hbm, 970, rfl⟩
abbrev main_call3_v8 : Ref sig .tc := ⟨.hbm, 971, rfl⟩
abbrev main_call3_v9 : Ref sig .tc := ⟨.hbm, 972, rfl⟩
abbrev main_call3_c_2 : Ref sig .tc := ⟨.hbm, 973, rfl⟩
abbrev main_call3_v10 : Ref sig .tc := ⟨.hbm, 974, rfl⟩
abbrev main_call3_v11 : Ref sig .tc := ⟨.hbm, 975, rfl⟩
abbrev main_call3_v12 : Ref sig .tc := ⟨.hbm, 976, rfl⟩
abbrev main_call3_cst : Ref sig .tc := ⟨.hbm, 977, rfl⟩
abbrev main_call3_v13 : Ref sig .tc := ⟨.hbm, 978, rfl⟩
abbrev main_call3_v14 : Ref sig .tc := ⟨.hbm, 979, rfl⟩
abbrev main_call3_v15 : Ref sig .tc := ⟨.hbm, 980, rfl⟩
abbrev main_call3_v16 : Ref sig .tc := ⟨.hbm, 981, rfl⟩
abbrev main_call3_v17 : Ref sig .tc := ⟨.hbm, 982, rfl⟩
abbrev main_call3_v18 : Ref sig .tc := ⟨.hbm, 983, rfl⟩
abbrev main_call3_v19 : Ref sig .tc := ⟨.hbm, 984, rfl⟩
abbrev main_call3_v20 : Ref sig .tc := ⟨.hbm, 985, rfl⟩
abbrev main_v20 : Ref sig .tc := ⟨.hbm, 986, rfl⟩
abbrev main_cst_5 : Ref sig .tc := ⟨.hbm, 987, rfl⟩
abbrev main_cst_6 : Ref sig .tc := ⟨.hbm, 988, rfl⟩
abbrev main_call4_v0 : Ref sig .tc := ⟨.hbm, 989, rfl⟩
abbrev main_call4_v1 : Ref sig .tc := ⟨.hbm, 990, rfl⟩
abbrev main_call4_v2 : Ref sig .tc := ⟨.hbm, 991, rfl⟩
abbrev main_call4_v3 : Ref sig .tc := ⟨.hbm, 992, rfl⟩
abbrev main_call4_v4 : Ref sig .tc := ⟨.hbm, 993, rfl⟩
abbrev main_call4_v5 : Ref sig .tc := ⟨.hbm, 994, rfl⟩
abbrev main_call4_c : Ref sig .tc := ⟨.hbm, 995, rfl⟩
abbrev main_call4_c_0 : Ref sig .tc := ⟨.hbm, 996, rfl⟩
abbrev main_call4_call0_v0 : Ref sig .tc := ⟨.hbm, 997, rfl⟩
abbrev main_call4_call0_c : Ref sig .tc := ⟨.hbm, 998, rfl⟩
abbrev main_call4_call0_v1 : Ref sig .tc := ⟨.hbm, 999, rfl⟩
abbrev main_call4_call0_v2 : Ref sig .tc := ⟨.hbm, 1000, rfl⟩
abbrev main_call4_call0_v3 : Ref sig .tc := ⟨.hbm, 1001, rfl⟩
abbrev main_call4_call0_v4 : Ref sig .tc := ⟨.hbm, 1002, rfl⟩
abbrev main_call4_call0_v5 : Ref sig .tc := ⟨.hbm, 1003, rfl⟩
abbrev main_call4_call0_v6 : Ref sig .tc := ⟨.hbm, 1004, rfl⟩
abbrev main_call4_call0_v7 : Ref sig .tc := ⟨.hbm, 1005, rfl⟩
abbrev main_call4_call0_c_0 : Ref sig .tc := ⟨.hbm, 1006, rfl⟩
abbrev main_call4_call0_v8 : Ref sig .tc := ⟨.hbm, 1007, rfl⟩
abbrev main_call4_call0_v9 : Ref sig .tc := ⟨.hbm, 1008, rfl⟩
abbrev main_call4_call0_c_1 : Ref sig .tc := ⟨.hbm, 1009, rfl⟩
abbrev main_call4_call0_v10 : Ref sig .tc := ⟨.hbm, 1010, rfl⟩
abbrev main_call4_call0_v11 : Ref sig .tc := ⟨.hbm, 1011, rfl⟩
abbrev main_call4_call0_v12 : Ref sig .tc := ⟨.hbm, 1012, rfl⟩
abbrev main_call4_call0_v13 : Ref sig .tc := ⟨.hbm, 1013, rfl⟩
abbrev main_call4_call0_v14 : Ref sig .tc := ⟨.hbm, 1014, rfl⟩
abbrev main_call4_call0_c_2 : Ref sig .tc := ⟨.hbm, 1015, rfl⟩
abbrev main_call4_call0_v15 : Ref sig .tc := ⟨.hbm, 1016, rfl⟩
abbrev main_call4_call0_v16 : Ref sig .tc := ⟨.hbm, 1017, rfl⟩
abbrev main_call4_call0_c_3 : Ref sig .tc := ⟨.hbm, 1018, rfl⟩
abbrev main_call4_call0_v17 : Ref sig .tc := ⟨.hbm, 1019, rfl⟩
abbrev main_call4_call0_v18 : Ref sig .tc := ⟨.hbm, 1020, rfl⟩
abbrev main_call4_call0_v19 : Ref sig .tc := ⟨.hbm, 1021, rfl⟩
abbrev main_call4_call0_v20 : Ref sig .tc := ⟨.hbm, 1022, rfl⟩
abbrev main_call4_call0_v21 : Ref sig .tc := ⟨.hbm, 1023, rfl⟩
abbrev main_call4_call0_c_4 : Ref sig .tc := ⟨.hbm, 1024, rfl⟩
abbrev main_call4_call0_v22 : Ref sig .tc := ⟨.hbm, 1025, rfl⟩
abbrev main_call4_call0_v23 : Ref sig .tc := ⟨.hbm, 1026, rfl⟩
abbrev main_call4_call0_c_5 : Ref sig .tc := ⟨.hbm, 1027, rfl⟩
abbrev main_call4_call0_v24 : Ref sig .tc := ⟨.hbm, 1028, rfl⟩
abbrev main_call4_call0_v25 : Ref sig .tc := ⟨.hbm, 1029, rfl⟩
abbrev main_call4_call0_v26 : Ref sig .tc := ⟨.hbm, 1030, rfl⟩
abbrev main_call4_call0_v27 : Ref sig .tc := ⟨.hbm, 1031, rfl⟩
abbrev main_call4_call0_v28 : Ref sig .tc := ⟨.hbm, 1032, rfl⟩
abbrev main_call4_call0_c_6 : Ref sig .tc := ⟨.hbm, 1033, rfl⟩
abbrev main_call4_call0_v29 : Ref sig .tc := ⟨.hbm, 1034, rfl⟩
abbrev main_call4_call0_v30 : Ref sig .tc := ⟨.hbm, 1035, rfl⟩
abbrev main_call4_call0_c_7 : Ref sig .tc := ⟨.hbm, 1036, rfl⟩
abbrev main_call4_call0_v31 : Ref sig .tc := ⟨.hbm, 1037, rfl⟩
abbrev main_call4_call0_v32 : Ref sig .tc := ⟨.hbm, 1038, rfl⟩
abbrev main_call4_call0_v33 : Ref sig .tc := ⟨.hbm, 1039, rfl⟩
abbrev main_call4_call0_v34 : Ref sig .tc := ⟨.hbm, 1040, rfl⟩
abbrev main_call4_call0_v35 : Ref sig .tc := ⟨.hbm, 1041, rfl⟩
abbrev main_call4_call0_v36 : Ref sig .tc := ⟨.hbm, 1042, rfl⟩
abbrev main_call4_call0_c_8 : Ref sig .tc := ⟨.hbm, 1043, rfl⟩
abbrev main_call4_call0_v37 : Ref sig .tc := ⟨.hbm, 1044, rfl⟩
abbrev main_call4_call0_v38 : Ref sig .tc := ⟨.hbm, 1045, rfl⟩
abbrev main_call4_call0_v39 : Ref sig .tc := ⟨.hbm, 1046, rfl⟩
abbrev main_call4_call0_c_9 : Ref sig .tc := ⟨.hbm, 1047, rfl⟩
abbrev main_call4_call0_v40 : Ref sig .tc := ⟨.hbm, 1048, rfl⟩
abbrev main_call4_call0_v41 : Ref sig .tc := ⟨.hbm, 1049, rfl⟩
abbrev main_call4_call0_c_10 : Ref sig .tc := ⟨.hbm, 1050, rfl⟩
abbrev main_call4_call0_v42 : Ref sig .tc := ⟨.hbm, 1051, rfl⟩
abbrev main_call4_call0_v43 : Ref sig .tc := ⟨.hbm, 1052, rfl⟩
abbrev main_call4_call0_v44 : Ref sig .tc := ⟨.hbm, 1053, rfl⟩
abbrev main_call4_call0_v45 : Ref sig .tc := ⟨.hbm, 1054, rfl⟩
abbrev main_call4_call0_v46 : Ref sig .tc := ⟨.hbm, 1055, rfl⟩
abbrev main_call4_call0_c_11 : Ref sig .tc := ⟨.hbm, 1056, rfl⟩
abbrev main_call4_call0_v47 : Ref sig .tc := ⟨.hbm, 1057, rfl⟩
abbrev main_call4_call0_v48 : Ref sig .tc := ⟨.hbm, 1058, rfl⟩
abbrev main_call4_call0_c_12 : Ref sig .tc := ⟨.hbm, 1059, rfl⟩
abbrev main_call4_call0_v49 : Ref sig .tc := ⟨.hbm, 1060, rfl⟩
abbrev main_call4_call0_v50 : Ref sig .tc := ⟨.hbm, 1061, rfl⟩
abbrev main_call4_call0_v51 : Ref sig .tc := ⟨.hbm, 1062, rfl⟩
abbrev main_call4_call0_v52 : Ref sig .tc := ⟨.hbm, 1063, rfl⟩
abbrev main_call4_call0_v53 : Ref sig .tc := ⟨.hbm, 1064, rfl⟩
abbrev main_call4_call0_c_13 : Ref sig .tc := ⟨.hbm, 1065, rfl⟩
abbrev main_call4_call0_v54 : Ref sig .tc := ⟨.hbm, 1066, rfl⟩
abbrev main_call4_call0_v55 : Ref sig .tc := ⟨.hbm, 1067, rfl⟩
abbrev main_call4_call0_c_14 : Ref sig .tc := ⟨.hbm, 1068, rfl⟩
abbrev main_call4_call0_v56 : Ref sig .tc := ⟨.hbm, 1069, rfl⟩
abbrev main_call4_call0_v57 : Ref sig .tc := ⟨.hbm, 1070, rfl⟩
abbrev main_call4_call0_v58 : Ref sig .tc := ⟨.hbm, 1071, rfl⟩
abbrev main_call4_call0_v59 : Ref sig .tc := ⟨.hbm, 1072, rfl⟩
abbrev main_call4_call0_v60 : Ref sig .tc := ⟨.hbm, 1073, rfl⟩
abbrev main_call4_call0_c_15 : Ref sig .tc := ⟨.hbm, 1074, rfl⟩
abbrev main_call4_call0_v61 : Ref sig .tc := ⟨.hbm, 1075, rfl⟩
abbrev main_call4_call0_v62 : Ref sig .tc := ⟨.hbm, 1076, rfl⟩
abbrev main_call4_call0_c_16 : Ref sig .tc := ⟨.hbm, 1077, rfl⟩
abbrev main_call4_call0_v63 : Ref sig .tc := ⟨.hbm, 1078, rfl⟩
abbrev main_call4_call0_v64 : Ref sig .tc := ⟨.hbm, 1079, rfl⟩
abbrev main_call4_call0_v65 : Ref sig .tc := ⟨.hbm, 1080, rfl⟩
abbrev main_call4_call0_v66 : Ref sig .tc := ⟨.hbm, 1081, rfl⟩
abbrev main_call4_call0_v67 : Ref sig .tc := ⟨.hbm, 1082, rfl⟩
abbrev main_call4_call0_v68 : Ref sig .tc := ⟨.hbm, 1083, rfl⟩
abbrev main_call4_call0_c_17 : Ref sig .tc := ⟨.hbm, 1084, rfl⟩
abbrev main_call4_call0_v69 : Ref sig .tc := ⟨.hbm, 1085, rfl⟩
abbrev main_call4_call0_v70 : Ref sig .tc := ⟨.hbm, 1086, rfl⟩
abbrev main_call4_call0_v71 : Ref sig .tc := ⟨.hbm, 1087, rfl⟩
abbrev main_call4_call0_c_18 : Ref sig .tc := ⟨.hbm, 1088, rfl⟩
abbrev main_call4_call0_v72 : Ref sig .tc := ⟨.hbm, 1089, rfl⟩
abbrev main_call4_call0_v73 : Ref sig .tc := ⟨.hbm, 1090, rfl⟩
abbrev main_call4_call0_c_19 : Ref sig .tc := ⟨.hbm, 1091, rfl⟩
abbrev main_call4_call0_v74 : Ref sig .tc := ⟨.hbm, 1092, rfl⟩
abbrev main_call4_call0_v75 : Ref sig .tc := ⟨.hbm, 1093, rfl⟩
abbrev main_call4_call0_v76 : Ref sig .tc := ⟨.hbm, 1094, rfl⟩
abbrev main_call4_call0_v77 : Ref sig .tc := ⟨.hbm, 1095, rfl⟩
abbrev main_call4_call0_v78 : Ref sig .tc := ⟨.hbm, 1096, rfl⟩
abbrev main_call4_call0_c_20 : Ref sig .tc := ⟨.hbm, 1097, rfl⟩
abbrev main_call4_call0_v79 : Ref sig .tc := ⟨.hbm, 1098, rfl⟩
abbrev main_call4_call0_v80 : Ref sig .tc := ⟨.hbm, 1099, rfl⟩
abbrev main_call4_call0_c_21 : Ref sig .tc := ⟨.hbm, 1100, rfl⟩
abbrev main_call4_call0_v81 : Ref sig .tc := ⟨.hbm, 1101, rfl⟩
abbrev main_call4_call0_v82 : Ref sig .tc := ⟨.hbm, 1102, rfl⟩
abbrev main_call4_call0_v83 : Ref sig .tc := ⟨.hbm, 1103, rfl⟩
abbrev main_call4_call0_v84 : Ref sig .tc := ⟨.hbm, 1104, rfl⟩
abbrev main_call4_call0_v85 : Ref sig .tc := ⟨.hbm, 1105, rfl⟩
abbrev main_call4_call0_c_22 : Ref sig .tc := ⟨.hbm, 1106, rfl⟩
abbrev main_call4_call0_v86 : Ref sig .tc := ⟨.hbm, 1107, rfl⟩
abbrev main_call4_call0_v87 : Ref sig .tc := ⟨.hbm, 1108, rfl⟩
abbrev main_call4_call0_c_23 : Ref sig .tc := ⟨.hbm, 1109, rfl⟩
abbrev main_call4_call0_v88 : Ref sig .tc := ⟨.hbm, 1110, rfl⟩
abbrev main_call4_call0_v89 : Ref sig .tc := ⟨.hbm, 1111, rfl⟩
abbrev main_call4_call0_v90 : Ref sig .tc := ⟨.hbm, 1112, rfl⟩
abbrev main_call4_call0_v91 : Ref sig .tc := ⟨.hbm, 1113, rfl⟩
abbrev main_call4_call0_v92 : Ref sig .tc := ⟨.hbm, 1114, rfl⟩
abbrev main_call4_call0_c_24 : Ref sig .tc := ⟨.hbm, 1115, rfl⟩
abbrev main_call4_call0_v93 : Ref sig .tc := ⟨.hbm, 1116, rfl⟩
abbrev main_call4_call0_v94 : Ref sig .tc := ⟨.hbm, 1117, rfl⟩
abbrev main_call4_call0_c_25 : Ref sig .tc := ⟨.hbm, 1118, rfl⟩
abbrev main_call4_call0_v95 : Ref sig .tc := ⟨.hbm, 1119, rfl⟩
abbrev main_call4_call0_v96 : Ref sig .tc := ⟨.hbm, 1120, rfl⟩
abbrev main_call4_call0_v97 : Ref sig .tc := ⟨.hbm, 1121, rfl⟩
abbrev main_call4_call0_v98 : Ref sig .tc := ⟨.hbm, 1122, rfl⟩
abbrev main_call4_call0_v99 : Ref sig .tc := ⟨.hbm, 1123, rfl⟩
abbrev main_call4_call0_v100 : Ref sig .tc := ⟨.hbm, 1124, rfl⟩
abbrev main_call4_call0_c_26 : Ref sig .tc := ⟨.hbm, 1125, rfl⟩
abbrev main_call4_call0_v101 : Ref sig .tc := ⟨.hbm, 1126, rfl⟩
abbrev main_call4_call0_v102 : Ref sig .tc := ⟨.hbm, 1127, rfl⟩
abbrev main_call4_call0_v103 : Ref sig .tc := ⟨.hbm, 1128, rfl⟩
abbrev main_call4_call0_c_27 : Ref sig .tc := ⟨.hbm, 1129, rfl⟩
abbrev main_call4_call0_v104 : Ref sig .tc := ⟨.hbm, 1130, rfl⟩
abbrev main_call4_call0_v105 : Ref sig .tc := ⟨.hbm, 1131, rfl⟩
abbrev main_call4_call0_c_28 : Ref sig .tc := ⟨.hbm, 1132, rfl⟩
abbrev main_call4_call0_v106 : Ref sig .tc := ⟨.hbm, 1133, rfl⟩
abbrev main_call4_call0_v107 : Ref sig .tc := ⟨.hbm, 1134, rfl⟩
abbrev main_call4_call0_v108 : Ref sig .tc := ⟨.hbm, 1135, rfl⟩
abbrev main_call4_call0_v109 : Ref sig .tc := ⟨.hbm, 1136, rfl⟩
abbrev main_call4_call0_v110 : Ref sig .tc := ⟨.hbm, 1137, rfl⟩
abbrev main_call4_call0_c_29 : Ref sig .tc := ⟨.hbm, 1138, rfl⟩
abbrev main_call4_call0_v111 : Ref sig .tc := ⟨.hbm, 1139, rfl⟩
abbrev main_call4_call0_v112 : Ref sig .tc := ⟨.hbm, 1140, rfl⟩
abbrev main_call4_call0_c_30 : Ref sig .tc := ⟨.hbm, 1141, rfl⟩
abbrev main_call4_call0_v113 : Ref sig .tc := ⟨.hbm, 1142, rfl⟩
abbrev main_call4_call0_v114 : Ref sig .tc := ⟨.hbm, 1143, rfl⟩
abbrev main_call4_call0_v115 : Ref sig .tc := ⟨.hbm, 1144, rfl⟩
abbrev main_call4_call0_v116 : Ref sig .tc := ⟨.hbm, 1145, rfl⟩
abbrev main_call4_call0_v117 : Ref sig .tc := ⟨.hbm, 1146, rfl⟩
abbrev main_call4_call0_c_31 : Ref sig .tc := ⟨.hbm, 1147, rfl⟩
abbrev main_call4_call0_v118 : Ref sig .tc := ⟨.hbm, 1148, rfl⟩
abbrev main_call4_call0_v119 : Ref sig .tc := ⟨.hbm, 1149, rfl⟩
abbrev main_call4_call0_c_32 : Ref sig .tc := ⟨.hbm, 1150, rfl⟩
abbrev main_call4_call0_v120 : Ref sig .tc := ⟨.hbm, 1151, rfl⟩
abbrev main_call4_call0_v121 : Ref sig .tc := ⟨.hbm, 1152, rfl⟩
abbrev main_call4_call0_v122 : Ref sig .tc := ⟨.hbm, 1153, rfl⟩
abbrev main_call4_call0_v123 : Ref sig .tc := ⟨.hbm, 1154, rfl⟩
abbrev main_call4_call0_v124 : Ref sig .tc := ⟨.hbm, 1155, rfl⟩
abbrev main_call4_call0_c_33 : Ref sig .tc := ⟨.hbm, 1156, rfl⟩
abbrev main_call4_call0_v125 : Ref sig .tc := ⟨.hbm, 1157, rfl⟩
abbrev main_call4_call0_v126 : Ref sig .tc := ⟨.hbm, 1158, rfl⟩
abbrev main_call4_call0_c_34 : Ref sig .tc := ⟨.hbm, 1159, rfl⟩
abbrev main_call4_call0_v127 : Ref sig .tc := ⟨.hbm, 1160, rfl⟩
abbrev main_call4_call0_v128 : Ref sig .tc := ⟨.hbm, 1161, rfl⟩
abbrev main_call4_call0_v129 : Ref sig .tc := ⟨.hbm, 1162, rfl⟩
abbrev main_call4_call0_v130 : Ref sig .tc := ⟨.hbm, 1163, rfl⟩
abbrev main_call4_call0_v131 : Ref sig .tc := ⟨.hbm, 1164, rfl⟩
abbrev main_call4_call0_v132 : Ref sig .tc := ⟨.hbm, 1165, rfl⟩
abbrev main_call4_call0_c_35 : Ref sig .tc := ⟨.hbm, 1166, rfl⟩
abbrev main_call4_call0_v133 : Ref sig .tc := ⟨.hbm, 1167, rfl⟩
abbrev main_call4_call0_v134 : Ref sig .tc := ⟨.hbm, 1168, rfl⟩
abbrev main_call4_call0_v135 : Ref sig .tc := ⟨.hbm, 1169, rfl⟩
abbrev main_call4_call0_c_36 : Ref sig .tc := ⟨.hbm, 1170, rfl⟩
abbrev main_call4_call0_v136 : Ref sig .tc := ⟨.hbm, 1171, rfl⟩
abbrev main_call4_call0_v137 : Ref sig .tc := ⟨.hbm, 1172, rfl⟩
abbrev main_call4_call0_c_37 : Ref sig .tc := ⟨.hbm, 1173, rfl⟩
abbrev main_call4_call0_v138 : Ref sig .tc := ⟨.hbm, 1174, rfl⟩
abbrev main_call4_call0_v139 : Ref sig .tc := ⟨.hbm, 1175, rfl⟩
abbrev main_call4_call0_v140 : Ref sig .tc := ⟨.hbm, 1176, rfl⟩
abbrev main_call4_call0_v141 : Ref sig .tc := ⟨.hbm, 1177, rfl⟩
abbrev main_call4_call0_v142 : Ref sig .tc := ⟨.hbm, 1178, rfl⟩
abbrev main_call4_call0_c_38 : Ref sig .tc := ⟨.hbm, 1179, rfl⟩
abbrev main_call4_call0_v143 : Ref sig .tc := ⟨.hbm, 1180, rfl⟩
abbrev main_call4_call0_v144 : Ref sig .tc := ⟨.hbm, 1181, rfl⟩
abbrev main_call4_call0_c_39 : Ref sig .tc := ⟨.hbm, 1182, rfl⟩
abbrev main_call4_call0_v145 : Ref sig .tc := ⟨.hbm, 1183, rfl⟩
abbrev main_call4_call0_v146 : Ref sig .tc := ⟨.hbm, 1184, rfl⟩
abbrev main_call4_call0_v147 : Ref sig .tc := ⟨.hbm, 1185, rfl⟩
abbrev main_call4_call0_v148 : Ref sig .tc := ⟨.hbm, 1186, rfl⟩
abbrev main_call4_call0_v149 : Ref sig .tc := ⟨.hbm, 1187, rfl⟩
abbrev main_call4_call0_c_40 : Ref sig .tc := ⟨.hbm, 1188, rfl⟩
abbrev main_call4_call0_v150 : Ref sig .tc := ⟨.hbm, 1189, rfl⟩
abbrev main_call4_call0_v151 : Ref sig .tc := ⟨.hbm, 1190, rfl⟩
abbrev main_call4_call0_c_41 : Ref sig .tc := ⟨.hbm, 1191, rfl⟩
abbrev main_call4_call0_v152 : Ref sig .tc := ⟨.hbm, 1192, rfl⟩
abbrev main_call4_call0_v153 : Ref sig .tc := ⟨.hbm, 1193, rfl⟩
abbrev main_call4_call0_v154 : Ref sig .tc := ⟨.hbm, 1194, rfl⟩
abbrev main_call4_call0_v155 : Ref sig .tc := ⟨.hbm, 1195, rfl⟩
abbrev main_call4_call0_v156 : Ref sig .tc := ⟨.hbm, 1196, rfl⟩
abbrev main_call4_call0_c_42 : Ref sig .tc := ⟨.hbm, 1197, rfl⟩
abbrev main_call4_call0_v157 : Ref sig .tc := ⟨.hbm, 1198, rfl⟩
abbrev main_call4_call0_v158 : Ref sig .tc := ⟨.hbm, 1199, rfl⟩
abbrev main_call4_call0_c_43 : Ref sig .tc := ⟨.hbm, 1200, rfl⟩
abbrev main_call4_call0_v159 : Ref sig .tc := ⟨.hbm, 1201, rfl⟩
abbrev main_call4_call0_v160 : Ref sig .tc := ⟨.hbm, 1202, rfl⟩
abbrev main_call4_call0_v161 : Ref sig .tc := ⟨.hbm, 1203, rfl⟩
abbrev main_call4_call0_v162 : Ref sig .tc := ⟨.hbm, 1204, rfl⟩
abbrev main_call4_v6_0 : Ref sig .tc := ⟨.hbm, 1205, rfl⟩
abbrev main_call4_call0_v164 : Ref sig .tc := ⟨.hbm, 1206, rfl⟩
abbrev main_call4_call0_c_44 : Ref sig .tc := ⟨.hbm, 1207, rfl⟩
abbrev main_call4_call0_v165 : Ref sig .tc := ⟨.hbm, 1208, rfl⟩
abbrev main_call4_v6_1 : Ref sig .tc := ⟨.hbm, 1209, rfl⟩
abbrev main_call4_v7 : Ref sig .tc := ⟨.hbm, 1210, rfl⟩
abbrev main_call4_c_1 : Ref sig .tc := ⟨.hbm, 1211, rfl⟩
abbrev main_call4_v8 : Ref sig .tc := ⟨.hbm, 1212, rfl⟩
abbrev main_call4_v9 : Ref sig .tc := ⟨.hbm, 1213, rfl⟩
abbrev main_call4_c_2 : Ref sig .tc := ⟨.hbm, 1214, rfl⟩
abbrev main_call4_v10 : Ref sig .tc := ⟨.hbm, 1215, rfl⟩
abbrev main_call4_v11 : Ref sig .tc := ⟨.hbm, 1216, rfl⟩
abbrev main_call4_v12 : Ref sig .tc := ⟨.hbm, 1217, rfl⟩
abbrev main_call4_cst : Ref sig .tc := ⟨.hbm, 1218, rfl⟩
abbrev main_call4_v13 : Ref sig .tc := ⟨.hbm, 1219, rfl⟩
abbrev main_call4_v14 : Ref sig .tc := ⟨.hbm, 1220, rfl⟩
abbrev main_call4_v15 : Ref sig .tc := ⟨.hbm, 1221, rfl⟩
abbrev main_call4_v16 : Ref sig .tc := ⟨.hbm, 1222, rfl⟩
abbrev main_call4_v17 : Ref sig .tc := ⟨.hbm, 1223, rfl⟩
abbrev main_call4_v18 : Ref sig .tc := ⟨.hbm, 1224, rfl⟩
abbrev main_call4_v19 : Ref sig .tc := ⟨.hbm, 1225, rfl⟩
abbrev main_call4_v20 : Ref sig .tc := ⟨.hbm, 1226, rfl⟩
abbrev main_v21 : Ref sig .tc := ⟨.hbm, 1227, rfl⟩
abbrev main_cst_7 : Ref sig .tc := ⟨.hbm, 1228, rfl⟩
abbrev main_cst_8 : Ref sig .tc := ⟨.hbm, 1229, rfl⟩
abbrev main_call5_v0 : Ref sig .tc := ⟨.hbm, 1230, rfl⟩
abbrev main_call5_v1 : Ref sig .tc := ⟨.hbm, 1231, rfl⟩
abbrev main_call5_v2 : Ref sig .tc := ⟨.hbm, 1232, rfl⟩
abbrev main_call5_v3 : Ref sig .tc := ⟨.hbm, 1233, rfl⟩
abbrev main_call5_v4 : Ref sig .tc := ⟨.hbm, 1234, rfl⟩
abbrev main_call5_v5 : Ref sig .tc := ⟨.hbm, 1235, rfl⟩
abbrev main_call5_v6 : Ref sig .tc := ⟨.hbm, 1236, rfl⟩
abbrev main_call5_v7 : Ref sig .tc := ⟨.hbm, 1237, rfl⟩
abbrev main_call5_v8 : Ref sig .tc := ⟨.hbm, 1238, rfl⟩
abbrev main_call5_c : Ref sig .tc := ⟨.hbm, 1239, rfl⟩
abbrev main_call5_v9 : Ref sig .tc := ⟨.hbm, 1240, rfl⟩
abbrev main_call5_v10 : Ref sig .tc := ⟨.hbm, 1241, rfl⟩
abbrev main_call5_c_0 : Ref sig .tc := ⟨.hbm, 1242, rfl⟩
abbrev main_call5_v11 : Ref sig .tc := ⟨.hbm, 1243, rfl⟩
abbrev main_call5_v12 : Ref sig .tc := ⟨.hbm, 1244, rfl⟩
abbrev main_call5_v13 : Ref sig .tc := ⟨.hbm, 1245, rfl⟩
abbrev main_call5_v14 : Ref sig .tc := ⟨.hbm, 1246, rfl⟩
abbrev main_call5_v15 : Ref sig .tc := ⟨.hbm, 1247, rfl⟩
abbrev main_call5_v16 : Ref sig .tc := ⟨.hbm, 1248, rfl⟩
abbrev main_call5_v17 : Ref sig .tc := ⟨.hbm, 1249, rfl⟩
abbrev main_call5_v18 : Ref sig .tc := ⟨.hbm, 1250, rfl⟩
abbrev main_call5_call0_v0 : Ref sig .tc := ⟨.hbm, 1251, rfl⟩
abbrev main_call5_call0_c : Ref sig .tc := ⟨.hbm, 1252, rfl⟩
abbrev main_call5_call0_v1 : Ref sig .tc := ⟨.hbm, 1253, rfl⟩
abbrev main_call5_call0_v2 : Ref sig .tc := ⟨.hbm, 1254, rfl⟩
abbrev main_call5_call0_v3 : Ref sig .tc := ⟨.hbm, 1255, rfl⟩
abbrev main_call5_call0_v4 : Ref sig .tc := ⟨.hbm, 1256, rfl⟩
abbrev main_call5_call0_v5 : Ref sig .tc := ⟨.hbm, 1257, rfl⟩
abbrev main_call5_call0_v6 : Ref sig .tc := ⟨.hbm, 1258, rfl⟩
abbrev main_call5_call0_v7 : Ref sig .tc := ⟨.hbm, 1259, rfl⟩
abbrev main_call5_call0_v8 : Ref sig .tc := ⟨.hbm, 1260, rfl⟩
abbrev main_call5_call0_v9 : Ref sig .tc := ⟨.hbm, 1261, rfl⟩
abbrev main_call5_call0_c_0 : Ref sig .tc := ⟨.hbm, 1262, rfl⟩
abbrev main_call5_call0_v10 : Ref sig .tc := ⟨.hbm, 1263, rfl⟩
abbrev main_call5_call0_v11 : Ref sig .tc := ⟨.hbm, 1264, rfl⟩
abbrev main_call5_call0_c_1 : Ref sig .tc := ⟨.hbm, 1265, rfl⟩
abbrev main_call5_call0_v12 : Ref sig .tc := ⟨.hbm, 1266, rfl⟩
abbrev main_call5_call0_v13 : Ref sig .tc := ⟨.hbm, 1267, rfl⟩
abbrev main_call5_call0_v14 : Ref sig .tc := ⟨.hbm, 1268, rfl⟩
abbrev main_call5_call0_v15 : Ref sig .tc := ⟨.hbm, 1269, rfl⟩
abbrev main_call5_call0_v16 : Ref sig .tc := ⟨.hbm, 1270, rfl⟩
abbrev main_call5_call0_c_2 : Ref sig .tc := ⟨.hbm, 1271, rfl⟩
abbrev main_call5_call0_v17 : Ref sig .tc := ⟨.hbm, 1272, rfl⟩
abbrev main_call5_call0_v18 : Ref sig .tc := ⟨.hbm, 1273, rfl⟩
abbrev main_call5_call0_c_3 : Ref sig .tc := ⟨.hbm, 1274, rfl⟩
abbrev main_call5_call0_v19 : Ref sig .tc := ⟨.hbm, 1275, rfl⟩
abbrev main_call5_call0_v20 : Ref sig .tc := ⟨.hbm, 1276, rfl⟩
abbrev main_call5_call0_v21 : Ref sig .tc := ⟨.hbm, 1277, rfl⟩
abbrev main_call5_call0_v22 : Ref sig .tc := ⟨.hbm, 1278, rfl⟩
abbrev main_call5_call0_v23 : Ref sig .tc := ⟨.hbm, 1279, rfl⟩
abbrev main_call5_call0_c_4 : Ref sig .tc := ⟨.hbm, 1280, rfl⟩
abbrev main_call5_call0_v24 : Ref sig .tc := ⟨.hbm, 1281, rfl⟩
abbrev main_call5_call0_v25 : Ref sig .tc := ⟨.hbm, 1282, rfl⟩
abbrev main_call5_call0_c_5 : Ref sig .tc := ⟨.hbm, 1283, rfl⟩
abbrev main_call5_call0_v26 : Ref sig .tc := ⟨.hbm, 1284, rfl⟩
abbrev main_call5_call0_v27 : Ref sig .tc := ⟨.hbm, 1285, rfl⟩
abbrev main_call5_call0_v28 : Ref sig .tc := ⟨.hbm, 1286, rfl⟩
abbrev main_call5_call0_v29 : Ref sig .tc := ⟨.hbm, 1287, rfl⟩
abbrev main_call5_call0_v30 : Ref sig .tc := ⟨.hbm, 1288, rfl⟩
abbrev main_call5_call0_c_6 : Ref sig .tc := ⟨.hbm, 1289, rfl⟩
abbrev main_call5_call0_v31 : Ref sig .tc := ⟨.hbm, 1290, rfl⟩
abbrev main_call5_call0_v32 : Ref sig .tc := ⟨.hbm, 1291, rfl⟩
abbrev main_call5_call0_c_7 : Ref sig .tc := ⟨.hbm, 1292, rfl⟩
abbrev main_call5_call0_v33 : Ref sig .tc := ⟨.hbm, 1293, rfl⟩
abbrev main_call5_call0_v34 : Ref sig .tc := ⟨.hbm, 1294, rfl⟩
abbrev main_call5_call0_v35 : Ref sig .tc := ⟨.hbm, 1295, rfl⟩
abbrev main_call5_call0_v36 : Ref sig .tc := ⟨.hbm, 1296, rfl⟩
abbrev main_call5_call0_v37 : Ref sig .tc := ⟨.hbm, 1297, rfl⟩
abbrev main_call5_call0_v38 : Ref sig .tc := ⟨.hbm, 1298, rfl⟩
abbrev main_call5_call0_v39 : Ref sig .tc := ⟨.hbm, 1299, rfl⟩
abbrev main_call5_call0_v40 : Ref sig .tc := ⟨.hbm, 1300, rfl⟩
abbrev main_call5_call0_c_8 : Ref sig .tc := ⟨.hbm, 1301, rfl⟩
abbrev main_call5_call0_v41 : Ref sig .tc := ⟨.hbm, 1302, rfl⟩
abbrev main_call5_call0_v42 : Ref sig .tc := ⟨.hbm, 1303, rfl⟩
abbrev main_call5_call0_v43 : Ref sig .tc := ⟨.hbm, 1304, rfl⟩
abbrev main_call5_call0_c_9 : Ref sig .tc := ⟨.hbm, 1305, rfl⟩
abbrev main_call5_call0_v44 : Ref sig .tc := ⟨.hbm, 1306, rfl⟩
abbrev main_call5_call0_v45 : Ref sig .tc := ⟨.hbm, 1307, rfl⟩
abbrev main_call5_call0_c_10 : Ref sig .tc := ⟨.hbm, 1308, rfl⟩
abbrev main_call5_call0_v46 : Ref sig .tc := ⟨.hbm, 1309, rfl⟩
abbrev main_call5_call0_v47 : Ref sig .tc := ⟨.hbm, 1310, rfl⟩
abbrev main_call5_call0_v48 : Ref sig .tc := ⟨.hbm, 1311, rfl⟩
abbrev main_call5_call0_v49 : Ref sig .tc := ⟨.hbm, 1312, rfl⟩
abbrev main_call5_call0_v50 : Ref sig .tc := ⟨.hbm, 1313, rfl⟩
abbrev main_call5_call0_c_11 : Ref sig .tc := ⟨.hbm, 1314, rfl⟩
abbrev main_call5_call0_v51 : Ref sig .tc := ⟨.hbm, 1315, rfl⟩
abbrev main_call5_call0_v52 : Ref sig .tc := ⟨.hbm, 1316, rfl⟩
abbrev main_call5_call0_c_12 : Ref sig .tc := ⟨.hbm, 1317, rfl⟩
abbrev main_call5_call0_v53 : Ref sig .tc := ⟨.hbm, 1318, rfl⟩
abbrev main_call5_call0_v54 : Ref sig .tc := ⟨.hbm, 1319, rfl⟩
abbrev main_call5_call0_v55 : Ref sig .tc := ⟨.hbm, 1320, rfl⟩
abbrev main_call5_call0_v56 : Ref sig .tc := ⟨.hbm, 1321, rfl⟩
abbrev main_call5_call0_v57 : Ref sig .tc := ⟨.hbm, 1322, rfl⟩
abbrev main_call5_call0_c_13 : Ref sig .tc := ⟨.hbm, 1323, rfl⟩
abbrev main_call5_call0_v58 : Ref sig .tc := ⟨.hbm, 1324, rfl⟩
abbrev main_call5_call0_v59 : Ref sig .tc := ⟨.hbm, 1325, rfl⟩
abbrev main_call5_call0_c_14 : Ref sig .tc := ⟨.hbm, 1326, rfl⟩
abbrev main_call5_call0_v60 : Ref sig .tc := ⟨.hbm, 1327, rfl⟩
abbrev main_call5_call0_v61 : Ref sig .tc := ⟨.hbm, 1328, rfl⟩
abbrev main_call5_call0_v62 : Ref sig .tc := ⟨.hbm, 1329, rfl⟩
abbrev main_call5_call0_v63 : Ref sig .tc := ⟨.hbm, 1330, rfl⟩
abbrev main_call5_call0_v64 : Ref sig .tc := ⟨.hbm, 1331, rfl⟩
abbrev main_call5_call0_c_15 : Ref sig .tc := ⟨.hbm, 1332, rfl⟩
abbrev main_call5_call0_v65 : Ref sig .tc := ⟨.hbm, 1333, rfl⟩
abbrev main_call5_call0_v66 : Ref sig .tc := ⟨.hbm, 1334, rfl⟩
abbrev main_call5_call0_c_16 : Ref sig .tc := ⟨.hbm, 1335, rfl⟩
abbrev main_call5_call0_v67 : Ref sig .tc := ⟨.hbm, 1336, rfl⟩
abbrev main_call5_call0_v68 : Ref sig .tc := ⟨.hbm, 1337, rfl⟩
abbrev main_call5_call0_v69 : Ref sig .tc := ⟨.hbm, 1338, rfl⟩
abbrev main_call5_call0_v70 : Ref sig .tc := ⟨.hbm, 1339, rfl⟩
abbrev main_call5_call0_v71 : Ref sig .tc := ⟨.hbm, 1340, rfl⟩
abbrev main_call5_call0_v72 : Ref sig .tc := ⟨.hbm, 1341, rfl⟩
abbrev main_call5_call0_v73 : Ref sig .tc := ⟨.hbm, 1342, rfl⟩
abbrev main_call5_call0_v74 : Ref sig .tc := ⟨.hbm, 1343, rfl⟩
abbrev main_call5_call0_c_17 : Ref sig .tc := ⟨.hbm, 1344, rfl⟩
abbrev main_call5_call0_v75 : Ref sig .tc := ⟨.hbm, 1345, rfl⟩
abbrev main_call5_call0_v76 : Ref sig .tc := ⟨.hbm, 1346, rfl⟩
abbrev main_call5_call0_v77 : Ref sig .tc := ⟨.hbm, 1347, rfl⟩
abbrev main_call5_call0_c_18 : Ref sig .tc := ⟨.hbm, 1348, rfl⟩
abbrev main_call5_call0_v78 : Ref sig .tc := ⟨.hbm, 1349, rfl⟩
abbrev main_call5_call0_v79 : Ref sig .tc := ⟨.hbm, 1350, rfl⟩
abbrev main_call5_call0_c_19 : Ref sig .tc := ⟨.hbm, 1351, rfl⟩
abbrev main_call5_call0_v80 : Ref sig .tc := ⟨.hbm, 1352, rfl⟩
abbrev main_call5_call0_v81 : Ref sig .tc := ⟨.hbm, 1353, rfl⟩
abbrev main_call5_call0_v82 : Ref sig .tc := ⟨.hbm, 1354, rfl⟩
abbrev main_call5_call0_v83 : Ref sig .tc := ⟨.hbm, 1355, rfl⟩
abbrev main_call5_call0_v84 : Ref sig .tc := ⟨.hbm, 1356, rfl⟩
abbrev main_call5_call0_c_20 : Ref sig .tc := ⟨.hbm, 1357, rfl⟩
abbrev main_call5_call0_v85 : Ref sig .tc := ⟨.hbm, 1358, rfl⟩
abbrev main_call5_call0_v86 : Ref sig .tc := ⟨.hbm, 1359, rfl⟩
abbrev main_call5_call0_c_21 : Ref sig .tc := ⟨.hbm, 1360, rfl⟩
abbrev main_call5_call0_v87 : Ref sig .tc := ⟨.hbm, 1361, rfl⟩
abbrev main_call5_call0_v88 : Ref sig .tc := ⟨.hbm, 1362, rfl⟩
abbrev main_call5_call0_v89 : Ref sig .tc := ⟨.hbm, 1363, rfl⟩
abbrev main_call5_call0_v90 : Ref sig .tc := ⟨.hbm, 1364, rfl⟩
abbrev main_call5_call0_v91 : Ref sig .tc := ⟨.hbm, 1365, rfl⟩
abbrev main_call5_call0_c_22 : Ref sig .tc := ⟨.hbm, 1366, rfl⟩
abbrev main_call5_call0_v92 : Ref sig .tc := ⟨.hbm, 1367, rfl⟩
abbrev main_call5_call0_v93 : Ref sig .tc := ⟨.hbm, 1368, rfl⟩
abbrev main_call5_call0_c_23 : Ref sig .tc := ⟨.hbm, 1369, rfl⟩
abbrev main_call5_call0_v94 : Ref sig .tc := ⟨.hbm, 1370, rfl⟩
abbrev main_call5_call0_v95 : Ref sig .tc := ⟨.hbm, 1371, rfl⟩
abbrev main_call5_call0_v96 : Ref sig .tc := ⟨.hbm, 1372, rfl⟩
abbrev main_call5_call0_v97 : Ref sig .tc := ⟨.hbm, 1373, rfl⟩
abbrev main_call5_call0_v98 : Ref sig .tc := ⟨.hbm, 1374, rfl⟩
abbrev main_call5_call0_c_24 : Ref sig .tc := ⟨.hbm, 1375, rfl⟩
abbrev main_call5_call0_v99 : Ref sig .tc := ⟨.hbm, 1376, rfl⟩
abbrev main_call5_call0_v100 : Ref sig .tc := ⟨.hbm, 1377, rfl⟩
abbrev main_call5_call0_c_25 : Ref sig .tc := ⟨.hbm, 1378, rfl⟩
abbrev main_call5_call0_v101 : Ref sig .tc := ⟨.hbm, 1379, rfl⟩
abbrev main_call5_call0_v102 : Ref sig .tc := ⟨.hbm, 1380, rfl⟩
abbrev main_call5_call0_v103 : Ref sig .tc := ⟨.hbm, 1381, rfl⟩
abbrev main_call5_call0_v104 : Ref sig .tc := ⟨.hbm, 1382, rfl⟩
abbrev main_call5_call0_v105 : Ref sig .tc := ⟨.hbm, 1383, rfl⟩
abbrev main_call5_call0_v106 : Ref sig .tc := ⟨.hbm, 1384, rfl⟩
abbrev main_call5_call0_v107 : Ref sig .tc := ⟨.hbm, 1385, rfl⟩
abbrev main_call5_call0_v108 : Ref sig .tc := ⟨.hbm, 1386, rfl⟩
abbrev main_call5_call0_c_26 : Ref sig .tc := ⟨.hbm, 1387, rfl⟩
abbrev main_call5_call0_v109 : Ref sig .tc := ⟨.hbm, 1388, rfl⟩
abbrev main_call5_call0_v110 : Ref sig .tc := ⟨.hbm, 1389, rfl⟩
abbrev main_call5_call0_v111 : Ref sig .tc := ⟨.hbm, 1390, rfl⟩
abbrev main_call5_call0_c_27 : Ref sig .tc := ⟨.hbm, 1391, rfl⟩
abbrev main_call5_call0_v112 : Ref sig .tc := ⟨.hbm, 1392, rfl⟩
abbrev main_call5_call0_v113 : Ref sig .tc := ⟨.hbm, 1393, rfl⟩
abbrev main_call5_call0_c_28 : Ref sig .tc := ⟨.hbm, 1394, rfl⟩
abbrev main_call5_call0_v114 : Ref sig .tc := ⟨.hbm, 1395, rfl⟩
abbrev main_call5_call0_v115 : Ref sig .tc := ⟨.hbm, 1396, rfl⟩
abbrev main_call5_call0_v116 : Ref sig .tc := ⟨.hbm, 1397, rfl⟩
abbrev main_call5_call0_v117 : Ref sig .tc := ⟨.hbm, 1398, rfl⟩
abbrev main_call5_call0_v118 : Ref sig .tc := ⟨.hbm, 1399, rfl⟩
abbrev main_call5_call0_c_29 : Ref sig .tc := ⟨.hbm, 1400, rfl⟩
abbrev main_call5_call0_v119 : Ref sig .tc := ⟨.hbm, 1401, rfl⟩
abbrev main_call5_call0_v120 : Ref sig .tc := ⟨.hbm, 1402, rfl⟩
abbrev main_call5_call0_c_30 : Ref sig .tc := ⟨.hbm, 1403, rfl⟩
abbrev main_call5_call0_v121 : Ref sig .tc := ⟨.hbm, 1404, rfl⟩
abbrev main_call5_call0_v122 : Ref sig .tc := ⟨.hbm, 1405, rfl⟩
abbrev main_call5_call0_v123 : Ref sig .tc := ⟨.hbm, 1406, rfl⟩
abbrev main_call5_call0_v124 : Ref sig .tc := ⟨.hbm, 1407, rfl⟩
abbrev main_call5_call0_v125 : Ref sig .tc := ⟨.hbm, 1408, rfl⟩
abbrev main_call5_call0_c_31 : Ref sig .tc := ⟨.hbm, 1409, rfl⟩
abbrev main_call5_call0_v126 : Ref sig .tc := ⟨.hbm, 1410, rfl⟩
abbrev main_call5_call0_v127 : Ref sig .tc := ⟨.hbm, 1411, rfl⟩
abbrev main_call5_call0_c_32 : Ref sig .tc := ⟨.hbm, 1412, rfl⟩
abbrev main_call5_call0_v128 : Ref sig .tc := ⟨.hbm, 1413, rfl⟩
abbrev main_call5_call0_v129 : Ref sig .tc := ⟨.hbm, 1414, rfl⟩
abbrev main_call5_call0_v130 : Ref sig .tc := ⟨.hbm, 1415, rfl⟩
abbrev main_call5_call0_v131 : Ref sig .tc := ⟨.hbm, 1416, rfl⟩
abbrev main_call5_call0_v132 : Ref sig .tc := ⟨.hbm, 1417, rfl⟩
abbrev main_call5_call0_c_33 : Ref sig .tc := ⟨.hbm, 1418, rfl⟩
abbrev main_call5_call0_v133 : Ref sig .tc := ⟨.hbm, 1419, rfl⟩
abbrev main_call5_call0_v134 : Ref sig .tc := ⟨.hbm, 1420, rfl⟩
abbrev main_call5_call0_c_34 : Ref sig .tc := ⟨.hbm, 1421, rfl⟩
abbrev main_call5_call0_v135 : Ref sig .tc := ⟨.hbm, 1422, rfl⟩
abbrev main_call5_call0_v136 : Ref sig .tc := ⟨.hbm, 1423, rfl⟩
abbrev main_call5_call0_v137 : Ref sig .tc := ⟨.hbm, 1424, rfl⟩
abbrev main_call5_call0_v138 : Ref sig .tc := ⟨.hbm, 1425, rfl⟩
abbrev main_call5_call0_v139 : Ref sig .tc := ⟨.hbm, 1426, rfl⟩
abbrev main_call5_call0_v140 : Ref sig .tc := ⟨.hbm, 1427, rfl⟩
abbrev main_call5_call0_v141 : Ref sig .tc := ⟨.hbm, 1428, rfl⟩
abbrev main_call5_call0_v142 : Ref sig .tc := ⟨.hbm, 1429, rfl⟩
abbrev main_call5_call0_c_35 : Ref sig .tc := ⟨.hbm, 1430, rfl⟩
abbrev main_call5_call0_v143 : Ref sig .tc := ⟨.hbm, 1431, rfl⟩
abbrev main_call5_call0_v144 : Ref sig .tc := ⟨.hbm, 1432, rfl⟩
abbrev main_call5_call0_v145 : Ref sig .tc := ⟨.hbm, 1433, rfl⟩
abbrev main_call5_call0_c_36 : Ref sig .tc := ⟨.hbm, 1434, rfl⟩
abbrev main_call5_call0_v146 : Ref sig .tc := ⟨.hbm, 1435, rfl⟩
abbrev main_call5_call0_v147 : Ref sig .tc := ⟨.hbm, 1436, rfl⟩
abbrev main_call5_call0_c_37 : Ref sig .tc := ⟨.hbm, 1437, rfl⟩
abbrev main_call5_call0_v148 : Ref sig .tc := ⟨.hbm, 1438, rfl⟩
abbrev main_call5_call0_v149 : Ref sig .tc := ⟨.hbm, 1439, rfl⟩
abbrev main_call5_call0_v150 : Ref sig .tc := ⟨.hbm, 1440, rfl⟩
abbrev main_call5_call0_v151 : Ref sig .tc := ⟨.hbm, 1441, rfl⟩
abbrev main_call5_call0_v152 : Ref sig .tc := ⟨.hbm, 1442, rfl⟩
abbrev main_call5_call0_c_38 : Ref sig .tc := ⟨.hbm, 1443, rfl⟩
abbrev main_call5_call0_v153 : Ref sig .tc := ⟨.hbm, 1444, rfl⟩
abbrev main_call5_call0_v154 : Ref sig .tc := ⟨.hbm, 1445, rfl⟩
abbrev main_call5_call0_c_39 : Ref sig .tc := ⟨.hbm, 1446, rfl⟩
abbrev main_call5_call0_v155 : Ref sig .tc := ⟨.hbm, 1447, rfl⟩
abbrev main_call5_call0_v156 : Ref sig .tc := ⟨.hbm, 1448, rfl⟩
abbrev main_call5_call0_v157 : Ref sig .tc := ⟨.hbm, 1449, rfl⟩
abbrev main_call5_call0_v158 : Ref sig .tc := ⟨.hbm, 1450, rfl⟩
abbrev main_call5_call0_v159 : Ref sig .tc := ⟨.hbm, 1451, rfl⟩
abbrev main_call5_call0_c_40 : Ref sig .tc := ⟨.hbm, 1452, rfl⟩
abbrev main_call5_call0_v160 : Ref sig .tc := ⟨.hbm, 1453, rfl⟩
abbrev main_call5_call0_v161 : Ref sig .tc := ⟨.hbm, 1454, rfl⟩
abbrev main_call5_call0_c_41 : Ref sig .tc := ⟨.hbm, 1455, rfl⟩
abbrev main_call5_call0_v162 : Ref sig .tc := ⟨.hbm, 1456, rfl⟩
abbrev main_call5_call0_v163 : Ref sig .tc := ⟨.hbm, 1457, rfl⟩
abbrev main_call5_call0_v164 : Ref sig .tc := ⟨.hbm, 1458, rfl⟩
abbrev main_call5_call0_v165 : Ref sig .tc := ⟨.hbm, 1459, rfl⟩
abbrev main_call5_call0_v166 : Ref sig .tc := ⟨.hbm, 1460, rfl⟩
abbrev main_call5_call0_c_42 : Ref sig .tc := ⟨.hbm, 1461, rfl⟩
abbrev main_call5_call0_v167 : Ref sig .tc := ⟨.hbm, 1462, rfl⟩
abbrev main_call5_call0_v168 : Ref sig .tc := ⟨.hbm, 1463, rfl⟩
abbrev main_call5_call0_c_43 : Ref sig .tc := ⟨.hbm, 1464, rfl⟩
abbrev main_call5_call0_v169 : Ref sig .tc := ⟨.hbm, 1465, rfl⟩
abbrev main_call5_call0_v170 : Ref sig .tc := ⟨.hbm, 1466, rfl⟩
abbrev main_call5_call0_v171 : Ref sig .tc := ⟨.hbm, 1467, rfl⟩
abbrev main_call5_call0_v172 : Ref sig .tc := ⟨.hbm, 1468, rfl⟩
abbrev main_call5_call0_v173 : Ref sig .tc := ⟨.hbm, 1469, rfl⟩
abbrev main_call5_v19_0 : Ref sig .tc := ⟨.hbm, 1470, rfl⟩
abbrev main_call5_call0_v175 : Ref sig .tc := ⟨.hbm, 1471, rfl⟩
abbrev main_call5_call0_v176 : Ref sig .tc := ⟨.hbm, 1472, rfl⟩
abbrev main_call5_call0_c_44 : Ref sig .tc := ⟨.hbm, 1473, rfl⟩
abbrev main_call5_call0_v177 : Ref sig .tc := ⟨.hbm, 1474, rfl⟩
abbrev main_call5_v19_1 : Ref sig .tc := ⟨.hbm, 1475, rfl⟩
abbrev main_call5_v20 : Ref sig .tc := ⟨.hbm, 1476, rfl⟩
abbrev main_call5_c_1 : Ref sig .tc := ⟨.hbm, 1477, rfl⟩
abbrev main_call5_v21 : Ref sig .tc := ⟨.hbm, 1478, rfl⟩
abbrev main_call5_v22 : Ref sig .tc := ⟨.hbm, 1479, rfl⟩
abbrev main_call5_c_2 : Ref sig .tc := ⟨.hbm, 1480, rfl⟩
abbrev main_call5_v23 : Ref sig .tc := ⟨.hbm, 1481, rfl⟩
abbrev main_call5_v24 : Ref sig .tc := ⟨.hbm, 1482, rfl⟩
abbrev main_call5_v25 : Ref sig .tc := ⟨.hbm, 1483, rfl⟩
abbrev main_call5_cst : Ref sig .tc := ⟨.hbm, 1484, rfl⟩
abbrev main_call5_v26 : Ref sig .tc := ⟨.hbm, 1485, rfl⟩
abbrev main_call5_v27 : Ref sig .tc := ⟨.hbm, 1486, rfl⟩
abbrev main_call5_v28 : Ref sig .tc := ⟨.hbm, 1487, rfl⟩
abbrev main_call5_v29 : Ref sig .tc := ⟨.hbm, 1488, rfl⟩
abbrev main_call5_v30 : Ref sig .tc := ⟨.hbm, 1489, rfl⟩
abbrev main_call5_v31 : Ref sig .tc := ⟨.hbm, 1490, rfl⟩
abbrev main_call5_v32 : Ref sig .tc := ⟨.hbm, 1491, rfl⟩
abbrev main_call5_v33 : Ref sig .tc := ⟨.hbm, 1492, rfl⟩
abbrev main_call5_v34 : Ref sig .tc := ⟨.hbm, 1493, rfl⟩
abbrev main_call5_v35 : Ref sig .tc := ⟨.hbm, 1494, rfl⟩
abbrev main_call5_v36 : Ref sig .tc := ⟨.hbm, 1495, rfl⟩
abbrev main_v22 : Ref sig .tc := ⟨.hbm, 1496, rfl⟩
abbrev main_v23 : Ref sig .tc := ⟨.hbm, 1497, rfl⟩
abbrev main_v24 : Ref sig .tc := ⟨.hbm, 1498, rfl⟩
abbrev main_v25 : Ref sig .tc := ⟨.hbm, 1499, rfl⟩
abbrev main_v26 : Ref sig .tc := ⟨.hbm, 1500, rfl⟩
abbrev main_v27 : Ref sig .tc := ⟨.hbm, 1501, rfl⟩
abbrev main_v28 : Ref sig .tc := ⟨.hbm, 1502, rfl⟩
abbrev main_v29 : Ref sig .tc := ⟨.hbm, 1503, rfl⟩
abbrev main_v30 : Ref sig .tc := ⟨.hbm, 1504, rfl⟩
abbrev main_c_9 : Ref sig .tc := ⟨.hbm, 1505, rfl⟩
abbrev main_v31 : Ref sig .tc := ⟨.hbm, 1506, rfl⟩
abbrev main_v32 : Ref sig .tc := ⟨.hbm, 1507, rfl⟩
abbrev main_v33 : Ref sig .tc := ⟨.hbm, 1508, rfl⟩
abbrev main_v34 : Ref sig .tc := ⟨.hbm, 1509, rfl⟩
abbrev main_c_10 : Ref sig .tc := ⟨.hbm, 1510, rfl⟩
abbrev main_v35 : Ref sig .tc := ⟨.hbm, 1511, rfl⟩
abbrev main_c_11 : Ref sig .tc := ⟨.hbm, 1512, rfl⟩
abbrev main_call6_v0 : Ref sig .tc := ⟨.hbm, 1513, rfl⟩
abbrev main_call6_v1 : Ref sig .tc := ⟨.hbm, 1514, rfl⟩
abbrev main_call6_v2 : Ref sig .tc := ⟨.hbm, 1515, rfl⟩
abbrev main_v36 : Ref sig .tc := ⟨.hbm, 1516, rfl⟩
abbrev main_v37 : Ref sig .tc := ⟨.hbm, 1517, rfl⟩
abbrev main_c_12 : Ref sig .tc := ⟨.hbm, 1518, rfl⟩
abbrev main_v38 : Ref sig .tc := ⟨.hbm, 1519, rfl⟩
abbrev main_v39 : Ref sig .tc := ⟨.hbm, 1520, rfl⟩
abbrev main_cst_13 : Ref sig .tc := ⟨.hbm, 1521, rfl⟩
abbrev main_v40 : Ref sig .tc := ⟨.hbm, 1522, rfl⟩
abbrev main_v41 : Ref sig .tc := ⟨.hbm, 1523, rfl⟩
abbrev main_v42 : Ref sig .tc := ⟨.hbm, 1524, rfl⟩
abbrev main_c_14 : Ref sig .tc := ⟨.hbm, 1525, rfl⟩
abbrev main_v43 : Ref sig .tc := ⟨.hbm, 1526, rfl⟩
abbrev main_v44 : Ref sig .tc := ⟨.hbm, 1527, rfl⟩
abbrev main_v45 : Ref sig .tc := ⟨.hbm, 1528, rfl⟩
abbrev main_c_15 : Ref sig .tc := ⟨.hbm, 1529, rfl⟩
abbrev main_v46 : Ref sig .tc := ⟨.hbm, 1530, rfl⟩
abbrev main_v47 : Ref sig .tc := ⟨.hbm, 1531, rfl⟩
abbrev main_c_16 : Ref sig .tc := ⟨.hbm, 1532, rfl⟩
abbrev main_v48 : Ref sig .tc := ⟨.hbm, 1533, rfl⟩
abbrev main_v49 : Ref sig .tc := ⟨.hbm, 1534, rfl⟩
abbrev main_c_17 : Ref sig .tc := ⟨.hbm, 1535, rfl⟩
abbrev main_v50 : Ref sig .tc := ⟨.hbm, 1536, rfl⟩
abbrev main_v51 : Ref sig .tc := ⟨.hbm, 1537, rfl⟩
abbrev main_c_18 : Ref sig .tc := ⟨.hbm, 1538, rfl⟩
abbrev main_v52 : Ref sig .tc := ⟨.hbm, 1539, rfl⟩
abbrev main_v53 : Ref sig .tc := ⟨.hbm, 1540, rfl⟩
abbrev main_v54 : Ref sig .tc := ⟨.hbm, 1541, rfl⟩
abbrev main_v55 : Ref sig .tc := ⟨.hbm, 1542, rfl⟩
abbrev main_v56 : Ref sig .tc := ⟨.hbm, 1543, rfl⟩
abbrev main_v57 : Ref sig .tc := ⟨.hbm, 1544, rfl⟩
abbrev main_c_19 : Ref sig .tc := ⟨.hbm, 1545, rfl⟩
abbrev main_v58 : Ref sig .tc := ⟨.hbm, 1546, rfl⟩
abbrev main_v59 : Ref sig .tc := ⟨.hbm, 1547, rfl⟩
abbrev main_c_20 : Ref sig .tc := ⟨.hbm, 1548, rfl⟩
abbrev main_v60 : Ref sig .tc := ⟨.hbm, 1549, rfl⟩
abbrev main_v61 : Ref sig .tc := ⟨.hbm, 1550, rfl⟩
abbrev main_c_21 : Ref sig .tc := ⟨.hbm, 1551, rfl⟩
abbrev main_call8_v0 : Ref sig .tc := ⟨.hbm, 1552, rfl⟩
abbrev main_call8_v1 : Ref sig .tc := ⟨.hbm, 1553, rfl⟩
abbrev main_call8_v2 : Ref sig .tc := ⟨.hbm, 1554, rfl⟩
abbrev main_v62 : Ref sig .tc := ⟨.hbm, 1555, rfl⟩
abbrev main_v63 : Ref sig .tc := ⟨.hbm, 1556, rfl⟩
abbrev main_c_22 : Ref sig .tc := ⟨.hbm, 1557, rfl⟩
abbrev main_v64 : Ref sig .tc := ⟨.hbm, 1558, rfl⟩
abbrev main_v65 : Ref sig .tc := ⟨.hbm, 1559, rfl⟩
abbrev main_c_23 : Ref sig .tc := ⟨.hbm, 1560, rfl⟩
abbrev main_v66 : Ref sig .tc := ⟨.hbm, 1561, rfl⟩
abbrev main_v67 : Ref sig .tc := ⟨.hbm, 1562, rfl⟩
abbrev main_v68 : Ref sig .tc := ⟨.hbm, 1563, rfl⟩
abbrev main_v69 : Ref sig .tc := ⟨.hbm, 1564, rfl⟩
abbrev main_v70 : Ref sig .tc := ⟨.hbm, 1565, rfl⟩
abbrev main_v71 : Ref sig .tc := ⟨.hbm, 1566, rfl⟩
abbrev main_v72 : Ref sig .tc := ⟨.hbm, 1567, rfl⟩
abbrev main_v73 : Ref sig .tc := ⟨.hbm, 1568, rfl⟩
abbrev main_v74 : Ref sig .tc := ⟨.hbm, 1569, rfl⟩
abbrev main_v75 : Ref sig .tc := ⟨.hbm, 1570, rfl⟩
abbrev main_v76 : Ref sig .tc := ⟨.hbm, 1571, rfl⟩
abbrev main_v77 : Ref sig .tc := ⟨.hbm, 1572, rfl⟩
abbrev main_v78 : Ref sig .tc := ⟨.hbm, 1573, rfl⟩
abbrev main_v79 : Ref sig .tc := ⟨.hbm, 1574, rfl⟩
abbrev main_v80 : Ref sig .tc := ⟨.hbm, 1575, rfl⟩
abbrev main_v81 : Ref sig .tc := ⟨.hbm, 1576, rfl⟩
abbrev main_c_24 : Ref sig .tc := ⟨.hbm, 1577, rfl⟩
abbrev main_c_25 : Ref sig .tc := ⟨.hbm, 1578, rfl⟩
abbrev main_call9_v0 : Ref sig .tc := ⟨.hbm, 1579, rfl⟩
abbrev main_call9_v1 : Ref sig .tc := ⟨.hbm, 1580, rfl⟩
abbrev main_call9_v2 : Ref sig .tc := ⟨.hbm, 1581, rfl⟩
abbrev main_call9_v3 : Ref sig .tc := ⟨.hbm, 1582, rfl⟩
abbrev main_call9_v4 : Ref sig .tc := ⟨.hbm, 1583, rfl⟩
abbrev main_v82 : Ref sig .tc := ⟨.hbm, 1584, rfl⟩
abbrev main_c_26 : Ref sig .tc := ⟨.hbm, 1585, rfl⟩
abbrev main_v83 : Ref sig .tc := ⟨.hbm, 1586, rfl⟩
abbrev main_v84 : Ref sig .tc := ⟨.hbm, 1587, rfl⟩
abbrev main_c_27 : Ref sig .tc := ⟨.hbm, 1588, rfl⟩
abbrev main_v85 : Ref sig .tc := ⟨.hbm, 1589, rfl⟩
abbrev main_v86 : Ref sig .tc := ⟨.hbm, 1590, rfl⟩
abbrev main_v87 : Ref sig .tc := ⟨.hbm, 1591, rfl⟩
abbrev main_c_28 : Ref sig .tc := ⟨.hbm, 1592, rfl⟩
abbrev main_v88 : Ref sig .tc := ⟨.hbm, 1593, rfl⟩
abbrev main_v89 : Ref sig .tc := ⟨.hbm, 1594, rfl⟩
abbrev main_c_29 : Ref sig .tc := ⟨.hbm, 1595, rfl⟩
abbrev main_v90 : Ref sig .tc := ⟨.hbm, 1596, rfl⟩
abbrev main_v91 : Ref sig .tc := ⟨.hbm, 1597, rfl⟩
abbrev main_v92 : Ref sig .tc := ⟨.hbm, 1598, rfl⟩
abbrev main_v93 : Ref sig .tc := ⟨.hbm, 1599, rfl⟩
abbrev main_v94 : Ref sig .tc := ⟨.hbm, 1600, rfl⟩
abbrev main_v95 : Ref sig .tc := ⟨.hbm, 1601, rfl⟩
abbrev main_v96 : Ref sig .tc := ⟨.hbm, 1602, rfl⟩
abbrev main_v97 : Ref sig .tc := ⟨.hbm, 1603, rfl⟩
abbrev main_c_30 : Ref sig .tc := ⟨.hbm, 1604, rfl⟩
abbrev main_c_31 : Ref sig .tc := ⟨.hbm, 1605, rfl⟩
abbrev main_call10_v0 : Ref sig .tc := ⟨.hbm, 1606, rfl⟩
abbrev main_call10_v1 : Ref sig .tc := ⟨.hbm, 1607, rfl⟩
abbrev main_call10_v2 : Ref sig .tc := ⟨.hbm, 1608, rfl⟩
abbrev main_call10_v3 : Ref sig .tc := ⟨.hbm, 1609, rfl⟩
abbrev main_call10_v4 : Ref sig .tc := ⟨.hbm, 1610, rfl⟩
abbrev main_v98 : Ref sig .tc := ⟨.hbm, 1611, rfl⟩
abbrev main_c_32 : Ref sig .tc := ⟨.hbm, 1612, rfl⟩
abbrev main_v99 : Ref sig .tc := ⟨.hbm, 1613, rfl⟩
abbrev main_v100 : Ref sig .tc := ⟨.hbm, 1614, rfl⟩
abbrev main_c_33 : Ref sig .tc := ⟨.hbm, 1615, rfl⟩
abbrev main_v101 : Ref sig .tc := ⟨.hbm, 1616, rfl⟩
abbrev main_v102 : Ref sig .tc := ⟨.hbm, 1617, rfl⟩
abbrev main_v103 : Ref sig .tc := ⟨.hbm, 1618, rfl⟩
abbrev main_c_34 : Ref sig .tc := ⟨.hbm, 1619, rfl⟩
abbrev main_v104 : Ref sig .tc := ⟨.hbm, 1620, rfl⟩
abbrev main_v105 : Ref sig .tc := ⟨.hbm, 1621, rfl⟩
abbrev main_c_35 : Ref sig .tc := ⟨.hbm, 1622, rfl⟩
abbrev main_v106 : Ref sig .tc := ⟨.hbm, 1623, rfl⟩
abbrev main_v107 : Ref sig .tc := ⟨.hbm, 1624, rfl⟩
abbrev main_v108 : Ref sig .tc := ⟨.hbm, 1625, rfl⟩
abbrev main_v109 : Ref sig .tc := ⟨.hbm, 1626, rfl⟩
abbrev main_v110 : Ref sig .tc := ⟨.hbm, 1627, rfl⟩
abbrev main_v111 : Ref sig .tc := ⟨.hbm, 1628, rfl⟩
abbrev main_v112 : Ref sig .tc := ⟨.hbm, 1629, rfl⟩
abbrev main_v113 : Ref sig .tc := ⟨.hbm, 1630, rfl⟩
abbrev main_cst_36 : Ref sig .tc := ⟨.hbm, 1631, rfl⟩
abbrev main_call11_v0 : Ref sig .tc := ⟨.hbm, 1632, rfl⟩
abbrev main_call11_v1 : Ref sig .tc := ⟨.hbm, 1633, rfl⟩
abbrev main_v114 : Ref sig .tc := ⟨.hbm, 1634, rfl⟩
abbrev main_call12_v0 : Ref sig .tc := ⟨.hbm, 1635, rfl⟩
abbrev main_call12_v1_0 : Ref sig .tc := ⟨.hbm, 1636, rfl⟩
abbrev main_v115 : Ref sig .tc := ⟨.hbm, 1637, rfl⟩
abbrev main_c_37 : Ref sig .tc := ⟨.hbm, 1638, rfl⟩
abbrev main_v116 : Ref sig .tc := ⟨.hbm, 1639, rfl⟩
abbrev main_v117 : Ref sig .tc := ⟨.hbm, 1640, rfl⟩
abbrev main_c_38 : Ref sig .tc := ⟨.hbm, 1641, rfl⟩
abbrev main_v118 : Ref sig .tc := ⟨.hbm, 1642, rfl⟩
abbrev main_v119 : Ref sig .tc := ⟨.hbm, 1643, rfl⟩
abbrev main_v120 : Ref sig .tc := ⟨.hbm, 1644, rfl⟩
abbrev main_c_39 : Ref sig .tc := ⟨.hbm, 1645, rfl⟩
abbrev main_v121 : Ref sig .tc := ⟨.hbm, 1646, rfl⟩
abbrev main_v122 : Ref sig .tc := ⟨.hbm, 1647, rfl⟩
abbrev main_c_40 : Ref sig .tc := ⟨.hbm, 1648, rfl⟩
abbrev main_v123 : Ref sig .tc := ⟨.hbm, 1649, rfl⟩
abbrev main_v124 : Ref sig .tc := ⟨.hbm, 1650, rfl⟩
abbrev main_v125 : Ref sig .tc := ⟨.hbm, 1651, rfl⟩
abbrev main_v126 : Ref sig .tc := ⟨.hbm, 1652, rfl⟩
abbrev main_v127 : Ref sig .tc := ⟨.hbm, 1653, rfl⟩
abbrev main_v128 : Ref sig .tc := ⟨.hbm, 1654, rfl⟩
abbrev main_v129 : Ref sig .tc := ⟨.hbm, 1655, rfl⟩
abbrev main_v130 : Ref sig .tc := ⟨.hbm, 1656, rfl⟩
abbrev main_v131 : Ref sig .tc := ⟨.hbm, 1657, rfl⟩
abbrev main_v132 : Ref sig .tc := ⟨.hbm, 1658, rfl⟩
abbrev main_v133 : Ref sig .tc := ⟨.hbm, 1659, rfl⟩
abbrev main_c_41 : Ref sig .tc := ⟨.hbm, 1660, rfl⟩
abbrev main_call13_v0 : Ref sig .tc := ⟨.hbm, 1661, rfl⟩
abbrev main_call13_v1 : Ref sig .tc := ⟨.hbm, 1662, rfl⟩
abbrev main_v134 : Ref sig .tc := ⟨.hbm, 1663, rfl⟩
abbrev main_c_42 : Ref sig .tc := ⟨.hbm, 1664, rfl⟩
abbrev main_v135 : Ref sig .tc := ⟨.hbm, 1665, rfl⟩
abbrev main_v136 : Ref sig .tc := ⟨.hbm, 1666, rfl⟩
abbrev main_c_43 : Ref sig .tc := ⟨.hbm, 1667, rfl⟩
abbrev main_v137 : Ref sig .tc := ⟨.hbm, 1668, rfl⟩
abbrev main_v138 : Ref sig .tc := ⟨.hbm, 1669, rfl⟩
abbrev main_v139 : Ref sig .tc := ⟨.hbm, 1670, rfl⟩
abbrev main_c_44 : Ref sig .tc := ⟨.hbm, 1671, rfl⟩
abbrev main_v140 : Ref sig .tc := ⟨.hbm, 1672, rfl⟩
abbrev main_v141 : Ref sig .tc := ⟨.hbm, 1673, rfl⟩
abbrev main_c_45 : Ref sig .tc := ⟨.hbm, 1674, rfl⟩
abbrev main_v142 : Ref sig .tc := ⟨.hbm, 1675, rfl⟩
abbrev main_v143 : Ref sig .tc := ⟨.hbm, 1676, rfl⟩
abbrev main_v144 : Ref sig .tc := ⟨.hbm, 1677, rfl⟩
abbrev main_v145 : Ref sig .tc := ⟨.hbm, 1678, rfl⟩
abbrev main_v146 : Ref sig .tc := ⟨.hbm, 1679, rfl⟩
abbrev main_v147 : Ref sig .tc := ⟨.hbm, 1680, rfl⟩
abbrev main_v148 : Ref sig .tc := ⟨.hbm, 1681, rfl⟩
abbrev main_v149 : Ref sig .tc := ⟨.hbm, 1682, rfl⟩

abbrev nD : Nat := 1
abbrev τ : Topo := Topo.v7x

variable {F : FTy → Type} [FloatOps F]
-- ==== Proof.Hold.lean ====
/-
  Holding a whole scratch buffer at a value. `holds c M v` says that thread `c` has the buffer of the whole memref `M`
  outright and that it reads `v`; the rules below step a load, an indexed load and an indexed store over it, so that the
  proofs of the kernel's body speak of vectors and never of the views they are read through.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Hold

open Idealize.ShloMosaic
open Idealize.ShloMosaic.SparseCore (vectorLoadIdx vectorStoreIdx)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {s t : Shape} {e : EltTy} {α : Type}

local notation "𝕄" => MT nD τ sig Ix (Elt F) Name U Lvl

/-- Thread `c` has the buffer behind `M` whole, and it reads `v`. -/
def holds (M : Memref sig c.2.kind .vmem s e) (v : Vec F s e) : sProp 𝕄 :=
  iprop(∃ f, ⌜M.view.read (Elt F) f = v⌝ ∗ (M.view.loc c ↦{fullShare} f))

variable {Q : α → sProp (MT nD τ sig Ix (Elt F) Name U Lvl)}

/-! ## A whole memref's view -/

section views

variable {κ : Kind} {sp : Space} {M : Memref sig κ sp s e}

omit [FloatOps F] in
theorem set_access (hM : M.IsWhole) : (M.access (.whole s)).set = Finset.univ := by
  obtain ⟨b, rfl, rfl, rfl, hb⟩ := hM; cases hb
  exact Memref.set_access_whole b

omit [FloatOps F] in
theorem read_access (hM : M.IsWhole) (f : M.view.ty.Contents (Elt F)) :
    (M.access (.whole s)).read (Elt F) f = M.view.read (Elt F) f := by
  obtain ⟨b, rfl, rfl, rfl, hb⟩ := hM; cases hb
  rw [Memref.read_access_whole]; rfl

omit [FloatOps F] in
theorem read_write (hM : M.IsWhole) (f : M.view.ty.Contents (Elt F)) (w : Vec F s e) :
    M.view.read (Elt F) ((M.access (.whole s)).write (Elt F) f w Finset.univ) = w := by
  obtain ⟨b, rfl, rfl, rfl, hb⟩ := hM; cases hb
  rw [Memref.write_access_whole_univ]; rfl

end views

/-! ## The rules -/

/-- A load through a rectangle, at the value held. -/
theorem wp_load {M : Memref sig c.2.kind .vmem s e} {v : Vec F s e} {r : Rect s} {hl : M.view.LoadsAt r.toLoadRect}
    {k : (r.toLoadRect.shape.Idx → Elt F e) → Prog (TpuEff nD τ sig (Elt F) Λ c.2) α} :
    (holds c M v : sProp 𝕄)
      ⊢ iprop((holds c M v -∗ wp frame (wpE defs 𝒱 c bd) Set.univ (k (fun x => v (r.toLoadRect.idx x))) Q)
        -∗ wp frame (wpE defs 𝒱 c bd) Set.univ (Prog.lift (.load M r.toLoadRect hl) >>= k) Q) := by
  unfold holds
  iintro ⟨%f, %hf, H⟩ Hk
  iapply (Idealize.ShloMosaic.wp_load 𝒱 c bd Set.univ (m := M) (r := r.toLoadRect) (Finset.subset_univ _)) $$ H
  iintro H
  rw [show M.view.readAt (Elt F) r.toLoadRect f = fun x => v (r.toLoadRect.idx x) from by subst hf; rfl]
  iapply Hk
  iexists f
  isplitr [H]
  · ipureintro; exact hf
  · iexact H

/-- An indexed load, at the value held. -/
theorem wp_loadIdx {M : Memref sig c.2.kind .vmem s e} (hM : M.IsWhole) {v : Vec F s e} {idxs : Fin s.rank → IVec t 32}
    {h : ∀ a x, (idxs a x).toNat < s.size a} {hl : M.view.Loads}
    {k : Vec F t e → Prog (TpuEff nD τ sig (Elt F) Λ c.2) α} :
    (holds c M v : sProp 𝕄)
      ⊢ iprop((holds c M v -∗ wp frame (wpE defs 𝒱 c bd) Set.univ (k (loadIdx v idxs h)) Q)
        -∗ wp frame (wpE defs 𝒱 c bd) Set.univ (vectorLoadIdx M idxs h hl >>= k) Q) := by
  unfold holds
  iintro ⟨%f, %hf, H⟩ Hk
  iapply (SparseCore.wp_vectorLoadIdx 𝒱 c bd Set.univ (base := M) (S := Finset.univ) (q := fullShare) (f := f) (Finset.subset_univ _)) $$ H
  iintro H
  rw [read_access hM f, hf]
  iapply Hk
  iexists f
  isplitr [H]
  · ipureintro; exact hf
  · iexact H

/-- An indexed store, at the value held. -/
theorem wp_storeIdx {d : Fin 1 → Nat} {M : Memref sig c.2.kind .vmem s e} (hM : M.IsWhole) {v : Vec F s e}
    {idxs : Fin s.rank → IVec ⟨1, d⟩ 32} {w : Vec F ⟨1, d⟩ e} {mask : IVec ⟨1, d⟩ 1} {add : Bool}
    {h : ∀ a x, (idxs a x).toNat < s.size a} {hs : (M.access (.whole s)).Stores Finset.univ}
    {k : PUnit → Prog (TpuEff nD τ sig (Elt F) Λ c.2) α} :
    (holds c M v : sProp 𝕄)
      ⊢ iprop((holds c M (storeIdx v idxs w mask add h) -∗ wp frame (wpE defs 𝒱 c bd) Set.univ (k ⟨⟩) Q)
        -∗ wp frame (wpE defs 𝒱 c bd) Set.univ (vectorStoreIdx M idxs w mask add h hs >>= k) Q) := by
  unfold holds
  iintro ⟨%f, %hf, H⟩ Hk
  have key := SparseCore.wp_vectorStoreIdx (defs := defs) (Q := Q) 𝒱 c bd Set.univ (base := M) (idxs := idxs) (v := w) (mask := mask)
    (add := add) (h := h) (hs := hs) (k := k) (f := f)
  rw [set_access hM, read_access hM f, hf] at key
  iapply key $$ H
  iintro H
  iapply Hk
  iexists ((M.access (.whole s)).write (Elt F) f (storeIdx v idxs w mask add h) Finset.univ)
  isplitr [H]
  · ipureintro; exact read_write hM f _
  · iexact H

end Cert.Proof.Hold
-- ==== Proof.Lanes.lean ====
/-
  Vectors of sixteen lanes: an indexed store read back, a running count, and one step of the compaction the kernel runs on a
  chunk of sixteen positions (each lane whose bit is set goes, in order, to the front).
-/
module

public import proofs.«01_k».proof.Proof.Hold
public import proofs.«01_k».proof.Proof.Gen.KernelIdeal
public import proofs.«01_k».proof.Proof.Gen.KernelIdeal.Skeleton
public import Idealize.ShloMosaic.Lib.WordCmp

@[expose] public section

noncomputable section

namespace Cert.Proof.Lanes

open Cert.KernelIdeal Cert.KernelIdeal.Gen
open Idealize.ShloMosaic

variable {F : FTy → Type} [FloatOps F]

/-! ## An indexed store, read back -/

section store

variable {s : Shape} {e : EltTy} {d : Fin 1 → Nat} {idxs : Fin s.rank → IVec ⟨1, d⟩ 32} {w : Vec F ⟨1, d⟩ e} {mask : IVec ⟨1, d⟩ 1}
  {h : ∀ a x, (idxs a x).toNat < s.size a}

/-- One lane's store, as the fold takes it. -/
def put (idxs : Fin s.rank → IVec ⟨1, d⟩ 32) (w : Vec F ⟨1, d⟩ e) (mask : IVec ⟨1, d⟩ 1) (h : ∀ a x, (idxs a x).toNat < s.size a)
    (g : Vec F s e) (k : Fin (d 0)) : Vec F s e :=
  if mask (Shape.ofLane k) = 1 then
    fun j => if (∀ a, (j a).val = (idxAt idxs h (Shape.ofLane k) a).val) then w (Shape.ofLane k) else g j
  else g

theorem storeIdx_eq (f : Vec F s e) : storeIdx f idxs w mask false h = (List.finRange (d 0)).foldl (put idxs w mask h) f := by
  unfold storeIdx
  refine congrArg (fun g => List.foldl g f (List.finRange (d 0))) ?_
  funext g k
  simp [put]

theorem put_miss {g : Vec F s e} {k : Fin (d 0)} {j : s.Idx} (hj : mask (Shape.ofLane k) = 1 → idxAt idxs h (Shape.ofLane k) ≠ j) :
    put idxs w mask h g k j = g j := by
  unfold put
  split
  · rename_i hm
    refine if_neg fun hh => hj hm ?_
    funext a; exact Fin.ext (hh a).symm
  · rfl

theorem put_hit {g : Vec F s e} {k : Fin (d 0)} (hm : mask (Shape.ofLane k) = 1) :
    put idxs w mask h g k (idxAt idxs h (Shape.ofLane k)) = w (Shape.ofLane k) := by
  unfold put; rw [if_pos hm]; exact if_pos fun _ => rfl

theorem fold_miss {j : s.Idx} : ∀ (l : List (Fin (d 0))) (f : Vec F s e),
    (∀ k ∈ l, mask (Shape.ofLane k) = 1 → idxAt idxs h (Shape.ofLane k) ≠ j) → l.foldl (put idxs w mask h) f j = f j
  | [], _, _ => rfl
  | k :: l, f, hl => by
    rw [List.foldl_cons, fold_miss l _ fun k' hk' => hl k' (List.mem_cons_of_mem _ hk')]
    exact put_miss (hl k List.mem_cons_self)

theorem fold_hit {k : Fin (d 0)} (hm : mask (Shape.ofLane k) = 1)
    (hu : ∀ k', mask (Shape.ofLane k') = 1 → idxAt idxs h (Shape.ofLane k') = idxAt idxs h (Shape.ofLane k) → k' = k) :
    ∀ (l : List (Fin (d 0))) (f : Vec F s e), k ∈ l →
      l.foldl (put idxs w mask h) f (idxAt idxs h (Shape.ofLane k)) = w (Shape.ofLane k)
  | [], _, hk => by simp at hk
  | k' :: l, f, hk => by
    rw [List.foldl_cons]
    by_cases hl : k ∈ l
    · exact fold_hit hm hu l _ hl
    · obtain rfl : k = k' := by simpa [hl] using hk
      rw [fold_miss l _ fun k' hk' hm' he => hl (hu k' hm' he ▸ hk')]
      exact put_hit hm

/-- An index no lane names keeps its value. -/
theorem storeIdx_miss (f : Vec F s e) {j : s.Idx} (hj : ∀ k, mask (Shape.ofLane k) = 1 → idxAt idxs h (Shape.ofLane k) ≠ j) :
    storeIdx f idxs w mask false h j = f j := by
  rw [storeIdx_eq]; exact fold_miss _ _ fun k _ => hj k

/-- The index one lane alone names holds that lane's value. -/
theorem storeIdx_hit (f : Vec F s e) {k : Fin (d 0)} (hm : mask (Shape.ofLane k) = 1)
    (hu : ∀ k', mask (Shape.ofLane k') = 1 → idxAt idxs h (Shape.ofLane k') = idxAt idxs h (Shape.ofLane k) → k' = k) :
    storeIdx f idxs w mask false h (idxAt idxs h (Shape.ofLane k)) = w (Shape.ofLane k) := by
  rw [storeIdx_eq]; exact fold_hit hm hu _ _ (List.mem_finRange k)

end store

/-! ## Sixteen lanes -/

/-- Lane `k`. -/
abbrev ln (k : Fin 16) : S16.Idx := Shape.ofLane (d := ![16]) k

theorem ln_surj (x : S16.Idx) : ln (x 0) = x := by
  funext a; obtain rfl : a = 0 := Subsingleton.elim _ _; rfl

theorem ext16 {α : Type} {f g : S16.Idx → α} (h : ∀ k, f (ln k) = g (ln k)) : f = g := by
  funext x; rw [← ln_surj x]; exact h _

/-- The two readings of an indexed store, at sixteen lanes. -/
theorem store_miss {s : Shape} {e : EltTy} {idxs : Fin s.rank → IVec S16 32} {w : Vec F S16 e} {mask : IVec S16 1}
    {h : ∀ a x, (idxs a x).toNat < s.size a} (f : Vec F s e) {j : s.Idx}
    (hj : ∀ k : Fin 16, mask (ln k) = 1#1 → idxAt idxs h (ln k) ≠ j) : storeIdx f idxs w mask false h j = f j :=
  storeIdx_miss (d := ![16]) f hj

theorem store_hit {s : Shape} {e : EltTy} {idxs : Fin s.rank → IVec S16 32} {w : Vec F S16 e} {mask : IVec S16 1}
    {h : ∀ a x, (idxs a x).toNat < s.size a} (f : Vec F s e) (k : Fin 16) (hm : mask (ln k) = 1#1)
    (hu : ∀ k' : Fin 16, mask (ln k') = 1#1 → idxAt idxs h (ln k') = idxAt idxs h (ln k) → k' = k) :
    storeIdx f idxs w mask false h (idxAt idxs h (ln k)) = w (ln k) :=
  storeIdx_hit (d := ![16]) (k := k) f hm hu

/-- Entry `p` of the packed positions. -/
abbrev at256 (p : Fin 256) : S256.Idx := Shape.ofLane (d := ![256]) p

/-! ## A running count -/

/-- How many of the first `n` naturals satisfy `p`. -/
def cnt (p : ℕ → Bool) : ℕ → ℕ
  | 0 => 0
  | n + 1 => cnt p n + (if p n then 1 else 0)

theorem cnt_succ (p : ℕ → Bool) (n : ℕ) : cnt p (n + 1) = cnt p n + (if p n then 1 else 0) := rfl

theorem cnt_le (p : ℕ → Bool) (n : ℕ) : cnt p n ≤ n := by
  induction n with
  | zero => exact le_rfl
  | succ n ih => rw [cnt_succ]; split <;> omega

theorem cnt_mono (p : ℕ → Bool) {a b : ℕ} (h : a ≤ b) : cnt p a ≤ cnt p b := by
  induction b, h using Nat.le_induction with
  | base => exact le_rfl
  | succ n _ ih => rw [cnt_succ]; omega

theorem cnt_lt (p : ℕ → Bool) {a b : ℕ} (h : a < b) (ha : p a = true) : cnt p a < cnt p b := by
  have h1 : cnt p (a + 1) = cnt p a + 1 := by rw [cnt_succ, if_pos ha]
  have := cnt_mono p (Nat.succ_le_of_lt h)
  simp only [Nat.succ_eq_add_one] at this
  omega

theorem cnt_sub (p : ℕ → Bool) {a b : ℕ} (h : a ≤ b) : cnt p b - cnt p a ≤ b - a := by
  induction b, h using Nat.le_induction with
  | base => omega
  | succ n hn ih => rw [cnt_succ]; have := cnt_mono p hn; split <;> omega

theorem cnt_add (p : ℕ → Bool) (a b : ℕ) : cnt p (a + b) = cnt p a + cnt (fun k => p (a + k)) b := by
  induction b with
  | zero => rfl
  | succ b ih => rw [← Nat.add_assoc, cnt_succ, cnt_succ, ih, Nat.add_assoc]

theorem cnt_congr {p q : ℕ → Bool} {n : ℕ} (h : ∀ k < n, p k = q k) : cnt p n = cnt q n := by
  induction n with
  | zero => rfl
  | succ n ih => rw [cnt_succ, cnt_succ, ih fun k hk => h k (by omega), h n (by omega)]

theorem cnt_false {p : ℕ → Bool} {a b : ℕ} (hab : a ≤ b) (h : ∀ k, a ≤ k → k < b → p k = false) : cnt p b = cnt p a := by
  induction b, hab using Nat.le_induction with
  | base => rfl
  | succ n hn ih => rw [cnt_succ, ih fun k h1 h2 => h k h1 (by omega), h n hn (by omega)]; rfl

/-! ## The count over the lanes of a mask -/

/-- The bits of a mask as a predicate of the naturals. -/
def bits (m : IVec S16 1) (k : ℕ) : Bool := if h : k < 16 then m (ln ⟨k, h⟩) == 1#1 else false

theorem bits_ln (m : IVec S16 1) (k : Fin 16) : bits m k = (m (ln k) == 1#1) := by simp [bits]

theorem bv1_cases (b : BitVec 1) : b = 0#1 ∨ b = 1#1 := by
  rcases b with ⟨⟨n, hn⟩⟩; have : n = 0 ∨ n = 1 := by omega
  rcases this with rfl | rfl <;> simp

/-- The running sum of a mask's ones. -/
def run (m : IVec S16 1) : IVec S16 32 := scan .sum (select m (broadcast S16 1#32) (broadcast S16 0#32))

theorem scan_zero (v : IVec S16 32) : scan .sum v (ln 0) = v (ln 0) := rfl

theorem scan_succ (v : IVec S16 32) : ∀ k : Fin 15, scan .sum v (ln k.succ) = scan .sum v (ln k.castSucc) + v (ln k.succ) := by
  intro k; fin_cases k <;> rfl

theorem run_eq (m : IVec S16 1) (k : Fin 16) : run m (ln k) = BitVec.ofNat 32 (cnt (bits m) (k + 1)) := by
  have hv : ∀ k : Fin 16, select m (broadcast S16 1#32) (broadcast S16 0#32) (ln k) = BitVec.ofNat 32 (if bits m k then 1 else 0) := by
    intro k
    show Scalar.select (m (ln k)) _ _ = _
    rw [bits_ln]
    rcases bv1_cases (m (ln k)) with h | h <;> rw [h] <;> rfl
  obtain ⟨n, hn⟩ := k
  induction n with
  | zero => rw [run]; refine (scan_zero _).trans ?_; rw [hv]; show _ = BitVec.ofNat 32 (0 + _); rw [Nat.zero_add]; rfl
  | succ n ih =>
    rw [run]; refine (scan_succ _ ⟨n, by omega⟩).trans ?_
    rw [hv]; refine (congrArg (· + _) (ih (by omega))).trans ?_
    show _ = BitVec.ofNat 32 (cnt (bits m) (n + 1) + _)
    rw [BitVec.ofNat_add]; rfl

/-- The number of ones in a mask, in every lane. -/
def tot (m : IVec S16 1) : IVec S16 32 :=
  broadcast S16 (extractAt ![0] (extractStridedSlice S1 ![15] (run m) slices_S16_o15_S1) inpos_S1_p0)

theorem tot_eq (m : IVec S16 1) (x : S16.Idx) : tot m x = BitVec.ofNat 32 (cnt (bits m) 16) := by
  rw [← show (((15 : Fin 16) : ℕ) + 1) = 16 from rfl, ← run_eq]
  unfold tot broadcast extractAt extractStridedSlice
  refine congrArg (run m) ?_
  funext a; obtain rfl : a = 0 := Subsingleton.elim _ _; rfl

/-- The lanes' own numbers. -/
def IsLane (v : IVec S16 32) : Prop := ∀ k : Fin 16, v (ln k) = BitVec.ofNat 32 k

/-- Where each lane goes: the ones in order to the front, the others in order behind them. -/
def rank (v : IVec S16 32) (m : IVec S16 1) : IVec S16 32 :=
  select m (subi (run m) (broadcast S16 1#32)) (subi (addi (tot m) v) (run m))

/-- The same as a natural. -/
def rk (p : ℕ → Bool) (k : ℕ) : ℕ := if p k then cnt p k else cnt p 16 + (k - cnt p k)

theorem rk_lt (p : ℕ → Bool) {k : ℕ} (hk : k < 16) : rk p k < 16 := by
  have h1 := cnt_le p k; have h2 := cnt_sub p (a := k) (b := 16) (by omega)
  have h3 := cnt_sub p (a := k + 1) (b := 16) (by omega)
  have h4 := cnt_succ p k
  unfold rk; split
  · omega
  · rename_i hp; rw [if_neg hp] at h4; omega

theorem rk_inj (p : ℕ → Bool) {j k : ℕ} (hj : j < 16) (hk : k < 16) (h : rk p j = rk p k) : j = k := by
  wlog hlt : j ≤ k generalizing j k
  · exact (this hk hj h.symm (by omega)).symm
  by_contra hne
  have hlt : j < k := by omega
  have h1 := cnt_le p k; have h2 := cnt_le p j; have h3 := cnt_mono p (a := k) (b := 16) (by omega)
  have h4 := cnt_mono p (a := j) (b := 16) (by omega)
  have h5 := cnt_sub p (a := j + 1) (b := k) (by omega)
  have h6 := cnt_succ p j
  have h7 := cnt_succ p k
  have h8 := cnt_mono p (a := k + 1) (b := 16) (by omega)
  have h9 := cnt_mono p (a := j + 1) (b := 16) (by omega)
  have h10 := cnt_mono p (a := j + 1) (b := k) (by omega)
  unfold rk at h
  split at h <;> split at h <;> simp_all <;> omega

theorem toNat_ofNat {n : ℕ} (h : n < 2 ^ 32) : (BitVec.ofNat 32 n).toNat = n := by
  rw [BitVec.toNat_ofNat, Nat.mod_eq_of_lt h]

theorem rank_eq {v : IVec S16 32} (hv : IsLane v) (m : IVec S16 1) (k : Fin 16) :
    rank v m (ln k) = BitVec.ofNat 32 (rk (bits m) k) := by
  have h1 := cnt_le (bits m) k; have h2 := cnt_le (bits m) 16; have h3 := cnt_succ (bits m) k
  have hk := k.isLt
  show Scalar.select (m (ln k)) (run m (ln k) - 1#32) (tot m (ln k) + v (ln k) - run m (ln k)) = _
  rw [run_eq, tot_eq, hv k]
  unfold rk
  rw [bits_ln] at *
  rcases bv1_cases (m (ln k)) with h | h <;> rw [h] at h3 ⊢
  · refine BitVec.eq_of_toNat_eq ?_
    show (BitVec.ofNat 32 _ + BitVec.ofNat 32 _ - BitVec.ofNat 32 _ : BitVec 32).toNat = (BitVec.ofNat 32 (cnt (bits m) 16 + _)).toNat
    have h3 : cnt (bits m) (k + 1) = cnt (bits m) k := h3
    rw [h3, BitVec.toNat_sub, BitVec.toNat_add]
    simp only [BitVec.toNat_ofNat]
    have := Nat.mod_eq_of_lt (show cnt (bits m) k < 2 ^ 32 by omega)
    omega
  · refine BitVec.eq_of_toNat_eq ?_
    show (BitVec.ofNat 32 _ - 1#32 : BitVec 32).toNat = (BitVec.ofNat 32 (cnt (bits m) k)).toNat
    have h3 : cnt (bits m) (k + 1) = cnt (bits m) k + 1 := h3
    rw [h3, BitVec.toNat_sub]
    simp only [BitVec.toNat_ofNat]
    omega

theorem rank_lt {v : IVec S16 32} (hv : IsLane v) (m : IVec S16 1) (x : S16.Idx) : (rank v m x).toNat < 16 := by
  obtain ⟨k, rfl⟩ : ∃ k, ln k = x := ⟨x 0, ln_surj x⟩
  rw [rank_eq hv, toNat_ofNat (by have := rk_lt (bits m) k.isLt; omega)]
  exact rk_lt _ k.isLt

theorem at16 {n : ℕ} (hn : n < 16) {u : IVec S16 32} {h : ∀ a x, ((![u] : Fin 1 → IVec S16 32) a x).toNat < S16.size a} {x : S16.Idx}
    (hx : (u x).toNat = n) : idxAt (s := S16) ![u] h x = ln ⟨n, hn⟩ := by
  funext a; obtain rfl : a = 0 := Subsingleton.elim _ _; exact Fin.ext hx

theorem at256_of {n : ℕ} (hn : n < 256) {u : IVec S16 32} {h : ∀ a x, ((![u] : Fin 1 → IVec S16 32) a x).toNat < S256.size a} {x : S16.Idx}
    (hx : (u x).toNat = n) : idxAt (s := S256) ![u] h x = at256 ⟨n, hn⟩ := by
  funext a; obtain rfl : a = 0 := Subsingleton.elim _ _; exact Fin.ext hx

/-- The values in the order of their ranks: the lane of rank `r` is read at `r`. -/
theorem sorted_at {v : IVec S16 32} (hv : IsLane v) (m : IVec S16 1) (st w : Vec F S16 .i32)
    (h : ∀ a x, ((![rank v m] : Fin 1 → IVec S16 32) a x).toNat < S16.size a) (k : Fin 16) :
    storeIdx st ![rank v m] w (fun _ => 1#1) false h (ln ⟨rk (bits m) k, rk_lt _ k.isLt⟩) = w (ln k) := by
  have hr : ∀ k : Fin 16, (rank v m (ln k)).toNat = rk (bits m) k := fun k => by
    rw [rank_eq hv, toNat_ofNat (by have := rk_lt (bits m) k.isLt; omega)]
  have e : ∀ k : Fin 16, idxAt (s := S16) ![rank v m] h (ln k) = ln ⟨rk (bits m) k, rk_lt _ k.isLt⟩ := fun k => at16 _ (hr k)
  rw [← e k]
  refine store_hit (s := S16) st k rfl fun k' _ he => ?_
  rw [e, e] at he
  have := congrArg (fun x : S16.Idx => (x 0).val) he
  exact Fin.ext (rk_inj (bits m) k'.isLt k.isLt this)

/-- One chunk's step: with `C` positions packed already, the set lanes' values are packed behind them. -/
theorem pack_step {v : IVec S16 32} (hv : IsLane v) (m : IVec S16 1) (st w : Vec F S16 .i32) (pk : Vec F S256 .i32) {C : ℕ} (hC : C ≤ 192)
    {carry : IVec S16 32} (hc : ∀ x, carry x = BitVec.ofNat 32 C)
    (h : ∀ a x, ((![rank v m] : Fin 1 → IVec S16 32) a x).toNat < S16.size a)
    (h' : ∀ a x, ((![addi carry v] : Fin 1 → IVec S16 32) a x).toNat < S256.size a) :
    let pk' := storeIdx pk ![addi carry v] (storeIdx st ![rank v m] w (fun _ => 1#1) false h) (cmpi .slt v (tot m)) false h'
    (∀ k : Fin 16, bits m k = true → ∀ hb : C + cnt (bits m) k < 256, pk' (at256 ⟨C + cnt (bits m) k, hb⟩) = w (ln k))
      ∧ ∀ q (hq : q < 256), q < C → pk' (at256 ⟨q, hq⟩) = pk (at256 ⟨q, hq⟩) := by
  intro pk'
  have ha : ∀ k : Fin 16, (addi carry v (ln k)).toNat = C + k := fun k => by
    show (carry (ln k) + v (ln k)).toNat = _
    rw [hc, hv, BitVec.toNat_add]; simp only [BitVec.toNat_ofNat]; have := k.isLt; omega
  have e : ∀ k : Fin 16, idxAt (s := S256) ![addi carry v] h' (ln k) = at256 ⟨C + k, by have := k.isLt; omega⟩ := fun k => at256_of _ (ha k)
  have ml : ∀ k : Fin 16, cmpi .slt v (tot m) (ln k) = 1#1 ↔ k < cnt (bits m) 16 := fun k => by
    have := cnt_le (bits m) 16; have := k.isLt
    show IntOp.cmpi .slt (v (ln k)) (tot m (ln k)) = 1#1 ↔ _
    rw [hv, tot_eq]
    exact WordCmp.cmpi_slt_ofNat_eq_one_iff (by omega) (by omega)
  refine ⟨fun k hk hb => ?_, fun q hq hqC => ?_⟩
  · have hlt := cnt_lt (bits m) k.isLt hk
    have hle := cnt_le (bits m) k
    have h16 := k.isLt
    have hrk : rk (bits m) k = cnt (bits m) k := by unfold rk; rw [if_pos hk]
    have hj : cnt (bits m) k < 16 := by omega
    have := e ⟨cnt (bits m) k, hj⟩
    have hgoal : pk' (idxAt (s := S256) ![addi carry v] h' (ln ⟨cnt (bits m) k, hj⟩)) = w (ln k) := by
      refine (store_hit (s := S256) pk ⟨cnt (bits m) k, hj⟩ ((ml _).mpr hlt) fun k' _ he => ?_).trans ?_
      · rw [e, e] at he
        have := congrArg (fun x : S256.Idx => (x 0).val) he
        have h2 : C + k'.val = C + cnt (bits m) k := this
        exact Fin.ext (show k'.val = cnt (bits m) k by omega)
      · have := sorted_at hv m st w h k
        rw [← this]; congr 2; exact Fin.ext hrk.symm
    rw [this] at hgoal; exact hgoal
  · refine store_miss (s := S256) pk fun k hm he => ?_
    rw [e] at he
    have := congrArg (fun x : S256.Idx => (x 0).val) he
    have : C + k.val = q := this
    omega

/-! ## The printed payloads are these -/

theorem pay15_eq (v3 : IVec S16 32) (v86 : Vec F S16 .i32) (v95 : BitVec 32) (t : Fin (k0_t2_loop v95).trips) (x : Vec F S1x16 .i32) :
    k0_pay15 v3 v86 v95 t x = rank v3 (k0_pay11 v3 v86 v95 t x) := rfl
theorem pay14_eq (v3 : IVec S16 32) (v86 : Vec F S16 .i32) (v95 : BitVec 32) (t : Fin (k0_t2_loop v95).trips) (x : Vec F S1x16 .i32) :
    k0_pay14 v3 v86 v95 t x = tot (k0_pay11 v3 v86 v95 t x) := rfl
theorem pay31_eq (v3 : IVec S16 32) (v86 : Vec F S16 .i32) (x : Vec F S1x16 .i32) :
    k0_pay31 v3 v86 x = rank v3 (k0_pay27 v3 v86 x) := rfl
theorem pay30_eq (v3 : IVec S16 32) (v86 : Vec F S16 .i32) (x : Vec F S1x16 .i32) :
    k0_pay30 v3 v86 x = tot (k0_pay27 v3 v86 x) := rfl

/-! ## The chunk loop's bounds -/

/-- The number of chunks, as the kernel computes it. -/
def nch (x : BitVec 32) : BitVec 32 := (k0_t3_loop x).ub

theorem divsi_one (x : BitVec 32) : Scalar.divsi x 1#32 = x := by
  show IntOp.divsi .scalar x 1#32 = x
  unfold IntOp.divsi
  rw [if_neg (by simp [IntOp.SDivCorner])]
  refine BitVec.eq_of_toInt_eq ?_
  rw [BitVec.toInt_sdiv]
  have h1 := BitVec.le_toInt x; have h2 := BitVec.toInt_lt (x := x)
  have h3 : (1#32 : BitVec 32).toInt = 1 := by decide
  rw [h3, Int.tdiv_one]
  exact Int.bmod_eq_of_le (by simpa using h1) (by simpa using h2)

theorem t2_ub (x : BitVec 32) : (k0_t2_loop x).ub = nch x := by
  show Scalar.addi 0#32 (Scalar.muli (Scalar.divsi (Scalar.subi (Scalar.minsi _ 12#32) 0#32) 1#32) 1#32) = Scalar.addi 0#32 (Scalar.subi (Scalar.minsi _ 12#32) 0#32)
  rw [divsi_one]
  simp [Scalar.muli, IntOp.muli]

theorem t3_lb (x : BitVec 32) : (k0_t3_loop x).lb = nch x := t2_ub x

theorem nch_le (x : BitVec 32) : (nch x).toInt ≤ 12 := by
  show (Scalar.addi 0#32 (Scalar.subi (Scalar.minsi _ 12#32) 0#32)).toInt ≤ 12
  generalize (Scalar.select _ _ _ : BitVec 32) = q
  have : Scalar.addi 0#32 (Scalar.subi (Scalar.minsi q 12#32) 0#32) = IntOp.minsi q 12#32 := by
    simp [Scalar.addi, Scalar.subi, IntOp.addi, IntOp.subi, Scalar.minsi]
  rw [this]; unfold IntOp.minsi
  split
  · rename_i h; rw [BitVec.slt_iff_toInt_lt] at h; exact h.le
  · decide

theorem t2_trips (x : BitVec 32) : (k0_t2_loop x).trips = (nch x).toInt.toNat := by
  show ((((k0_t2_loop x).ub).toInt - (0#32 : BitVec 32).toInt + (1#32 : BitVec 32).toInt - 1) / (1#32 : BitVec 32).toInt).toNat = _
  rw [t2_ub]; simp

theorem t2_trips_le (x : BitVec 32) : (k0_t2_loop x).trips ≤ 12 := by
  rw [t2_trips]; have := nch_le x; omega

theorem t3_trips (x : BitVec 32) : (k0_t3_loop x).trips = 0 := by
  show ((((k0_t3_loop x).ub).toInt - ((k0_t3_loop x).lb).toInt + (1#32 : BitVec 32).toInt - 1) / (1#32 : BitVec 32).toInt).toNat = _
  rw [t3_lb]; simp [nch]

theorem t2_OK (x : BitVec 32) : (k0_t2_loop x).OK := by
  refine ⟨show 0 < (1#32 : BitVec 32).toInt by decide, ?_⟩
  show (0#32 : BitVec 32).toInt + (k0_t2_loop x).trips * (1#32 : BitVec 32).toInt < 2 ^ 31
  have := t2_trips_le x
  simp; omega

theorem t3_OK (x : BitVec 32) : (k0_t3_loop x).OK := by
  refine ⟨show 0 < (1#32 : BitVec 32).toInt by decide, ?_⟩
  show ((k0_t3_loop x).lb).toInt + (k0_t3_loop x).trips * (1#32 : BitVec 32).toInt < 2 ^ 31
  rw [t3_trips, t3_lb]; have := nch_le x; simp; omega

/-- For a length in range the chunks cover every position below it and below 192. -/
theorem nch_covers : ∀ n : Fin 200, min n.val 192 ≤ 16 * (k0_t2_loop (BitVec.ofNat 32 n)).trips ∧
    (192 < n.val → (k0_t2_loop (BitVec.ofNat 32 n)).trips = 12) := by decide +kernel

theorem cond2_iff (x : BitVec 32) : k0_cond2 x = 1#1 ↔ 192 < x.toInt := by
  have h : k0_cond2 x = IntOp.cmpi .sgt x 192#32 := by
    show IntOp.cmpi .ne ((IntOp.cmpi .sgt x 192#32).setWidth 32) 0#32 = IntOp.cmpi .sgt x 192#32
    rcases bv1_cases (IntOp.cmpi .sgt x 192#32) with h | h <;> rw [h] <;> decide
  rw [h, WordCmp.cmpi_sgt_eq]
  by_cases hx : 192 < x.toInt
  · simp [hx]
  · simp [hx]

end Cert.Proof.Lanes
-- ==== Proof.Chunk.lean ====
/-
  One row's packing, in words: which positions of a row are valid, what the packed buffer holds after the positions below a
  bound, and that the printed step of a chunk of sixteen positions (and of the last eight) carries this on.
-/
module

public import proofs.«01_k».proof.Proof.Lanes
public import Idealize.ShloMosaic.Lib.ValueIdxCore

@[expose] public section

noncomputable section

namespace Cert.Proof.Chunk

open Cert.KernelIdeal Cert.KernelIdeal.Gen
open Idealize.ShloMosaic
open Idealize.ShloMosaic.ValueIdx (ix1 ix2 eq_ix1 eq_ix2)
open Cert.Proof.Lanes

variable {F : FTy → Type} [FloatOps F]

/-- A row of two hundred words. -/
abbrev W200 : Shape := ⟨1, ![200]⟩

/-- A row's word at a position, zero past the row's end. -/
def rd (row : W200.Idx → BitVec 32) (q : ℕ) : BitVec 32 := if h : q < 200 then row (ix1 ⟨q, h⟩) else 0#32

/-- Position `q` of the row is valid: not zero, and below the length. -/
def valid (row : W200.Idx → BitVec 32) (slen : BitVec 32) (q : ℕ) : Bool := (rd row q != 0#32) && (BitVec.ofNat 32 q).slt slen

/-- Row `t` of a block. -/
def rowOf (S : Vec F S128x200 .i32) (t : Fin 128) : W200.Idx → BitVec 32 := fun j => S (ix2 t (j 0))

/-- After the positions below `n`: the running count, and the packed positions. -/
def Inv (row : W200.Idx → BitVec 32) (slen : BitVec 32) (n : ℕ) (T : IVec S16 32) (pk : Vec F S256 .i32) : Prop :=
  (∀ x, T x = BitVec.ofNat 32 (cnt (valid row slen) n))
    ∧ ∀ q < n, valid row slen q = true → ∀ hb : cnt (valid row slen) q < 256, pk (at256 ⟨_, hb⟩) = BitVec.ofNat 32 q

/-- The packing carried on by the lanes from `o` on, at the positions from `n` on. -/
theorem inv_step {v : IVec S16 32} (hv : IsLane v) {row : W200.Idx → BitVec 32} {slen : BitVec 32} {n o : ℕ} (hn : n ≤ 192) (ho : o ≤ 16)
    (m : IVec S16 1) (st w : Vec F S16 .i32) {pk : Vec F S256 .i32} {T : IVec S16 32} (hI : Inv row slen n T pk)
    (hm : ∀ k < 16, bits m k = (decide (o ≤ k) && valid row slen (n + (k - o))))
    (hw : ∀ k : Fin 16, bits m k = true → w (ln k) = BitVec.ofNat 32 (n + (k - o)))
    (h : ∀ a x, ((![rank v m] : Fin 1 → IVec S16 32) a x).toNat < S16.size a)
    (h' : ∀ a x, ((![addi T v] : Fin 1 → IVec S16 32) a x).toNat < S256.size a) :
    Inv row slen (n + (16 - o)) (addi T (tot m))
      (storeIdx pk ![addi T v] (storeIdx st ![rank v m] w (fun _ => 1#1) false h) (cmpi .slt v (tot m)) false h') := by
  obtain ⟨hT, hP⟩ := hI
  have hC : cnt (valid row slen) n ≤ 192 := (cnt_le _ n).trans hn
  have hcnt : ∀ k, o + k ≤ 16 → cnt (bits m) (o + k) + cnt (valid row slen) n = cnt (valid row slen) (n + k) := fun k hk => by
    rw [cnt_add, cnt_add (valid row slen) n k,
      cnt_congr (p := fun j => bits m (o + j)) (q := fun j => valid row slen (n + j)) fun j hj => ?_]
    · have : cnt (bits m) o = cnt (bits m) 0 := cnt_false (Nat.zero_le _) fun k _ hk => by
        rw [hm k (by omega)]; simp; omega
      rw [this]; show 0 + _ + _ = _; omega
    · show bits m (o + j) = _
      rw [hm _ (by omega)]
      simp
  obtain ⟨h1, h2⟩ := pack_step hv m st w pk hC hT h h'
  have e16 := hcnt (16 - o) (by omega)
  rw [show o + (16 - o) = 16 by omega] at e16
  refine ⟨fun x => ?_, fun q hq hval hb => ?_⟩
  · show T x + tot m x = _
    rw [hT, tot_eq, ← e16, Nat.add_comm]; simp [BitVec.ofNat_add]
  · by_cases hqn : q < n
    · have hlt := cnt_lt (valid row slen) hqn hval
      exact (h2 _ hb hlt).trans (hP q hqn hval hb)
    · obtain ⟨k, rfl⟩ : ∃ k, q = n + k := ⟨q - n, by omega⟩
      have hk : o + k < 16 := by omega
      have hbit : bits m (o + k) = true := by
        rw [hm _ hk]; simpa using hval
      have e := hcnt k hk.le
      have hb' : cnt (valid row slen) n + cnt (bits m) (o + k) < 256 := by omega
      have := h1 ⟨o + k, hk⟩ hbit hb'
      rw [hw ⟨o + k, hk⟩ hbit] at this
      have h3 : at256 ⟨cnt (valid row slen) (n + k), hb⟩ = at256 ⟨cnt (valid row slen) n + cnt (bits m) (o + k), hb'⟩ := by
        congr 2; omega
      rw [h3]
      refine this.trans ?_
      show BitVec.ofNat 32 (n + (o + k - o)) = _
      congr 2; omega

theorem carry_lt {v T : IVec S16 32} (hv : IsLane v) {C : ℕ} (hC : C ≤ 192) (hT : ∀ x, T x = BitVec.ofNat 32 C) :
    ∀ a x, ((![addi T v] : Fin 1 → IVec S16 32) a x).toNat < S256.size a := by
  intro a x
  obtain rfl : a = 0 := Subsingleton.elim _ _
  obtain ⟨k, rfl⟩ : ∃ k, ln k = x := ⟨_, ln_surj x⟩
  show (T (ln k) + v (ln k)).toNat < 256
  rw [hT, hv, BitVec.toNat_add]; simp only [BitVec.toNat_ofNat]; have := k.isLt; omega

theorem rank_bd {v : IVec S16 32} (hv : IsLane v) (m : IVec S16 1) :
    ∀ a x, ((![rank v m] : Fin 1 → IVec S16 32) a x).toNat < S16.size a := by
  intro a x
  obtain rfl : a = 0 := Subsingleton.elim _ _
  exact rank_lt hv m x

/-! ## The printed masks and values -/

theorem cast16 {e : EltTy} (x : Vec F S1x16 e) (k : Fin 16) : shapeCast S16 x shapeCasts_S1x16_S16 (ln k) = x (ix2 0 k) := by
  show x (Shape.reshapeEquiv _ (ln k)) = _
  rw [Shape.reshapeEquiv_cons_one]
  congr 1
  funext a
  match a with
  | ⟨0, _⟩ => rfl
  | ⟨1, _⟩ => rfl

theorem ofNat_toInt {n : ℕ} (h : n < 2 ^ 31) : (BitVec.ofNat 32 n).toInt = n := by
  rw [BitVec.toInt_eq_toNat_of_lt (by rw [toNat_ofNat (by omega)]; omega), toNat_ofNat (by omega)]

theorem bit_and (a b : BitVec 1) : (IntOp.andi a b == 1#1) = ((a == 1#1) && (b == 1#1)) := by
  rcases bv1_cases a with rfl | rfl <;> rcases bv1_cases b with rfl | rfl <;> rfl
theorem bit_or (a b : BitVec 1) : (IntOp.ori a b == 1#1) = ((a == 1#1) || (b == 1#1)) := by
  rcases bv1_cases a with rfl | rfl <;> rcases bv1_cases b with rfl | rfl <;> rfl
theorem bit_slt (x y : BitVec 32) : (IntOp.cmpi .slt x y == 1#1) = x.slt y := by
  show (BitVec.ofBool (x.slt y) == 1#1) = _
  cases x.slt y <;> rfl
theorem bit_sgt (x y : BitVec 32) : (IntOp.cmpi .sgt x y == 1#1) = y.slt x := by
  show (BitVec.ofBool (y.slt x) == 1#1) = _
  cases y.slt x <;> rfl
theorem bit_sge (x y : BitVec 32) : (IntOp.cmpi .sge x y == 1#1) = y.sle x := by
  show (BitVec.ofBool (y.sle x) == 1#1) = _
  cases y.sle x <;> rfl
theorem bit_ne (x y : BitVec 32) : (IntOp.cmpi .ne x y == 1#1) = (x != y) := by
  show (BitVec.ofBool (x != y) == 1#1) = _
  cases x != y <;> rfl

/-- The length the kernel reads in its row of the second table. -/
abbrev lenOf (v86 : Vec F S16 .i32) : BitVec 32 := extractAt ![0] (k0_pay7 v86) inpos_S1_p0

theorem pay10_at {v3 : IVec S16 32} (hv : IsLane v3) (v95 : BitVec 32) (t : Fin (k0_t2_loop v95).trips) (k : Fin 16) :
    k0_pay10 v3 v95 t (ln k) = BitVec.ofNat 32 (16 * t + k) := by
  show v3 (ln k) + (0#32 + BitVec.ofNat 32 t * 1#32) * 16#32 = _
  rw [hv]
  apply BitVec.eq_of_toNat_eq
  simp only [BitVec.toNat_add, BitVec.toNat_mul, BitVec.toNat_ofNat]
  omega

theorem bits11 {v3 : IVec S16 32} (hv : IsLane v3) (v86 : Vec F S16 .i32) (t : Fin (k0_t2_loop (lenOf v86)).trips) {ld : Vec F S1x16 .i32}
    {row : W200.Idx → BitVec 32} (hld : ∀ k : Fin 16, ld (ix2 0 k) = rd row (16 * t + k)) :
    ∀ k < 16, bits (k0_pay11 v3 v86 (lenOf v86) t ld) k = (decide (0 ≤ k) && valid row (lenOf v86) (16 * t + (k - 0))) := by
  intro k hk
  have := bits_ln (k0_pay11 v3 v86 (lenOf v86) t ld) ⟨k, hk⟩
  refine this.trans ?_
  show (IntOp.andi (IntOp.cmpi .ne (shapeCast S16 ld shapeCasts_S1x16_S16 (ln ⟨k, hk⟩)) 0#32)
    (IntOp.cmpi .slt (k0_pay10 v3 (lenOf v86) t (ln ⟨k, hk⟩)) (lenOf v86)) == 1#1) = _
  rw [bit_and, bit_ne, bit_slt, pay10_at hv, cast16, hld]
  simp [valid]

theorem vals12 {v3 : IVec S16 32} (hv : IsLane v3) (v25 : IVec S16 32) (v86 : Vec F S16 .i32) (v95 : BitVec 32) (t : Fin (k0_t2_loop v95).trips)
    (ld : Vec F S1x16 .i32) (k : Fin 16) (h : bits (k0_pay11 v3 v86 v95 t ld) k = true) :
    k0_pay12 v3 v25 v86 v95 t ld (ln k) = BitVec.ofNat 32 (16 * t + (k - 0)) := by
  rw [bits_ln] at h
  show Scalar.select (k0_pay11 v3 v86 v95 t ld (ln k)) (k0_pay10 v3 v95 t (ln k)) _ = _
  rw [eq_of_beq h, pay10_at hv]; rfl

theorem pay26_at {v3 : IVec S16 32} (hv : IsLane v3) (k : Fin 16) : k0_pay26 v3 (ln k) = BitVec.ofNat 32 (184 + k) := by
  show v3 (ln k) + 184#32 = _
  rw [hv]
  apply BitVec.eq_of_toNat_eq
  simp only [BitVec.toNat_add, BitVec.toNat_ofNat]
  omega

theorem bits27 {v3 : IVec S16 32} (hv : IsLane v3) (v86 : Vec F S16 .i32) {ld : Vec F S1x16 .i32}
    {row : W200.Idx → BitVec 32} (hld : ∀ k : Fin 16, ld (ix2 0 k) = rd row (184 + k)) :
    ∀ k < 16, bits (k0_pay27 v3 v86 ld) k = (decide (8 ≤ k) && valid row (lenOf v86) (192 + (k - 8))) := by
  intro k hk
  have := bits_ln (k0_pay27 v3 v86 ld) ⟨k, hk⟩
  refine this.trans ?_
  show (IntOp.andi (IntOp.andi (IntOp.cmpi .ne (shapeCast S16 ld shapeCasts_S1x16_S16 (ln ⟨k, hk⟩)) 0#32)
    (IntOp.cmpi .slt (k0_pay26 v3 (ln ⟨k, hk⟩)) (lenOf v86))) (IntOp.cmpi .sge (k0_pay26 v3 (ln ⟨k, hk⟩)) 192#32) == 1#1) = _
  rw [bit_and, bit_and, bit_ne, bit_slt, bit_sge, pay26_at hv, cast16, hld]
  have hs : (192#32).sle (BitVec.ofNat 32 (184 + k)) = decide (8 ≤ k) := by
    rw [BitVec.sle_eq_decide, ofNat_toInt (by omega : 184 + k < 2 ^ 31)]
    rw [show (192#32 : BitVec 32).toInt = 192 by decide]
    rcases Nat.lt_or_ge k 8 with h | h
    · rw [decide_eq_false (by omega), decide_eq_false (by omega)]
    · rw [decide_eq_true (by omega), decide_eq_true (by omega)]
  show ((rd row (184 + k) != 0#32) && (BitVec.ofNat 32 (184 + k)).slt (lenOf v86) && (192#32).sle (BitVec.ofNat 32 (184 + k))) = _
  rw [hs]
  rcases Nat.lt_or_ge k 8 with h | h
  · rw [decide_eq_false (by omega : ¬ 8 ≤ k)]; simp
  · rw [decide_eq_true h, show 192 + (k - 8) = 184 + k by omega]; simp [valid]

theorem vals28 {v3 : IVec S16 32} (hv : IsLane v3) (v25 : IVec S16 32) (v86 : Vec F S16 .i32)
    (ld : Vec F S1x16 .i32) (k : Fin 16) (h : bits (k0_pay27 v3 v86 ld) k = true) (h8 : 8 ≤ k.val) :
    k0_pay28 v3 v25 v86 ld (ln k) = BitVec.ofNat 32 (192 + (k - 8)) := by
  rw [bits_ln] at h
  show Scalar.select (k0_pay27 v3 v86 ld (ln k)) (k0_pay26 v3 (ln k)) _ = _
  rw [eq_of_beq h, pay26_at hv]
  show BitVec.ofNat 32 (184 + k) = _
  congr 1; omega

/-! ## Where the loads read -/

theorem iv_toNat {n : ℕ} (h : n < 2 ^ 32) : (Scf.iv (0#32) (1#32) n).toNat = n := by
  show ((0#32 + BitVec.ofNat 32 n * 1#32 : BitVec 32)).toNat = n
  simp only [BitVec.toNat_add, BitVec.toNat_mul, BitVec.toNat_ofNat]
  omega

theorem t1_trips : k0_t1_loop.trips = 128 := by decide

/-- A trip of the rows' loop, as a row of the block. -/
def trow (t : Fin k0_t1_loop.trips) : Fin 128 := ⟨t, t1_trips ▸ t.isLt⟩

theorem off3_eq (t : Fin k0_t1_loop.trips) : k0_off3 t = ![(t : ℕ), 0] := by
  have := (trow t).isLt
  show ![(Scf.iv (0#32) (1#32) t).toNat, 0] = _
  rw [iv_toNat (show t.val < 2 ^ 32 from this.trans (by norm_num))]
theorem off4_eq (t : Fin k0_t1_loop.trips) : k0_off4 t = ![(t : ℕ), 0] := off3_eq t
theorem off7_eq (t : Fin k0_t1_loop.trips) : k0_off7 t = ![(t : ℕ), 184] := by
  have := (trow t).isLt
  show ![(Scf.iv (0#32) (1#32) t).toNat, 184] = _
  rw [iv_toNat (show t.val < 2 ^ 32 from this.trans (by norm_num))]
theorem off5_eq (t : Fin k0_t1_loop.trips) (v95 : BitVec 32) (u : Fin (k0_t2_loop v95).trips) : k0_off5 t v95 u = ![(t : ℕ), 16 * u] := by
  have := (trow t).isLt
  have hu := u.isLt; have := t2_trips_le v95
  show ![(Scf.iv (0#32) (1#32) t).toNat, (Scf.iv (0#32) (1#32) u * 16#32).toNat] = _
  rw [iv_toNat (show t.val < 2 ^ 32 from (trow t).isLt.trans (by norm_num))]
  congr 2
  rw [BitVec.toNat_mul, iv_toNat (by omega)]
  simp only [BitVec.toNat_ofNat]; omega

theorem ld_row {S : Vec F S128x200 .i32} {off : Fin 2 → ℕ} {hb : ∀ a, off a + S1x16.size a ≤ S128x200.size a} {t : Fin 128} {n : ℕ}
    (he : off = ![t.val, n]) (hn : n + 16 ≤ 200) (k : Fin 16) :
    (fun x => S ((Rect.unit (s := S128x200) off S1x16.size hb).toLoadRect.idx x)) (ix2 (n0 := 1) (n1 := 16) 0 k) = rd (rowOf S t) (n + k) := by
  subst he
  have hk := k.isLt
  unfold rd
  rw [dif_pos (by omega)]
  show S _ = S _
  congr 1
  funext a
  match a with
  | ⟨0, _⟩ => exact Fin.ext (by simp [LoadRect.idx, Rect.toLoadRect, Rect.unit])
  | ⟨1, _⟩ => exact Fin.ext (by simp [LoadRect.idx, Rect.toLoadRect, Rect.unit])

theorem ld_all (st : Vec F S16 .i32) : (fun x => st ((Rect.unit (s := S16) ![0] S16.size inb_S16_S16_0).toLoadRect.idx x)) = st := by
  funext x
  congr 1
  funext a
  obtain rfl : a = 0 := Subsingleton.elim _ _
  exact Fin.ext (by simp [LoadRect.idx, Rect.toLoadRect, Rect.unit])

end Cert.Proof.Chunk
-- ==== Proof.Step.lean ====
/-
  What the kernel makes of one row, as a relation between words: the window's positions, the order of the keys inside it, and
  the write of the reordered items. A step on a block of rows is a step on its row, the other rows unchanged.
-/
module

public import proofs.«01_k».proof.Proof.Chunk

@[expose] public section

noncomputable section

namespace Cert.Proof.Step

open Cert.KernelIdeal Cert.KernelIdeal.Gen
open Idealize.ShloMosaic
open Idealize.ShloMosaic.ValueIdx (ix1 ix2 eq_ix1 eq_ix2)
open Cert.Proof.Lanes Cert.Proof.Chunk

variable {F : FTy → Type} [FloatOps F]

/-! ## The packing complete -/

/-- The packed positions of the whole row and their number, for a length in range. -/
def Pk (row : W200.Idx → BitVec 32) (slen : BitVec 32) (T : IVec S16 32) (pk : Vec F S256 .i32) : Prop :=
  slen.toNat < 200 → Inv row slen 200 T pk

theorem valid_lt {row : W200.Idx → BitVec 32} {n : ℕ} (hn : n < 200) {q : ℕ} (hq : q < 200) (h : valid row (BitVec.ofNat 32 n) q = true) : q < n := by
  unfold valid at h
  have h2 := (Bool.and_eq_true_iff.mp h).2
  rw [BitVec.slt_iff_toInt_lt, ofNat_toInt (by omega), ofNat_toInt (by omega)] at h2
  omega

theorem of_nat_eq (x : BitVec 32) : x = BitVec.ofNat 32 x.toNat := by simp

/-- No tail: the chunks have covered every valid position. -/
theorem pk_of_chunks {row : W200.Idx → BitVec 32} {slen : BitVec 32} {T : IVec S16 32} {pk : Vec F S256 .i32}
    (hI : Inv row slen (16 * (k0_t2_loop slen).trips) T pk) (hc : ¬ k0_cond2 slen = 1#1) : Pk row slen T pk := by
  intro hs
  rw [cond2_iff] at hc
  obtain ⟨h1, -⟩ := nch_covers ⟨slen.toNat, hs⟩
  rw [← of_nat_eq] at h1
  have h192 : slen.toNat ≤ 192 := by
    rw [of_nat_eq slen, ofNat_toInt (by omega)] at hc; omega
  have hle : slen.toNat ≤ 16 * (k0_t2_loop slen).trips := by
    have : min slen.toNat 192 ≤ _ := h1
    omega
  have := t2_trips_le slen
  obtain ⟨hT, hP⟩ := hI
  have hf : ∀ k, 16 * (k0_t2_loop slen).trips ≤ k → k < 200 → valid row slen k = false := fun k h1 h2 => by
    by_contra hv
    rw [Bool.not_eq_false] at hv
    rw [of_nat_eq slen] at hv
    have := valid_lt hs h2 hv; omega
  refine ⟨fun x => ?_, fun q hq hv hb => ?_⟩
  · rw [hT, cnt_false (by omega) hf]
  · refine hP q ?_ hv hb
    by_contra hn
    rw [hf q (by omega) hq] at hv; exact Bool.noConfusion hv

/-- With the tail. -/
theorem pk_of_tail {v : IVec S16 32} (hv : IsLane v) {row : W200.Idx → BitVec 32} (v25 : IVec S16 32) (v86 st : Vec F S16 .i32)
    {T : IVec S16 32} {pk : Vec F S256 .i32} {ld : Vec F S1x16 .i32}
    (hI : Inv row (lenOf v86) (16 * (k0_t2_loop (lenOf v86)).trips) T pk) (hc : k0_cond2 (lenOf v86) = 1#1)
    (hld : ∀ k : Fin 16, ld (ix2 0 k) = rd row (184 + k))
    (h : ∀ a x, ((![k0_pay31 v v86 ld] : Fin 1 → IVec S16 32) a x).toNat < S16.size a)
    (h' : ∀ a x, ((![addi T v] : Fin 1 → IVec S16 32) a x).toNat < S256.size a) :
    Pk row (lenOf v86) (k0_pay33 v v86 T ld)
      (storeIdx pk ![addi T v] (storeIdx st ![k0_pay31 v v86 ld] (k0_pay28 v v25 v86 ld) (fun _ => 1#1) false h) (k0_pay32 v v86 ld) false h') := by
  intro hs
  rw [cond2_iff] at hc
  obtain ⟨-, h2⟩ := nch_covers ⟨(lenOf v86).toNat, hs⟩
  have e : (k0_t2_loop (lenOf v86)).trips = 12 := by
    have := h2 (show 192 < (lenOf v86).toNat by rw [of_nat_eq (lenOf v86), ofNat_toInt (by omega)] at hc; omega)
    rwa [← of_nat_eq] at this
  rw [e] at hI
  have hm := bits27 hv v86 hld
  refine inv_step (n := 192) (o := 8) hv (by norm_num) (by norm_num) (k0_pay27 v v86 ld) st (k0_pay28 v v25 v86 ld) hI hm (fun k hk => ?_) h h'
  have h8 : 8 ≤ k.val := by
    have := hm k k.isLt
    rw [hk] at this
    exact of_decide_eq_true (Bool.and_eq_true_iff.mp this.symm).1
  exact vals28 hv v25 v86 ld k hk h8

/-! ## The window and the order of its keys -/

section window

variable (v3 : IVec S16 32) (v4 : FVec F S16 .f32) (T : IVec S16 32) (ald : Vec F S1x16 .f32) (pk : Vec F S256 .i32)

theorem clip_lt (u : BitVec 32) : (IntOp.minsi 199#32 (IntOp.maxsi 0#32 u)).toNat < 200 := by
  have key : ∀ y : BitVec 32, 0 ≤ y.toInt → (IntOp.minsi 199#32 y).toNat < 200 := fun y hy => by
    unfold IntOp.minsi
    split
    · decide
    · rename_i h
      rw [BitVec.slt_iff_toInt_lt, show (199#32 : BitVec 32).toInt = 199 by decide] at h
      have hc := BitVec.toInt_eq_toNat_cond y
      have := y.isLt
      split at hc <;> omega
  refine key _ ?_
  unfold IntOp.maxsi
  split
  · decide
  · rename_i h
    rw [BitVec.slt_iff_toInt_lt, show (0#32 : BitVec 32).toInt = 0 by decide] at h; exact not_lt.mp h

/-- The window's places in the packed buffer. -/
abbrev wposOf : IVec S16 32 := k0_pay38 v3 (k0_pay34 T) (k0_pay35 ald) (k0_pay36 ald)

theorem wpos_bd : ∀ a x, ((![wposOf v3 T ald] : Fin 1 → IVec S16 32) a x).toNat < S256.size a := by
  intro a x
  obtain rfl : a = 0 := Subsingleton.elim _ _
  exact (clip_lt _).trans (by decide)

/-- The positions there, clipped to the row. -/
abbrev posOf : IVec S16 32 := k0_pay39 (loadIdx pk ![wposOf v3 T ald] (wpos_bd v3 T ald))

theorem pos_lt (x : S16.Idx) : (posOf v3 T ald pk x).toNat < 200 := clip_lt _

theorem pos_bd : ∀ a x, ((![posOf v3 T ald pk] : Fin 1 → IVec S16 32) a x).toNat < W200.size a := by
  intro a x
  obtain rfl : a = 0 := Subsingleton.elim _ _
  exact pos_lt v3 T ald pk x

/-- The keys. -/
abbrev keysOf : Vec F S16 .f32 := k0_pay41 v3 v4 (k0_pay6 ald) (k0_pay34 T) (k0_pay35 ald)

/-- The keys' ranks. -/
abbrev frankOf : IVec S16 32 :=
  k0_pay170 v3 (keysOf v3 v4 T ald) (k0_pay45 v3 (keysOf v3 v4 T ald) k0_pay42 (k0_pay43 v3 v4 (k0_pay6 ald) (k0_pay34 T) (k0_pay35 ald))
    (k0_pay44 v3 v4 (k0_pay6 ald) (k0_pay34 T) (k0_pay35 ald)))

/-- Which lanes are written. -/
abbrev maskOf : IVec S16 1 := k0_pay171 T (k0_pay40 v3 (k0_pay34 T) (k0_pay35 ald))

/-- Key `j` goes before key `k`. -/
def bef (keys : Vec F S16 .f32) (j k : Fin 16) : Bool :=
  (FloatOps.cmpf .olt (keys (ln j)) (keys (ln k)) == 1#1) || ((FloatOps.cmpf .oeq (keys (ln j)) (keys (ln k)) == 1#1) && decide (j < k))

/-- How many of the first five keys go before key `k`. -/
def frk (keys : Vec F S16 .f32) (k : Fin 16) : ℕ :=
  (bef keys 0 k).toNat + (bef keys 1 k).toNat + (bef keys 2 k).toNat + (bef keys 3 k).toNat + (bef keys 4 k).toNat

theorem lane_sgt {v3 : IVec S16 32} (hv : IsLane v3) (j k : Fin 16) : (IntOp.cmpi .sgt (v3 (ln k)) (BitVec.ofNat 32 j) == 1#1) = decide (j < k) := by
  rw [bit_sgt, hv, BitVec.slt_eq_decide, ofNat_toInt (by omega), ofNat_toInt (by omega)]
  exact decide_eq_decide.mpr ⟨fun h => Fin.lt_def.mpr (by omega), fun h => by have := Fin.lt_def.mp h; omega⟩

theorem extract_at {e : EltTy} (x : Vec F S16 e) (off : Fin 1 → ℕ) (hs : S16.Slices off S1)
    (hp : ∀ a, (![0] : Fin 1 → ℕ) a < S1.size a) (j : Fin 16) (hj : off 0 = j.val) :
    extractAt ![0] (extractStridedSlice S1 off x hs) hp = x (ln j) := by
  show x _ = x _
  congr 1
  funext a
  obtain rfl : a = 0 := Subsingleton.elim _ _
  exact Fin.ext (by show off 0 + 0 = j.val; omega)

theorem sel_bef {v3 : IVec S16 32} (hv : IsLane v3) (keys : Vec F S16 .f32) (j k : Fin 16) :
    Scalar.select (IntOp.ori (FloatOps.cmpf .olt (keys (ln j)) (keys (ln k)))
      (IntOp.andi (FloatOps.cmpf .oeq (keys (ln j)) (keys (ln k))) (IntOp.cmpi .sgt (v3 (ln k)) (BitVec.ofNat 32 j)))) (1#32) (0#32)
      = BitVec.ofNat 32 (bef keys j k).toNat := by
  have h : (IntOp.ori (FloatOps.cmpf .olt (keys (ln j)) (keys (ln k)))
      (IntOp.andi (FloatOps.cmpf .oeq (keys (ln j)) (keys (ln k))) (IntOp.cmpi .sgt (v3 (ln k)) (BitVec.ofNat 32 j))) == 1#1) = bef keys j k := by
    rw [bit_or, bit_and, lane_sgt hv]; rfl
  generalize IntOp.ori _ _ = b at h
  rcases bv1_cases b with rfl | rfl
  · rw [← h]; rfl
  · rw [← h]; rfl

theorem sel_vec {v3 : IVec S16 32} (hv : IsLane v3) (keys : Vec F S16 .f32) (j k : Fin 16) (off : Fin 1 → ℕ) (hs : S16.Slices off S1)
    (hp : ∀ a, (![0] : Fin 1 → ℕ) a < S1.size a) (hj : off 0 = j.val) (c : BitVec 32) (hc : c = BitVec.ofNat 32 j) :
    select (ori (cmpf .olt (broadcast S16 (extractAt ![0] (extractStridedSlice S1 off keys hs) hp)) keys)
      (andi (cmpf .oeq (broadcast S16 (extractAt ![0] (extractStridedSlice S1 off keys hs) hp)) keys)
        (cmpi .sgt v3 (broadcast S16 c)))) (broadcast S16 1#32) (broadcast S16 0#32) (ln k)
      = BitVec.ofNat 32 (bef keys j k).toNat := by
  rw [extract_at keys off hs hp j hj, hc, ← sel_bef hv]
  rfl

theorem frank_at {v3 : IVec S16 32} (hv : IsLane v3) (k : Fin 16) :
    frankOf v3 v4 T ald (ln k) = BitVec.ofNat 32 (if k.val < 5 then frk (keysOf v3 v4 T ald) k else k) := by
  have e : frankOf v3 v4 T ald (ln k) = Scalar.select (IntOp.cmpi .slt (v3 (ln k)) 5#32)
      (0#32 + BitVec.ofNat 32 (bef (keysOf v3 v4 T ald) 0 k).toNat + BitVec.ofNat 32 (bef (keysOf v3 v4 T ald) 1 k).toNat
        + BitVec.ofNat 32 (bef (keysOf v3 v4 T ald) 2 k).toNat + BitVec.ofNat 32 (bef (keysOf v3 v4 T ald) 3 k).toNat
        + BitVec.ofNat 32 (bef (keysOf v3 v4 T ald) 4 k).toNat) (v3 (ln k)) := by
    rw [← sel_vec hv (keysOf v3 v4 T ald) 0 k ![0] slices_S16_o0_S1 inpos_S1_p0 rfl 0#32 rfl,
      ← sel_vec hv (keysOf v3 v4 T ald) 1 k ![1] slices_S16_o1_S1 inpos_S1_p0 rfl 1#32 rfl,
      ← sel_vec hv (keysOf v3 v4 T ald) 2 k ![2] slices_S16_o2_S1 inpos_S1_p0 rfl 2#32 rfl,
      ← sel_vec hv (keysOf v3 v4 T ald) 3 k ![3] slices_S16_o3_S1 inpos_S1_p0 rfl 3#32 rfl,
      ← sel_vec hv (keysOf v3 v4 T ald) 4 k ![4] slices_S16_o4_S1 inpos_S1_p0 rfl 4#32 rfl]
    rfl
  rw [e]
  have hb := bit_slt (v3 (ln k)) 5#32
  rw [hv, BitVec.slt_eq_decide, ofNat_toInt (by omega), show (5#32 : BitVec 32).toInt = 5 by decide] at hb
  by_cases hk : k.val < 5
  · rw [hv, if_pos hk, show IntOp.cmpi .slt (BitVec.ofNat 32 k.val) 5#32 = 1#1 from eq_of_beq (hb.trans (decide_eq_true (by omega)))]
    show 0#32 + _ + _ + _ + _ + _ = _
    simp only [frk, BitVec.ofNat_add, BitVec.zero_add]
  · rw [hv, if_neg hk]
    rcases bv1_cases (IntOp.cmpi .slt (BitVec.ofNat 32 k.val) 5#32) with h0 | h0
    · rw [h0]; rfl
    · rw [h0, decide_eq_false (by omega)] at hb; exact absurd hb (by decide)

theorem frk_le (keys : Vec F S16 .f32) (k : Fin 16) : frk keys k ≤ 5 := by
  unfold frk
  have : ∀ b : Bool, b.toNat ≤ 1 := Bool.toNat_le
  have h0 := this (bef keys 0 k); have h1 := this (bef keys 1 k); have h2 := this (bef keys 2 k)
  have h3 := this (bef keys 3 k); have h4 := this (bef keys 4 k)
  omega

theorem frank_bd {v3 : IVec S16 32} (hv : IsLane v3) : ∀ a x, ((![frankOf v3 v4 T ald] : Fin 1 → IVec S16 32) a x).toNat < S16.size a := by
  intro a x
  obtain rfl : a = 0 := Subsingleton.elim _ _
  obtain ⟨k, rfl⟩ : ∃ k, ln k = x := ⟨_, ln_surj x⟩
  show (frankOf v3 v4 T ald (ln k)).toNat < 16
  rw [frank_at v4 T ald hv]
  have := frk_le (keysOf v3 v4 T ald) k
  have := k.isLt
  rw [toNat_ofNat] <;> split <;> omega

end window

/-! ## The row's step -/

/-- The row of the second table. -/
def auxRow {e : EltTy} (A : Vec F S128x16 e) (t : Fin 128) : Vec F S1x16 e := fun j => A (ix2 t (j 1))

theorem ld_aux {e : EltTy} {A : Vec F S128x16 e} {off : Fin 2 → ℕ} {hb : ∀ a, off a + S1x16.size a ≤ S128x16.size a} {t : Fin 128}
    (he : off = ![t.val, 0]) : (fun x => A ((Rect.unit (s := S128x16) off S1x16.size hb).toLoadRect.idx x)) = auxRow A t := by
  subst he
  funext x
  show A _ = A _
  congr 1
  funext a
  match a with
  | ⟨0, _⟩ =>
    have : (x 0).val < 1 := (x 0).isLt
    exact Fin.ext (by simp [LoadRect.idx, Rect.toLoadRect, Rect.unit]; omega)
  | ⟨1, _⟩ => exact Fin.ext (by simp [LoadRect.idx, Rect.toLoadRect, Rect.unit])

/-- The row's flag. -/
abbrev flagOf (bld : Vec F S1x16 .i32) : BitVec 32 := extractAt ![0] (k0_pay169 bld) inpos_S1_p0

/-- What the row becomes. -/
def RowOut {v3 : IVec S16 32} (hv : IsLane v3) (v4 : FVec F S16 .f32) (row : Vec F W200 .i32) (ald : Vec F S1x16 .f32) (bld : Vec F S1x16 .i32)
    (out : Vec F W200 .i32) : Prop :=
  (¬ k0_cond1 (flagOf bld) = 1#1 → out = row) ∧ (k0_cond1 (flagOf bld) = 1#1 →
    ∃ (T : IVec S16 32) (pk : Vec F S256 .i32) (st : Vec F S16 .i32), Pk row (lenOf (k0_pay168 bld)) T pk ∧
      out = storeIdx row ![posOf v3 T ald pk]
        (storeIdx st ![frankOf v3 v4 T ald] (loadIdx row ![posOf v3 T ald pk] (pos_bd v3 T ald pk)) (fun _ => 1#1) false (frank_bd v4 T ald hv))
        (maskOf v3 T ald) false (pos_bd v3 T ald pk))

section block

variable {tb : IVec S16 32} {t : Fin 128} {p : IVec S16 32}
  {h : ∀ a x, ((![tb, p] : Fin 2 → IVec S16 32) a x).toNat < S128x200.size a}
  {h1 : ∀ a x, ((![p] : Fin 1 → IVec S16 32) a x).toNat < W200.size a}

theorem idx_blk (ht : ∀ x, (tb x).toNat = t.val) (x : S16.Idx) :
    idxAt (s := S128x200) ![tb, p] h x = ix2 t ((idxAt (s := W200) ![p] h1 x) 0) := by
  funext a
  match a with
  | ⟨0, _⟩ => exact Fin.ext (ht x)
  | ⟨1, _⟩ => rfl

theorem load_blk (ht : ∀ x, (tb x).toNat = t.val) (S : Vec F S128x200 .i32) :
    loadIdx S ![tb, p] h = loadIdx (F := F) (s := W200) (e := .i32) (rowOf S t) ![p] h1 := by
  funext x
  show S _ = S _
  rw [idx_blk (h1 := h1) ht]
  rfl

theorem store_blk (ht : ∀ x, (tb x).toNat = t.val) (S : Vec F S128x200 .i32) (w : Vec F S16 .i32) (m : IVec S16 1) :
    (∀ r, r ≠ t → rowOf (storeIdx S ![tb, p] w m false h) r = rowOf S r)
      ∧ rowOf (storeIdx S ![tb, p] w m false h) t = storeIdx (F := F) (s := W200) (e := .i32) (rowOf S t) ![p] w m false h1 := by
  have key : ∀ (l : List (Fin 16)) (S : Vec F S128x200 .i32),
      (∀ r, r ≠ t → rowOf (l.foldl (put ![tb, p] w m h) S) r = rowOf S r)
        ∧ rowOf (l.foldl (put ![tb, p] w m h) S) t = l.foldl (put (F := F) (s := W200) (e := .i32) ![p] w m h1) (rowOf S t) := by
    intro l
    induction l with
    | nil => exact fun S => ⟨fun _ _ => rfl, rfl⟩
    | cons k l ih =>
      intro S
      obtain ⟨i1, i2⟩ := ih (put ![tb, p] w m h S k)
      have hk : (∀ r, r ≠ t → rowOf (put ![tb, p] w m h S k) r = rowOf S r)
          ∧ rowOf (put ![tb, p] w m h S k) t = put (F := F) (s := W200) (e := .i32) ![p] w m h1 (rowOf S t) k := by
        unfold put
        by_cases hm : m (Shape.ofLane k) = 1
        · rw [if_pos hm, if_pos hm]
          refine ⟨fun r hr => ?_, ?_⟩
          · funext j
            refine if_neg fun hh => hr ?_
            exact Fin.ext ((hh 0).trans (ht _))
          · funext j
            show (if _ then _ else _) = (if _ then _ else _)
            refine if_congr ?_ rfl rfl
            refine ⟨fun hh a => ?_, fun hh a => ?_⟩
            · match a with
              | ⟨0, _⟩ => exact hh 1
            · match a with
              | ⟨0, _⟩ => exact (ht _).symm
              | ⟨1, _⟩ => exact hh 0
        · rw [if_neg hm, if_neg hm]; exact ⟨fun _ _ => rfl, rfl⟩
      refine ⟨fun r hr => (i1 r hr).trans (hk.1 r hr), i2.trans ?_⟩
      rw [hk.2]; rfl
  rw [storeIdx_eq, storeIdx_eq]
  exact key _ S

end block

/-- What a block becomes at its row `t`. -/
def RowUpd {v3 : IVec S16 32} (hv : IsLane v3) (v4 : FVec F S16 .f32) (A : Vec F S128x16 .f32) (B : Vec F S128x16 .i32) (t : Fin 128)
    (S S' : Vec F S128x200 .i32) : Prop :=
  (∀ r, r ≠ t → rowOf S' r = rowOf S r) ∧ RowOut hv v4 (rowOf S t) (auxRow A t) (auxRow B t) (rowOf S' t)

theorem upd_eq {tb p fr : IVec S16 32} {t : Fin 128} (ht : ∀ x, (tb x).toNat = t.val) (S : Vec F S128x200 .i32) (st : Vec F S16 .i32) (m : IVec S16 1)
    (h : ∀ a x, ((![tb, p] : Fin 2 → IVec S16 32) a x).toNat < S128x200.size a)
    (h1 : ∀ a x, ((![p] : Fin 1 → IVec S16 32) a x).toNat < W200.size a)
    (hf : ∀ a x, ((![fr] : Fin 1 → IVec S16 32) a x).toNat < S16.size a) :
    rowOf (storeIdx S ![tb, p] (storeIdx st ![fr] (loadIdx S ![tb, p] h) (fun _ => 1#1) false hf) m false h) t
      = storeIdx (F := F) (s := W200) (e := .i32) (rowOf S t) ![p]
          (storeIdx st ![fr] (loadIdx (F := F) (s := W200) (e := .i32) (rowOf S t) ![p] h1) (fun _ => 1#1) false hf) m false h1 := by
  rw [(store_blk (h1 := h1) ht S _ m).2, load_blk (h1 := h1) ht]

/-- The kernel's write into the block is the row's step. -/
theorem row_upd {v3 : IVec S16 32} (hv : IsLane v3) (v4 : FVec F S16 .f32) (A : Vec F S128x16 .f32) (B : Vec F S128x16 .i32)
    {tb : IVec S16 32} {t : Fin 128} (ht : ∀ x, (tb x).toNat = t.val) (hf : k0_cond1 (flagOf (auxRow B t)) = 1#1)
    {T : IVec S16 32} {pk : Vec F S256 .i32} {S : Vec F S128x200 .i32} (hpk : Pk (rowOf S t) (lenOf (k0_pay168 (auxRow B t))) T pk)
    (st : Vec F S16 .i32)
    (h : ∀ a x, ((![tb, posOf v3 T (auxRow A t) pk] : Fin 2 → IVec S16 32) a x).toNat < S128x200.size a) :
    RowUpd hv v4 A B t S (storeIdx S ![tb, posOf v3 T (auxRow A t) pk]
      (storeIdx st ![frankOf v3 v4 T (auxRow A t)] (loadIdx S ![tb, posOf v3 T (auxRow A t) pk] h) (fun _ => 1#1) false
        (frank_bd v4 T (auxRow A t) hv)) (maskOf v3 T (auxRow A t)) false h) :=
  ⟨(store_blk (h1 := pos_bd v3 T (auxRow A t) pk) ht S _ _).1, fun hn => absurd hf hn, fun _ => ⟨T, pk, st, hpk,
    upd_eq ht S st _ h (pos_bd v3 T (auxRow A t) pk) (frank_bd v4 T (auxRow A t) hv)⟩⟩

/-- What a block has become after its first `n` rows. -/
def BlockUpTo {v3 : IVec S16 32} (hv : IsLane v3) (v4 : FVec F S16 .f32) (A : Vec F S128x16 .f32) (B : Vec F S128x16 .i32) (n : ℕ)
    (S S' : Vec F S128x200 .i32) : Prop :=
  ∀ r : Fin 128, (r.val < n → RowOut hv v4 (rowOf S r) (auxRow A r) (auxRow B r) (rowOf S' r)) ∧ (n ≤ r.val → rowOf S' r = rowOf S r)

theorem BlockUpTo.zero {v3 : IVec S16 32} (hv : IsLane v3) (v4 : FVec F S16 .f32) (A : Vec F S128x16 .f32) (B : Vec F S128x16 .i32)
    (S : Vec F S128x200 .i32) : BlockUpTo hv v4 A B 0 S S := fun r => ⟨fun h => absurd h (Nat.not_lt_zero _), fun _ => rfl⟩

theorem BlockUpTo.step {v3 : IVec S16 32} {hv : IsLane v3} {v4 : FVec F S16 .f32} {A : Vec F S128x16 .f32} {B : Vec F S128x16 .i32}
    {t : Fin 128} {S S' S'' : Vec F S128x200 .i32} (h : BlockUpTo hv v4 A B t S S') (hu : RowUpd hv v4 A B t S' S'') :
    BlockUpTo hv v4 A B (t + 1) S S'' := by
  intro r
  by_cases hr : r = t
  · subst hr
    refine ⟨fun _ => ?_, fun h => absurd h (by omega)⟩
    have := hu.2
    rwa [(h r).2 le_rfl] at this
  · have hne : r.val ≠ t.val := fun he => hr (Fin.ext he)
    have e := hu.1 r hr
    exact ⟨fun hlt => by rw [e]; exact (h r).1 (by omega), fun hle => by rw [e]; exact (h r).2 (by omega)⟩

end Cert.Proof.Step
-- ==== Proof.Row.lean ====
/-
  The kernel's body on one row and on a block of rows, run: from the block's buffers held at their values, the row's step
  (`RowUpd`) and, over the rows' loop, the block's (`BlockUpTo`).
-/
module

public import proofs.«01_k».proof.Proof.Step

@[expose] public section

noncomputable section

namespace Cert.Proof.Row

open Cert.KernelIdeal Cert.KernelIdeal.Gen
open Idealize.ShloMosaic
open Idealize.ShloMosaic.SparseCore (V)
open Idealize.ShloMosaic.SparseCore.Cfg (HIx)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Hold (holds wp_loadIdx wp_storeIdx)
open Cert.Proof.Lanes Cert.Proof.Chunk Cert.Proof.Step

variable {F : FTy → Type} [FloatOps F]

abbrev 𝒱₀ : Variants := Variants.none
abbrev UH : Type := URounds (GSem nD τ sig) ℕ
abbrev UU : Type := UH × Counters

local notation "𝕄" => MT nD τ sig (HIx 1) (Elt F) ℕ UU ℕ

/-- The vector subcore at grid coordinates `i`. -/
abbrev thr (d : Dev nD) (i : grid0.Coords) : Thread nD τ := V d ((i 0).castLE hcore0) ((i 1).castLE hsub0)

variable (d : Dev nD)
variable (i : grid0.Coords) (arg2 : Memref sig .scVector .hbm S16384x200 .i32) (harg2 : arg2.IsWhole) (arg3 : Memref sig .scVector .hbm S16384x16 .f32)
  (harg3 : arg3.IsWhole) (arg4 : Memref sig .scVector .hbm S16384x16 .i32) (harg4 : arg4.IsWhole) (arg5 : Memref sig .scVector .hbm S16384x200 .i32)
  (harg5 : arg5.IsWhole) (arg6 : Memref sig .scVector .vmem S128x200 .i32) (harg6 : arg6.IsWhole) (arg7 : Memref sig .scVector .vmem S128x16 .f32)
  (harg7 : arg7.IsWhole) (arg8 : Memref sig .scVector .vmem S128x16 .i32) (harg8 : arg8.IsWhole) (arg9 : Memref sig .scVector .vmem S256 .i32)
  (harg9 : arg9.IsWhole) (arg10 : Memref sig .scVector .vmem S128x200 .i32) (harg10 : arg10.IsWhole) (arg11 : Memref sig .scVector .vmem S128x16 .f32)
  (harg11 : arg11.IsWhole) (arg12 : Memref sig .scVector .vmem S128x16 .i32) (harg12 : arg12.IsWhole) (arg13 : DmaSems sig S_) (arg14 : DmaSems sig S_)
  (arg15 : DmaSems sig S_) (arg16 : DmaSems sig S_) (arg17 : DmaSems sig S_) (arg18 : DmaSems sig S_) (arg19 : Memref sig .scVector .vmem S16 .i32)
  (harg19 : arg19.IsWhole)

section rule

variable {c : Thread nD τ} {α : Type} {Q : α → sProp (MT nD τ sig (HIx 1) (Elt F) ℕ UU ℕ)}

/-- A side condition assumed, proved. -/
theorem wp_side {p : Prop} {dp : Decidable p} {k : PLift p → Prog (TpuEff nD τ sig (Elt F) Λ₀ c.2) α} (h : p) :
    (wp frame (wpE (defs₀ (F := F)) 𝒱₀ c none) Set.univ (k ⟨h⟩) Q : sProp 𝕄)
      ⊢ wp frame (wpE (defs₀ (F := F)) 𝒱₀ c none) Set.univ (Prog.lift (TpuEff.assume p dp) >>= k) Q :=
  Entails.of_eq (wp_assume_of (Q := Q) 𝒱₀ c none Set.univ h).symm

/-- A load of a whole sixteen-word buffer. -/
theorem wp_load16 {M : Memref sig c.2.kind .vmem S16 .i32} {v : Vec F S16 .i32}
    {hl : M.view.LoadsAt (Rect.unit (s := S16) ![0] S16.size inb_S16_S16_0).toLoadRect}
    {k : Vec F S16 .i32 → Prog (TpuEff nD τ sig (Elt F) Λ₀ c.2) α} :
    (holds c M v : sProp 𝕄)
      ⊢ iprop((holds c M v -∗ wp frame (wpE (defs₀ (F := F)) 𝒱₀ c none) Set.univ (k v) Q)
        -∗ wp frame (wpE (defs₀ (F := F)) 𝒱₀ c none) Set.univ (Prog.lift (.load M (Rect.unit (s := S16) ![0] S16.size inb_S16_S16_0).toLoadRect hl) >>= k) Q) := by
  have h := Hold.wp_load (defs := defs₀ (F := F)) (Q := Q) 𝒱₀ c none (M := M) (v := v) (r := Rect.unit (s := S16) ![0] S16.size inb_S16_S16_0)
    (hl := hl) (k := k)
  rw [ld_all] at h
  exact h

end rule

variable {v3 : IVec S16 32} (hv : IsLane v3) (v4 : FVec F S16 .f32) (v25 : IVec S16 32) (t : Fin k0_t1_loop.trips) (arg20 : BitVec 32)

/-! ## The chunk loop -/

/-- What is held before each chunk. -/
def chunkInv (S : Vec F S128x200 .i32) (slen : BitVec 32) (k : ℕ) (T : IVec S16 32) : sProp 𝕄 :=
  iprop(holds (thr d i) arg6 S ∗ (∃ st, holds (thr d i) arg19 st) ∗ ∃ pk, ⌜Inv (rowOf S (trow t)) slen (16 * k) T pk⌝ ∗ holds (thr d i) arg9 pk)

include hv in
theorem chunk_body (S : Vec F S128x200 .i32) (v86 : Vec F S16 .i32) (v88 : BitVec 32) (h1 : k0_cond1 v88 = 1#1)
    (hw1 : k0_chk1 t v88 (lenOf v86)) (u : Fin (k0_t2_loop (lenOf v86)).trips) (T : IVec S16 32) :
    chunkInv d i arg6 arg9 arg19 t S (lenOf v86) u T
      ⊢ wp frame (wpE (defs₀ (F := F)) 𝒱₀ (thr d i) none) Set.univ
          (k0_t2_body i arg2 harg2 arg3 harg3 arg4 harg4 arg5 harg5 arg6 harg6 arg7 harg7 arg8 harg8 arg9 harg9 arg10 harg10 arg11 harg11 arg12 harg12 arg13 arg14 arg15 arg16 arg17 arg18 arg19 harg19 v3 v25 t arg20 v86 v88 h1 (lenOf v86) hw1 u T)
          (chunkInv d i arg6 arg9 arg19 t S (lenOf v86) (u + 1)) := by
  unfold chunkInv k0_t2_body
  have hu := u.isLt
  have hu12 := t2_trips_le (lenOf v86)
  iintro ⟨H6, ⟨%st, H19⟩, %pk, %hI, H9⟩
  iapply (Hold.wp_load 𝒱₀ (thr d i) none) $$ H6
  iintro H6
  have hld := ld_row (S := S) (hb := k0_off5_inb t v88 (lenOf v86) hw1 u h1) (t := trow t) (off5_eq t (lenOf v86) u) (by omega)
  generalize (fun x => S ((Rect.unit (s := S128x200) (k0_off5 t (lenOf v86) u) S1x16.size (k0_off5_inb t v88 (lenOf v86) hw1 u h1)).toLoadRect.idx x)) = ld at hld ⊢
  iapply (wp_side (c := thr d i) (fun _ => rank_bd hv (k0_pay11 v3 v86 (lenOf v86) u ld)))
  iapply (wp_storeIdx 𝒱₀ (thr d i) none harg19) $$ H19
  iintro H19
  iapply (wp_load16 (c := thr d i)) $$ H19
  iintro H19
  iapply (wp_side (c := thr d i) (fun _ => carry_lt hv ((cnt_le _ _).trans (by omega)) hI.1))
  iapply (wp_storeIdx 𝒱₀ (thr d i) none harg9) $$ H9
  iintro H9
  iapply (le_wp_ret frame _ Set.univ)
  isplitl [H6]; · iexact H6
  isplitl [H19]; · iexists _; iexact H19
  iexists _
  isplitr [H9]
  swap; · iexact H9
  ipureintro
  have := inv_step (o := 0) hv (by omega : 16 * u.val ≤ 192) (by norm_num) (k0_pay11 v3 v86 (lenOf v86) u ld) st (k0_pay12 v3 v25 v86 (lenOf v86) u ld)
    hI (bits11 hv v86 u hld) (fun k hk => vals12 hv v25 v86 (lenOf v86) u ld k hk) (rank_bd hv _) (carry_lt hv ((cnt_le _ _).trans (by omega)) hI.1)
  exact this

/-! ## The row's packing -/

theorem off5_inb (slen : BitVec 32) (u : Fin (k0_t2_loop slen).trips) : ∀ a, (k0_off5 t slen u) a + S1x16.size a ≤ S128x200.size a := by
  rw [off5_eq]
  have := (trow t).isLt
  have hu := u.isLt; have := t2_trips_le slen
  intro a
  match a with
  | ⟨0, _⟩ => show t.val + 1 ≤ 128; exact (trow t).isLt
  | ⟨1, _⟩ => show 16 * u.val + 16 ≤ 200; omega

theorem no_t3 (slen : BitVec 32) (u : Fin (k0_t3_loop slen).trips) : False := by
  have := u.isLt; have e := t3_trips slen; omega

theorem chk1 (v88 slen : BitVec 32) : k0_chk1 t v88 slen :=
  ⟨fun _ => t2_OK slen, fun u _ => off5_inb t slen u, fun _ => t3_OK slen, fun u => (no_t3 slen u).elim⟩

include hv in
theorem part1 (S : Vec F S128x200 .i32) (Af : Vec F S128x16 .f32) (v86 : Vec F S16 .i32) (v88 : BitVec 32) (h1 : k0_cond1 v88 = 1#1)
    (Q : (Σ' (_ : Vec F S16 .f32) (_ : IVec S16 32) (_ : FVec F S16 .f32) (_ : FVec F S16 .f32), FVec F S1 .f32)
      → sProp (MT nD τ sig (HIx 1) (Elt F) ℕ UU ℕ)) :
    iprop(holds (thr d i) arg6 S ∗ holds (thr d i) arg7 Af ∗ (∃ st, holds (thr d i) arg19 st) ∗ (∃ pk, holds (thr d i) arg9 pk)
      ∗ (∀ T pk, ⌜Pk (rowOf S (trow t)) (lenOf v86) T pk⌝ -∗ holds (thr d i) arg6 S -∗ holds (thr d i) arg7 Af
        -∗ (∃ st, holds (thr d i) arg19 st) -∗ holds (thr d i) arg9 pk
        -∗ Q ⟨k0_pay6 (auxRow Af (trow t)), T, k0_pay34 (F := F) T, k0_pay35 (auxRow Af (trow t)), k0_pay36 (auxRow Af (trow t))⟩))
      ⊢ wp frame (wpE (defs₀ (F := F)) 𝒱₀ (thr d i) none) Set.univ
          (k0_part1 i arg2 harg2 arg3 harg3 arg4 harg4 arg5 harg5 arg6 harg6 arg7 harg7 arg8 harg8 arg9 harg9 arg10 harg10 arg11 harg11 arg12 harg12 arg13 arg14 arg15 arg16 arg17 arg18 arg19 harg19 v3 v25 t arg20 v86 v88 h1) Q := by
  rw [k0_part1_eq_skeleton]
  unfold k0_part1_skel
  iintro ⟨H6, H7, H19, ⟨%pk, H9⟩, HQ⟩
  iapply (Hold.wp_load 𝒱₀ (thr d i) none) $$ H7
  iintro H7
  rw [ld_aux (t := trow t) (off4_eq t)]
  iapply (wp_side (c := thr d i) (chk1 t v88 (lenOf v86)))
  iapply (Scf.wp_for_bind frame _ Set.univ _ _ _ _ _ _ (chunkInv d i arg6 arg9 arg19 t S (lenOf v86))
    (fun u T => chunk_body d i arg2 harg2 arg3 harg3 arg4 harg4 arg5 harg5 arg6 harg6 arg7 harg7 arg8 harg8 arg9 harg9 arg10 harg10 arg11 harg11 arg12 harg12 arg13 arg14 arg15 arg16 arg17 arg18 arg19 harg19 hv v25 t arg20 S v86 v88 h1 (chk1 t v88 (lenOf v86)) u T)) $$ [H6 H19 H9]
  · unfold chunkInv
    isplitl [H6]; · iexact H6
    isplitl [H19]; · iexact H19
    iexists pk
    isplitr [H9]
    swap; · iexact H9
    ipureintro
    exact ⟨fun _ => rfl, fun q hq => absurd hq (by omega)⟩
  iintro %T HI
  unfold chunkInv
  icases HI with ⟨H6, H19, %pk', %hI, H9⟩
  iapply (Scf.wp_for_bind frame _ Set.univ _ _ _ _ _ _ (fun _ T' => iprop(⌜T' = T⌝))
    (fun u => (no_t3 (lenOf v86) u).elim))
  · ipureintro; rfl
  iintro %T' %hT'
  subst hT'
  replace hI : Inv (rowOf S (trow t)) (lenOf v86) (16 * (k0_t2_loop (lenOf v86)).trips) T' pk' := hI
  dsimp only
  by_cases hc : k0_cond2 (lenOf v86) = 1#1
  · rw [dif_pos hc]
    iapply (Hold.wp_load 𝒱₀ (thr d i) none) $$ H6
    iintro H6
    have hld := ld_row (S := S) (hb := k0_off7_inb t) (t := trow t) (off7_eq t) (by norm_num)
    generalize (fun x => S ((Rect.unit (s := S128x200) (k0_off7 t) S1x16.size (k0_off7_inb t)).toLoadRect.idx x)) = ld at hld ⊢
    icases H19 with ⟨%st, H19⟩
    have hle := t2_trips_le (lenOf v86)
    iapply (wp_side (c := thr d i) (fun _ _ => rank_bd hv (k0_pay27 v3 v86 ld)))
    iapply (wp_storeIdx 𝒱₀ (thr d i) none harg19) $$ H19
    iintro H19
    iapply (wp_load16 (c := thr d i)) $$ H19
    iintro H19
    iapply (wp_side (c := thr d i) (fun _ _ => carry_lt hv ((cnt_le _ _).trans (by omega)) hI.1))
    iapply (wp_storeIdx 𝒱₀ (thr d i) none harg9) $$ H9
    iintro H9
    iapply (le_wp_ret frame _ Set.univ)
    ispecialize HQ $$ %(k0_pay33 v3 v86 T' ld)
    iapply HQ $$ [] H6 H7 [H19] H9
    · ipureintro
      exact pk_of_tail hv v25 v86 st hI hc hld (rank_bd hv _) (carry_lt hv ((cnt_le _ _).trans (by omega)) hI.1)
    · iexists _; iexact H19
  · rw [dif_neg hc]
    iapply (le_wp_ret frame _ Set.univ)
    ispecialize HQ $$ %T'
    iapply HQ $$ [] H6 H7 H19 H9
    ipureintro
    exact pk_of_chunks hI hc

/-! ## The window, the reordering and the write -/

include hv in
theorem part2 (S : Vec F S128x200 .i32) (Af : Vec F S1x16 .f32) (T : IVec S16 32) (pk : Vec F S256 .i32) (v88 : BitVec 32) (h1 : k0_cond1 v88 = 1#1)
    (ha : arg20.toNat < 128)
    (Q : (Σ' (v168 : IVec S16 32) (v169 : IVec S16 32) (_ : k0_chk9 v88 v168 v169) (_ : Vec F S16 .i32) (_ : IVec S16 1) (_ : Vec F S16 .f32)
      (_ : IVec S16 32) (_ : FVec F S16 .f32), IVec S16 1) → sProp (MT nD τ sig (HIx 1) (Elt F) ℕ UU ℕ)) :
    iprop(holds (thr d i) arg6 S ∗ holds (thr d i) arg9 pk
      ∗ (∀ (hw : k0_chk9 v88 (posOf v3 T Af pk) (broadcast S16 arg20)), holds (thr d i) arg6 S -∗ holds (thr d i) arg9 pk
        -∗ Q ⟨posOf v3 T Af pk, broadcast S16 arg20, hw, loadIdx S ![broadcast S16 arg20, posOf v3 T Af pk] (hw.1 h1),
          k0_pay40 v3 (k0_pay34 T) (k0_pay35 Af), keysOf v3 v4 T Af, k0_pay42, k0_pay43 v3 v4 (k0_pay6 Af) (k0_pay34 T) (k0_pay35 Af),
          k0_pay44 v3 v4 (k0_pay6 Af) (k0_pay34 T) (k0_pay35 Af)⟩))
      ⊢ wp frame (wpE (defs₀ (F := F)) 𝒱₀ (thr d i) none) Set.univ
          (k0_part2 i arg2 harg2 arg3 harg3 arg4 harg4 arg5 harg5 arg6 harg6 arg7 harg7 arg8 harg8 arg9 harg9 arg10 harg10 arg11 harg11 arg12 harg12 arg13 arg14 arg15 arg16 arg17 arg18 arg19 harg19 v3 v4 arg20 v88 h1 (k0_pay6 Af) (k0_pay34 (F := F) T) (k0_pay35 Af) (k0_pay36 Af)) Q := by
  rw [k0_part2_eq_skeleton]
  unfold k0_part2_skel
  have hbd : ∀ a x, ((![broadcast S16 arg20, posOf v3 T Af pk] : Fin 2 → IVec S16 32) a x).toNat < S128x200.size a := fun a x =>
    match a with
    | ⟨0, _⟩ => ha
    | ⟨1, _⟩ => pos_lt v3 T Af pk x
  iintro ⟨H6, H9, HQ⟩
  iapply (wp_side (c := thr d i) (fun _ => wpos_bd v3 T Af))
  iapply (wp_loadIdx 𝒱₀ (thr d i) none harg9) $$ H9
  iintro H9
  iapply (wp_side (c := thr d i) ⟨fun _ => hbd, fun _ => hbd⟩)
  iapply (wp_loadIdx 𝒱₀ (thr d i) none harg6) $$ H6
  iintro H6
  iapply (le_wp_ret frame _ Set.univ)
  ispecialize HQ $$ %⟨fun _ => hbd, fun _ => hbd⟩
  iapply HQ $$ H6 H9

/-! ## The row -/

include hv in
/-- The body of the rows' loop at row `t`. -/
theorem row_body (v2 : BitVec 32) (c0 : BitVec 32) (S : Vec F S128x200 .i32) (Af : Vec F S128x16 .f32) (Bi : Vec F S128x16 .i32) :
    iprop(holds (thr d i) arg6 S ∗ holds (thr d i) arg7 Af ∗ holds (thr d i) arg8 Bi ∗ (∃ st, holds (thr d i) arg19 st) ∗ (∃ pk, holds (thr d i) arg9 pk))
      ⊢ wp frame (wpE (defs₀ (F := F)) 𝒱₀ (thr d i) none) Set.univ
          (k0_t1_body i arg2 harg2 arg3 harg3 arg4 harg4 arg5 harg5 arg6 harg6 arg7 harg7 arg8 harg8 arg9 harg9 arg10 harg10 arg11 harg11 arg12 harg12 arg13 arg14 arg15 arg16 arg17 arg18 arg19 harg19 v2 v3 v4 c0 t ())
          fun _ => (iprop(∃ S', ⌜RowUpd hv v4 Af Bi (trow t) S S'⌝ ∗ holds (thr d i) arg6 S' ∗ holds (thr d i) arg7 Af ∗ holds (thr d i) arg8 Bi
            ∗ (∃ st, holds (thr d i) arg19 st) ∗ (∃ pk, holds (thr d i) arg9 pk)) : sProp 𝕄) := by
  unfold k0_t1_body
  have ht : (Scf.iv (0#32) (1#32) t).toNat = (trow t).val := iv_toNat ((trow t).isLt.trans (by norm_num))
  iintro ⟨H6, H7, H8, H19, H9⟩
  iapply (Hold.wp_load 𝒱₀ (thr d i) none) $$ H8
  iintro H8
  rw [ld_aux (t := trow t) (off3_eq t)]
  dsimp only
  by_cases hf : k0_cond1 (flagOf (auxRow Bi (trow t))) = 1#1
  · rw [dif_pos hf]
    rw [wp_bind]
    iapply (part1 d i arg2 harg2 arg3 harg3 arg4 harg4 arg5 harg5 arg6 harg6 arg7 harg7 arg8 harg8 arg9 harg9 arg10 harg10 arg11 harg11 arg12 harg12 arg13 arg14 arg15 arg16 arg17 arg18 arg19 harg19 hv (k0_pay167 c0) t (Scf.iv 0#32 1#32 t) S Af (k0_pay168 (auxRow Bi (trow t))) (flagOf (auxRow Bi (trow t))) hf)
    isplitl [H6]; · iexact H6
    isplitl [H7]; · iexact H7
    isplitl [H19]; · iexact H19
    isplitl [H9]; · iexact H9
    iintro %T %pk %hpk H6 H7 H19 H9
    rw [wp_bind]
    iapply (part2 d i arg2 harg2 arg3 harg3 arg4 harg4 arg5 harg5 arg6 harg6 arg7 harg7 arg8 harg8 arg9 harg9 arg10 harg10 arg11 harg11 arg12 harg12 arg13 arg14 arg15 arg16 arg17 arg18 arg19 harg19 hv v4 (Scf.iv 0#32 1#32 t) S (auxRow Af (trow t)) T pk (flagOf (auxRow Bi (trow t))) hf (by rw [ht]; exact (trow t).isLt))
    isplitl [H6]; · iexact H6
    isplitl [H9]; · iexact H9
    iintro %hw H6 H9
    dsimp only
    rw [k0_part3_eq_skeleton]
    unfold k0_part3_skel
    rw [wp_bind]
    iapply (le_wp_ret frame _ Set.univ)
    icases H19 with ⟨%st, H19⟩
    iapply (wp_side (c := thr d i) (fun _ => frank_bd v4 T (auxRow Af (trow t)) hv))
    iapply (wp_storeIdx 𝒱₀ (thr d i) none harg19) $$ H19
    iintro H19
    iapply (wp_load16 (c := thr d i)) $$ H19
    iintro H19
    iapply (wp_storeIdx 𝒱₀ (thr d i) none harg6) $$ H6
    iintro H6
    iapply (le_wp_ret frame _ Set.univ)
    iexists _
    isplitr [H6 H7 H8 H9 H19]
    swap
    · isplitl [H6]; · iexact H6
      isplitl [H7]; · iexact H7
      isplitl [H8]; · iexact H8
      isplitl [H19]; · iexists _; iexact H19
      iexists _; iexact H9
    ipureintro
    exact row_upd (tb := broadcast S16 (Scf.iv 0#32 1#32 t)) hv v4 Af Bi (fun _ => ht) hf hpk st (hw.2 hf)
  · rw [dif_neg hf]
    iapply (le_wp_ret frame _ Set.univ)
    iexists S
    isplitr [H6 H7 H8 H9 H19]
    · ipureintro
      exact ⟨fun _ _ => rfl, fun _ => rfl, fun h => absurd h hf⟩
    isplitl [H6]; · iexact H6
    isplitl [H7]; · iexact H7
    isplitl [H8]; · iexact H8
    isplitl [H19]; · iexact H19
    iexact H9

/-! ## The rows' loop -/

/-- What is held before row `n`. -/
def rowsInv (S : Vec F S128x200 .i32) (Af : Vec F S128x16 .f32) (Bi : Vec F S128x16 .i32) (n : ℕ) (_ : Unit) : sProp 𝕄 :=
  iprop(∃ S', ⌜BlockUpTo hv v4 Af Bi n S S'⌝ ∗ holds (thr d i) arg6 S' ∗ holds (thr d i) arg7 Af ∗ holds (thr d i) arg8 Bi
    ∗ (∃ st, holds (thr d i) arg19 st) ∗ (∃ pk, holds (thr d i) arg9 pk))

theorem rows_body (v2 : BitVec 32) (c0 : BitVec 32) (S : Vec F S128x200 .i32) (Af : Vec F S128x16 .f32) (Bi : Vec F S128x16 .i32) (u : Unit) :
    rowsInv d i arg6 arg7 arg8 arg9 arg19 hv v4 S Af Bi t u
      ⊢ wp frame (wpE (defs₀ (F := F)) 𝒱₀ (thr d i) none) Set.univ
          (k0_t1_body i arg2 harg2 arg3 harg3 arg4 harg4 arg5 harg5 arg6 harg6 arg7 harg7 arg8 harg8 arg9 harg9 arg10 harg10 arg11 harg11 arg12 harg12 arg13 arg14 arg15 arg16 arg17 arg18 arg19 harg19 v2 v3 v4 c0 t u)
          (rowsInv d i arg6 arg7 arg8 arg9 arg19 hv v4 S Af Bi (t + 1)) := by
  unfold rowsInv
  iintro ⟨%S', %hS, H6, H7, H8, H19, H9⟩
  iapply (wp_wand_r frame _ Set.univ (Q := fun _ => iprop(∃ S'', ⌜RowUpd hv v4 Af Bi (trow t) S' S''⌝ ∗ holds (thr d i) arg6 S'' ∗ holds (thr d i) arg7 Af
    ∗ holds (thr d i) arg8 Bi ∗ (∃ st, holds (thr d i) arg19 st) ∗ (∃ pk, holds (thr d i) arg9 pk))))
  isplitl
  · iapply (row_body d i arg2 harg2 arg3 harg3 arg4 harg4 arg5 harg5 arg6 harg6 arg7 harg7 arg8 harg8 arg9 harg9 arg10 harg10 arg11 harg11 arg12 harg12 arg13 arg14 arg15 arg16 arg17 arg18 arg19 harg19 hv v4 t v2 c0 S' Af Bi)
    isplitl [H6]; · iexact H6
    isplitl [H7]; · iexact H7
    isplitl [H8]; · iexact H8
    isplitl [H19]; · iexact H19
    iexact H9
  · iintro %_ ⟨%S'', %hu, H⟩
    iexists S''
    isplitr [H]
    · ipureintro; exact hS.step (t := trow t) hu
    · iexact H

end Cert.Proof.Row
-- ==== Proof.Groups.lean ====
/-
  The four loops over a block's rows: the second and the fourth run the first's body over the other set of scratch
  buffers, the third over the same ones, so one invariant serves all four.
-/
module

public import proofs.«01_k».proof.Proof.Row

@[expose] public section

noncomputable section

namespace Cert.Proof.Groups

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Hold (holds)
open Cert.Proof.Lanes Cert.Proof.Chunk Cert.Proof.Step Cert.Proof.Row

variable {F : FTy → Type} [FloatOps F]

local notation "𝕄" => MT nD τ sig (HIx 1) (Elt F) ℕ UU ℕ

/-- The lanes' numbers, as the kernel makes them. -/
abbrev lanes : IVec S16 32 := iota .scVector S16 32 [0] iota_S16_d0_w32_scVector

theorem lanes_isLane : IsLane lanes := by
  intro k; fin_cases k <;> rfl

variable (d : Dev nD)
variable (i : grid0.Coords) (arg2 : Memref sig .scVector .hbm S16384x200 .i32) (harg2 : arg2.IsWhole) (arg3 : Memref sig .scVector .hbm S16384x16 .f32)
  (harg3 : arg3.IsWhole) (arg4 : Memref sig .scVector .hbm S16384x16 .i32) (harg4 : arg4.IsWhole) (arg5 : Memref sig .scVector .hbm S16384x200 .i32)
  (harg5 : arg5.IsWhole) (arg6 : Memref sig .scVector .vmem S128x200 .i32) (harg6 : arg6.IsWhole) (arg7 : Memref sig .scVector .vmem S128x16 .f32)
  (harg7 : arg7.IsWhole) (arg8 : Memref sig .scVector .vmem S128x16 .i32) (harg8 : arg8.IsWhole) (arg9 : Memref sig .scVector .vmem S256 .i32)
  (harg9 : arg9.IsWhole) (arg10 : Memref sig .scVector .vmem S128x200 .i32) (harg10 : arg10.IsWhole) (arg11 : Memref sig .scVector .vmem S128x16 .f32)
  (harg11 : arg11.IsWhole) (arg12 : Memref sig .scVector .vmem S128x16 .i32) (harg12 : arg12.IsWhole) (arg13 : DmaSems sig S_) (arg14 : DmaSems sig S_)
  (arg15 : DmaSems sig S_) (arg16 : DmaSems sig S_) (arg17 : DmaSems sig S_) (arg18 : DmaSems sig S_) (arg19 : Memref sig .scVector .vmem S16 .i32)
  (harg19 : arg19.IsWhole)

section bodies

variable (v2 : BitVec 32) (v3 : IVec S16 32) (v4 : FVec F S16 .f32) (c : BitVec 32)

set_option maxRecDepth 65536 in
theorem body4 : k0_t4_body i arg2 harg2 arg3 harg3 arg4 harg4 arg5 harg5 arg6 harg6 arg7 harg7 arg8 harg8 arg9 harg9 arg10 harg10 arg11 harg11 arg12 harg12 arg13 arg14 arg15 arg16 arg17 arg18 arg19 harg19 v2 v3 v4 c = k0_t1_body i arg2 harg2 arg3 harg3 arg4 harg4 arg5 harg5 arg10 harg10 arg11 harg11 arg12 harg12 arg9 harg9 arg6 harg6 arg7 harg7 arg8 harg8 arg13 arg14 arg15 arg16 arg17 arg18 arg19 harg19 v2 v3 v4 1073741824#32 := rfl

set_option maxRecDepth 65536 in
theorem body7 : k0_t7_body i arg2 harg2 arg3 harg3 arg4 harg4 arg5 harg5 arg6 harg6 arg7 harg7 arg8 harg8 arg9 harg9 arg10 harg10 arg11 harg11 arg12 harg12 arg13 arg14 arg15 arg16 arg17 arg18 arg19 harg19 v2 v3 v4 c = k0_t1_body i arg2 harg2 arg3 harg3 arg4 harg4 arg5 harg5 arg6 harg6 arg7 harg7 arg8 harg8 arg9 harg9 arg10 harg10 arg11 harg11 arg12 harg12 arg13 arg14 arg15 arg16 arg17 arg18 arg19 harg19 v2 v3 v4 1073741824#32 := rfl

set_option maxRecDepth 65536 in
theorem body10 : k0_t10_body i arg2 harg2 arg3 harg3 arg4 harg4 arg5 harg5 arg6 harg6 arg7 harg7 arg8 harg8 arg9 harg9 arg10 harg10 arg11 harg11 arg12 harg12 arg13 arg14 arg15 arg16 arg17 arg18 arg19 harg19 v3 v4 = k0_t1_body i arg2 harg2 arg3 harg3 arg4 harg4 arg5 harg5 arg10 harg10 arg11 harg11 arg12 harg12 arg9 harg9 arg6 harg6 arg7 harg7 arg8 harg8 arg13 arg14 arg15 arg16 arg17 arg18 arg19 harg19 v2 v3 v4 1073741824#32 := rfl

end bodies

variable {v3 : IVec S16 32} (hv : IsLane v3) (v4 : FVec F S16 .f32) (v2 c : BitVec 32)
variable (S : Vec F S128x200 .i32) (Af : Vec F S128x16 .f32) (Bi : Vec F S128x16 .i32)
variable {β : Type} {kk : PUnit → Prog (TpuEff nD τ sig (Elt F) Λ₀ (.scVector ((i 0).castLE hcore0) ((i 1).castLE hsub0))) β}
variable {Q : β → sProp (MT nD τ sig (HIx 1) (Elt F) ℕ UU ℕ)}

/-- The first loop. -/
theorem loop1 :
    rowsInv d i arg6 arg7 arg8 arg9 arg19 hv v4 S Af Bi 0 ⟨⟩
      ⊢ iprop((∀ acc, rowsInv d i arg6 arg7 arg8 arg9 arg19 hv v4 S Af Bi 128 acc
          -∗ wp frame (wpE (defs₀ (F := F)) 𝒱₀ (thr d i) none) Set.univ (kk acc) Q)
        -∗ wp frame (wpE (defs₀ (F := F)) 𝒱₀ (thr d i) none) Set.univ
          (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 arg14 arg15 arg16 arg17 arg18 arg19 harg19 v2 v3 v4 c) >>= kk) Q) :=
  Scf.wp_for_bind frame _ Set.univ _ _ _ _ _ _ (rowsInv d i arg6 arg7 arg8 arg9 arg19 hv v4 S Af Bi)
    (fun t u => rows_body d i arg2 harg2 arg3 harg3 arg4 harg4 arg5 harg5 arg6 harg6 arg7 harg7 arg8 harg8 arg9 harg9 arg10 harg10 arg11 harg11 arg12 harg12 arg13 arg14 arg15 arg16 arg17 arg18 arg19 harg19 hv v4 t v2 c S Af Bi u)

/-- The second loop. -/
theorem loop4 :
    rowsInv d i arg10 arg11 arg12 arg9 arg19 hv v4 S Af Bi 0 ⟨⟩
      ⊢ iprop((∀ acc, rowsInv d i arg10 arg11 arg12 arg9 arg19 hv v4 S Af Bi 128 acc
          -∗ wp frame (wpE (defs₀ (F := F)) 𝒱₀ (thr d i) none) Set.univ (kk acc) Q)
        -∗ wp frame (wpE (defs₀ (F := F)) 𝒱₀ (thr d i) none) Set.univ
          (Scf.Loop.for k0_t4_loop k0_t4_ok ⟨⟩ (k0_t4_body i arg2 harg2 arg3 harg3 arg4 harg4 arg5 harg5 arg6 harg6 arg7 harg7 arg8 harg8 arg9 harg9 arg10 harg10 arg11 harg11 arg12 harg12 arg13 arg14 arg15 arg16 arg17 arg18 arg19 harg19 v2 v3 v4 c) >>= kk) Q) := by
  rw [body4]
  exact loop1 d i arg2 harg2 arg3 harg3 arg4 harg4 arg5 harg5 arg10 harg10 arg11 harg11 arg12 harg12 arg9 harg9 arg6 harg6 arg7 harg7 arg8 harg8 arg13 arg14 arg15 arg16 arg17 arg18 arg19 harg19 hv v4 v2 _ S Af Bi

/-- The third loop. -/
theorem loop7 :
    rowsInv d i arg6 arg7 arg8 arg9 arg19 hv v4 S Af Bi 0 ⟨⟩
      ⊢ iprop((∀ acc, rowsInv d i arg6 arg7 arg8 arg9 arg19 hv v4 S Af Bi 128 acc
          -∗ wp frame (wpE (defs₀ (F := F)) 𝒱₀ (thr d i) none) Set.univ (kk acc) Q)
        -∗ wp frame (wpE (defs₀ (F := F)) 𝒱₀ (thr d i) none) Set.univ
          (Scf.Loop.for k0_t7_loop k0_t7_ok ⟨⟩ (k0_t7_body i arg2 harg2 arg3 harg3 arg4 harg4 arg5 harg5 arg6 harg6 arg7 harg7 arg8 harg8 arg9 harg9 arg10 harg10 arg11 harg11 arg12 harg12 arg13 arg14 arg15 arg16 arg17 arg18 arg19 harg19 v2 v3 v4 c) >>= kk) Q) := by
  rw [body7]
  exact loop1 d i arg2 harg2 arg3 harg3 arg4 harg4 arg5 harg5 arg6 harg6 arg7 harg7 arg8 harg8 arg9 harg9 arg10 harg10 arg11 harg11 arg12 harg12 arg13 arg14 arg15 arg16 arg17 arg18 arg19 harg19 hv v4 v2 _ S Af Bi

/-- The fourth loop. -/
theorem loop10 :
    rowsInv d i arg10 arg11 arg12 arg9 arg19 hv v4 S Af Bi 0 ⟨⟩
      ⊢ iprop((∀ acc, rowsInv d i arg10 arg11 arg12 arg9 arg19 hv v4 S Af Bi 128 acc
          -∗ wp frame (wpE (defs₀ (F := F)) 𝒱₀ (thr d i) none) Set.univ (kk acc) Q)
        -∗ wp frame (wpE (defs₀ (F := F)) 𝒱₀ (thr d i) none) Set.univ
          (Scf.Loop.for k0_t10_loop k0_t10_ok ⟨⟩ (k0_t10_body i arg2 harg2 arg3 harg3 arg4 harg4 arg5 harg5 arg6 harg6 arg7 harg7 arg8 harg8 arg9 harg9 arg10 harg10 arg11 harg11 arg12 harg12 arg13 arg14 arg15 arg16 arg17 arg18 arg19 harg19 v3 v4) >>= kk) Q) := by
  rw [body10 (v2 := 0#32)]
  exact loop1 d i arg2 harg2 arg3 harg3 arg4 harg4 arg5 harg5 arg10 harg10 arg11 harg11 arg12 harg12 arg9 harg9 arg6 harg6 arg7 harg7 arg8 harg8 arg13 arg14 arg15 arg16 arg17 arg18 arg19 harg19 hv v4 0#32 _ S Af Bi

/-- The block's buffers at their fetched contents are the rows' invariant before the first row. -/
theorem rows_start {a0 a1 a2 a9 a19} (h0 : arg6.view.read (Elt F) a0 = S) (h1 : arg7.view.read (Elt F) a1 = Af) (h2 : arg8.view.read (Elt F) a2 = Bi) :
    iprop((arg6.view.loc (thr d i) ↦{fullShare} a0) ∗ (arg7.view.loc (thr d i) ↦{fullShare} a1) ∗ (arg8.view.loc (thr d i) ↦{fullShare} a2)
        ∗ (arg9.view.loc (thr d i) ↦{fullShare} a9) ∗ (arg19.view.loc (thr d i) ↦{fullShare} a19))
      ⊢ (rowsInv d i arg6 arg7 arg8 arg9 arg19 hv v4 S Af Bi 0 ⟨⟩ : sProp 𝕄) := by
  unfold rowsInv holds
  iintro ⟨H0, H1, H2, H9, H19⟩
  iexists S
  isplitr; · ipureintro; exact BlockUpTo.zero hv v4 Af Bi S
  isplitl [H0]
  · iexists _; isplitr
    swap; · iexact H0
    ipureintro; exact h0
  isplitl [H1]
  · iexists _; isplitr
    swap; · iexact H1
    ipureintro; exact h1
  isplitl [H2]
  · iexists _; isplitr
    swap; · iexact H2
    ipureintro; exact h2
  isplitl [H19]
  · iexists _; iexists _; isplitr
    swap; · iexact H19
    ipureintro; rfl
  · iexists _; iexists _; isplitr
    swap; · iexact H9
    ipureintro; rfl

/-- After the last row: the buffers at some contents, the block's as it should be. -/
theorem rows_end (u : Unit) :
    rowsInv d i arg6 arg7 arg8 arg9 arg19 hv v4 S Af Bi 128 u
      ⊢ (iprop(∃ a0 a1 a2 a9 a19, ⌜BlockUpTo hv v4 Af Bi 128 S (arg6.view.read (Elt F) a0)⌝
        ∗ (arg6.view.loc (thr d i) ↦{fullShare} a0) ∗ (arg7.view.loc (thr d i) ↦{fullShare} a1) ∗ (arg8.view.loc (thr d i) ↦{fullShare} a2)
        ∗ (arg9.view.loc (thr d i) ↦{fullShare} a9) ∗ (arg19.view.loc (thr d i) ↦{fullShare} a19)) : sProp 𝕄) := by
  unfold rowsInv holds
  iintro ⟨%S', %hS, ⟨%a0, %h0, H0⟩, ⟨%a1, -, H1⟩, ⟨%a2, -, H2⟩, ⟨%st, %a19, -, H19⟩, ⟨%pk, %a9, -, H9⟩⟩
  iexists a0; iexists a1; iexists a2; iexists a9; iexists a19
  isplitr; · ipureintro; rw [h0]; exact hS
  isplitl [H0]; · iexact H0
  isplitl [H1]; · iexact H1
  isplitl [H2]; · iexact H2
  isplitl [H9]; · iexact H9
  iexact H19

end Cert.Proof.Groups

end
-- ==== Proof.Tile.lean ====
/-
  The kernel on one vector subcore, run: four blocks of 128 rows of the sequences and of the two auxiliary arrays are
  fetched, each row of a block is rewritten, and the block is copied out. Also: the program as the launch theorem sees it.
-/
module

public import proofs.«01_k».proof.Proof.Groups
public import Idealize.ShloMosaic.Lib.Batch

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Hold (holds)
open Cert.Proof.Lanes Cert.Proof.Chunk Cert.Proof.Step Cert.Proof.Row Cert.Proof.Groups

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide +kernel,
    fun _ => rfl⟩

local notation "𝕄" => MT nD τ sig (HIx 1) (Elt F) ℕ UU ℕ

abbrev EH : Emb UH (MT nD τ sig (HIx 1) (Elt F) ℕ UU ℕ) := embL

abbrev seqLoc (d : Dev nD) : Loc nD τ sig := (SparseCore.T d).loc main_arg0
abbrev auxfLoc (d : Dev nD) : Loc nD τ sig := (SparseCore.T d).loc main_v32
abbrev auxiLoc (d : Dev nD) : Loc nD τ sig := (SparseCore.T d).loc main_v36
abbrev outLoc (d : Dev nD) : Loc nD τ sig := (SparseCore.T d).loc main_v37

local notation "seqV" => (Memref.whole Cert.KernelIdeal.main_arg0_scv : Memref Cert.KernelIdeal.sig Kind.scVector Space.hbm Cert.KernelIdeal.S16384x200 EltTy.i32)
local notation "auxfV" => (Memref.whole Cert.KernelIdeal.main_v32_scv : Memref Cert.KernelIdeal.sig Kind.scVector Space.hbm Cert.KernelIdeal.S16384x16 EltTy.f32)
local notation "auxiV" => (Memref.whole Cert.KernelIdeal.main_v36_scv : Memref Cert.KernelIdeal.sig Kind.scVector Space.hbm Cert.KernelIdeal.S16384x16 EltTy.i32)
local notation "outV" => (Memref.whole Cert.KernelIdeal.main_v37_scv : Memref Cert.KernelIdeal.sig Kind.scVector Space.hbm Cert.KernelIdeal.S16384x200 EltTy.i32)
local notation "w0" => (Memref.whole Cert.KernelIdeal.cc0_scratch0 : Memref Cert.KernelIdeal.sig Kind.scVector Space.vmem Cert.KernelIdeal.S128x200 EltTy.i32)
local notation "w1" => (Memref.whole Cert.KernelIdeal.cc0_scratch1 : Memref Cert.KernelIdeal.sig Kind.scVector Space.vmem Cert.KernelIdeal.S128x16 EltTy.f32)
local notation "w2" => (Memref.whole Cert.KernelIdeal.cc0_scratch2 : Memref Cert.KernelIdeal.sig Kind.scVector Space.vmem Cert.KernelIdeal.S128x16 EltTy.i32)
local notation "w3" => (Memref.whole Cert.KernelIdeal.cc0_scratch3 : Memref Cert.KernelIdeal.sig Kind.scVector Space.vmem Cert.KernelIdeal.S256 EltTy.i32)
local notation "w4" => (Memref.whole Cert.KernelIdeal.cc0_scratch4 : Memref Cert.KernelIdeal.sig Kind.scVector Space.vmem Cert.KernelIdeal.S128x200 EltTy.i32)
local notation "w5" => (Memref.whole Cert.KernelIdeal.cc0_scratch5 : Memref Cert.KernelIdeal.sig Kind.scVector Space.vmem Cert.KernelIdeal.S128x16 EltTy.f32)
local notation "w6" => (Memref.whole Cert.KernelIdeal.cc0_scratch6 : Memref Cert.KernelIdeal.sig Kind.scVector Space.vmem Cert.KernelIdeal.S128x16 EltTy.i32)
local notation "w13" => (Memref.whole Cert.KernelIdeal.cc0_scratch13 : Memref Cert.KernelIdeal.sig Kind.scVector Space.vmem Cert.KernelIdeal.S16 EltTy.i32)

/-! ## A block of each array, as the subcore addresses it -/

/-- The offset of block `g` of a subcore's four, as the program writes it. -/
abbrev og (g : Fin 4) : BitVec 32 := BitVec.ofNat 32 (128 * g.val)

abbrev wideB (L : grid0.Coords) (g : Fin 4) : Rect S16384x200 := Rect.unit (s := S16384x200) (k0_off1 L (og g)) S128x200.size (k0_off1_inb L g)
abbrev slimB (L : grid0.Coords) (g : Fin 4) : Rect S16384x16 := Rect.unit (s := S16384x16) (k0_off2 L (og g)) S128x16.size (k0_off2_inb L g)
abbrev seqB (L : grid0.Coords) (g : Fin 4) : Memref sig .scVector .hbm S128x200 .i32 := (seqV).slice (wideB L g) (fun _ => rfl)
abbrev auxfB (L : grid0.Coords) (g : Fin 4) : Memref sig .scVector .hbm S128x16 .f32 := (auxfV).slice (slimB L g) (fun _ => rfl)
abbrev auxiB (L : grid0.Coords) (g : Fin 4) : Memref sig .scVector .hbm S128x16 .i32 := (auxiV).slice (slimB L g) (fun _ => rfl)
abbrev outB (L : grid0.Coords) (g : Fin 4) : Memref sig .scVector .hbm S128x200 .i32 := (outV).slice (wideB L g) (fun _ => rfl)

variable [FloatOps F]
variable (d : Dev nD)
variable (fS : Buf (Elt F) (seqLoc d)) (fA : Buf (Elt F) (auxfLoc d)) (fB : Buf (Elt F) (auxiLoc d)) (fO : Buf (Elt F) (outLoc d))
variable (L : grid0.Coords)

/-- What the kernel leaves in block `g` of subcore `L`'s four. -/
def BlockOK (g : Fin 4) (f : Buf (Elt F) (outLoc d)) : Prop :=
  BlockUpTo lanes_isLane (k0_pay166 (F := F)) ((auxfB L g).view.read (Elt F) fA) ((auxiB L g).view.read (Elt F) fB) 128
    ((seqB L g).view.read (Elt F) fS) ((outB L g).view.read (Elt F) f)

theorem blockOK_of (g : Fin 4) {w : Memref sig .scVector .vmem S128x200 .i32} {a : w.view.ty.Contents (Elt F)}
    (h : BlockUpTo lanes_isLane (k0_pay166 (F := F)) ((auxfB L g).view.read (Elt F) fA) ((auxiB L g).view.read (Elt F) fB) 128
      ((seqB L g).view.read (Elt F) fS) (w.view.read (Elt F) a))
    (f : Buf (Elt F) (outLoc d)) :
    BlockOK d fS fA fB L g ((outB L g).view.writes (Elt F) f [⟨Rect.whole S128x200, w.view.read (Elt F) a⟩]) := by
  unfold BlockOK
  rw [View.read_writes_whole]
  exact h

abbrev seqPts (g : Fin 4) : sProp 𝕄 := seqLoc d ↦[(seqB L g).view.set]{fullShare} fS
abbrev auxfPts (g : Fin 4) : sProp 𝕄 := auxfLoc d ↦[(auxfB L g).view.set]{fullShare} fA
abbrev auxiPts (g : Fin 4) : sProp 𝕄 := auxiLoc d ↦[(auxiB L g).view.set]{fullShare} fB
abbrev outPts (g : Fin 4) (f : Buf (Elt F) (outLoc d)) : sProp 𝕄 := outLoc d ↦[(outB L g).view.set]{fullShare} f

/-- Block `g` of the four arrays as a subcore takes it, and as it gives it back. -/
abbrev pieceIn (g : Fin 4) : sProp 𝕄 := iprop(seqPts d fS L g ∗ auxfPts d fA L g ∗ auxiPts d fB L g ∗ outPts d L g fO)
abbrev pieceOut (g : Fin 4) : sProp 𝕄 :=
  iprop(seqPts d fS L g ∗ auxfPts d fA L g ∗ auxiPts d fB L g ∗ ∃ f, ⌜BlockOK d fS fA fB L g f⌝ ∗ outPts d L g f)

/-! ## The subcore's own cells and buffers -/

abbrev cellOf (s : DmaSems sig S_) : GSem nD τ sig := (thr d L, .dma s.sem)

omit [FloatOps F] in
theorem ownSems0_V :
    (ownSems0 (thr d L) : sProp 𝕄)
      = iprop(semVal (cellOf d L cc0_scratch7) 0 ∗ semVal (cellOf d L cc0_scratch8) 0 ∗ semVal (cellOf d L cc0_scratch9) 0
          ∗ semVal (cellOf d L cc0_scratch10) 0 ∗ semVal (cellOf d L cc0_scratch11) 0 ∗ semVal (cellOf d L cc0_scratch12) 0
          ∗ bigSep (((((((ownCells (thr d L)).erase (cellOf d L cc0_scratch7)).erase (cellOf d L cc0_scratch8)).erase (cellOf d L cc0_scratch9)).erase
              (cellOf d L cc0_scratch10)).erase (cellOf d L cc0_scratch11)).erase (cellOf d L cc0_scratch12)) fun g => semVal g 0) := by
  have hs : ∀ s : SemLoc sig, s.isScoped .scVector = true → ((thr d L, s) : GSem nD τ sig) ∈ ownCells (thr d L) := fun s h =>
    (mem_ownCells (g := (thr d L, s))).mpr ⟨rfl, h⟩
  have hn : ∀ s t : SemLoc sig, s ≠ t → ((thr d L, s) : GSem nD τ sig) ≠ (thr d L, t) := fun s t h e => h (Prod.mk.inj e).2
  unfold SparseCore.Cfg.ownSems0
  rw [SparseCore.bigSep_erase' (hs (.dma cc0_scratch7.sem) (by decide)),
    SparseCore.bigSep_erase' (i := cellOf d L cc0_scratch8) (by
      refine Finset.mem_erase.mpr ⟨hn _ _ (by decide), hs _ (by decide)⟩),
    SparseCore.bigSep_erase' (i := cellOf d L cc0_scratch9) (by
      refine Finset.mem_erase.mpr ⟨hn _ _ (by decide), ?_⟩
      refine Finset.mem_erase.mpr ⟨hn _ _ (by decide), hs _ (by decide)⟩),
    SparseCore.bigSep_erase' (i := cellOf d L cc0_scratch10) (by
      refine Finset.mem_erase.mpr ⟨hn _ _ (by decide), ?_⟩
      refine Finset.mem_erase.mpr ⟨hn _ _ (by decide), ?_⟩
      refine Finset.mem_erase.mpr ⟨hn _ _ (by decide), hs _ (by decide)⟩),
    SparseCore.bigSep_erase' (i := cellOf d L cc0_scratch11) (by
      refine Finset.mem_erase.mpr ⟨hn _ _ (by decide), ?_⟩
      refine Finset.mem_erase.mpr ⟨hn _ _ (by decide), ?_⟩
      refine Finset.mem_erase.mpr ⟨hn _ _ (by decide), ?_⟩
      refine Finset.mem_erase.mpr ⟨hn _ _ (by decide), hs _ (by decide)⟩),
    SparseCore.bigSep_erase' (i := cellOf d L cc0_scratch12) (by
      refine Finset.mem_erase.mpr ⟨hn _ _ (by decide), ?_⟩
      refine Finset.mem_erase.mpr ⟨hn _ _ (by decide), ?_⟩
      refine Finset.mem_erase.mpr ⟨hn _ _ (by decide), ?_⟩
      refine Finset.mem_erase.mpr ⟨hn _ _ (by decide), ?_⟩
      refine Finset.mem_erase.mpr ⟨hn _ _ (by decide), hs _ (by decide)⟩)]

/-- A subcore's buffer at some contents. -/
abbrev someBuf (b : Ref sig .scVector) : sProp 𝕄 := iprop(∃ f, (thr d L).loc b ↦{fullShare} f)

abbrev refOf (b : Ref sig .scVector) : DevRef τ sig := (Proc.scVector ((L 0).castLE hcore0) ((L 1).castLE hsub0)).devRef b

/-- The subcore's buffers other than the kernel's eight. -/
abbrev restBufs : sProp 𝕄 :=
  bigSep (((((((((ownRefs (τ := τ) (sig := sig) (.scVector ((L 0).castLE hcore0) ((L 1).castLE hsub0))).erase (refOf L cc0_scratch0)).erase (refOf L cc0_scratch1)).erase
    (refOf L cc0_scratch2)).erase (refOf L cc0_scratch3)).erase (refOf L cc0_scratch4)).erase (refOf L cc0_scratch5)).erase (refOf L cc0_scratch6)).erase
    (refOf L cc0_scratch13)) fun b => iprop(∃ f, ((d, b) : Loc nD τ sig) ↦{fullShare} f)

set_option maxRecDepth 65536 in
omit [FloatOps F] in
theorem ownBufs_V :
    (ownBufs (thr d L) : sProp 𝕄)
      = iprop(someBuf d L cc0_scratch0 ∗ someBuf d L cc0_scratch1 ∗ someBuf d L cc0_scratch2 ∗ someBuf d L cc0_scratch3 ∗ someBuf d L cc0_scratch4
          ∗ someBuf d L cc0_scratch5 ∗ someBuf d L cc0_scratch6 ∗ someBuf d L cc0_scratch13 ∗ restBufs d L) := by
  have ho : ∀ b : Ref sig .scVector, (refOf L b).owner = Owner.proc (Proc.scVector ((L 0).castLE hcore0) ((L 1).castLE hsub0)) → refOf L b ∈ ownRefs (τ := τ) (sig := sig) (.scVector ((L 0).castLE hcore0) ((L 1).castLE hsub0)) := fun b h =>
    SparseCore.Cfg.mem_ownRefs_of_owner (p := Proc.scVector ((L 0).castLE hcore0) ((L 1).castLE hsub0)) h
  have hn : ∀ b b' : Ref sig .scVector, b ≠ b' → refOf L b ≠ refOf L b' := fun b b' h e => h (Proc.devRef_injective _ e)
  unfold SparseCore.Cfg.ownBufs
  refine (SparseCore.bigSep_erase' (i := refOf L cc0_scratch0) (ho _ rfl)).trans ?_
  rw [SparseCore.bigSep_erase' (i := refOf L cc0_scratch1) (by
      refine Finset.mem_erase.mpr ⟨hn _ _ (by decide), ho _ rfl⟩),
    SparseCore.bigSep_erase' (i := refOf L cc0_scratch2) (by
      refine Finset.mem_erase.mpr ⟨hn _ _ (by decide), ?_⟩
      refine Finset.mem_erase.mpr ⟨hn _ _ (by decide), ho _ rfl⟩),
    SparseCore.bigSep_erase' (i := refOf L cc0_scratch3) (by
      iterate 2 refine Finset.mem_erase.mpr ⟨hn _ _ (by decide), ?_⟩
      refine Finset.mem_erase.mpr ⟨hn _ _ (by decide), ho _ rfl⟩),
    SparseCore.bigSep_erase' (i := refOf L cc0_scratch4) (by
      iterate 3 refine Finset.mem_erase.mpr ⟨hn _ _ (by decide), ?_⟩
      refine Finset.mem_erase.mpr ⟨hn _ _ (by decide), ho _ rfl⟩),
    SparseCore.bigSep_erase' (i := refOf L cc0_scratch5) (by
      iterate 4 refine Finset.mem_erase.mpr ⟨hn _ _ (by decide), ?_⟩
      refine Finset.mem_erase.mpr ⟨hn _ _ (by decide), ho _ rfl⟩),
    SparseCore.bigSep_erase' (i := refOf L cc0_scratch6) (by
      iterate 5 refine Finset.mem_erase.mpr ⟨hn _ _ (by decide), ?_⟩
      refine Finset.mem_erase.mpr ⟨hn _ _ (by decide), ho _ rfl⟩),
    SparseCore.bigSep_erase' (i := refOf L cc0_scratch13) (by
      iterate 6 refine Finset.mem_erase.mpr ⟨hn _ _ (by decide), ?_⟩
      refine Finset.mem_erase.mpr ⟨hn _ _ (by decide), ho _ rfl⟩)]

/-! ## The run -/

abbrev bodyAt (L : grid0.Coords) := cc0__sc_body (F := F) L (seqV) (Memref.isWhole_whole _) (auxfV) (Memref.isWhole_whole _) (auxiV) (Memref.isWhole_whole _)
  (outV) (Memref.isWhole_whole _) (w0) (Memref.isWhole_whole _) (w1) (Memref.isWhole_whole _) (w2) (Memref.isWhole_whole _) (w3) (Memref.isWhole_whole _)
  (w4) (Memref.isWhole_whole _) (w5) (Memref.isWhole_whole _) (w6) (Memref.isWhole_whole _) cc0_scratch7 cc0_scratch8 cc0_scratch9 cc0_scratch10 cc0_scratch11
  cc0_scratch12 (w13) (Memref.isWhole_whole _)

set_option maxHeartbeats 8000000 in
theorem tile_body (hF : (K (F := F)).Facts) (O : CellTallies nD τ sig (HIx 1)) (W : Waits sig (HIx 1)) (hO : ∀ g, O g none = 0) :
    iprop(levAts (K (F := F)).L (K (F := F)).lev ∗ emp
        ∗ (pieceIn d fS fA fB fO L 0 ∗ pieceIn d fS fA fB fO L 1 ∗ pieceIn d fS fA fB fO L 2 ∗ pieceIn d fS fA fB fO L 3)
        ∗ scopedBufs (thr d L) ∗ scopedSems0 (thr d L) ∗ owes (thr d L) O W)
      ⊢ wp frame (wpE (defs₀ (F := F)) 𝒱₀ (thr d L) none) Set.univ (bodyAt L)
          fun _ => iprop((pieceOut d fS fA fB L 0 ∗ pieceOut d fS fA fB L 1 ∗ pieceOut d fS fA fB L 2 ∗ pieceOut d fS fA fB L 3)
            ∗ scopedBufs (thr d L) ∗ scopedSems0 (thr d L)
            ∗ ∃ W', ⌜∀ p ∈ W', p ∈ W ∨ p.2 = none⌝ ∗ owes (thr d L) O W') := by
  rw [bodyAt, cc0__sc_body_eq_skeleton]; unfold cc0__sc_body_skel
  rw [(K (F := F)).scopedBufs_V hF d _ _, SparseCore.Cfg.scopedSems0_V (Val := Elt F) d _ _, ownSems0_V, ownBufs_V]
  iintro ⟨#Hlv, -, ⟨⟨Hs0, Ha0, Hb0, Ho0⟩, ⟨Hs1, Ha1, Hb1, Ho1⟩, ⟨Hs2, Ha2, Hb2, Ho2⟩, ⟨Hs3, Ha3, Hb3, Ho3⟩⟩,
    ⟨⟨%f0, H0⟩, ⟨%f1, H1⟩, ⟨%f2, H2⟩, ⟨%f3, H3⟩, ⟨%f4, H4⟩, ⟨%f5, H5⟩, ⟨%f6, H6⟩, ⟨%f13, H13⟩, Hbufs⟩,
    ⟨Hm7, Hm8, Hm9, Hm10, Hm11, Hm12, Hsems⟩, HO⟩
  ihave Hmw := (show levAts (K (F := F)).L (K (F := F)).lev ⊢ Transfers.MayWaits (thr d L) (default : HIx 1) O from
    (K (F := F)).mayWaits_none (thr := thr d L) hO) $$ Hlv
  have plan9 : Transfers.BatchOf (thr d L) (SemLoc.dma (sig := sig) cc0_scratch9.sem) 2 := trivial
  have plan10 : Transfers.BatchOf (thr d L) (SemLoc.dma (sig := sig) cc0_scratch10.sem) 2 := trivial
  ihave Hs0 := (show seqPts d fS L 0 ⊢ (((seqV).slice (Rect.unit (s := S16384x200) (k0_off1 L 0#32) S128x200.size (k0_off1_inb L 0)) (fun _ => rfl)).view.loc (thr d L) ↦[((seqV).slice (Rect.unit (s := S16384x200) (k0_off1 L 0#32) S128x200.size (k0_off1_inb L 0)) (fun _ => rfl)).view.set]{fullShare} fS : sProp 𝕄) from .rfl) $$ Hs0
  ihave Ha0 := (show auxfPts d fA L 0 ⊢ (((auxfV).slice (Rect.unit (s := S16384x16) (k0_off2 L 0#32) S128x16.size (k0_off2_inb L 0)) (fun _ => rfl)).view.loc (thr d L) ↦[((auxfV).slice (Rect.unit (s := S16384x16) (k0_off2 L 0#32) S128x16.size (k0_off2_inb L 0)) (fun _ => rfl)).view.set]{fullShare} fA : sProp 𝕄) from .rfl) $$ Ha0
  ihave Hb0 := (show auxiPts d fB L 0 ⊢ (((auxiV).slice (Rect.unit (s := S16384x16) (k0_off2 L 0#32) S128x16.size (k0_off2_inb L 0)) (fun _ => rfl)).view.loc (thr d L) ↦[((auxiV).slice (Rect.unit (s := S16384x16) (k0_off2 L 0#32) S128x16.size (k0_off2_inb L 0)) (fun _ => rfl)).view.set]{fullShare} fB : sProp 𝕄) from .rfl) $$ Hb0
  ihave Ho0 := (show outPts d L 0 fO ⊢ (((outV).slice (Rect.unit (s := S16384x200) (k0_off1 L 0#32) S128x200.size (k0_off1_inb L 0)) (fun _ => rfl)).view.loc (thr d L) ↦[((outV).slice (Rect.unit (s := S16384x200) (k0_off1 L 0#32) S128x200.size (k0_off1_inb L 0)) (fun _ => rfl)).view.set]{fullShare} fO : sProp 𝕄) from .rfl) $$ Ho0
  ihave Hs1 := (show seqPts d fS L 1 ⊢ (((seqV).slice (Rect.unit (s := S16384x200) (k0_off1 L 128#32) S128x200.size (k0_off1_inb L 1)) (fun _ => rfl)).view.loc (thr d L) ↦[((seqV).slice (Rect.unit (s := S16384x200) (k0_off1 L 128#32) S128x200.size (k0_off1_inb L 1)) (fun _ => rfl)).view.set]{fullShare} fS : sProp 𝕄) from .rfl) $$ Hs1
  ihave Ha1 := (show auxfPts d fA L 1 ⊢ (((auxfV).slice (Rect.unit (s := S16384x16) (k0_off2 L 128#32) S128x16.size (k0_off2_inb L 1)) (fun _ => rfl)).view.loc (thr d L) ↦[((auxfV).slice (Rect.unit (s := S16384x16) (k0_off2 L 128#32) S128x16.size (k0_off2_inb L 1)) (fun _ => rfl)).view.set]{fullShare} fA : sProp 𝕄) from .rfl) $$ Ha1
  ihave Hb1 := (show auxiPts d fB L 1 ⊢ (((auxiV).slice (Rect.unit (s := S16384x16) (k0_off2 L 128#32) S128x16.size (k0_off2_inb L 1)) (fun _ => rfl)).view.loc (thr d L) ↦[((auxiV).slice (Rect.unit (s := S16384x16) (k0_off2 L 128#32) S128x16.size (k0_off2_inb L 1)) (fun _ => rfl)).view.set]{fullShare} fB : sProp 𝕄) from .rfl) $$ Hb1
  ihave Ho1 := (show outPts d L 1 fO ⊢ (((outV).slice (Rect.unit (s := S16384x200) (k0_off1 L 128#32) S128x200.size (k0_off1_inb L 1)) (fun _ => rfl)).view.loc (thr d L) ↦[((outV).slice (Rect.unit (s := S16384x200) (k0_off1 L 128#32) S128x200.size (k0_off1_inb L 1)) (fun _ => rfl)).view.set]{fullShare} fO : sProp 𝕄) from .rfl) $$ Ho1
  ihave Hs2 := (show seqPts d fS L 2 ⊢ (((seqV).slice (Rect.unit (s := S16384x200) (k0_off1 L 256#32) S128x200.size (k0_off1_inb L 2)) (fun _ => rfl)).view.loc (thr d L) ↦[((seqV).slice (Rect.unit (s := S16384x200) (k0_off1 L 256#32) S128x200.size (k0_off1_inb L 2)) (fun _ => rfl)).view.set]{fullShare} fS : sProp 𝕄) from .rfl) $$ Hs2
  ihave Ha2 := (show auxfPts d fA L 2 ⊢ (((auxfV).slice (Rect.unit (s := S16384x16) (k0_off2 L 256#32) S128x16.size (k0_off2_inb L 2)) (fun _ => rfl)).view.loc (thr d L) ↦[((auxfV).slice (Rect.unit (s := S16384x16) (k0_off2 L 256#32) S128x16.size (k0_off2_inb L 2)) (fun _ => rfl)).view.set]{fullShare} fA : sProp 𝕄) from .rfl) $$ Ha2
  ihave Hb2 := (show auxiPts d fB L 2 ⊢ (((auxiV).slice (Rect.unit (s := S16384x16) (k0_off2 L 256#32) S128x16.size (k0_off2_inb L 2)) (fun _ => rfl)).view.loc (thr d L) ↦[((auxiV).slice (Rect.unit (s := S16384x16) (k0_off2 L 256#32) S128x16.size (k0_off2_inb L 2)) (fun _ => rfl)).view.set]{fullShare} fB : sProp 𝕄) from .rfl) $$ Hb2
  ihave Ho2 := (show outPts d L 2 fO ⊢ (((outV).slice (Rect.unit (s := S16384x200) (k0_off1 L 256#32) S128x200.size (k0_off1_inb L 2)) (fun _ => rfl)).view.loc (thr d L) ↦[((outV).slice (Rect.unit (s := S16384x200) (k0_off1 L 256#32) S128x200.size (k0_off1_inb L 2)) (fun _ => rfl)).view.set]{fullShare} fO : sProp 𝕄) from .rfl) $$ Ho2
  ihave Hs3 := (show seqPts d fS L 3 ⊢ (((seqV).slice (Rect.unit (s := S16384x200) (k0_off1 L 384#32) S128x200.size (k0_off1_inb L 3)) (fun _ => rfl)).view.loc (thr d L) ↦[((seqV).slice (Rect.unit (s := S16384x200) (k0_off1 L 384#32) S128x200.size (k0_off1_inb L 3)) (fun _ => rfl)).view.set]{fullShare} fS : sProp 𝕄) from .rfl) $$ Hs3
  ihave Ha3 := (show auxfPts d fA L 3 ⊢ (((auxfV).slice (Rect.unit (s := S16384x16) (k0_off2 L 384#32) S128x16.size (k0_off2_inb L 3)) (fun _ => rfl)).view.loc (thr d L) ↦[((auxfV).slice (Rect.unit (s := S16384x16) (k0_off2 L 384#32) S128x16.size (k0_off2_inb L 3)) (fun _ => rfl)).view.set]{fullShare} fA : sProp 𝕄) from .rfl) $$ Ha3
  ihave Hb3 := (show auxiPts d fB L 3 ⊢ (((auxiV).slice (Rect.unit (s := S16384x16) (k0_off2 L 384#32) S128x16.size (k0_off2_inb L 3)) (fun _ => rfl)).view.loc (thr d L) ↦[((auxiV).slice (Rect.unit (s := S16384x16) (k0_off2 L 384#32) S128x16.size (k0_off2_inb L 3)) (fun _ => rfl)).view.set]{fullShare} fB : sProp 𝕄) from .rfl) $$ Hb3
  ihave Ho3 := (show outPts d L 3 fO ⊢ (((outV).slice (Rect.unit (s := S16384x200) (k0_off1 L 384#32) S128x200.size (k0_off1_inb L 3)) (fun _ => rfl)).view.loc (thr d L) ↦[((outV).slice (Rect.unit (s := S16384x200) (k0_off1 L 384#32) S128x200.size (k0_off1_inb L 3)) (fun _ => rfl)).view.set]{fullShare} fO : sProp 𝕄) from .rfl) $$ Ho3
  ihave H0 := (show ((thr d L).loc cc0_scratch0 ↦{fullShare} f0 : sProp 𝕄) ⊢ ((w0).view.loc (thr d L) ↦{fullShare} f0 : sProp 𝕄) from .rfl) $$ H0
  ihave H1 := (show ((thr d L).loc cc0_scratch1 ↦{fullShare} f1 : sProp 𝕄) ⊢ ((w1).view.loc (thr d L) ↦{fullShare} f1 : sProp 𝕄) from .rfl) $$ H1
  ihave H2 := (show ((thr d L).loc cc0_scratch2 ↦{fullShare} f2 : sProp 𝕄) ⊢ ((w2).view.loc (thr d L) ↦{fullShare} f2 : sProp 𝕄) from .rfl) $$ H2
  ihave H3 := (show ((thr d L).loc cc0_scratch3 ↦{fullShare} f3 : sProp 𝕄) ⊢ ((w3).view.loc (thr d L) ↦{fullShare} f3 : sProp 𝕄) from .rfl) $$ H3
  ihave H4 := (show ((thr d L).loc cc0_scratch4 ↦{fullShare} f4 : sProp 𝕄) ⊢ ((w4).view.loc (thr d L) ↦{fullShare} f4 : sProp 𝕄) from .rfl) $$ H4
  ihave H5 := (show ((thr d L).loc cc0_scratch5 ↦{fullShare} f5 : sProp 𝕄) ⊢ ((w5).view.loc (thr d L) ↦{fullShare} f5 : sProp 𝕄) from .rfl) $$ H5
  ihave H6 := (show ((thr d L).loc cc0_scratch6 ↦{fullShare} f6 : sProp 𝕄) ⊢ ((w6).view.loc (thr d L) ↦{fullShare} f6 : sProp 𝕄) from .rfl) $$ H6
  ihave H13 := (show ((thr d L).loc cc0_scratch13 ↦{fullShare} f13 : sProp 𝕄) ⊢ ((w13).view.loc (thr d L) ↦{fullShare} f13 : sProp 𝕄) from .rfl) $$ H13
  sl_exec
  iapply (loop1 d L (seqV) (Memref.isWhole_whole _) (auxfV) (Memref.isWhole_whole _) (auxiV) (Memref.isWhole_whole _) (outV) (Memref.isWhole_whole _) (w0) (Memref.isWhole_whole _) (w1) (Memref.isWhole_whole _) (w2) (Memref.isWhole_whole _) (w3) (Memref.isWhole_whole _) (w4) (Memref.isWhole_whole _) (w5) (Memref.isWhole_whole _) (w6) (Memref.isWhole_whole _) cc0_scratch7 cc0_scratch8 cc0_scratch9 cc0_scratch10 cc0_scratch11 cc0_scratch12 (w13) (Memref.isWhole_whole _) lanes_isLane (k0_pay166 (F := F)) _ _ ((seqB L 0).view.read (Elt F) fS)
    ((auxfB L 0).view.read (Elt F) fA) ((auxiB L 0).view.read (Elt F) fB)) $$ [H0 H1 H2 H3 H13]
  · iapply (rows_start d L (w0) (w1) (w2) (w3) (w13) lanes_isLane (k0_pay166 (F := F)) ((seqB L 0).view.read (Elt F) fS) ((auxfB L 0).view.read (Elt F) fA) ((auxiB L 0).view.read (Elt F) fB)
      (View.read_write_univ _ _) (View.read_write_univ _ _) (View.read_write_univ _ _))
    isplitl [H0]; · iexact H0
    isplitl [H1]; · iexact H1
    isplitl [H2]; · iexact H2
    isplitl [H3]; · iexact H3
    iexact H13
  iintro %u0 HR
  ihave HR := (rows_end d L (w0) (w1) (w2) (w3) (w13) lanes_isLane (k0_pay166 (F := F)) ((seqB L 0).view.read (Elt F) fS)
    ((auxfB L 0).view.read (Elt F) fA) ((auxiB L 0).view.read (Elt F) fB) u0) $$ HR
  icases HR with ⟨%a00, %a01, %a02, %a03, %a04, %hB0, H0, H1, H2, H3, H13⟩
  sl_exec
  iapply (loop4 d L (seqV) (Memref.isWhole_whole _) (auxfV) (Memref.isWhole_whole _) (auxiV) (Memref.isWhole_whole _) (outV) (Memref.isWhole_whole _) (w0) (Memref.isWhole_whole _) (w1) (Memref.isWhole_whole _) (w2) (Memref.isWhole_whole _) (w3) (Memref.isWhole_whole _) (w4) (Memref.isWhole_whole _) (w5) (Memref.isWhole_whole _) (w6) (Memref.isWhole_whole _) cc0_scratch7 cc0_scratch8 cc0_scratch9 cc0_scratch10 cc0_scratch11 cc0_scratch12 (w13) (Memref.isWhole_whole _) lanes_isLane (k0_pay166 (F := F)) _ _ ((seqB L 1).view.read (Elt F) fS)
    ((auxfB L 1).view.read (Elt F) fA) ((auxiB L 1).view.read (Elt F) fB)) $$ [H4 H5 H6 H3 H13]
  · iapply (rows_start d L (w4) (w5) (w6) (w3) (w13) lanes_isLane (k0_pay166 (F := F)) ((seqB L 1).view.read (Elt F) fS) ((auxfB L 1).view.read (Elt F) fA) ((auxiB L 1).view.read (Elt F) fB)
      (View.read_write_univ _ _) (View.read_write_univ _ _) (View.read_write_univ _ _))
    isplitl [H4]; · iexact H4
    isplitl [H5]; · iexact H5
    isplitl [H6]; · iexact H6
    isplitl [H3]; · iexact H3
    iexact H13
  iintro %u1 HR
  ihave HR := (rows_end d L (w4) (w5) (w6) (w3) (w13) lanes_isLane (k0_pay166 (F := F)) ((seqB L 1).view.read (Elt F) fS)
    ((auxfB L 1).view.read (Elt F) fA) ((auxiB L 1).view.read (Elt F) fB) u1) $$ HR
  icases HR with ⟨%a10, %a11, %a12, %a13, %a14, %hB1, H4, H5, H6, H3, H13⟩
  sl_exec
  iapply (loop7 d L (seqV) (Memref.isWhole_whole _) (auxfV) (Memref.isWhole_whole _) (auxiV) (Memref.isWhole_whole _) (outV) (Memref.isWhole_whole _) (w0) (Memref.isWhole_whole _) (w1) (Memref.isWhole_whole _) (w2) (Memref.isWhole_whole _) (w3) (Memref.isWhole_whole _) (w4) (Memref.isWhole_whole _) (w5) (Memref.isWhole_whole _) (w6) (Memref.isWhole_whole _) cc0_scratch7 cc0_scratch8 cc0_scratch9 cc0_scratch10 cc0_scratch11 cc0_scratch12 (w13) (Memref.isWhole_whole _) lanes_isLane (k0_pay166 (F := F)) _ _ ((seqB L 2).view.read (Elt F) fS)
    ((auxfB L 2).view.read (Elt F) fA) ((auxiB L 2).view.read (Elt F) fB)) $$ [H0 H1 H2 H3 H13]
  · iapply (rows_start d L (w0) (w1) (w2) (w3) (w13) lanes_isLane (k0_pay166 (F := F)) ((seqB L 2).view.read (Elt F) fS) ((auxfB L 2).view.read (Elt F) fA) ((auxiB L 2).view.read (Elt F) fB)
      (View.read_write_univ _ _) (View.read_write_univ _ _) (View.read_write_univ _ _))
    isplitl [H0]; · iexact H0
    isplitl [H1]; · iexact H1
    isplitl [H2]; · iexact H2
    isplitl [H3]; · iexact H3
    iexact H13
  iintro %u2 HR
  ihave HR := (rows_end d L (w0) (w1) (w2) (w3) (w13) lanes_isLane (k0_pay166 (F := F)) ((seqB L 2).view.read (Elt F) fS)
    ((auxfB L 2).view.read (Elt F) fA) ((auxiB L 2).view.read (Elt F) fB) u2) $$ HR
  icases HR with ⟨%a20, %a21, %a22, %a23, %a24, %hB2, H0, H1, H2, H3, H13⟩
  sl_exec
  iapply (loop10 d L (seqV) (Memref.isWhole_whole _) (auxfV) (Memref.isWhole_whole _) (auxiV) (Memref.isWhole_whole _) (outV) (Memref.isWhole_whole _) (w0) (Memref.isWhole_whole _) (w1) (Memref.isWhole_whole _) (w2) (Memref.isWhole_whole _) (w3) (Memref.isWhole_whole _) (w4) (Memref.isWhole_whole _) (w5) (Memref.isWhole_whole _) (w6) (Memref.isWhole_whole _) cc0_scratch7 cc0_scratch8 cc0_scratch9 cc0_scratch10 cc0_scratch11 cc0_scratch12 (w13) (Memref.isWhole_whole _) lanes_isLane (k0_pay166 (F := F)) ((seqB L 3).view.read (Elt F) fS)
    ((auxfB L 3).view.read (Elt F) fA) ((auxiB L 3).view.read (Elt F) fB)) $$ [H4 H5 H6 H3 H13]
  · iapply (rows_start d L (w4) (w5) (w6) (w3) (w13) lanes_isLane (k0_pay166 (F := F)) ((seqB L 3).view.read (Elt F) fS) ((auxfB L 3).view.read (Elt F) fA) ((auxiB L 3).view.read (Elt F) fB)
      (View.read_write_univ _ _) (View.read_write_univ _ _) (View.read_write_univ _ _))
    isplitl [H4]; · iexact H4
    isplitl [H5]; · iexact H5
    isplitl [H6]; · iexact H6
    isplitl [H3]; · iexact H3
    iexact H13
  iintro %u3 HR
  ihave HR := (rows_end d L (w4) (w5) (w6) (w3) (w13) lanes_isLane (k0_pay166 (F := F)) ((seqB L 3).view.read (Elt F) fS)
    ((auxfB L 3).view.read (Elt F) fA) ((auxiB L 3).view.read (Elt F) fB) u3) $$ HR
  icases HR with ⟨%a30, %a31, %a32, %a33, %a34, %hB3, H4, H5, H6, H3, H13⟩
  sl_exec
  sl_step
  isplitl [Hs0 Ha0 Hb0 Ho0 Hs1 Ha1 Hb1 Ho1 Hs2 Ha2 Hb2 Ho2 Hs3 Ha3 Hb3 Ho3]
  · isplitl [Hs0 Ha0 Hb0 Ho0]
    · isplitl [Hs0]; · iexact Hs0
      isplitl [Ha0]; · iexact Ha0
      isplitl [Hb0]; · iexact Hb0
      iexists _; isplitr
      swap; · iexact Ho0
      ipureintro; exact blockOK_of d fS fA fB L 0 (w := w0) hB0 _
    isplitl [Hs1 Ha1 Hb1 Ho1]
    · isplitl [Hs1]; · iexact Hs1
      isplitl [Ha1]; · iexact Ha1
      isplitl [Hb1]; · iexact Hb1
      iexists _; isplitr
      swap; · iexact Ho1
      ipureintro; exact blockOK_of d fS fA fB L 1 (w := w4) hB1 _
    isplitl [Hs2 Ha2 Hb2 Ho2]
    · isplitl [Hs2]; · iexact Hs2
      isplitl [Ha2]; · iexact Ha2
      isplitl [Hb2]; · iexact Hb2
      iexists _; isplitr
      swap; · iexact Ho2
      ipureintro; exact blockOK_of d fS fA fB L 2 (w := w0) hB2 _
    isplitl [Hs3]; · iexact Hs3
    isplitl [Ha3]; · iexact Ha3
    isplitl [Hb3]; · iexact Hb3
    iexists _; isplitr
    swap; · iexact Ho3
    ipureintro; exact blockOK_of d fS fA fB L 3 (w := w4) hB3 _
  isplitl [H0 H1 H2 H3 H4 H5 H6 H13 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H13]; · iexists _; iexact H13
    iexact Hbufs
  isplitl [Hm7 Hm8 Hm9 Hm10 Hm11 Hm12 Hsems]
  · isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    iexact Hsems
  iexists _; isplitr
  swap; · iexact HO
  ipureintro
  intro p hp
  simp only [Finset.mem_insert] at hp
  rcases hp with hp | hp | hp | hp | hp | hp | hp | hp | hp | hp | hp | hp | hp | hp | hp | hp | hp <;> first | exact .inr (hp ▸ rfl) | exact .inl hp

end Cert.Proof.Tile

end
-- ==== Proof.Split.lean ====
/-
  The arrays in HBM cut into the blocks the vector subcores take, and joined again: subcore `(c, s)` has the four blocks of
  128 rows from row `1024 s + 512 c`. What holds of each block of the output holds of each row of the joined one.
-/
module

public import proofs.«01_k».proof.Proof.Tile

@[expose] public section

noncomputable section

namespace Cert.Proof.Split

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)
open Cert.Proof.Lanes Cert.Proof.Chunk Cert.Proof.Step Cert.Proof.Row Cert.Proof.Groups Cert.Proof.Tile

variable {F : FTy → Type}

local notation "𝕄" => MT nD τ sig (HIx 1) (Elt F) ℕ UU ℕ

/-- The grid's coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A block: its SparseCore, its subcore, its place among the subcore's four. -/
abbrev Blk : Type := Fin 2 × Fin 16 × Fin 4
abbrev crd (p : Blk) : grid0.Coords := coordsV p.1 p.2.1
/-- A block's first row. -/
def base (p : Blk) : ℕ := 1024 * p.2.1.val + 512 * p.1.val + 128 * p.2.2.val

theorem base_le (p : Blk) : base p + 128 ≤ 16384 := by
  have := p.1.isLt; have := p.2.1.isLt; have := p.2.2.isLt
  unfold base; omega

theorem base_apart {p q : Blk} (h : p ≠ q) : base p + 128 ≤ base q ∨ base q + 128 ≤ base p := by
  obtain ⟨⟨a, ha⟩, ⟨b, hb⟩, ⟨c, hc⟩⟩ := p
  obtain ⟨⟨a', ha'⟩, ⟨b', hb'⟩, ⟨c', hc'⟩⟩ := q
  have hne : ¬ (a = a' ∧ b = b' ∧ c = c') := fun ⟨e1, e2, e3⟩ => h (by subst e1 e2 e3; rfl)
  simp only [base]
  omega

/-- The block of row `R`, and its row there. -/
def blkOf (R : Fin 16384) : Blk := (⟨R.val / 512 % 2, by omega⟩, ⟨R.val / 1024, by omega⟩, ⟨R.val / 128 % 4, by omega⟩)
theorem base_blkOf (R : Fin 16384) : base (blkOf R) + R.val % 128 = R.val := by
  simp only [base, blkOf]; omega

abbrev wset (p : Blk) : Finset S16384x200.Idx := (wideB (crd p) p.2.2).set
abbrev sset (p : Blk) : Finset S16384x16.Idx := (slimB (crd p) p.2.2).set

theorem off1 (p : Blk) : k0_off1 (crd p) (og p.2.2) = ![base p, 0] := k0_off1_eq (crd p) p.2.2
theorem off2 (p : Blk) : k0_off2 (crd p) (og p.2.2) = ![base p, 0] := k0_off2_eq (crd p) p.2.2

theorem mem_wset (p : Blk) (j : S16384x200.Idx) : j ∈ wset p ↔ base p ≤ (j 0).val ∧ (j 0).val < base p + 128 := by
  rw [wset, wideB, Rect.mem_set_unit, off1]
  constructor
  · intro h; exact h 0
  · intro h a
    match a with
    | ⟨0, _⟩ => exact h
    | ⟨1, _⟩ => exact ⟨Nat.zero_le _, by have := (j 1).isLt; show (j 1).val < 0 + 200; have h2 : (j 1).val < 200 := this; omega⟩

theorem mem_sset (p : Blk) (j : S16384x16.Idx) : j ∈ sset p ↔ base p ≤ (j 0).val ∧ (j 0).val < base p + 128 := by
  rw [sset, slimB, Rect.mem_set_unit, off2]
  constructor
  · intro h; exact h 0
  · intro h a
    match a with
    | ⟨0, _⟩ => exact h
    | ⟨1, _⟩ => exact ⟨Nat.zero_le _, by have := (j 1).isLt; show (j 1).val < 0 + 16; have h2 : (j 1).val < 16 := this; omega⟩

theorem wset_disjoint : ∀ p ∈ (Finset.univ : Finset Blk), ∀ q ∈ (Finset.univ : Finset Blk), p ≠ q → Disjoint (wset p) (wset q) := by
  intro p _ q _ h
  refine Finset.disjoint_left.mpr fun j h1 h2 => ?_
  rw [mem_wset] at h1 h2
  have := base_apart h
  omega
theorem sset_disjoint : ∀ p ∈ (Finset.univ : Finset Blk), ∀ q ∈ (Finset.univ : Finset Blk), p ≠ q → Disjoint (sset p) (sset q) := by
  intro p _ q _ h
  refine Finset.disjoint_left.mpr fun j h1 h2 => ?_
  rw [mem_sset] at h1 h2
  have := base_apart h
  omega
theorem wset_cover : (Finset.univ : Finset Blk).biUnion wset = Finset.univ := by
  refine Finset.eq_univ_iff_forall.mpr fun j => Finset.mem_biUnion.mpr ⟨blkOf (j 0), Finset.mem_univ _, ?_⟩
  rw [mem_wset]
  have h := base_blkOf (j 0)
  have h2 : (j 0).val % 128 < 128 := Nat.mod_lt _ (by decide)
  omega
theorem sset_cover : (Finset.univ : Finset Blk).biUnion sset = Finset.univ := by
  refine Finset.eq_univ_iff_forall.mpr fun j => Finset.mem_biUnion.mpr ⟨blkOf (j 0), Finset.mem_univ _, ?_⟩
  rw [mem_sset]
  have h := base_blkOf (j 0)
  have h2 : (j 0).val % 128 < 128 := Nat.mod_lt _ (by decide)
  omega

/-! ## The blocks as the subcores address them -/

theorem seqB_set (p : Blk) : (seqB (crd p) p.2.2).view.set = wset p := by
  show ((View.whole (main_arg0_scv : Ref sig .scVector)).slice (wideB (crd p) p.2.2)).set = _
  rw [View.set_slice]; exact Finset.map_refl
theorem outB_set (p : Blk) : (outB (crd p) p.2.2).view.set = wset p := by
  show ((View.whole (main_v37_scv : Ref sig .scVector)).slice (wideB (crd p) p.2.2)).set = _
  rw [View.set_slice]; exact Finset.map_refl
theorem auxfB_set (p : Blk) : (auxfB (crd p) p.2.2).view.set = sset p := by
  show ((View.whole (main_v32_scv : Ref sig .scVector)).slice (slimB (crd p) p.2.2)).set = _
  rw [View.set_slice]; exact Finset.map_refl
theorem auxiB_set (p : Blk) : (auxiB (crd p) p.2.2).view.set = sset p := by
  show ((View.whole (main_v36_scv : Ref sig .scVector)).slice (slimB (crd p) p.2.2)).set = _
  rw [View.set_slice]; exact Finset.map_refl

variable (d : Dev nD)

theorem seq_blocks (f : Buf (Elt F) (seqLoc d)) :
    (seqLoc d ↦{fullShare} f : sProp 𝕄) = bigSep Finset.univ fun p : Blk => seqLoc d ↦[wset p]{fullShare} f := by
  rw [← pointsTo_biUnion Finset.univ (ℓ := seqLoc d) wset wset_disjoint, wset_cover]; try rfl
theorem out_blocks (f : Buf (Elt F) (outLoc d)) :
    (outLoc d ↦{fullShare} f : sProp 𝕄) = bigSep Finset.univ fun p : Blk => outLoc d ↦[wset p]{fullShare} f := by
  rw [← pointsTo_biUnion Finset.univ (ℓ := outLoc d) wset wset_disjoint, wset_cover]; try rfl
theorem auxf_blocks (f : Buf (Elt F) (auxfLoc d)) :
    (auxfLoc d ↦{fullShare} f : sProp 𝕄) = bigSep Finset.univ fun p : Blk => auxfLoc d ↦[sset p]{fullShare} f := by
  rw [← pointsTo_biUnion Finset.univ (ℓ := auxfLoc d) sset sset_disjoint, sset_cover]; try rfl
theorem auxi_blocks (f : Buf (Elt F) (auxiLoc d)) :
    (auxiLoc d ↦{fullShare} f : sProp 𝕄) = bigSep Finset.univ fun p : Blk => auxiLoc d ↦[sset p]{fullShare} f := by
  rw [← pointsTo_biUnion Finset.univ (ℓ := auxiLoc d) sset sset_disjoint, sset_cover]; try rfl

theorem bigSep_blk (Φ : Blk → sProp 𝕄) :
    bigSep Finset.univ Φ = bigSep Finset.univ fun c : Fin 2 => bigSep Finset.univ fun s : Fin 16 => bigSep Finset.univ fun g : Fin 4 => Φ (c, s, g) := by
  rw [bigSep_univ_prod]
  exact bigSep_congr fun c _ => bigSep_univ_prod _

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide), SparseCore.bigSep_insert' (by decide),
    SparseCore.bigSep_insert' (by decide), bigSep_singleton]

/-! ## What is known of each row -/

variable [FloatOps F]
variable (fS : Buf (Elt F) (seqLoc d)) (fA : Buf (Elt F) (auxfLoc d)) (fB : Buf (Elt F) (auxiLoc d)) (fO : Buf (Elt F) (outLoc d))

abbrev wrow (f : Vec F S16384x200 .i32) (R : Fin 16384) : Vec F W200 .i32 := fun j => f (ix2 R (j 0))
abbrev srow {e : EltTy} (f : Vec F S16384x16 e) (R : Fin 16384) : Vec F S1x16 e := fun j => f (ix2 R (j 1))

/-- Every row of the output is what the kernel makes of the row of the sequences and of the two auxiliary arrays. -/
def RowsOK (f : Buf (Elt F) (outLoc d)) : Prop :=
  ∀ R : Fin 16384, RowOut lanes_isLane (k0_pay166 (F := F)) (wrow fS R) (srow fA R) (srow fB R) (wrow f R)

omit [FloatOps F] in
theorem wide_emb (p : Blk) (r : Fin 128) (R : Fin 16384) (hR : base p + r.val = R.val) (k : Fin 200) :
    (wideB (crd p) p.2.2).emb (ix2 r k) = (ix2 R k : S16384x200.Idx) := by
  funext a
  apply Fin.ext
  have h := off1 p
  match a with
  | ⟨0, _⟩ =>
    show k0_off1 (crd p) (og p.2.2) 0 + 1 * r.val = R.val
    rw [h]; show base p + 1 * r.val = R.val; omega
  | ⟨1, _⟩ =>
    show k0_off1 (crd p) (og p.2.2) 1 + 1 * k.val = k.val
    rw [h]; show 0 + 1 * k.val = k.val; omega

omit [FloatOps F] in
theorem slim_emb (p : Blk) (r : Fin 128) (R : Fin 16384) (hR : base p + r.val = R.val) (k : Fin 16) :
    (slimB (crd p) p.2.2).emb (ix2 r k) = (ix2 R k : S16384x16.Idx) := by
  funext a
  apply Fin.ext
  have h := off2 p
  match a with
  | ⟨0, _⟩ =>
    show k0_off2 (crd p) (og p.2.2) 0 + 1 * r.val = R.val
    rw [h]; show base p + 1 * r.val = R.val; omega
  | ⟨1, _⟩ =>
    show k0_off2 (crd p) (og p.2.2) 1 + 1 * k.val = k.val
    rw [h]; show 0 + 1 * k.val = k.val; omega

/-- The rows of an output that agrees on each block with contents for which the block is right. -/
theorem rowsOK_of (fs : Blk → Buf (Elt F) (outLoc d)) (f : Buf (Elt F) (outLoc d))
    (hfs : ∀ p, BlockOK d fS fA fB (crd p) p.2.2 (fs p)) (hf : ∀ p, ∀ j ∈ wset p, f j = fs p j) : RowsOK d fS fA fB f := by
  intro R
  have hlt : R.val % 128 < 128 := Nat.mod_lt _ (by decide)
  have hR := base_blkOf R
  generalize hp : blkOf R = p at hR
  obtain ⟨h, -⟩ := hfs p ⟨R.val % 128, hlt⟩
  have h := h hlt
  have e1 : ∀ (b : Vec F S16384x200 .i32), rowOf (F := F) (fun j => b ((wideB (crd p) p.2.2).emb j)) ⟨R.val % 128, hlt⟩ = wrow b R := by
    intro b; funext j
    exact congrArg b (wide_emb p ⟨R.val % 128, hlt⟩ R hR (j 0))
  have e2 : ∀ {e : EltTy} (b : Vec F S16384x16 e), auxRow (F := F) (fun j => b ((slimB (crd p) p.2.2).emb j)) ⟨R.val % 128, hlt⟩ = srow b R := by
    intro e b; funext j
    exact congrArg b (slim_emb p ⟨R.val % 128, hlt⟩ R hR (j 1))
  have e3 : wrow f R = wrow (fs p) R := by
    funext j
    refine hf p (ix2 R (j 0)) ((mem_wset p _).mpr ?_)
    show base p ≤ R.val ∧ R.val < base p + 128
    omega
  rw [e3, ← e1 fS, ← e1 (fs p), ← e2 fA, ← e2 fB]
  exact h

/-! ## The four arrays, cut and joined -/

/-- The four arrays whole. -/
abbrev whole (f : Buf (Elt F) (outLoc d)) : sProp 𝕄 :=
  iprop((seqLoc d ↦{fullShare} fS) ∗ (auxfLoc d ↦{fullShare} fA) ∗ (auxiLoc d ↦{fullShare} fB) ∗ outLoc d ↦{fullShare} f)

theorem pieceIn_eq (p : Blk) : (pieceIn d fS fA fB fO (crd p) p.2.2 : sProp 𝕄)
    = iprop((seqLoc d ↦[wset p]{fullShare} fS) ∗ (auxfLoc d ↦[sset p]{fullShare} fA) ∗ (auxiLoc d ↦[sset p]{fullShare} fB) ∗ outLoc d ↦[wset p]{fullShare} fO) := by
  show iprop((seqLoc d ↦[(seqB (crd p) p.2.2).view.set]{fullShare} fS) ∗ (auxfLoc d ↦[(auxfB (crd p) p.2.2).view.set]{fullShare} fA)
    ∗ (auxiLoc d ↦[(auxiB (crd p) p.2.2).view.set]{fullShare} fB) ∗ outLoc d ↦[(outB (crd p) p.2.2).view.set]{fullShare} fO) = _
  rw [seqB_set, auxfB_set, auxiB_set, outB_set]

theorem pieceOut_eq (p : Blk) : (pieceOut d fS fA fB (crd p) p.2.2 : sProp 𝕄)
    = iprop((seqLoc d ↦[wset p]{fullShare} fS) ∗ (auxfLoc d ↦[sset p]{fullShare} fA) ∗ (auxiLoc d ↦[sset p]{fullShare} fB)
        ∗ ∃ f, ⌜BlockOK d fS fA fB (crd p) p.2.2 f⌝ ∗ outLoc d ↦[wset p]{fullShare} f) := by
  show iprop((seqLoc d ↦[(seqB (crd p) p.2.2).view.set]{fullShare} fS) ∗ (auxfLoc d ↦[(auxfB (crd p) p.2.2).view.set]{fullShare} fA)
    ∗ (auxiLoc d ↦[(auxiB (crd p) p.2.2).view.set]{fullShare} fB)
    ∗ ∃ f, ⌜BlockOK d fS fA fB (crd p) p.2.2 f⌝ ∗ outLoc d ↦[(outB (crd p) p.2.2).view.set]{fullShare} f) = _
  rw [seqB_set, auxfB_set, auxiB_set, outB_set]

/-- The four arrays are their blocks. -/
theorem cut : (whole d fS fA fB fO : sProp 𝕄) = bigSep Finset.univ fun p : Blk => pieceIn d fS fA fB fO (crd p) p.2.2 := by
  rw [bigSep_congr fun p _ => pieceIn_eq d fS fA fB fO p, bigSep_sep', bigSep_sep', bigSep_sep', whole, seq_blocks, auxf_blocks, auxi_blocks, out_blocks]

/-- The output's blocks, each right, join to an output right in every row. -/
theorem out_join :
    (bigSep Finset.univ fun p : Blk => iprop(∃ f, ⌜BlockOK d fS fA fB (crd p) p.2.2 f⌝ ∗ outLoc d ↦[wset p]{fullShare} f))
      ⊢ (iprop(∃ f, ⌜RowsOK d fS fA fB f⌝ ∗ outLoc d ↦{fullShare} f) : sProp 𝕄) := by
  have : Nonempty (Buf (Elt F) (outLoc d)) := ⟨fun _ => (0#32 : BitVec 32)⟩
  refine (bigSep_exists_pi Finset.univ (fun p (f : Buf (Elt F) (outLoc d)) => iprop(⌜BlockOK d fS fA fB (crd p) p.2.2 f⌝ ∗ outLoc d ↦[wset p]{fullShare} f))).trans ?_
  iintro ⟨%fs, H⟩
  ihave H := (bigSep_pure_sep Finset.univ (fun p => BlockOK d fS fA fB (crd p) p.2.2 (fs p)) (fun p => (outLoc d ↦[wset p]{fullShare} fs p : sProp 𝕄))) $$ H
  icases H with ⟨%h, H⟩
  ihave H := (pointsTo_biUnion_join (ℓ := outLoc d) (q := fullShare) (Val := Elt F) Finset.univ wset fs (fs (0, 0, 0)) wset_disjoint) $$ H
  icases H with ⟨%f, %hf, H⟩
  rw [wset_cover]
  iexists f
  isplitr
  · ipureintro
    exact rowsOK_of d fS fA fB fs f (fun p => h p (Finset.mem_univ p)) (fun p => hf p (Finset.mem_univ p))
  · iexact H

theorem join :
    (bigSep Finset.univ fun p : Blk => pieceOut d fS fA fB (crd p) p.2.2)
      ⊢ (iprop((seqLoc d ↦{fullShare} fS) ∗ (auxfLoc d ↦{fullShare} fA) ∗ (auxiLoc d ↦{fullShare} fB)
          ∗ ∃ f, ⌜RowsOK d fS fA fB f⌝ ∗ outLoc d ↦{fullShare} f) : sProp 𝕄) := by
  rw [bigSep_congr fun p _ => pieceOut_eq d fS fA fB p, bigSep_sep', bigSep_sep', bigSep_sep', seq_blocks, auxf_blocks, auxi_blocks]
  iintro ⟨H1, H2, H3, H4⟩
  isplitl [H1]; · iexact H1
  isplitl [H2]; · iexact H2
  isplitl [H3]; · iexact H3
  iapply (out_join d fS fA fB); iexact H4

end Cert.Proof.Split

end
-- ==== Proof.Twin.lean ====
/-
  Two lines of operations over two programs' buffers that do the same: the operations in order are the same functions, on
  buffers of the same numbers. Whatever the first leaves in a buffer, the second leaves in the buffer of that number.
-/
module

public import Idealize.ShloMosaic.Lib.StableHlo.Run

@[expose] public section

noncomputable section

namespace Cert.Proof.Twin

open Idealize.ShloMosaic Idealize.SL.Sem
open Idealize.ShloMosaic.StableHlo

/-- A buffer of the device's main memory, and its number there. -/
def isH {sig : RefSig} (r : Ref sig .tc) : Bool := match r with | ⟨.hbm, _, _⟩ => true | _ => false
def num {sig : RefSig} (r : Ref sig .tc) : ℕ := match r with | ⟨.hbm, i, _⟩ => i.val | _ => 0

theorem num_inj {sig : RefSig} {r s : Ref sig .tc} (hr : isH r = true) (hs : isH s = true) (h : num r = num s) : r = s := by
  obtain ⟨sp, i, hi⟩ := r
  obtain ⟨sp', j, hj⟩ := s
  match sp, sp', i, j, hi, hj, hr, hs, h with
  | .hbm, .hbm, i, j, _, _, _, _, h => obtain rfl : i = j := Fin.ext h; rfl

variable {nD : ℕ} {Val : EltTy → Type}
variable {τ : Topo} {sig : RefSig} {Λ : Labels} {τ' : Topo} {sig' : RefSig} {Λ' : Labels}

/-- Operations that write buffers numbered from `n` up to `hi`, each determining what it writes. -/
def Good (n hi : ℕ) (ops : List (HloOp τ sig Val)) : Prop :=
  ∀ op ∈ ops, op.fresh = ∅ ∧ op.bufs ⊆ tcRefs τ sig ∧ ∃ y : Ref sig .tc, op.writes = {Proc.devRef (τ := τ) .tc y} ∧ isH y = true ∧ n ≤ num y ∧ num y < hi

theorem Good.keep {n hi : ℕ} {ops : List (HloOp τ sig Val)} (h : Good n hi ops) (V : Valuation τ sig Val) {r : Ref sig .tc}
    (hr : num r < n ∨ hi ≤ num r) : after ops V (Proc.devRef .tc r) = V (Proc.devRef .tc r) :=
  after_of_forall_not_mem ops V fun op hop hb => by
    obtain ⟨-, -, y, hw, -, h1, h2⟩ := h op hop
    rw [hw, Finset.mem_singleton] at hb
    have e := Proc.devRef_injective _ hb
    subst e; omega

theorem Good.append {n mid hi : ℕ} {o p : List (HloOp τ sig Val)} (h : Good n mid o) (h' : Good mid hi p) (a : n ≤ mid) (b : mid ≤ hi) : Good n hi (o ++ p) := by
  intro op hop
  rcases List.mem_append.mp hop with hop | hop
  · obtain ⟨u, v, y, hw, hy, h1, h2⟩ := h op hop
    exact ⟨u, v, y, hw, hy, h1, h2.trans_le b⟩
  · obtain ⟨u, v, y, hw, hy, h1, h2⟩ := h' op hop
    exact ⟨u, v, y, hw, hy, a.trans h1, h2⟩

/-- The contents agree at the buffers numbered from two up to `n`. -/
def Agree (n : ℕ) (V : Valuation τ sig Val) (V' : Valuation τ' sig' Val) : Prop :=
  ∀ (x : Ref sig .tc) (x' : Ref sig' .tc), isH x = true → isH x' = true → num x = num x' → 2 ≤ num x → num x < n →
    HEq (V (Proc.devRef .tc x)) (V' (Proc.devRef .tc x'))

/-- Two lines that write the buffers from `n` up to `hi`, the same into those of a number. -/
structure Sim (n hi : ℕ) (ops : List (HloOp τ sig Val)) (ops' : List (HloOp τ' sig' Val)) : Prop where
  le : n ≤ hi
  good : Good n hi ops
  good' : Good n hi ops'
  agree : ∀ V V', Agree n V V' → Agree hi (after ops V) (after ops' V')

theorem Sim.nil (n : ℕ) : Sim n n ([] : List (HloOp τ sig Val)) ([] : List (HloOp τ' sig' Val)) :=
  ⟨le_rfl, fun _ h => absurd h List.not_mem_nil, fun _ h => absurd h List.not_mem_nil, fun _ _ h => h⟩

theorem after_app (o p : List (HloOp τ sig Val)) (V : Valuation τ sig Val) : after (o ++ p) V = after p (after o V) := by
  induction o generalizing V with
  | nil => rfl
  | cons op o ih => exact ih _

theorem Sim.append {n mid hi : ℕ} {o p : List (HloOp τ sig Val)} {o' p' : List (HloOp τ' sig' Val)}
    (h : Sim n mid o o') (k : Sim mid hi p p') : Sim n hi (o ++ p) (o' ++ p') :=
  ⟨h.le.trans k.le, h.good.append k.good h.le k.le, h.good'.append k.good' h.le k.le, fun V V' a => by
    rw [after_app, after_app]; exact k.agree _ _ (h.agree _ _ a)⟩

/-- One operation on either side. -/
theorem Sim.one {n : ℕ} {op : HloOp τ sig Val} {op' : HloOp τ' sig' Val} {y : Ref sig .tc} {y' : Ref sig' .tc}
    (hf : op.fresh = ∅) (hf' : op'.fresh = ∅) (hb : op.bufs ⊆ tcRefs τ sig) (hb' : op'.bufs ⊆ tcRefs τ' sig')
    (hw : op.writes = {Proc.devRef (τ := τ) .tc y}) (hw' : op'.writes = {Proc.devRef (τ := τ') .tc y'})
    (hy : isH y = true) (hy' : isH y' = true) (hn : num y = n) (hn' : num y' = n)
    (hv : ∀ V V', Agree n V V' → HEq (op.result V (Proc.devRef .tc y)) (op'.result V' (Proc.devRef .tc y'))) :
    Sim n (n + 1) [op] [op'] := by
  refine ⟨n.le_succ, ?_, ?_, fun V V' a x x' hx hx' e h2 hlt => ?_⟩
  · intro o ho; cases List.mem_singleton.mp ho
    exact ⟨hf, hb, y, hw, hy, hn.ge, hn ▸ n.lt_succ_self⟩
  · intro o ho; cases List.mem_singleton.mp ho
    exact ⟨hf', hb', y', hw', hy', hn'.ge, hn' ▸ n.lt_succ_self⟩
  · simp only [after_cons, after_nil]
    by_cases hxn : num x = n
    · obtain rfl : x = y := num_inj hx hy (hxn.trans hn.symm)
      obtain rfl : x' = y' := num_inj hx' hy' (e.symm.trans (hxn.trans hn'.symm))
      exact hv V V' a
    · rw [result_of_writes_ne op V y x hw (fun h => hxn (h ▸ hn)), result_of_writes_ne op' V' y' x' hw' (fun h => hxn (e.trans (h ▸ hn')))]
      exact a x x' hx hx' e h2 (by omega)

/-- Two programs that begin with such lines and go on as `p'` and `q'`. -/
def Twin (n hi : ℕ) (p : Prog (TpuEff nD τ sig Val Λ .tc) PUnit) (q : Prog (TpuEff nD τ' sig' Val Λ' .tc) PUnit)
    (p' : Prog (TpuEff nD τ sig Val Λ .tc) PUnit) (q' : Prog (TpuEff nD τ' sig' Val Λ' .tc) PUnit) : Prop :=
  ∃ ops ops', p = (seq ops >>= fun _ => p') ∧ q = (seq ops' >>= fun _ => q') ∧ Sim n hi ops ops'

section rules

variable {n hi : ℕ} {p p' b : Prog (TpuEff nD τ sig Val Λ .tc) PUnit} {q q' b' : Prog (TpuEff nD τ' sig' Val Λ' .tc) PUnit}

theorem Twin.nil (h : n = hi) : Twin n hi p q p q :=
  ⟨[], [], by simp only [seq, pure_bind], by simp only [seq, pure_bind], h ▸ Sim.nil n⟩

/-- A call on either side. -/
theorem Twin.call {mid : ℕ} (h : Twin n mid b b' (pure ⟨⟩) (pure ⟨⟩)) (k : Twin mid hi p q p' q') :
    Twin n hi (b >>= fun _ => p) (b' >>= fun _ => q) p' q' := by
  obtain ⟨o, o', rfl, rfl, s⟩ := h
  obtain ⟨u, u', rfl, rfl, t⟩ := k
  exact ⟨o ++ u, o' ++ u', by simp only [seq_append, bind_assoc, pure_bind], by simp only [seq_append, bind_assoc, pure_bind], s.append t⟩

/-- One operation on either side, then the rest. -/
theorem Twin.step {op : HloOp τ sig Val} {op' : HloOp τ' sig' Val} (s : Sim n (n + 1) [op] [op']) (k : Twin (n + 1) hi p q p' q') :
    Twin n hi ((hlo rfl op fun _ => .ret (⟨⟩ : PUnit)) >>= fun _ => p) ((hlo rfl op' fun _ => .ret (⟨⟩ : PUnit)) >>= fun _ => q) p' q' := by
  obtain ⟨u, u', rfl, rfl, t⟩ := k
  exact ⟨[op] ++ u, [op'] ++ u', by simp only [List.singleton_append, seq, bind_assoc], by simp only [List.singleton_append, seq, bind_assoc], s.append t⟩

/-- One operation on either side, the last. -/
theorem Twin.last {op : HloOp τ sig Val} {op' : HloOp τ' sig' Val} (s : Sim n (n + 1) [op] [op']) (h : n + 1 = hi) :
    Twin (Λ := Λ) (Λ' := Λ') (nD := nD) n hi (hlo rfl op fun _ => .ret (⟨⟩ : PUnit)) (hlo rfl op' fun _ => .ret (⟨⟩ : PUnit)) (pure ⟨⟩) (pure ⟨⟩) :=
  ⟨[op], [op'], by simp only [seq, bind_assoc, pure_bind]; rfl, by simp only [seq, bind_assoc, pure_bind]; rfl, h ▸ s⟩

theorem Twin.trans {mid : ℕ} {r : Prog (TpuEff nD τ sig Val Λ .tc) PUnit} {r' : Prog (TpuEff nD τ' sig' Val Λ' .tc) PUnit}
    (h : Twin n mid p q r r') (k : Twin mid hi r r' p' q') : Twin n hi p q p' q' := by
  obtain ⟨o, o', rfl, rfl, s⟩ := h
  obtain ⟨u, u', rfl, rfl, t⟩ := k
  exact ⟨o ++ u, o' ++ u', by simp only [seq_append, bind_assoc], by simp only [seq_append, bind_assoc], s.append t⟩

end rules

/-! ## The operations -/

section ops

variable {n : ℕ} {Tx Ta Tb Ty : BufTy}

/-- What is asked of an operand: a buffer written before, of the same number on either side. -/
def Old (n : ℕ) (x : Ref sig .tc) (x' : Ref sig' .tc) : Bool :=
  isH x && isH x' && Nat.beq (num x) (num x') && Nat.ble 2 (num x) && Nat.blt (num x) n

/-- What is asked of a result: the next buffer. -/
def New (n : ℕ) (y : Ref sig .tc) (y' : Ref sig' .tc) : Bool := isH y && isH y' && Nat.beq (num y) n && Nat.beq (num y') n

theorem Old.get {x : Ref sig .tc} {x' : Ref sig' .tc} (h : Old n x x' = true) {V : Valuation τ sig Val} {V' : Valuation τ' sig' Val} (a : Agree n V V') :
    HEq (V (Proc.devRef .tc x)) (V' (Proc.devRef .tc x')) := by
  simp only [Old, Bool.and_eq_true, Nat.beq_eq, Nat.ble_eq, Nat.blt_eq] at h
  exact a x x' h.1.1.1.1 h.1.1.1.2 h.1.1.2 h.1.2 h.2

theorem Sim.one' {op : HloOp τ sig Val} {op' : HloOp τ' sig' Val} {y : Ref sig .tc} {y' : Ref sig' .tc} (hy : New n y y' = true)
    (hf : op.fresh = ∅) (hf' : op'.fresh = ∅) (hb : op.bufs ⊆ tcRefs τ sig) (hb' : op'.bufs ⊆ tcRefs τ' sig')
    (hw : op.writes = {Proc.devRef (τ := τ) .tc y}) (hw' : op'.writes = {Proc.devRef (τ := τ') .tc y'})
    (hv : ∀ V V', Agree n V V' → HEq (op.result V (Proc.devRef .tc y)) (op'.result V' (Proc.devRef .tc y'))) :
    Sim n (n + 1) [op] [op'] := by
  simp only [New, Bool.and_eq_true, Nat.beq_eq] at hy
  exact Sim.one hf hf' hb hb' hw hw' hy.1.1.1 hy.1.1.2 hy.1.2 hy.2 hv

theorem eq_of_cast_heq {A B C : Type} {a : A} {b : B} (hA : A = C) (hB : B = C) (h : HEq a b) : cast hA a = cast hB b :=
  eq_of_heq ((cast_heq _ _).trans (h.trans (cast_heq _ _).symm))

theorem heq_cast {A B C : Type} {a b : C} (hA : C = A) (hB : C = B) (h : a = b) : HEq (cast hA a) (cast hB b) := by
  subst h; exact (cast_heq _ _).trans (cast_heq _ _).symm

theorem sim_nullary (y : TRef sig Ty) (y' : TRef sig' Ty) (v : Ty.Contents Val) (hy : New n y.ref y'.ref = true) :
    Sim n (n + 1) [(TRef.nullary y v : HloOp τ sig Val)] [(TRef.nullary y' v : HloOp τ' sig' Val)] :=
  Sim.one' hy rfl rfl (nullary_bufs_sub ..) (nullary_bufs_sub ..) rfl rfl fun V V' _ => by
    rw [nullary_result, nullary_result]; exact heq_cast _ _ rfl

theorem sim_unary (x : TRef sig Tx) (y : TRef sig Ty) (x' : TRef sig' Tx) (y' : TRef sig' Ty) (f : Tx.Contents Val → Ty.Contents Val)
    (hx : Old n x.ref x'.ref = true) (hy : New n y.ref y'.ref = true) :
    Sim n (n + 1) [(TRef.unary x y f : HloOp τ sig Val)] [(TRef.unary x' y' f : HloOp τ' sig' Val)] :=
  Sim.one' hy rfl rfl (unary_bufs_sub ..) (unary_bufs_sub ..) rfl rfl fun V V' a => by
    rw [unary_result, unary_result]; exact heq_cast _ _ (congrArg f (eq_of_cast_heq _ _ (Old.get hx a)))

theorem sim_binary (a : TRef sig Ta) (b : TRef sig Tb) (y : TRef sig Ty) (a' : TRef sig' Ta) (b' : TRef sig' Tb) (y' : TRef sig' Ty)
    (f : Ta.Contents Val → Tb.Contents Val → Ty.Contents Val)
    (ha : Old n a.ref a'.ref = true) (hb : Old n b.ref b'.ref = true) (hy : New n y.ref y'.ref = true) :
    Sim n (n + 1) [(TRef.binary a b y f : HloOp τ sig Val)] [(TRef.binary a' b' y' f : HloOp τ' sig' Val)] :=
  Sim.one' hy rfl rfl (binary_bufs_sub ..) (binary_bufs_sub ..) rfl rfl fun V V' h => by
    rw [binary_result, binary_result]
    exact heq_cast _ _ (congrArg₂ f (eq_of_cast_heq _ _ (Old.get ha h)) (eq_of_cast_heq _ _ (Old.get hb h)))

theorem heq_reshape {A A' B B' : BufTy} (eA : A = A') (eB : B = B') (he : A.elt = B.elt) (hn : A.shape.ShapeCasts B.shape)
    (he' : A'.elt = B'.elt) (hn' : A'.shape.ShapeCasts B'.shape) (v : A.Contents Val) (v' : A'.Contents Val) (h : HEq v v') :
    HEq (fun i => he ▸ shapeCast B.shape v hn i : B.Contents Val) (fun i => he' ▸ shapeCast B'.shape v' hn' i : B'.Contents Val) := by
  subst eA eB; cases h; rfl

theorem sim_reshape₀ (x y : Ref sig .tc) (x' y' : Ref sig' .tc) (ex : x.ty = x'.ty) (ey : y.ty = y'.ty) (he : x.ty.elt = y.ty.elt)
    (hn : x.ty.shape.ShapeCasts y.ty.shape) (he' : x'.ty.elt = y'.ty.elt) (hn' : x'.ty.shape.ShapeCasts y'.ty.shape) (dx dy dx' dy')
    (hx : Old n x x' = true) (hy : New n y y' = true) :
    Sim n (n + 1) [(StableHlo.reshape x y he hn dx dy : HloOp τ sig Val)] [(StableHlo.reshape x' y' he' hn' dx' dy' : HloOp τ' sig' Val)] :=
  Sim.one' hy rfl rfl (reshape_bufs_sub ..) (reshape_bufs_sub ..) rfl rfl fun V V' a => by
    rw [reshape_result, reshape_result]; exact heq_reshape ex ey he hn he' hn' _ _ (Old.get hx a)

theorem sim_reshape (x : TRef sig Tx) (y : TRef sig Ty) (x' : TRef sig' Tx) (y' : TRef sig' Ty) (he : Tx.elt = Ty.elt) (hn : Tx.shape.ShapeCasts Ty.shape)
    (hx : Old n x.ref x'.ref = true) (hy : New n y.ref y'.ref = true) :
    Sim n (n + 1) [(TRef.reshape x y he hn : HloOp τ sig Val)] [(TRef.reshape x' y' he hn : HloOp τ' sig' Val)] :=
  sim_reshape₀ _ _ _ _ (x.ty_eq.trans x'.ty_eq.symm) (y.ty_eq.trans y'.ty_eq.symm) _ _ _ _ _ _ _ _ hx hy

theorem heq_app {A A' B B' : BufTy} (eA : A = A') (eB : B = B') {f : A.Contents Val → B.Contents Val} {f' : A'.Contents Val → B'.Contents Val}
    (hf : HEq f f') {v : A.Contents Val} {v' : A'.Contents Val} (h : HEq v v') : HEq (f v) (f' v') := by
  subst eA eB; cases h; cases hf; rfl

theorem heq_app₂ {A A' B B' C C' : BufTy} (eA : A = A') (eB : B = B') (eC : C = C') {f : A.Contents Val → B.Contents Val → C.Contents Val}
    {f' : A'.Contents Val → B'.Contents Val → C'.Contents Val} (hf : HEq f f') {v : A.Contents Val} {v' : A'.Contents Val} (h : HEq v v')
    {w : B.Contents Val} {w' : B'.Contents Val} (k : HEq w w') : HEq (f v w) (f' v' w') := by
  subst eA eB eC; cases h; cases k; cases hf; rfl

theorem sim_nullary₀ (y : Ref sig .tc) (y' : Ref sig' .tc) (v : y.ty.Contents Val) (v' : y'.ty.Contents Val) (dy dy') (hv : HEq v v') (hy : New n y y' = true) :
    Sim n (n + 1) [(StableHlo.nullary y v dy : HloOp τ sig Val)] [(StableHlo.nullary y' v' dy' : HloOp τ' sig' Val)] :=
  Sim.one' hy rfl rfl (nullary_bufs_sub ..) (nullary_bufs_sub ..) rfl rfl fun V V' _ => by
    rw [nullary_result, nullary_result]; exact hv

theorem sim_unary₀ (x y : Ref sig .tc) (x' y' : Ref sig' .tc) (f : x.ty.Contents Val → y.ty.Contents Val) (f' : x'.ty.Contents Val → y'.ty.Contents Val)
    (dx dy dx' dy') (ex : x.ty = x'.ty) (ey : y.ty = y'.ty) (hf : HEq f f') (hx : Old n x x' = true) (hy : New n y y' = true) :
    Sim n (n + 1) [(StableHlo.unary x y f dx dy : HloOp τ sig Val)] [(StableHlo.unary x' y' f' dx' dy' : HloOp τ' sig' Val)] :=
  Sim.one' hy rfl rfl (unary_bufs_sub ..) (unary_bufs_sub ..) rfl rfl fun V V' a => by
    rw [unary_result, unary_result]; exact heq_app ex ey hf (Old.get hx a)

theorem sim_binary₀ (a b y : Ref sig .tc) (a' b' y' : Ref sig' .tc) (f : a.ty.Contents Val → b.ty.Contents Val → y.ty.Contents Val)
    (f' : a'.ty.Contents Val → b'.ty.Contents Val → y'.ty.Contents Val)
    (da db dy da' db' dy') (ea : a.ty = a'.ty) (eb : b.ty = b'.ty) (ey : y.ty = y'.ty) (hf : HEq f f') (ha : Old n a a' = true) (hb : Old n b b' = true) (hy : New n y y' = true) :
    Sim n (n + 1) [(StableHlo.binary a b y f da db dy : HloOp τ sig Val)] [(StableHlo.binary a' b' y' f' da' db' dy' : HloOp τ' sig' Val)] :=
  Sim.one' hy rfl rfl (binary_bufs_sub ..) (binary_bufs_sub ..) rfl rfl fun V V' h => by
    rw [binary_result, binary_result]; exact heq_app₂ ea eb ey hf (Old.get ha h) (Old.get hb h)

end ops

end Cert.Proof.Twin

end
-- ==== Proof.Keys.lean ====
/-
  The keys of the draws: the two programs fold each row's number into the key, and split what comes out, by the same operations.
-/
module

public import proofs.«01_k».proof.Proof.Twin
public import proofs.«01_k».proof.Proof.Gen.KernelIdeal
public import proofs.«01_k».proof.Proof.Gen.ReferenceIdeal

@[expose] public section

noncomputable section

namespace Cert.Proof.Draws

open Idealize.ShloMosaic Idealize.SL.Sem
open Idealize.ShloMosaic.StableHlo
open Cert.Proof.Twin

variable {F : FTy → Type} [FloatOps F]

set_option maxHeartbeats 4000000 in
/-- The mixing rounds of the fold. -/
theorem mix_fold : Twin (Val := Elt F) 29 251 (KernelIdeal.fn_threefry2x32.body KernelIdeal.main_call0.v8 KernelIdeal.main_call0.v10 KernelIdeal.main_call0.v11 KernelIdeal.main_call0.v12 KernelIdeal.main_call0_call0)
    (ReferenceIdeal.fn_threefry2x32.body ReferenceIdeal.main_call0.v8 ReferenceIdeal.main_call0.v10 ReferenceIdeal.main_call0.v11 ReferenceIdeal.main_call0.v12 ReferenceIdeal.main_call0_call0) (pure ⟨⟩) (pure ⟨⟩) := by
  unfold KernelIdeal.fn_threefry2x32.body ReferenceIdeal.fn_threefry2x32.body
  refine Twin.call (mid := 89) ?_ (Twin.call (mid := 149) ?_ (Twin.call (mid := 209) ?_ ?_))
  all_goals first
    | unfold KernelIdeal.fn_threefry2x32.body_part0 ReferenceIdeal.fn_threefry2x32.body_part0
    | unfold KernelIdeal.fn_threefry2x32.body_part1 ReferenceIdeal.fn_threefry2x32.body_part1
    | unfold KernelIdeal.fn_threefry2x32.body_part2 ReferenceIdeal.fn_threefry2x32.body_part2
    | unfold KernelIdeal.fn_threefry2x32.body_part3 ReferenceIdeal.fn_threefry2x32.body_part3
  all_goals repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.last (sim_binary _ _ _ _ _ _ _ ?_ ?_ ?_) ?_); exact rfl; exact rfl; exact rfl; exact rfl
    | (with_reducible refine Twin.last (sim_unary _ _ _ _ _ ?_ ?_) ?_); exact rfl; exact rfl; exact rfl
    | (with_reducible refine Twin.last (sim_nullary _ _ _ ?_) ?_); exact rfl; exact rfl)
  exact Twin.nil rfl

set_option maxHeartbeats 4000000 in
/-- A key for each row. -/
theorem fold : Twin (Val := Elt F) 14 252 (KernelIdeal.fn_threefry_fold_in.body (.of KernelIdeal.main_v6) (.of KernelIdeal.main_v8) KernelIdeal.main_call0)
    (ReferenceIdeal.fn_threefry_fold_in.body (.of ReferenceIdeal.main_v6) (.of ReferenceIdeal.main_v8) ReferenceIdeal.main_call0) (pure ⟨⟩) (pure ⟨⟩) := by
  unfold KernelIdeal.fn_threefry_fold_in.body ReferenceIdeal.fn_threefry_fold_in.body
  iterate 15 (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.step (sim_reshape _ _ _ _ _ _ ?_ ?_) ?_); exact rfl; exact rfl)
  refine Twin.call mix_fold ?_
  repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl)
  exact Twin.nil rfl

set_option maxHeartbeats 4000000 in
/-- The mixing rounds of the split. -/
theorem mix_split : Twin (Val := Elt F) 269 494 (KernelIdeal.fn_threefry2x32_0.body KernelIdeal.main_call1.v13 KernelIdeal.main_call1.v14 KernelIdeal.main_call1.v11 KernelIdeal.main_call1.v12 KernelIdeal.main_call1_call0)
    (ReferenceIdeal.fn_threefry2x32_0.body ReferenceIdeal.main_call1.v13 ReferenceIdeal.main_call1.v14 ReferenceIdeal.main_call1.v11 ReferenceIdeal.main_call1.v12 ReferenceIdeal.main_call1_call0) (pure ⟨⟩) (pure ⟨⟩) := by
  unfold KernelIdeal.fn_threefry2x32_0.body ReferenceIdeal.fn_threefry2x32_0.body
  refine Twin.call (mid := 329) ?_ (Twin.call (mid := 389) ?_ (Twin.call (mid := 449) ?_ ?_))
  all_goals first
    | unfold KernelIdeal.fn_threefry2x32_0.body_part0 ReferenceIdeal.fn_threefry2x32_0.body_part0
    | unfold KernelIdeal.fn_threefry2x32_0.body_part1 ReferenceIdeal.fn_threefry2x32_0.body_part1
    | unfold KernelIdeal.fn_threefry2x32_0.body_part2 ReferenceIdeal.fn_threefry2x32_0.body_part2
    | unfold KernelIdeal.fn_threefry2x32_0.body_part3 ReferenceIdeal.fn_threefry2x32_0.body_part3
  all_goals repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.last (sim_binary _ _ _ _ _ _ _ ?_ ?_ ?_) ?_); exact rfl; exact rfl; exact rfl; exact rfl
    | (with_reducible refine Twin.last (sim_unary _ _ _ _ _ ?_ ?_) ?_); exact rfl; exact rfl; exact rfl
    | (with_reducible refine Twin.last (sim_nullary _ _ _ ?_) ?_); exact rfl; exact rfl)
  exact Twin.nil rfl

set_option maxHeartbeats 4000000 in
/-- Four keys for each row. -/
theorem split : Twin (Val := Elt F) 252 497 (KernelIdeal.fn_threefry_split.body (.of KernelIdeal.main_v9) KernelIdeal.main_call1)
    (ReferenceIdeal.fn_threefry_split.body (.of ReferenceIdeal.main_v9) ReferenceIdeal.main_call1) (pure ⟨⟩) (pure ⟨⟩) := by
  unfold KernelIdeal.fn_threefry_split.body ReferenceIdeal.fn_threefry_split.body
  iterate 17 (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.step (sim_reshape _ _ _ _ _ _ ?_ ?_) ?_); exact rfl; exact rfl)
  refine Twin.call mix_split ?_
  repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl)
  exact Twin.nil rfl

end Cert.Proof.Draws

end
-- ==== Proof.First.lean ====
/-
  The first two draws of each row, by the same operations in the two programs.
-/
module

public import proofs.«01_k».proof.Proof.Twin
public import proofs.«01_k».proof.Proof.Gen.KernelIdeal
public import proofs.«01_k».proof.Proof.Gen.ReferenceIdeal

@[expose] public section

noncomputable section

namespace Cert.Proof.Draws

open Idealize.ShloMosaic Idealize.SL.Sem
open Idealize.ShloMosaic.StableHlo
open Cert.Proof.Twin

variable {F : FTy → Type} [FloatOps F]

set_option maxHeartbeats 4000000 in
/-- The mixing rounds of the first draw. -/
theorem mix_aug : Twin (Val := Elt F) 515 728 (KernelIdeal.fn_threefry2x32_1.body KernelIdeal.main_call2.v3 KernelIdeal.main_call2.v5 KernelIdeal.main_call2.c KernelIdeal.main_call2.c_0 KernelIdeal.main_call2_call0)
    (ReferenceIdeal.fn_threefry2x32_1.body ReferenceIdeal.main_call2.v3 ReferenceIdeal.main_call2.v5 ReferenceIdeal.main_call2.c ReferenceIdeal.main_call2.c_0 ReferenceIdeal.main_call2_call0) (pure ⟨⟩) (pure ⟨⟩) := by
  unfold KernelIdeal.fn_threefry2x32_1.body ReferenceIdeal.fn_threefry2x32_1.body
  refine Twin.call (mid := 575) ?_ (Twin.call (mid := 635) ?_ (Twin.call (mid := 695) ?_ ?_))
  all_goals first
    | unfold KernelIdeal.fn_threefry2x32_1.body_part0 ReferenceIdeal.fn_threefry2x32_1.body_part0
    | unfold KernelIdeal.fn_threefry2x32_1.body_part1 ReferenceIdeal.fn_threefry2x32_1.body_part1
    | unfold KernelIdeal.fn_threefry2x32_1.body_part2 ReferenceIdeal.fn_threefry2x32_1.body_part2
    | unfold KernelIdeal.fn_threefry2x32_1.body_part3 ReferenceIdeal.fn_threefry2x32_1.body_part3
  all_goals repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.last (sim_binary _ _ _ _ _ _ _ ?_ ?_ ?_) ?_); exact rfl; exact rfl; exact rfl; exact rfl
    | (with_reducible refine Twin.last (sim_unary _ _ _ _ _ ?_ ?_) ?_); exact rfl; exact rfl; exact rfl
    | (with_reducible refine Twin.last (sim_nullary _ _ _ ?_) ?_); exact rfl; exact rfl)
  exact Twin.nil rfl

set_option maxHeartbeats 4000000 in
/-- The draw that says whether a row is augmented. -/
theorem aug : Twin (Val := Elt F) 507 746 (KernelIdeal.fn_uniform.body (.of KernelIdeal.main_v12) (.of KernelIdeal.main_cst) (.of KernelIdeal.main_cst_2) KernelIdeal.main_call2)
    (ReferenceIdeal.fn_uniform.body (.of ReferenceIdeal.main_v12) (.of ReferenceIdeal.main_cst) (.of ReferenceIdeal.main_cst_2) ReferenceIdeal.main_call2) (pure ⟨⟩) (pure ⟨⟩) := by
  unfold KernelIdeal.fn_uniform.body ReferenceIdeal.fn_uniform.body
  iterate 8 (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.step (sim_reshape _ _ _ _ _ _ ?_ ?_) ?_); exact rfl; exact rfl)
  refine Twin.call mix_aug ?_
  repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl)
  exact Twin.nil rfl

set_option maxHeartbeats 4000000 in
/-- The mixing rounds of the second draw. -/
theorem mix_size : Twin (Val := Elt F) 756 969 (KernelIdeal.fn_threefry2x32_1.body KernelIdeal.main_call3.v3 KernelIdeal.main_call3.v5 KernelIdeal.main_call3.c KernelIdeal.main_call3.c_0 KernelIdeal.main_call3_call0)
    (ReferenceIdeal.fn_threefry2x32_1.body ReferenceIdeal.main_call3.v3 ReferenceIdeal.main_call3.v5 ReferenceIdeal.main_call3.c ReferenceIdeal.main_call3.c_0 ReferenceIdeal.main_call3_call0) (pure ⟨⟩) (pure ⟨⟩) := by
  unfold KernelIdeal.fn_threefry2x32_1.body ReferenceIdeal.fn_threefry2x32_1.body
  refine Twin.call (mid := 816) ?_ (Twin.call (mid := 876) ?_ (Twin.call (mid := 936) ?_ ?_))
  all_goals first
    | unfold KernelIdeal.fn_threefry2x32_1.body_part0 ReferenceIdeal.fn_threefry2x32_1.body_part0
    | unfold KernelIdeal.fn_threefry2x32_1.body_part1 ReferenceIdeal.fn_threefry2x32_1.body_part1
    | unfold KernelIdeal.fn_threefry2x32_1.body_part2 ReferenceIdeal.fn_threefry2x32_1.body_part2
    | unfold KernelIdeal.fn_threefry2x32_1.body_part3 ReferenceIdeal.fn_threefry2x32_1.body_part3
  all_goals repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.last (sim_binary _ _ _ _ _ _ _ ?_ ?_ ?_) ?_); exact rfl; exact rfl; exact rfl; exact rfl
    | (with_reducible refine Twin.last (sim_unary _ _ _ _ _ ?_ ?_) ?_); exact rfl; exact rfl; exact rfl
    | (with_reducible refine Twin.last (sim_nullary _ _ _ ?_) ?_); exact rfl; exact rfl)
  exact Twin.nil rfl

set_option maxHeartbeats 4000000 in
/-- The draw of the window's size. -/
theorem size : Twin (Val := Elt F) 748 987 (KernelIdeal.fn_uniform.body (.of KernelIdeal.main_v14) (.of KernelIdeal.main_cst_3) (.of KernelIdeal.main_cst_4) KernelIdeal.main_call3)
    (ReferenceIdeal.fn_uniform.body (.of ReferenceIdeal.main_v14) (.of ReferenceIdeal.main_cst_3) (.of ReferenceIdeal.main_cst_4) ReferenceIdeal.main_call3) (pure ⟨⟩) (pure ⟨⟩) := by
  unfold KernelIdeal.fn_uniform.body ReferenceIdeal.fn_uniform.body
  iterate 8 (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.step (sim_reshape _ _ _ _ _ _ ?_ ?_) ?_); exact rfl; exact rfl)
  refine Twin.call mix_size ?_
  repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl)
  exact Twin.nil rfl

end Cert.Proof.Draws

end
-- ==== Proof.Last.lean ====
/-
  The last two draws of each row, by the same operations in the two programs.
-/
module

public import proofs.«01_k».proof.Proof.Twin
public import proofs.«01_k».proof.Proof.Gen.KernelIdeal
public import proofs.«01_k».proof.Proof.Gen.ReferenceIdeal

@[expose] public section

noncomputable section

namespace Cert.Proof.Draws

open Idealize.ShloMosaic Idealize.SL.Sem
open Idealize.ShloMosaic.StableHlo
open Cert.Proof.Twin

variable {F : FTy → Type} [FloatOps F]

set_option maxHeartbeats 4000000 in
/-- The mixing rounds of the third draw. -/
theorem mix_start : Twin (Val := Elt F) 997 1210 (KernelIdeal.fn_threefry2x32_1.body KernelIdeal.main_call4.v3 KernelIdeal.main_call4.v5 KernelIdeal.main_call4.c KernelIdeal.main_call4.c_0 KernelIdeal.main_call4_call0)
    (ReferenceIdeal.fn_threefry2x32_1.body ReferenceIdeal.main_call4.v3 ReferenceIdeal.main_call4.v5 ReferenceIdeal.main_call4.c ReferenceIdeal.main_call4.c_0 ReferenceIdeal.main_call4_call0) (pure ⟨⟩) (pure ⟨⟩) := by
  unfold KernelIdeal.fn_threefry2x32_1.body ReferenceIdeal.fn_threefry2x32_1.body
  refine Twin.call (mid := 1057) ?_ (Twin.call (mid := 1117) ?_ (Twin.call (mid := 1177) ?_ ?_))
  all_goals first
    | unfold KernelIdeal.fn_threefry2x32_1.body_part0 ReferenceIdeal.fn_threefry2x32_1.body_part0
    | unfold KernelIdeal.fn_threefry2x32_1.body_part1 ReferenceIdeal.fn_threefry2x32_1.body_part1
    | unfold KernelIdeal.fn_threefry2x32_1.body_part2 ReferenceIdeal.fn_threefry2x32_1.body_part2
    | unfold KernelIdeal.fn_threefry2x32_1.body_part3 ReferenceIdeal.fn_threefry2x32_1.body_part3
  all_goals repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.last (sim_binary _ _ _ _ _ _ _ ?_ ?_ ?_) ?_); exact rfl; exact rfl; exact rfl; exact rfl
    | (with_reducible refine Twin.last (sim_unary _ _ _ _ _ ?_ ?_) ?_); exact rfl; exact rfl; exact rfl
    | (with_reducible refine Twin.last (sim_nullary _ _ _ ?_) ?_); exact rfl; exact rfl)
  exact Twin.nil rfl

set_option maxHeartbeats 4000000 in
/-- The mixing rounds of the keys of the permutation. -/
theorem mix_perm : Twin (Val := Elt F) 1251 1476 (KernelIdeal.fn_threefry2x32_3.body KernelIdeal.main_call5.v17 KernelIdeal.main_call5.v18 KernelIdeal.main_call5.v15 KernelIdeal.main_call5.v16 KernelIdeal.main_call5_call0)
    (ReferenceIdeal.fn_threefry2x32_3.body ReferenceIdeal.main_call5.v17 ReferenceIdeal.main_call5.v18 ReferenceIdeal.main_call5.v15 ReferenceIdeal.main_call5.v16 ReferenceIdeal.main_call5_call0) (pure ⟨⟩) (pure ⟨⟩) := by
  unfold KernelIdeal.fn_threefry2x32_3.body ReferenceIdeal.fn_threefry2x32_3.body
  refine Twin.call (mid := 1311) ?_ (Twin.call (mid := 1371) ?_ (Twin.call (mid := 1431) ?_ ?_))
  all_goals first
    | unfold KernelIdeal.fn_threefry2x32_3.body_part0 ReferenceIdeal.fn_threefry2x32_3.body_part0
    | unfold KernelIdeal.fn_threefry2x32_3.body_part1 ReferenceIdeal.fn_threefry2x32_3.body_part1
    | unfold KernelIdeal.fn_threefry2x32_3.body_part2 ReferenceIdeal.fn_threefry2x32_3.body_part2
    | unfold KernelIdeal.fn_threefry2x32_3.body_part3 ReferenceIdeal.fn_threefry2x32_3.body_part3
  all_goals repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.last (sim_binary _ _ _ _ _ _ _ ?_ ?_ ?_) ?_); exact rfl; exact rfl; exact rfl; exact rfl
    | (with_reducible refine Twin.last (sim_unary _ _ _ _ _ ?_ ?_) ?_); exact rfl; exact rfl; exact rfl
    | (with_reducible refine Twin.last (sim_nullary _ _ _ ?_) ?_); exact rfl; exact rfl)
  exact Twin.nil rfl

set_option maxHeartbeats 4000000 in
/-- The keys that order a window. -/
theorem perm : Twin (Val := Elt F) 1230 1497 (KernelIdeal.fn_uniform_2.body (.of KernelIdeal.main_v18) (.of KernelIdeal.main_cst_7) (.of KernelIdeal.main_cst_8) KernelIdeal.main_call5)
    (ReferenceIdeal.fn_uniform_2.body (.of ReferenceIdeal.main_v18) (.of ReferenceIdeal.main_cst_7) (.of ReferenceIdeal.main_cst_8) ReferenceIdeal.main_call5) (pure ⟨⟩) (pure ⟨⟩) := by
  unfold KernelIdeal.fn_uniform_2.body ReferenceIdeal.fn_uniform_2.body
  iterate 21 (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl
    | (with_reducible refine Twin.step (sim_reshape _ _ _ _ _ _ ?_ ?_) ?_); exact rfl; exact rfl)
  refine Twin.call mix_perm ?_
  repeat (first
    | (with_reducible refine Twin.step (sim_binary _ _ _ _ _ _ _ ?_ ?_ ?_) ?_); exact rfl; exact rfl; exact rfl
    | (with_reducible refine Twin.step (sim_unary _ _ _ _ _ ?_ ?_) ?_); exact rfl; exact rfl
    | (with_reducible refine Twin.step (sim_nullary _ _ _ ?_) ?_); exact rfl)
  exact Twin.nil rfl

end Cert.Proof.Draws

end
-- ==== Proof.Start.lean ====
/-
  The third draw of each row. In either program it is made by the same operations from the same words; in the kernel's it
  is what `unit` makes of some words.
-/
module

public import proofs.«01_k».proof.Proof.Last

@[expose] public section

noncomputable section

namespace Cert.Proof.Twin

open Idealize.ShloMosaic Idealize.SL.Sem
open Idealize.ShloMosaic.StableHlo

variable {nD : ℕ} {Val : EltTy → Type}
variable {τ : Topo} {sig : RefSig} {Λ : Labels} {τ' : Topo} {sig' : RefSig} {Λ' : Labels}

/-- Two programs that begin with lines that do the same, of which the first has the property `Φ`. -/
def TwinS (n hi : ℕ) (p : Prog (TpuEff nD τ sig Val Λ .tc) PUnit) (q : Prog (TpuEff nD τ' sig' Val Λ' .tc) PUnit)
    (p' : Prog (TpuEff nD τ sig Val Λ .tc) PUnit) (q' : Prog (TpuEff nD τ' sig' Val Λ' .tc) PUnit) (Φ : List (HloOp τ sig Val) → Prop) : Prop :=
  ∃ ops ops', p = (seq ops >>= fun _ => p') ∧ q = (seq ops' >>= fun _ => q') ∧ Sim n hi ops ops' ∧ Φ ops

variable {n hi mid : ℕ} {p p' r b : Prog (TpuEff nD τ sig Val Λ .tc) PUnit} {q q' r' b' : Prog (TpuEff nD τ' sig' Val Λ' .tc) PUnit}
variable {Φ Ψ : List (HloOp τ sig Val) → Prop}

theorem TwinS.nil (h : n = hi) (hΦ : Φ []) : TwinS n hi p q p q Φ :=
  ⟨[], [], by simp only [seq, pure_bind], by simp only [seq, pure_bind], h ▸ Sim.nil n, hΦ⟩

theorem TwinS.step {op : HloOp τ sig Val} {op' : HloOp τ' sig' Val} (s : Sim n (n + 1) [op] [op'])
    (k : TwinS (n + 1) hi p q p' q' fun u => Φ (op :: u)) :
    TwinS n hi ((hlo rfl op fun _ => .ret (⟨⟩ : PUnit)) >>= fun _ => p) ((hlo rfl op' fun _ => .ret (⟨⟩ : PUnit)) >>= fun _ => q) p' q' Φ := by
  obtain ⟨u, u', rfl, rfl, t, hu⟩ := k
  exact ⟨[op] ++ u, [op'] ++ u', by simp only [List.singleton_append, seq, bind_assoc], by simp only [List.singleton_append, seq, bind_assoc], s.append t, hu⟩

theorem TwinS.call (h : Twin n mid b b' (pure ⟨⟩) (pure ⟨⟩)) (k : ∀ m, Good n mid m → TwinS mid hi p q p' q' fun u => Φ (m ++ u)) :
    TwinS n hi (b >>= fun _ => p) (b' >>= fun _ => q) p' q' Φ := by
  obtain ⟨o, o', rfl, rfl, s⟩ := h
  obtain ⟨u, u', rfl, rfl, t, hu⟩ := k o s.good
  exact ⟨o ++ u, o' ++ u', by simp only [seq_append, bind_assoc, pure_bind], by simp only [seq_append, bind_assoc, pure_bind], s.append t, hu⟩

/-- A property of a line's end, whatever stands before. -/
def Late (Φ : List (HloOp τ sig Val) → Prop) : Prop := ∀ o u, Φ u → Φ (o ++ u)

theorem TwinS.step₁ (hΦ : Late Φ) {op : HloOp τ sig Val} {op' : HloOp τ' sig' Val} (s : Sim n (n + 1) [op] [op']) (k : TwinS (n + 1) hi p q p' q' Φ) :
    TwinS n hi ((hlo rfl op fun _ => .ret (⟨⟩ : PUnit)) >>= fun _ => p) ((hlo rfl op' fun _ => .ret (⟨⟩ : PUnit)) >>= fun _ => q) p' q' Φ := by
  obtain ⟨u, u', e, e', t, hu⟩ := k
  exact TwinS.step s ⟨u, u', e, e', t, hΦ [op] u hu⟩

theorem TwinS.call₁ (hΦ : Late Φ) (h : Twin n mid b b' (pure ⟨⟩) (pure ⟨⟩)) (k : TwinS mid hi p q p' q' Φ) :
    TwinS n hi (b >>= fun _ => p) (b' >>= fun _ => q) p' q' Φ := by
  obtain ⟨u, u', e, e', t, hu⟩ := k
  exact TwinS.call h fun m _ => ⟨u, u', e, e', t, hΦ m u hu⟩

/-- A call with the property, and a line after that keeps it. -/
theorem TwinS.after (h : TwinS n mid b b' (pure ⟨⟩) (pure ⟨⟩) Φ) (k : Twin mid hi p q p' q') (hΦ : ∀ o u, Good mid hi u → Φ o → Ψ (o ++ u)) :
    TwinS n hi (b >>= fun _ => p) (b' >>= fun _ => q) p' q' Ψ := by
  obtain ⟨o, o', rfl, rfl, s, ho⟩ := h
  obtain ⟨u, u', rfl, rfl, t⟩ := k
  exact ⟨o ++ u, o' ++ u', by simp only [seq_append, bind_assoc, pure_bind], by simp only [seq_append, bind_assoc, pure_bind], s.append t, hΦ _ _ t.good ho⟩

end Cert.Proof.Twin

namespace Cert.Proof.Draws

open Idealize.ShloMosaic Idealize.SL.Sem
open Idealize.ShloMosaic.StableHlo
open Cert.Proof.Twin

variable {F : FTy → Type} [FloatOps F]

/-- The draw made of words: their upper bits are those of a number from one up to two, less one, spread from zero to one. -/
def unit (y : IVec KernelIdeal.S16384 32) : FVec F KernelIdeal.S16384 .f32 :=
  maximumf (broadcastInDim KernelIdeal.S16384 ![] KernelIdeal.Facts₀.bcast_S_S16384 (constant (F := F) KernelIdeal.S_ .f32 0x00000000#32))
    (addf (mulf (subf (bitcastToFloat .f32 (ori (Host.shrui y (broadcastInDim KernelIdeal.S16384 ![] KernelIdeal.Facts₀.bcast_S_S16384 (constantI KernelIdeal.S_ 32 9#32)))
        (broadcastInDim KernelIdeal.S16384 ![] KernelIdeal.Facts₀.bcast_S_S16384 (constantI KernelIdeal.S_ 32 1065353216#32))))
      (broadcastInDim KernelIdeal.S16384 ![] KernelIdeal.Facts₀.bcast_S_S16384 (constant (F := F) KernelIdeal.S_ .f32 0x3F800000#32)))
      (broadcastInDim KernelIdeal.S16384 ![] KernelIdeal.Facts₀.bcast_S_S16384
        (subf (constant (F := F) KernelIdeal.S_ .f32 0x3F800000#32) (constant (F := F) KernelIdeal.S_ .f32 0x00000000#32))))
      (broadcastInDim KernelIdeal.S16384 ![] KernelIdeal.Facts₀.bcast_S_S16384 (constant (F := F) KernelIdeal.S_ .f32 0x00000000#32)))

/-- What is asked of the operations of the third draw: from the bounds zero and one, a draw made of words. -/
def Makes (o : List (HloOp KernelIdeal.τ KernelIdeal.sig (Elt F))) : Prop :=
  ∀ V, V (Proc.devRef .tc KernelIdeal.main_cst_5) = constant (F := F) KernelIdeal.S_ .f32 0x00000000#32 →
    V (Proc.devRef .tc KernelIdeal.main_cst_6) = constant (F := F) KernelIdeal.S_ .f32 0x3F800000#32 →
      ∃ y, after o V (Proc.devRef .tc KernelIdeal.main_v21) = unit (F := F) y

set_option maxHeartbeats 4000000 in
/-- The third draw. -/
theorem start : TwinS (Val := Elt F) 989 1228 (KernelIdeal.fn_uniform.body (.of KernelIdeal.main_v16) (.of KernelIdeal.main_cst_5) (.of KernelIdeal.main_cst_6) KernelIdeal.main_call4)
    (ReferenceIdeal.fn_uniform.body (.of ReferenceIdeal.main_v16) (.of ReferenceIdeal.main_cst_5) (.of ReferenceIdeal.main_cst_6) ReferenceIdeal.main_call4) (pure ⟨⟩) (pure ⟨⟩) Makes := by
  unfold KernelIdeal.fn_uniform.body ReferenceIdeal.fn_uniform.body
  iterate 8 (first
    | (with_reducible refine TwinS.step (sim_unary _ _ _ _ _ ?_ ?_) ?_); exact rfl; exact rfl
    | (with_reducible refine TwinS.step (sim_nullary _ _ _ ?_) ?_); exact rfl
    | (with_reducible refine TwinS.step (sim_reshape _ _ _ _ _ _ ?_ ?_) ?_); exact rfl; exact rfl)
  refine TwinS.call mix_start fun m hm => ?_
  repeat (first
    | (with_reducible refine TwinS.step (sim_binary _ _ _ _ _ _ _ ?_ ?_ ?_) ?_); exact rfl; exact rfl; exact rfl
    | (with_reducible refine TwinS.step (sim_unary _ _ _ _ _ ?_ ?_) ?_); exact rfl; exact rfl
    | (with_reducible refine TwinS.step (sim_nullary _ _ _ ?_) ?_); exact rfl)
  refine TwinS.nil rfl fun V h5 h6 => ?_
  have k0 := fun W => hm.keep W (r := KernelIdeal.main_call4_v0) (.inl (by decide))
  have k1 := fun W => hm.keep W (r := KernelIdeal.main_call4_v1) (.inl (by decide))
  simp only [TRef.nullary, TRef.unary, TRef.binary, TRef.reshape, TRef.toBuf, TRef.ofBuf, cast_eq, after_cons]
  rw [after_app]
  generalize hU : HloOp.result _ _ = U
  have u0 : U (Proc.devRef .tc KernelIdeal.main_call4_v0) = constant (F := F) KernelIdeal.S_ .f32 0x00000000#32 := by
    rw [← hU, ← h5]; after_results_simp; try rfl
  have u1 : U (Proc.devRef .tc KernelIdeal.main_call4_v1) = constant (F := F) KernelIdeal.S_ .f32 0x3F800000#32 := by
    rw [← hU, ← h6]; after_results_simp; try rfl
  rw [← k0 U] at u0
  rw [← k1 U] at u1
  generalize after m U = W at u0 u1
  refine ⟨xori (W (Proc.devRef .tc KernelIdeal.main_call4_v6_0)) (W (Proc.devRef .tc KernelIdeal.main_call4_v6_1)), ?_⟩
  after_results_simp
  rw [u0, u1]
  rfl

end Cert.Proof.Draws

end
-- ==== Proof.HostOps.lean ====
/-
  The host's operations after the draws and before the call: they lay out the two auxiliary arrays.
-/
module

public import proofs.«01_k».proof.Proof.Gen.KernelIdeal
public import Idealize.ShloMosaic.Lib.StableHlo.Run

@[expose] public section

noncomputable section

namespace Cert.Proof.Launch

open Cert.KernelIdeal Cert.KernelIdeal.Gen
open Idealize.ShloMosaic

variable {F : FTy → Type} [FloatOps F]

/-- The host's operations after the draws. -/
def hostOps : List (HloOp τ sig (Elt F)) :=
  [StableHlo.nullary main_c_9 (constantI S_ 32 2#32),
  StableHlo.unary main_c_9 main_v23 (broadcastInDim S16384 ![] bcast_S_S16384 : (⟨S_, .i32⟩ : BufTy).Contents (Elt F) → (⟨S16384, .i32⟩ : BufTy).Contents (Elt F)),
  StableHlo.binary main_arg1 main_v23 main_v24 (cmpi .sgt : (⟨S16384, .i32⟩ : BufTy).Contents (Elt F) → (⟨S16384, .i32⟩ : BufTy).Contents (Elt F) → (⟨S16384, .i1⟩ : BufTy).Contents (Elt F)),
  StableHlo.nullary main_cst_10 (constant S_ .f32 0x3F000000#32),
  StableHlo.unary main_cst_10 main_v25 (broadcastInDim S16384 ![] bcast_S_S16384 : (⟨S_, .f32⟩ : BufTy).Contents (Elt F) → (⟨S16384, .f32⟩ : BufTy).Contents (Elt F)),
  StableHlo.binary main_v19 main_v25 main_v26 (cmpf .ole : (⟨S16384, .f32⟩ : BufTy).Contents (Elt F) → (⟨S16384, .f32⟩ : BufTy).Contents (Elt F) → (⟨S16384, .i1⟩ : BufTy).Contents (Elt F)),
  StableHlo.binary main_v24 main_v26 main_v27 (andi : (⟨S16384, .i1⟩ : BufTy).Contents (Elt F) → (⟨S16384, .i1⟩ : BufTy).Contents (Elt F) → (⟨S16384, .i1⟩ : BufTy).Contents (Elt F)),
  StableHlo.unary main_v27 main_v28 ((extui 32 · natLt_1_32) : (⟨S16384, .i1⟩ : BufTy).Contents (Elt F) → (⟨S16384, .i32⟩ : BufTy).Contents (Elt F)),
  StableHlo.nullary main_cst_11 (constant S_ .f32 0x00000000#32),
  StableHlo.unary main_cst_11 main_v29 (broadcastInDim S16384x9 ![] bcast_S_S16384x9 : (⟨S_, .f32⟩ : BufTy).Contents (Elt F) → (⟨S16384x9, .f32⟩ : BufTy).Contents (Elt F)),
  StableHlo.unary main_v20 main_v30 (broadcastInDim S16384x1 ![0] bcast_S16384_S16384x1_0 : (⟨S16384, .f32⟩ : BufTy).Contents (Elt F) → (⟨S16384x1, .f32⟩ : BufTy).Contents (Elt F)),
  StableHlo.unary main_v21 main_v31 (broadcastInDim S16384x1 ![0] bcast_S16384_S16384x1_0 : (⟨S16384, .f32⟩ : BufTy).Contents (Elt F) → (⟨S16384x1, .f32⟩ : BufTy).Contents (Elt F)),
  StableHlo.nary ![main_v22, main_v30, main_v31, main_v29] main_v32 (fun u => (concatenate S16384x16 1 [⟨S16384x5, (u 0 : (⟨S16384x5, .f32⟩ : BufTy).Contents (Elt F))⟩, ⟨S16384x1, (u 1 : (⟨S16384x1, .f32⟩ : BufTy).Contents (Elt F))⟩, ⟨S16384x1, (u 2 : (⟨S16384x1, .f32⟩ : BufTy).Contents (Elt F))⟩, ⟨S16384x9, (u 3 : (⟨S16384x9, .f32⟩ : BufTy).Contents (Elt F))⟩] concatenates_S16384x5_S16384x1_S16384x1_S16384x9_S16384x16_d1 : (⟨S16384x16, .f32⟩ : BufTy).Contents (Elt F))),
  StableHlo.nullary main_c_12 (constantI S_ 32 0#32),
  StableHlo.unary main_c_12 main_v33 (broadcastInDim S16384x14 ![] bcast_S_S16384x14 : (⟨S_, .i32⟩ : BufTy).Contents (Elt F) → (⟨S16384x14, .i32⟩ : BufTy).Contents (Elt F)),
  StableHlo.unary main_v28 main_v34 (broadcastInDim S16384x1 ![0] bcast_S16384_S16384x1_0 : (⟨S16384, .i32⟩ : BufTy).Contents (Elt F) → (⟨S16384x1, .i32⟩ : BufTy).Contents (Elt F)),
  StableHlo.unary main_arg1 main_v35 (broadcastInDim S16384x1 ![0] bcast_S16384_S16384x1_0 : (⟨S16384, .i32⟩ : BufTy).Contents (Elt F) → (⟨S16384x1, .i32⟩ : BufTy).Contents (Elt F)),
  StableHlo.nary ![main_v34, main_v35, main_v33] main_v36 (fun u => (concatenate S16384x16 1 [⟨S16384x1, (u 0 : (⟨S16384x1, .i32⟩ : BufTy).Contents (Elt F))⟩, ⟨S16384x1, (u 1 : (⟨S16384x1, .i32⟩ : BufTy).Contents (Elt F))⟩, ⟨S16384x14, (u 2 : (⟨S16384x14, .i32⟩ : BufTy).Contents (Elt F))⟩] concatenates_S16384x1_S16384x1_S16384x14_S16384x16_d1 : (⟨S16384x16, .i32⟩ : BufTy).Contents (Elt F)))]

/-- What the host's operations write. -/
def written : List (Ref sig .tc) :=
  [main_c_9, main_v23, main_v24, main_cst_10, main_v25, main_v26, main_v27, main_v28, main_cst_11, main_v29, main_v30, main_v31, main_v32, main_c_12, main_v33, main_v34, main_v35, main_v36]

theorem host_writes : (hostOps (F := F)).Forall fun op => op.writes ⊆ (written.map (Proc.devRef (τ := τ) .tc)).toFinset :=
  StableHlo.forall_writes_sub_of_map rfl

theorem host_fresh : (hostOps (F := F)).Forall fun op => op.fresh = ∅ := StableHlo.forall_fresh_of_map rfl

theorem host_sub : (hostOps (F := F)).Forall fun op => op.bufs ⊆ StableHlo.tcRefs τ sig := by
  simp [hostOps, List.Forall]

end Cert.Proof.Launch

end
-- ==== Proof.RefRun.lean ====
/-
  The reference's operations after the draws, as lists, and what they leave in the result: each buffer the result needs,
  as a term of the contents when the draws have been made.
-/
module

public import proofs.«01_k».proof.Proof.Gen.ReferenceIdeal
public import proofs.«01_k».proof.Proof.Twin
public import Idealize.ShloMosaic.Lib.Pipeline.Frame

@[expose] public section

set_option Elab.async false

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v96`. -/
def fn_main_v96 : (⟨S16384x5x1, .i32⟩ : BufTy).Contents (Elt F) → (⟨S16384x5x1, .i32⟩ : BufTy).Contents (Elt F) → (⟨S16384x5x2, .i32⟩ : BufTy).Contents (Elt F) :=
  (fun a b => concatenate S16384x5x2 2 [⟨S16384x5x1, a⟩, ⟨S16384x5x1, b⟩] concatenates_S16384x5x1_S16384x5x1_S16384x5x2_d2)

/-- The function of the operation that writes `main_v112`. -/
def fn_main_v112 : (⟨S16384x5x1, .i32⟩ : BufTy).Contents (Elt F) → (⟨S16384x5x1, .i32⟩ : BufTy).Contents (Elt F) → (⟨S16384x5x2, .i32⟩ : BufTy).Contents (Elt F) :=
  (fun a b => concatenate S16384x5x2 2 [⟨S16384x5x1, a⟩, ⟨S16384x5x1, b⟩] concatenates_S16384x5x1_S16384x5x1_S16384x5x2_d2)

/-- The function of the operation that writes `main_v129`. -/
def fn_main_v129 : (⟨S16384x5x1, .i32⟩ : BufTy).Contents (Elt F) → (⟨S16384x5x1, .i32⟩ : BufTy).Contents (Elt F) → (⟨S16384x5x2, .i32⟩ : BufTy).Contents (Elt F) :=
  (fun a b => concatenate S16384x5x2 2 [⟨S16384x5x1, a⟩, ⟨S16384x5x1, b⟩] concatenates_S16384x5x1_S16384x5x1_S16384x5x2_d2)

/-- The function of the operation that writes `main_v148`. -/
def fn_main_v148 : (⟨S16384x5x1, .i32⟩ : BufTy).Contents (Elt F) → (⟨S16384x5x1, .i32⟩ : BufTy).Contents (Elt F) → (⟨S16384x5x2, .i32⟩ : BufTy).Contents (Elt F) :=
  (fun a b => concatenate S16384x5x2 2 [⟨S16384x5x1, a⟩, ⟨S16384x5x1, b⟩] concatenates_S16384x5x1_S16384x5x1_S16384x5x2_d2)

/-- Operations 1 to 30. -/
abbrev ops_part0_0 : List (HloOp τ sig (Elt F)) :=
  [ nullary main_v23 (iotaInDim S16384 32 0),
    unary main_v23 main_v24 (broadcastInDim S16384x1 ![0] bcast_S16384_S16384x1_0 : (⟨S16384, .i32⟩ : BufTy).Contents (Elt F) → (⟨S16384x1, .i32⟩ : BufTy).Contents (Elt F)),
    nullary main_v25 (iotaInDim S200 32 0),
    unary main_v25 main_v26 (broadcastInDim S1x200 ![1] bcast_S200_S1x200_1 : (⟨S200, .i32⟩ : BufTy).Contents (Elt F) → (⟨S1x200, .i32⟩ : BufTy).Contents (Elt F)),
    unary main_arg1 main_v27 (broadcastInDim S16384x1 ![0] bcast_S16384_S16384x1_0 : (⟨S16384, .i32⟩ : BufTy).Contents (Elt F) → (⟨S16384x1, .i32⟩ : BufTy).Contents (Elt F)),
    unary main_v26 main_v28 (broadcastInDim S16384x200 ![0, 1] bcast_S1x200_S16384x200_0_1 : (⟨S1x200, .i32⟩ : BufTy).Contents (Elt F) → (⟨S16384x200, .i32⟩ : BufTy).Contents (Elt F)),
    unary main_v27 main_v29 (broadcastInDim S16384x200 ![0, 1] bcast_S16384x1_S16384x200_0_1 : (⟨S16384x1, .i32⟩ : BufTy).Contents (Elt F) → (⟨S16384x200, .i32⟩ : BufTy).Contents (Elt F)),
    binary main_v28 main_v29 main_v30 (cmpi .slt : (⟨S16384x200, .i32⟩ : BufTy).Contents (Elt F) → (⟨S16384x200, .i32⟩ : BufTy).Contents (Elt F) → (⟨S16384x200, .i1⟩ : BufTy).Contents (Elt F)),
    nullary main_c_9 (constantI S_ 32 0#32),
    unary main_c_9 main_v31 (broadcastInDim S16384x200 ![] bcast_S_S16384x200 : (⟨S_, .i32⟩ : BufTy).Contents (Elt F) → (⟨S16384x200, .i32⟩ : BufTy).Contents (Elt F)),
    binary main_arg0 main_v31 main_v32 (cmpi .ne : (⟨S16384x200, .i32⟩ : BufTy).Contents (Elt F) → (⟨S16384x200, .i32⟩ : BufTy).Contents (Elt F) → (⟨S16384x200, .i1⟩ : BufTy).Contents (Elt F)),
    binary main_v30 main_v32 main_v33 (andi : (⟨S16384x200, .i1⟩ : BufTy).Contents (Elt F) → (⟨S16384x200, .i1⟩ : BufTy).Contents (Elt F) → (⟨S16384x200, .i1⟩ : BufTy).Contents (Elt F)),
    unary main_v33 main_v34 ((extui 32 · natLt_1_32) : (⟨S16384x200, .i1⟩ : BufTy).Contents (Elt F) → (⟨S16384x200, .i32⟩ : BufTy).Contents (Elt F)),
    nullary main_c_10 (constantI S_ 32 0#32),
    binary main_v34 main_c_10 main_v35 ((fun x v => Host.reduce IntOp.addi x v reducesTo_S16384x200_S16384_d1 h_S_) : (⟨S16384x200, .i32⟩ : BufTy).Contents (Elt F) → (⟨S_, .i32⟩ : BufTy).Contents (Elt F) → (⟨S16384, .i32⟩ : BufTy).Contents (Elt F)),
    nullary main_c_11 (constantI S_ 32 200#32),
    TRef.unary (TRef.of (T := ⟨S_, .i32⟩) main_c_11) (TRef.of (T := ⟨S_, .i32⟩) main_call6_v0) id,
    TRef.unary (TRef.of (T := ⟨S1x200, .i32⟩) main_v26) (TRef.of (T := ⟨S16384x200, .i32⟩) main_call6_v1) (broadcastInDim S16384x200 ![0, 1] bcast_S1x200_S16384x200_0_1),
    TRef.unary (TRef.of (T := ⟨S_, .i32⟩) main_call6_v0) (TRef.of (T := ⟨S16384x200, .i32⟩) main_call6_v2) (broadcastInDim S16384x200 ![] bcast_S_S16384x200),
    TRef.ternary (TRef.of (T := ⟨S16384x200, .i1⟩) main_v33) (TRef.of (T := ⟨S16384x200, .i32⟩) main_call6_v1) (TRef.of (T := ⟨S16384x200, .i32⟩) main_call6_v2) (TRef.of (T := ⟨S16384x200, .i32⟩) main_v36) select,
    TRef.unary (TRef.of (T := ⟨S16384x200, .i32⟩) main_v36) (TRef.of (T := ⟨S16384x200, .i32⟩) main_v37) (fun x => Host.sort S16384x200 1 comparator_i32_d1 x),
    nullary main_c_12 (constantI S_ 32 2#32),
    unary main_c_12 main_v38 (broadcastInDim S16384 ![] bcast_S_S16384 : (⟨S_, .i32⟩ : BufTy).Contents (Elt F) → (⟨S16384, .i32⟩ : BufTy).Contents (Elt F)),
    binary main_arg1 main_v38 main_v39 (cmpi .sgt : (⟨S16384, .i32⟩ : BufTy).Contents (Elt F) → (⟨S16384, .i32⟩ : BufTy).Contents (Elt F) → (⟨S16384, .i1⟩ : BufTy).Contents (Elt F)),
    nullary main_cst_13 (constant S_ .f32 0x3F000000#32),
    unary main_cst_13 main_v40 (broadcastInDim S16384 ![] bcast_S_S16384 : (⟨S_, .f32⟩ : BufTy).Contents (Elt F) → (⟨S16384, .f32⟩ : BufTy).Contents (Elt F)),
    binary main_v19 main_v40 main_v41 (cmpf .ole : (⟨S16384, .f32⟩ : BufTy).Contents (Elt F) → (⟨S16384, .f32⟩ : BufTy).Contents (Elt F) → (⟨S16384, .i1⟩ : BufTy).Contents (Elt F)),
    binary main_v39 main_v41 main_v42 (andi : (⟨S16384, .i1⟩ : BufTy).Contents (Elt F) → (⟨S16384, .i1⟩ : BufTy).Contents (Elt F) → (⟨S16384, .i1⟩ : BufTy).Contents (Elt F)),
    nullary main_c_14 (constantI S_ 32 2#32),
    unary main_c_14 main_v43 (broadcastInDim S16384 ![] bcast_S_S16384 : (⟨S_, .i32⟩ : BufTy).Contents (Elt F) → (⟨S16384, .i32⟩ : BufTy).Contents (Elt F)) ]

/-- Operations 31 to 60. -/
abbrev ops_part0_1 : List (HloOp τ sig (Elt F)) :=
  [ binary main_v35 main_v43 main_v44 (cmpi .sge : (⟨S16384, .i32⟩ : BufTy).Contents (Elt F) → (⟨S16384, .i32⟩ : BufTy).Contents (Elt F) → (⟨S16384, .i1⟩ : BufTy).Contents (Elt F)),
    binary main_v42 main_v44 main_v45 (andi : (⟨S16384, .i1⟩ : BufTy).Contents (Elt F) → (⟨S16384, .i1⟩ : BufTy).Contents (Elt F) → (⟨S16384, .i1⟩ : BufTy).Contents (Elt F)),
    nullary main_c_15 (constantI S_ 32 5#32),
    unary main_c_15 main_v46 (broadcastInDim S16384 ![] bcast_S_S16384 : (⟨S_, .i32⟩ : BufTy).Contents (Elt F) → (⟨S16384, .i32⟩ : BufTy).Contents (Elt F)),
    binary main_v35 main_v46 main_v47 (minsi : (⟨S16384, .i32⟩ : BufTy).Contents (Elt F) → (⟨S16384, .i32⟩ : BufTy).Contents (Elt F) → (⟨S16384, .i32⟩ : BufTy).Contents (Elt F)),
    nullary main_c_16 (constantI S_ 32 2#32),
    unary main_c_16 main_v48 (broadcastInDim S16384 ![] bcast_S_S16384 : (⟨S_, .i32⟩ : BufTy).Contents (Elt F) → (⟨S16384, .i32⟩ : BufTy).Contents (Elt F)),
    binary main_v47 main_v48 main_v49 (subi : (⟨S16384, .i32⟩ : BufTy).Contents (Elt F) → (⟨S16384, .i32⟩ : BufTy).Contents (Elt F) → (⟨S16384, .i32⟩ : BufTy).Contents (Elt F)),
    nullary main_c_17 (constantI S_ 32 1#32),
    unary main_c_17 main_v50 (broadcastInDim S16384 ![] bcast_S_S16384 : (⟨S_, .i32⟩ : BufTy).Contents (Elt F) → (⟨S16384, .i32⟩ : BufTy).Contents (Elt F)),
    binary main_v49 main_v50 main_v51 (addi : (⟨S16384, .i32⟩ : BufTy).Contents (Elt F) → (⟨S16384, .i32⟩ : BufTy).Contents (Elt F) → (⟨S16384, .i32⟩ : BufTy).Contents (Elt F)),
    nullary main_c_18 (constantI S_ 32 1#32),
    unary main_c_18 main_v52 (broadcastInDim S16384 ![] bcast_S_S16384 : (⟨S_, .i32⟩ : BufTy).Contents (Elt F) → (⟨S16384, .i32⟩ : BufTy).Contents (Elt F)),
    binary main_v51 main_v52 main_v53 (maxsi : (⟨S16384, .i32⟩ : BufTy).Contents (Elt F) → (⟨S16384, .i32⟩ : BufTy).Contents (Elt F) → (⟨S16384, .i32⟩ : BufTy).Contents (Elt F)),
    unary main_v53 main_v54 (sitofp .f32 : (⟨S16384, .i32⟩ : BufTy).Contents (Elt F) → (⟨S16384, .f32⟩ : BufTy).Contents (Elt F)),
    binary main_v20 main_v54 main_v55 (mulf : (⟨S16384, .f32⟩ : BufTy).Contents (Elt F) → (⟨S16384, .f32⟩ : BufTy).Contents (Elt F) → (⟨S16384, .f32⟩ : BufTy).Contents (Elt F)),
    unary main_v55 main_v56 (Host.floor : (⟨S16384, .f32⟩ : BufTy).Contents (Elt F) → (⟨S16384, .f32⟩ : BufTy).Contents (Elt F)),
    unary main_v56 main_v57 (fptosi 32 : (⟨S16384, .f32⟩ : BufTy).Contents (Elt F) → (⟨S16384, .i32⟩ : BufTy).Contents (Elt F)),
    nullary main_c_19 (constantI S_ 32 2#32),
    unary main_c_19 main_v58 (broadcastInDim S16384 ![] bcast_S_S16384 : (⟨S_, .i32⟩ : BufTy).Contents (Elt F) → (⟨S16384, .i32⟩ : BufTy).Contents (Elt F)),
    binary main_v58 main_v57 main_v59 (addi : (⟨S16384, .i32⟩ : BufTy).Contents (Elt F) → (⟨S16384, .i32⟩ : BufTy).Contents (Elt F) → (⟨S16384, .i32⟩ : BufTy).Contents (Elt F)),
    nullary main_c_20 (constantI S_ 32 2#32),
    unary main_c_20 main_v60 (broadcastInDim S16384 ![] bcast_S_S16384 : (⟨S_, .i32⟩ : BufTy).Contents (Elt F) → (⟨S16384, .i32⟩ : BufTy).Contents (Elt F)),
    binary main_v47 main_v60 main_v61 (maxsi : (⟨S16384, .i32⟩ : BufTy).Contents (Elt F) → (⟨S16384, .i32⟩ : BufTy).Contents (Elt F) → (⟨S16384, .i32⟩ : BufTy).Contents (Elt F)),
    nullary main_c_21 (constantI S_ 32 2#32),
    TRef.unary (TRef.of (T := ⟨S_, .i32⟩) main_c_21) (TRef.of (T := ⟨S_, .i32⟩) main_call8_v0) id,
    TRef.unary (TRef.of (T := ⟨S_, .i32⟩) main_call8_v0) (TRef.of (T := ⟨S16384, .i32⟩) main_call8_v1) (broadcastInDim S16384 ![] bcast_S_S16384),
    TRef.binary (TRef.of (T := ⟨S16384, .i32⟩) main_call8_v1) (TRef.of (T := ⟨S16384, .i32⟩) main_v59) (TRef.of (T := ⟨S16384, .i32⟩) main_call8_v2) maxsi,
    TRef.binary (TRef.of (T := ⟨S16384, .i32⟩) main_v61) (TRef.of (T := ⟨S16384, .i32⟩) main_call8_v2) (TRef.of (T := ⟨S16384, .i32⟩) main_v62) minsi,
    binary main_v35 main_v62 main_v63 (subi : (⟨S16384, .i32⟩ : BufTy).Contents (Elt F) → (⟨S16384, .i32⟩ : BufTy).Contents (Elt F) → (⟨S16384, .i32⟩ : BufTy).Contents (Elt F)) ]

/-- Operations 61 to 66. -/
abbrev ops_part0_2 : List (HloOp τ sig (Elt F)) :=
  [ nullary main_c_22 (constantI S_ 32 1#32),
    unary main_c_22 main_v64 (broadcastInDim S16384 ![] bcast_S_S16384 : (⟨S_, .i32⟩ : BufTy).Contents (Elt F) → (⟨S16384, .i32⟩ : BufTy).Contents (Elt F)),
    binary main_v63 main_v64 main_v65 (addi : (⟨S16384, .i32⟩ : BufTy).Contents (Elt F) → (⟨S16384, .i32⟩ : BufTy).Contents (Elt F) → (⟨S16384, .i32⟩ : BufTy).Contents (Elt F)),
    nullary main_c_23 (constantI S_ 32 1#32),
    unary main_c_23 main_v66 (broadcastInDim S16384 ![] bcast_S_S16384 : (⟨S_, .i32⟩ : BufTy).Contents (Elt F) → (⟨S16384, .i32⟩ : BufTy).Contents (Elt F)),
    binary main_v65 main_v66 main_v67 (maxsi : (⟨S16384, .i32⟩ : BufTy).Contents (Elt F) → (⟨S16384, .i32⟩ : BufTy).Contents (Elt F) → (⟨S16384, .i32⟩ : BufTy).Contents (Elt F)) ]

/-- A group of them. -/
def ops_part0 : List (HloOp τ sig (Elt F)) :=
  ops_part0_0 ++ (ops_part0_1 ++ (ops_part0_2))

/-- Operations 67 to 96. -/
abbrev ops_part1_0 : List (HloOp τ sig (Elt F)) :=
  [ unary main_v67 main_v68 (sitofp .f32 : (⟨S16384, .i32⟩ : BufTy).Contents (Elt F) → (⟨S16384, .f32⟩ : BufTy).Contents (Elt F)),
    binary main_v21 main_v68 main_v69 (mulf : (⟨S16384, .f32⟩ : BufTy).Contents (Elt F) → (⟨S16384, .f32⟩ : BufTy).Contents (Elt F) → (⟨S16384, .f32⟩ : BufTy).Contents (Elt F)),
    unary main_v69 main_v70 (Host.floor : (⟨S16384, .f32⟩ : BufTy).Contents (Elt F) → (⟨S16384, .f32⟩ : BufTy).Contents (Elt F)),
    unary main_v70 main_v71 (fptosi 32 : (⟨S16384, .f32⟩ : BufTy).Contents (Elt F) → (⟨S16384, .i32⟩ : BufTy).Contents (Elt F)),
    nullary main_v72 (iotaInDim S5 32 0),
    unary main_v72 main_v73 (broadcastInDim S1x5 ![1] bcast_S5_S1x5_1 : (⟨S5, .i32⟩ : BufTy).Contents (Elt F) → (⟨S1x5, .i32⟩ : BufTy).Contents (Elt F)),
    unary main_v62 main_v74 (broadcastInDim S16384x1 ![0] bcast_S16384_S16384x1_0 : (⟨S16384, .i32⟩ : BufTy).Contents (Elt F) → (⟨S16384x1, .i32⟩ : BufTy).Contents (Elt F)),
    unary main_v73 main_v75 (broadcastInDim S16384x5 ![0, 1] bcast_S1x5_S16384x5_0_1 : (⟨S1x5, .i32⟩ : BufTy).Contents (Elt F) → (⟨S16384x5, .i32⟩ : BufTy).Contents (Elt F)),
    unary main_v74 main_v76 (broadcastInDim S16384x5 ![0, 1] bcast_S16384x1_S16384x5_0_1 : (⟨S16384x1, .i32⟩ : BufTy).Contents (Elt F) → (⟨S16384x5, .i32⟩ : BufTy).Contents (Elt F)),
    binary main_v75 main_v76 main_v77 (cmpi .slt : (⟨S16384x5, .i32⟩ : BufTy).Contents (Elt F) → (⟨S16384x5, .i32⟩ : BufTy).Contents (Elt F) → (⟨S16384x5, .i1⟩ : BufTy).Contents (Elt F)),
    unary main_v71 main_v78 (broadcastInDim S16384x1 ![0] bcast_S16384_S16384x1_0 : (⟨S16384, .i32⟩ : BufTy).Contents (Elt F) → (⟨S16384x1, .i32⟩ : BufTy).Contents (Elt F)),
    unary main_v78 main_v79 (broadcastInDim S16384x5 ![0, 1] bcast_S16384x1_S16384x5_0_1 : (⟨S16384x1, .i32⟩ : BufTy).Contents (Elt F) → (⟨S16384x5, .i32⟩ : BufTy).Contents (Elt F)),
    unary main_v73 main_v80 (broadcastInDim S16384x5 ![0, 1] bcast_S1x5_S16384x5_0_1 : (⟨S1x5, .i32⟩ : BufTy).Contents (Elt F) → (⟨S16384x5, .i32⟩ : BufTy).Contents (Elt F)),
    binary main_v79 main_v80 main_v81 (addi : (⟨S16384x5, .i32⟩ : BufTy).Contents (Elt F) → (⟨S16384x5, .i32⟩ : BufTy).Contents (Elt F) → (⟨S16384x5, .i32⟩ : BufTy).Contents (Elt F)),
    nullary main_c_24 (constantI S_ 32 0#32),
    nullary main_c_25 (constantI S_ 32 199#32),
    TRef.unary (TRef.of (T := ⟨S_, .i32⟩) main_c_24) (TRef.of (T := ⟨S_, .i32⟩) main_call9_v0) id,
    TRef.unary (TRef.of (T := ⟨S_, .i32⟩) main_call9_v0) (TRef.of (T := ⟨S16384x5, .i32⟩) main_call9_v1) (broadcastInDim S16384x5 ![] bcast_S_S16384x5),
    TRef.binary (TRef.of (T := ⟨S16384x5, .i32⟩) main_call9_v1) (TRef.of (T := ⟨S16384x5, .i32⟩) main_v81) (TRef.of (T := ⟨S16384x5, .i32⟩) main_call9_v2) maxsi,
    TRef.unary (TRef.of (T := ⟨S_, .i32⟩) main_c_25) (TRef.of (T := ⟨S_, .i32⟩) main_call9_v3) id,
    TRef.unary (TRef.of (T := ⟨S_, .i32⟩) main_call9_v3) (TRef.of (T := ⟨S16384x5, .i32⟩) main_call9_v4) (broadcastInDim S16384x5 ![] bcast_S_S16384x5),
    TRef.binary (TRef.of (T := ⟨S16384x5, .i32⟩) main_call9_v4) (TRef.of (T := ⟨S16384x5, .i32⟩) main_call9_v2) (TRef.of (T := ⟨S16384x5, .i32⟩) main_v82) minsi,
    nullary main_c_26 (constantI S_ 32 0#32),
    unary main_c_26 main_v83 (broadcastInDim S16384x1 ![] bcast_S_S16384x1 : (⟨S_, .i32⟩ : BufTy).Contents (Elt F) → (⟨S16384x1, .i32⟩ : BufTy).Contents (Elt F)),
    binary main_v24 main_v83 main_v84 (cmpi .slt : (⟨S16384x1, .i32⟩ : BufTy).Contents (Elt F) → (⟨S16384x1, .i32⟩ : BufTy).Contents (Elt F) → (⟨S16384x1, .i1⟩ : BufTy).Contents (Elt F)),
    nullary main_c_27 (constantI S_ 32 16384#32),
    unary main_c_27 main_v85 (broadcastInDim S16384x1 ![] bcast_S_S16384x1 : (⟨S_, .i32⟩ : BufTy).Contents (Elt F) → (⟨S16384x1, .i32⟩ : BufTy).Contents (Elt F)),
    binary main_v24 main_v85 main_v86 (addi : (⟨S16384x1, .i32⟩ : BufTy).Contents (Elt F) → (⟨S16384x1, .i32⟩ : BufTy).Contents (Elt F) → (⟨S16384x1, .i32⟩ : BufTy).Contents (Elt F)),
    ternary main_v84 main_v86 main_v24 main_v87 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    nullary main_c_28 (constantI S_ 32 0#32) ]

/-- Operations 97 to 126. -/
abbrev ops_part1_1 : List (HloOp τ sig (Elt F)) :=
  [ unary main_c_28 main_v88 (broadcastInDim S16384x5 ![] bcast_S_S16384x5 : (⟨S_, .i32⟩ : BufTy).Contents (Elt F) → (⟨S16384x5, .i32⟩ : BufTy).Contents (Elt F)),
    binary main_v82 main_v88 main_v89 (cmpi .slt : (⟨S16384x5, .i32⟩ : BufTy).Contents (Elt F) → (⟨S16384x5, .i32⟩ : BufTy).Contents (Elt F) → (⟨S16384x5, .i1⟩ : BufTy).Contents (Elt F)),
    nullary main_c_29 (constantI S_ 32 200#32),
    unary main_c_29 main_v90 (broadcastInDim S16384x5 ![] bcast_S_S16384x5 : (⟨S_, .i32⟩ : BufTy).Contents (Elt F) → (⟨S16384x5, .i32⟩ : BufTy).Contents (Elt F)),
    binary main_v82 main_v90 main_v91 (addi : (⟨S16384x5, .i32⟩ : BufTy).Contents (Elt F) → (⟨S16384x5, .i32⟩ : BufTy).Contents (Elt F) → (⟨S16384x5, .i32⟩ : BufTy).Contents (Elt F)),
    ternary main_v89 main_v91 main_v82 main_v92 (select : (⟨S16384x5, .i1⟩ : BufTy).Contents (Elt F) → (⟨S16384x5, .i32⟩ : BufTy).Contents (Elt F) → (⟨S16384x5, .i32⟩ : BufTy).Contents (Elt F) → (⟨S16384x5, .i32⟩ : BufTy).Contents (Elt F)),
    unary main_v87 main_v93 (broadcastInDim S16384x5 ![0, 1] bcast_S16384x1_S16384x5_0_1 : (⟨S16384x1, .i32⟩ : BufTy).Contents (Elt F) → (⟨S16384x5, .i32⟩ : BufTy).Contents (Elt F)),
    unary main_v93 main_v94 (broadcastInDim S16384x5x1 ![0, 1] bcast_S16384x5_S16384x5x1_0_1 : (⟨S16384x5, .i32⟩ : BufTy).Contents (Elt F) → (⟨S16384x5x1, .i32⟩ : BufTy).Contents (Elt F)),
    unary main_v92 main_v95 (broadcastInDim S16384x5x1 ![0, 1] bcast_S16384x5_S16384x5x1_0_1 : (⟨S16384x5, .i32⟩ : BufTy).Contents (Elt F) → (⟨S16384x5x1, .i32⟩ : BufTy).Contents (Elt F)),
    binary main_v94 main_v95 main_v96 (fn_main_v96 (F := F)),
    binary main_v37 main_v96 main_v97 ((fun x i => Host.gather gather_S16384x200_S16384x5x2_S16384x5_n_01_n_n_01_2_11 x i) : (⟨S16384x200, .i32⟩ : BufTy).Contents (Elt F) → (⟨S16384x5x2, .i32⟩ : BufTy).Contents (Elt F) → (⟨S16384x5, .i32⟩ : BufTy).Contents (Elt F)),
    nullary main_c_30 (constantI S_ 32 0#32),
    nullary main_c_31 (constantI S_ 32 199#32),
    TRef.unary (TRef.of (T := ⟨S_, .i32⟩) main_c_30) (TRef.of (T := ⟨S_, .i32⟩) main_call10_v0) id,
    TRef.unary (TRef.of (T := ⟨S_, .i32⟩) main_call10_v0) (TRef.of (T := ⟨S16384x5, .i32⟩) main_call10_v1) (broadcastInDim S16384x5 ![] bcast_S_S16384x5),
    TRef.binary (TRef.of (T := ⟨S16384x5, .i32⟩) main_call10_v1) (TRef.of (T := ⟨S16384x5, .i32⟩) main_v97) (TRef.of (T := ⟨S16384x5, .i32⟩) main_call10_v2) maxsi,
    TRef.unary (TRef.of (T := ⟨S_, .i32⟩) main_c_31) (TRef.of (T := ⟨S_, .i32⟩) main_call10_v3) id,
    TRef.unary (TRef.of (T := ⟨S_, .i32⟩) main_call10_v3) (TRef.of (T := ⟨S16384x5, .i32⟩) main_call10_v4) (broadcastInDim S16384x5 ![] bcast_S_S16384x5),
    TRef.binary (TRef.of (T := ⟨S16384x5, .i32⟩) main_call10_v4) (TRef.of (T := ⟨S16384x5, .i32⟩) main_call10_v2) (TRef.of (T := ⟨S16384x5, .i32⟩) main_v98) minsi,
    nullary main_c_32 (constantI S_ 32 0#32),
    unary main_c_32 main_v99 (broadcastInDim S16384x1 ![] bcast_S_S16384x1 : (⟨S_, .i32⟩ : BufTy).Contents (Elt F) → (⟨S16384x1, .i32⟩ : BufTy).Contents (Elt F)),
    binary main_v24 main_v99 main_v100 (cmpi .slt : (⟨S16384x1, .i32⟩ : BufTy).Contents (Elt F) → (⟨S16384x1, .i32⟩ : BufTy).Contents (Elt F) → (⟨S16384x1, .i1⟩ : BufTy).Contents (Elt F)),
    nullary main_c_33 (constantI S_ 32 16384#32),
    unary main_c_33 main_v101 (broadcastInDim S16384x1 ![] bcast_S_S16384x1 : (⟨S_, .i32⟩ : BufTy).Contents (Elt F) → (⟨S16384x1, .i32⟩ : BufTy).Contents (Elt F)),
    binary main_v24 main_v101 main_v102 (addi : (⟨S16384x1, .i32⟩ : BufTy).Contents (Elt F) → (⟨S16384x1, .i32⟩ : BufTy).Contents (Elt F) → (⟨S16384x1, .i32⟩ : BufTy).Contents (Elt F)),
    ternary main_v100 main_v102 main_v24 main_v103 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    nullary main_c_34 (constantI S_ 32 0#32),
    unary main_c_34 main_v104 (broadcastInDim S16384x5 ![] bcast_S_S16384x5 : (⟨S_, .i32⟩ : BufTy).Contents (Elt F) → (⟨S16384x5, .i32⟩ : BufTy).Contents (Elt F)),
    binary main_v98 main_v104 main_v105 (cmpi .slt : (⟨S16384x5, .i32⟩ : BufTy).Contents (Elt F) → (⟨S16384x5, .i32⟩ : BufTy).Contents (Elt F) → (⟨S16384x5, .i1⟩ : BufTy).Contents (Elt F)),
    nullary main_c_35 (constantI S_ 32 200#32) ]

/-- Operations 127 to 138. -/
abbrev ops_part1_2 : List (HloOp τ sig (Elt F)) :=
  [ unary main_c_35 main_v106 (broadcastInDim S16384x5 ![] bcast_S_S16384x5 : (⟨S_, .i32⟩ : BufTy).Contents (Elt F) → (⟨S16384x5, .i32⟩ : BufTy).Contents (Elt F)),
    binary main_v98 main_v106 main_v107 (addi : (⟨S16384x5, .i32⟩ : BufTy).Contents (Elt F) → (⟨S16384x5, .i32⟩ : BufTy).Contents (Elt F) → (⟨S16384x5, .i32⟩ : BufTy).Contents (Elt F)),
    ternary main_v105 main_v107 main_v98 main_v108 (select : (⟨S16384x5, .i1⟩ : BufTy).Contents (Elt F) → (⟨S16384x5, .i32⟩ : BufTy).Contents (Elt F) → (⟨S16384x5, .i32⟩ : BufTy).Contents (Elt F) → (⟨S16384x5, .i32⟩ : BufTy).Contents (Elt F)),
    unary main_v103 main_v109 (broadcastInDim S16384x5 ![0, 1] bcast_S16384x1_S16384x5_0_1 : (⟨S16384x1, .i32⟩ : BufTy).Contents (Elt F) → (⟨S16384x5, .i32⟩ : BufTy).Contents (Elt F)),
    unary main_v109 main_v110 (broadcastInDim S16384x5x1 ![0, 1] bcast_S16384x5_S16384x5x1_0_1 : (⟨S16384x5, .i32⟩ : BufTy).Contents (Elt F) → (⟨S16384x5x1, .i32⟩ : BufTy).Contents (Elt F)),
    unary main_v108 main_v111 (broadcastInDim S16384x5x1 ![0, 1] bcast_S16384x5_S16384x5x1_0_1 : (⟨S16384x5, .i32⟩ : BufTy).Contents (Elt F) → (⟨S16384x5x1, .i32⟩ : BufTy).Contents (Elt F)),
    binary main_v110 main_v111 main_v112 (fn_main_v112 (F := F)),
    binary main_arg0 main_v112 main_v113 ((fun x i => Host.gather gather_S16384x200_S16384x5x2_S16384x5_n_01_n_n_01_2_11 x i) : (⟨S16384x200, .i32⟩ : BufTy).Contents (Elt F) → (⟨S16384x5x2, .i32⟩ : BufTy).Contents (Elt F) → (⟨S16384x5, .i32⟩ : BufTy).Contents (Elt F)),
    nullary main_cst_36 (constant S_ .f32 0x7F800000#32),
    TRef.unary (TRef.of (T := ⟨S_, .f32⟩) main_cst_36) (TRef.of (T := ⟨S_, .f32⟩) main_call11_v0) id,
    TRef.unary (TRef.of (T := ⟨S_, .f32⟩) main_call11_v0) (TRef.of (T := ⟨S16384x5, .f32⟩) main_call11_v1) (broadcastInDim S16384x5 ![] bcast_S_S16384x5),
    TRef.ternary (TRef.of (T := ⟨S16384x5, .i1⟩) main_v77) (TRef.of (T := ⟨S16384x5, .f32⟩) main_v22) (TRef.of (T := ⟨S16384x5, .f32⟩) main_call11_v1) (TRef.of (T := ⟨S16384x5, .f32⟩) main_v114) select ]

/-- A group of them. -/
def ops_part1 : List (HloOp τ sig (Elt F)) :=
  ops_part1_0 ++ (ops_part1_1 ++ (ops_part1_2))

/-- Operations 139 to 186. -/
abbrev ops_part2 : List (HloOp τ sig (Elt F)) :=
  [ TRef.nullary (TRef.of (T := ⟨S16384x5, .i32⟩) main_call12_v0) (iotaInDim S16384x5 32 1),
    TRef.binary (TRef.of (T := ⟨S16384x5, .f32⟩) main_v114) (TRef.of (T := ⟨S16384x5, .i32⟩) main_call12_v0) (TRef.of (T := ⟨S16384x5, .f32⟩) main_call12_v1_0) (fun x y => (Host.sort2 S16384x5 1 comparator_f32_i32_d1 x y).1),
    TRef.binary (TRef.of (T := ⟨S16384x5, .f32⟩) main_v114) (TRef.of (T := ⟨S16384x5, .i32⟩) main_call12_v0) (TRef.of (T := ⟨S16384x5, .i32⟩) main_v115) (fun x y => (Host.sort2 S16384x5 1 comparator_f32_i32_d1 x y).2),
    nullary main_c_37 (constantI S_ 32 0#32),
    unary main_c_37 main_v116 (broadcastInDim S16384x1 ![] bcast_S_S16384x1 : (⟨S_, .i32⟩ : BufTy).Contents (Elt F) → (⟨S16384x1, .i32⟩ : BufTy).Contents (Elt F)),
    binary main_v24 main_v116 main_v117 (cmpi .slt : (⟨S16384x1, .i32⟩ : BufTy).Contents (Elt F) → (⟨S16384x1, .i32⟩ : BufTy).Contents (Elt F) → (⟨S16384x1, .i1⟩ : BufTy).Contents (Elt F)),
    nullary main_c_38 (constantI S_ 32 16384#32),
    unary main_c_38 main_v118 (broadcastInDim S16384x1 ![] bcast_S_S16384x1 : (⟨S_, .i32⟩ : BufTy).Contents (Elt F) → (⟨S16384x1, .i32⟩ : BufTy).Contents (Elt F)),
    binary main_v24 main_v118 main_v119 (addi : (⟨S16384x1, .i32⟩ : BufTy).Contents (Elt F) → (⟨S16384x1, .i32⟩ : BufTy).Contents (Elt F) → (⟨S16384x1, .i32⟩ : BufTy).Contents (Elt F)),
    ternary main_v117 main_v119 main_v24 main_v120 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    nullary main_c_39 (constantI S_ 32 0#32),
    unary main_c_39 main_v121 (broadcastInDim S16384x5 ![] bcast_S_S16384x5 : (⟨S_, .i32⟩ : BufTy).Contents (Elt F) → (⟨S16384x5, .i32⟩ : BufTy).Contents (Elt F)),
    binary main_v115 main_v121 main_v122 (cmpi .slt : (⟨S16384x5, .i32⟩ : BufTy).Contents (Elt F) → (⟨S16384x5, .i32⟩ : BufTy).Contents (Elt F) → (⟨S16384x5, .i1⟩ : BufTy).Contents (Elt F)),
    nullary main_c_40 (constantI S_ 32 5#32),
    unary main_c_40 main_v123 (broadcastInDim S16384x5 ![] bcast_S_S16384x5 : (⟨S_, .i32⟩ : BufTy).Contents (Elt F) → (⟨S16384x5, .i32⟩ : BufTy).Contents (Elt F)),
    binary main_v115 main_v123 main_v124 (addi : (⟨S16384x5, .i32⟩ : BufTy).Contents (Elt F) → (⟨S16384x5, .i32⟩ : BufTy).Contents (Elt F) → (⟨S16384x5, .i32⟩ : BufTy).Contents (Elt F)),
    ternary main_v122 main_v124 main_v115 main_v125 (select : (⟨S16384x5, .i1⟩ : BufTy).Contents (Elt F) → (⟨S16384x5, .i32⟩ : BufTy).Contents (Elt F) → (⟨S16384x5, .i32⟩ : BufTy).Contents (Elt F) → (⟨S16384x5, .i32⟩ : BufTy).Contents (Elt F)),
    unary main_v120 main_v126 (broadcastInDim S16384x5 ![0, 1] bcast_S16384x1_S16384x5_0_1 : (⟨S16384x1, .i32⟩ : BufTy).Contents (Elt F) → (⟨S16384x5, .i32⟩ : BufTy).Contents (Elt F)),
    unary main_v126 main_v127 (broadcastInDim S16384x5x1 ![0, 1] bcast_S16384x5_S16384x5x1_0_1 : (⟨S16384x5, .i32⟩ : BufTy).Contents (Elt F) → (⟨S16384x5x1, .i32⟩ : BufTy).Contents (Elt F)),
    unary main_v125 main_v128 (broadcastInDim S16384x5x1 ![0, 1] bcast_S16384x5_S16384x5x1_0_1 : (⟨S16384x5, .i32⟩ : BufTy).Contents (Elt F) → (⟨S16384x5x1, .i32⟩ : BufTy).Contents (Elt F)),
    binary main_v127 main_v128 main_v129 (fn_main_v129 (F := F)),
    binary main_v113 main_v129 main_v130 ((fun x i => Host.gather gather_S16384x5_S16384x5x2_S16384x5_n_01_n_n_01_2_11 x i) : (⟨S16384x5, .i32⟩ : BufTy).Contents (Elt F) → (⟨S16384x5x2, .i32⟩ : BufTy).Contents (Elt F) → (⟨S16384x5, .i32⟩ : BufTy).Contents (Elt F)),
    unary main_v45 main_v131 (broadcastInDim S16384x1 ![0] bcast_S16384_S16384x1_0 : (⟨S16384, .i1⟩ : BufTy).Contents (Elt F) → (⟨S16384x1, .i1⟩ : BufTy).Contents (Elt F)),
    unary main_v131 main_v132 (broadcastInDim S16384x5 ![0, 1] bcast_S16384x1_S16384x5_0_1 : (⟨S16384x1, .i1⟩ : BufTy).Contents (Elt F) → (⟨S16384x5, .i1⟩ : BufTy).Contents (Elt F)),
    binary main_v132 main_v77 main_v133 (andi : (⟨S16384x5, .i1⟩ : BufTy).Contents (Elt F) → (⟨S16384x5, .i1⟩ : BufTy).Contents (Elt F) → (⟨S16384x5, .i1⟩ : BufTy).Contents (Elt F)),
    nullary main_c_41 (constantI S_ 32 200#32),
    TRef.unary (TRef.of (T := ⟨S_, .i32⟩) main_c_41) (TRef.of (T := ⟨S_, .i32⟩) main_call13_v0) id,
    TRef.unary (TRef.of (T := ⟨S_, .i32⟩) main_call13_v0) (TRef.of (T := ⟨S16384x5, .i32⟩) main_call13_v1) (broadcastInDim S16384x5 ![] bcast_S_S16384x5),
    TRef.ternary (TRef.of (T := ⟨S16384x5, .i1⟩) main_v133) (TRef.of (T := ⟨S16384x5, .i32⟩) main_v98) (TRef.of (T := ⟨S16384x5, .i32⟩) main_call13_v1) (TRef.of (T := ⟨S16384x5, .i32⟩) main_v134) select,
    nullary main_c_42 (constantI S_ 32 0#32),
    unary main_c_42 main_v135 (broadcastInDim S16384x1 ![] bcast_S_S16384x1 : (⟨S_, .i32⟩ : BufTy).Contents (Elt F) → (⟨S16384x1, .i32⟩ : BufTy).Contents (Elt F)),
    binary main_v24 main_v135 main_v136 (cmpi .slt : (⟨S16384x1, .i32⟩ : BufTy).Contents (Elt F) → (⟨S16384x1, .i32⟩ : BufTy).Contents (Elt F) → (⟨S16384x1, .i1⟩ : BufTy).Contents (Elt F)),
    nullary main_c_43 (constantI S_ 32 16384#32),
    unary main_c_43 main_v137 (broadcastInDim S16384x1 ![] bcast_S_S16384x1 : (⟨S_, .i32⟩ : BufTy).Contents (Elt F) → (⟨S16384x1, .i32⟩ : BufTy).Contents (Elt F)),
    binary main_v24 main_v137 main_v138 (addi : (⟨S16384x1, .i32⟩ : BufTy).Contents (Elt F) → (⟨S16384x1, .i32⟩ : BufTy).Contents (Elt F) → (⟨S16384x1, .i32⟩ : BufTy).Contents (Elt F)),
    ternary main_v136 main_v138 main_v24 main_v139 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    nullary main_c_44 (constantI S_ 32 0#32),
    unary main_c_44 main_v140 (broadcastInDim S16384x5 ![] bcast_S_S16384x5 : (⟨S_, .i32⟩ : BufTy).Contents (Elt F) → (⟨S16384x5, .i32⟩ : BufTy).Contents (Elt F)),
    binary main_v134 main_v140 main_v141 (cmpi .slt : (⟨S16384x5, .i32⟩ : BufTy).Contents (Elt F) → (⟨S16384x5, .i32⟩ : BufTy).Contents (Elt F) → (⟨S16384x5, .i1⟩ : BufTy).Contents (Elt F)),
    nullary main_c_45 (constantI S_ 32 200#32),
    unary main_c_45 main_v142 (broadcastInDim S16384x5 ![] bcast_S_S16384x5 : (⟨S_, .i32⟩ : BufTy).Contents (Elt F) → (⟨S16384x5, .i32⟩ : BufTy).Contents (Elt F)),
    binary main_v134 main_v142 main_v143 (addi : (⟨S16384x5, .i32⟩ : BufTy).Contents (Elt F) → (⟨S16384x5, .i32⟩ : BufTy).Contents (Elt F) → (⟨S16384x5, .i32⟩ : BufTy).Contents (Elt F)),
    ternary main_v141 main_v143 main_v134 main_v144 (select : (⟨S16384x5, .i1⟩ : BufTy).Contents (Elt F) → (⟨S16384x5, .i32⟩ : BufTy).Contents (Elt F) → (⟨S16384x5, .i32⟩ : BufTy).Contents (Elt F) → (⟨S16384x5, .i32⟩ : BufTy).Contents (Elt F)),
    unary main_v139 main_v145 (broadcastInDim S16384x5 ![0, 1] bcast_S16384x1_S16384x5_0_1 : (⟨S16384x1, .i32⟩ : BufTy).Contents (Elt F) → (⟨S16384x5, .i32⟩ : BufTy).Contents (Elt F)),
    unary main_v145 main_v146 (broadcastInDim S16384x5x1 ![0, 1] bcast_S16384x5_S16384x5x1_0_1 : (⟨S16384x5, .i32⟩ : BufTy).Contents (Elt F) → (⟨S16384x5x1, .i32⟩ : BufTy).Contents (Elt F)),
    unary main_v144 main_v147 (broadcastInDim S16384x5x1 ![0, 1] bcast_S16384x5_S16384x5x1_0_1 : (⟨S16384x5, .i32⟩ : BufTy).Contents (Elt F) → (⟨S16384x5x1, .i32⟩ : BufTy).Contents (Elt F)),
    binary main_v146 main_v147 main_v148 (fn_main_v148 (F := F)),
    ternary main_arg0 main_v148 main_v130 main_v149 ((fun x i u => Host.scatter scatter_S16384x200_S16384x5x2_S16384x5_n_01_01_2 (fun _ b => b) x i u) : (⟨S16384x200, .i32⟩ : BufTy).Contents (Elt F) → (⟨S16384x5x2, .i32⟩ : BufTy).Contents (Elt F) → (⟨S16384x5, .i32⟩ : BufTy).Contents (Elt F) → (⟨S16384x200, .i32⟩ : BufTy).Contents (Elt F)) ]

/-- All of them. -/
abbrev ops : List (HloOp τ sig (Elt F)) :=
  ops_part0 ++ (ops_part1 ++ (ops_part2))

/-- The operations of the first program part after the draws, and of the three parts that follow. -/
abbrev w0 : List (HloOp τ sig (Elt F)) := ops_part0_0.take 29
abbrev w1 : List (HloOp τ sig (Elt F)) := ops_part0_0.drop 29 ++ (ops_part0_1 ++ (ops_part0_2 ++ (ops_part1_0 ++ ops_part1_1.take 1)))
abbrev w2 : List (HloOp τ sig (Elt F)) := ops_part1_1.drop 1 ++ (ops_part1_2 ++ ops_part2.take 30)
abbrev w3 : List (HloOp τ sig (Elt F)) := ops_part2.drop 30

set_option maxRecDepth 8192 in
theorem ops_eq : (ops : List (HloOp τ sig (Elt F))) = w0 ++ (w1 ++ (w2 ++ w3)) := rfl

set_option maxRecDepth 8192 in
set_option maxHeartbeats 4000000 in
theorem main_part1_eq (c : Dev nD) : main_part1 (F := F) c = seq w1 := rfl
set_option maxRecDepth 8192 in
set_option maxHeartbeats 4000000 in
theorem main_part2_eq (c : Dev nD) : main_part2 (F := F) c = seq w2 := rfl
set_option maxRecDepth 8192 in
set_option maxHeartbeats 4000000 in
theorem main_part3_eq (c : Dev nD) : main_part3 (F := F) c = seq w3 := rfl

theorem main_eq (c : Dev nD) (pre : List (HloOp τ sig (Elt F))) (h : main_part0 (F := F) c = (seq pre >>= fun _ => seq w0)) :
    main (F := F) c = seq (pre ++ ops) := by
  have e : main (F := F) c = (main_part0 c >>= fun _ => main_part1 c >>= fun _ => main_part2 c >>= fun _ => main_part3 c) := rfl
  rw [e, h, main_part1_eq, main_part2_eq, main_part3_eq, ops_eq]
  simp only [seq_append, bind_assoc]

set_option maxRecDepth 65536 in
theorem scopedRefs_eq : (Finset.univ.filter fun b : Ref sig .tc => b.isScoped) = ∅ := by decide +kernel
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., unary_bufs_sub .., nullary_bufs_sub .., unary_bufs_sub .., unary_bufs_sub .., unary_bufs_sub .., unary_bufs_sub .., binary_bufs_sub .., nullary_bufs_sub .., unary_bufs_sub .., binary_bufs_sub .., binary_bufs_sub .., unary_bufs_sub .., nullary_bufs_sub .., binary_bufs_sub .., nullary_bufs_sub .., unary_bufs_sub .., unary_bufs_sub .., unary_bufs_sub .., ternary_bufs_sub .., unary_bufs_sub .., nullary_bufs_sub .., unary_bufs_sub .., binary_bufs_sub .., nullary_bufs_sub .., unary_bufs_sub .., binary_bufs_sub .., binary_bufs_sub .., nullary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., binary_bufs_sub .., binary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., unary_bufs_sub .., binary_bufs_sub .., nullary_bufs_sub .., unary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., binary_bufs_sub .., unary_bufs_sub .., unary_bufs_sub .., nullary_bufs_sub .., unary_bufs_sub .., unary_bufs_sub .., unary_bufs_sub .., unary_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., binary_bufs_sub .., ternary_bufs_sub .., unary_bufs_sub .., unary_bufs_sub .., unary_bufs_sub .., binary_bufs_sub .., binary_bufs_sub .., nullary_bufs_sub .., unary_bufs_sub .., unary_bufs_sub .., ternary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
/-- What is left in `main_v24`. -/
def res_main_v24 (V0 : Valuation τ sig (Elt F)) : (Proc.devRef .tc main_v24 : DevRef τ sig).ty.Contents (Elt F) :=
  broadcastInDim S16384x1 ![0] bcast_S16384_S16384x1_0 (iotaInDim S16384 32 0)

set_option maxRecDepth 8192 in
/-- What is left in `main_v26`. -/
def res_main_v26 (V0 : Valuation τ sig (Elt F)) : (Proc.devRef .tc main_v26 : DevRef τ sig).ty.Contents (Elt F) :=
  broadcastInDim S1x200 ![1] bcast_S200_S1x200_1 (iotaInDim S200 32 0)

set_option maxRecDepth 8192 in
/-- What is left in `main_v33`. -/
def res_main_v33 (V0 : Valuation τ sig (Elt F)) : (Proc.devRef .tc main_v33 : DevRef τ sig).ty.Contents (Elt F) :=
  andi (cmpi .slt (broadcastInDim S16384x200 ![0, 1] bcast_S1x200_S16384x200_0_1 (res_main_v26 V0)) (broadcastInDim S16384x200 ![0, 1] bcast_S16384x1_S16384x200_0_1 (broadcastInDim S16384x1 ![0] bcast_S16384_S16384x1_0 (V0 (Proc.devRef .tc main_arg1))))) (cmpi .ne (V0 (Proc.devRef .tc main_arg0)) (broadcastInDim S16384x200 ![] bcast_S_S16384x200 (constantI S_ 32 0#32)))

set_option maxRecDepth 8192 in
/-- What is left in `main_v35`. -/
def res_main_v35 (V0 : Valuation τ sig (Elt F)) : (Proc.devRef .tc main_v35 : DevRef τ sig).ty.Contents (Elt F) :=
  Host.reduce IntOp.addi (extui 32 (res_main_v33 V0) natLt_1_32) (constantI S_ 32 0#32) reducesTo_S16384x200_S16384_d1 h_S_

set_option maxRecDepth 8192 in
/-- What is left in `main_v47`. -/
def res_main_v47 (V0 : Valuation τ sig (Elt F)) : (Proc.devRef .tc main_v47 : DevRef τ sig).ty.Contents (Elt F) :=
  minsi (res_main_v35 V0) (broadcastInDim S16384 ![] bcast_S_S16384 (constantI S_ 32 5#32))

set_option maxRecDepth 8192 in
/-- What is left in `main_v62`. -/
def res_main_v62 (V0 : Valuation τ sig (Elt F)) : (Proc.devRef .tc main_v62 : DevRef τ sig).ty.Contents (Elt F) :=
  minsi (maxsi (res_main_v47 V0) (broadcastInDim S16384 ![] bcast_S_S16384 (constantI S_ 32 2#32))) (maxsi (broadcastInDim S16384 ![] bcast_S_S16384 (id (constantI S_ 32 2#32))) (addi (broadcastInDim S16384 ![] bcast_S_S16384 (constantI S_ 32 2#32)) (fptosi 32 (Host.floor (mulf (V0 (Proc.devRef .tc main_v20)) (sitofp .f32 (maxsi (addi (subi (res_main_v47 V0) (broadcastInDim S16384 ![] bcast_S_S16384 (constantI S_ 32 2#32))) (broadcastInDim S16384 ![] bcast_S_S16384 (constantI S_ 32 1#32))) (broadcastInDim S16384 ![] bcast_S_S16384 (constantI S_ 32 1#32)))))))))

set_option maxRecDepth 8192 in
/-- What is left in `main_v73`. -/
def res_main_v73 (V0 : Valuation τ sig (Elt F)) : (Proc.devRef .tc main_v73 : DevRef τ sig).ty.Contents (Elt F) :=
  broadcastInDim S1x5 ![1] bcast_S5_S1x5_1 (iotaInDim S5 32 0)

set_option maxRecDepth 8192 in
/-- What is left in `main_v77`. -/
def res_main_v77 (V0 : Valuation τ sig (Elt F)) : (Proc.devRef .tc main_v77 : DevRef τ sig).ty.Contents (Elt F) :=
  cmpi .slt (broadcastInDim S16384x5 ![0, 1] bcast_S1x5_S16384x5_0_1 (res_main_v73 V0)) (broadcastInDim S16384x5 ![0, 1] bcast_S16384x1_S16384x5_0_1 (broadcastInDim S16384x1 ![0] bcast_S16384_S16384x1_0 (res_main_v62 V0)))

set_option maxRecDepth 8192 in
/-- What is left in `main_v82`. -/
def res_main_v82 (V0 : Valuation τ sig (Elt F)) : (Proc.devRef .tc main_v82 : DevRef τ sig).ty.Contents (Elt F) :=
  minsi (broadcastInDim S16384x5 ![] bcast_S_S16384x5 (id (constantI S_ 32 199#32))) (maxsi (broadcastInDim S16384x5 ![] bcast_S_S16384x5 (id (constantI S_ 32 0#32))) (addi (broadcastInDim S16384x5 ![0, 1] bcast_S16384x1_S16384x5_0_1 (broadcastInDim S16384x1 ![0] bcast_S16384_S16384x1_0 (fptosi 32 (Host.floor (mulf (V0 (Proc.devRef .tc main_v21)) (sitofp .f32 (maxsi (addi (subi (res_main_v35 V0) (res_main_v62 V0)) (broadcastInDim S16384 ![] bcast_S_S16384 (constantI S_ 32 1#32))) (broadcastInDim S16384 ![] bcast_S_S16384 (constantI S_ 32 1#32))))))))) (broadcastInDim S16384x5 ![0, 1] bcast_S1x5_S16384x5_0_1 (res_main_v73 V0))))

set_option maxRecDepth 8192 in
/-- What is left in `main_v98`. -/
def res_main_v98 (V0 : Valuation τ sig (Elt F)) : (Proc.devRef .tc main_v98 : DevRef τ sig).ty.Contents (Elt F) :=
  minsi (broadcastInDim S16384x5 ![] bcast_S_S16384x5 (id (constantI S_ 32 199#32))) (maxsi (broadcastInDim S16384x5 ![] bcast_S_S16384x5 (id (constantI S_ 32 0#32))) (Host.gather gather_S16384x200_S16384x5x2_S16384x5_n_01_n_n_01_2_11 (Host.sort S16384x200 1 comparator_i32_d1 (select (res_main_v33 V0) (broadcastInDim S16384x200 ![0, 1] bcast_S1x200_S16384x200_0_1 (res_main_v26 V0)) (broadcastInDim S16384x200 ![] bcast_S_S16384x200 (id (constantI S_ 32 200#32))))) (concatenate S16384x5x2 2 [⟨S16384x5x1, (broadcastInDim S16384x5x1 ![0, 1] bcast_S16384x5_S16384x5x1_0_1 (broadcastInDim S16384x5 ![0, 1] bcast_S16384x1_S16384x5_0_1 (select (cmpi .slt (res_main_v24 V0) (broadcastInDim S16384x1 ![] bcast_S_S16384x1 (constantI S_ 32 0#32))) (addi (res_main_v24 V0) (broadcastInDim S16384x1 ![] bcast_S_S16384x1 (constantI S_ 32 16384#32))) (res_main_v24 V0))))⟩, ⟨S16384x5x1, (broadcastInDim S16384x5x1 ![0, 1] bcast_S16384x5_S16384x5x1_0_1 (select (cmpi .slt (res_main_v82 V0) (broadcastInDim S16384x5 ![] bcast_S_S16384x5 (constantI S_ 32 0#32))) (addi (res_main_v82 V0) (broadcastInDim S16384x5 ![] bcast_S_S16384x5 (constantI S_ 32 200#32))) (res_main_v82 V0)))⟩] concatenates_S16384x5x1_S16384x5x1_S16384x5x2_d2)))

set_option maxRecDepth 8192 in
/-- What is left in `main_v114`. -/
def res_main_v114 (V0 : Valuation τ sig (Elt F)) : (Proc.devRef .tc main_v114 : DevRef τ sig).ty.Contents (Elt F) :=
  select (res_main_v77 V0) (V0 (Proc.devRef .tc main_v22)) (broadcastInDim S16384x5 ![] bcast_S_S16384x5 (id (constant S_ .f32 0x7F800000#32)))

set_option maxRecDepth 8192 in
/-- What is left in `main_call12_v0`. -/
def res_main_call12_v0 (V0 : Valuation τ sig (Elt F)) : (Proc.devRef .tc main_call12_v0 : DevRef τ sig).ty.Contents (Elt F) :=
  iotaInDim S16384x5 32 1

set_option maxRecDepth 8192 in
/-- What is left in `main_v115`. -/
def res_main_v115 (V0 : Valuation τ sig (Elt F)) : (Proc.devRef .tc main_v115 : DevRef τ sig).ty.Contents (Elt F) :=
  (Host.sort2 S16384x5 1 comparator_f32_i32_d1 (res_main_v114 V0) (res_main_call12_v0 V0)).2

set_option maxRecDepth 8192 in
/-- What is left in `main_v134`. -/
def res_main_v134 (V0 : Valuation τ sig (Elt F)) : (Proc.devRef .tc main_v134 : DevRef τ sig).ty.Contents (Elt F) :=
  select (andi (broadcastInDim S16384x5 ![0, 1] bcast_S16384x1_S16384x5_0_1 (broadcastInDim S16384x1 ![0] bcast_S16384_S16384x1_0 (andi (andi (cmpi .sgt (V0 (Proc.devRef .tc main_arg1)) (broadcastInDim S16384 ![] bcast_S_S16384 (constantI S_ 32 2#32))) (cmpf .ole (V0 (Proc.devRef .tc main_v19)) (broadcastInDim S16384 ![] bcast_S_S16384 (constant S_ .f32 0x3F000000#32)))) (cmpi .sge (res_main_v35 V0) (broadcastInDim S16384 ![] bcast_S_S16384 (constantI S_ 32 2#32)))))) (res_main_v77 V0)) (res_main_v98 V0) (broadcastInDim S16384x5 ![] bcast_S_S16384x5 (id (constantI S_ 32 200#32)))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_v19 (V0 : Valuation τ sig (Elt F)) : val0 V0 (no_index (Proc.devRef .tc main_v19)) = V0 (Proc.devRef .tc main_v19) := rfl
theorem val0_main_v20 (V0 : Valuation τ sig (Elt F)) : val0 V0 (no_index (Proc.devRef .tc main_v20)) = V0 (Proc.devRef .tc main_v20) := rfl
theorem val0_main_v21 (V0 : Valuation τ sig (Elt F)) : val0 V0 (no_index (Proc.devRef .tc main_v21)) = V0 (Proc.devRef .tc main_v21) := rfl
theorem val0_main_v22 (V0 : Valuation τ sig (Elt F)) : val0 V0 (no_index (Proc.devRef .tc main_v22)) = V0 (Proc.devRef .tc main_v22) := rfl

/-- The contents after the first 30 operations. -/
def val0_1 (V0 : Valuation τ sig (Elt F)) : Valuation τ sig (Elt F) := after ops_part0_0 (val0 V0)
/-- What `ops_part0_0` writes. -/
abbrev ops_part0_0_W : List (Ref sig .tc) := [main_v23, main_v24, main_v25, main_v26, main_v27, main_v28, main_v29, main_v30, main_c_9, main_v31, main_v32, main_v33, main_v34, main_c_10, main_v35, main_c_11, main_call6_v0, main_call6_v1, main_call6_v2, main_v36, main_v37, main_c_12, main_v38, main_v39, main_cst_13, main_v40, main_v41, main_v42, main_c_14, main_v43]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops_part0_0` does not write keeps its contents. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_v19 (V0 : Valuation τ sig (Elt F)) : val0_1 V0 (no_index (Proc.devRef .tc main_v19)) = V0 (Proc.devRef .tc main_v19) :=
  (val0_1_keep V0 main_v19 (by decide)).trans (val0_main_v19 V0)
theorem val0_1_main_v20 (V0 : Valuation τ sig (Elt F)) : val0_1 V0 (no_index (Proc.devRef .tc main_v20)) = V0 (Proc.devRef .tc main_v20) :=
  (val0_1_keep V0 main_v20 (by decide)).trans (val0_main_v20 V0)
theorem val0_1_main_v21 (V0 : Valuation τ sig (Elt F)) : val0_1 V0 (no_index (Proc.devRef .tc main_v21)) = V0 (Proc.devRef .tc main_v21) :=
  (val0_1_keep V0 main_v21 (by decide)).trans (val0_main_v21 V0)
theorem val0_1_main_v22 (V0 : Valuation τ sig (Elt F)) : val0_1 V0 (no_index (Proc.devRef .tc main_v22)) = V0 (Proc.devRef .tc main_v22) :=
  (val0_1_keep V0 main_v22 (by decide)).trans (val0_main_v22 V0)
set_option maxRecDepth 8192 in
set_option maxHeartbeats 2000000 in
theorem val0_1_main_v24 (V0 : Valuation τ sig (Elt F)) : val0_1 V0 (no_index (Proc.devRef .tc main_v24)) = res_main_v24 V0 := by
  unfold val0_1
  simp only [ops_part0_0, TRef.ternary, TRef.unary, TRef.toBuf, TRef.ofBuf, cast_eq]
  after_results_simp
  all_goals rfl
set_option maxRecDepth 8192 in
set_option maxHeartbeats 2000000 in
theorem val0_1_main_v35 (V0 : Valuation τ sig (Elt F)) : val0_1 V0 (no_index (Proc.devRef .tc main_v35)) = res_main_v35 V0 := by
  unfold val0_1
  simp only [ops_part0_0, TRef.ternary, TRef.unary, TRef.toBuf, TRef.ofBuf, cast_eq]
  after_results_simp
  simp only [val0_main_arg0, val0_main_arg1] <;> rfl
set_option maxRecDepth 8192 in
set_option maxHeartbeats 2000000 in
theorem val0_1_main_v37 (V0 : Valuation τ sig (Elt F)) : val0_1 V0 (no_index (Proc.devRef .tc main_v37)) = Host.sort S16384x200 1 comparator_i32_d1 (select (res_main_v33 V0) (broadcastInDim S16384x200 ![0, 1] bcast_S1x200_S16384x200_0_1 (res_main_v26 V0)) (broadcastInDim S16384x200 ![] bcast_S_S16384x200 (id (constantI S_ 32 200#32)))) := by
  unfold val0_1
  simp only [ops_part0_0, TRef.ternary, TRef.unary, TRef.toBuf, TRef.ofBuf, cast_eq]
  after_results_simp
  simp only [val0_main_arg0, val0_main_arg1] <;> rfl
set_option maxRecDepth 8192 in
set_option maxHeartbeats 2000000 in
theorem val0_1_main_v42 (V0 : Valuation τ sig (Elt F)) : val0_1 V0 (no_index (Proc.devRef .tc main_v42)) = andi (cmpi .sgt (V0 (Proc.devRef .tc main_arg1)) (broadcastInDim S16384 ![] bcast_S_S16384 (constantI S_ 32 2#32))) (cmpf .ole (V0 (Proc.devRef .tc main_v19)) (broadcastInDim S16384 ![] bcast_S_S16384 (constant S_ .f32 0x3F000000#32))) := by
  unfold val0_1
  simp only [ops_part0_0, TRef.ternary, TRef.unary, TRef.toBuf, TRef.ofBuf, cast_eq]
  after_results_simp
  simp only [val0_main_v19, val0_main_arg1] <;> rfl
set_option maxRecDepth 8192 in
set_option maxHeartbeats 2000000 in
theorem val0_1_main_v43 (V0 : Valuation τ sig (Elt F)) : val0_1 V0 (no_index (Proc.devRef .tc main_v43)) = broadcastInDim S16384 ![] bcast_S_S16384 (constantI S_ 32 2#32) := by
  unfold val0_1
  simp only [ops_part0_0, TRef.ternary, TRef.unary, TRef.toBuf, TRef.ofBuf, cast_eq]
  after_results_simp
  all_goals rfl

/-- The contents after the first 60 operations. -/
def val0_2 (V0 : Valuation τ sig (Elt F)) : Valuation τ sig (Elt F) := after ops_part0_1 (val0_1 V0)
/-- What `ops_part0_1` writes. -/
abbrev ops_part0_1_W : List (Ref sig .tc) := [main_v44, main_v45, main_c_15, main_v46, main_v47, main_c_16, main_v48, main_v49, main_c_17, main_v50, main_v51, main_c_18, main_v52, main_v53, main_v54, main_v55, main_v56, main_v57, main_c_19, main_v58, main_v59, main_c_20, main_v60, main_v61, main_c_21, main_call8_v0, main_call8_v1, main_call8_v2, main_v62, main_v63]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops_part0_1` does not write keeps its contents. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_v19 (V0 : Valuation τ sig (Elt F)) : val0_2 V0 (no_index (Proc.devRef .tc main_v19)) = V0 (Proc.devRef .tc main_v19) :=
  (val0_2_keep V0 main_v19 (by decide)).trans (val0_1_main_v19 V0)
theorem val0_2_main_v20 (V0 : Valuation τ sig (Elt F)) : val0_2 V0 (no_index (Proc.devRef .tc main_v20)) = V0 (Proc.devRef .tc main_v20) :=
  (val0_2_keep V0 main_v20 (by decide)).trans (val0_1_main_v20 V0)
theorem val0_2_main_v21 (V0 : Valuation τ sig (Elt F)) : val0_2 V0 (no_index (Proc.devRef .tc main_v21)) = V0 (Proc.devRef .tc main_v21) :=
  (val0_2_keep V0 main_v21 (by decide)).trans (val0_1_main_v21 V0)
theorem val0_2_main_v22 (V0 : Valuation τ sig (Elt F)) : val0_2 V0 (no_index (Proc.devRef .tc main_v22)) = V0 (Proc.devRef .tc main_v22) :=
  (val0_2_keep V0 main_v22 (by decide)).trans (val0_1_main_v22 V0)
theorem val0_2_main_v24 (V0 : Valuation τ sig (Elt F)) : val0_2 V0 (no_index (Proc.devRef .tc main_v24)) = res_main_v24 V0 :=
  (val0_2_keep V0 main_v24 (by decide)).trans (val0_1_main_v24 V0)
theorem val0_2_main_v37 (V0 : Valuation τ sig (Elt F)) : val0_2 V0 (no_index (Proc.devRef .tc main_v37)) = Host.sort S16384x200 1 comparator_i32_d1 (select (res_main_v33 V0) (broadcastInDim S16384x200 ![0, 1] bcast_S1x200_S16384x200_0_1 (res_main_v26 V0)) (broadcastInDim S16384x200 ![] bcast_S_S16384x200 (id (constantI S_ 32 200#32)))) :=
  (val0_2_keep V0 main_v37 (by decide)).trans (val0_1_main_v37 V0)
set_option maxRecDepth 8192 in
set_option maxHeartbeats 2000000 in
theorem val0_2_main_v45 (V0 : Valuation τ sig (Elt F)) : val0_2 V0 (no_index (Proc.devRef .tc main_v45)) = andi (andi (cmpi .sgt (V0 (Proc.devRef .tc main_arg1)) (broadcastInDim S16384 ![] bcast_S_S16384 (constantI S_ 32 2#32))) (cmpf .ole (V0 (Proc.devRef .tc main_v19)) (broadcastInDim S16384 ![] bcast_S_S16384 (constant S_ .f32 0x3F000000#32)))) (cmpi .sge (res_main_v35 V0) (broadcastInDim S16384 ![] bcast_S_S16384 (constantI S_ 32 2#32))) := by
  unfold val0_2
  simp only [ops_part0_1, TRef.binary, TRef.unary, TRef.toBuf, TRef.ofBuf, cast_eq]
  after_results_simp
  simp only [val0_1_main_v43, val0_1_main_v35, val0_1_main_v42] <;> rfl
set_option maxRecDepth 8192 in
set_option maxHeartbeats 2000000 in
theorem val0_2_main_v62 (V0 : Valuation τ sig (Elt F)) : val0_2 V0 (no_index (Proc.devRef .tc main_v62)) = res_main_v62 V0 := by
  unfold val0_2
  simp only [ops_part0_1, TRef.binary, TRef.unary, TRef.toBuf, TRef.ofBuf, cast_eq]
  after_results_simp
  simp only [val0_1_main_v35, val0_1_main_v20] <;> rfl
set_option maxRecDepth 8192 in
set_option maxHeartbeats 2000000 in
theorem val0_2_main_v63 (V0 : Valuation τ sig (Elt F)) : val0_2 V0 (no_index (Proc.devRef .tc main_v63)) = subi (res_main_v35 V0) (res_main_v62 V0) := by
  unfold val0_2
  simp only [ops_part0_1, TRef.binary, TRef.unary, TRef.toBuf, TRef.ofBuf, cast_eq]
  after_results_simp
  simp only [val0_1_main_v20, val0_1_main_v35] <;> rfl

/-- The contents after the first 1 groups. -/
def val1 (V0 : Valuation τ sig (Elt F)) : Valuation τ sig (Elt F) := after ops_part0_2 (val0_2 V0)
/-- What `ops_part0_2` writes. -/
abbrev ops_part0_2_W : List (Ref sig .tc) := [main_c_22, main_v64, main_v65, main_c_23, main_v66, main_v67]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops_part0_2` does not write keeps its contents. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_v19 (V0 : Valuation τ sig (Elt F)) : val1 V0 (no_index (Proc.devRef .tc main_v19)) = V0 (Proc.devRef .tc main_v19) :=
  (val1_keep V0 main_v19 (by decide)).trans (val0_2_main_v19 V0)
theorem val1_main_v20 (V0 : Valuation τ sig (Elt F)) : val1 V0 (no_index (Proc.devRef .tc main_v20)) = V0 (Proc.devRef .tc main_v20) :=
  (val1_keep V0 main_v20 (by decide)).trans (val0_2_main_v20 V0)
theorem val1_main_v21 (V0 : Valuation τ sig (Elt F)) : val1 V0 (no_index (Proc.devRef .tc main_v21)) = V0 (Proc.devRef .tc main_v21) :=
  (val1_keep V0 main_v21 (by decide)).trans (val0_2_main_v21 V0)
theorem val1_main_v22 (V0 : Valuation τ sig (Elt F)) : val1 V0 (no_index (Proc.devRef .tc main_v22)) = V0 (Proc.devRef .tc main_v22) :=
  (val1_keep V0 main_v22 (by decide)).trans (val0_2_main_v22 V0)
theorem val1_main_v24 (V0 : Valuation τ sig (Elt F)) : val1 V0 (no_index (Proc.devRef .tc main_v24)) = res_main_v24 V0 :=
  (val1_keep V0 main_v24 (by decide)).trans (val0_2_main_v24 V0)
theorem val1_main_v37 (V0 : Valuation τ sig (Elt F)) : val1 V0 (no_index (Proc.devRef .tc main_v37)) = Host.sort S16384x200 1 comparator_i32_d1 (select (res_main_v33 V0) (broadcastInDim S16384x200 ![0, 1] bcast_S1x200_S16384x200_0_1 (res_main_v26 V0)) (broadcastInDim S16384x200 ![] bcast_S_S16384x200 (id (constantI S_ 32 200#32)))) :=
  (val1_keep V0 main_v37 (by decide)).trans (val0_2_main_v37 V0)
theorem val1_main_v45 (V0 : Valuation τ sig (Elt F)) : val1 V0 (no_index (Proc.devRef .tc main_v45)) = andi (andi (cmpi .sgt (V0 (Proc.devRef .tc main_arg1)) (broadcastInDim S16384 ![] bcast_S_S16384 (constantI S_ 32 2#32))) (cmpf .ole (V0 (Proc.devRef .tc main_v19)) (broadcastInDim S16384 ![] bcast_S_S16384 (constant S_ .f32 0x3F000000#32)))) (cmpi .sge (res_main_v35 V0) (broadcastInDim S16384 ![] bcast_S_S16384 (constantI S_ 32 2#32))) :=
  (val1_keep V0 main_v45 (by decide)).trans (val0_2_main_v45 V0)
theorem val1_main_v62 (V0 : Valuation τ sig (Elt F)) : val1 V0 (no_index (Proc.devRef .tc main_v62)) = res_main_v62 V0 :=
  (val1_keep V0 main_v62 (by decide)).trans (val0_2_main_v62 V0)
set_option maxRecDepth 8192 in
theorem val1_main_v67 (V0 : Valuation τ sig (Elt F)) : val1 V0 (no_index (Proc.devRef .tc main_v67)) = maxsi (addi (subi (res_main_v35 V0) (res_main_v62 V0)) (broadcastInDim S16384 ![] bcast_S_S16384 (constantI S_ 32 1#32))) (broadcastInDim S16384 ![] bcast_S_S16384 (constantI S_ 32 1#32)) := by
  unfold val1
  simp only [ops_part0_2]
  after_results_simp
  simp only [val0_2_main_v63] <;> rfl

/-- The contents after the first 96 operations. -/
def val1_1 (V0 : Valuation τ sig (Elt F)) : Valuation τ sig (Elt F) := after ops_part1_0 (val1 V0)
/-- What `ops_part1_0` writes. -/
abbrev ops_part1_0_W : List (Ref sig .tc) := [main_v68, main_v69, main_v70, main_v71, main_v72, main_v73, main_v74, main_v75, main_v76, main_v77, main_v78, main_v79, main_v80, main_v81, main_c_24, main_c_25, main_call9_v0, main_call9_v1, main_call9_v2, main_call9_v3, main_call9_v4, main_v82, main_c_26, main_v83, main_v84, main_c_27, main_v85, main_v86, main_v87, main_c_28]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops_part1_0` does not write keeps its contents. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_v19 (V0 : Valuation τ sig (Elt F)) : val1_1 V0 (no_index (Proc.devRef .tc main_v19)) = V0 (Proc.devRef .tc main_v19) :=
  (val1_1_keep V0 main_v19 (by decide)).trans (val1_main_v19 V0)
theorem val1_1_main_v20 (V0 : Valuation τ sig (Elt F)) : val1_1 V0 (no_index (Proc.devRef .tc main_v20)) = V0 (Proc.devRef .tc main_v20) :=
  (val1_1_keep V0 main_v20 (by decide)).trans (val1_main_v20 V0)
theorem val1_1_main_v21 (V0 : Valuation τ sig (Elt F)) : val1_1 V0 (no_index (Proc.devRef .tc main_v21)) = V0 (Proc.devRef .tc main_v21) :=
  (val1_1_keep V0 main_v21 (by decide)).trans (val1_main_v21 V0)
theorem val1_1_main_v22 (V0 : Valuation τ sig (Elt F)) : val1_1 V0 (no_index (Proc.devRef .tc main_v22)) = V0 (Proc.devRef .tc main_v22) :=
  (val1_1_keep V0 main_v22 (by decide)).trans (val1_main_v22 V0)
theorem val1_1_main_v24 (V0 : Valuation τ sig (Elt F)) : val1_1 V0 (no_index (Proc.devRef .tc main_v24)) = res_main_v24 V0 :=
  (val1_1_keep V0 main_v24 (by decide)).trans (val1_main_v24 V0)
theorem val1_1_main_v37 (V0 : Valuation τ sig (Elt F)) : val1_1 V0 (no_index (Proc.devRef .tc main_v37)) = Host.sort S16384x200 1 comparator_i32_d1 (select (res_main_v33 V0) (broadcastInDim S16384x200 ![0, 1] bcast_S1x200_S16384x200_0_1 (res_main_v26 V0)) (broadcastInDim S16384x200 ![] bcast_S_S16384x200 (id (constantI S_ 32 200#32)))) :=
  (val1_1_keep V0 main_v37 (by decide)).trans (val1_main_v37 V0)
theorem val1_1_main_v45 (V0 : Valuation τ sig (Elt F)) : val1_1 V0 (no_index (Proc.devRef .tc main_v45)) = andi (andi (cmpi .sgt (V0 (Proc.devRef .tc main_arg1)) (broadcastInDim S16384 ![] bcast_S_S16384 (constantI S_ 32 2#32))) (cmpf .ole (V0 (Proc.devRef .tc main_v19)) (broadcastInDim S16384 ![] bcast_S_S16384 (constant S_ .f32 0x3F000000#32)))) (cmpi .sge (res_main_v35 V0) (broadcastInDim S16384 ![] bcast_S_S16384 (constantI S_ 32 2#32))) :=
  (val1_1_keep V0 main_v45 (by decide)).trans (val1_main_v45 V0)
set_option maxRecDepth 8192 in
set_option maxHeartbeats 2000000 in
theorem val1_1_main_v77 (V0 : Valuation τ sig (Elt F)) : val1_1 V0 (no_index (Proc.devRef .tc main_v77)) = res_main_v77 V0 := by
  unfold val1_1
  simp only [ops_part1_0, TRef.binary, TRef.unary, TRef.toBuf, TRef.ofBuf, cast_eq]
  after_results_simp
  simp only [val1_main_v62] <;> rfl
set_option maxRecDepth 8192 in
set_option maxHeartbeats 2000000 in
theorem val1_1_main_v82 (V0 : Valuation τ sig (Elt F)) : val1_1 V0 (no_index (Proc.devRef .tc main_v82)) = res_main_v82 V0 := by
  unfold val1_1
  simp only [ops_part1_0, TRef.binary, TRef.unary, TRef.toBuf, TRef.ofBuf, cast_eq]
  after_results_simp
  simp only [val1_main_v67, val1_main_v21] <;> rfl
set_option maxRecDepth 8192 in
set_option maxHeartbeats 2000000 in
theorem val1_1_main_v87 (V0 : Valuation τ sig (Elt F)) : val1_1 V0 (no_index (Proc.devRef .tc main_v87)) = select (cmpi .slt (res_main_v24 V0) (broadcastInDim S16384x1 ![] bcast_S_S16384x1 (constantI S_ 32 0#32))) (addi (res_main_v24 V0) (broadcastInDim S16384x1 ![] bcast_S_S16384x1 (constantI S_ 32 16384#32))) (res_main_v24 V0) := by
  unfold val1_1
  simp only [ops_part1_0, TRef.binary, TRef.unary, TRef.toBuf, TRef.ofBuf, cast_eq]
  after_results_simp
  simp only [val1_main_v24] <;> rfl
set_option maxRecDepth 8192 in
set_option maxHeartbeats 2000000 in
theorem val1_1_main_c_28 (V0 : Valuation τ sig (Elt F)) : val1_1 V0 (no_index (Proc.devRef .tc main_c_28)) = constantI S_ 32 0#32 := by
  unfold val1_1
  simp only [ops_part1_0, TRef.binary, TRef.unary, TRef.toBuf, TRef.ofBuf, cast_eq]
  after_results_simp
  all_goals rfl

/-- The contents after the first 126 operations. -/
def val1_2 (V0 : Valuation τ sig (Elt F)) : Valuation τ sig (Elt F) := after ops_part1_1 (val1_1 V0)
/-- What `ops_part1_1` writes. -/
abbrev ops_part1_1_W : List (Ref sig .tc) := [main_v88, main_v89, main_c_29, main_v90, main_v91, main_v92, main_v93, main_v94, main_v95, main_v96, main_v97, main_c_30, main_c_31, main_call10_v0, main_call10_v1, main_call10_v2, main_call10_v3, main_call10_v4, main_v98, main_c_32, main_v99, main_v100, main_c_33, main_v101, main_v102, main_v103, main_c_34, main_v104, main_v105, main_c_35]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops_part1_1` does not write keeps its contents. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_v19 (V0 : Valuation τ sig (Elt F)) : val1_2 V0 (no_index (Proc.devRef .tc main_v19)) = V0 (Proc.devRef .tc main_v19) :=
  (val1_2_keep V0 main_v19 (by decide)).trans (val1_1_main_v19 V0)
theorem val1_2_main_v20 (V0 : Valuation τ sig (Elt F)) : val1_2 V0 (no_index (Proc.devRef .tc main_v20)) = V0 (Proc.devRef .tc main_v20) :=
  (val1_2_keep V0 main_v20 (by decide)).trans (val1_1_main_v20 V0)
theorem val1_2_main_v21 (V0 : Valuation τ sig (Elt F)) : val1_2 V0 (no_index (Proc.devRef .tc main_v21)) = V0 (Proc.devRef .tc main_v21) :=
  (val1_2_keep V0 main_v21 (by decide)).trans (val1_1_main_v21 V0)
theorem val1_2_main_v22 (V0 : Valuation τ sig (Elt F)) : val1_2 V0 (no_index (Proc.devRef .tc main_v22)) = V0 (Proc.devRef .tc main_v22) :=
  (val1_2_keep V0 main_v22 (by decide)).trans (val1_1_main_v22 V0)
theorem val1_2_main_v24 (V0 : Valuation τ sig (Elt F)) : val1_2 V0 (no_index (Proc.devRef .tc main_v24)) = res_main_v24 V0 :=
  (val1_2_keep V0 main_v24 (by decide)).trans (val1_1_main_v24 V0)
theorem val1_2_main_v45 (V0 : Valuation τ sig (Elt F)) : val1_2 V0 (no_index (Proc.devRef .tc main_v45)) = andi (andi (cmpi .sgt (V0 (Proc.devRef .tc main_arg1)) (broadcastInDim S16384 ![] bcast_S_S16384 (constantI S_ 32 2#32))) (cmpf .ole (V0 (Proc.devRef .tc main_v19)) (broadcastInDim S16384 ![] bcast_S_S16384 (constant S_ .f32 0x3F000000#32)))) (cmpi .sge (res_main_v35 V0) (broadcastInDim S16384 ![] bcast_S_S16384 (constantI S_ 32 2#32))) :=
  (val1_2_keep V0 main_v45 (by decide)).trans (val1_1_main_v45 V0)
theorem val1_2_main_v77 (V0 : Valuation τ sig (Elt F)) : val1_2 V0 (no_index (Proc.devRef .tc main_v77)) = res_main_v77 V0 :=
  (val1_2_keep V0 main_v77 (by decide)).trans (val1_1_main_v77 V0)
set_option maxRecDepth 8192 in
set_option maxHeartbeats 2000000 in
theorem val1_2_main_v98 (V0 : Valuation τ sig (Elt F)) : val1_2 V0 (no_index (Proc.devRef .tc main_v98)) = res_main_v98 V0 := by
  unfold val1_2
  simp only [ops_part1_1, TRef.binary, TRef.unary, TRef.toBuf, TRef.ofBuf, cast_eq]
  after_results_simp
  simp only [val1_1_main_v82, val1_1_main_c_28, val1_1_main_v87, val1_1_main_v37] <;> rfl
set_option maxRecDepth 8192 in
set_option maxHeartbeats 2000000 in
theorem val1_2_main_v103 (V0 : Valuation τ sig (Elt F)) : val1_2 V0 (no_index (Proc.devRef .tc main_v103)) = select (cmpi .slt (res_main_v24 V0) (broadcastInDim S16384x1 ![] bcast_S_S16384x1 (constantI S_ 32 0#32))) (addi (res_main_v24 V0) (broadcastInDim S16384x1 ![] bcast_S_S16384x1 (constantI S_ 32 16384#32))) (res_main_v24 V0) := by
  unfold val1_2
  simp only [ops_part1_1, TRef.binary, TRef.unary, TRef.toBuf, TRef.ofBuf, cast_eq]
  after_results_simp
  simp only [val1_1_main_v24] <;> rfl
set_option maxRecDepth 8192 in
set_option maxHeartbeats 2000000 in
theorem val1_2_main_v105 (V0 : Valuation τ sig (Elt F)) : val1_2 V0 (no_index (Proc.devRef .tc main_v105)) = cmpi .slt (res_main_v98 V0) (broadcastInDim S16384x5 ![] bcast_S_S16384x5 (constantI S_ 32 0#32)) := by
  unfold val1_2
  simp only [ops_part1_1, TRef.binary, TRef.unary, TRef.toBuf, TRef.ofBuf, cast_eq]
  after_results_simp
  simp only [val1_1_main_v82, val1_1_main_c_28, val1_1_main_v87, val1_1_main_v37] <;> rfl
set_option maxRecDepth 8192 in
set_option maxHeartbeats 2000000 in
theorem val1_2_main_c_35 (V0 : Valuation τ sig (Elt F)) : val1_2 V0 (no_index (Proc.devRef .tc main_c_35)) = constantI S_ 32 200#32 := by
  unfold val1_2
  simp only [ops_part1_1, TRef.binary, TRef.unary, TRef.toBuf, TRef.ofBuf, cast_eq]
  after_results_simp
  all_goals rfl

/-- The contents after the first 2 groups. -/
def val2 (V0 : Valuation τ sig (Elt F)) : Valuation τ sig (Elt F) := after ops_part1_2 (val1_2 V0)
/-- What `ops_part1_2` writes. -/
abbrev ops_part1_2_W : List (Ref sig .tc) := [main_v106, main_v107, main_v108, main_v109, main_v110, main_v111, main_v112, main_v113, main_cst_36, main_call11_v0, main_call11_v1, main_v114]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops_part1_2` does not write keeps its contents. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_v19 (V0 : Valuation τ sig (Elt F)) : val2 V0 (no_index (Proc.devRef .tc main_v19)) = V0 (Proc.devRef .tc main_v19) :=
  (val2_keep V0 main_v19 (by decide)).trans (val1_2_main_v19 V0)
theorem val2_main_v20 (V0 : Valuation τ sig (Elt F)) : val2 V0 (no_index (Proc.devRef .tc main_v20)) = V0 (Proc.devRef .tc main_v20) :=
  (val2_keep V0 main_v20 (by decide)).trans (val1_2_main_v20 V0)
theorem val2_main_v21 (V0 : Valuation τ sig (Elt F)) : val2 V0 (no_index (Proc.devRef .tc main_v21)) = V0 (Proc.devRef .tc main_v21) :=
  (val2_keep V0 main_v21 (by decide)).trans (val1_2_main_v21 V0)
theorem val2_main_v22 (V0 : Valuation τ sig (Elt F)) : val2 V0 (no_index (Proc.devRef .tc main_v22)) = V0 (Proc.devRef .tc main_v22) :=
  (val2_keep V0 main_v22 (by decide)).trans (val1_2_main_v22 V0)
theorem val2_main_v24 (V0 : Valuation τ sig (Elt F)) : val2 V0 (no_index (Proc.devRef .tc main_v24)) = res_main_v24 V0 :=
  (val2_keep V0 main_v24 (by decide)).trans (val1_2_main_v24 V0)
theorem val2_main_v45 (V0 : Valuation τ sig (Elt F)) : val2 V0 (no_index (Proc.devRef .tc main_v45)) = andi (andi (cmpi .sgt (V0 (Proc.devRef .tc main_arg1)) (broadcastInDim S16384 ![] bcast_S_S16384 (constantI S_ 32 2#32))) (cmpf .ole (V0 (Proc.devRef .tc main_v19)) (broadcastInDim S16384 ![] bcast_S_S16384 (constant S_ .f32 0x3F000000#32)))) (cmpi .sge (res_main_v35 V0) (broadcastInDim S16384 ![] bcast_S_S16384 (constantI S_ 32 2#32))) :=
  (val2_keep V0 main_v45 (by decide)).trans (val1_2_main_v45 V0)
theorem val2_main_v77 (V0 : Valuation τ sig (Elt F)) : val2 V0 (no_index (Proc.devRef .tc main_v77)) = res_main_v77 V0 :=
  (val2_keep V0 main_v77 (by decide)).trans (val1_2_main_v77 V0)
theorem val2_main_v98 (V0 : Valuation τ sig (Elt F)) : val2 V0 (no_index (Proc.devRef .tc main_v98)) = res_main_v98 V0 :=
  (val2_keep V0 main_v98 (by decide)).trans (val1_2_main_v98 V0)
set_option maxRecDepth 8192 in
set_option maxHeartbeats 1200000 in
theorem val2_main_v113 (V0 : Valuation τ sig (Elt F)) : val2 V0 (no_index (Proc.devRef .tc main_v113)) = Host.gather gather_S16384x200_S16384x5x2_S16384x5_n_01_n_n_01_2_11 (V0 (Proc.devRef .tc main_arg0)) (concatenate S16384x5x2 2 [⟨S16384x5x1, (broadcastInDim S16384x5x1 ![0, 1] bcast_S16384x5_S16384x5x1_0_1 (broadcastInDim S16384x5 ![0, 1] bcast_S16384x1_S16384x5_0_1 (select (cmpi .slt (res_main_v24 V0) (broadcastInDim S16384x1 ![] bcast_S_S16384x1 (constantI S_ 32 0#32))) (addi (res_main_v24 V0) (broadcastInDim S16384x1 ![] bcast_S_S16384x1 (constantI S_ 32 16384#32))) (res_main_v24 V0))))⟩, ⟨S16384x5x1, (broadcastInDim S16384x5x1 ![0, 1] bcast_S16384x5_S16384x5x1_0_1 (select (cmpi .slt (res_main_v98 V0) (broadcastInDim S16384x5 ![] bcast_S_S16384x5 (constantI S_ 32 0#32))) (addi (res_main_v98 V0) (broadcastInDim S16384x5 ![] bcast_S_S16384x5 (constantI S_ 32 200#32))) (res_main_v98 V0)))⟩] concatenates_S16384x5x1_S16384x5x1_S16384x5x2_d2) := by
  unfold val2
  simp only [ops_part1_2, TRef.ternary, TRef.unary, TRef.toBuf, TRef.ofBuf, cast_eq]
  after_results_simp
  simp only [val1_2_main_v98, val1_2_main_c_35, val1_2_main_v105, val1_2_main_v103, val1_2_main_arg0] <;> rfl
set_option maxRecDepth 8192 in
set_option maxHeartbeats 1200000 in
theorem val2_main_v114 (V0 : Valuation τ sig (Elt F)) : val2 V0 (no_index (Proc.devRef .tc main_v114)) = res_main_v114 V0 := by
  unfold val2
  simp only [ops_part1_2, TRef.ternary, TRef.unary, TRef.toBuf, TRef.ofBuf, cast_eq]
  after_results_simp
  simp only [val1_2_main_v22, val1_2_main_v77] <;> rfl

/-- The contents after the first 3 groups. -/
def val3 (V0 : Valuation τ sig (Elt F)) : Valuation τ sig (Elt F) := after ops_part2 (val2 V0)
/-- What `main_part2` writes. -/
abbrev ops_part2_W : List (Ref sig .tc) := [main_call12_v0, main_call12_v1_0, main_v115, main_c_37, main_v116, main_v117, main_c_38, main_v118, main_v119, main_v120, main_c_39, main_v121, main_v122, main_c_40, main_v123, main_v124, main_v125, main_v126, main_v127, main_v128, main_v129, main_v130, main_v131, main_v132, main_v133, main_c_41, main_call13_v0, main_call13_v1, main_v134, main_c_42, main_v135, main_v136, main_c_43, main_v137, main_v138, main_v139, main_c_44, main_v140, main_v141, main_c_45, main_v142, main_v143, main_v144, main_v145, main_v146, main_v147, main_v148, main_v149]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `main_part2` does not write keeps its contents. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_v19 (V0 : Valuation τ sig (Elt F)) : val3 V0 (no_index (Proc.devRef .tc main_v19)) = V0 (Proc.devRef .tc main_v19) :=
  (val3_keep V0 main_v19 (by decide)).trans (val2_main_v19 V0)
theorem val3_main_v20 (V0 : Valuation τ sig (Elt F)) : val3 V0 (no_index (Proc.devRef .tc main_v20)) = V0 (Proc.devRef .tc main_v20) :=
  (val3_keep V0 main_v20 (by decide)).trans (val2_main_v20 V0)
theorem val3_main_v21 (V0 : Valuation τ sig (Elt F)) : val3 V0 (no_index (Proc.devRef .tc main_v21)) = V0 (Proc.devRef .tc main_v21) :=
  (val3_keep V0 main_v21 (by decide)).trans (val2_main_v21 V0)
theorem val3_main_v22 (V0 : Valuation τ sig (Elt F)) : val3 V0 (no_index (Proc.devRef .tc main_v22)) = V0 (Proc.devRef .tc main_v22) :=
  (val3_keep V0 main_v22 (by decide)).trans (val2_main_v22 V0)
set_option maxRecDepth 8192 in
set_option maxHeartbeats 2000000 in
theorem val3_main_v149 (V0 : Valuation τ sig (Elt F)) : val3 V0 (no_index (Proc.devRef .tc main_v149)) = Host.scatter scatter_S16384x200_S16384x5x2_S16384x5_n_01_01_2 (fun _ b => b) (V0 (Proc.devRef .tc main_arg0)) (concatenate S16384x5x2 2 [⟨S16384x5x1, (broadcastInDim S16384x5x1 ![0, 1] bcast_S16384x5_S16384x5x1_0_1 (broadcastInDim S16384x5 ![0, 1] bcast_S16384x1_S16384x5_0_1 (select (cmpi .slt (res_main_v24 V0) (broadcastInDim S16384x1 ![] bcast_S_S16384x1 (constantI S_ 32 0#32))) (addi (res_main_v24 V0) (broadcastInDim S16384x1 ![] bcast_S_S16384x1 (constantI S_ 32 16384#32))) (res_main_v24 V0))))⟩, ⟨S16384x5x1, (broadcastInDim S16384x5x1 ![0, 1] bcast_S16384x5_S16384x5x1_0_1 (select (cmpi .slt (res_main_v134 V0) (broadcastInDim S16384x5 ![] bcast_S_S16384x5 (constantI S_ 32 0#32))) (addi (res_main_v134 V0) (broadcastInDim S16384x5 ![] bcast_S_S16384x5 (constantI S_ 32 200#32))) (res_main_v134 V0)))⟩] concatenates_S16384x5x1_S16384x5x1_S16384x5x2_d2) (Host.gather gather_S16384x5_S16384x5x2_S16384x5_n_01_n_n_01_2_11 (Host.gather gather_S16384x200_S16384x5x2_S16384x5_n_01_n_n_01_2_11 (V0 (Proc.devRef .tc main_arg0)) (concatenate S16384x5x2 2 [⟨S16384x5x1, (broadcastInDim S16384x5x1 ![0, 1] bcast_S16384x5_S16384x5x1_0_1 (broadcastInDim S16384x5 ![0, 1] bcast_S16384x1_S16384x5_0_1 (select (cmpi .slt (res_main_v24 V0) (broadcastInDim S16384x1 ![] bcast_S_S16384x1 (constantI S_ 32 0#32))) (addi (res_main_v24 V0) (broadcastInDim S16384x1 ![] bcast_S_S16384x1 (constantI S_ 32 16384#32))) (res_main_v24 V0))))⟩, ⟨S16384x5x1, (broadcastInDim S16384x5x1 ![0, 1] bcast_S16384x5_S16384x5x1_0_1 (select (cmpi .slt (res_main_v98 V0) (broadcastInDim S16384x5 ![] bcast_S_S16384x5 (constantI S_ 32 0#32))) (addi (res_main_v98 V0) (broadcastInDim S16384x5 ![] bcast_S_S16384x5 (constantI S_ 32 200#32))) (res_main_v98 V0)))⟩] concatenates_S16384x5x1_S16384x5x1_S16384x5x2_d2)) (concatenate S16384x5x2 2 [⟨S16384x5x1, (broadcastInDim S16384x5x1 ![0, 1] bcast_S16384x5_S16384x5x1_0_1 (broadcastInDim S16384x5 ![0, 1] bcast_S16384x1_S16384x5_0_1 (select (cmpi .slt (res_main_v24 V0) (broadcastInDim S16384x1 ![] bcast_S_S16384x1 (constantI S_ 32 0#32))) (addi (res_main_v24 V0) (broadcastInDim S16384x1 ![] bcast_S_S16384x1 (constantI S_ 32 16384#32))) (res_main_v24 V0))))⟩, ⟨S16384x5x1, (broadcastInDim S16384x5x1 ![0, 1] bcast_S16384x5_S16384x5x1_0_1 (select (cmpi .slt (res_main_v115 V0) (broadcastInDim S16384x5 ![] bcast_S_S16384x5 (constantI S_ 32 0#32))) (addi (res_main_v115 V0) (broadcastInDim S16384x5 ![] bcast_S_S16384x5 (constantI S_ 32 5#32))) (res_main_v115 V0)))⟩] concatenates_S16384x5x1_S16384x5x1_S16384x5x2_d2)) := by
  unfold val3
  simp only [ops_part2, TRef.binary, TRef.nullary, TRef.ternary, TRef.unary, TRef.toBuf, TRef.ofBuf, cast_eq]
  after_results_simp
  simp only [val2_main_v114, val2_main_v24, val2_main_v113, val2_main_v98, val2_main_v77, val2_main_v45, val2_main_arg0] <;> rfl

theorem after_ops (V0 : Valuation τ sig (Elt F)) : after ops V0 = val3 V0 := by
  simp only [ops, ops_part0, ops_part1, after_append]
  rfl

/-- The run: whatever line of operations makes the draws first, the result is what these leave after it. -/
theorem run (pre : Dev nD → List (HloOp τ sig (Elt F))) (hp : ∀ c, main_part0 (F := F) c = (seq (pre c) >>= fun _ => seq w0))
    (hg : ∀ c, Twin.Good 2 1497 (pre c)) (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149) = val3 (after (pre c) (launchContents m c)) (Proc.devRef .tc main_v149)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have ha (c : Dev nD) : after (pre c ++ ops) (launchContents m c) = val3 (after (pre c) (launchContents m c)) := by
    rw [Twin.after_app, after_ops]
  refine (θ_run defs _ _).mono (fun _ h c => ⟨(h c main_v149).trans (congrFun (ha c) _), (h c main_arg0).trans ?_, (h c main_arg1).trans ?_⟩)
    (run_seq scopedRefs_eq scopedSems_eq defs main (fun c => pre c ++ ops) (fun c => main_eq c _ (hp c))
      (fun c => List.forall_iff_forall_mem.mpr fun op h => (List.mem_append.mp h).elim (fun h => (hg c op h).2.1) (List.forall_iff_forall_mem.mp ops_sub op))
      m ρ fun c op h => (List.mem_append.mp h).elim (fun h => (hg c op h).1) (ops_fresh op))
  · rw [ha, val3_main_arg0]; exact (hg c).keep _ (.inl (by decide))
  · rw [ha, val3_main_arg1]; exact (hg c).keep _ (.inl (by decide))

end Cert.Proof.RefRun

end
-- ==== Proof.Draws.lean ====
/-
  The draws. The two programs begin with the same operations on buffers of the same numbers, in which every row's draws are
  made; so whatever the two start from, the draws are the same. The third draw lies in the range where it is asked to.
-/
module

public import proofs.«01_k».proof.Proof.Keys
public import proofs.«01_k».proof.Proof.First
public import proofs.«01_k».proof.Proof.Start
public import proofs.«01_k».proof.Proof.HostOps
public import proofs.«01_k».proof.Proof.RefRun

@[expose] public section

noncomputable section

namespace Cert.Proof.Draws

open Idealize.ShloMosaic Idealize.SL.Sem
open Idealize.ShloMosaic.StableHlo
open Cert.Proof.Twin

variable {F : FTy → Type} [FloatOps F]

/-- What is asked of the operations that make the draws: the third is made of words. -/
def Ends (o : List (HloOp KernelIdeal.τ KernelIdeal.sig (Elt F))) : Prop :=
  ∀ V, ∃ y, after o V (Proc.devRef .tc KernelIdeal.main_v21) = unit (F := F) y

theorem late : Late (Ends (F := F)) := fun o u hu V => by rw [after_app]; exact hu _

set_option maxHeartbeats 4000000 in
set_option maxRecDepth 8192 in
/-- The programs up to where the draws have been made. -/
theorem twin (d : Dev KernelIdeal.nD) (d' : Dev ReferenceIdeal.nD) : TwinS (Val := Elt F) 2 1497 (KernelIdeal.main d) (ReferenceIdeal.main_part0 d')
    (seqK Launch.hostOps ((KernelIdeal.sc (F := F)).run d 0 >>= fun _ => pure ⟨⟩)) (seq RefRun.w0) Ends := by
  unfold KernelIdeal.main ReferenceIdeal.main_part0
  iterate 12 (first
    | (with_reducible refine TwinS.step₁ late (sim_binary₀ _ _ _ _ _ _ _ _ _ _ _ _ _ _ ?_ ?_ ?_ ?_ ?_ ?_ ?_) ?_); exact rfl; exact rfl; exact rfl; exact HEq.rfl; exact rfl; exact rfl; exact rfl
    | (with_reducible refine TwinS.step₁ late (sim_unary₀ _ _ _ _ _ _ _ _ _ _ ?_ ?_ ?_ ?_ ?_) ?_); exact rfl; exact rfl; exact HEq.rfl; exact rfl; exact rfl
    | (with_reducible refine TwinS.step₁ late (sim_nullary₀ _ _ _ _ _ _ ?_ ?_) ?_); exact HEq.rfl; exact rfl)
  refine TwinS.call₁ late fold ?_
  refine TwinS.call₁ late split ?_
  iterate 10 (first
    | (with_reducible refine TwinS.step₁ late (sim_reshape₀ _ _ _ _ ?_ ?_ _ _ _ _ _ _ _ _ ?_ ?_) ?_); exact rfl; exact rfl; exact rfl; exact rfl
    | (with_reducible refine TwinS.step₁ late (sim_unary₀ _ _ _ _ _ _ _ _ _ _ ?_ ?_ ?_ ?_ ?_) ?_); exact rfl; exact rfl; exact HEq.rfl; exact rfl; exact rfl
    | (with_reducible refine TwinS.step₁ late (sim_nullary₀ _ _ _ _ _ _ ?_ ?_) ?_); exact HEq.rfl; exact rfl)
  refine TwinS.call₁ late aug ?_
  iterate 2 ((with_reducible refine TwinS.step₁ late (sim_nullary₀ _ _ _ _ _ _ ?_ ?_) ?_); exact HEq.rfl; exact rfl)
  refine TwinS.call₁ late size ?_
  iterate 2 ((with_reducible refine TwinS.step (sim_nullary₀ _ _ _ _ _ _ ?_ ?_) ?_); exact HEq.rfl; exact rfl)
  refine TwinS.after start ?_ ?_
  · iterate 2 ((with_reducible refine Twin.step (sim_nullary₀ _ _ _ _ _ _ ?_ ?_) ?_); exact HEq.rfl; exact rfl)
    refine Twin.call perm ?_
    exact Twin.nil rfl
  · intro o u hu ho V
    obtain ⟨y, hy⟩ := ho (after [StableHlo.nullary KernelIdeal.main_cst_5 (constant KernelIdeal.S_ .f32 0x00000000#32),
      StableHlo.nullary KernelIdeal.main_cst_6 (constant KernelIdeal.S_ .f32 0x3F800000#32)] V) (by after_results) (by after_results)
    refine ⟨y, ?_⟩
    rw [← hy, ← List.cons_append, ← List.cons_append, after_app, hu.keep _ (.inl (by decide))]
    rfl

/-- The operations that make the draws, in either program. -/
def preK (d : Dev KernelIdeal.nD) : List (HloOp KernelIdeal.τ KernelIdeal.sig (Elt F)) := (twin d d).choose
def preR (d : Dev ReferenceIdeal.nD) : List (HloOp ReferenceIdeal.τ ReferenceIdeal.sig (Elt F)) := (twin d d).choose_spec.choose

theorem main_eq (d : Dev KernelIdeal.nD) : KernelIdeal.main (F := F) d
    = (seq (preK d) >>= fun _ => seq Launch.hostOps >>= fun _ => ((KernelIdeal.sc (F := F)).run d 0 >>= fun _ => pure ⟨⟩)) := by
  simp only [seq_bind_seqK (ops := Launch.hostOps)]; exact (twin d d).choose_spec.choose_spec.1

theorem part_eq (d : Dev ReferenceIdeal.nD) : ReferenceIdeal.main_part0 (F := F) d = (seq (preR d) >>= fun _ => seq RefRun.w0) :=
  (twin d d).choose_spec.choose_spec.2.1

theorem sim (d : Dev KernelIdeal.nD) : Sim 2 1497 (preK (F := F) d) (preR (F := F) d) := (twin d d).choose_spec.choose_spec.2.2.1

theorem made (d : Dev KernelIdeal.nD) : Ends (preK (F := F) d) := (twin d d).choose_spec.choose_spec.2.2.2

end Cert.Proof.Draws

end
-- ==== Proof.Launch.lean ====
/-
  The kernel's launch: the host's operations lay out the two auxiliary arrays, the call runs the 32 vector subcores over the
  blocks of the arrays, and @main ends with its arguments unchanged and every row of the output right.
-/
module

public import proofs.«01_k».proof.Proof.Split
public import proofs.«01_k».proof.Proof.Draws
public import Idealize.ShloMosaic.Lib.SparseCore.Quiescent
public import Idealize.ShloMosaic.Lib.StableHlo.Run
public import Idealize.ShloMosaic.Lib.Pipeline.Frame

@[expose] public section

noncomputable section

namespace Cert.Proof.Launch

open Cert.KernelIdeal Cert.KernelIdeal.Gen
open Idealize.ShloMosaic
open Idealize.ShloMosaic.StableHlo (held after)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Step Cert.Proof.Row Cert.Proof.Groups Cert.Proof.Tile Cert.Proof.Split

variable {F : FTy → Type} [FloatOps F]

local notation "𝕄" => MT nD τ sig (HIx 1) (Elt F) ℕ UU ℕ

/-! ## The host's operations -/

/-- All of them: the draws, then the auxiliary arrays. -/
def allOps (d : Dev nD) : List (HloOp τ sig (Elt F)) := Draws.preK d ++ hostOps

theorem main_eq (d : Dev nD) :
    main (F := F) d = StableHlo.seq (allOps d) >>= fun _ => ((sc (F := F)).run d 0 >>= fun _ => pure ⟨⟩) := by
  rw [Draws.main_eq, allOps, StableHlo.seq_append, bind_assoc]

theorem all_fresh (d : Dev nD) : ∀ op ∈ allOps (F := F) d, op.fresh = ∅ := fun op h =>
  (List.mem_append.mp h).elim (fun h => ((Draws.sim d).good op h).1) (List.forall_iff_forall_mem.mp host_fresh op)

theorem all_sub (d : Dev nD) : ∀ op ∈ allOps (F := F) d, op.bufs ⊆ StableHlo.tcRefs τ sig := fun op h =>
  (List.mem_append.mp h).elim (fun h => ((Draws.sim d).good op h).2.1) (List.forall_iff_forall_mem.mp host_sub op)

variable (m : (ℓ : Loc nD τ sig) → Buf (Elt F) ℓ) (ρ : Dev nD → PrngReg)

/-- The device's contents at the launch, and when the call starts. -/
def V0 (d : Dev nD) : Valuation τ sig (Elt F) := fun b => m (d, b)
def V1 (d : Dev nD) : Valuation τ sig (Elt F) := after (allOps d) (V0 m d)

/-- The contents when the draws have been made. -/
def VD (d : Dev nD) : Valuation τ sig (Elt F) := after (Draws.preK d) (V0 m d)

theorem V1_eq (d : Dev nD) : V1 m d = after hostOps (VD m d) := Twin.after_app ..

theorem VD_of_not_written (d : Dev nD) {r : Ref sig .tc} (h : Twin.num r < 2 ∨ 1497 ≤ Twin.num r) : VD m d (Proc.devRef .tc r) = m ((SparseCore.T d).loc r) :=
  (Draws.sim d).good.keep _ h

theorem V1_of_not_written (d : Dev nD) {r : Ref sig .tc} (h : r ∉ written) (h' : Twin.num r < 2 ∨ 1497 ≤ Twin.num r) :
    V1 m d (Proc.devRef .tc r) = m ((SparseCore.T d).loc r) := by
  rw [V1_eq, ← VD_of_not_written m d h']
  exact StableHlo.after_of_writes_sub hostOps _ host_writes h

abbrev fS (d : Dev nD) : Buf (Elt F) (seqLoc d) := m (seqLoc d)
abbrev fA (d : Dev nD) : Buf (Elt F) (auxfLoc d) := V1 m d (Proc.devRef .tc (main_v32 : Ref sig .tc))
abbrev fB (d : Dev nD) : Buf (Elt F) (auxiLoc d) := V1 m d (Proc.devRef .tc (main_v36 : Ref sig .tc))
abbrev fO (d : Dev nD) : Buf (Elt F) (outLoc d) := m (outLoc d)

abbrev inB (d : Dev nD) (c : Fin 2) (s : Fin 16) (g : Fin 4) : sProp 𝕄 := pieceIn d (fS m d) (fA m d) (fB m d) (fO m d) (coordsV c s) g
abbrev outB (d : Dev nD) (c : Fin 2) (s : Fin 16) (g : Fin 4) : sProp 𝕄 := pieceOut d (fS m d) (fA m d) (fB m d) (coordsV c s) g

/-- What a subcore takes and gives back: its four blocks. -/
abbrev takes (d : Dev nD) (c : Fin 2) (s : Fin 16) : sProp 𝕄 := bigSep Finset.univ fun g : Fin 4 => inB m d c s g
abbrev leaves (d : Dev nD) (c : Fin 2) (s : Fin 16) : sProp 𝕄 := bigSep Finset.univ fun g : Fin 4 => outB m d c s g

def P : (K (F := F)).Pay (nD := nD) (Val := Elt F) (Name := ℕ) (U := UU) where
  st := fun q d c => match q with | 0 => bigSep Finset.univ fun s : Fin 16 => takes m d c s
  dn := fun q d c => match q with | 0 => bigSep Finset.univ fun s : Fin 16 => leaves m d c s
  go := fun q d c i => match q with | 0 => takes m d c i
  td := fun q d c i => match q with | 0 => leaves m d c i
  x := fun _ _ => iprop(emp)

instance P_storable : (P (F := F) m).IsStorable where
  st q d c := match q with
    | 0 => (inferInstance : BI.Storable (upEmb : UEmb _ 𝕄) (bigSep Finset.univ fun s : Fin 16 => takes m d c s))
  dn q d c := match q with
    | 0 => (inferInstance : BI.Storable (upEmb : UEmb _ 𝕄) (bigSep Finset.univ fun s : Fin 16 => leaves m d c s))
  go q d c i := match q with
    | 0 => (inferInstance : BI.Storable (upEmb : UEmb _ 𝕄) (takes m d c i))
  td q d c i := match q with
    | 0 => (inferInstance : BI.Storable (upEmb : UEmb _ 𝕄) (leaves m d c i))

/-! ## The obligation of a subcore -/

theorem defs₀_vector (c : Fin τ.nSC) (s : Fin τ.nSub) :
    defs₀ (F := F) (.scVector c s) 0 () = SparseCore.onTile hcore0 hsub0 (fun c s => bodyAt (F := F) (coordsV c s)) ⟨⟩ c s := rfl

theorem obl_post {thr : Thread nD τ} {A A' B C : sProp 𝕄} {O : CellTallies nD τ sig (HIx 1)} {W : Waits sig (HIx 1)} {q : Fin 1} (h : A = A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  subst h
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem four_eq (Φ : Fin 4 → sProp 𝕄) : iprop(Φ 0 ∗ Φ 1 ∗ Φ 2 ∗ Φ 3) = bigSep Finset.univ Φ := (bigSep_four Φ).symm

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (fS m d) (fA m d) (fB m d) (fO m d) (coordsV ⟨_, hci.1⟩ ⟨_, hci.2⟩) hF O W hO
  rw [four_eq (fun g => pieceIn d (fS m d) (fA m d) (fB m d) (fO m d) (coordsV ⟨_, hci.1⟩ ⟨_, hci.2⟩) g)] at h
  exact h.trans (wp_mono frame _ _ fun _ => obl_post (four_eq (fun g => pieceOut d (fS m d) (fA m d) (fB m d) (coordsV ⟨_, hci.1⟩ ⟨_, hci.2⟩) g)))

theorem vecSplit : (K (F := F)).VecSplit' (P m) 0 := by
  intro d c
  show (bigSep Finset.univ fun s : Fin 16 => takes m d c s) ⊢ |={Set.univ}=> iprop(
      (bigSep Finset.univ fun s : Fin 16 => takes m d c s)
      ∗ ((bigSep Finset.univ fun s : Fin 16 => leaves m d c s) -∗ (bigSep Finset.univ fun s : Fin 16 => leaves m d c s)))
  iintro H; imodintro
  isplitl [H]; · iexact H
  iintro H; iexact H

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => (iprop(emp) : sProp 𝕄)) = iprop(emp) from bigSep_emp_const _]; iempintro
  rw [show (bigSep Finset.univ fun thr : Thread nD τ => bigSep Finset.univ fun q : Fin 1 => (P (F := F) m).x q thr)
      = bigSep Finset.univ fun _ => (iprop(emp) : sProp 𝕄) from
    bigSep_congr fun _ _ => bigSep_univ_of_subsingleton (0 : Fin 1), show (bigSep Finset.univ fun _ : Thread nD τ => (iprop(emp) : sProp 𝕄)) = iprop(emp) from bigSep_emp_const _]
  iempintro

/-! ## @main -/

abbrev dr (r : Ref sig .tc) : DevRef τ sig := Proc.devRef .tc r
abbrev kept : Finset (DevRef τ sig) := {dr main_arg0, dr main_v32, dr main_v36, dr main_v37, dr main_arg1}

theorem kept_sub : kept ⊆ Pipeline.ucRefs τ sig := by decide +kernel

/-- The lengths, as at the launch. -/
abbrev args (d : Dev nD) : sProp 𝕄 := (SparseCore.T d).loc main_arg1 ↦{fullShare} m ((SparseCore.T d).loc main_arg1)

theorem held_kept (d : Dev nD) :
    (held (T d) kept (V1 m d) : sProp 𝕄) = iprop((seqLoc d ↦{fullShare} fS m d) ∗ (auxfLoc d ↦{fullShare} fA m d) ∗ (auxiLoc d ↦{fullShare} fB m d)
      ∗ (outLoc d ↦{fullShare} fO m d) ∗ args m d) := by
  unfold StableHlo.held kept
  rw [SparseCore.bigSep_insert' (by decide), SparseCore.bigSep_insert' (by decide), SparseCore.bigSep_insert' (by decide), SparseCore.bigSep_insert' (by decide),
    bigSep_singleton]
  rw [V1_of_not_written m d (r := main_arg0) (by decide) (by decide), V1_of_not_written m d (r := main_v37) (by decide) (by decide),
    V1_of_not_written m d (r := main_arg1) (by decide) (by decide)]

theorem st0_eq (d : Dev nD) : (bigSep Finset.univ fun c : Fin ((K (F := F)).nCore 0) => (P m).st 0 d c) = whole d (fS m d) (fA m d) (fB m d) (fO m d) := by
  rw [cut, bigSep_blk]; rfl
theorem dn0_eq (d : Dev nD) : (bigSep Finset.univ fun c : Fin ((K (F := F)).nCore 0) => (P m).dn 0 d c)
    = bigSep Finset.univ fun p : Blk => pieceOut d (fS m d) (fA m d) (fB m d) (crd p) p.2.2 := by
  rw [bigSep_blk]; rfl

/-- What @main leaves: its arguments, and an output right in every row. -/
abbrev FIN (d : Dev nD) : sProp 𝕄 :=
  iprop((seqLoc d ↦{fullShare} fS m d) ∗ args m d ∗ ∃ f, ⌜RowsOK d (fS m d) (fA m d) (fB m d) f⌝ ∗ outLoc d ↦{fullShare} f)

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (V0 m d) from
    Pipeline.unscopedBufs_held (Ix := HIx 1) (Name := ℕ) (U := UU) (Lvl := ℕ) d (V0 m d), main_eq]
  iintro ⟨#Hctx, Hst, ⟨Hb, Hheld, Hts, -⟩, -⟩
  iapply (StableHlo.wp_seq 𝒱 none Set.univ d (Pipeline.ucRefs τ sig) _ (allOps d)
    (fun op h => Pipeline.sub_ucRefs op (all_sub d op h)) (all_fresh d) (V0 m d)) $$ [Hb Hheld]
  · isplitl [Hb]; · iexact Hb
    iexact Hheld
  iintro ⟨Hb, Hheld⟩
  ihave Hheld := (show (held (d.tc : Thread nD τ) (Pipeline.ucRefs τ sig) (after (allOps d) (V0 m d)) : sProp 𝕄) ⊢ held (T d) (Pipeline.ucRefs τ sig) (V1 m d) from .rfl) $$ Hheld
  ihave Hh := (Entails.of_eq ((StableHlo.held_sub_split (T d) kept_sub (V1 m d)).trans (congrArg (fun X => iprop(X ∗ held (T d) (Pipeline.ucRefs τ sig \ kept) (V1 m d))) (held_kept m d)))) $$ Hheld
  icases Hh with ⟨⟨Hs, Ha, Hbb, Ho, Hargs⟩, -⟩
  rw [wp_bind]
  iapply ((K (F := F)).wp_run (D (F := F)) 𝒱 (EH := EH) (P := P m) κ d 0) $$ [Hst Hs Ha Hbb Ho Hargs Hb Hts]
  isplitr; · iexact Hctx
  isplitl [Hst]; · iexact Hst
  isplitl [Hs Ha Hbb Ho]
  · rw [st0_eq]
    isplitl [Hs]; · iexact Hs
    isplitl [Ha]; · iexact Ha
    isplitl [Hbb]; · iexact Hbb
    iexact Ho
  iintro ⟨Hst, Hdn⟩
  ihave Hdn' := ((Entails.of_eq (dn0_eq m d)).trans (join d (fS m d) (fA m d) (fB m d))) $$ Hdn
  icases Hdn' with ⟨Hs, -, -, Hf⟩
  rw [wp_pure]
  imodintro
  isplitl [Hst]; · iexact Hst
  isplitr [Hb Hts]
  · isplitl [Hs]; · iexact Hs
    isplitl [Hargs]; · iexact Hargs
    iexact Hf
  isplitl [Hb] <;> iassumption

/-- What the final memory says. -/
def fq (d : Dev nD) (s' : Phys nD τ sig (Elt F)) : Prop :=
  (s'.mem.mem (seqLoc d) = m (seqLoc d) ∧ s'.mem.mem ((SparseCore.T d).loc main_arg1) = m ((SparseCore.T d).loc main_arg1))
  ∧ RowsOK d (fS m d) (fA m d) (fB m d) (s'.mem.mem (outLoc d))

omit [FloatOps F] in
/-- A buffer held whole is what the memory has there. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, %f, %hf, Ho⟩, HSI⟩
  ihave H := (agree s' _ _) $$ [H0 HSI]
  · isplitl [H0] <;> iassumption
  icases H with ⟨%h0, HSI⟩
  ihave H := (agree s' _ _) $$ [H1 HSI]
  · isplitl [H1] <;> iassumption
  icases H with ⟨%h1, HSI⟩
  ihave H := (agree s' _ _) $$ [Ho HSI]
  · isplitl [Ho] <;> iassumption
  icases H with ⟨%ho, -⟩
  ipureintro
  exact ⟨⟨h0, h1⟩, ho ▸ hf⟩

/-! ## The run -/

/-- What holds when the program has run: the arguments unchanged, every row of the output right, every semaphore at zero. -/
def QC : PUnit × MemSt nD τ sig (Elt F) → Prop := fun r =>
  (∀ c : Dev nD,
    (r.2.mem (seqLoc c) = m (seqLoc c) ∧ r.2.mem ((SparseCore.T c).loc main_arg1) = m ((SparseCore.T c).loc main_arg1))
    ∧ RowsOK c (fS m c) (fA m c) (fB m c) (r.2.mem (outLoc c))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Text.lean ====
/-
  The kernel has one text, whichever numbers it is read at: its program printed once for either is the same program. Call by call for the
  draws, and with them the whole.
-/
module

public import proofs.«01_k».proof.Proof.Gen.KernelIdeal
public import proofs.«01_k».proof.Proof.Gen.Kernel

@[expose] public section

set_option maxRecDepth 65536
set_option maxHeartbeats 4000000

noncomputable section

namespace Cert.Proof.Text

open Idealize.ShloMosaic

variable {F : FTy → Type} [FloatOps F]

/-! ## The mixing rounds -/

theorem mix_fold (a b : StableHlo.TRef KernelIdeal.sig ⟨KernelIdeal.S_, .i32⟩) (c d : StableHlo.TRef KernelIdeal.sig ⟨KernelIdeal.S16384x1, .i32⟩) :
    Kernel.fn_threefry2x32.body (F := F) a b c d Kernel.main_call0_call0 = KernelIdeal.fn_threefry2x32.body a b c d KernelIdeal.main_call0_call0 := (rfl)

theorem mix_split (a b : StableHlo.TRef KernelIdeal.sig ⟨KernelIdeal.S16384x1, .i32⟩) (c d : StableHlo.TRef KernelIdeal.sig ⟨KernelIdeal.S1x4, .i32⟩) :
    Kernel.fn_threefry2x32_0.body (F := F) a b c d Kernel.main_call1_call0 = KernelIdeal.fn_threefry2x32_0.body a b c d KernelIdeal.main_call1_call0 := (rfl)

theorem mix_aug (a b : StableHlo.TRef KernelIdeal.sig ⟨KernelIdeal.S16384, .i32⟩) (c d : StableHlo.TRef KernelIdeal.sig ⟨KernelIdeal.S_, .i32⟩) :
    Kernel.fn_threefry2x32_1.body (F := F) a b c d Kernel.main_call2_call0 = KernelIdeal.fn_threefry2x32_1.body a b c d KernelIdeal.main_call2_call0 := (rfl)

theorem mix_size (a b : StableHlo.TRef KernelIdeal.sig ⟨KernelIdeal.S16384, .i32⟩) (c d : StableHlo.TRef KernelIdeal.sig ⟨KernelIdeal.S_, .i32⟩) :
    Kernel.fn_threefry2x32_1.body (F := F) a b c d Kernel.main_call3_call0 = KernelIdeal.fn_threefry2x32_1.body a b c d KernelIdeal.main_call3_call0 := (rfl)

theorem mix_start (a b : StableHlo.TRef KernelIdeal.sig ⟨KernelIdeal.S16384, .i32⟩) (c d : StableHlo.TRef KernelIdeal.sig ⟨KernelIdeal.S_, .i32⟩) :
    Kernel.fn_threefry2x32_1.body (F := F) a b c d Kernel.main_call4_call0 = KernelIdeal.fn_threefry2x32_1.body a b c d KernelIdeal.main_call4_call0 := (rfl)

theorem mix_perm (a b : StableHlo.TRef KernelIdeal.sig ⟨KernelIdeal.S16384x1, .i32⟩) (c d : StableHlo.TRef KernelIdeal.sig ⟨KernelIdeal.S1x5, .i32⟩) :
    Kernel.fn_threefry2x32_3.body (F := F) a b c d Kernel.main_call5_call0 = KernelIdeal.fn_threefry2x32_3.body a b c d KernelIdeal.main_call5_call0 := (rfl)

/-! ## The draws -/

theorem fold : Kernel.fn_threefry_fold_in.body (F := F) (.of Kernel.main_v6) (.of Kernel.main_v8) Kernel.main_call0
    = KernelIdeal.fn_threefry_fold_in.body (.of KernelIdeal.main_v6) (.of KernelIdeal.main_v8) KernelIdeal.main_call0 := by
  unfold Kernel.fn_threefry_fold_in.body KernelIdeal.fn_threefry_fold_in.body
  rw [mix_fold]
  rfl

theorem split : Kernel.fn_threefry_split.body (F := F) (.of Kernel.main_v9) Kernel.main_call1
    = KernelIdeal.fn_threefry_split.body (.of KernelIdeal.main_v9) KernelIdeal.main_call1 := by
  unfold Kernel.fn_threefry_split.body KernelIdeal.fn_threefry_split.body
  rw [mix_split]
  rfl

theorem aug : Kernel.fn_uniform.body (F := F) (.of Kernel.main_v12) (.of Kernel.main_cst) (.of Kernel.main_cst_2) Kernel.main_call2
    = KernelIdeal.fn_uniform.body (.of KernelIdeal.main_v12) (.of KernelIdeal.main_cst) (.of KernelIdeal.main_cst_2) KernelIdeal.main_call2 := by
  unfold Kernel.fn_uniform.body KernelIdeal.fn_uniform.body
  rw [mix_aug]
  rfl

theorem size : Kernel.fn_uniform.body (F := F) (.of Kernel.main_v14) (.of Kernel.main_cst_3) (.of Kernel.main_cst_4) Kernel.main_call3
    = KernelIdeal.fn_uniform.body (.of KernelIdeal.main_v14) (.of KernelIdeal.main_cst_3) (.of KernelIdeal.main_cst_4) KernelIdeal.main_call3 := by
  unfold Kernel.fn_uniform.body KernelIdeal.fn_uniform.body
  rw [mix_size]
  rfl

theorem start : Kernel.fn_uniform.body (F := F) (.of Kernel.main_v16) (.of Kernel.main_cst_5) (.of Kernel.main_cst_6) Kernel.main_call4
    = KernelIdeal.fn_uniform.body (.of KernelIdeal.main_v16) (.of KernelIdeal.main_cst_5) (.of KernelIdeal.main_cst_6) KernelIdeal.main_call4 := by
  unfold Kernel.fn_uniform.body KernelIdeal.fn_uniform.body
  rw [mix_start]
  rfl

theorem perm : Kernel.fn_uniform_2.body (F := F) (.of Kernel.main_v18) (.of Kernel.main_cst_7) (.of Kernel.main_cst_8) Kernel.main_call5
    = KernelIdeal.fn_uniform_2.body (.of KernelIdeal.main_v18) (.of KernelIdeal.main_cst_7) (.of KernelIdeal.main_cst_8) KernelIdeal.main_call5 := by
  unfold Kernel.fn_uniform_2.body KernelIdeal.fn_uniform_2.body
  rw [mix_perm]
  rfl

/-! ## The whole -/

theorem main_eq : Kernel.main (F := F) = KernelIdeal.main := by
  funext d
  unfold Kernel.main KernelIdeal.main
  rw [fold, split, aug, size, start, perm]
  rfl

theorem threads_eq : Kernel.threads (F := F) = KernelIdeal.threads := by
  unfold Kernel.threads KernelIdeal.threads
  rw [main_eq]
  rfl

end Cert.Proof.Text

end
-- ==== Proof.Frames.lean ====
/-
  The programs run to their ends with their arguments unchanged: the kernel, read at either instance,
  and the reference.
-/
module

public import proofs.«01_k».proof.Proof.Launch
public import proofs.«01_k».proof.Defs
public import proofs.«01_k».proof.Proof.Gen.Kernel
public import proofs.«01_k».proof.Proof.RefRun
public import proofs.«01_k».proof.Proof.Text
public import Idealize.ShloMosaic.Lib.Quiescent

@[expose] public section

noncomputable section

namespace Cert.Proof.Frames

open Idealize.ShloMosaic Idealize.SL.Sem
open Cert.Proof.Launch

/-- The kernel at the two instances has one text: its run is the run of that text. -/
theorem frame_kernel : Cert.quiescent_Kernel (hKernel := Cert.Kernel.Gen.facts) := by
  intro m ρ _
  rw [Text.threads_eq]
  exact (θ_run (Cert.KernelIdeal.defs (F := Bits)) _ _).mono (fun _ h => ⟨fun c => (h.1 c).1, h.2⟩) (run_main (F := Bits) m ρ)

theorem frame_kernelIdeal : Cert.quiescent_KernelIdeal (hKernelIdeal := Cert.KernelIdeal.Gen.facts) := fun m ρ _ =>
  (θ_run (Cert.KernelIdeal.defs (F := Ideal)) _ _).mono (fun _ h => ⟨fun c => (h.1 c).1, h.2⟩) (run_main (F := Ideal) m ρ)

/-- The reference's run, after the operations that make its draws. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v149) = RefRun.val3 (StableHlo.after (Draws.preR c) (StableHlo.launchContents m c)) (Proc.devRef .tc Cert.ReferenceIdeal.main_v149)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  RefRun.run (F := Ideal) Draws.preR Draws.part_eq (fun c => (Draws.sim c).good') m ρ

/-- That run, read at its arguments; the reference declares no semaphore. -/
theorem frame_referenceIdeal : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (run_reference m ρ)

end Cert.Proof.Frames

end
-- ==== Proof.HostIn.lean ====
/-
  The kernel's two auxiliary arrays, entry by entry: what the host's operations before the call lay out in them.
-/
module

public import proofs.«01_k».proof.Proof.Launch
public import Idealize.ShloMosaic.Lib.Pointwise.SelectCore

@[expose] public section

noncomputable section

namespace Cert.Proof.HostIn

open Cert.KernelIdeal Cert.KernelIdeal.Gen
open Idealize.ShloMosaic hiding ix1 ix2
open Cert.Proof.Launch
open Idealize.ShloMosaic.StableHlo
open Idealize.ShloMosaic.ValueIdx (ix1 ix2 eq_ix1 eq_ix2)

variable {F : FTy → Type} [FloatOps F]
variable (m : (ℓ : Loc nD τ sig) → Buf (Elt F) ℓ) (d : Dev nD)

/-- The array of values: the keys, the two draws, zeros. -/
def auxA (uw us : FVec F S16384 .f32) (r : FVec F S16384x5 .f32) : FVec F S16384x16 .f32 :=
  concatenate S16384x16 1 [⟨S16384x5, r⟩, ⟨S16384x1, broadcastInDim S16384x1 ![0] bcast_S16384_S16384x1_0 uw⟩,
    ⟨S16384x1, broadcastInDim S16384x1 ![0] bcast_S16384_S16384x1_0 us⟩,
    ⟨S16384x9, broadcastInDim S16384x9 ![] bcast_S_S16384x9 (constant (F := F) S_ .f32 0x00000000#32)⟩] concatenates_S16384x5_S16384x1_S16384x1_S16384x9_S16384x16_d1

/-- The array of words: the flag, the length, zeros. -/
def auxB (len : IVec S16384 32) (uu : FVec F S16384 .f32) : IVec S16384x16 32 :=
  concatenate S16384x16 1 [⟨S16384x1, broadcastInDim S16384x1 ![0] bcast_S16384_S16384x1_0
      (extui 32 (andi (cmpi .sgt len (broadcastInDim S16384 ![] bcast_S_S16384 (constantI S_ 32 2#32)))
        (cmpf .ole uu (broadcastInDim S16384 ![] bcast_S_S16384 (constant (F := F) S_ .f32 0x3F000000#32)))) natLt_1_32)⟩,
    ⟨S16384x1, broadcastInDim S16384x1 ![0] bcast_S16384_S16384x1_0 len⟩,
    ⟨S16384x14, broadcastInDim S16384x14 ![] bcast_S_S16384x14 (constantI S_ 32 0#32)⟩] concatenates_S16384x1_S16384x1_S16384x14_S16384x16_d1

/-- The draws. -/
abbrev dU : FVec F S16384 .f32 := VD m d (Proc.devRef .tc main_v19)
abbrev dW : FVec F S16384 .f32 := VD m d (Proc.devRef .tc main_v20)
abbrev dS : FVec F S16384 .f32 := VD m d (Proc.devRef .tc main_v21)
abbrev dR : FVec F S16384x5 .f32 := VD m d (Proc.devRef .tc main_v22)

theorem fA_eq : (fA m d : FVec F S16384x16 .f32) = auxA (dW m d) (dS m d) (dR m d) := by
  show V1 m d (Proc.devRef .tc main_v32) = _
  rw [V1_eq]
  unfold hostOps
  after_results
  rfl

theorem fB_eq : (fB m d : IVec S16384x16 32) = auxB (m ((SparseCore.T d).loc main_arg1)) (dU m d) := by
  show V1 m d (Proc.devRef .tc main_v36) = _
  rw [V1_eq, ← VD_of_not_written m d (r := main_arg1) (by decide)]
  unfold hostOps
  after_results
  rfl

section cat

variable {α : Type} {B N n : ℕ}

/-- A position in the first piece. -/
theorem cat_here (R : Fin B) (q : Fin N) (x : (⟨2, ![B, n]⟩ : Shape).Idx → α) (p : (s : Shape) × (s.Idx → α)) (xs : List ((s : Shape) × (s.Idx → α)))
    (hs) (c : ℕ) (hc) (h : c < n) :
    concatenateAt (⟨2, ![B, N]⟩ : Shape) 1 (ix2 R q) (⟨⟨2, ![B, n]⟩, x⟩ :: p :: xs) hs c hc = x (ix2 R ⟨c, h⟩) := by
  rw [concatenateAt_cons]
  refine (dif_pos h).trans ?_
  rw [Shape.Idx.norm_def]
  congr 1
  funext a
  match a with
  | ⟨0, _⟩ => rfl
  | ⟨1, _⟩ => rfl

/-- A position past the first piece. -/
theorem cat_next (R : Fin B) (q : Fin N) (x : (⟨2, ![B, n]⟩ : Shape).Idx → α) (p : (s : Shape) × (s.Idx → α)) (xs : List ((s : Shape) × (s.Idx → α)))
    (hs) (c : ℕ) (hc) (h : ¬ c < n) :
    ∃ hs' hc', concatenateAt (⟨2, ![B, N]⟩ : Shape) 1 (ix2 R q) (⟨⟨2, ![B, n]⟩, x⟩ :: p :: xs) hs c hc
      = concatenateAt (⟨2, ![B, N]⟩ : Shape) 1 (ix2 R q) (p :: xs) hs' (c - n) hc' := by
  rw [concatenateAt_cons]
  exact ⟨_, _, dif_neg h⟩

end cat

theorem auxA_key (uw us : FVec F S16384 .f32) (r : FVec F S16384x5 .f32) (R : Fin 16384) (j : Fin 5) :
    auxA uw us r (ix2 R (j.castLE (by norm_num))) = r (ix2 R j) :=
  (concatenate_cons_apply ..).trans (cat_here R _ r _ _ _ _ _ j.isLt)

/-- A column spread from a vector. -/
theorem col_at {α : Type} (u : S16384.Idx → α) (R : Fin 16384) (k : Fin 1) :
    broadcastInDim S16384x1 ![0] bcast_S16384_S16384x1_0 u (ix2 R k) = u (ix1 R) := by
  show u _ = u _
  congr 1
  funext a
  match a with
  | ⟨0, _⟩ => rfl

theorem auxA_w (uw us : FVec F S16384 .f32) (r : FVec F S16384x5 .f32) (R : Fin 16384) : auxA uw us r (ix2 R 5) = uw (ix1 R) := by
  obtain ⟨hs, hc, e⟩ := cat_next R (5 : Fin 16) r ⟨S16384x1, broadcastInDim S16384x1 ![0] bcast_S16384_S16384x1_0 uw⟩
    [⟨S16384x1, broadcastInDim S16384x1 ![0] bcast_S16384_S16384x1_0 us⟩,
    ⟨S16384x9, broadcastInDim S16384x9 ![] bcast_S_S16384x9 (constant (F := F) S_ .f32 0x00000000#32)⟩] concatenates_S16384x5_S16384x1_S16384x1_S16384x9_S16384x16_d1.2.1 5
    (lt_of_lt_of_eq (b := 16) (by decide) concatenates_S16384x5_S16384x1_S16384x1_S16384x9_S16384x16_d1.2.2.symm) (by decide)
  exact ((concatenate_cons_apply ..).trans e).trans ((cat_here R _ _ _ _ _ _ _ (by decide)).trans (col_at uw R _))

theorem auxA_s (uw us : FVec F S16384 .f32) (r : FVec F S16384x5 .f32) (R : Fin 16384) : auxA uw us r (ix2 R 6) = us (ix1 R) := by
  obtain ⟨hs, hc, e⟩ := cat_next R (6 : Fin 16) r ⟨S16384x1, broadcastInDim S16384x1 ![0] bcast_S16384_S16384x1_0 uw⟩
    [⟨S16384x1, broadcastInDim S16384x1 ![0] bcast_S16384_S16384x1_0 us⟩,
    ⟨S16384x9, broadcastInDim S16384x9 ![] bcast_S_S16384x9 (constant (F := F) S_ .f32 0x00000000#32)⟩] concatenates_S16384x5_S16384x1_S16384x1_S16384x9_S16384x16_d1.2.1 6
    (lt_of_lt_of_eq (b := 16) (by decide) concatenates_S16384x5_S16384x1_S16384x1_S16384x9_S16384x16_d1.2.2.symm) (by decide)
  obtain ⟨hs', hc', e'⟩ := cat_next R (6 : Fin 16) (broadcastInDim S16384x1 ![0] bcast_S16384_S16384x1_0 uw)
    ⟨S16384x1, broadcastInDim S16384x1 ![0] bcast_S16384_S16384x1_0 us⟩
    [⟨S16384x9, broadcastInDim S16384x9 ![] bcast_S_S16384x9 (constant (F := F) S_ .f32 0x00000000#32)⟩] hs 1 hc (by decide)
  exact ((concatenate_cons_apply ..).trans e).trans (e'.trans ((cat_here R _ _ _ _ _ _ _ (by decide)).trans (col_at us R _)))

theorem auxB_flag (len : IVec S16384 32) (uu : FVec F S16384 .f32) (R : Fin 16384) :
    auxB len uu (ix2 R 0) = (IntOp.andi (IntOp.cmpi .sgt (len (ix1 R)) 2#32) (FloatOps.cmpf .ole (uu (ix1 R)) (FloatOps.ofBits .f32 0x3F000000#32))).setWidth 32 :=
  (concatenate_cons_apply ..).trans ((cat_here R _ _ _ _ _ _ _ (show 0 < 1 by decide)).trans (col_at _ R _))

theorem auxB_len (len : IVec S16384 32) (uu : FVec F S16384 .f32) (R : Fin 16384) : auxB len uu (ix2 R 1) = len (ix1 R) := by
  obtain ⟨hs, hc, e⟩ := cat_next R (1 : Fin 16) (broadcastInDim S16384x1 ![0] bcast_S16384_S16384x1_0
      (extui 32 (andi (cmpi .sgt len (broadcastInDim S16384 ![] bcast_S_S16384 (constantI S_ 32 2#32)))
        (cmpf .ole uu (broadcastInDim S16384 ![] bcast_S_S16384 (constant (F := F) S_ .f32 0x3F000000#32)))) natLt_1_32))
    ⟨S16384x1, broadcastInDim S16384x1 ![0] bcast_S16384_S16384x1_0 len⟩
    [⟨S16384x14, broadcastInDim S16384x14 ![] bcast_S_S16384x14 (constantI S_ 32 0#32)⟩] concatenates_S16384x1_S16384x1_S16384x14_S16384x16_d1.2.1 1
    (lt_of_lt_of_eq (b := 16) (by decide) concatenates_S16384x1_S16384x1_S16384x14_S16384x16_d1.2.2.symm) (by decide)
  exact ((concatenate_cons_apply ..).trans e).trans ((cat_here R _ _ _ _ _ _ _ (by decide)).trans (col_at len R _))

theorem cond_bit (b : BitVec 1) : k0_cond1 (b.setWidth 32) = 1#1 ↔ b = 1#1 := by
  revert b; decide

end Cert.Proof.HostIn

end
-- ==== Proof.Order.lean ====
/-
  Counting and sorting: the number of set positions below a bound, the position of a given count, and where a stable sort puts
  an element: at the number of elements that come before it.
-/
module

public import proofs.«01_k».proof.Proof.Lanes
public import Idealize.ShloMosaic.Lib.SortFacts

@[expose] public section

noncomputable section

namespace Cert.Proof.Order

open Idealize.ShloMosaic Cert.Proof.Lanes Finset

/-! ## Counts -/

theorem card_range (p : ℕ → Bool) (i : ℕ) : ((range i).filter fun j => p j = true).card = cnt p i := by
  induction i with
  | zero => rfl
  | succ n ih =>
    rw [range_add_one, filter_insert, cnt_succ]
    split
    · rw [card_insert_of_notMem (by simp), ih]
    · rw [ih]; rfl

/-- The set positions below `i`, counted among the first `n`. -/
theorem card_below (p : ℕ → Bool) {n i : ℕ} (hi : i ≤ n) : (univ.filter fun j : Fin n => p j = true ∧ j.val < i).card = cnt p i := by
  rw [← card_range]
  refine card_bij (fun j _ => j.val) (fun j hj => ?_) (fun a _ b _ h => Fin.ext h) (fun b hb => ?_)
  · rw [mem_filter] at hj ⊢; exact ⟨mem_range.mpr hj.2.2, hj.2.1⟩
  · rw [mem_filter, mem_range] at hb
    exact ⟨⟨b, by omega⟩, mem_filter.mpr ⟨mem_univ _, hb.2, hb.1⟩, rfl⟩

theorem card_all (p : ℕ → Bool) (n : ℕ) : (univ.filter fun j : Fin n => p j = true).card = cnt p n := by
  rw [← card_below p (le_refl n)]
  congr 1; ext j; simp

/-- The position of count `i`: set, with `i` set positions below it. -/
def nth (p : ℕ → Bool) (i q : ℕ) : Prop := q < 200 ∧ p q = true ∧ cnt p q = i

theorem exists_nth (p : ℕ → Bool) : ∀ {n i : ℕ}, i < cnt p n → ∃ q < n, p q = true ∧ cnt p q = i
  | 0, _, h => absurd h (Nat.not_lt_zero _)
  | n + 1, i, h => by
    rw [cnt_succ] at h
    by_cases hi : i < cnt p n
    · obtain ⟨q, hq, hp⟩ := exists_nth p hi
      exact ⟨q, by omega, hp⟩
    · by_cases hp : p n = true
      · rw [if_pos hp] at h
        exact ⟨n, by omega, hp, by omega⟩
      · rw [if_neg hp] at h; omega

theorem nth_exists (p : ℕ → Bool) {i : ℕ} (h : i < cnt p 200) : ∃ q : Fin 200, nth p i q := by
  obtain ⟨q, hq, hp⟩ := exists_nth p h
  exact ⟨⟨q, hq⟩, hq, hp⟩

theorem cnt_inj (p : ℕ → Bool) {a b : ℕ} (ha : p a = true) (hb : p b = true) (h : cnt p a = cnt p b) : a = b := by
  rcases Nat.lt_trichotomy a b with hl | hl | hl
  · have := cnt_lt p hl ha; omega
  · exact hl
  · have := cnt_lt p hl hb; omega

theorem nth_inj {p : ℕ → Bool} {i j a b : ℕ} (ha : nth p i a) (hb : nth p j b) : a = b ↔ i = j := by
  constructor
  · rintro rfl; exact ha.2.2.symm.trans hb.2.2
  · rintro rfl; exact cnt_inj p ha.2.1 hb.2.1 (ha.2.2.trans hb.2.2.symm)

/-! ## A stable sort -/

/-- Two relations that agree on each later element against each earlier one sort alike. -/
theorem stableSort_later {ι : Type} (R R' : ι → ι → Bool) : ∀ l : List ι, l.Pairwise (fun a b => R b a = R' b a) → stableSort R l = stableSort R' l
  | [], _ => rfl
  | a :: l, h => by
    rw [List.pairwise_cons] at h
    unfold stableSort
    rw [← stableSort_later R R' l h.2]
    exact insertBefore_congr R R' a _ fun b hb => h.1 b ((perm_stableSort R l).mem_iff.mp hb)

section rank
variable {κ : Type} [LinearOrder κ] {n : ℕ} (key : Fin n → κ)

/-- Element `j` goes before element `i`: a smaller key, or an equal one earlier. -/
def Goes (j i : Fin n) : Prop := key j < key i ∨ (key j = key i ∧ j < i)

/-- How many elements go before element `i`. -/
def place (i : Fin n) : ℕ := by classical exact (univ.filter fun j => Goes key j i).card

theorem goes_irrefl (i : Fin n) : ¬ Goes key i i := by rintro (h | ⟨-, h⟩) <;> exact lt_irrefl _ h

theorem goes_total {i j : Fin n} (h : i ≠ j) (hn : ¬ Goes key j i) : Goes key i j := by
  unfold Goes at hn ⊢
  push Not at hn
  rcases lt_or_eq_of_le hn.1 with h1 | h1
  · exact Or.inl h1
  · exact Or.inr ⟨h1, lt_of_le_of_ne (hn.2 h1.symm) h⟩

theorem goes_asymm {i j : Fin n} (h : Goes key i j) : ¬ Goes key j i := by
  rintro (h' | ⟨h', h''⟩) <;> rcases h with h | ⟨h, h2⟩
  · exact lt_asymm h h'
  · exact absurd h (ne_of_gt h')
  · exact absurd h' (ne_of_gt h)
  · exact lt_asymm h2 h''

theorem goes_trans {i j k : Fin n} (h : Goes key i j) (h' : Goes key j k) : Goes key i k := by
  rcases h with h | ⟨h, h2⟩ <;> rcases h' with h' | ⟨h', h2'⟩
  · exact Or.inl (h.trans h')
  · exact Or.inl (h' ▸ h)
  · exact Or.inl (h ▸ h')
  · exact Or.inr ⟨h.trans h', h2.trans h2'⟩

/-- A stable sort by the keys puts element `i` at its place. -/
theorem sortedFrom_place (before : Fin n → Fin n → Bool) (hb : ∀ a b, before a b = decide (key a < key b)) (i k : Fin n)
    (h : place key i = k) : sortedFrom before k = i := by
  classical
  have e : sortedFrom before = sortedFrom (fun a b => decide (Goes key a b)) := by
    funext j
    unfold sortedFrom
    have hs : sortPositions n before = sortPositions n (fun a b => decide (Goes key a b)) := by
      refine stableSort_later _ _ _ ((List.pairwise_lt_finRange n).imp fun {a b} hab => ?_)
      rw [hb]
      exact decide_eq_decide.mpr ⟨Or.inl, fun h => h.resolve_right fun h' => lt_asymm hab h'.2⟩
    rw [List.get_of_eq hs]
    rfl
  rw [e]
  set π := sortedFrom (fun a b => decide (Goes key a b)) with hπ
  have hinj : Function.Injective π := sortedFrom_injective _
  have hno : ∀ a b : Fin n, a < b → ¬ Goes key (π b) (π a) := fun a b hab => by
    have := sortedFrom_noInversion (fun a b => decide (Goes key a b)) (fun a b => decide (Goes key a b))
      (fun a b h => decide_eq_false (goes_asymm key (of_decide_eq_true h))) (fun _ _ h => h)
      (fun a b c h1 h2 => decide_eq_false fun h3 => by
        have h1 := of_decide_eq_false h1
        have h2 := of_decide_eq_false h2
        by_cases hbc : b = c
        · subst hbc; exact h1 h3
        · exact h1 (goes_trans key h3 (goes_total key (Ne.symm hbc) h2))) a b hab
    exact of_decide_eq_false this
  obtain ⟨k0, rfl⟩ := sortedFrom_surjective (fun a b => decide (Goes key a b)) i
  change place key (π k0) = k at h
  have hset : (univ.filter fun j => Goes key j (π k0)) = (Iio k0).image π := by
    ext j
    obtain ⟨k', rfl⟩ := sortedFrom_surjective (fun a b => decide (Goes key a b)) j
    change π k' ∈ _ ↔ π k' ∈ _
    rw [mem_filter, mem_image]
    constructor
    · rintro ⟨-, hg⟩
      refine ⟨k', mem_Iio.mpr ?_, rfl⟩
      by_contra hc
      rcases lt_or_eq_of_le (not_lt.mp hc) with hl | hl
      · exact hno _ _ hl hg
      · subst hl; exact goes_irrefl key _ hg
    · rintro ⟨a, ha, hae⟩
      obtain rfl := hinj hae
      exact ⟨mem_univ _, goes_total key (fun hh => ne_of_lt (mem_Iio.mp ha) (hinj hh)) (hno _ _ (mem_Iio.mp ha))⟩
  have hc : place key (π k0) = k0 := by
    show (univ.filter fun j => Goes key j (π k0)).card = _
    rw [hset, card_image_of_injective _ hinj, Fin.card_Iio]
  rw [Fin.ext (hc.symm.trans h : k0.val = k.val)]

theorem place_lt (i : Fin n) : place key i < n := by
  classical
  have h : (univ.filter fun j => Goes key j i) ⊂ univ := ssubset_univ_iff.mpr fun he => by
    have hm := mem_univ i
    rw [← he] at hm
    exact goes_irrefl key i (mem_filter.mp hm).2
  simpa [place] using card_lt_card h

theorem place_inj {i j : Fin n} (h : place key i = place key j) : i = j := by
  have h1 := sortedFrom_place key (fun a b => decide (key a < key b)) (fun _ _ => rfl) i ⟨_, place_lt key i⟩ rfl
  have h2 := sortedFrom_place key (fun a b => decide (key a < key b)) (fun _ _ => rfl) j ⟨_, place_lt key i⟩ h.symm
  exact h1.symm.trans h2

end rank

/-! ## The window's order -/

/-- The keys, those outside the window of `ws` put last. -/
def winKey (ws : ℕ) (key : Fin 5 → EReal) : Fin 5 → EReal := fun j => if j.val < ws then key j else ⊤

theorem place_win {ws : ℕ} {key : Fin 5 → EReal} {i : Fin 5} (hi : i.val < ws) : place (winKey ws key) i < ws := by
  classical
  have hsub : (univ.filter fun j => Goes (winKey ws key) j i) ⊂ univ.filter fun j : Fin 5 => j.val < ws := by
    refine (ssubset_iff_of_subset fun j hj => ?_).mpr ⟨i, mem_filter.mpr ⟨mem_univ _, hi⟩, fun h => goes_irrefl _ i (mem_filter.mp h).2⟩
    rw [mem_filter] at hj ⊢
    refine ⟨mem_univ _, ?_⟩
    by_contra hc
    have e : winKey ws key j = ⊤ := if_neg hc
    rcases hj.2 with h | ⟨-, h⟩
    · rw [e] at h; exact not_top_lt h
    · have := Fin.lt_def.mp h; omega
  refine lt_of_lt_of_le (card_lt_card hsub) ?_
  have : ((univ.filter fun j : Fin 5 => j.val < ws).image fun j => j.val) ⊆ range ws := fun x hx => by
    obtain ⟨j, hj, rfl⟩ := mem_image.mp hx
    exact mem_range.mpr (mem_filter.mp hj).2
  have h2 := card_le_card this
  rwa [card_image_of_injective _ Fin.val_injective, Finset.card_range] at h2

/-- Every place of the window is taken, from inside it. -/
theorem place_surj {ws : ℕ} (key : Fin 5 → EReal) {k : Fin 5} (hk : k.val < ws) : ∃ i : Fin 5, i.val < ws ∧ place (winKey ws key) i = k := by
  let f : {i : Fin 5 // i.val < ws} → {i : Fin 5 // i.val < ws} :=
    fun i => ⟨⟨place (winKey ws key) i.1, place_lt _ _⟩, place_win i.2⟩
  have hf : Function.Injective f := fun a b h => Subtype.ext (place_inj (winKey ws key) (congrArg (fun x : {i : Fin 5 // i.val < ws} => x.1.val) h))
  obtain ⟨i, hi⟩ := Finite.surjective_of_injective hf ⟨k, hk⟩
  exact ⟨i.1, i.2, congrArg (fun x : {i : Fin 5 // i.val < ws} => x.1.val) hi⟩

end Cert.Proof.Order

end
-- ==== Proof.Spec.lean ====
/-
  What happens to one row, said once for the kernel and the reference: the window's size and start from the two uniform draws, and
  the reordering of the window's items by the keys' order.
-/
module

public import proofs.«01_k».proof.Proof.Chunk
public import proofs.«01_k».proof.Proof.Order

@[expose] public section

noncomputable section

namespace Cert.Proof.Spec

open Idealize.ShloMosaic Cert.Proof.Lanes Cert.Proof.Chunk Cert.Proof.Order
open Idealize.ShloMosaic.ValueIdx (ix1 eq_ix1)

/-! ## Reals to integers -/

/-- A whole number, as a value. -/
def nat (n : ℕ) : EReal := ((n : ℝ) : EReal)

theorem fptosi_real (r : ℝ) : Ideal.fptosi 32 (r : EReal) = BitVec.ofInt 32 (max (-2147483648) (min 2147483647 (if 0 ≤ r then ⌊r⌋ else ⌈r⌉))) := rfl

/-- Rounding a nonnegative value down first changes nothing. -/
theorem fptosi_floor {r : ℝ} (h : 0 ≤ r) : Ideal.fptosi 32 (Ideal.liftRound Int.floor (r : EReal)) = Ideal.fptosi 32 (r : EReal) := by
  have h0 : (0 : ℝ) ≤ ((⌊r⌋ : ℤ) : ℝ) := by exact_mod_cast Int.floor_nonneg.mpr h
  rw [Ideal.liftRound_coe, fptosi_real, fptosi_real, if_pos h, if_pos h0, Int.floor_intCast]

theorem ofInt_toInt {z : ℤ} (h : -2147483648 ≤ z) (h' : z ≤ 2147483647) : (BitVec.ofInt 32 z).toInt = z := by
  rw [BitVec.toInt_ofInt]
  exact Int.bmod_eq_of_le (by omega) (by omega)

theorem max_two {z : ℤ} (h : -2147483648 ≤ z) (h' : z ≤ 0) : IntOp.maxsi 2#32 (2#32 + BitVec.ofInt 32 z) = 2#32 := by
  have e := ofInt_toInt h (by omega)
  have hs : (2#32 + BitVec.ofInt 32 z).toInt = 2 + z := by
    rw [BitVec.toInt_add, e, show (2#32 : BitVec 32).toInt = 2 from rfl]
    exact Int.bmod_eq_of_le (by omega) (by omega)
  unfold IntOp.maxsi
  by_cases hz : z = 0
  · subst hz; rfl
  · rw [if_pos]
    rw [BitVec.slt_iff_toInt_lt, hs, show (2#32 : BitVec 32).toInt = 2 from rfl]
    omega

theorem two_floor (x : EReal) : IntOp.maxsi 2#32 (2#32 + Ideal.fptosi 32 (Ideal.liftRound Int.floor x)) = IntOp.maxsi 2#32 (2#32 + Ideal.fptosi 32 x) := by
  induction x with
  | bot => rfl
  | top => rfl
  | coe r =>
    by_cases h : 0 ≤ r
    · rw [fptosi_floor h]
    · have h0 : r < 0 := not_le.mp h
      have hf : ⌊r⌋ < 0 := Int.floor_lt.mpr (by exact_mod_cast h0)
      have hc : ⌈r⌉ ≤ 0 := Int.ceil_le.mpr (by exact_mod_cast h0.le)
      have h1 : ¬ (0 : ℝ) ≤ ((⌊r⌋ : ℤ) : ℝ) := not_le.mpr (by exact_mod_cast hf)
      rw [Ideal.liftRound_coe, fptosi_real, fptosi_real, if_neg h, if_neg h1, Int.ceil_intCast, max_two (by omega) (by omega), max_two (by omega) (by omega)]

/-! ## The window -/

/-- The window's size, of `C` items, from the draw `uw`. -/
def wsW (C : ℕ) (uw : EReal) : BitVec 32 :=
  IntOp.minsi (IntOp.maxsi (BitVec.ofNat 32 (min C 5)) 2#32) (IntOp.maxsi 2#32 (2#32 + Ideal.fptosi 32 (uw * nat (max (min C 5 - 1) 1))))

def ws (C : ℕ) (uw : EReal) : ℕ := (wsW C uw).toNat

/-- The window's start, of `C` items and a window of `w`, from the draw `us`. -/
def stW (C w : ℕ) (us : EReal) : BitVec 32 := Ideal.fptosi 32 (us * nat (max (C + 1 - w) 1))

def st (C w : ℕ) (us : EReal) : ℕ := (stW C w us).toNat

theorem maxsi_toInt (a b : BitVec 32) : (IntOp.maxsi a b).toInt = max a.toInt b.toInt := by
  unfold IntOp.maxsi
  split <;> rename_i h <;> rw [BitVec.slt_iff_toInt_lt] at h <;> omega

theorem minsi_toInt (a b : BitVec 32) : (IntOp.minsi a b).toInt = min a.toInt b.toInt := by
  unfold IntOp.minsi
  split <;> rename_i h <;> rw [BitVec.slt_iff_toInt_lt] at h <;> omega

theorem toNat_of_toInt {x : BitVec 32} (h : 0 ≤ x.toInt) : (x.toNat : ℤ) = x.toInt := by
  have := x.isLt
  rw [BitVec.toInt_eq_toNat_cond] at h ⊢
  split at h <;> split <;> omega

theorem ws_toInt (C : ℕ) (uw : EReal) : 2 ≤ (wsW C uw).toInt ∧ (wsW C uw).toInt ≤ max (min C 5) 2 := by
  have e : (BitVec.ofNat 32 (min C 5)).toInt = (min C 5 : ℕ) := ofNat_toInt (by omega)
  have e2 : (2#32 : BitVec 32).toInt = 2 := rfl
  unfold wsW
  rw [minsi_toInt, maxsi_toInt, maxsi_toInt, e, e2]
  omega

theorem ws_bounds (C : ℕ) (uw : EReal) : 2 ≤ ws C uw ∧ ws C uw ≤ max (min C 5) 2 := by
  have h := ws_toInt C uw
  have := toNat_of_toInt (x := wsW C uw) (by omega)
  unfold ws; omega

theorem ws_word (C : ℕ) (uw : EReal) : wsW C uw = BitVec.ofNat 32 (ws C uw) := by
  unfold ws; simp

theorem start_spec {C w : ℕ} {us : EReal} (h0 : 0 ≤ us) (h1 : us < 1) (hC : C ≤ 200) :
    stW C w us = BitVec.ofNat 32 (st C w us) ∧ st C w us < max (C + 1 - w) 1
      ∧ Ideal.fptosi 32 (Ideal.liftRound Int.floor (us * nat (max (C + 1 - w) 1))) = stW C w us := by
  induction us with
  | bot => exact absurd h0 (by simp)
  | top => exact absurd h1 (by simp)
  | coe u =>
    have h0 : (0 : ℝ) ≤ u := by exact_mod_cast h0
    have h1 : u < 1 := by exact_mod_cast h1
    set M := max (C + 1 - w) 1 with hM
    have hMp : (1 : ℝ) ≤ (M : ℝ) := by exact_mod_cast le_max_right _ _
    have hm : (u : EReal) * nat M = ((u * (M : ℝ) : ℝ) : EReal) := by rw [nat, EReal.coe_mul]
    have hr0 : 0 ≤ u * (M : ℝ) := by positivity
    have hr1 : u * (M : ℝ) < ((M : ℤ) : ℝ) := by push_cast; nlinarith
    have hf0 : 0 ≤ ⌊u * (M : ℝ)⌋ := Int.floor_nonneg.mpr hr0
    have hf1 : ⌊u * (M : ℝ)⌋ < (M : ℤ) := Int.floor_lt.mpr hr1
    have hM2 : M ≤ 201 := by omega
    have e : stW C w (u : EReal) = BitVec.ofInt 32 ⌊u * (M : ℝ)⌋ := by
      unfold stW
      rw [← hM, hm, fptosi_real, if_pos hr0, max_eq_right (by omega), min_eq_right (by omega)]
    have ei := ofInt_toInt (z := ⌊u * (M : ℝ)⌋) (by omega) (by omega)
    have en := toNat_of_toInt (x := stW C w (u : EReal)) (by rw [e, ei]; exact hf0)
    refine ⟨by unfold st; simp, ?_, ?_⟩
    · rw [e, ei] at en
      unfold st; rw [e]; omega
    · rw [hm, fptosi_floor hr0]; unfold stW; rw [← hM, hm]

/-! ## The row -/

/-- The row with the items at positions `s`, …, `s + w - 1` among the set ones reordered by the keys. -/
def Shuffled (row out : W200.Idx → BitVec 32) (p : ℕ → Bool) (w s : ℕ) (key : Fin 5 → EReal) : Prop :=
  (∀ k j : Fin 5, k.val < w → j.val < w → place (winKey w key) j = k → ∀ qk qj : Fin 200, nth p (s + k) qk → nth p (s + j) qj →
      out (ix1 qk) = row (ix1 qj))
    ∧ ∀ q : Fin 200, (∀ k : Fin 5, k.val < w → ¬ nth p (s + k) q) → out (ix1 q) = row (ix1 q)

/-- What becomes of a row. -/
def RowSpec (row out : W200.Idx → BitVec 32) (slen : BitVec 32) (go : Prop) (uw us : EReal) (key : Fin 5 → EReal) : Prop :=
  (¬ (go ∧ 2 ≤ cnt (valid row slen) 200) → out = row)
    ∧ (go → 2 ≤ cnt (valid row slen) 200 → Shuffled row out (valid row slen) (ws (cnt (valid row slen) 200) uw)
        (st (cnt (valid row slen) 200) (ws (cnt (valid row slen) 200) uw) us) key)

theorem Shuffled.unique {row out out' : W200.Idx → BitVec 32} {p : ℕ → Bool} {w s : ℕ} {key : Fin 5 → EReal} (hs : s + w ≤ cnt p 200)
    (h : Shuffled row out p w s key) (h' : Shuffled row out' p w s key) : out = out' := by
  funext x
  obtain ⟨q, rfl⟩ : ∃ q : Fin 200, x = ix1 q := ⟨x 0, eq_ix1 _⟩
  by_cases hq : ∃ k : Fin 5, k.val < w ∧ nth p (s + k) q
  · obtain ⟨k, hk, hn⟩ := hq
    obtain ⟨j, hj, hp⟩ := place_surj key hk
    obtain ⟨qj, hqj⟩ := nth_exists p (i := s + j) (by omega)
    rw [h.1 k j hk hj hp q qj hn hqj, h'.1 k j hk hj hp q qj hn hqj]
  · have hq : ∀ k : Fin 5, k.val < w → ¬ nth p (s + k) q := fun k hk hn => hq ⟨k, hk, hn⟩
    rw [h.2 q hq, h'.2 q hq]

theorem fits {C : ℕ} {uw us : EReal} (h0 : 0 ≤ us) (h1 : us < 1) (hC : C ≤ 200) (h2 : 2 ≤ C) :
    st C (ws C uw) us + ws C uw ≤ C ∧ ws C uw ≤ 5 := by
  have hb := ws_bounds C uw
  have hs := (start_spec (w := ws C uw) h0 h1 hC).2.1
  omega

theorem RowSpec.unique {row out out' : W200.Idx → BitVec 32} {slen : BitVec 32} {go : Prop} {uw us : EReal} {key : Fin 5 → EReal}
    (h0 : 0 ≤ us) (h1 : us < 1) (h : RowSpec row out slen go uw us key) (h' : RowSpec row out' slen go uw us key) : out = out' := by
  by_cases hg : go ∧ 2 ≤ cnt (valid row slen) 200
  · exact (h.2 hg.1 hg.2).unique (fits h0 h1 (cnt_le _ _) hg.2).1 (h'.2 hg.1 hg.2)
  · rw [h.1 hg, h'.1 hg]

end Cert.Proof.Spec

end
-- ==== Proof.KernelRow.lean ====
/-
  The kernel's row at exact reals: what the body leaves (`RowOut`) is the reordered row of the specification (`RowSpec`).
-/
module

public import proofs.«01_k».proof.Proof.Spec
public import proofs.«01_k».proof.Proof.Groups
public import Idealize.ShloMosaic.Lib.IdealHost

@[expose] public section

noncomputable section

namespace Cert.Proof.KernelRow

open Cert.KernelIdeal Cert.KernelIdeal.Gen
open Idealize.ShloMosaic Cert.Proof.Lanes Cert.Proof.Chunk Cert.Proof.Order Cert.Proof.Step Cert.Proof.Groups Cert.Proof.Spec
open Idealize.ShloMosaic.ValueIdx (ix1 ix2 eq_ix1)

/-! ## Whole numbers as values -/

theorem five : Ideal.ofBits .f32 0x40A00000#32 = nat 5 := by
  simp [Ideal.ofBits, Ideal.ieee, -EReal.coe_mul, nat]; norm_num

theorem one : Ideal.ofBits .f32 0x3F800000#32 = nat 1 := by
  rw [Idealize.ShloMosaic.Ideal.ofBits_one_f32]; simp [nat]

theorem inf : Ideal.ofBits .f32 0x7F800000#32 = ⊤ := by
  simp [Ideal.ofBits, Ideal.ieee]

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem nat_min (a b : ℕ) : min (nat a) (nat b) = nat (min a b) := by
  unfold nat
  rw [← coe_min]; norm_cast

theorem nat_gap (C w : ℕ) : max (nat C - nat w + nat 1) (nat 1) = nat (max (C + 1 - w) 1) := by
  unfold nat
  rw [← EReal.coe_sub, ← EReal.coe_add, ← coe_max]
  congr 1
  by_cases h : w ≤ C
  · rw [max_eq_left (by have : (w : ℝ) ≤ C := by exact_mod_cast h
                        push_cast; linarith), max_eq_left (by omega), Nat.cast_sub (by omega)]
    push_cast; ring
  · have h : C + 1 ≤ w := by omega
    rw [max_eq_right (by have : ((C + 1 : ℕ) : ℝ) ≤ w := by exact_mod_cast h
                         push_cast at *; linarith), max_eq_right (by omega)]

theorem nat_pred (C : ℕ) : max (nat C - nat 1) (nat 1) = nat (max (C - 1) 1) := by
  unfold nat
  rw [← EReal.coe_sub, ← coe_max]
  congr 1
  by_cases h : 2 ≤ C
  · rw [max_eq_left (by have : ((2 : ℕ) : ℝ) ≤ C := by exact_mod_cast h
                        push_cast at *; linarith), max_eq_left (by omega), Nat.cast_sub (by omega)]
  · have h : C ≤ 1 := by omega
    rw [max_eq_right (by have : (C : ℝ) ≤ (1 : ℕ) := by exact_mod_cast h
                         push_cast at *; linarith), max_eq_right (by omega)]

theorem fptosi_nat {n : ℕ} (h : n < 2 ^ 31) : Ideal.fptosi 32 (nat n) = BitVec.ofNat 32 n := by
  have h0 : (0 : ℝ) ≤ (n : ℝ) := by positivity
  unfold nat
  rw [fptosi_real, if_pos h0, Int.floor_natCast, max_eq_right (by omega), min_eq_right (by omega)]
  simp

/-! ## The window -/

section

variable {T : IVec S16 32} {C : ℕ} (hT : ∀ x, T x = BitVec.ofNat 32 C) (hC : C ≤ 200) (ald : Vec Ideal S1x16 .f32)

include hT hC in
theorem pay34_at (x : S16.Idx) : k0_pay34 (F := Ideal) T x = nat C := by
  show (((T x).toInt : ℝ) : EReal) = nat C
  rw [hT, ofNat_toInt (by omega)]; rfl

theorem pay35_at (x : S16.Idx) : k0_pay35 ald x = ald (ix2 0 5) := by
  show extractAt ![0] (extractStridedSlice S1 ![5] (k0_pay6 ald) slices_S16_o5_S1) inpos_S1_p0 = _
  rw [extract_at (F := Ideal) (e := .f32) (k0_pay6 ald) ![5] slices_S16_o5_S1 inpos_S1_p0 5 rfl]
  exact cast16 (F := Ideal) (e := .f32) ald 5

theorem pay36_at : extractAt ![0] (k0_pay36 ald) inpos_S1_p0 = ald (ix2 0 6) := by
  show extractAt ![0] (extractStridedSlice S1 ![6] (k0_pay6 ald) slices_S16_o6_S1) inpos_S1_p0 = _
  rw [extract_at (F := Ideal) (e := .f32) (k0_pay6 ald) ![6] slices_S16_o6_S1 inpos_S1_p0 6 rfl]
  exact cast16 (F := Ideal) (e := .f32) ald 6

include hT hC in
theorem pay37_at (x : S16.Idx) : k0_pay37 (k0_pay34 T) (k0_pay35 ald) x = wsW C (ald (ix2 0 5)) := by
  have e : k0_pay37 (k0_pay34 T) (k0_pay35 ald) x
      = IntOp.minsi (IntOp.maxsi (Ideal.fptosi 32 (min (k0_pay34 (F := Ideal) T x) (Ideal.ofBits .f32 0x40A00000#32))) 2#32)
        (IntOp.maxsi 2#32 (2#32 + Ideal.fptosi 32 (k0_pay35 ald x * max (min (k0_pay34 (F := Ideal) T x) (Ideal.ofBits .f32 0x40A00000#32)
          - Ideal.ofBits .f32 0x3F800000#32) (Ideal.ofBits .f32 0x3F800000#32)))) := rfl
  rw [e, pay34_at hT hC, pay35_at, five, one, nat_min, nat_pred, fptosi_nat (by omega)]
  rfl

include hT hC in
theorem wpos_at (h0 : 0 ≤ ald (ix2 0 6)) (h1 : ald (ix2 0 6) < 1) (h2 : 2 ≤ C) (k : Fin 16) (hk : k.val < ws C (ald (ix2 0 5))) :
    wposOf lanes T ald (ln k) = BitVec.ofNat 32 (st C (ws C (ald (ix2 0 5))) (ald (ix2 0 6)) + k) := by
  have e : wposOf lanes T ald (ln k) = IntOp.minsi 199#32 (IntOp.maxsi 0#32 (Ideal.fptosi 32 (extractAt ![0] (k0_pay36 ald) inpos_S1_p0
      * max (k0_pay34 (F := Ideal) T (ln k) - (((k0_pay37 (k0_pay34 T) (k0_pay35 ald) (ln k)).toInt : ℝ) : EReal) + Ideal.ofBits .f32 0x3F800000#32)
        (Ideal.ofBits .f32 0x3F800000#32)) + lanes (ln k))) := rfl
  have hw := ws_bounds C (ald (ix2 0 5))
  rw [e, pay34_at hT hC, pay36_at, pay37_at hT hC, one, ws_word, ofNat_toInt (by omega)]
  change IntOp.minsi 199#32 (IntOp.maxsi 0#32 (Ideal.fptosi 32 (_ * max (nat C - nat _ + nat 1) (nat 1)) + _)) = _
  rw [nat_gap, lanes_isLane]
  change IntOp.minsi 199#32 (IntOp.maxsi 0#32 (stW C _ _ + _)) = _
  have hf := fits (uw := ald (ix2 0 5)) h0 h1 hC h2
  rw [(start_spec h0 h1 hC).1, ← BitVec.ofNat_add]
  have ei := ofNat_toInt (n := st C (ws C (ald (ix2 0 5))) (ald (ix2 0 6)) + k) (by omega)
  apply BitVec.eq_of_toInt_eq
  rw [minsi_toInt, maxsi_toInt, ei, show (199#32 : BitVec 32).toInt = 199 from rfl, show (0#32 : BitVec 32).toInt = 0 from rfl]
  omega

end

/-! ## The order of the keys -/

theorem bef_goes (keys : Vec Ideal S16 .f32) (key : Fin 5 → EReal) (h : ∀ j : Fin 5, keys (ln (j.castLE (by norm_num))) = key j) (j k : Fin 5) :
    bef keys (j.castLE (by norm_num)) (k.castLE (by norm_num)) = true ↔ Goes key j k := by
  unfold bef Goes
  rw [h, h, Bool.or_eq_true, Bool.and_eq_true, beq_iff_eq, beq_iff_eq, decide_eq_true_iff]
  change (BitVec.ofBool (decide (key j < key k)) = 1#1 ∨ BitVec.ofBool (decide (key j = key k)) = 1#1 ∧ _) ↔ _
  have hb : ∀ b : Bool, BitVec.ofBool b = 1#1 ↔ b = true := by decide
  rw [hb, hb, decide_eq_true_iff, decide_eq_true_iff]
  rfl

theorem frk_place (keys : Vec Ideal S16 .f32) (key : Fin 5 → EReal) (h : ∀ j : Fin 5, keys (ln (j.castLE (by norm_num))) = key j) (k : Fin 5) :
    frk keys (k.castLE (by norm_num)) = place key k := by
  classical
  have e : ∀ j : Fin 5, (if Goes key j k then 1 else 0) = (bef keys (j.castLE (by norm_num)) (k.castLE (by norm_num))).toNat := fun j => by
    have := bef_goes keys key h j k
    by_cases hg : Goes key j k
    · rw [if_pos hg, this.mpr hg]; rfl
    · rw [if_neg hg, Bool.eq_false_iff.mpr (fun hh => hg (this.mp hh))]; rfl
  have : place key k = ∑ j : Fin 5, (if Goes key j k then 1 else 0) := by
    rw [← Finset.card_filter]; unfold place; congr
  rw [this, Finset.sum_congr rfl fun j _ => e j, Fin.sum_univ_five]
  rfl

theorem flag_at (bld : Vec Ideal S1x16 .i32) : flagOf bld = bld (ix2 0 0) := by
  show extractAt ![0] (extractStridedSlice S1 ![0] (k0_pay168 bld) slices_S16_o0_S1) inpos_S1_p0 = _
  rw [extract_at (F := Ideal) (e := .i32) (k0_pay168 bld) ![0] slices_S16_o0_S1 inpos_S1_p0 0 rfl]
  exact cast16 (F := Ideal) (e := .i32) bld 0

theorem len_at (bld : Vec Ideal S1x16 .i32) : lenOf (k0_pay168 bld) = bld (ix2 0 1) := by
  show extractAt ![0] (extractStridedSlice S1 ![1] (k0_pay168 bld) slices_S16_o1_S1) inpos_S1_p0 = _
  rw [extract_at (F := Ideal) (e := .i32) (k0_pay168 bld) ![1] slices_S16_o1_S1 inpos_S1_p0 1 rfl]
  exact cast16 (F := Ideal) (e := .i32) bld 1

/-! ## The row -/

section

variable {T : IVec S16 32} {C : ℕ} (hT : ∀ x, T x = BitVec.ofNat 32 C) (hC : C ≤ 200) (ald : Vec Ideal S1x16 .f32)

include hT hC

theorem win_at (k : Fin 16) : (k0_pay40 lanes (k0_pay34 (F := Ideal) T) (k0_pay35 ald) (ln k) == 1#1) = decide (k.val < ws C (ald (ix2 0 5))) := by
  have hw := ws_bounds C (ald (ix2 0 5))
  show (IntOp.cmpi .slt (lanes (ln k)) (k0_pay37 (k0_pay34 T) (k0_pay35 ald) (ln k)) == 1#1) = _
  rw [pay37_at hT hC, lanes_isLane, ws_word, bit_slt, BitVec.slt_eq_decide, ofNat_toInt (by omega), ofNat_toInt (by omega)]
  exact decide_eq_decide.mpr (by omega)

theorem mask_at (k : Fin 16) : maskOf lanes T ald (ln k) = 1#1 ↔ k.val < ws C (ald (ix2 0 5)) ∧ 2 ≤ C := by
  rw [← beq_iff_eq]
  show (IntOp.andi (k0_pay40 lanes (k0_pay34 (F := Ideal) T) (k0_pay35 ald) (ln k)) (IntOp.cmpi .sge (T (ln k)) 2#32) == 1#1) = true ↔ _
  rw [bit_and, win_at hT hC, bit_sge, hT, Bool.and_eq_true, decide_eq_true_iff, BitVec.sle_iff_toInt_le, ofNat_toInt (n := C) (by omega),
    show (2#32 : BitVec 32).toInt = 2 from rfl]
  omega

theorem keys_at (j : Fin 5) : keysOf lanes (k0_pay166 (F := Ideal)) T ald (ln (j.castLE (by norm_num)))
    = winKey (ws C (ald (ix2 0 5))) (fun j => ald (ix2 0 (j.castLE (by norm_num)))) j := by
  have h := win_at hT hC ald (j.castLE (by norm_num))
  have e : keysOf lanes (k0_pay166 (F := Ideal)) T ald (ln (j.castLE (by norm_num)))
      = Scalar.select (k0_pay40 lanes (k0_pay34 (F := Ideal) T) (k0_pay35 ald) (ln (j.castLE (by norm_num))))
        (k0_pay6 ald (ln (j.castLE (by norm_num)))) (Ideal.ofBits .f32 0x7F800000#32) := rfl
  rw [e, inf]
  unfold winKey
  change _ = decide (j.val < _) at h
  by_cases hj : j.val < ws C (ald (ix2 0 5))
  · rw [if_pos hj]
    rw [decide_eq_true hj, beq_iff_eq] at h
    rw [h]
    exact cast16 (F := Ideal) (e := .f32) ald _
  · rw [if_neg hj]
    rw [decide_eq_false hj] at h
    rcases bv1_cases (k0_pay40 lanes (k0_pay34 (F := Ideal) T) (k0_pay35 ald) (ln (j.castLE (by norm_num)))) with h0 | h0
    · rw [h0]; rfl
    · rw [h0] at h; exact absurd h (by decide)

theorem pos_at {pk : Vec Ideal S256 .i32} {p : ℕ → Bool} (hp : ∀ q < 200, p q = true → ∀ hb : cnt p q < 256, pk (at256 ⟨_, hb⟩) = BitVec.ofNat 32 q)
    (h0 : 0 ≤ ald (ix2 0 6)) (h1 : ald (ix2 0 6) < 1) (h2 : 2 ≤ C) (k : Fin 16) (hk : k.val < ws C (ald (ix2 0 5))) (q : Fin 200)
    (hq : nth p (st C (ws C (ald (ix2 0 5))) (ald (ix2 0 6)) + k) q) :
    idxAt (s := W200) ![posOf lanes T ald pk] (pos_bd lanes T ald pk) (ln k) = ix1 q := by
  have hf := fits (uw := ald (ix2 0 5)) h0 h1 hC h2
  have hw := wpos_at hT hC ald h0 h1 h2 k hk
  have hn : (wposOf lanes T ald (ln k)).toNat = cnt p q := by rw [hw, toNat_ofNat (by omega), hq.2.2]
  have hl : loadIdx pk ![wposOf lanes T ald] (wpos_bd lanes T ald) (ln k) = BitVec.ofNat 32 q := by
    show pk (idxAt _ _ (ln k)) = _
    rw [at256_of (by have := cnt_le p q; have := q.isLt; omega) hn]
    exact hp q q.isLt hq.2.1 _
  have hx : posOf lanes T ald pk (ln k) = BitVec.ofNat 32 q := by
    show IntOp.minsi 199#32 (IntOp.maxsi 0#32 (loadIdx pk ![wposOf lanes T ald] (wpos_bd lanes T ald) (ln k))) = _
    have := q.isLt
    rw [hl]
    apply BitVec.eq_of_toInt_eq
    rw [minsi_toInt, maxsi_toInt, ofNat_toInt (n := q.val) (by omega), show (199#32 : BitVec 32).toInt = 199 from rfl, show (0#32 : BitVec 32).toInt = 0 from rfl]
    omega
  funext a
  obtain rfl : a = 0 := Subsingleton.elim _ _
  refine Fin.ext ?_
  show (posOf lanes T ald pk (ln k)).toNat = q.val
  rw [hx, toNat_ofNat (by have := q.isLt; omega)]

end

/-- The kernel's row is the specification's. -/
theorem rowSpec {row out : W200.Idx → BitVec 32} {ald : Vec Ideal S1x16 .f32} {bld : Vec Ideal S1x16 .i32}
    (hR : RowOut (F := Ideal) lanes_isLane (k0_pay166 (F := Ideal)) row ald bld out) (h0 : 0 ≤ ald (ix2 0 6)) (h1 : ald (ix2 0 6) < 1)
    (hlen : (bld (ix2 0 1)).toNat < 200) {go : Prop} (hgo : k0_cond1 (bld (ix2 0 0)) = 1#1 ↔ go) :
    RowSpec row out (bld (ix2 0 1)) go (ald (ix2 0 5)) (ald (ix2 0 6)) (fun j => ald (ix2 0 (j.castLE (by norm_num)))) := by
  unfold RowOut at hR
  rw [flag_at, len_at, hgo] at hR
  by_cases hg : go
  swap
  · exact ⟨fun _ => hR.1 hg, fun h => absurd h hg⟩
  obtain ⟨T, pk, st0, hP, hout⟩ := hR.2 hg
  obtain ⟨hT, hp⟩ := hP hlen
  set p := valid row (bld (ix2 0 1)) with hpd
  have hC : cnt p 200 ≤ 200 := cnt_le _ _
  have hm := mask_at hT hC ald
  refine ⟨fun hn => ?_, fun _ h2 => ?_⟩
  · funext x
    rw [hout]
    exact store_miss (F := Ideal) (e := .i32) row fun k hk => absurd ⟨hg, ((hm k).mp hk).2⟩ hn
  have hf := fits (uw := ald (ix2 0 5)) h0 h1 hC h2
  have hpos := pos_at hT hC ald hp h0 h1 h2
  have hex : ∀ k : Fin 16, k.val < ws (cnt p 200) (ald (ix2 0 5)) →
      ∃ q : Fin 200, nth p (st (cnt p 200) (ws (cnt p 200) (ald (ix2 0 5))) (ald (ix2 0 6)) + k) q := fun k hk => nth_exists p (by omega)
  change Shuffled row out p (ws (cnt p 200) (ald (ix2 0 5))) (st (cnt p 200) (ws (cnt p 200) (ald (ix2 0 5))) (ald (ix2 0 6))) _
  set w := ws (cnt p 200) (ald (ix2 0 5)) with hwd
  refine ⟨fun k j hk hj hpl qk qj hqk hqj => ?_, fun q hq => ?_⟩
  · have hik := hpos (k.castLE (by norm_num)) hk qk hqk
    rw [hout, ← hik]
    rw [store_hit (F := Ideal) (e := .i32) row (k.castLE (by norm_num)) ((hm _).mpr ⟨hk, h2⟩) (fun k' hk' he => by
      obtain ⟨q', hq'⟩ := hex k' ((hm k').mp hk').1
      rw [hik, hpos k' ((hm k').mp hk').1 q' hq'] at he
      have hv : q'.val = qk.val := congrArg (fun x : W200.Idx => (x 0).val) he
      have := (nth_inj hq' hqk).mp hv
      exact Fin.ext (by show k'.val = k.val; omega))]
    have hfr := frank_at (F := Ideal) (k0_pay166 (F := Ideal)) T ald lanes_isLane
    have hlt : ∀ i : Fin 5, (frankOf lanes (k0_pay166 (F := Ideal)) T ald (ln (i.castLE (by norm_num)))).toNat
        = place (winKey w (fun j => ald (ix2 0 (j.castLE (by norm_num))))) i := fun i => by
      rw [hfr, if_pos (show (i.castLE (by norm_num) : Fin 16).val < 5 from i.isLt), frk_place _ _ (keys_at hT hC ald), toNat_ofNat ((place_lt _ i).trans (by norm_num))]
    have hif : ln (k.castLE (by norm_num)) = idxAt (s := S16) ![frankOf lanes (k0_pay166 (F := Ideal)) T ald]
        (frank_bd (k0_pay166 (F := Ideal)) T ald lanes_isLane) (ln (j.castLE (by norm_num))) :=
      (at16 (by omega) ((hlt j).trans hpl)).symm
    rw [hif, store_hit (F := Ideal) (e := .i32) st0 (j.castLE (by norm_num)) rfl (fun k' _ he => by
      rw [← hif] at he
      have hv : (frankOf lanes (k0_pay166 (F := Ideal)) T ald (ln k')).toNat = k.val := congrArg (fun x : S16.Idx => (x 0).val) he
      by_cases h5 : k'.val < 5
      · have h' := hlt ⟨k'.val, h5⟩
        have hkj : (⟨k'.val, h5⟩ : Fin 5) = j := place_inj _ ((h'.symm.trans hv).trans hpl.symm)
        have hkv : k'.val = j.val := congrArg Fin.val hkj
        exact Fin.ext hkv
      · rw [hfr, if_neg h5, toNat_ofNat (by omega)] at hv
        omega)]
    show row (idxAt _ _ _) = _
    rw [hpos (j.castLE (by norm_num)) hj qj hqj]
  · rw [hout]
    refine store_miss (F := Ideal) (e := .i32) row fun k hk he => ?_
    have hk' := ((hm k).mp hk).1
    obtain ⟨q', hq'⟩ := hex k hk'
    rw [hpos k hk' q' hq'] at he
    have hv : q' = q := congrArg (fun x : W200.Idx => x 0) he
    exact hq ⟨k, by omega⟩ hk' (hv ▸ hq')

end Cert.Proof.KernelRow

end
-- ==== Proof.Pairs.lean ====
/-
  Reading a matrix at pairs of indices, and a row sorted: the reference's gathers and its two sorts, entry by entry.
-/
module

public import proofs.«01_k».proof.Proof.Spec
public import Idealize.ShloMosaic.Lib.Routing.OpsPair
public import Idealize.ShloMosaic.Lib.Pointwise.SelectCore

@[expose] public section

noncomputable section

namespace Cert.Proof.Pairs

open Idealize.ShloMosaic hiding ix1 ix2 ix3
open Cert.Proof.Lanes Cert.Proof.Chunk Cert.Proof.Order Cert.Proof.Spec
open Idealize.ShloMosaic.ValueIdx (ix1 ix2 ix3 eq_ix1 eq_ix2)

/-- Entry `(a, b)` of a gather by pairs: the matrix at the pair of words, when they name an entry. -/
theorem gather_pair {α : Type} {R C A B w : ℕ} (d : GatherDims (⟨2, ![R, C]⟩ : Shape) ⟨3, ![A, B, 2]⟩ ⟨2, ![A, B]⟩)
    (hsim : d.startIndexMap = [0, 1]) (hob : d.operandBatchingDims = []) (hcs : d.collapsedSliceDims = [0, 1]) (hoff : d.offsetDims = [])
    (hivd : d.indexVectorDim = 2) (hss : d.sliceSizes = ![1, 1]) (x : (⟨2, ![R, C]⟩ : Shape).Idx → α) (idx : IVec ⟨3, ![A, B, 2]⟩ w)
    (a : Fin A) (b : Fin B) (r : Fin R) (c : Fin C) (h0 : (idx (ix3 a b 0)).toInt = r.val) (h1 : (idx (ix3 a b 1)).toInt = c.val) :
    Host.gather d x idx (ix2 a b) = x (ix2 r c) := by
  have hm : ∀ q : Fin 2, q ∈ d.startIndexMap := fun q => by rw [hsim]; fin_cases q <;> simp
  have hsi : ∀ q : Fin 2, d.siIdx (ix2 a b) ⟨d.startIndexMap.idxOf q, List.idxOf_lt_length_iff.2 (hm q)⟩ = ix3 a b q := fun q => by
    have hk : d.siKept = [0, 1] := by
      show (List.finRange 3).filter (fun x => decide (x.val ≠ d.indexVectorDim)) = _
      rw [hivd]; rfl
    have hu : d.batchDims = [0, 1] := by
      show (⟨2, ![A, B]⟩ : Shape).kept d.offsetDims = _
      rw [hoff]; rfl
    have e : ∀ (l : List (Fin 2)) (n : ℕ) (h : n < l.length) (m : Fin 2), l = [0, 1] → n = m.val → l[n]'h = m := by
      rintro l n h m rfl rfl
      fin_cases m <;> rfl
    funext b'
    apply Fin.ext
    match b' with
    | ⟨0, _⟩ =>
      unfold GatherDims.siIdx
      rw [dif_neg (by rw [hivd]; exact (by decide : (0 : ℕ) ≠ 2))]
      unfold GatherDims.siCoord
      simp only [Fin.val_cast]
      rw [e _ _ _ 0 hu (by rw [hk]; rfl)]
    | ⟨1, _⟩ =>
      unfold GatherDims.siIdx
      rw [dif_neg (by rw [hivd]; exact (by decide : (1 : ℕ) ≠ 2))]
      unfold GatherDims.siCoord
      simp only [Fin.val_cast]
      rw [e _ _ _ 1 hu (by rw [hk]; rfl)]
    | ⟨2, _⟩ =>
      unfold GatherDims.siIdx
      rw [dif_pos (by rw [hivd])]
      show List.idxOf q d.startIndexMap = q.val
      rw [hsim]
      fin_cases q <;> rfl
  have hst : ∀ q : Fin 2, d.start (ix2 a b) idx q = min (idx (ix3 a b q)).toInt.toNat ((![R, C] : Fin 2 → ℕ) q - (![1, 1] : Fin 2 → ℕ) q) := fun q => by
    unfold GatherDims.start
    rw [dif_pos (hm q), hsi, hss]
  have hbo : ∀ q : Fin 2, d.batchCoord (ix2 a b) q + d.offCoord (ix2 a b) q = 0 := fun q => by
    rw [d.batchCoord_eq_zero _ q (by rw [hob]; simp), d.offCoord_eq_zero _ q (fun h => ((d.mem_sKept q).1 h).1 (by rw [hcs]; fin_cases q <;> simp))]
  show x (d.operandIdx (ix2 a b) idx) = _
  congr 1
  funext q
  apply Fin.ext
  show d.start (ix2 a b) idx q + d.batchCoord (ix2 a b) q + d.offCoord (ix2 a b) q = _
  rw [Nat.add_assoc, hbo, Nat.add_zero, hst]
  match q with
  | ⟨0, _⟩ =>
    show min (idx (ix3 a b 0)).toInt.toNat (R - 1) = r.val
    have := r.isLt; omega
  | ⟨1, _⟩ =>
    show min (idx (ix3 a b 1)).toInt.toNat (C - 1) = c.val
    have := c.isLt; omega

/-- A position in the first half of a pair of columns, and in the second. -/
theorem pair_at {α : Type} {A B : ℕ} (u v : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B) :
    concatenate (⟨3, ![A, B, 2]⟩ : Shape) 2 [⟨_, u⟩, ⟨_, v⟩] h (ix3 a b 0) = u (ix3 a b 0)
      ∧ concatenate (⟨3, ![A, B, 2]⟩ : Shape) 2 [⟨_, u⟩, ⟨_, v⟩] h (ix3 a b 1) = v (ix3 a b 0) := by
  constructor
  · refine (concatenate_pair_apply ..).trans ((dif_pos (show 0 < 1 by decide)).trans ?_)
    rw [Shape.Idx.norm_def]
    congr 1
    funext q
    match q with
    | ⟨0, _⟩ => rfl
    | ⟨1, _⟩ => rfl
    | ⟨2, _⟩ => rfl
  · refine (concatenate_pair_apply ..).trans ((dif_neg (show ¬ 1 < 1 by decide)).trans ?_)
    rw [Shape.Idx.norm_def]
    congr 1
    funext q
    match q with
    | ⟨0, _⟩ => rfl
    | ⟨1, _⟩ => rfl
    | ⟨2, _⟩ => rfl

/-- A row index moved along the second axis. -/
theorem along_row {A B : ℕ} (a : Fin A) (b k : Fin B) : Shape.Idx.along (s := ⟨2, ![A, B]⟩) (ix2 a b) ⟨1, Nat.one_lt_two⟩ k = ix2 a k := by
  funext q
  match q with
  | ⟨0, _⟩ => rfl
  | ⟨1, _⟩ => rfl

/-- A row sorted: its element at the place of element `i` is element `i`. -/
theorem sort_row {α κ : Type} [LinearOrder κ] {A B : ℕ} (cmp : α → α → BitVec 1) (x : (⟨2, ![A, B]⟩ : Shape).Idx → α) (a : Fin A) (key : Fin B → κ)
    (hk : ∀ k k' : Fin B, (cmp (x (ix2 a k)) (x (ix2 a k')) == 1#1) = decide (key k < key k')) (i k : Fin B) (hp : place key i = k) :
    Host.sort (⟨2, ![A, B]⟩ : Shape) 1 cmp x (ix2 a k) = x (ix2 a i) := by
  unfold Host.sort
  refine (dif_pos (show 1 < 2 by decide)).trans ?_
  refine (congrArg x (along_row a k _)).trans (congrArg (fun q : Fin B => x (ix2 a q)) ?_)
  refine sortedFrom_place key _ (fun k1 k2 => ?_) i k hp
  refine Eq.trans ?_ (hk k1 k2)
  exact congrArg (· == 1#1) (congrArg₂ cmp (congrArg x (along_row a k k1)) (congrArg x (along_row a k k2)))

/-- A row's second operand sorted alike. -/
theorem sort2_row {α β κ : Type} [LinearOrder κ] {A B : ℕ} (cmp : α × β → α × β → BitVec 1) (x : (⟨2, ![A, B]⟩ : Shape).Idx → α)
    (y : (⟨2, ![A, B]⟩ : Shape).Idx → β) (a : Fin A) (key : Fin B → κ)
    (hk : ∀ k k' : Fin B, (cmp (x (ix2 a k), y (ix2 a k)) (x (ix2 a k'), y (ix2 a k')) == 1#1) = decide (key k < key k')) (i k : Fin B) (hp : place key i = k) :
    (Host.sort2 (⟨2, ![A, B]⟩ : Shape) 1 cmp x y).2 (ix2 a k) = y (ix2 a i) := by
  unfold Host.sort2
  rw [dif_pos (show 1 < 2 by decide)]
  refine (congrArg y (along_row a k _)).trans (congrArg (fun q : Fin B => y (ix2 a q)) ?_)
  refine sortedFrom_place key _ (fun k1 k2 => ?_) i k hp
  refine Eq.trans ?_ (hk k1 k2)
  exact congrArg (· == 1#1) (congrArg₂ cmp (congrArg₂ Prod.mk (congrArg x (along_row a k k1)) (congrArg y (along_row a k k1)))
    (congrArg₂ Prod.mk (congrArg x (along_row a k k2)) (congrArg y (along_row a k k2))))

/-- A word below `2 ^ 31` is no negative index. -/
theorem wrap_id {n : ℕ} (hn : n < 2 ^ 31) (a : BitVec 32) :
    Scalar.select (IntOp.cmpi .slt (BitVec.ofNat 32 n) 0#32) a (BitVec.ofNat 32 n) = BitVec.ofNat 32 n :=
  Routing.wrap_of_lt _ _ (by rw [toNat_ofNat (by omega)]; exact hn)

/-- The clip of a position to the row. -/
theorem clip_id {n : ℕ} (hn : n < 200) : IntOp.minsi 199#32 (IntOp.maxsi 0#32 (BitVec.ofNat 32 n)) = BitVec.ofNat 32 n := by
  apply BitVec.eq_of_toInt_eq
  rw [minsi_toInt, maxsi_toInt, ofNat_toInt (n := n) (by omega), show (199#32 : BitVec 32).toInt = 199 from rfl, show (0#32 : BitVec 32).toInt = 0 from rfl]
  omega

/-- A clipped word is a position. -/
theorem clip_pos (u : BitVec 32) : ∃ q : Fin 200, IntOp.minsi 199#32 (IntOp.maxsi 0#32 u) = BitVec.ofNat 32 q := by
  have h : 0 ≤ (IntOp.minsi 199#32 (IntOp.maxsi 0#32 u)).toInt ∧ (IntOp.minsi 199#32 (IntOp.maxsi 0#32 u)).toInt < 200 := by
    rw [minsi_toInt, maxsi_toInt, show (199#32 : BitVec 32).toInt = 199 from rfl, show (0#32 : BitVec 32).toInt = 0 from rfl]
    omega
  have := toNat_of_toInt h.1
  exact ⟨⟨(IntOp.minsi 199#32 (IntOp.maxsi 0#32 u)).toNat, by omega⟩, by simp⟩

end Cert.Proof.Pairs

end
-- ==== Proof.RefRow.lean ====
/-
  The reference's row at exact reals: the scattered matrix is, row by row, the reordered row of the specification (`RowSpec`).
-/
module

public import proofs.«01_k».proof.Proof.Pairs
public import proofs.«01_k».proof.Proof.RefRun
public import Idealize.ShloMosaic.Lib.IdealHost
public import Idealize.ShloMosaic.Lib.StableHlo.Predicate
public import Idealize.ShloMosaic.Lib.Routing.OpsSet

@[expose] public section

noncomputable section

namespace Cert.Proof.RefRow

open Cert.ReferenceIdeal Cert.ReferenceIdeal.Gen Cert.Proof.RefRun
open Idealize.ShloMosaic hiding ix1 ix2 ix3 eq_ix1 eq_ix2
open Cert.Proof.Lanes Cert.Proof.Chunk Cert.Proof.Order Cert.Proof.Spec Cert.Proof.Pairs
open Idealize.ShloMosaic.ValueIdx (ix1 ix2 ix3 eq_ix1 eq_ix2)

variable (V : Valuation τ sig (Elt Ideal)) (R : Fin 16384)

/-! ## The arguments, and the draws -/

abbrev a0 : IVec S16384x200 32 := V (Proc.devRef .tc main_arg0)
abbrev a1 : IVec S16384 32 := V (Proc.devRef .tc main_arg1)
abbrev a2 : Vec Ideal S16384 .f32 := V (Proc.devRef .tc main_v19)
abbrev a3 : Vec Ideal S16384 .f32 := V (Proc.devRef .tc main_v20)
abbrev a4 : Vec Ideal S16384 .f32 := V (Proc.devRef .tc main_v21)
abbrev a5 : Vec Ideal S16384x5 .f32 := V (Proc.devRef .tc main_v22)

/-- One row, its valid positions, and how many they are. -/
def row : W200.Idx → BitVec 32 := fun j => a0 V (ix2 R (j 0))

def pv : ℕ → Bool := valid (row V R) (a1 V (ix1 R))

def C : ℕ := cnt (pv V R) 200

/-- The window's size and start. -/
def w : ℕ := ws (C V R) (a3 V (ix1 R))

def s : ℕ := st (C V R) (w V R) (a4 V (ix1 R))

/-- The row's part of the flag. -/
def flag : BitVec 1 := IntOp.andi (IntOp.cmpi .sgt (a1 V (ix1 R)) 2#32) (FloatOps.cmpf (F := Ideal) .ole (a2 V (ix1 R)) (FloatOps.ofBits .f32 0x3F000000#32))

theorem C_le : C V R ≤ 200 := cnt_le _ _

theorem w_bounds : 2 ≤ w V R ∧ w V R ≤ 5 := by
  have := ws_bounds (C V R) (a3 V (ix1 R))
  unfold w; omega

/-! ## Spread arguments -/

theorem ij_ix2 {n m : ℕ} (p : Fin n) (q : Fin m) : StableHlo.Predicate.ij p q = ix2 p q := by
  funext a
  match a with
  | ⟨0, _⟩ => rfl
  | ⟨1, _⟩ => rfl

theorem spread_rows {α : Type} {n m : ℕ} (h : (⟨1, ![n]⟩ : Shape).BroadcastsInDim ⟨2, ![n, 1]⟩ ![0]) (h' : (⟨2, ![n, 1]⟩ : Shape).BroadcastsInDim ⟨2, ![n, m]⟩ ![0, 1])
    (v : (⟨1, ![n]⟩ : Shape).Idx → α) (p : Fin n) (q : Fin m) :
    broadcastInDim ⟨2, ![n, m]⟩ ![0, 1] h' (broadcastInDim ⟨2, ![n, 1]⟩ ![0] h v) (ix2 p q) = v (ix1 p) := by
  rw [← ij_ix2]
  exact (StableHlo.Predicate.bcast_rows h h' v p q).trans (congrArg v (eq_ix1 _))

theorem spread_cols {α : Type} {n m : ℕ} (h : (⟨1, ![m]⟩ : Shape).BroadcastsInDim ⟨2, ![1, m]⟩ ![1]) (h' : (⟨2, ![1, m]⟩ : Shape).BroadcastsInDim ⟨2, ![n, m]⟩ ![0, 1])
    (v : (⟨1, ![m]⟩ : Shape).Idx → α) (p : Fin n) (q : Fin m) :
    broadcastInDim ⟨2, ![n, m]⟩ ![0, 1] h' (broadcastInDim ⟨2, ![1, m]⟩ ![1] h v) (ix2 p q) = v (ix1 q) := by
  rw [← ij_ix2]
  exact (StableHlo.Predicate.bcast_cols h h' v p q).trans (congrArg v (eq_ix1 _))

theorem spread_col {α : Type} {n m : ℕ} (h : (⟨2, ![n, 1]⟩ : Shape).BroadcastsInDim ⟨2, ![n, m]⟩ ![0, 1]) (v : (⟨2, ![n, 1]⟩ : Shape).Idx → α) (p : Fin n) (q : Fin m) :
    broadcastInDim ⟨2, ![n, m]⟩ ![0, 1] h v (ix2 p q) = v (ix2 p 0) := by
  rw [← ij_ix2]
  exact (StableHlo.Predicate.bcast_of_col h v p q).trans (congrArg v (eq_ix2 _))

theorem lifted {α : Type} (z : S16384x5.Idx → α) (k : Fin 5) : broadcastInDim S16384x5x1 ![0, 1] bcast_S16384x5_S16384x5x1_0_1 z (ix3 R k 0) = z (ix2 R k) := by
  unfold broadcastInDim
  congr 1
  funext a
  match a with
  | ⟨0, _⟩ => rfl
  | ⟨1, _⟩ => rfl

/-! ## The valid items -/

theorem v33_at (q : Fin 200) : (res_main_v33 V (ix2 R q) == 1#1) = pv V R q := by
  have e : res_main_v33 V (ix2 R q) = IntOp.andi (IntOp.cmpi .slt (BitVec.ofNat 32 q) (a1 V (ix1 R))) (IntOp.cmpi .ne (a0 V (ix2 R q)) 0#32) := by
    unfold res_main_v33 res_main_v26
    refine congrArg₂ IntOp.andi (congrArg₂ (IntOp.cmpi .slt) ?_ ?_) rfl
    · exact spread_cols bcast_S200_S1x200_1 bcast_S1x200_S16384x200_0_1 _ R q
    · exact spread_rows bcast_S16384_S16384x1_0 bcast_S16384x1_S16384x200_0_1 _ R q
  rw [e, bit_and, bit_slt, bit_ne, Bool.and_comm]
  unfold pv valid rd
  rw [dif_pos q.isLt]
  rfl

theorem v35_at : res_main_v35 V (ix1 R) = BitVec.ofNat 32 (C V R) := by
  apply BitVec.eq_of_toNat_eq
  have hC := C_le V R
  rw [toNat_ofNat (n := C V R) (by omega)]
  refine (StableHlo.Predicate.toNat_reduce_count_cols (by norm_num) (res_main_v33 V) natLt_1_32 reducesTo_S16384x200_S16384_d1 h_S_ (ix1 R)).trans ?_
  refine Eq.trans ?_ (card_all (pv V R) 200)
  congr 1
  refine Finset.filter_congr fun q _ => ?_
  rw [← v33_at V R q, beq_iff_eq]
  have e : (StableHlo.Predicate.ij ((ix1 R : S16384.Idx) 0) q : S16384x200.Idx) = ix2 R q := by
    funext a
    match a with
    | ⟨0, _⟩ => rfl
    | ⟨1, _⟩ => rfl
  rw [← e]

theorem v47_at : res_main_v47 V (ix1 R) = BitVec.ofNat 32 (min (C V R) 5) := by
  have e : res_main_v47 V (ix1 R) = IntOp.minsi (res_main_v35 V (ix1 R)) 5#32 := rfl
  have hC := C_le V R
  rw [e, v35_at]
  apply BitVec.eq_of_toInt_eq
  rw [minsi_toInt, ofNat_toInt (n := C V R) (by omega), ofNat_toInt (n := min (C V R) 5) (by omega), show (5#32 : BitVec 32).toInt = 5 from rfl]
  omega

/-! ## The window -/

/-- A difference and one more, at least one, as a word. -/
theorem gap_word {a b : ℕ} (ha : a ≤ 200) (hb : b ≤ 200) :
    (((IntOp.maxsi (IntOp.addi (IntOp.subi (BitVec.ofNat 32 a) (BitVec.ofNat 32 b)) 1#32) 1#32).toInt : ℝ) : EReal) = nat (max (a + 1 - b) 1) := by
  have h : (IntOp.maxsi (IntOp.addi (IntOp.subi (BitVec.ofNat 32 a) (BitVec.ofNat 32 b)) 1#32) 1#32).toInt = ((max (a + 1 - b) 1 : ℕ) : ℤ) := by
    have e : (IntOp.addi (IntOp.subi (BitVec.ofNat 32 a) (BitVec.ofNat 32 b)) 1#32).toInt = (a : ℤ) - b + 1 := by
      show (BitVec.ofNat 32 a - BitVec.ofNat 32 b + 1#32).toInt = _
      rw [BitVec.toInt_add, BitVec.toInt_sub, ofNat_toInt (n := a) (by omega), ofNat_toInt (n := b) (by omega), show (1#32 : BitVec 32).toInt = 1 from rfl,
        Int.bmod_eq_of_le (n := (a : ℤ) - b) (by omega) (by omega), Int.bmod_eq_of_le (by omega) (by omega)]
    rw [maxsi_toInt, e, show (1#32 : BitVec 32).toInt = 1 from rfl]
    omega
  rw [h, nat]
  norm_cast

theorem v62_at : res_main_v62 V (ix1 R) = wsW (C V R) (a3 V (ix1 R)) := by
  have e : res_main_v62 V (ix1 R) = IntOp.minsi (IntOp.maxsi (res_main_v47 V (ix1 R)) 2#32) (IntOp.maxsi 2#32 (2#32 + Ideal.fptosi 32
      (Ideal.liftRound Int.floor (a3 V (ix1 R) * (((IntOp.maxsi (IntOp.addi (IntOp.subi (res_main_v47 V (ix1 R)) (BitVec.ofNat 32 2)) 1#32) 1#32).toInt : ℝ) : EReal))))) := rfl
  rw [e, two_floor, v47_at, gap_word (by omega) (by omega)]
  unfold wsW
  rw [show min (C V R) 5 + 1 - 2 = min (C V R) 5 - 1 by omega]

theorem v77_at (k : Fin 5) : (res_main_v77 V (ix2 R k) == 1#1) = decide (k.val < w V R) := by
  have e : res_main_v77 V (ix2 R k) = IntOp.cmpi .slt (BitVec.ofNat 32 k) (res_main_v62 V (ix1 R)) := by
    unfold res_main_v77 res_main_v73
    refine congrArg₂ (IntOp.cmpi .slt) ?_ ?_
    · exact spread_cols bcast_S5_S1x5_1 bcast_S1x5_S16384x5_0_1 _ R k
    · exact spread_rows bcast_S16384_S16384x1_0 bcast_S16384x1_S16384x5_0_1 _ R k
  have hw := w_bounds V R
  have hk := k.isLt
  rw [e, v62_at, ws_word, bit_slt, BitVec.slt_eq_decide]
  change decide (_ < (BitVec.ofNat 32 (w V R)).toInt) = _
  rw [ofNat_toInt (n := k.val) (by omega), ofNat_toInt (n := w V R) (by omega)]
  exact decide_eq_decide.mpr (by omega)

section

variable (h0 : 0 ≤ a4 V (ix1 R)) (h1 : a4 V (ix1 R) < 1) (h2 : 2 ≤ C V R)

include h0 h1 h2

theorem fit : s V R + w V R ≤ C V R ∧ w V R ≤ 5 := fits h0 h1 (C_le V R) h2

theorem v82_at (k : Fin 5) (hk : k.val < w V R) : res_main_v82 V (ix2 R k) = BitVec.ofNat 32 (s V R + k) := by
  have e : res_main_v82 V (ix2 R k) = IntOp.minsi 199#32 (IntOp.maxsi 0#32 (Ideal.fptosi 32 (Ideal.liftRound Int.floor (a4 V (ix1 R)
      * (((IntOp.maxsi (IntOp.addi (IntOp.subi (res_main_v35 V (ix1 R)) (res_main_v62 V (ix1 R))) 1#32) 1#32).toInt : ℝ) : EReal))) + BitVec.ofNat 32 k)) := by
    unfold res_main_v82 res_main_v73
    refine congrArg (fun x => IntOp.minsi 199#32 (IntOp.maxsi 0#32 x)) (congrArg₂ IntOp.addi ?_ ?_)
    · exact spread_rows bcast_S16384_S16384x1_0 bcast_S16384x1_S16384x5_0_1 _ R k
    · exact spread_cols bcast_S5_S1x5_1 bcast_S1x5_S16384x5_0_1 _ R k
  have hf := fit V R h0 h1 h2
  have hC := C_le V R
  have hs := start_spec (w := w V R) h0 h1 hC
  rw [e, v35_at, v62_at, ws_word]
  change IntOp.minsi 199#32 (IntOp.maxsi 0#32 (Ideal.fptosi 32 (Ideal.liftRound Int.floor (a4 V (ix1 R)
      * (((IntOp.maxsi (IntOp.addi (IntOp.subi (BitVec.ofNat 32 (C V R)) (BitVec.ofNat 32 (w V R))) 1#32) 1#32).toInt : ℝ) : EReal))) + BitVec.ofNat 32 k)) = _
  rw [gap_word hC (by omega), hs.2.2, hs.1]
  change IntOp.minsi 199#32 (IntOp.maxsi 0#32 (BitVec.ofNat 32 (s V R) + _)) = _
  rw [← BitVec.ofNat_add, clip_id (by omega)]

end

/-! ## The packed positions -/

/-- The positions of the valid items, and 200 elsewhere. -/
def marked : IVec S16384x200 32 :=
  select (res_main_v33 V) (broadcastInDim S16384x200 ![0, 1] bcast_S1x200_S16384x200_0_1 (res_main_v26 V)) (broadcastInDim S16384x200 ![] bcast_S_S16384x200 (id (constantI S_ 32 200#32)))

theorem marked_at (q : Fin 200) : marked V (ix2 R q) = BitVec.ofNat 32 (if pv V R q then q.val else 200) := by
  have e : marked V (ix2 R q) = Scalar.select (res_main_v33 V (ix2 R q)) (BitVec.ofNat 32 q) 200#32 := rfl
  have h := v33_at V R q
  rw [e]
  rcases bv1_cases (res_main_v33 V (ix2 R q)) with h' | h' <;> rw [h'] at h ⊢ <;> rw [← h] <;> rfl

theorem packed_at {i q : ℕ} (hi : i < 200) (hn : nth (pv V R) i q) :
    Host.sort S16384x200 1 comparator_i32_d1 (marked V) (ix2 R ⟨i, hi⟩) = BitVec.ofNat 32 q := by
  classical
  obtain ⟨hq, hp, hc⟩ := hn
  have hkey : ∀ q : Fin 200, (marked V (ix2 R q)).toInt = ((if pv V R q then q.val else 200 : ℕ) : ℤ) := fun q => by
    rw [marked_at]
    refine ofNat_toInt ?_
    have := q.isLt
    split <;> omega
  have hpl : place (fun q : Fin 200 => (marked V (ix2 R q)).toInt) ⟨q, hq⟩ = i := by
    rw [← hc, ← card_below (pv V R) hq.le]
    unfold place
    congr 1
    refine Finset.filter_congr fun j _ => ?_
    have hj := j.isLt
    unfold Goes
    dsimp only
    rw [hkey, hkey, if_pos hp, Fin.lt_def]
    change _ < ((q : ℕ) : ℤ) ∨ _ = ((q : ℕ) : ℤ) ∧ j.val < q ↔ _
    by_cases hpj : pv V R j = true
    · rw [if_pos hpj]
      simp only [hpj, true_and]
      omega
    · rw [if_neg hpj]
      simp only [hpj, false_and, iff_false]
      simp
      omega
  refine (sort_row comparator_i32_d1 (marked V) R (fun q : Fin 200 => (marked V (ix2 R q)).toInt) (fun k k' => ?_) ⟨q, hq⟩ ⟨i, hi⟩ hpl).trans ?_
  · show (IntOp.cmpi .slt _ _ == 1#1) = _
    rw [bit_slt, BitVec.slt_eq_decide]
  · rw [marked_at, if_pos hp]

/-! ## The pairs of indices -/

/-- A word of index, counted from the end when negative. -/
def wrapped (n : BitVec 32) (y : IVec S16384x5 32) : IVec S16384x5 32 :=
  select (cmpi .slt y (broadcastInDim S16384x5 ![] bcast_S_S16384x5 (constantI S_ 32 0#32))) (addi y (broadcastInDim S16384x5 ![] bcast_S_S16384x5 (constantI S_ 32 n))) y

/-- Each row's own number beside a column. -/
def pairs (z : IVec S16384x5 32) : IVec S16384x5x2 32 :=
  concatenate S16384x5x2 2 [⟨S16384x5x1, (broadcastInDim S16384x5x1 ![0, 1] bcast_S16384x5_S16384x5x1_0_1 (broadcastInDim S16384x5 ![0, 1] bcast_S16384x1_S16384x5_0_1 (select (cmpi .slt (res_main_v24 V) (broadcastInDim S16384x1 ![] bcast_S_S16384x1 (constantI S_ 32 0#32))) (addi (res_main_v24 V) (broadcastInDim S16384x1 ![] bcast_S_S16384x1 (constantI S_ 32 16384#32))) (res_main_v24 V))))⟩, ⟨S16384x5x1, (broadcastInDim S16384x5x1 ![0, 1] bcast_S16384x5_S16384x5x1_0_1 z)⟩] concatenates_S16384x5x1_S16384x5x1_S16384x5x2_d2

theorem pairs_row (z : IVec S16384x5 32) (k : Fin 5) : (pairs V z (ix3 R k 0)).toInt = R.val := by
  have hR := R.isLt
  have e : pairs V z (ix3 R k 0) = Scalar.select (IntOp.cmpi .slt (BitVec.ofNat 32 R) 0#32) (IntOp.addi (BitVec.ofNat 32 R) 16384#32) (BitVec.ofNat 32 R) :=
    (pair_at _ _ concatenates_S16384x5x1_S16384x5x1_S16384x5x2_d2 R k).1.trans
      ((lifted R _ k).trans ((spread_col bcast_S16384x1_S16384x5_0_1 _ R k).trans rfl))
  rw [e, wrap_id (by omega), ofNat_toInt (by omega)]

theorem pairs_col (z : IVec S16384x5 32) (k : Fin 5) : pairs V z (ix3 R k 1) = z (ix2 R k) :=
  (pair_at _ _ concatenates_S16384x5x1_S16384x5x1_S16384x5x2_d2 R k).2.trans (lifted R z k)

theorem wrapped_at (n : BitVec 32) (y : IVec S16384x5 32) (k : Fin 5) {c : ℕ} (hc : c < 2 ^ 31) (h : y (ix2 R k) = BitVec.ofNat 32 c) :
    (wrapped n y (ix2 R k)).toInt = c := by
  have e : wrapped n y (ix2 R k) = Scalar.select (IntOp.cmpi .slt (y (ix2 R k)) 0#32) (IntOp.addi (y (ix2 R k)) n) (y (ix2 R k)) := rfl
  rw [e, h, wrap_id hc, ofNat_toInt hc]

theorem gather_row (x : IVec S16384x200 32) (n : BitVec 32) (y : IVec S16384x5 32) (k : Fin 5) (q : Fin 200) (h : y (ix2 R k) = BitVec.ofNat 32 q) :
    Host.gather gather_S16384x200_S16384x5x2_S16384x5_n_01_n_n_01_2_11 x (pairs V (wrapped n y)) (ix2 R k) = x (ix2 R q) :=
  gather_pair _ rfl rfl rfl rfl rfl rfl x _ R k R q (pairs_row V R _ k) (by rw [pairs_col]; exact wrapped_at R n y k (by have := q.isLt; omega) h)

theorem gather_win (x : IVec S16384x5 32) (n : BitVec 32) (y : IVec S16384x5 32) (k j : Fin 5) (h : y (ix2 R k) = BitVec.ofNat 32 j) :
    Host.gather gather_S16384x5_S16384x5x2_S16384x5_n_01_n_n_01_2_11 x (pairs V (wrapped n y)) (ix2 R k) = x (ix2 R j) :=
  gather_pair _ rfl rfl rfl rfl rfl rfl x _ R k R j (pairs_row V R _ k) (by rw [pairs_col]; exact wrapped_at R n y k (by have := j.isLt; omega) h)

/-! ## The window's positions -/

theorem v98_pos (k : Fin 5) : ∃ q : Fin 200, res_main_v98 V (ix2 R k) = BitVec.ofNat 32 q := clip_pos _

theorem v98_at (h0 : 0 ≤ a4 V (ix1 R)) (h1 : a4 V (ix1 R) < 1) (h2 : 2 ≤ C V R) (k : Fin 5) (hk : k.val < w V R) {q : ℕ} (hn : nth (pv V R) (s V R + k) q) :
    res_main_v98 V (ix2 R k) = BitVec.ofNat 32 q := by
  have hf := fit V R h0 h1 h2
  have hC := C_le V R
  have e : res_main_v98 V (ix2 R k) = IntOp.minsi 199#32 (IntOp.maxsi 0#32 (Host.gather gather_S16384x200_S16384x5x2_S16384x5_n_01_n_n_01_2_11
      (Host.sort S16384x200 1 comparator_i32_d1 (marked V)) (pairs V (wrapped 200#32 (res_main_v82 V))) (ix2 R k))) := rfl
  rw [e, gather_row V R _ _ _ k ⟨s V R + k, by omega⟩ (v82_at V R h0 h1 h2 k hk), packed_at V R _ hn, clip_id hn.1]

/-! ## The order of the keys -/

theorem canon (x : Ideal .f32) :
    Scalar.select (FloatOps.cmpf (F := Ideal) .une x x) (FloatOps.ofBits (F := Ideal) .f32 0x7FC00000#32)
      (Scalar.select (FloatOps.cmpf (F := Ideal) .oeq x (FloatOps.ofBits (F := Ideal) .f32 0x00000000#32)) (FloatOps.ofBits (F := Ideal) .f32 0x00000000#32) x) = x := by
  have e : FloatOps.cmpf (F := Ideal) .une x x = 0#1 := by
    show BitVec.ofBool (decide (x ≠ x)) = 0#1
    simp
  rw [e]
  show Scalar.select _ _ _ = x
  have e2 : ∀ y : Ideal .f32, FloatOps.cmpf (F := Ideal) .oeq x y = BitVec.ofBool (decide (x = y)) := fun _ => rfl
  rw [e2]
  by_cases h : x = FloatOps.ofBits (F := Ideal) .f32 0x00000000#32
  · rw [decide_eq_true h]; exact h.symm
  · rw [decide_eq_false h]; rfl

theorem before_at (l r : Ideal .f32 × BitVec 32) : (comparator_f32_i32_d1 (F := Ideal) l r == 1#1) = decide ((show EReal from l.1) < r.1) := by
  unfold comparator_f32_i32_d1
  dsimp only
  rw [canon, canon]
  change (BitVec.ofBool (decide ((show EReal from l.1) < r.1)) == 1#1) = _
  have hb : ∀ b : Bool, (BitVec.ofBool b == 1#1) = b := by decide
  rw [hb]

theorem v114_at (k : Fin 5) : res_main_v114 V (ix2 R k) = winKey (w V R) (fun j => a5 V (ix2 R j)) k := by
  have e : res_main_v114 V (ix2 R k) = Scalar.select (res_main_v77 V (ix2 R k)) (a5 V (ix2 R k)) (Ideal.ofBits .f32 0x7F800000#32) := rfl
  have hi : Ideal.ofBits .f32 0x7F800000#32 = ⊤ := by simp [Ideal.ofBits, Ideal.ieee]
  have h := v77_at V R k
  rw [e, hi]
  unfold winKey
  by_cases hk : k.val < w V R
  · rw [if_pos hk]
    rw [decide_eq_true hk, beq_iff_eq] at h
    rw [h]; rfl
  · rw [if_neg hk]
    rw [decide_eq_false hk] at h
    rcases bv1_cases (res_main_v77 V (ix2 R k)) with h' | h'
    · rw [h']; rfl
    · rw [h'] at h; exact absurd h (by decide)

theorem v115_at (k j : Fin 5) (hp : place (winKey (w V R) (fun j => a5 V (ix2 R j))) j = k) : res_main_v115 V (ix2 R k) = BitVec.ofNat 32 j := by
  refine (sort2_row (comparator_f32_i32_d1 (F := Ideal)) (res_main_v114 V) (res_main_call12_v0 V) R _ (fun k k' => ?_) j k hp).trans rfl
  rw [before_at, ← v114_at V R k, ← v114_at V R k']

/-! ## Where the window is written -/

def target : IVec S16384x5 32 := res_main_v134 V

theorem target_at (k : Fin 5) : target V (ix2 R k) = if flag V R = 1#1 ∧ 2 ≤ C V R ∧ k.val < w V R then res_main_v98 V (ix2 R k) else 200#32 := by
  have e : target V (ix2 R k) = Scalar.select (IntOp.andi (IntOp.andi (flag V R) (IntOp.cmpi .sge (res_main_v35 V (ix1 R)) 2#32)) (res_main_v77 V (ix2 R k)))
      (res_main_v98 V (ix2 R k)) 200#32 := by
    unfold target res_main_v134
    refine congrArg (fun b => Scalar.select b (res_main_v98 V (ix2 R k)) 200#32) (congrArg₂ IntOp.andi ?_ rfl)
    exact spread_rows bcast_S16384_S16384x1_0 bcast_S16384x1_S16384x5_0_1 _ R k
  have hC := C_le V R
  have hb : (IntOp.andi (IntOp.andi (flag V R) (IntOp.cmpi .sge (res_main_v35 V (ix1 R)) 2#32)) (res_main_v77 V (ix2 R k)) == 1#1) = true
      ↔ flag V R = 1#1 ∧ 2 ≤ C V R ∧ k.val < w V R := by
    rw [bit_and, bit_and, v77_at, bit_sge, v35_at, Bool.and_eq_true, Bool.and_eq_true, decide_eq_true_iff, beq_iff_eq, BitVec.sle_iff_toInt_le,
      ofNat_toInt (n := C V R) (by omega), show (2#32 : BitVec 32).toInt = 2 from rfl, and_assoc]
    exact and_congr_right fun _ => and_congr_left fun _ => by omega
  rw [e]
  by_cases h : flag V R = 1#1 ∧ 2 ≤ C V R ∧ k.val < w V R
  · rw [if_pos h, beq_iff_eq.mp (hb.mpr h)]; rfl
  · rw [if_neg h]
    rcases bv1_cases (IntOp.andi (IntOp.andi (flag V R) (IntOp.cmpi .sge (res_main_v35 V (ix1 R)) 2#32)) (res_main_v77 V (ix2 R k))) with h' | h'
    · rw [h']; rfl
    · rw [h'] at hb; exact absurd (hb.mp rfl) h

/-- The window's items in their new order. -/
def moved : IVec S16384x5 32 :=
  Host.gather gather_S16384x5_S16384x5x2_S16384x5_n_01_n_n_01_2_11
    (Host.gather gather_S16384x200_S16384x5x2_S16384x5_n_01_n_n_01_2_11 (a0 V) (pairs V (wrapped 200#32 (res_main_v98 V)))) (pairs V (wrapped 5#32 (res_main_v115 V)))

/-- The reference's result. -/
def result : IVec S16384x200 32 :=
  Host.scatter scatter_S16384x200_S16384x5x2_S16384x5_n_01_01_2 (fun _ b => b) (a0 V) (pairs V (wrapped 200#32 (target V))) (moved V)

theorem moved_at (k j : Fin 5) (hp : place (winKey (w V R) (fun j => a5 V (ix2 R j))) j = k) (q : Fin 200) (hq : res_main_v98 V (ix2 R j) = BitVec.ofNat 32 q) :
    moved V (ix2 R k) = row V R (ix1 q) := by
  unfold moved
  rw [gather_win V R _ _ _ k j (v115_at V R k j hp), gather_row V R _ _ _ j q hq]
  rfl

/-- An update lands on an entry: it is the row's own, and of a position of the window that is written. -/
theorem lands (a : Fin 16384) (k : Fin 5) (q : Fin 200)
    (h : scatter_S16384x200_S16384x5x2_S16384x5_n_01_01_2.resultIdx? (ix2 a k) (pairs V (wrapped 200#32 (target V))) = some (ix2 R q)) :
    a = R ∧ (flag V R = 1#1 ∧ 2 ≤ C V R ∧ k.val < w V R) ∧ res_main_v98 V (ix2 R k) = BitVec.ofNat 32 q := by
  have h := (Routing.scatter_lands2 scatter_S16384x200_S16384x5x2_S16384x5_n_01_01_2 rfl rfl rfl _ a k R q).mp h
  rw [pairs_row, pairs_col] at h
  obtain rfl : a = R := Fin.ext (by exact_mod_cast h.1)
  refine ⟨rfl, ?_⟩
  have ht := target_at V a k
  by_cases hg : flag V a = 1#1 ∧ 2 ≤ C V a ∧ k.val < w V a
  · rw [if_pos hg] at ht
    obtain ⟨q', hq'⟩ := v98_pos V a k
    have := wrapped_at a 200#32 (target V) k (c := q'.val) (by have := q'.isLt; omega) (ht.trans hq')
    rw [this] at h
    obtain rfl : q' = q := Fin.ext (by exact_mod_cast h.2)
    exact ⟨hg, hq'⟩
  · rw [if_neg hg] at ht
    have := wrapped_at a 200#32 (target V) k (c := 200) (by norm_num) ht
    have hq := q.isLt
    rw [this] at h
    have := h.2
    omega

theorem lands_of (k : Fin 5) (q : Fin 200) (hg : flag V R = 1#1 ∧ 2 ≤ C V R ∧ k.val < w V R) (hq : res_main_v98 V (ix2 R k) = BitVec.ofNat 32 q) :
    scatter_S16384x200_S16384x5x2_S16384x5_n_01_01_2.resultIdx? (ix2 R k) (pairs V (wrapped 200#32 (target V))) = some (ix2 R q) := by
  refine (Routing.scatter_lands2 scatter_S16384x200_S16384x5x2_S16384x5_n_01_01_2 rfl rfl rfl _ R k R q).mpr ⟨pairs_row V R _ k, ?_⟩
  have ht := target_at V R k
  rw [if_pos hg] at ht
  rw [pairs_col]
  exact wrapped_at R 200#32 (target V) k (by have := q.isLt; omega) (ht.trans hq)

theorem kept (q : Fin 200) (h : ∀ k : Fin 5, (flag V R = 1#1 ∧ 2 ≤ C V R ∧ k.val < w V R) → res_main_v98 V (ix2 R k) ≠ BitVec.ofNat 32 q) :
    result V (ix2 R q) = row V R (ix1 q) := by
  refine Routing.scatter_set_miss _ _ _ _ _ fun x hx => ?_
  obtain ⟨a, k, rfl⟩ : ∃ a k, x = ix2 a k := ⟨x 0, x 1, eq_ix2 _⟩
  obtain ⟨rfl, hg, hq⟩ := lands V R a k q hx
  exact h k hg hq

/-- The reference's row is the specification's. -/
theorem rowSpec (h0 : 0 ≤ a4 V (ix1 R)) (h1 : a4 V (ix1 R) < 1) :
    RowSpec (row V R) (fun j => result V (ix2 R (j 0))) (a1 V (ix1 R)) (flag V R = 1#1) (a3 V (ix1 R)) (a4 V (ix1 R)) (fun j => a5 V (ix2 R j)) := by
  refine ⟨fun hn => ?_, fun hg h2 => ?_⟩
  · funext x
    obtain ⟨q, rfl⟩ : ∃ q : Fin 200, x = ix1 q := ⟨x 0, eq_ix1 _⟩
    exact kept V R q fun k hk => absurd ⟨hk.1, hk.2.1⟩ hn
  change 2 ≤ C V R at h2
  change Shuffled (row V R) _ (pv V R) (w V R) (s V R) _
  have hf := fit V R h0 h1 h2
  have hex : ∀ k : Fin 5, k.val < w V R → ∃ q : Fin 200, nth (pv V R) (s V R + k) q := fun k hk => nth_exists _ (by change _ < C V R; omega)
  have hval : ∀ a b : Fin 200, BitVec.ofNat 32 a = BitVec.ofNat 32 b → a = b := fun a b h => by
    have := congrArg BitVec.toNat h
    rw [toNat_ofNat (by omega), toNat_ofNat (by omega)] at this
    exact Fin.ext this
  refine ⟨fun k j hk hj hp qk qj hqk hqj => ?_, fun q hq => ?_⟩
  · refine Routing.scatter_set_hit _ _ _ _ _ _ (fun x hx => ?_) (ix2 R k) (lands_of V R k qk ⟨hg, h2, hk⟩ (v98_at V R h0 h1 h2 k hk hqk))
    obtain ⟨a, k', rfl⟩ : ∃ a k', x = ix2 a k' := ⟨x 0, x 1, eq_ix2 _⟩
    obtain ⟨rfl, hg', hq'⟩ := lands V R a k' qk hx
    obtain ⟨q', hn'⟩ := hex k' hg'.2.2
    rw [v98_at V a h0 h1 h2 k' hg'.2.2 hn'] at hq'
    obtain rfl := hval _ _ hq'
    have hkk := (nth_inj hn' hqk).mp rfl
    obtain rfl : k' = k := Fin.ext (by omega)
    exact moved_at V a k' j hp qj (v98_at V a h0 h1 h2 j hj hqj)
  · refine kept V R q fun k hk h => ?_
    obtain ⟨q', hn'⟩ := hex k hk.2.2
    rw [v98_at V R h0 h1 h2 k hk.2.2 hn'] at h
    obtain rfl := hval _ _ h
    exact hq k hk.2.2 hn'

end Cert.Proof.RefRow

end
-- ==== Proof.Unit.lean ====
/-
  The third draw at exact reals: it lies from zero up to one.
-/
module

public import proofs.«01_k».proof.Proof.Start
public import Idealize.ShloMosaic.Lib.IdealHost

@[expose] public section

noncomputable section

namespace Cert.Proof.Draws

open Idealize.ShloMosaic

theorem ofBits_zero : Ideal.ofBits .f32 0x00000000#32 = 0 := by simp [Ideal.ofBits, Ideal.ieee]

theorem word_sign (w : BitVec 32) : ((w >>> 9) ||| 0x3F800000#32).extractLsb' 31 1 = 0#1 := by
  refine BitVec.eq_of_getLsbD_eq fun i hi => ?_
  obtain rfl : i = 0 := by omega
  simp

theorem word_exponent (w : BitVec 32) : ((w >>> 9) ||| 0x3F800000#32).extractLsb' 23 8 = 127#8 := by
  refine BitVec.eq_of_getLsbD_eq fun i hi => ?_
  have h : w.getLsbD (9 + (23 + i)) = false := BitVec.getLsbD_of_ge _ _ (by omega)
  simp only [BitVec.getLsbD_extractLsb', BitVec.getLsbD_or, BitVec.getLsbD_ushiftRight, h, Bool.false_or]
  clear h
  revert i
  decide

/-- Words of this form are the numbers from one up to two. -/
theorem word_range (w : BitVec 32) : ∃ x : ℝ, 1 ≤ x ∧ x < 2 ∧ Ideal.ofBits .f32 ((w >>> 9) ||| 0x3F800000#32) = (x : EReal) := by
  have hf := (((w >>> 9) ||| 0x3F800000#32).extractLsb' 0 23).isLt
  generalize hb : (w >>> 9) ||| 0x3F800000#32 = b at hf ⊢
  have hs : b.extractLsb' 31 1 = 0#1 := hb ▸ word_sign w
  have he : b.extractLsb' 23 8 = 127#8 := hb ▸ word_exponent w
  refine ⟨(2 ^ 23 + (b.extractLsb' 0 23).toNat : ℕ) * (2 : ℝ) ^ (-23 : ℤ), ?_, ?_, ?_⟩
  · rw [zpow_neg, ← div_eq_mul_inv, le_div_iff₀ (by positivity), one_mul]
    exact_mod_cast Nat.le_add_right _ _
  · rw [zpow_neg, ← div_eq_mul_inv, div_lt_iff₀ (by positivity)]
    have : 2 ^ 23 + (b.extractLsb' 0 23).toNat < 2 * 2 ^ 23 := by omega
    exact_mod_cast this
  · simp only [Ideal.ofBits, Ideal.ieee, Nat.reduceAdd, hs, he]
    norm_num

theorem unit_range (y : IVec KernelIdeal.S16384 32) (i : KernelIdeal.S16384.Idx) :
    (0 : EReal) ≤ unit (F := Ideal) y i ∧ (show EReal from unit (F := Ideal) y i) < 1 := by
  have e : unit (F := Ideal) y i = max (Ideal.ofBits .f32 0x00000000#32)
      ((Ideal.ofBits .f32 ((y i >>> 9) ||| 0x3F800000#32) - Ideal.ofBits .f32 0x3F800000#32)
        * (Ideal.ofBits .f32 0x3F800000#32 - Ideal.ofBits .f32 0x00000000#32) + Ideal.ofBits .f32 0x00000000#32) := rfl
  obtain ⟨x, h1, h2, hx⟩ := word_range (y i)
  rw [ofBits_zero, Ideal.ofBits_one_f32, hx] at e
  have e' : unit (F := Ideal) y i = ((x - 1 : ℝ) : EReal) := by
    rw [e, sub_zero, mul_one, add_zero, ← EReal.coe_one, ← EReal.coe_sub]
    exact max_eq_right (by exact_mod_cast sub_nonneg.mpr h1)
  rw [e']
  exact ⟨by exact_mod_cast sub_nonneg.mpr h1, show ((x - 1 : ℝ) : EReal) < 1 by exact_mod_cast (by linarith : x - 1 < 1)⟩

end Cert.Proof.Draws

end
-- ==== Proof.Algebraic.lean ====
/-
  The kernel's result is the reference's, at exact reals: each row of either is the row of the specification, which is one.
-/
module

public import proofs.«01_k».proof.Proof.Frames
public import proofs.«01_k».proof.Proof.HostIn
public import proofs.«01_k».proof.Proof.KernelRow
public import proofs.«01_k».proof.Proof.RefRow
public import proofs.«01_k».proof.Proof.Unit
public import proofs.«01_k».proof.Proof.Gen.Pre_in_range
public import Idealize.ShloMosaic.Lib.ReduceAll

@[expose] public section

noncomputable section

namespace Cert.Proof.Algebraic

open Idealize.ShloMosaic hiding ix1 ix2 ix3 eq_ix1 eq_ix2
open Idealize.SL.Sem Idealize.ShloMosaic.StableHlo
open Cert.Proof.Lanes Cert.Proof.Chunk Cert.Proof.Order Cert.Proof.Spec Cert.Proof.Split Cert.Proof.Launch Cert.Proof.HostIn
open Idealize.ShloMosaic.ValueIdx (ix1 ix2 eq_ix1 eq_ix2)

open Cert.KernelIdeal in
/-- The kernel's rows from the arguments of its program. -/
theorem kernel_row (d : Dev nD) (A0 : IVec S16384x200 32) (A1 : IVec S16384 32) (A2 A3 A4 : FVec Ideal S16384 .f32) (A5 : FVec Ideal S16384x5 .f32)
    (f : IVec S16384x200 32) (h : RowsOK (F := Ideal) d A0 (auxA A3 A4 A5) (auxB A1 A2) f) (R : Fin 16384) (h0 : (0 : EReal) ≤ A4 (ix1 R))
    (h1 : (show EReal from A4 (ix1 R)) < 1) (hl : (A1 (ix1 R)).toNat < 200) :
    RowSpec (fun j => A0 (ix2 R (j 0))) (fun j => f (ix2 R (j 0))) (A1 (ix1 R))
      (IntOp.andi (IntOp.cmpi .sgt (A1 (ix1 R)) 2#32) (FloatOps.cmpf (F := Ideal) .ole (A2 (ix1 R)) (FloatOps.ofBits .f32 0x3F000000#32)) = 1#1)
      (A3 (ix1 R)) (A4 (ix1 R)) (fun j => A5 (ix2 R j)) := by
  have hs : (srow (auxA A3 A4 A5 : FVec Ideal S16384x16 .f32) R : Vec Ideal S1x16 .f32) (ix2 0 6) = A4 (ix1 R) := auxA_s A3 A4 A5 R
  have hw : (srow (auxA A3 A4 A5 : FVec Ideal S16384x16 .f32) R : Vec Ideal S1x16 .f32) (ix2 0 5) = A3 (ix1 R) := auxA_w A3 A4 A5 R
  have hk : (fun j : Fin 5 => (srow (auxA A3 A4 A5 : FVec Ideal S16384x16 .f32) R : Vec Ideal S1x16 .f32) (ix2 0 (j.castLE (by norm_num)))) = fun j => A5 (ix2 R j) := funext fun j => auxA_key A3 A4 A5 R j
  have hn : (srow (auxB (F := Ideal) A1 A2) R : Vec Ideal S1x16 .i32) (ix2 0 1) = A1 (ix1 R) := auxB_len A1 A2 R
  have hg : (srow (auxB (F := Ideal) A1 A2) R : Vec Ideal S1x16 .i32) (ix2 0 0) = _ := auxB_flag A1 A2 R
  have := KernelRow.rowSpec (h R) (by rw [hs]; exact h0) (by rw [hs]; exact h1) (by rw [hn]; exact hl)
    (go := IntOp.andi (IntOp.cmpi .sgt (A1 (ix1 R)) 2#32) (FloatOps.cmpf (F := Ideal) .ole (A2 (ix1 R)) (FloatOps.ofBits .f32 0x3F000000#32)) = 1#1)
    (by rw [hg]; exact cond_bit _)
  rw [hs, hw, hn] at this
  rw [← hk]
  exact this

/-- What the precondition says of one row. -/
theorem in_range_row (A0 : IVec Cert.Pre_in_range.S16384x200 32) (A1 : IVec Cert.Pre_in_range.S16384 32)
    (h : ∀ i, Cert.Pre_in_range.fn (F := Ideal) A0 A1 i = 1#1) (R : Fin 16384) : (A1 (ix1 R)).toNat < 200 := by
  have hs : Subsingleton Cert.Pre_in_range.S_.Idx := ⟨fun a b => funext fun k => k.elim0⟩
  have ha := IntOp.andi_eq_one.1 (Host.reduce_andi_all _ _ _ _ _ (h fun k => k.elim0) (ix1 R))
  have ha1 : IntOp.cmpi .sge (A1 (ix1 R)) 0#32 = 1#1 := ha.1
  have ha2 : IntOp.cmpi .slt (A1 (ix1 R)) 200#32 = 1#1 := ha.2
  rw [← beq_iff_eq, bit_sge, BitVec.sle_iff_toInt_le, show (0#32 : BitVec 32).toInt = 0 from rfl] at ha1
  rw [← beq_iff_eq, bit_slt, BitVec.slt_iff_toInt_lt, show (200#32 : BitVec 32).toInt = 200 from rfl] at ha2
  have := toNat_of_toInt ha1
  omega

/-- A buffer of the draws holds the same in either program. -/
theorem same (V : Valuation Cert.KernelIdeal.τ Cert.KernelIdeal.sig (Elt Ideal)) (V' : Valuation Cert.ReferenceIdeal.τ Cert.ReferenceIdeal.sig (Elt Ideal))
    (c : Dev Cert.KernelIdeal.nD) (x : Ref Cert.KernelIdeal.sig .tc) (x' : Ref Cert.ReferenceIdeal.sig .tc)
    (h : Twin.Old 1497 x x' = true) :
    HEq (after (Draws.preK c) V (Proc.devRef .tc x)) (after (Draws.preR c) V' (Proc.devRef .tc x')) :=
  Twin.Old.get h ((Draws.sim c).agree V V' fun _ _ _ _ _ h2 h3 => absurd h2 (by omega))

/-- The reference's contents once its draws are made. -/
abbrev VR (m' : (ℓ : Loc Cert.ReferenceIdeal.nD Cert.ReferenceIdeal.τ Cert.ReferenceIdeal.sig) → Buf (Elt Ideal) ℓ) (c : Dev Cert.ReferenceIdeal.nD) :
    Valuation Cert.ReferenceIdeal.τ Cert.ReferenceIdeal.sig (Elt Ideal) := after (Draws.preR c) (launchContents m' c)

/-- The third draw is from zero up to one. -/
theorem draw_range (m : (ℓ : Loc Cert.KernelIdeal.nD Cert.KernelIdeal.τ Cert.KernelIdeal.sig) → Buf (Elt Ideal) ℓ) (c : Dev Cert.KernelIdeal.nD) (R : Fin 16384) :
    (0 : EReal) ≤ dS m c (ix1 R) ∧ (show EReal from dS m c (ix1 R)) < 1 := by
  obtain ⟨y, hy⟩ := Draws.made (F := Ideal) c (V0 m c)
  have e : dS m c = Draws.unit (F := Ideal) y := hy
  rw [e]
  exact Draws.unit_range y (ix1 R)

theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  refine ⟨fun c => RefRow.result (VR m' c), fun c => m ((c.tc : Thread Cert.KernelIdeal.nD Cert.KernelIdeal.τ).loc Cert.KernelIdeal.main_arg1), ?_, ?_⟩
  · refine (θ_run (Cert.KernelIdeal.defs (F := Ideal)) _ _).mono (fun r h c => ?_) (run_main (F := Ideal) m g)
    obtain ⟨hu, hrows⟩ := h.1 c
    refine ⟨?_, hu.2, hu⟩
    rw [fA_eq, fB_eq] at hrows
    have e0 : RefRow.a0 (VR m' c) = m ((c.tc : Thread Cert.KernelIdeal.nD Cert.KernelIdeal.τ).loc Cert.KernelIdeal.main_arg0) :=
      ((Draws.sim c).good'.keep _ (.inl (by decide))).trans (hargs c).1
    have e1 : RefRow.a1 (VR m' c) = m ((c.tc : Thread Cert.KernelIdeal.nD Cert.KernelIdeal.τ).loc Cert.KernelIdeal.main_arg1) :=
      ((Draws.sim c).good'.keep _ (.inl (by decide))).trans (hargs c).2
    have e2 : RefRow.a2 (VR m' c) = dU m c := (eq_of_heq (same _ _ c Cert.KernelIdeal.main_v19 Cert.ReferenceIdeal.main_v19 rfl)).symm
    have e3 : RefRow.a3 (VR m' c) = dW m c := (eq_of_heq (same _ _ c Cert.KernelIdeal.main_v20 Cert.ReferenceIdeal.main_v20 rfl)).symm
    have e4 : RefRow.a4 (VR m' c) = dS m c := (eq_of_heq (same _ _ c Cert.KernelIdeal.main_v21 Cert.ReferenceIdeal.main_v21 rfl)).symm
    have e5 : RefRow.a5 (VR m' c) = dR m c := (eq_of_heq (same _ _ c Cert.KernelIdeal.main_v22 Cert.ReferenceIdeal.main_v22 rfl)).symm
    have hp := in_range_row _ _ (fun i => congrFun (hpre c) i)
    funext x
    obtain ⟨R, q, rfl⟩ : ∃ (R : Fin 16384) (q : Fin 200), x = ix2 R q := ⟨x 0, x 1, eq_ix2 _⟩
    obtain ⟨h0, h1⟩ := draw_range m c R
    have hk := kernel_row c _ _ _ _ _ _ _ hrows R h0 h1 (hp R)
    have hr := RefRow.rowSpec (VR m' c) R (by rw [e4]; exact h0) (by rw [e4]; exact h1)
    unfold RefRow.row RefRow.flag at hr
    rw [e0, e1, e2, e3, e4, e5] at hr
    exact congrFun (RowSpec.unique h0 h1 hk hr) (ix1 q)
  · refine (θ_run (Cert.ReferenceIdeal.defs (F := Ideal)) _ _).mono (fun r h c => ?_) (Frames.run_reference m' g')
    exact ⟨(h c).1.trans (RefRun.val3_main_v149 _), (h c).2.2.trans (hargs c).2, (h c).2⟩

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    Frames.frame_kernel, Frames.frame_kernelIdeal, fun m g _ => Frames.frame_kernelIdeal m g trivial,
    Frames.frame_referenceIdeal, fun m g _ => Frames.frame_referenceIdeal m g trivial, trivial, Algebraic.algebraic⟩

end Cert.Proof

end
